-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_AdamwAb (m : (ℓ : Loc Cert.AdamwAb.nD Cert.AdamwAb.τ Cert.AdamwAb.sig) → Buf (Elt Bits) ℓ) : Prop :=
  True

def Pre_AdamwAbIdeal (m : (ℓ : Loc Cert.AdamwAbIdeal.nD Cert.AdamwAbIdeal.τ Cert.AdamwAbIdeal.sig) → Buf (Elt Ideal) ℓ) : Prop :=
  True

def Pre_AdamwAbRefIdeal (m : (ℓ : Loc Cert.AdamwAbRefIdeal.nD Cert.AdamwAbRefIdeal.τ Cert.AdamwAbRefIdeal.sig) → Buf (Elt Ideal) ℓ) : Prop :=
  True

def Pre_AdamwC (m : (ℓ : Loc Cert.AdamwC.nD Cert.AdamwC.τ Cert.AdamwC.sig) → Buf (Elt Bits) ℓ) : Prop :=
  True

def Pre_AdamwCIdeal (m : (ℓ : Loc Cert.AdamwCIdeal.nD Cert.AdamwCIdeal.τ Cert.AdamwCIdeal.sig) → Buf (Elt Ideal) ℓ) : Prop :=
  True

def Pre_AdamwCRefIdeal (m : (ℓ : Loc Cert.AdamwCRefIdeal.nD Cert.AdamwCRefIdeal.τ Cert.AdamwCRefIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpRefIdeal (m : (ℓ : Loc Cert.AdamwUpRefIdeal.nD Cert.AdamwUpRefIdeal.τ Cert.AdamwUpRefIdeal.sig) → Buf (Elt Ideal) ℓ) : Prop :=
  True

def Pre_AdamwRows (m : (ℓ : Loc Cert.AdamwRows.nD Cert.AdamwRows.τ Cert.AdamwRows.sig) → Buf (Elt Bits) ℓ) : Prop :=
  True

def Pre_AdamwRowsIdeal (m : (ℓ : Loc Cert.AdamwRowsIdeal.nD Cert.AdamwRowsIdeal.τ Cert.AdamwRowsIdeal.sig) → Buf (Elt Ideal) ℓ) : Prop :=
  True

def Pre_AdamwRowsRefIdeal (m : (ℓ : Loc Cert.AdamwRowsRefIdeal.nD Cert.AdamwRowsRefIdeal.τ Cert.AdamwRowsRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_AdamwRep (m : (ℓ : Loc Cert.AdamwRep.nD Cert.AdamwRep.τ Cert.AdamwRep.sig) → Buf (Elt Bits) ℓ) : Prop :=
  True

def Pre_AdamwRepIdeal (m : (ℓ : Loc Cert.AdamwRepIdeal.nD Cert.AdamwRepIdeal.τ Cert.AdamwRepIdeal.sig) → Buf (Elt Ideal) ℓ) : Prop :=
  True

def Pre_AdamwRepRefIdeal (m : (ℓ : Loc Cert.AdamwRepRefIdeal.nD Cert.AdamwRepRefIdeal.τ Cert.AdamwRepRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_SumAb (m : (ℓ : Loc Cert.SumAb.nD Cert.SumAb.τ Cert.SumAb.sig) → Buf (Elt Bits) ℓ) : Prop :=
  True

def Pre_SumAbIdeal (m : (ℓ : Loc Cert.SumAbIdeal.nD Cert.SumAbIdeal.τ Cert.SumAbIdeal.sig) → Buf (Elt Ideal) ℓ) : Prop :=
  True

def Pre_SumAbRefIdeal (m : (ℓ : Loc Cert.SumAbRefIdeal.nD Cert.SumAbRefIdeal.τ Cert.SumAbRefIdeal.sig) → Buf (Elt Ideal) ℓ) : Prop :=
  True

def Pre_SumAbRef (m : (ℓ : Loc Cert.SumAbRef.nD Cert.SumAbRef.τ Cert.SumAbRef.sig) → Buf (Elt Bits) ℓ) : Prop :=
  True

def Pre_SumC (m : (ℓ : Loc Cert.SumC.nD Cert.SumC.τ Cert.SumC.sig) → Buf (Elt Bits) ℓ) : Prop :=
  True

def Pre_SumCIdeal (m : (ℓ : Loc Cert.SumCIdeal.nD Cert.SumCIdeal.τ Cert.SumCIdeal.sig) → Buf (Elt Ideal) ℓ) : Prop :=
  True

def Pre_SumCRefIdeal (m : (ℓ : Loc Cert.SumCRefIdeal.nD Cert.SumCRefIdeal.τ Cert.SumCRefIdeal.sig) → Buf (Elt Ideal) ℓ) : Prop :=
  True

def Pre_SumCRef (m : (ℓ : Loc Cert.SumCRef.nD Cert.SumCRef.τ Cert.SumCRef.sig) → Buf (Elt Bits) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumUpRef (m : (ℓ : Loc Cert.SumUpRef.nD Cert.SumUpRef.τ Cert.SumUpRef.sig) → Buf (Elt Bits) ℓ) : Prop :=
  True

def Pre_SumRows (m : (ℓ : Loc Cert.SumRows.nD Cert.SumRows.τ Cert.SumRows.sig) → Buf (Elt Bits) ℓ) : Prop :=
  True

def Pre_SumRowsIdeal (m : (ℓ : Loc Cert.SumRowsIdeal.nD Cert.SumRowsIdeal.τ Cert.SumRowsIdeal.sig) → Buf (Elt Ideal) ℓ) : Prop :=
  True

def Pre_SumRowsRefIdeal (m : (ℓ : Loc Cert.SumRowsRefIdeal.nD Cert.SumRowsRefIdeal.τ Cert.SumRowsRefIdeal.sig) → Buf (Elt Ideal) ℓ) : Prop :=
  True

def Pre_SumRowsRef (m : (ℓ : Loc Cert.SumRowsRef.nD Cert.SumRowsRef.τ Cert.SumRowsRef.sig) → Buf (Elt Bits) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumSmallRef (m : (ℓ : Loc Cert.SumSmallRef.nD Cert.SumSmallRef.τ Cert.SumSmallRef.sig) → Buf (Elt Bits) ℓ) : Prop :=
  True

def Pre_SumRep (m : (ℓ : Loc Cert.SumRep.nD Cert.SumRep.τ Cert.SumRep.sig) → Buf (Elt Bits) ℓ) : Prop :=
  True

def Pre_SumRepIdeal (m : (ℓ : Loc Cert.SumRepIdeal.nD Cert.SumRepIdeal.τ Cert.SumRepIdeal.sig) → Buf (Elt Ideal) ℓ) : Prop :=
  True

def Pre_SumRepRefIdeal (m : (ℓ : Loc Cert.SumRepRefIdeal.nD Cert.SumRepRefIdeal.τ Cert.SumRepRefIdeal.sig) → Buf (Elt Ideal) ℓ) : Prop :=
  True

def Pre_SumRepRef (m : (ℓ : Loc Cert.SumRepRef.nD Cert.SumRepRef.τ Cert.SumRepRef.sig) → Buf (Elt Bits) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_End (m : (ℓ : Loc Cert.End.nD Cert.End.τ Cert.End.sig) → Buf (Elt Bits) ℓ) : Prop :=
  True

def Pre_EndIdeal (m : (ℓ : Loc Cert.EndIdeal.nD Cert.EndIdeal.τ Cert.EndIdeal.sig) → Buf (Elt Ideal) ℓ) : Prop :=
  True

def Pre_EndRefIdeal (m : (ℓ : Loc Cert.EndRefIdeal.nD Cert.EndRefIdeal.τ Cert.EndRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_LastBwd (m : (ℓ : Loc Cert.LastBwd.nD Cert.LastBwd.τ Cert.LastBwd.sig) → Buf (Elt Bits) ℓ) : Prop :=
  True

def Pre_LastBwdIdeal (m : (ℓ : Loc Cert.LastBwdIdeal.nD Cert.LastBwdIdeal.τ Cert.LastBwdIdeal.sig) → Buf (Elt Ideal) ℓ) : Prop :=
  True

def Pre_LastBwdRefIdeal (m : (ℓ : Loc Cert.LastBwdRefIdeal.nD Cert.LastBwdRefIdeal.τ Cert.LastBwdRefIdeal.sig) → Buf (Elt Ideal) ℓ) : Prop :=
  True

def Pre_EndBwd (m : (ℓ : Loc Cert.EndBwd.nD Cert.EndBwd.τ Cert.EndBwd.sig) → Buf (Elt Bits) ℓ) : Prop :=
  True

def Pre_EndBwdIdeal (m : (ℓ : Loc Cert.EndBwdIdeal.nD Cert.EndBwdIdeal.τ Cert.EndBwdIdeal.sig) → Buf (Elt Ideal) ℓ) : Prop :=
  True

def Pre_EndBwdRefIdeal (m : (ℓ : Loc Cert.EndBwdRefIdeal.nD Cert.EndBwdRefIdeal.τ Cert.EndBwdRefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdRefIdeal (m : (ℓ : Loc Cert.MidBwdRefIdeal.nD Cert.MidBwdRefIdeal.τ Cert.MidBwdRefIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbRefIdeal (m : (ℓ : Loc Cert.InAbRefIdeal.nD Cert.InAbRefIdeal.τ Cert.InAbRefIdeal.sig) → Buf (Elt Ideal) ℓ) : Prop :=
  True

def Pre_InAbDx (m : (ℓ : Loc Cert.InAbDx.nD Cert.InAbDx.τ Cert.InAbDx.sig) → Buf (Elt Bits) ℓ) : Prop :=
  True

def Pre_InAbDxIdeal (m : (ℓ : Loc Cert.InAbDxIdeal.nD Cert.InAbDxIdeal.τ Cert.InAbDxIdeal.sig) → Buf (Elt Ideal) ℓ) : Prop :=
  True

def Pre_InAbDxRefIdeal (m : (ℓ : Loc Cert.InAbDxRefIdeal.nD Cert.InAbDxRefIdeal.τ Cert.InAbDxRefIdeal.sig) → Buf (Elt Ideal) ℓ) : Prop :=
  True

def Pre_InAbDw (m : (ℓ : Loc Cert.InAbDw.nD Cert.InAbDw.τ Cert.InAbDw.sig) → Buf (Elt Bits) ℓ) : Prop :=
  True

def Pre_InAbDwIdeal (m : (ℓ : Loc Cert.InAbDwIdeal.nD Cert.InAbDwIdeal.τ Cert.InAbDwIdeal.sig) → Buf (Elt Ideal) ℓ) : Prop :=
  True

def Pre_InAbDwRefIdeal (m : (ℓ : Loc Cert.InAbDwRefIdeal.nD Cert.InAbDwRefIdeal.τ Cert.InAbDwRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_OutAbDx (m : (ℓ : Loc Cert.OutAbDx.nD Cert.OutAbDx.τ Cert.OutAbDx.sig) → Buf (Elt Bits) ℓ) : Prop :=
  True

def Pre_OutAbDxIdeal (m : (ℓ : Loc Cert.OutAbDxIdeal.nD Cert.OutAbDxIdeal.τ Cert.OutAbDxIdeal.sig) → Buf (Elt Ideal) ℓ) : Prop :=
  True

def Pre_OutAbDxRefIdeal (m : (ℓ : Loc Cert.OutAbDxRefIdeal.nD Cert.OutAbDxRefIdeal.τ Cert.OutAbDxRefIdeal.sig) → Buf (Elt Ideal) ℓ) : Prop :=
  True

def Pre_OutAbDw (m : (ℓ : Loc Cert.OutAbDw.nD Cert.OutAbDw.τ Cert.OutAbDw.sig) → Buf (Elt Bits) ℓ) : Prop :=
  True

def Pre_OutAbDwIdeal (m : (ℓ : Loc Cert.OutAbDwIdeal.nD Cert.OutAbDwIdeal.τ Cert.OutAbDwIdeal.sig) → Buf (Elt Ideal) ℓ) : Prop :=
  True

def Pre_OutAbDwRefIdeal (m : (ℓ : Loc Cert.OutAbDwRefIdeal.nD Cert.OutAbDwRefIdeal.τ Cert.OutAbDwRefIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_InCDw (m : (ℓ : Loc Cert.InCDw.nD Cert.InCDw.τ Cert.InCDw.sig) → Buf (Elt Bits) ℓ) : Prop :=
  True

def Pre_InCDwIdeal (m : (ℓ : Loc Cert.InCDwIdeal.nD Cert.InCDwIdeal.τ Cert.InCDwIdeal.sig) → Buf (Elt Ideal) ℓ) : Prop :=
  True

def Pre_InCDwRefIdeal (m : (ℓ : Loc Cert.InCDwRefIdeal.nD Cert.InCDwRefIdeal.τ Cert.InCDwRefIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtRefIdeal (m : (ℓ : Loc Cert.InDtRefIdeal.nD Cert.InDtRefIdeal.τ Cert.InDtRefIdeal.sig) → Buf (Elt Ideal) ℓ) : Prop :=
  True

def Pre_InDtDx (m : (ℓ : Loc Cert.InDtDx.nD Cert.InDtDx.τ Cert.InDtDx.sig) → Buf (Elt Bits) ℓ) : Prop :=
  True

def Pre_InDtDxIdeal (m : (ℓ : Loc Cert.InDtDxIdeal.nD Cert.InDtDxIdeal.τ Cert.InDtDxIdeal.sig) → Buf (Elt Ideal) ℓ) : Prop :=
  True

def Pre_InDtDxRefIdeal (m : (ℓ : Loc Cert.InDtDxRefIdeal.nD Cert.InDtDxRefIdeal.τ Cert.InDtDxRefIdeal.sig) → Buf (Elt Ideal) ℓ) : Prop :=
  True

def Pre_InDtDw (m : (ℓ : Loc Cert.InDtDw.nD Cert.InDtDw.τ Cert.InDtDw.sig) → Buf (Elt Bits) ℓ) : Prop :=
  True

def Pre_InDtDwIdeal (m : (ℓ : Loc Cert.InDtDwIdeal.nD Cert.InDtDwIdeal.τ Cert.InDtDwIdeal.sig) → Buf (Elt Ideal) ℓ) : Prop :=
  True

def Pre_InDtDwRefIdeal (m : (ℓ : Loc Cert.InDtDwRefIdeal.nD Cert.InDtDwRefIdeal.τ Cert.InDtDwRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_OutCDx (m : (ℓ : Loc Cert.OutCDx.nD Cert.OutCDx.τ Cert.OutCDx.sig) → Buf (Elt Bits) ℓ) : Prop :=
  True

def Pre_OutCDxIdeal (m : (ℓ : Loc Cert.OutCDxIdeal.nD Cert.OutCDxIdeal.τ Cert.OutCDxIdeal.sig) → Buf (Elt Ideal) ℓ) : Prop :=
  True

def Pre_OutCDxRefIdeal (m : (ℓ : Loc Cert.OutCDxRefIdeal.nD Cert.OutCDxRefIdeal.τ Cert.OutCDxRefIdeal.sig) → Buf (Elt Ideal) ℓ) : Prop :=
  True

def Pre_OutCDw (m : (ℓ : Loc Cert.OutCDw.nD Cert.OutCDw.τ Cert.OutCDw.sig) → Buf (Elt Bits) ℓ) : Prop :=
  True

def Pre_OutCDwIdeal (m : (ℓ : Loc Cert.OutCDwIdeal.nD Cert.OutCDwIdeal.τ Cert.OutCDwIdeal.sig) → Buf (Elt Ideal) ℓ) : Prop :=
  True

def Pre_OutCDwRefIdeal (m : (ℓ : Loc Cert.OutCDwRefIdeal.nD Cert.OutCDwRefIdeal.τ Cert.OutCDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InCDx (m : (ℓ : Loc Cert.InCDx.nD Cert.InCDx.τ Cert.InCDx.sig) → Buf (Elt Bits) ℓ) : Prop :=
  True

def Pre_InCDxIdeal (m : (ℓ : Loc Cert.InCDxIdeal.nD Cert.InCDxIdeal.τ Cert.InCDxIdeal.sig) → Buf (Elt Ideal) ℓ) : Prop :=
  True

def Pre_InCDxRefIdeal (m : (ℓ : Loc Cert.InCDxRefIdeal.nD Cert.InCDxRefIdeal.τ Cert.InCDxRefIdeal.sig) → Buf (Elt Ideal) ℓ) : Prop :=
  True

def Pre_ColsAb (m : (ℓ : Loc Cert.ColsAb.nD Cert.ColsAb.τ Cert.ColsAb.sig) → Buf (Elt Bits) ℓ) : Prop :=
  True

def Pre_ColsAbIdeal (m : (ℓ : Loc Cert.ColsAbIdeal.nD Cert.ColsAbIdeal.τ Cert.ColsAbIdeal.sig) → Buf (Elt Ideal) ℓ) : Prop :=
  True

def Pre_ColsAbRefIdeal (m : (ℓ : Loc Cert.ColsAbRefIdeal.nD Cert.ColsAbRefIdeal.τ Cert.ColsAbRefIdeal.sig) → Buf (Elt Ideal) ℓ) : Prop :=
  True

def Pre_ColsAbRef (m : (ℓ : Loc Cert.ColsAbRef.nD Cert.ColsAbRef.τ Cert.ColsAbRef.sig) → Buf (Elt Bits) ℓ) : Prop :=
  True

def Pre_ColsC (m : (ℓ : Loc Cert.ColsC.nD Cert.ColsC.τ Cert.ColsC.sig) → Buf (Elt Bits) ℓ) : Prop :=
  True

def Pre_ColsCIdeal (m : (ℓ : Loc Cert.ColsCIdeal.nD Cert.ColsCIdeal.τ Cert.ColsCIdeal.sig) → Buf (Elt Ideal) ℓ) : Prop :=
  True

def Pre_ColsCRefIdeal (m : (ℓ : Loc Cert.ColsCRefIdeal.nD Cert.ColsCRefIdeal.τ Cert.ColsCRefIdeal.sig) → Buf (Elt Ideal) ℓ) : Prop :=
  True

def Pre_ColsCRef (m : (ℓ : Loc Cert.ColsCRef.nD Cert.ColsCRef.τ Cert.ColsCRef.sig) → Buf (Elt Bits) ℓ) : Prop :=
  True

def Pre_ColsUp (m : (ℓ : Loc Cert.ColsUp.nD Cert.ColsUp.τ Cert.ColsUp.sig) → Buf (Elt Bits) ℓ) : Prop :=
  True

def Pre_ColsUpIdeal (m : (ℓ : Loc Cert.ColsUpIdeal.nD Cert.ColsUpIdeal.τ Cert.ColsUpIdeal.sig) → Buf (Elt Ideal) ℓ) : Prop :=
  True

def Pre_ColsUpRefIdeal (m : (ℓ : Loc Cert.ColsUpRefIdeal.nD Cert.ColsUpRefIdeal.τ Cert.ColsUpRefIdeal.sig) → Buf (Elt Ideal) ℓ) : Prop :=
  True

def Pre_ColsUpRef (m : (ℓ : Loc Cert.ColsUpRef.nD Cert.ColsUpRef.τ Cert.ColsUpRef.sig) → Buf (Elt Bits) ℓ) : Prop :=
  True

def Pre_SlotsAb (m : (ℓ : Loc Cert.SlotsAb.nD Cert.SlotsAb.τ Cert.SlotsAb.sig) → Buf (Elt Bits) ℓ) : Prop :=
  True

def Pre_SlotsAbIdeal (m : (ℓ : Loc Cert.SlotsAbIdeal.nD Cert.SlotsAbIdeal.τ Cert.SlotsAbIdeal.sig) → Buf (Elt Ideal) ℓ) : Prop :=
  True

def Pre_SlotsAbRefIdeal (m : (ℓ : Loc Cert.SlotsAbRefIdeal.nD Cert.SlotsAbRefIdeal.τ Cert.SlotsAbRefIdeal.sig) → Buf (Elt Ideal) ℓ) : Prop :=
  True

def Pre_SlotsAbRef (m : (ℓ : Loc Cert.SlotsAbRef.nD Cert.SlotsAbRef.τ Cert.SlotsAbRef.sig) → Buf (Elt Bits) ℓ) : Prop :=
  True

def Pre_SlotsC (m : (ℓ : Loc Cert.SlotsC.nD Cert.SlotsC.τ Cert.SlotsC.sig) → Buf (Elt Bits) ℓ) : Prop :=
  True

def Pre_SlotsCIdeal (m : (ℓ : Loc Cert.SlotsCIdeal.nD Cert.SlotsCIdeal.τ Cert.SlotsCIdeal.sig) → Buf (Elt Ideal) ℓ) : Prop :=
  True

def Pre_SlotsCRefIdeal (m : (ℓ : Loc Cert.SlotsCRefIdeal.nD Cert.SlotsCRefIdeal.τ Cert.SlotsCRefIdeal.sig) → Buf (Elt Ideal) ℓ) : Prop :=
  True

def Pre_SlotsCRef (m : (ℓ : Loc Cert.SlotsCRef.nD Cert.SlotsCRef.τ Cert.SlotsCRef.sig) → Buf (Elt Bits) ℓ) : Prop :=
  True

def Pre_SlotsUp (m : (ℓ : Loc Cert.SlotsUp.nD Cert.SlotsUp.τ Cert.SlotsUp.sig) → Buf (Elt Bits) ℓ) : Prop :=
  True

def Pre_SlotsUpIdeal (m : (ℓ : Loc Cert.SlotsUpIdeal.nD Cert.SlotsUpIdeal.τ Cert.SlotsUpIdeal.sig) → Buf (Elt Ideal) ℓ) : Prop :=
  True

def Pre_SlotsUpRefIdeal (m : (ℓ : Loc Cert.SlotsUpRefIdeal.nD Cert.SlotsUpRefIdeal.τ Cert.SlotsUpRefIdeal.sig) → Buf (Elt Ideal) ℓ) : Prop :=
  True

def Pre_SlotsUpRef (m : (ℓ : Loc Cert.SlotsUpRef.nD Cert.SlotsUpRef.τ Cert.SlotsUpRef.sig) → Buf (Elt Bits) ℓ) : Prop :=
  True

def Pre_DecaySum (m : (ℓ : Loc Cert.DecaySum.nD Cert.DecaySum.τ Cert.DecaySum.sig) → Buf (Elt Bits) ℓ) : Prop :=
  True

def Pre_DecaySumIdeal (m : (ℓ : Loc Cert.DecaySumIdeal.nD Cert.DecaySumIdeal.τ Cert.DecaySumIdeal.sig) → Buf (Elt Ideal) ℓ) : Prop :=
  True

def Pre_DecaySumRefIdeal (m : (ℓ : Loc Cert.DecaySumRefIdeal.nD Cert.DecaySumRefIdeal.τ Cert.DecaySumRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0)
      ∧ r.2.mem ((c.tc : Thread Cert.Sibling.nD Cert.Sibling.τ).loc Cert.Sibling.main_arg1) = m ((c.tc : Thread Cert.Sibling.nD Cert.Sibling.τ).loc Cert.Sibling.main_arg1)
      ∧ r.2.mem ((c.tc : Thread Cert.Sibling.nD Cert.Sibling.τ).loc Cert.Sibling.main_arg2) = m ((c.tc : Thread Cert.Sibling.nD Cert.Sibling.τ).loc Cert.Sibling.main_arg2)
      ∧ r.2.mem ((c.tc : Thread Cert.Sibling.nD Cert.Sibling.τ).loc Cert.Sibling.main_arg3) = m ((c.tc : Thread Cert.Sibling.nD Cert.Sibling.τ).loc Cert.Sibling.main_arg3)
      ∧ r.2.mem ((c.tc : Thread Cert.Sibling.nD Cert.Sibling.τ).loc Cert.Sibling.main_arg4) = m ((c.tc : Thread Cert.Sibling.nD Cert.Sibling.τ).loc Cert.Sibling.main_arg4)
      ∧ r.2.mem ((c.tc : Thread Cert.Sibling.nD Cert.Sibling.τ).loc Cert.Sibling.main_arg5) = m ((c.tc : Thread Cert.Sibling.nD Cert.Sibling.τ).loc Cert.Sibling.main_arg5))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
      ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
      ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
      ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
      ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4)
      ∧ r.2.mem ((c.tc : Thread Cert.SiblingIdeal.nD Cert.SiblingIdeal.τ).loc Cert.SiblingIdeal.main_arg5) = m ((c.tc : Thread Cert.SiblingIdeal.nD Cert.SiblingIdeal.τ).loc Cert.SiblingIdeal.main_arg5))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0)
      ∧ r.2.mem ((c.tc : Thread Cert.SiblingRefIdeal.nD Cert.SiblingRefIdeal.τ).loc Cert.SiblingRefIdeal.main_arg1) = m ((c.tc : Thread Cert.SiblingRefIdeal.nD Cert.SiblingRefIdeal.τ).loc Cert.SiblingRefIdeal.main_arg1)
      ∧ r.2.mem ((c.tc : Thread Cert.SiblingRefIdeal.nD Cert.SiblingRefIdeal.τ).loc Cert.SiblingRefIdeal.main_arg2) = m ((c.tc : Thread Cert.SiblingRefIdeal.nD Cert.SiblingRefIdeal.τ).loc Cert.SiblingRefIdeal.main_arg2)
      ∧ r.2.mem ((c.tc : Thread Cert.SiblingRefIdeal.nD Cert.SiblingRefIdeal.τ).loc Cert.SiblingRefIdeal.main_arg3) = m ((c.tc : Thread Cert.SiblingRefIdeal.nD Cert.SiblingRefIdeal.τ).loc Cert.SiblingRefIdeal.main_arg3)
      ∧ r.2.mem ((c.tc : Thread Cert.SiblingRefIdeal.nD Cert.SiblingRefIdeal.τ).loc Cert.SiblingRefIdeal.main_arg4) = m ((c.tc : Thread Cert.SiblingRefIdeal.nD Cert.SiblingRefIdeal.τ).loc Cert.SiblingRefIdeal.main_arg4)
      ∧ r.2.mem ((c.tc : Thread Cert.SiblingRefIdeal.nD Cert.SiblingRefIdeal.τ).loc Cert.SiblingRefIdeal.main_arg5) = m ((c.tc : Thread Cert.SiblingRefIdeal.nD Cert.SiblingRefIdeal.τ).loc Cert.SiblingRefIdeal.main_arg5))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0)
      ∧ r.2.mem ((c.tc : Thread Cert.SiblingRef.nD Cert.SiblingRef.τ).loc Cert.SiblingRef.main_arg1) = m ((c.tc : Thread Cert.SiblingRef.nD Cert.SiblingRef.τ).loc Cert.SiblingRef.main_arg1)
      ∧ r.2.mem ((c.tc : Thread Cert.SiblingRef.nD Cert.SiblingRef.τ).loc Cert.SiblingRef.main_arg2) = m ((c.tc : Thread Cert.SiblingRef.nD Cert.SiblingRef.τ).loc Cert.SiblingRef.main_arg2)
      ∧ r.2.mem ((c.tc : Thread Cert.SiblingRef.nD Cert.SiblingRef.τ).loc Cert.SiblingRef.main_arg3) = m ((c.tc : Thread Cert.SiblingRef.nD Cert.SiblingRef.τ).loc Cert.SiblingRef.main_arg3)
      ∧ r.2.mem ((c.tc : Thread Cert.SiblingRef.nD Cert.SiblingRef.τ).loc Cert.SiblingRef.main_arg4) = m ((c.tc : Thread Cert.SiblingRef.nD Cert.SiblingRef.τ).loc Cert.SiblingRef.main_arg4)
      ∧ r.2.mem ((c.tc : Thread Cert.SiblingRef.nD Cert.SiblingRef.τ).loc Cert.SiblingRef.main_arg5) = m ((c.tc : Thread Cert.SiblingRef.nD Cert.SiblingRef.τ).loc Cert.SiblingRef.main_arg5))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2)
      ∧ r.2.mem ((c.tc : Thread Cert.Chips.nD Cert.Chips.τ).loc Cert.Chips.main_arg3) = m ((c.tc : Thread Cert.Chips.nD Cert.Chips.τ).loc Cert.Chips.main_arg3)
      ∧ r.2.mem ((c.tc : Thread Cert.Chips.nD Cert.Chips.τ).loc Cert.Chips.main_arg4) = m ((c.tc : Thread Cert.Chips.nD Cert.Chips.τ).loc Cert.Chips.main_arg4)
      ∧ r.2.mem ((c.tc : Thread Cert.Chips.nD Cert.Chips.τ).loc Cert.Chips.main_arg5) = m ((c.tc : Thread Cert.Chips.nD Cert.Chips.τ).loc Cert.Chips.main_arg5))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
      ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
      ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
      ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1)
      ∧ r.2.mem ((c.tc : Thread Cert.ChipsRefIdeal.nD Cert.ChipsRefIdeal.τ).loc Cert.ChipsRefIdeal.main_arg2) = m ((c.tc : Thread Cert.ChipsRefIdeal.nD Cert.ChipsRefIdeal.τ).loc Cert.ChipsRefIdeal.main_arg2)
      ∧ r.2.mem ((c.tc : Thread Cert.ChipsRefIdeal.nD Cert.ChipsRefIdeal.τ).loc Cert.ChipsRefIdeal.main_arg3) = m ((c.tc : Thread Cert.ChipsRefIdeal.nD Cert.ChipsRefIdeal.τ).loc Cert.ChipsRefIdeal.main_arg3)
      ∧ r.2.mem ((c.tc : Thread Cert.ChipsRefIdeal.nD Cert.ChipsRefIdeal.τ).loc Cert.ChipsRefIdeal.main_arg4) = m ((c.tc : Thread Cert.ChipsRefIdeal.nD Cert.ChipsRefIdeal.τ).loc Cert.ChipsRefIdeal.main_arg4)
      ∧ r.2.mem ((c.tc : Thread Cert.ChipsRefIdeal.nD Cert.ChipsRefIdeal.τ).loc Cert.ChipsRefIdeal.main_arg5) = m ((c.tc : Thread Cert.ChipsRefIdeal.nD Cert.ChipsRefIdeal.τ).loc Cert.ChipsRefIdeal.main_arg5))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0)
      ∧ r.2.mem ((c.tc : Thread Cert.ChipsRef.nD Cert.ChipsRef.τ).loc Cert.ChipsRef.main_arg1) = m ((c.tc : Thread Cert.ChipsRef.nD Cert.ChipsRef.τ).loc Cert.ChipsRef.main_arg1)
      ∧ r.2.mem ((c.tc : Thread Cert.ChipsRef.nD Cert.ChipsRef.τ).loc Cert.ChipsRef.main_arg2) = m ((c.tc : Thread Cert.ChipsRef.nD Cert.ChipsRef.τ).loc Cert.ChipsRef.main_arg2)
      ∧ r.2.mem ((c.tc : Thread Cert.ChipsRef.nD Cert.ChipsRef.τ).loc Cert.ChipsRef.main_arg3) = m ((c.tc : Thread Cert.ChipsRef.nD Cert.ChipsRef.τ).loc Cert.ChipsRef.main_arg3)
      ∧ r.2.mem ((c.tc : Thread Cert.ChipsRef.nD Cert.ChipsRef.τ).loc Cert.ChipsRef.main_arg4) = m ((c.tc : Thread Cert.ChipsRef.nD Cert.ChipsRef.τ).loc Cert.ChipsRef.main_arg4)
      ∧ r.2.mem ((c.tc : Thread Cert.ChipsRef.nD Cert.ChipsRef.τ).loc Cert.ChipsRef.main_arg5) = m ((c.tc : Thread Cert.ChipsRef.nD Cert.ChipsRef.τ).loc Cert.ChipsRef.main_arg5))
      ∧ r.2.sem = fun _ => 0)

def quiescent_AdamwAb [hAdamwAb : Cert.AdamwAb.Facts] : Prop :=
  ∀ (m : (ℓ : Loc Cert.AdamwAb.nD Cert.AdamwAb.τ Cert.AdamwAb.sig) → Buf (Elt Bits) ℓ) (g : Dev Cert.AdamwAb.nD → PrngReg), Pre_AdamwAb m →
    θ_run (Cert.AdamwAb.defs (F := Bits)) (onTc (τ := Cert.AdamwAb.τ) (Cert.AdamwAb.main (F := Bits))) ⟨m, fun _ => 0, g⟩ (fun r => (∀ c : Dev Cert.AdamwAb.nD,
      r.2.mem ((c.tc : Thread Cert.AdamwAb.nD Cert.AdamwAb.τ).loc Cert.AdamwAb.main_arg0) = m ((c.tc : Thread Cert.AdamwAb.nD Cert.AdamwAb.τ).loc Cert.AdamwAb.main_arg0)
      ∧ r.2.mem ((c.tc : Thread Cert.AdamwAb.nD Cert.AdamwAb.τ).loc Cert.AdamwAb.main_arg1) = m ((c.tc : Thread Cert.AdamwAb.nD Cert.AdamwAb.τ).loc Cert.AdamwAb.main_arg1)
      ∧ r.2.mem ((c.tc : Thread Cert.AdamwAb.nD Cert.AdamwAb.τ).loc Cert.AdamwAb.main_arg2) = m ((c.tc : Thread Cert.AdamwAb.nD Cert.AdamwAb.τ).loc Cert.AdamwAb.main_arg2)
      ∧ r.2.mem ((c.tc : Thread Cert.AdamwAb.nD Cert.AdamwAb.τ).loc Cert.AdamwAb.main_arg3) = m ((c.tc : Thread Cert.AdamwAb.nD Cert.AdamwAb.τ).loc Cert.AdamwAb.main_arg3))
      ∧ r.2.sem = fun _ => 0)

def quiescent_AdamwAbIdeal [hAdamwAbIdeal : Cert.AdamwAbIdeal.Facts] : Prop :=
  ∀ (m : (ℓ : Loc Cert.AdamwAbIdeal.nD Cert.AdamwAbIdeal.τ Cert.AdamwAbIdeal.sig) → Buf (Elt Ideal) ℓ) (g : Dev Cert.AdamwAbIdeal.nD → PrngReg), Pre_AdamwAbIdeal m →
    θ_run (Cert.AdamwAbIdeal.defs (F := Ideal)) (onTc (τ := Cert.AdamwAbIdeal.τ) (Cert.AdamwAbIdeal.main (F := Ideal))) ⟨m, fun _ => 0, g⟩ (fun r => (∀ c : Dev Cert.AdamwAbIdeal.nD,
      r.2.mem ((c.tc : Thread Cert.AdamwAbIdeal.nD Cert.AdamwAbIdeal.τ).loc Cert.AdamwAbIdeal.main_arg0) = m ((c.tc : Thread Cert.AdamwAbIdeal.nD Cert.AdamwAbIdeal.τ).loc Cert.AdamwAbIdeal.main_arg0)
      ∧ r.2.mem ((c.tc : Thread Cert.AdamwAbIdeal.nD Cert.AdamwAbIdeal.τ).loc Cert.AdamwAbIdeal.main_arg1) = m ((c.tc : Thread Cert.AdamwAbIdeal.nD Cert.AdamwAbIdeal.τ).loc Cert.AdamwAbIdeal.main_arg1)
      ∧ r.2.mem ((c.tc : Thread Cert.AdamwAbIdeal.nD Cert.AdamwAbIdeal.τ).loc Cert.AdamwAbIdeal.main_arg2) = m ((c.tc : Thread Cert.AdamwAbIdeal.nD Cert.AdamwAbIdeal.τ).loc Cert.AdamwAbIdeal.main_arg2)
      ∧ r.2.mem ((c.tc : Thread Cert.AdamwAbIdeal.nD Cert.AdamwAbIdeal.τ).loc Cert.AdamwAbIdeal.main_arg3) = m ((c.tc : Thread Cert.AdamwAbIdeal.nD Cert.AdamwAbIdeal.τ).loc Cert.AdamwAbIdeal.main_arg3))
      ∧ r.2.sem = fun _ => 0)

def quiescent_AdamwAbRefIdeal [hAdamwAbRefIdeal : Cert.AdamwAbRefIdeal.Facts] : Prop :=
  ∀ (m : (ℓ : Loc Cert.AdamwAbRefIdeal.nD Cert.AdamwAbRefIdeal.τ Cert.AdamwAbRefIdeal.sig) → Buf (Elt Ideal) ℓ) (g : Dev Cert.AdamwAbRefIdeal.nD → PrngReg), Pre_AdamwAbRefIdeal m →
    θ_run (Cert.AdamwAbRefIdeal.defs (F := Ideal)) (onTc (τ := Cert.AdamwAbRefIdeal.τ) (Cert.AdamwAbRefIdeal.main (F := Ideal))) ⟨m, fun _ => 0, g⟩ (fun r => (∀ c : Dev Cert.AdamwAbRefIdeal.nD,
      r.2.mem ((c.tc : Thread Cert.AdamwAbRefIdeal.nD Cert.AdamwAbRefIdeal.τ).loc Cert.AdamwAbRefIdeal.main_arg0) = m ((c.tc : Thread Cert.AdamwAbRefIdeal.nD Cert.AdamwAbRefIdeal.τ).loc Cert.AdamwAbRefIdeal.main_arg0)
      ∧ r.2.mem ((c.tc : Thread Cert.AdamwAbRefIdeal.nD Cert.AdamwAbRefIdeal.τ).loc Cert.AdamwAbRefIdeal.main_arg1) = m ((c.tc : Thread Cert.AdamwAbRefIdeal.nD Cert.AdamwAbRefIdeal.τ).loc Cert.AdamwAbRefIdeal.main_arg1)
      ∧ r.2.mem ((c.tc : Thread Cert.AdamwAbRefIdeal.nD Cert.AdamwAbRefIdeal.τ).loc Cert.AdamwAbRefIdeal.main_arg2) = m ((c.tc : Thread Cert.AdamwAbRefIdeal.nD Cert.AdamwAbRefIdeal.τ).loc Cert.AdamwAbRefIdeal.main_arg2)
      ∧ r.2.mem ((c.tc : Thread Cert.AdamwAbRefIdeal.nD Cert.AdamwAbRefIdeal.τ).loc Cert.AdamwAbRefIdeal.main_arg3) = m ((c.tc : Thread Cert.AdamwAbRefIdeal.nD Cert.AdamwAbRefIdeal.τ).loc Cert.AdamwAbRefIdeal.main_arg3))
      ∧ r.2.sem = fun _ => 0)

def quiescent_AdamwC [hAdamwC : Cert.AdamwC.Facts] : Prop :=
  ∀ (m : (ℓ : Loc Cert.AdamwC.nD Cert.AdamwC.τ Cert.AdamwC.sig) → Buf (Elt Bits) ℓ) (g : Dev Cert.AdamwC.nD → PrngReg), Pre_AdamwC m →
    θ_run (Cert.AdamwC.defs (F := Bits)) (onTc (τ := Cert.AdamwC.τ) (Cert.AdamwC.main (F := Bits))) ⟨m, fun _ => 0, g⟩ (fun r => (∀ c : Dev Cert.AdamwC.nD,
      r.2.mem ((c.tc : Thread Cert.AdamwC.nD Cert.AdamwC.τ).loc Cert.AdamwC.main_arg0) = m ((c.tc : Thread Cert.AdamwC.nD Cert.AdamwC.τ).loc Cert.AdamwC.main_arg0)
      ∧ r.2.mem ((c.tc : Thread Cert.AdamwC.nD Cert.AdamwC.τ).loc Cert.AdamwC.main_arg1) = m ((c.tc : Thread Cert.AdamwC.nD Cert.AdamwC.τ).loc Cert.AdamwC.main_arg1)
      ∧ r.2.mem ((c.tc : Thread Cert.AdamwC.nD Cert.AdamwC.τ).loc Cert.AdamwC.main_arg2) = m ((c.tc : Thread Cert.AdamwC.nD Cert.AdamwC.τ).loc Cert.AdamwC.main_arg2)
      ∧ r.2.mem ((c.tc : Thread Cert.AdamwC.nD Cert.AdamwC.τ).loc Cert.AdamwC.main_arg3) = m ((c.tc : Thread Cert.AdamwC.nD Cert.AdamwC.τ).loc Cert.AdamwC.main_arg3))
      ∧ r.2.sem = fun _ => 0)

def quiescent_AdamwCIdeal [hAdamwCIdeal : Cert.AdamwCIdeal.Facts] : Prop :=
  ∀ (m : (ℓ : Loc Cert.AdamwCIdeal.nD Cert.AdamwCIdeal.τ Cert.AdamwCIdeal.sig) → Buf (Elt Ideal) ℓ) (g : Dev Cert.AdamwCIdeal.nD → PrngReg), Pre_AdamwCIdeal m →
    θ_run (Cert.AdamwCIdeal.defs (F := Ideal)) (onTc (τ := Cert.AdamwCIdeal.τ) (Cert.AdamwCIdeal.main (F := Ideal))) ⟨m, fun _ => 0, g⟩ (fun r => (∀ c : Dev Cert.AdamwCIdeal.nD,
      r.2.mem ((c.tc : Thread Cert.AdamwCIdeal.nD Cert.AdamwCIdeal.τ).loc Cert.AdamwCIdeal.main_arg0) = m ((c.tc : Thread Cert.AdamwCIdeal.nD Cert.AdamwCIdeal.τ).loc Cert.AdamwCIdeal.main_arg0)
      ∧ r.2.mem ((c.tc : Thread Cert.AdamwCIdeal.nD Cert.AdamwCIdeal.τ).loc Cert.AdamwCIdeal.main_arg1) = m ((c.tc : Thread Cert.AdamwCIdeal.nD Cert.AdamwCIdeal.τ).loc Cert.AdamwCIdeal.main_arg1)
      ∧ r.2.mem ((c.tc : Thread Cert.AdamwCIdeal.nD Cert.AdamwCIdeal.τ).loc Cert.AdamwCIdeal.main_arg2) = m ((c.tc : Thread Cert.AdamwCIdeal.nD Cert.AdamwCIdeal.τ).loc Cert.AdamwCIdeal.main_arg2)
      ∧ r.2.mem ((c.tc : Thread Cert.AdamwCIdeal.nD Cert.AdamwCIdeal.τ).loc Cert.AdamwCIdeal.main_arg3) = m ((c.tc : Thread Cert.AdamwCIdeal.nD Cert.AdamwCIdeal.τ).loc Cert.AdamwCIdeal.main_arg3))
      ∧ r.2.sem = fun _ => 0)

def quiescent_AdamwCRefIdeal [hAdamwCRefIdeal : Cert.AdamwCRefIdeal.Facts] : Prop :=
  ∀ (m : (ℓ : Loc Cert.AdamwCRefIdeal.nD Cert.AdamwCRefIdeal.τ Cert.AdamwCRefIdeal.sig) → Buf (Elt Ideal) ℓ) (g : Dev Cert.AdamwCRefIdeal.nD → PrngReg), Pre_AdamwCRefIdeal m →
    θ_run (Cert.AdamwCRefIdeal.defs (F := Ideal)) (onTc (τ := Cert.AdamwCRefIdeal.τ) (Cert.AdamwCRefIdeal.main (F := Ideal))) ⟨m, fun _ => 0, g⟩ (fun r => (∀ c : Dev Cert.AdamwCRefIdeal.nD,
      r.2.mem ((c.tc : Thread Cert.AdamwCRefIdeal.nD Cert.AdamwCRefIdeal.τ).loc Cert.AdamwCRefIdeal.main_arg0) = m ((c.tc : Thread Cert.AdamwCRefIdeal.nD Cert.AdamwCRefIdeal.τ).loc Cert.AdamwCRefIdeal.main_arg0)
      ∧ r.2.mem ((c.tc : Thread Cert.AdamwCRefIdeal.nD Cert.AdamwCRefIdeal.τ).loc Cert.AdamwCRefIdeal.main_arg1) = m ((c.tc : Thread Cert.AdamwCRefIdeal.nD Cert.AdamwCRefIdeal.τ).loc Cert.AdamwCRefIdeal.main_arg1)
      ∧ r.2.mem ((c.tc : Thread Cert.AdamwCRefIdeal.nD Cert.AdamwCRefIdeal.τ).loc Cert.AdamwCRefIdeal.main_arg2) = m ((c.tc : Thread Cert.AdamwCRefIdeal.nD Cert.AdamwCRefIdeal.τ).loc Cert.AdamwCRefIdeal.main_arg2)
      ∧ r.2.mem ((c.tc : Thread Cert.AdamwCRefIdeal.nD Cert.AdamwCRefIdeal.τ).loc Cert.AdamwCRefIdeal.main_arg3) = m ((c.tc : Thread Cert.AdamwCRefIdeal.nD Cert.AdamwCRefIdeal.τ).loc Cert.AdamwCRefIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpRefIdeal [hAdamwUpRefIdeal : Cert.AdamwUpRefIdeal.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3))
      ∧ r.2.sem = fun _ => 0)

def quiescent_AdamwRows [hAdamwRows : Cert.AdamwRows.Facts] : Prop :=
  ∀ (m : (ℓ : Loc Cert.AdamwRows.nD Cert.AdamwRows.τ Cert.AdamwRows.sig) → Buf (Elt Bits) ℓ) (g : Dev Cert.AdamwRows.nD → PrngReg), Pre_AdamwRows m →
    θ_run (Cert.AdamwRows.defs (F := Bits)) (onTc (τ := Cert.AdamwRows.τ) (Cert.AdamwRows.main (F := Bits))) ⟨m, fun _ => 0, g⟩ (fun r => (∀ c : Dev Cert.AdamwRows.nD,
      r.2.mem ((c.tc : Thread Cert.AdamwRows.nD Cert.AdamwRows.τ).loc Cert.AdamwRows.main_arg0) = m ((c.tc : Thread Cert.AdamwRows.nD Cert.AdamwRows.τ).loc Cert.AdamwRows.main_arg0)
      ∧ r.2.mem ((c.tc : Thread Cert.AdamwRows.nD Cert.AdamwRows.τ).loc Cert.AdamwRows.main_arg1) = m ((c.tc : Thread Cert.AdamwRows.nD Cert.AdamwRows.τ).loc Cert.AdamwRows.main_arg1)
      ∧ r.2.mem ((c.tc : Thread Cert.AdamwRows.nD Cert.AdamwRows.τ).loc Cert.AdamwRows.main_arg2) = m ((c.tc : Thread Cert.AdamwRows.nD Cert.AdamwRows.τ).loc Cert.AdamwRows.main_arg2)
      ∧ r.2.mem ((c.tc : Thread Cert.AdamwRows.nD Cert.AdamwRows.τ).loc Cert.AdamwRows.main_arg3) = m ((c.tc : Thread Cert.AdamwRows.nD Cert.AdamwRows.τ).loc Cert.AdamwRows.main_arg3))
      ∧ r.2.sem = fun _ => 0)

def quiescent_AdamwRowsIdeal [hAdamwRowsIdeal : Cert.AdamwRowsIdeal.Facts] : Prop :=
  ∀ (m : (ℓ : Loc Cert.AdamwRowsIdeal.nD Cert.AdamwRowsIdeal.τ Cert.AdamwRowsIdeal.sig) → Buf (Elt Ideal) ℓ) (g : Dev Cert.AdamwRowsIdeal.nD → PrngReg), Pre_AdamwRowsIdeal m →
    θ_run (Cert.AdamwRowsIdeal.defs (F := Ideal)) (onTc (τ := Cert.AdamwRowsIdeal.τ) (Cert.AdamwRowsIdeal.main (F := Ideal))) ⟨m, fun _ => 0, g⟩ (fun r => (∀ c : Dev Cert.AdamwRowsIdeal.nD,
      r.2.mem ((c.tc : Thread Cert.AdamwRowsIdeal.nD Cert.AdamwRowsIdeal.τ).loc Cert.AdamwRowsIdeal.main_arg0) = m ((c.tc : Thread Cert.AdamwRowsIdeal.nD Cert.AdamwRowsIdeal.τ).loc Cert.AdamwRowsIdeal.main_arg0)
      ∧ r.2.mem ((c.tc : Thread Cert.AdamwRowsIdeal.nD Cert.AdamwRowsIdeal.τ).loc Cert.AdamwRowsIdeal.main_arg1) = m ((c.tc : Thread Cert.AdamwRowsIdeal.nD Cert.AdamwRowsIdeal.τ).loc Cert.AdamwRowsIdeal.main_arg1)
      ∧ r.2.mem ((c.tc : Thread Cert.AdamwRowsIdeal.nD Cert.AdamwRowsIdeal.τ).loc Cert.AdamwRowsIdeal.main_arg2) = m ((c.tc : Thread Cert.AdamwRowsIdeal.nD Cert.AdamwRowsIdeal.τ).loc Cert.AdamwRowsIdeal.main_arg2)
      ∧ r.2.mem ((c.tc : Thread Cert.AdamwRowsIdeal.nD Cert.AdamwRowsIdeal.τ).loc Cert.AdamwRowsIdeal.main_arg3) = m ((c.tc : Thread Cert.AdamwRowsIdeal.nD Cert.AdamwRowsIdeal.τ).loc Cert.AdamwRowsIdeal.main_arg3))
      ∧ r.2.sem = fun _ => 0)

def quiescent_AdamwRowsRefIdeal [hAdamwRowsRefIdeal : Cert.AdamwRowsRefIdeal.Facts] : Prop :=
  ∀ (m : (ℓ : Loc Cert.AdamwRowsRefIdeal.nD Cert.AdamwRowsRefIdeal.τ Cert.AdamwRowsRefIdeal.sig) → Buf (Elt Ideal) ℓ) (g : Dev Cert.AdamwRowsRefIdeal.nD → PrngReg), Pre_AdamwRowsRefIdeal m →
    θ_run (Cert.AdamwRowsRefIdeal.defs (F := Ideal)) (onTc (τ := Cert.AdamwRowsRefIdeal.τ) (Cert.AdamwRowsRefIdeal.main (F := Ideal))) ⟨m, fun _ => 0, g⟩ (fun r => (∀ c : Dev Cert.AdamwRowsRefIdeal.nD,
      r.2.mem ((c.tc : Thread Cert.AdamwRowsRefIdeal.nD Cert.AdamwRowsRefIdeal.τ).loc Cert.AdamwRowsRefIdeal.main_arg0) = m ((c.tc : Thread Cert.AdamwRowsRefIdeal.nD Cert.AdamwRowsRefIdeal.τ).loc Cert.AdamwRowsRefIdeal.main_arg0)
      ∧ r.2.mem ((c.tc : Thread Cert.AdamwRowsRefIdeal.nD Cert.AdamwRowsRefIdeal.τ).loc Cert.AdamwRowsRefIdeal.main_arg1) = m ((c.tc : Thread Cert.AdamwRowsRefIdeal.nD Cert.AdamwRowsRefIdeal.τ).loc Cert.AdamwRowsRefIdeal.main_arg1)
      ∧ r.2.mem ((c.tc : Thread Cert.AdamwRowsRefIdeal.nD Cert.AdamwRowsRefIdeal.τ).loc Cert.AdamwRowsRefIdeal.main_arg2) = m ((c.tc : Thread Cert.AdamwRowsRefIdeal.nD Cert.AdamwRowsRefIdeal.τ).loc Cert.AdamwRowsRefIdeal.main_arg2)
      ∧ r.2.mem ((c.tc : Thread Cert.AdamwRowsRefIdeal.nD Cert.AdamwRowsRefIdeal.τ).loc Cert.AdamwRowsRefIdeal.main_arg3) = m ((c.tc : Thread Cert.AdamwRowsRefIdeal.nD Cert.AdamwRowsRefIdeal.τ).loc Cert.AdamwRowsRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_AdamwRep [hAdamwRep : Cert.AdamwRep.Facts] : Prop :=
  ∀ (m : (ℓ : Loc Cert.AdamwRep.nD Cert.AdamwRep.τ Cert.AdamwRep.sig) → Buf (Elt Bits) ℓ) (g : Dev Cert.AdamwRep.nD → PrngReg), Pre_AdamwRep m →
    θ_run (Cert.AdamwRep.defs (F := Bits)) (onTc (τ := Cert.AdamwRep.τ) (Cert.AdamwRep.main (F := Bits))) ⟨m, fun _ => 0, g⟩ (fun r => (∀ c : Dev Cert.AdamwRep.nD,
      r.2.mem ((c.tc : Thread Cert.AdamwRep.nD Cert.AdamwRep.τ).loc Cert.AdamwRep.main_arg0) = m ((c.tc : Thread Cert.AdamwRep.nD Cert.AdamwRep.τ).loc Cert.AdamwRep.main_arg0)
      ∧ r.2.mem ((c.tc : Thread Cert.AdamwRep.nD Cert.AdamwRep.τ).loc Cert.AdamwRep.main_arg1) = m ((c.tc : Thread Cert.AdamwRep.nD Cert.AdamwRep.τ).loc Cert.AdamwRep.main_arg1)
      ∧ r.2.mem ((c.tc : Thread Cert.AdamwRep.nD Cert.AdamwRep.τ).loc Cert.AdamwRep.main_arg2) = m ((c.tc : Thread Cert.AdamwRep.nD Cert.AdamwRep.τ).loc Cert.AdamwRep.main_arg2)
      ∧ r.2.mem ((c.tc : Thread Cert.AdamwRep.nD Cert.AdamwRep.τ).loc Cert.AdamwRep.main_arg3) = m ((c.tc : Thread Cert.AdamwRep.nD Cert.AdamwRep.τ).loc Cert.AdamwRep.main_arg3))
      ∧ r.2.sem = fun _ => 0)

def quiescent_AdamwRepIdeal [hAdamwRepIdeal : Cert.AdamwRepIdeal.Facts] : Prop :=
  ∀ (m : (ℓ : Loc Cert.AdamwRepIdeal.nD Cert.AdamwRepIdeal.τ Cert.AdamwRepIdeal.sig) → Buf (Elt Ideal) ℓ) (g : Dev Cert.AdamwRepIdeal.nD → PrngReg), Pre_AdamwRepIdeal m →
    θ_run (Cert.AdamwRepIdeal.defs (F := Ideal)) (onTc (τ := Cert.AdamwRepIdeal.τ) (Cert.AdamwRepIdeal.main (F := Ideal))) ⟨m, fun _ => 0, g⟩ (fun r => (∀ c : Dev Cert.AdamwRepIdeal.nD,
      r.2.mem ((c.tc : Thread Cert.AdamwRepIdeal.nD Cert.AdamwRepIdeal.τ).loc Cert.AdamwRepIdeal.main_arg0) = m ((c.tc : Thread Cert.AdamwRepIdeal.nD Cert.AdamwRepIdeal.τ).loc Cert.AdamwRepIdeal.main_arg0)
      ∧ r.2.mem ((c.tc : Thread Cert.AdamwRepIdeal.nD Cert.AdamwRepIdeal.τ).loc Cert.AdamwRepIdeal.main_arg1) = m ((c.tc : Thread Cert.AdamwRepIdeal.nD Cert.AdamwRepIdeal.τ).loc Cert.AdamwRepIdeal.main_arg1)
      ∧ r.2.mem ((c.tc : Thread Cert.AdamwRepIdeal.nD Cert.AdamwRepIdeal.τ).loc Cert.AdamwRepIdeal.main_arg2) = m ((c.tc : Thread Cert.AdamwRepIdeal.nD Cert.AdamwRepIdeal.τ).loc Cert.AdamwRepIdeal.main_arg2)
      ∧ r.2.mem ((c.tc : Thread Cert.AdamwRepIdeal.nD Cert.AdamwRepIdeal.τ).loc Cert.AdamwRepIdeal.main_arg3) = m ((c.tc : Thread Cert.AdamwRepIdeal.nD Cert.AdamwRepIdeal.τ).loc Cert.AdamwRepIdeal.main_arg3))
      ∧ r.2.sem = fun _ => 0)

def quiescent_AdamwRepRefIdeal [hAdamwRepRefIdeal : Cert.AdamwRepRefIdeal.Facts] : Prop :=
  ∀ (m : (ℓ : Loc Cert.AdamwRepRefIdeal.nD Cert.AdamwRepRefIdeal.τ Cert.AdamwRepRefIdeal.sig) → Buf (Elt Ideal) ℓ) (g : Dev Cert.AdamwRepRefIdeal.nD → PrngReg), Pre_AdamwRepRefIdeal m →
    θ_run (Cert.AdamwRepRefIdeal.defs (F := Ideal)) (onTc (τ := Cert.AdamwRepRefIdeal.τ) (Cert.AdamwRepRefIdeal.main (F := Ideal))) ⟨m, fun _ => 0, g⟩ (fun r => (∀ c : Dev Cert.AdamwRepRefIdeal.nD,
      r.2.mem ((c.tc : Thread Cert.AdamwRepRefIdeal.nD Cert.AdamwRepRefIdeal.τ).loc Cert.AdamwRepRefIdeal.main_arg0) = m ((c.tc : Thread Cert.AdamwRepRefIdeal.nD Cert.AdamwRepRefIdeal.τ).loc Cert.AdamwRepRefIdeal.main_arg0)
      ∧ r.2.mem ((c.tc : Thread Cert.AdamwRepRefIdeal.nD Cert.AdamwRepRefIdeal.τ).loc Cert.AdamwRepRefIdeal.main_arg1) = m ((c.tc : Thread Cert.AdamwRepRefIdeal.nD Cert.AdamwRepRefIdeal.τ).loc Cert.AdamwRepRefIdeal.main_arg1)
      ∧ r.2.mem ((c.tc : Thread Cert.AdamwRepRefIdeal.nD Cert.AdamwRepRefIdeal.τ).loc Cert.AdamwRepRefIdeal.main_arg2) = m ((c.tc : Thread Cert.AdamwRepRefIdeal.nD Cert.AdamwRepRefIdeal.τ).loc Cert.AdamwRepRefIdeal.main_arg2)
      ∧ r.2.mem ((c.tc : Thread Cert.AdamwRepRefIdeal.nD Cert.AdamwRepRefIdeal.τ).loc Cert.AdamwRepRefIdeal.main_arg3) = m ((c.tc : Thread Cert.AdamwRepRefIdeal.nD Cert.AdamwRepRefIdeal.τ).loc Cert.AdamwRepRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3))
      ∧ r.2.sem = fun _ => 0)

def quiescent_SumAb [hSumAb : Cert.SumAb.Facts] : Prop :=
  ∀ (m : (ℓ : Loc Cert.SumAb.nD Cert.SumAb.τ Cert.SumAb.sig) → Buf (Elt Bits) ℓ) (g : Dev Cert.SumAb.nD → PrngReg), Pre_SumAb m →
    θ_run (Cert.SumAb.defs (F := Bits)) (onTc (τ := Cert.SumAb.τ) (Cert.SumAb.main (F := Bits))) ⟨m, fun _ => 0, g⟩ (fun r => (∀ c : Dev Cert.SumAb.nD,
      r.2.mem ((c.tc : Thread Cert.SumAb.nD Cert.SumAb.τ).loc Cert.SumAb.main_arg0) = m ((c.tc : Thread Cert.SumAb.nD Cert.SumAb.τ).loc Cert.SumAb.main_arg0)
      ∧ r.2.mem ((c.tc : Thread Cert.SumAb.nD Cert.SumAb.τ).loc Cert.SumAb.main_arg1) = m ((c.tc : Thread Cert.SumAb.nD Cert.SumAb.τ).loc Cert.SumAb.main_arg1))
      ∧ r.2.sem = fun _ => 0)

def quiescent_SumAbIdeal [hSumAbIdeal : Cert.SumAbIdeal.Facts] : Prop :=
  ∀ (m : (ℓ : Loc Cert.SumAbIdeal.nD Cert.SumAbIdeal.τ Cert.SumAbIdeal.sig) → Buf (Elt Ideal) ℓ) (g : Dev Cert.SumAbIdeal.nD → PrngReg), Pre_SumAbIdeal m →
    θ_run (Cert.SumAbIdeal.defs (F := Ideal)) (onTc (τ := Cert.SumAbIdeal.τ) (Cert.SumAbIdeal.main (F := Ideal))) ⟨m, fun _ => 0, g⟩ (fun r => (∀ c : Dev Cert.SumAbIdeal.nD,
      r.2.mem ((c.tc : Thread Cert.SumAbIdeal.nD Cert.SumAbIdeal.τ).loc Cert.SumAbIdeal.main_arg0) = m ((c.tc : Thread Cert.SumAbIdeal.nD Cert.SumAbIdeal.τ).loc Cert.SumAbIdeal.main_arg0)
      ∧ r.2.mem ((c.tc : Thread Cert.SumAbIdeal.nD Cert.SumAbIdeal.τ).loc Cert.SumAbIdeal.main_arg1) = m ((c.tc : Thread Cert.SumAbIdeal.nD Cert.SumAbIdeal.τ).loc Cert.SumAbIdeal.main_arg1))
      ∧ r.2.sem = fun _ => 0)

def quiescent_SumAbRefIdeal [hSumAbRefIdeal : Cert.SumAbRefIdeal.Facts] : Prop :=
  ∀ (m : (ℓ : Loc Cert.SumAbRefIdeal.nD Cert.SumAbRefIdeal.τ Cert.SumAbRefIdeal.sig) → Buf (Elt Ideal) ℓ) (g : Dev Cert.SumAbRefIdeal.nD → PrngReg), Pre_SumAbRefIdeal m →
    θ_run (Cert.SumAbRefIdeal.defs (F := Ideal)) (onTc (τ := Cert.SumAbRefIdeal.τ) (Cert.SumAbRefIdeal.main (F := Ideal))) ⟨m, fun _ => 0, g⟩ (fun r => (∀ c : Dev Cert.SumAbRefIdeal.nD,
      r.2.mem ((c.tc : Thread Cert.SumAbRefIdeal.nD Cert.SumAbRefIdeal.τ).loc Cert.SumAbRefIdeal.main_arg0) = m ((c.tc : Thread Cert.SumAbRefIdeal.nD Cert.SumAbRefIdeal.τ).loc Cert.SumAbRefIdeal.main_arg0)
      ∧ r.2.mem ((c.tc : Thread Cert.SumAbRefIdeal.nD Cert.SumAbRefIdeal.τ).loc Cert.SumAbRefIdeal.main_arg1) = m ((c.tc : Thread Cert.SumAbRefIdeal.nD Cert.SumAbRefIdeal.τ).loc Cert.SumAbRefIdeal.main_arg1))
      ∧ r.2.sem = fun _ => 0)

def quiescent_SumAbRef [hSumAbRef : Cert.SumAbRef.Facts] : Prop :=
  ∀ (m : (ℓ : Loc Cert.SumAbRef.nD Cert.SumAbRef.τ Cert.SumAbRef.sig) → Buf (Elt Bits) ℓ) (g : Dev Cert.SumAbRef.nD → PrngReg), Pre_SumAbRef m →
    θ_run (Cert.SumAbRef.defs (F := Bits)) (onTc (τ := Cert.SumAbRef.τ) (Cert.SumAbRef.main (F := Bits))) ⟨m, fun _ => 0, g⟩ (fun r => (∀ c : Dev Cert.SumAbRef.nD,
      r.2.mem ((c.tc : Thread Cert.SumAbRef.nD Cert.SumAbRef.τ).loc Cert.SumAbRef.main_arg0) = m ((c.tc : Thread Cert.SumAbRef.nD Cert.SumAbRef.τ).loc Cert.SumAbRef.main_arg0)
      ∧ r.2.mem ((c.tc : Thread Cert.SumAbRef.nD Cert.SumAbRef.τ).loc Cert.SumAbRef.main_arg1) = m ((c.tc : Thread Cert.SumAbRef.nD Cert.SumAbRef.τ).loc Cert.SumAbRef.main_arg1))
      ∧ r.2.sem = fun _ => 0)

def quiescent_SumC [hSumC : Cert.SumC.Facts] : Prop :=
  ∀ (m : (ℓ : Loc Cert.SumC.nD Cert.SumC.τ Cert.SumC.sig) → Buf (Elt Bits) ℓ) (g : Dev Cert.SumC.nD → PrngReg), Pre_SumC m →
    θ_run (Cert.SumC.defs (F := Bits)) (onTc (τ := Cert.SumC.τ) (Cert.SumC.main (F := Bits))) ⟨m, fun _ => 0, g⟩ (fun r => (∀ c : Dev Cert.SumC.nD,
      r.2.mem ((c.tc : Thread Cert.SumC.nD Cert.SumC.τ).loc Cert.SumC.main_arg0) = m ((c.tc : Thread Cert.SumC.nD Cert.SumC.τ).loc Cert.SumC.main_arg0)
      ∧ r.2.mem ((c.tc : Thread Cert.SumC.nD Cert.SumC.τ).loc Cert.SumC.main_arg1) = m ((c.tc : Thread Cert.SumC.nD Cert.SumC.τ).loc Cert.SumC.main_arg1))
      ∧ r.2.sem = fun _ => 0)

def quiescent_SumCIdeal [hSumCIdeal : Cert.SumCIdeal.Facts] : Prop :=
  ∀ (m : (ℓ : Loc Cert.SumCIdeal.nD Cert.SumCIdeal.τ Cert.SumCIdeal.sig) → Buf (Elt Ideal) ℓ) (g : Dev Cert.SumCIdeal.nD → PrngReg), Pre_SumCIdeal m →
    θ_run (Cert.SumCIdeal.defs (F := Ideal)) (onTc (τ := Cert.SumCIdeal.τ) (Cert.SumCIdeal.main (F := Ideal))) ⟨m, fun _ => 0, g⟩ (fun r => (∀ c : Dev Cert.SumCIdeal.nD,
      r.2.mem ((c.tc : Thread Cert.SumCIdeal.nD Cert.SumCIdeal.τ).loc Cert.SumCIdeal.main_arg0) = m ((c.tc : Thread Cert.SumCIdeal.nD Cert.SumCIdeal.τ).loc Cert.SumCIdeal.main_arg0)
      ∧ r.2.mem ((c.tc : Thread Cert.SumCIdeal.nD Cert.SumCIdeal.τ).loc Cert.SumCIdeal.main_arg1) = m ((c.tc : Thread Cert.SumCIdeal.nD Cert.SumCIdeal.τ).loc Cert.SumCIdeal.main_arg1))
      ∧ r.2.sem = fun _ => 0)

def quiescent_SumCRefIdeal [hSumCRefIdeal : Cert.SumCRefIdeal.Facts] : Prop :=
  ∀ (m : (ℓ : Loc Cert.SumCRefIdeal.nD Cert.SumCRefIdeal.τ Cert.SumCRefIdeal.sig) → Buf (Elt Ideal) ℓ) (g : Dev Cert.SumCRefIdeal.nD → PrngReg), Pre_SumCRefIdeal m →
    θ_run (Cert.SumCRefIdeal.defs (F := Ideal)) (onTc (τ := Cert.SumCRefIdeal.τ) (Cert.SumCRefIdeal.main (F := Ideal))) ⟨m, fun _ => 0, g⟩ (fun r => (∀ c : Dev Cert.SumCRefIdeal.nD,
      r.2.mem ((c.tc : Thread Cert.SumCRefIdeal.nD Cert.SumCRefIdeal.τ).loc Cert.SumCRefIdeal.main_arg0) = m ((c.tc : Thread Cert.SumCRefIdeal.nD Cert.SumCRefIdeal.τ).loc Cert.SumCRefIdeal.main_arg0)
      ∧ r.2.mem ((c.tc : Thread Cert.SumCRefIdeal.nD Cert.SumCRefIdeal.τ).loc Cert.SumCRefIdeal.main_arg1) = m ((c.tc : Thread Cert.SumCRefIdeal.nD Cert.SumCRefIdeal.τ).loc Cert.SumCRefIdeal.main_arg1))
      ∧ r.2.sem = fun _ => 0)

def quiescent_SumCRef [hSumCRef : Cert.SumCRef.Facts] : Prop :=
  ∀ (m : (ℓ : Loc Cert.SumCRef.nD Cert.SumCRef.τ Cert.SumCRef.sig) → Buf (Elt Bits) ℓ) (g : Dev Cert.SumCRef.nD → PrngReg), Pre_SumCRef m →
    θ_run (Cert.SumCRef.defs (F := Bits)) (onTc (τ := Cert.SumCRef.τ) (Cert.SumCRef.main (F := Bits))) ⟨m, fun _ => 0, g⟩ (fun r => (∀ c : Dev Cert.SumCRef.nD,
      r.2.mem ((c.tc : Thread Cert.SumCRef.nD Cert.SumCRef.τ).loc Cert.SumCRef.main_arg0) = m ((c.tc : Thread Cert.SumCRef.nD Cert.SumCRef.τ).loc Cert.SumCRef.main_arg0)
      ∧ r.2.mem ((c.tc : Thread Cert.SumCRef.nD Cert.SumCRef.τ).loc Cert.SumCRef.main_arg1) = m ((c.tc : Thread Cert.SumCRef.nD Cert.SumCRef.τ).loc Cert.SumCRef.main_arg1))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0)
      ∧ r.2.mem ((c.tc : Thread Cert.SumUp.nD Cert.SumUp.τ).loc Cert.SumUp.main_arg1) = m ((c.tc : Thread Cert.SumUp.nD Cert.SumUp.τ).loc Cert.SumUp.main_arg1))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
      ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1))
      ∧ r.2.sem = fun _ => 0)

def quiescent_SumUpRef [hSumUpRef : Cert.SumUpRef.Facts] : Prop :=
  ∀ (m : (ℓ : Loc Cert.SumUpRef.nD Cert.SumUpRef.τ Cert.SumUpRef.sig) → Buf (Elt Bits) ℓ) (g : Dev Cert.SumUpRef.nD → PrngReg), Pre_SumUpRef m →
    θ_run (Cert.SumUpRef.defs (F := Bits)) (onTc (τ := Cert.SumUpRef.τ) (Cert.SumUpRef.main (F := Bits))) ⟨m, fun _ => 0, g⟩ (fun r => (∀ c : Dev Cert.SumUpRef.nD,
      r.2.mem ((c.tc : Thread Cert.SumUpRef.nD Cert.SumUpRef.τ).loc Cert.SumUpRef.main_arg0) = m ((c.tc : Thread Cert.SumUpRef.nD Cert.SumUpRef.τ).loc Cert.SumUpRef.main_arg0)
      ∧ r.2.mem ((c.tc : Thread Cert.SumUpRef.nD Cert.SumUpRef.τ).loc Cert.SumUpRef.main_arg1) = m ((c.tc : Thread Cert.SumUpRef.nD Cert.SumUpRef.τ).loc Cert.SumUpRef.main_arg1))
      ∧ r.2.sem = fun _ => 0)

def quiescent_SumRows [hSumRows : Cert.SumRows.Facts] : Prop :=
  ∀ (m : (ℓ : Loc Cert.SumRows.nD Cert.SumRows.τ Cert.SumRows.sig) → Buf (Elt Bits) ℓ) (g : Dev Cert.SumRows.nD → PrngReg), Pre_SumRows m →
    θ_run (Cert.SumRows.defs (F := Bits)) (onTc (τ := Cert.SumRows.τ) (Cert.SumRows.main (F := Bits))) ⟨m, fun _ => 0, g⟩ (fun r => (∀ c : Dev Cert.SumRows.nD,
      r.2.mem ((c.tc : Thread Cert.SumRows.nD Cert.SumRows.τ).loc Cert.SumRows.main_arg0) = m ((c.tc : Thread Cert.SumRows.nD Cert.SumRows.τ).loc Cert.SumRows.main_arg0)
      ∧ r.2.mem ((c.tc : Thread Cert.SumRows.nD Cert.SumRows.τ).loc Cert.SumRows.main_arg1) = m ((c.tc : Thread Cert.SumRows.nD Cert.SumRows.τ).loc Cert.SumRows.main_arg1))
      ∧ r.2.sem = fun _ => 0)

def quiescent_SumRowsIdeal [hSumRowsIdeal : Cert.SumRowsIdeal.Facts] : Prop :=
  ∀ (m : (ℓ : Loc Cert.SumRowsIdeal.nD Cert.SumRowsIdeal.τ Cert.SumRowsIdeal.sig) → Buf (Elt Ideal) ℓ) (g : Dev Cert.SumRowsIdeal.nD → PrngReg), Pre_SumRowsIdeal m →
    θ_run (Cert.SumRowsIdeal.defs (F := Ideal)) (onTc (τ := Cert.SumRowsIdeal.τ) (Cert.SumRowsIdeal.main (F := Ideal))) ⟨m, fun _ => 0, g⟩ (fun r => (∀ c : Dev Cert.SumRowsIdeal.nD,
      r.2.mem ((c.tc : Thread Cert.SumRowsIdeal.nD Cert.SumRowsIdeal.τ).loc Cert.SumRowsIdeal.main_arg0) = m ((c.tc : Thread Cert.SumRowsIdeal.nD Cert.SumRowsIdeal.τ).loc Cert.SumRowsIdeal.main_arg0)
      ∧ r.2.mem ((c.tc : Thread Cert.SumRowsIdeal.nD Cert.SumRowsIdeal.τ).loc Cert.SumRowsIdeal.main_arg1) = m ((c.tc : Thread Cert.SumRowsIdeal.nD Cert.SumRowsIdeal.τ).loc Cert.SumRowsIdeal.main_arg1))
      ∧ r.2.sem = fun _ => 0)

def quiescent_SumRowsRefIdeal [hSumRowsRefIdeal : Cert.SumRowsRefIdeal.Facts] : Prop :=
  ∀ (m : (ℓ : Loc Cert.SumRowsRefIdeal.nD Cert.SumRowsRefIdeal.τ Cert.SumRowsRefIdeal.sig) → Buf (Elt Ideal) ℓ) (g : Dev Cert.SumRowsRefIdeal.nD → PrngReg), Pre_SumRowsRefIdeal m →
    θ_run (Cert.SumRowsRefIdeal.defs (F := Ideal)) (onTc (τ := Cert.SumRowsRefIdeal.τ) (Cert.SumRowsRefIdeal.main (F := Ideal))) ⟨m, fun _ => 0, g⟩ (fun r => (∀ c : Dev Cert.SumRowsRefIdeal.nD,
      r.2.mem ((c.tc : Thread Cert.SumRowsRefIdeal.nD Cert.SumRowsRefIdeal.τ).loc Cert.SumRowsRefIdeal.main_arg0) = m ((c.tc : Thread Cert.SumRowsRefIdeal.nD Cert.SumRowsRefIdeal.τ).loc Cert.SumRowsRefIdeal.main_arg0)
      ∧ r.2.mem ((c.tc : Thread Cert.SumRowsRefIdeal.nD Cert.SumRowsRefIdeal.τ).loc Cert.SumRowsRefIdeal.main_arg1) = m ((c.tc : Thread Cert.SumRowsRefIdeal.nD Cert.SumRowsRefIdeal.τ).loc Cert.SumRowsRefIdeal.main_arg1))
      ∧ r.2.sem = fun _ => 0)

def quiescent_SumRowsRef [hSumRowsRef : Cert.SumRowsRef.Facts] : Prop :=
  ∀ (m : (ℓ : Loc Cert.SumRowsRef.nD Cert.SumRowsRef.τ Cert.SumRowsRef.sig) → Buf (Elt Bits) ℓ) (g : Dev Cert.SumRowsRef.nD → PrngReg), Pre_SumRowsRef m →
    θ_run (Cert.SumRowsRef.defs (F := Bits)) (onTc (τ := Cert.SumRowsRef.τ) (Cert.SumRowsRef.main (F := Bits))) ⟨m, fun _ => 0, g⟩ (fun r => (∀ c : Dev Cert.SumRowsRef.nD,
      r.2.mem ((c.tc : Thread Cert.SumRowsRef.nD Cert.SumRowsRef.τ).loc Cert.SumRowsRef.main_arg0) = m ((c.tc : Thread Cert.SumRowsRef.nD Cert.SumRowsRef.τ).loc Cert.SumRowsRef.main_arg0)
      ∧ r.2.mem ((c.tc : Thread Cert.SumRowsRef.nD Cert.SumRowsRef.τ).loc Cert.SumRowsRef.main_arg1) = m ((c.tc : Thread Cert.SumRowsRef.nD Cert.SumRowsRef.τ).loc Cert.SumRowsRef.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1))
      ∧ r.2.sem = fun _ => 0)

def quiescent_SumSmallRef [hSumSmallRef : Cert.SumSmallRef.Facts] : Prop :=
  ∀ (m : (ℓ : Loc Cert.SumSmallRef.nD Cert.SumSmallRef.τ Cert.SumSmallRef.sig) → Buf (Elt Bits) ℓ) (g : Dev Cert.SumSmallRef.nD → PrngReg), Pre_SumSmallRef m →
    θ_run (Cert.SumSmallRef.defs (F := Bits)) (onTc (τ := Cert.SumSmallRef.τ) (Cert.SumSmallRef.main (F := Bits))) ⟨m, fun _ => 0, g⟩ (fun r => (∀ c : Dev Cert.SumSmallRef.nD,
      r.2.mem ((c.tc : Thread Cert.SumSmallRef.nD Cert.SumSmallRef.τ).loc Cert.SumSmallRef.main_arg0) = m ((c.tc : Thread Cert.SumSmallRef.nD Cert.SumSmallRef.τ).loc Cert.SumSmallRef.main_arg0)
      ∧ r.2.mem ((c.tc : Thread Cert.SumSmallRef.nD Cert.SumSmallRef.τ).loc Cert.SumSmallRef.main_arg1) = m ((c.tc : Thread Cert.SumSmallRef.nD Cert.SumSmallRef.τ).loc Cert.SumSmallRef.main_arg1))
      ∧ r.2.sem = fun _ => 0)

def quiescent_SumRep [hSumRep : Cert.SumRep.Facts] : Prop :=
  ∀ (m : (ℓ : Loc Cert.SumRep.nD Cert.SumRep.τ Cert.SumRep.sig) → Buf (Elt Bits) ℓ) (g : Dev Cert.SumRep.nD → PrngReg), Pre_SumRep m →
    θ_run (Cert.SumRep.defs (F := Bits)) (onTc (τ := Cert.SumRep.τ) (Cert.SumRep.main (F := Bits))) ⟨m, fun _ => 0, g⟩ (fun r => (∀ c : Dev Cert.SumRep.nD,
      r.2.mem ((c.tc : Thread Cert.SumRep.nD Cert.SumRep.τ).loc Cert.SumRep.main_arg0) = m ((c.tc : Thread Cert.SumRep.nD Cert.SumRep.τ).loc Cert.SumRep.main_arg0)
      ∧ r.2.mem ((c.tc : Thread Cert.SumRep.nD Cert.SumRep.τ).loc Cert.SumRep.main_arg1) = m ((c.tc : Thread Cert.SumRep.nD Cert.SumRep.τ).loc Cert.SumRep.main_arg1))
      ∧ r.2.sem = fun _ => 0)

def quiescent_SumRepIdeal [hSumRepIdeal : Cert.SumRepIdeal.Facts] : Prop :=
  ∀ (m : (ℓ : Loc Cert.SumRepIdeal.nD Cert.SumRepIdeal.τ Cert.SumRepIdeal.sig) → Buf (Elt Ideal) ℓ) (g : Dev Cert.SumRepIdeal.nD → PrngReg), Pre_SumRepIdeal m →
    θ_run (Cert.SumRepIdeal.defs (F := Ideal)) (onTc (τ := Cert.SumRepIdeal.τ) (Cert.SumRepIdeal.main (F := Ideal))) ⟨m, fun _ => 0, g⟩ (fun r => (∀ c : Dev Cert.SumRepIdeal.nD,
      r.2.mem ((c.tc : Thread Cert.SumRepIdeal.nD Cert.SumRepIdeal.τ).loc Cert.SumRepIdeal.main_arg0) = m ((c.tc : Thread Cert.SumRepIdeal.nD Cert.SumRepIdeal.τ).loc Cert.SumRepIdeal.main_arg0)
      ∧ r.2.mem ((c.tc : Thread Cert.SumRepIdeal.nD Cert.SumRepIdeal.τ).loc Cert.SumRepIdeal.main_arg1) = m ((c.tc : Thread Cert.SumRepIdeal.nD Cert.SumRepIdeal.τ).loc Cert.SumRepIdeal.main_arg1))
      ∧ r.2.sem = fun _ => 0)

def quiescent_SumRepRefIdeal [hSumRepRefIdeal : Cert.SumRepRefIdeal.Facts] : Prop :=
  ∀ (m : (ℓ : Loc Cert.SumRepRefIdeal.nD Cert.SumRepRefIdeal.τ Cert.SumRepRefIdeal.sig) → Buf (Elt Ideal) ℓ) (g : Dev Cert.SumRepRefIdeal.nD → PrngReg), Pre_SumRepRefIdeal m →
    θ_run (Cert.SumRepRefIdeal.defs (F := Ideal)) (onTc (τ := Cert.SumRepRefIdeal.τ) (Cert.SumRepRefIdeal.main (F := Ideal))) ⟨m, fun _ => 0, g⟩ (fun r => (∀ c : Dev Cert.SumRepRefIdeal.nD,
      r.2.mem ((c.tc : Thread Cert.SumRepRefIdeal.nD Cert.SumRepRefIdeal.τ).loc Cert.SumRepRefIdeal.main_arg0) = m ((c.tc : Thread Cert.SumRepRefIdeal.nD Cert.SumRepRefIdeal.τ).loc Cert.SumRepRefIdeal.main_arg0)
      ∧ r.2.mem ((c.tc : Thread Cert.SumRepRefIdeal.nD Cert.SumRepRefIdeal.τ).loc Cert.SumRepRefIdeal.main_arg1) = m ((c.tc : Thread Cert.SumRepRefIdeal.nD Cert.SumRepRefIdeal.τ).loc Cert.SumRepRefIdeal.main_arg1))
      ∧ r.2.sem = fun _ => 0)

def quiescent_SumRepRef [hSumRepRef : Cert.SumRepRef.Facts] : Prop :=
  ∀ (m : (ℓ : Loc Cert.SumRepRef.nD Cert.SumRepRef.τ Cert.SumRepRef.sig) → Buf (Elt Bits) ℓ) (g : Dev Cert.SumRepRef.nD → PrngReg), Pre_SumRepRef m →
    θ_run (Cert.SumRepRef.defs (F := Bits)) (onTc (τ := Cert.SumRepRef.τ) (Cert.SumRepRef.main (F := Bits))) ⟨m, fun _ => 0, g⟩ (fun r => (∀ c : Dev Cert.SumRepRef.nD,
      r.2.mem ((c.tc : Thread Cert.SumRepRef.nD Cert.SumRepRef.τ).loc Cert.SumRepRef.main_arg0) = m ((c.tc : Thread Cert.SumRepRef.nD Cert.SumRepRef.τ).loc Cert.SumRepRef.main_arg0)
      ∧ r.2.mem ((c.tc : Thread Cert.SumRepRef.nD Cert.SumRepRef.τ).loc Cert.SumRepRef.main_arg1) = m ((c.tc : Thread Cert.SumRepRef.nD Cert.SumRepRef.τ).loc Cert.SumRepRef.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_End [hEnd : Cert.End.Facts] : Prop :=
  ∀ (m : (ℓ : Loc Cert.End.nD Cert.End.τ Cert.End.sig) → Buf (Elt Bits) ℓ) (g : Dev Cert.End.nD → PrngReg), Pre_End m →
    θ_run (Cert.End.defs (F := Bits)) (onTc (τ := Cert.End.τ) (Cert.End.main (F := Bits))) ⟨m, fun _ => 0, g⟩ (fun r => (∀ c : Dev Cert.End.nD,
      r.2.mem ((c.tc : Thread Cert.End.nD Cert.End.τ).loc Cert.End.main_arg0) = m ((c.tc : Thread Cert.End.nD Cert.End.τ).loc Cert.End.main_arg0)
      ∧ r.2.mem ((c.tc : Thread Cert.End.nD Cert.End.τ).loc Cert.End.main_arg1) = m ((c.tc : Thread Cert.End.nD Cert.End.τ).loc Cert.End.main_arg1)
      ∧ r.2.mem ((c.tc : Thread Cert.End.nD Cert.End.τ).loc Cert.End.main_arg2) = m ((c.tc : Thread Cert.End.nD Cert.End.τ).loc Cert.End.main_arg2)
      ∧ r.2.mem ((c.tc : Thread Cert.End.nD Cert.End.τ).loc Cert.End.main_arg3) = m ((c.tc : Thread Cert.End.nD Cert.End.τ).loc Cert.End.main_arg3))
      ∧ r.2.sem = fun _ => 0)

def quiescent_EndIdeal [hEndIdeal : Cert.EndIdeal.Facts] : Prop :=
  ∀ (m : (ℓ : Loc Cert.EndIdeal.nD Cert.EndIdeal.τ Cert.EndIdeal.sig) → Buf (Elt Ideal) ℓ) (g : Dev Cert.EndIdeal.nD → PrngReg), Pre_EndIdeal m →
    θ_run (Cert.EndIdeal.defs (F := Ideal)) (onTc (τ := Cert.EndIdeal.τ) (Cert.EndIdeal.main (F := Ideal))) ⟨m, fun _ => 0, g⟩ (fun r => (∀ c : Dev Cert.EndIdeal.nD,
      r.2.mem ((c.tc : Thread Cert.EndIdeal.nD Cert.EndIdeal.τ).loc Cert.EndIdeal.main_arg0) = m ((c.tc : Thread Cert.EndIdeal.nD Cert.EndIdeal.τ).loc Cert.EndIdeal.main_arg0)
      ∧ r.2.mem ((c.tc : Thread Cert.EndIdeal.nD Cert.EndIdeal.τ).loc Cert.EndIdeal.main_arg1) = m ((c.tc : Thread Cert.EndIdeal.nD Cert.EndIdeal.τ).loc Cert.EndIdeal.main_arg1)
      ∧ r.2.mem ((c.tc : Thread Cert.EndIdeal.nD Cert.EndIdeal.τ).loc Cert.EndIdeal.main_arg2) = m ((c.tc : Thread Cert.EndIdeal.nD Cert.EndIdeal.τ).loc Cert.EndIdeal.main_arg2)
      ∧ r.2.mem ((c.tc : Thread Cert.EndIdeal.nD Cert.EndIdeal.τ).loc Cert.EndIdeal.main_arg3) = m ((c.tc : Thread Cert.EndIdeal.nD Cert.EndIdeal.τ).loc Cert.EndIdeal.main_arg3))
      ∧ r.2.sem = fun _ => 0)

def quiescent_EndRefIdeal [hEndRefIdeal : Cert.EndRefIdeal.Facts] : Prop :=
  ∀ (m : (ℓ : Loc Cert.EndRefIdeal.nD Cert.EndRefIdeal.τ Cert.EndRefIdeal.sig) → Buf (Elt Ideal) ℓ) (g : Dev Cert.EndRefIdeal.nD → PrngReg), Pre_EndRefIdeal m →
    θ_run (Cert.EndRefIdeal.defs (F := Ideal)) (onTc (τ := Cert.EndRefIdeal.τ) (Cert.EndRefIdeal.main (F := Ideal))) ⟨m, fun _ => 0, g⟩ (fun r => (∀ c : Dev Cert.EndRefIdeal.nD,
      r.2.mem ((c.tc : Thread Cert.EndRefIdeal.nD Cert.EndRefIdeal.τ).loc Cert.EndRefIdeal.main_arg0) = m ((c.tc : Thread Cert.EndRefIdeal.nD Cert.EndRefIdeal.τ).loc Cert.EndRefIdeal.main_arg0)
      ∧ r.2.mem ((c.tc : Thread Cert.EndRefIdeal.nD Cert.EndRefIdeal.τ).loc Cert.EndRefIdeal.main_arg1) = m ((c.tc : Thread Cert.EndRefIdeal.nD Cert.EndRefIdeal.τ).loc Cert.EndRefIdeal.main_arg1)
      ∧ r.2.mem ((c.tc : Thread Cert.EndRefIdeal.nD Cert.EndRefIdeal.τ).loc Cert.EndRefIdeal.main_arg2) = m ((c.tc : Thread Cert.EndRefIdeal.nD Cert.EndRefIdeal.τ).loc Cert.EndRefIdeal.main_arg2)
      ∧ r.2.mem ((c.tc : Thread Cert.EndRefIdeal.nD Cert.EndRefIdeal.τ).loc Cert.EndRefIdeal.main_arg3) = m ((c.tc : Thread Cert.EndRefIdeal.nD Cert.EndRefIdeal.τ).loc Cert.EndRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_LastBwd [hLastBwd : Cert.LastBwd.Facts] : Prop :=
  ∀ (m : (ℓ : Loc Cert.LastBwd.nD Cert.LastBwd.τ Cert.LastBwd.sig) → Buf (Elt Bits) ℓ) (g : Dev Cert.LastBwd.nD → PrngReg), Pre_LastBwd m →
    θ_run (Cert.LastBwd.defs (F := Bits)) (onTc (τ := Cert.LastBwd.τ) (Cert.LastBwd.main (F := Bits))) ⟨m, fun _ => 0, g⟩ (fun r => (∀ c : Dev Cert.LastBwd.nD,
      r.2.mem ((c.tc : Thread Cert.LastBwd.nD Cert.LastBwd.τ).loc Cert.LastBwd.main_arg0) = m ((c.tc : Thread Cert.LastBwd.nD Cert.LastBwd.τ).loc Cert.LastBwd.main_arg0)
      ∧ r.2.mem ((c.tc : Thread Cert.LastBwd.nD Cert.LastBwd.τ).loc Cert.LastBwd.main_arg1) = m ((c.tc : Thread Cert.LastBwd.nD Cert.LastBwd.τ).loc Cert.LastBwd.main_arg1)
      ∧ r.2.mem ((c.tc : Thread Cert.LastBwd.nD Cert.LastBwd.τ).loc Cert.LastBwd.main_arg2) = m ((c.tc : Thread Cert.LastBwd.nD Cert.LastBwd.τ).loc Cert.LastBwd.main_arg2)
      ∧ r.2.mem ((c.tc : Thread Cert.LastBwd.nD Cert.LastBwd.τ).loc Cert.LastBwd.main_arg3) = m ((c.tc : Thread Cert.LastBwd.nD Cert.LastBwd.τ).loc Cert.LastBwd.main_arg3))
      ∧ r.2.sem = fun _ => 0)

def quiescent_LastBwdIdeal [hLastBwdIdeal : Cert.LastBwdIdeal.Facts] : Prop :=
  ∀ (m : (ℓ : Loc Cert.LastBwdIdeal.nD Cert.LastBwdIdeal.τ Cert.LastBwdIdeal.sig) → Buf (Elt Ideal) ℓ) (g : Dev Cert.LastBwdIdeal.nD → PrngReg), Pre_LastBwdIdeal m →
    θ_run (Cert.LastBwdIdeal.defs (F := Ideal)) (onTc (τ := Cert.LastBwdIdeal.τ) (Cert.LastBwdIdeal.main (F := Ideal))) ⟨m, fun _ => 0, g⟩ (fun r => (∀ c : Dev Cert.LastBwdIdeal.nD,
      r.2.mem ((c.tc : Thread Cert.LastBwdIdeal.nD Cert.LastBwdIdeal.τ).loc Cert.LastBwdIdeal.main_arg0) = m ((c.tc : Thread Cert.LastBwdIdeal.nD Cert.LastBwdIdeal.τ).loc Cert.LastBwdIdeal.main_arg0)
      ∧ r.2.mem ((c.tc : Thread Cert.LastBwdIdeal.nD Cert.LastBwdIdeal.τ).loc Cert.LastBwdIdeal.main_arg1) = m ((c.tc : Thread Cert.LastBwdIdeal.nD Cert.LastBwdIdeal.τ).loc Cert.LastBwdIdeal.main_arg1)
      ∧ r.2.mem ((c.tc : Thread Cert.LastBwdIdeal.nD Cert.LastBwdIdeal.τ).loc Cert.LastBwdIdeal.main_arg2) = m ((c.tc : Thread Cert.LastBwdIdeal.nD Cert.LastBwdIdeal.τ).loc Cert.LastBwdIdeal.main_arg2)
      ∧ r.2.mem ((c.tc : Thread Cert.LastBwdIdeal.nD Cert.LastBwdIdeal.τ).loc Cert.LastBwdIdeal.main_arg3) = m ((c.tc : Thread Cert.LastBwdIdeal.nD Cert.LastBwdIdeal.τ).loc Cert.LastBwdIdeal.main_arg3))
      ∧ r.2.sem = fun _ => 0)

def quiescent_LastBwdRefIdeal [hLastBwdRefIdeal : Cert.LastBwdRefIdeal.Facts] : Prop :=
  ∀ (m : (ℓ : Loc Cert.LastBwdRefIdeal.nD Cert.LastBwdRefIdeal.τ Cert.LastBwdRefIdeal.sig) → Buf (Elt Ideal) ℓ) (g : Dev Cert.LastBwdRefIdeal.nD → PrngReg), Pre_LastBwdRefIdeal m →
    θ_run (Cert.LastBwdRefIdeal.defs (F := Ideal)) (onTc (τ := Cert.LastBwdRefIdeal.τ) (Cert.LastBwdRefIdeal.main (F := Ideal))) ⟨m, fun _ => 0, g⟩ (fun r => (∀ c : Dev Cert.LastBwdRefIdeal.nD,
      r.2.mem ((c.tc : Thread Cert.LastBwdRefIdeal.nD Cert.LastBwdRefIdeal.τ).loc Cert.LastBwdRefIdeal.main_arg0) = m ((c.tc : Thread Cert.LastBwdRefIdeal.nD Cert.LastBwdRefIdeal.τ).loc Cert.LastBwdRefIdeal.main_arg0)
      ∧ r.2.mem ((c.tc : Thread Cert.LastBwdRefIdeal.nD Cert.LastBwdRefIdeal.τ).loc Cert.LastBwdRefIdeal.main_arg1) = m ((c.tc : Thread Cert.LastBwdRefIdeal.nD Cert.LastBwdRefIdeal.τ).loc Cert.LastBwdRefIdeal.main_arg1)
      ∧ r.2.mem ((c.tc : Thread Cert.LastBwdRefIdeal.nD Cert.LastBwdRefIdeal.τ).loc Cert.LastBwdRefIdeal.main_arg2) = m ((c.tc : Thread Cert.LastBwdRefIdeal.nD Cert.LastBwdRefIdeal.τ).loc Cert.LastBwdRefIdeal.main_arg2)
      ∧ r.2.mem ((c.tc : Thread Cert.LastBwdRefIdeal.nD Cert.LastBwdRefIdeal.τ).loc Cert.LastBwdRefIdeal.main_arg3) = m ((c.tc : Thread Cert.LastBwdRefIdeal.nD Cert.LastBwdRefIdeal.τ).loc Cert.LastBwdRefIdeal.main_arg3))
      ∧ r.2.sem = fun _ => 0)

def quiescent_EndBwd [hEndBwd : Cert.EndBwd.Facts] : Prop :=
  ∀ (m : (ℓ : Loc Cert.EndBwd.nD Cert.EndBwd.τ Cert.EndBwd.sig) → Buf (Elt Bits) ℓ) (g : Dev Cert.EndBwd.nD → PrngReg), Pre_EndBwd m →
    θ_run (Cert.EndBwd.defs (F := Bits)) (onTc (τ := Cert.EndBwd.τ) (Cert.EndBwd.main (F := Bits))) ⟨m, fun _ => 0, g⟩ (fun r => (∀ c : Dev Cert.EndBwd.nD,
      r.2.mem ((c.tc : Thread Cert.EndBwd.nD Cert.EndBwd.τ).loc Cert.EndBwd.main_arg0) = m ((c.tc : Thread Cert.EndBwd.nD Cert.EndBwd.τ).loc Cert.EndBwd.main_arg0)
      ∧ r.2.mem ((c.tc : Thread Cert.EndBwd.nD Cert.EndBwd.τ).loc Cert.EndBwd.main_arg1) = m ((c.tc : Thread Cert.EndBwd.nD Cert.EndBwd.τ).loc Cert.EndBwd.main_arg1)
      ∧ r.2.mem ((c.tc : Thread Cert.EndBwd.nD Cert.EndBwd.τ).loc Cert.EndBwd.main_arg2) = m ((c.tc : Thread Cert.EndBwd.nD Cert.EndBwd.τ).loc Cert.EndBwd.main_arg2)
      ∧ r.2.mem ((c.tc : Thread Cert.EndBwd.nD Cert.EndBwd.τ).loc Cert.EndBwd.main_arg3) = m ((c.tc : Thread Cert.EndBwd.nD Cert.EndBwd.τ).loc Cert.EndBwd.main_arg3)
      ∧ r.2.mem ((c.tc : Thread Cert.EndBwd.nD Cert.EndBwd.τ).loc Cert.EndBwd.main_arg4) = m ((c.tc : Thread Cert.EndBwd.nD Cert.EndBwd.τ).loc Cert.EndBwd.main_arg4)
      ∧ r.2.mem ((c.tc : Thread Cert.EndBwd.nD Cert.EndBwd.τ).loc Cert.EndBwd.main_arg5) = m ((c.tc : Thread Cert.EndBwd.nD Cert.EndBwd.τ).loc Cert.EndBwd.main_arg5))
      ∧ r.2.sem = fun _ => 0)

def quiescent_EndBwdIdeal [hEndBwdIdeal : Cert.EndBwdIdeal.Facts] : Prop :=
  ∀ (m : (ℓ : Loc Cert.EndBwdIdeal.nD Cert.EndBwdIdeal.τ Cert.EndBwdIdeal.sig) → Buf (Elt Ideal) ℓ) (g : Dev Cert.EndBwdIdeal.nD → PrngReg), Pre_EndBwdIdeal m →
    θ_run (Cert.EndBwdIdeal.defs (F := Ideal)) (onTc (τ := Cert.EndBwdIdeal.τ) (Cert.EndBwdIdeal.main (F := Ideal))) ⟨m, fun _ => 0, g⟩ (fun r => (∀ c : Dev Cert.EndBwdIdeal.nD,
      r.2.mem ((c.tc : Thread Cert.EndBwdIdeal.nD Cert.EndBwdIdeal.τ).loc Cert.EndBwdIdeal.main_arg0) = m ((c.tc : Thread Cert.EndBwdIdeal.nD Cert.EndBwdIdeal.τ).loc Cert.EndBwdIdeal.main_arg0)
      ∧ r.2.mem ((c.tc : Thread Cert.EndBwdIdeal.nD Cert.EndBwdIdeal.τ).loc Cert.EndBwdIdeal.main_arg1) = m ((c.tc : Thread Cert.EndBwdIdeal.nD Cert.EndBwdIdeal.τ).loc Cert.EndBwdIdeal.main_arg1)
      ∧ r.2.mem ((c.tc : Thread Cert.EndBwdIdeal.nD Cert.EndBwdIdeal.τ).loc Cert.EndBwdIdeal.main_arg2) = m ((c.tc : Thread Cert.EndBwdIdeal.nD Cert.EndBwdIdeal.τ).loc Cert.EndBwdIdeal.main_arg2)
      ∧ r.2.mem ((c.tc : Thread Cert.EndBwdIdeal.nD Cert.EndBwdIdeal.τ).loc Cert.EndBwdIdeal.main_arg3) = m ((c.tc : Thread Cert.EndBwdIdeal.nD Cert.EndBwdIdeal.τ).loc Cert.EndBwdIdeal.main_arg3)
      ∧ r.2.mem ((c.tc : Thread Cert.EndBwdIdeal.nD Cert.EndBwdIdeal.τ).loc Cert.EndBwdIdeal.main_arg4) = m ((c.tc : Thread Cert.EndBwdIdeal.nD Cert.EndBwdIdeal.τ).loc Cert.EndBwdIdeal.main_arg4)
      ∧ r.2.mem ((c.tc : Thread Cert.EndBwdIdeal.nD Cert.EndBwdIdeal.τ).loc Cert.EndBwdIdeal.main_arg5) = m ((c.tc : Thread Cert.EndBwdIdeal.nD Cert.EndBwdIdeal.τ).loc Cert.EndBwdIdeal.main_arg5))
      ∧ r.2.sem = fun _ => 0)

def quiescent_EndBwdRefIdeal [hEndBwdRefIdeal : Cert.EndBwdRefIdeal.Facts] : Prop :=
  ∀ (m : (ℓ : Loc Cert.EndBwdRefIdeal.nD Cert.EndBwdRefIdeal.τ Cert.EndBwdRefIdeal.sig) → Buf (Elt Ideal) ℓ) (g : Dev Cert.EndBwdRefIdeal.nD → PrngReg), Pre_EndBwdRefIdeal m →
    θ_run (Cert.EndBwdRefIdeal.defs (F := Ideal)) (onTc (τ := Cert.EndBwdRefIdeal.τ) (Cert.EndBwdRefIdeal.main (F := Ideal))) ⟨m, fun _ => 0, g⟩ (fun r => (∀ c : Dev Cert.EndBwdRefIdeal.nD,
      r.2.mem ((c.tc : Thread Cert.EndBwdRefIdeal.nD Cert.EndBwdRefIdeal.τ).loc Cert.EndBwdRefIdeal.main_arg0) = m ((c.tc : Thread Cert.EndBwdRefIdeal.nD Cert.EndBwdRefIdeal.τ).loc Cert.EndBwdRefIdeal.main_arg0)
      ∧ r.2.mem ((c.tc : Thread Cert.EndBwdRefIdeal.nD Cert.EndBwdRefIdeal.τ).loc Cert.EndBwdRefIdeal.main_arg1) = m ((c.tc : Thread Cert.EndBwdRefIdeal.nD Cert.EndBwdRefIdeal.τ).loc Cert.EndBwdRefIdeal.main_arg1)
      ∧ r.2.mem ((c.tc : Thread Cert.EndBwdRefIdeal.nD Cert.EndBwdRefIdeal.τ).loc Cert.EndBwdRefIdeal.main_arg2) = m ((c.tc : Thread Cert.EndBwdRefIdeal.nD Cert.EndBwdRefIdeal.τ).loc Cert.EndBwdRefIdeal.main_arg2)
      ∧ r.2.mem ((c.tc : Thread Cert.EndBwdRefIdeal.nD Cert.EndBwdRefIdeal.τ).loc Cert.EndBwdRefIdeal.main_arg3) = m ((c.tc : Thread Cert.EndBwdRefIdeal.nD Cert.EndBwdRefIdeal.τ).loc Cert.EndBwdRefIdeal.main_arg3)
      ∧ r.2.mem ((c.tc : Thread Cert.EndBwdRefIdeal.nD Cert.EndBwdRefIdeal.τ).loc Cert.EndBwdRefIdeal.main_arg4) = m ((c.tc : Thread Cert.EndBwdRefIdeal.nD Cert.EndBwdRefIdeal.τ).loc Cert.EndBwdRefIdeal.main_arg4)
      ∧ r.2.mem ((c.tc : Thread Cert.EndBwdRefIdeal.nD Cert.EndBwdRefIdeal.τ).loc Cert.EndBwdRefIdeal.main_arg5) = m ((c.tc : Thread Cert.EndBwdRefIdeal.nD Cert.EndBwdRefIdeal.τ).loc Cert.EndBwdRefIdeal.main_arg5))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4)
      ∧ r.2.mem ((c.tc : Thread Cert.MidBwd.nD Cert.MidBwd.τ).loc Cert.MidBwd.main_arg5) = m ((c.tc : Thread Cert.MidBwd.nD Cert.MidBwd.τ).loc Cert.MidBwd.main_arg5))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1))
      ∧ r.2.sem = fun _ => 0)

def quiescent_InAbDx [hInAbDx : Cert.InAbDx.Facts] : Prop :=
  ∀ (m : (ℓ : Loc Cert.InAbDx.nD Cert.InAbDx.τ Cert.InAbDx.sig) → Buf (Elt Bits) ℓ) (g : Dev Cert.InAbDx.nD → PrngReg), Pre_InAbDx m →
    θ_run (Cert.InAbDx.defs (F := Bits)) (onTc (τ := Cert.InAbDx.τ) (Cert.InAbDx.main (F := Bits))) ⟨m, fun _ => 0, g⟩ (fun r => (∀ c : Dev Cert.InAbDx.nD,
      r.2.mem ((c.tc : Thread Cert.InAbDx.nD Cert.InAbDx.τ).loc Cert.InAbDx.main_arg0) = m ((c.tc : Thread Cert.InAbDx.nD Cert.InAbDx.τ).loc Cert.InAbDx.main_arg0)
      ∧ r.2.mem ((c.tc : Thread Cert.InAbDx.nD Cert.InAbDx.τ).loc Cert.InAbDx.main_arg1) = m ((c.tc : Thread Cert.InAbDx.nD Cert.InAbDx.τ).loc Cert.InAbDx.main_arg1))
      ∧ r.2.sem = fun _ => 0)

def quiescent_InAbDxIdeal [hInAbDxIdeal : Cert.InAbDxIdeal.Facts] : Prop :=
  ∀ (m : (ℓ : Loc Cert.InAbDxIdeal.nD Cert.InAbDxIdeal.τ Cert.InAbDxIdeal.sig) → Buf (Elt Ideal) ℓ) (g : Dev Cert.InAbDxIdeal.nD → PrngReg), Pre_InAbDxIdeal m →
    θ_run (Cert.InAbDxIdeal.defs (F := Ideal)) (onTc (τ := Cert.InAbDxIdeal.τ) (Cert.InAbDxIdeal.main (F := Ideal))) ⟨m, fun _ => 0, g⟩ (fun r => (∀ c : Dev Cert.InAbDxIdeal.nD,
      r.2.mem ((c.tc : Thread Cert.InAbDxIdeal.nD Cert.InAbDxIdeal.τ).loc Cert.InAbDxIdeal.main_arg0) = m ((c.tc : Thread Cert.InAbDxIdeal.nD Cert.InAbDxIdeal.τ).loc Cert.InAbDxIdeal.main_arg0)
      ∧ r.2.mem ((c.tc : Thread Cert.InAbDxIdeal.nD Cert.InAbDxIdeal.τ).loc Cert.InAbDxIdeal.main_arg1) = m ((c.tc : Thread Cert.InAbDxIdeal.nD Cert.InAbDxIdeal.τ).loc Cert.InAbDxIdeal.main_arg1))
      ∧ r.2.sem = fun _ => 0)

def quiescent_InAbDxRefIdeal [hInAbDxRefIdeal : Cert.InAbDxRefIdeal.Facts] : Prop :=
  ∀ (m : (ℓ : Loc Cert.InAbDxRefIdeal.nD Cert.InAbDxRefIdeal.τ Cert.InAbDxRefIdeal.sig) → Buf (Elt Ideal) ℓ) (g : Dev Cert.InAbDxRefIdeal.nD → PrngReg), Pre_InAbDxRefIdeal m →
    θ_run (Cert.InAbDxRefIdeal.defs (F := Ideal)) (onTc (τ := Cert.InAbDxRefIdeal.τ) (Cert.InAbDxRefIdeal.main (F := Ideal))) ⟨m, fun _ => 0, g⟩ (fun r => (∀ c : Dev Cert.InAbDxRefIdeal.nD,
      r.2.mem ((c.tc : Thread Cert.InAbDxRefIdeal.nD Cert.InAbDxRefIdeal.τ).loc Cert.InAbDxRefIdeal.main_arg0) = m ((c.tc : Thread Cert.InAbDxRefIdeal.nD Cert.InAbDxRefIdeal.τ).loc Cert.InAbDxRefIdeal.main_arg0)
      ∧ r.2.mem ((c.tc : Thread Cert.InAbDxRefIdeal.nD Cert.InAbDxRefIdeal.τ).loc Cert.InAbDxRefIdeal.main_arg1) = m ((c.tc : Thread Cert.InAbDxRefIdeal.nD Cert.InAbDxRefIdeal.τ).loc Cert.InAbDxRefIdeal.main_arg1))
      ∧ r.2.sem = fun _ => 0)

def quiescent_InAbDw [hInAbDw : Cert.InAbDw.Facts] : Prop :=
  ∀ (m : (ℓ : Loc Cert.InAbDw.nD Cert.InAbDw.τ Cert.InAbDw.sig) → Buf (Elt Bits) ℓ) (g : Dev Cert.InAbDw.nD → PrngReg), Pre_InAbDw m →
    θ_run (Cert.InAbDw.defs (F := Bits)) (onTc (τ := Cert.InAbDw.τ) (Cert.InAbDw.main (F := Bits))) ⟨m, fun _ => 0, g⟩ (fun r => (∀ c : Dev Cert.InAbDw.nD,
      r.2.mem ((c.tc : Thread Cert.InAbDw.nD Cert.InAbDw.τ).loc Cert.InAbDw.main_arg0) = m ((c.tc : Thread Cert.InAbDw.nD Cert.InAbDw.τ).loc Cert.InAbDw.main_arg0)
      ∧ r.2.mem ((c.tc : Thread Cert.InAbDw.nD Cert.InAbDw.τ).loc Cert.InAbDw.main_arg1) = m ((c.tc : Thread Cert.InAbDw.nD Cert.InAbDw.τ).loc Cert.InAbDw.main_arg1))
      ∧ r.2.sem = fun _ => 0)

def quiescent_InAbDwIdeal [hInAbDwIdeal : Cert.InAbDwIdeal.Facts] : Prop :=
  ∀ (m : (ℓ : Loc Cert.InAbDwIdeal.nD Cert.InAbDwIdeal.τ Cert.InAbDwIdeal.sig) → Buf (Elt Ideal) ℓ) (g : Dev Cert.InAbDwIdeal.nD → PrngReg), Pre_InAbDwIdeal m →
    θ_run (Cert.InAbDwIdeal.defs (F := Ideal)) (onTc (τ := Cert.InAbDwIdeal.τ) (Cert.InAbDwIdeal.main (F := Ideal))) ⟨m, fun _ => 0, g⟩ (fun r => (∀ c : Dev Cert.InAbDwIdeal.nD,
      r.2.mem ((c.tc : Thread Cert.InAbDwIdeal.nD Cert.InAbDwIdeal.τ).loc Cert.InAbDwIdeal.main_arg0) = m ((c.tc : Thread Cert.InAbDwIdeal.nD Cert.InAbDwIdeal.τ).loc Cert.InAbDwIdeal.main_arg0)
      ∧ r.2.mem ((c.tc : Thread Cert.InAbDwIdeal.nD Cert.InAbDwIdeal.τ).loc Cert.InAbDwIdeal.main_arg1) = m ((c.tc : Thread Cert.InAbDwIdeal.nD Cert.InAbDwIdeal.τ).loc Cert.InAbDwIdeal.main_arg1))
      ∧ r.2.sem = fun _ => 0)

def quiescent_InAbDwRefIdeal [hInAbDwRefIdeal : Cert.InAbDwRefIdeal.Facts] : Prop :=
  ∀ (m : (ℓ : Loc Cert.InAbDwRefIdeal.nD Cert.InAbDwRefIdeal.τ Cert.InAbDwRefIdeal.sig) → Buf (Elt Ideal) ℓ) (g : Dev Cert.InAbDwRefIdeal.nD → PrngReg), Pre_InAbDwRefIdeal m →
    θ_run (Cert.InAbDwRefIdeal.defs (F := Ideal)) (onTc (τ := Cert.InAbDwRefIdeal.τ) (Cert.InAbDwRefIdeal.main (F := Ideal))) ⟨m, fun _ => 0, g⟩ (fun r => (∀ c : Dev Cert.InAbDwRefIdeal.nD,
      r.2.mem ((c.tc : Thread Cert.InAbDwRefIdeal.nD Cert.InAbDwRefIdeal.τ).loc Cert.InAbDwRefIdeal.main_arg0) = m ((c.tc : Thread Cert.InAbDwRefIdeal.nD Cert.InAbDwRefIdeal.τ).loc Cert.InAbDwRefIdeal.main_arg0)
      ∧ r.2.mem ((c.tc : Thread Cert.InAbDwRefIdeal.nD Cert.InAbDwRefIdeal.τ).loc Cert.InAbDwRefIdeal.main_arg1) = m ((c.tc : Thread Cert.InAbDwRefIdeal.nD Cert.InAbDwRefIdeal.τ).loc Cert.InAbDwRefIdeal.main_arg1))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1))
      ∧ r.2.sem = fun _ => 0)

def quiescent_OutAbDx [hOutAbDx : Cert.OutAbDx.Facts] : Prop :=
  ∀ (m : (ℓ : Loc Cert.OutAbDx.nD Cert.OutAbDx.τ Cert.OutAbDx.sig) → Buf (Elt Bits) ℓ) (g : Dev Cert.OutAbDx.nD → PrngReg), Pre_OutAbDx m →
    θ_run (Cert.OutAbDx.defs (F := Bits)) (onTc (τ := Cert.OutAbDx.τ) (Cert.OutAbDx.main (F := Bits))) ⟨m, fun _ => 0, g⟩ (fun r => (∀ c : Dev Cert.OutAbDx.nD,
      r.2.mem ((c.tc : Thread Cert.OutAbDx.nD Cert.OutAbDx.τ).loc Cert.OutAbDx.main_arg0) = m ((c.tc : Thread Cert.OutAbDx.nD Cert.OutAbDx.τ).loc Cert.OutAbDx.main_arg0)
      ∧ r.2.mem ((c.tc : Thread Cert.OutAbDx.nD Cert.OutAbDx.τ).loc Cert.OutAbDx.main_arg1) = m ((c.tc : Thread Cert.OutAbDx.nD Cert.OutAbDx.τ).loc Cert.OutAbDx.main_arg1))
      ∧ r.2.sem = fun _ => 0)

def quiescent_OutAbDxIdeal [hOutAbDxIdeal : Cert.OutAbDxIdeal.Facts] : Prop :=
  ∀ (m : (ℓ : Loc Cert.OutAbDxIdeal.nD Cert.OutAbDxIdeal.τ Cert.OutAbDxIdeal.sig) → Buf (Elt Ideal) ℓ) (g : Dev Cert.OutAbDxIdeal.nD → PrngReg), Pre_OutAbDxIdeal m →
    θ_run (Cert.OutAbDxIdeal.defs (F := Ideal)) (onTc (τ := Cert.OutAbDxIdeal.τ) (Cert.OutAbDxIdeal.main (F := Ideal))) ⟨m, fun _ => 0, g⟩ (fun r => (∀ c : Dev Cert.OutAbDxIdeal.nD,
      r.2.mem ((c.tc : Thread Cert.OutAbDxIdeal.nD Cert.OutAbDxIdeal.τ).loc Cert.OutAbDxIdeal.main_arg0) = m ((c.tc : Thread Cert.OutAbDxIdeal.nD Cert.OutAbDxIdeal.τ).loc Cert.OutAbDxIdeal.main_arg0)
      ∧ r.2.mem ((c.tc : Thread Cert.OutAbDxIdeal.nD Cert.OutAbDxIdeal.τ).loc Cert.OutAbDxIdeal.main_arg1) = m ((c.tc : Thread Cert.OutAbDxIdeal.nD Cert.OutAbDxIdeal.τ).loc Cert.OutAbDxIdeal.main_arg1))
      ∧ r.2.sem = fun _ => 0)

def quiescent_OutAbDxRefIdeal [hOutAbDxRefIdeal : Cert.OutAbDxRefIdeal.Facts] : Prop :=
  ∀ (m : (ℓ : Loc Cert.OutAbDxRefIdeal.nD Cert.OutAbDxRefIdeal.τ Cert.OutAbDxRefIdeal.sig) → Buf (Elt Ideal) ℓ) (g : Dev Cert.OutAbDxRefIdeal.nD → PrngReg), Pre_OutAbDxRefIdeal m →
    θ_run (Cert.OutAbDxRefIdeal.defs (F := Ideal)) (onTc (τ := Cert.OutAbDxRefIdeal.τ) (Cert.OutAbDxRefIdeal.main (F := Ideal))) ⟨m, fun _ => 0, g⟩ (fun r => (∀ c : Dev Cert.OutAbDxRefIdeal.nD,
      r.2.mem ((c.tc : Thread Cert.OutAbDxRefIdeal.nD Cert.OutAbDxRefIdeal.τ).loc Cert.OutAbDxRefIdeal.main_arg0) = m ((c.tc : Thread Cert.OutAbDxRefIdeal.nD Cert.OutAbDxRefIdeal.τ).loc Cert.OutAbDxRefIdeal.main_arg0)
      ∧ r.2.mem ((c.tc : Thread Cert.OutAbDxRefIdeal.nD Cert.OutAbDxRefIdeal.τ).loc Cert.OutAbDxRefIdeal.main_arg1) = m ((c.tc : Thread Cert.OutAbDxRefIdeal.nD Cert.OutAbDxRefIdeal.τ).loc Cert.OutAbDxRefIdeal.main_arg1))
      ∧ r.2.sem = fun _ => 0)

def quiescent_OutAbDw [hOutAbDw : Cert.OutAbDw.Facts] : Prop :=
  ∀ (m : (ℓ : Loc Cert.OutAbDw.nD Cert.OutAbDw.τ Cert.OutAbDw.sig) → Buf (Elt Bits) ℓ) (g : Dev Cert.OutAbDw.nD → PrngReg), Pre_OutAbDw m →
    θ_run (Cert.OutAbDw.defs (F := Bits)) (onTc (τ := Cert.OutAbDw.τ) (Cert.OutAbDw.main (F := Bits))) ⟨m, fun _ => 0, g⟩ (fun r => (∀ c : Dev Cert.OutAbDw.nD,
      r.2.mem ((c.tc : Thread Cert.OutAbDw.nD Cert.OutAbDw.τ).loc Cert.OutAbDw.main_arg0) = m ((c.tc : Thread Cert.OutAbDw.nD Cert.OutAbDw.τ).loc Cert.OutAbDw.main_arg0)
      ∧ r.2.mem ((c.tc : Thread Cert.OutAbDw.nD Cert.OutAbDw.τ).loc Cert.OutAbDw.main_arg1) = m ((c.tc : Thread Cert.OutAbDw.nD Cert.OutAbDw.τ).loc Cert.OutAbDw.main_arg1))
      ∧ r.2.sem = fun _ => 0)

def quiescent_OutAbDwIdeal [hOutAbDwIdeal : Cert.OutAbDwIdeal.Facts] : Prop :=
  ∀ (m : (ℓ : Loc Cert.OutAbDwIdeal.nD Cert.OutAbDwIdeal.τ Cert.OutAbDwIdeal.sig) → Buf (Elt Ideal) ℓ) (g : Dev Cert.OutAbDwIdeal.nD → PrngReg), Pre_OutAbDwIdeal m →
    θ_run (Cert.OutAbDwIdeal.defs (F := Ideal)) (onTc (τ := Cert.OutAbDwIdeal.τ) (Cert.OutAbDwIdeal.main (F := Ideal))) ⟨m, fun _ => 0, g⟩ (fun r => (∀ c : Dev Cert.OutAbDwIdeal.nD,
      r.2.mem ((c.tc : Thread Cert.OutAbDwIdeal.nD Cert.OutAbDwIdeal.τ).loc Cert.OutAbDwIdeal.main_arg0) = m ((c.tc : Thread Cert.OutAbDwIdeal.nD Cert.OutAbDwIdeal.τ).loc Cert.OutAbDwIdeal.main_arg0)
      ∧ r.2.mem ((c.tc : Thread Cert.OutAbDwIdeal.nD Cert.OutAbDwIdeal.τ).loc Cert.OutAbDwIdeal.main_arg1) = m ((c.tc : Thread Cert.OutAbDwIdeal.nD Cert.OutAbDwIdeal.τ).loc Cert.OutAbDwIdeal.main_arg1))
      ∧ r.2.sem = fun _ => 0)

def quiescent_OutAbDwRefIdeal [hOutAbDwRefIdeal : Cert.OutAbDwRefIdeal.Facts] : Prop :=
  ∀ (m : (ℓ : Loc Cert.OutAbDwRefIdeal.nD Cert.OutAbDwRefIdeal.τ Cert.OutAbDwRefIdeal.sig) → Buf (Elt Ideal) ℓ) (g : Dev Cert.OutAbDwRefIdeal.nD → PrngReg), Pre_OutAbDwRefIdeal m →
    θ_run (Cert.OutAbDwRefIdeal.defs (F := Ideal)) (onTc (τ := Cert.OutAbDwRefIdeal.τ) (Cert.OutAbDwRefIdeal.main (F := Ideal))) ⟨m, fun _ => 0, g⟩ (fun r => (∀ c : Dev Cert.OutAbDwRefIdeal.nD,
      r.2.mem ((c.tc : Thread Cert.OutAbDwRefIdeal.nD Cert.OutAbDwRefIdeal.τ).loc Cert.OutAbDwRefIdeal.main_arg0) = m ((c.tc : Thread Cert.OutAbDwRefIdeal.nD Cert.OutAbDwRefIdeal.τ).loc Cert.OutAbDwRefIdeal.main_arg0)
      ∧ r.2.mem ((c.tc : Thread Cert.OutAbDwRefIdeal.nD Cert.OutAbDwRefIdeal.τ).loc Cert.OutAbDwRefIdeal.main_arg1) = m ((c.tc : Thread Cert.OutAbDwRefIdeal.nD Cert.OutAbDwRefIdeal.τ).loc Cert.OutAbDwRefIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1))
      ∧ r.2.sem = fun _ => 0)

def quiescent_InCDw [hInCDw : Cert.InCDw.Facts] : Prop :=
  ∀ (m : (ℓ : Loc Cert.InCDw.nD Cert.InCDw.τ Cert.InCDw.sig) → Buf (Elt Bits) ℓ) (g : Dev Cert.InCDw.nD → PrngReg), Pre_InCDw m →
    θ_run (Cert.InCDw.defs (F := Bits)) (onTc (τ := Cert.InCDw.τ) (Cert.InCDw.main (F := Bits))) ⟨m, fun _ => 0, g⟩ (fun r => (∀ c : Dev Cert.InCDw.nD,
      r.2.mem ((c.tc : Thread Cert.InCDw.nD Cert.InCDw.τ).loc Cert.InCDw.main_arg0) = m ((c.tc : Thread Cert.InCDw.nD Cert.InCDw.τ).loc Cert.InCDw.main_arg0)
      ∧ r.2.mem ((c.tc : Thread Cert.InCDw.nD Cert.InCDw.τ).loc Cert.InCDw.main_arg1) = m ((c.tc : Thread Cert.InCDw.nD Cert.InCDw.τ).loc Cert.InCDw.main_arg1))
      ∧ r.2.sem = fun _ => 0)

def quiescent_InCDwIdeal [hInCDwIdeal : Cert.InCDwIdeal.Facts] : Prop :=
  ∀ (m : (ℓ : Loc Cert.InCDwIdeal.nD Cert.InCDwIdeal.τ Cert.InCDwIdeal.sig) → Buf (Elt Ideal) ℓ) (g : Dev Cert.InCDwIdeal.nD → PrngReg), Pre_InCDwIdeal m →
    θ_run (Cert.InCDwIdeal.defs (F := Ideal)) (onTc (τ := Cert.InCDwIdeal.τ) (Cert.InCDwIdeal.main (F := Ideal))) ⟨m, fun _ => 0, g⟩ (fun r => (∀ c : Dev Cert.InCDwIdeal.nD,
      r.2.mem ((c.tc : Thread Cert.InCDwIdeal.nD Cert.InCDwIdeal.τ).loc Cert.InCDwIdeal.main_arg0) = m ((c.tc : Thread Cert.InCDwIdeal.nD Cert.InCDwIdeal.τ).loc Cert.InCDwIdeal.main_arg0)
      ∧ r.2.mem ((c.tc : Thread Cert.InCDwIdeal.nD Cert.InCDwIdeal.τ).loc Cert.InCDwIdeal.main_arg1) = m ((c.tc : Thread Cert.InCDwIdeal.nD Cert.InCDwIdeal.τ).loc Cert.InCDwIdeal.main_arg1))
      ∧ r.2.sem = fun _ => 0)

def quiescent_InCDwRefIdeal [hInCDwRefIdeal : Cert.InCDwRefIdeal.Facts] : Prop :=
  ∀ (m : (ℓ : Loc Cert.InCDwRefIdeal.nD Cert.InCDwRefIdeal.τ Cert.InCDwRefIdeal.sig) → Buf (Elt Ideal) ℓ) (g : Dev Cert.InCDwRefIdeal.nD → PrngReg), Pre_InCDwRefIdeal m →
    θ_run (Cert.InCDwRefIdeal.defs (F := Ideal)) (onTc (τ := Cert.InCDwRefIdeal.τ) (Cert.InCDwRefIdeal.main (F := Ideal))) ⟨m, fun _ => 0, g⟩ (fun r => (∀ c : Dev Cert.InCDwRefIdeal.nD,
      r.2.mem ((c.tc : Thread Cert.InCDwRefIdeal.nD Cert.InCDwRefIdeal.τ).loc Cert.InCDwRefIdeal.main_arg0) = m ((c.tc : Thread Cert.InCDwRefIdeal.nD Cert.InCDwRefIdeal.τ).loc Cert.InCDwRefIdeal.main_arg0)
      ∧ r.2.mem ((c.tc : Thread Cert.InCDwRefIdeal.nD Cert.InCDwRefIdeal.τ).loc Cert.InCDwRefIdeal.main_arg1) = m ((c.tc : Thread Cert.InCDwRefIdeal.nD Cert.InCDwRefIdeal.τ).loc Cert.InCDwRefIdeal.main_arg1))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ r.2.sem = fun _ => 0)

def quiescent_InDtRefIdeal [hInDtRefIdeal : Cert.InDtRefIdeal.Facts] : Prop :=
  ∀ (m : (ℓ : Loc Cert.InDtRefIdeal.nD Cert.InDtRefIdeal.τ Cert.InDtRefIdeal.sig) → Buf (Elt Ideal) ℓ) (g : Dev Cert.InDtRefIdeal.nD → PrngReg), Pre_InDtRefIdeal m →
    θ_run (Cert.InDtRefIdeal.defs (F := Ideal)) (onTc (τ := Cert.InDtRefIdeal.τ) (Cert.InDtRefIdeal.main (F := Ideal))) ⟨m, fun _ => 0, g⟩ (fun r => (∀ c : Dev Cert.InDtRefIdeal.nD,
      r.2.mem ((c.tc : Thread Cert.InDtRefIdeal.nD Cert.InDtRefIdeal.τ).loc Cert.InDtRefIdeal.main_arg0) = m ((c.tc : Thread Cert.InDtRefIdeal.nD Cert.InDtRefIdeal.τ).loc Cert.InDtRefIdeal.main_arg0)
      ∧ r.2.mem ((c.tc : Thread Cert.InDtRefIdeal.nD Cert.InDtRefIdeal.τ).loc Cert.InDtRefIdeal.main_arg1) = m ((c.tc : Thread Cert.InDtRefIdeal.nD Cert.InDtRefIdeal.τ).loc Cert.InDtRefIdeal.main_arg1))
      ∧ r.2.sem = fun _ => 0)

def quiescent_InDtDx [hInDtDx : Cert.InDtDx.Facts] : Prop :=
  ∀ (m : (ℓ : Loc Cert.InDtDx.nD Cert.InDtDx.τ Cert.InDtDx.sig) → Buf (Elt Bits) ℓ) (g : Dev Cert.InDtDx.nD → PrngReg), Pre_InDtDx m →
    θ_run (Cert.InDtDx.defs (F := Bits)) (onTc (τ := Cert.InDtDx.τ) (Cert.InDtDx.main (F := Bits))) ⟨m, fun _ => 0, g⟩ (fun r => (∀ c : Dev Cert.InDtDx.nD,
      r.2.mem ((c.tc : Thread Cert.InDtDx.nD Cert.InDtDx.τ).loc Cert.InDtDx.main_arg0) = m ((c.tc : Thread Cert.InDtDx.nD Cert.InDtDx.τ).loc Cert.InDtDx.main_arg0)
      ∧ r.2.mem ((c.tc : Thread Cert.InDtDx.nD Cert.InDtDx.τ).loc Cert.InDtDx.main_arg1) = m ((c.tc : Thread Cert.InDtDx.nD Cert.InDtDx.τ).loc Cert.InDtDx.main_arg1))
      ∧ r.2.sem = fun _ => 0)

def quiescent_InDtDxIdeal [hInDtDxIdeal : Cert.InDtDxIdeal.Facts] : Prop :=
  ∀ (m : (ℓ : Loc Cert.InDtDxIdeal.nD Cert.InDtDxIdeal.τ Cert.InDtDxIdeal.sig) → Buf (Elt Ideal) ℓ) (g : Dev Cert.InDtDxIdeal.nD → PrngReg), Pre_InDtDxIdeal m →
    θ_run (Cert.InDtDxIdeal.defs (F := Ideal)) (onTc (τ := Cert.InDtDxIdeal.τ) (Cert.InDtDxIdeal.main (F := Ideal))) ⟨m, fun _ => 0, g⟩ (fun r => (∀ c : Dev Cert.InDtDxIdeal.nD,
      r.2.mem ((c.tc : Thread Cert.InDtDxIdeal.nD Cert.InDtDxIdeal.τ).loc Cert.InDtDxIdeal.main_arg0) = m ((c.tc : Thread Cert.InDtDxIdeal.nD Cert.InDtDxIdeal.τ).loc Cert.InDtDxIdeal.main_arg0)
      ∧ r.2.mem ((c.tc : Thread Cert.InDtDxIdeal.nD Cert.InDtDxIdeal.τ).loc Cert.InDtDxIdeal.main_arg1) = m ((c.tc : Thread Cert.InDtDxIdeal.nD Cert.InDtDxIdeal.τ).loc Cert.InDtDxIdeal.main_arg1))
      ∧ r.2.sem = fun _ => 0)

def quiescent_InDtDxRefIdeal [hInDtDxRefIdeal : Cert.InDtDxRefIdeal.Facts] : Prop :=
  ∀ (m : (ℓ : Loc Cert.InDtDxRefIdeal.nD Cert.InDtDxRefIdeal.τ Cert.InDtDxRefIdeal.sig) → Buf (Elt Ideal) ℓ) (g : Dev Cert.InDtDxRefIdeal.nD → PrngReg), Pre_InDtDxRefIdeal m →
    θ_run (Cert.InDtDxRefIdeal.defs (F := Ideal)) (onTc (τ := Cert.InDtDxRefIdeal.τ) (Cert.InDtDxRefIdeal.main (F := Ideal))) ⟨m, fun _ => 0, g⟩ (fun r => (∀ c : Dev Cert.InDtDxRefIdeal.nD,
      r.2.mem ((c.tc : Thread Cert.InDtDxRefIdeal.nD Cert.InDtDxRefIdeal.τ).loc Cert.InDtDxRefIdeal.main_arg0) = m ((c.tc : Thread Cert.InDtDxRefIdeal.nD Cert.InDtDxRefIdeal.τ).loc Cert.InDtDxRefIdeal.main_arg0)
      ∧ r.2.mem ((c.tc : Thread Cert.InDtDxRefIdeal.nD Cert.InDtDxRefIdeal.τ).loc Cert.InDtDxRefIdeal.main_arg1) = m ((c.tc : Thread Cert.InDtDxRefIdeal.nD Cert.InDtDxRefIdeal.τ).loc Cert.InDtDxRefIdeal.main_arg1))
      ∧ r.2.sem = fun _ => 0)

def quiescent_InDtDw [hInDtDw : Cert.InDtDw.Facts] : Prop :=
  ∀ (m : (ℓ : Loc Cert.InDtDw.nD Cert.InDtDw.τ Cert.InDtDw.sig) → Buf (Elt Bits) ℓ) (g : Dev Cert.InDtDw.nD → PrngReg), Pre_InDtDw m →
    θ_run (Cert.InDtDw.defs (F := Bits)) (onTc (τ := Cert.InDtDw.τ) (Cert.InDtDw.main (F := Bits))) ⟨m, fun _ => 0, g⟩ (fun r => (∀ c : Dev Cert.InDtDw.nD,
      r.2.mem ((c.tc : Thread Cert.InDtDw.nD Cert.InDtDw.τ).loc Cert.InDtDw.main_arg0) = m ((c.tc : Thread Cert.InDtDw.nD Cert.InDtDw.τ).loc Cert.InDtDw.main_arg0)
      ∧ r.2.mem ((c.tc : Thread Cert.InDtDw.nD Cert.InDtDw.τ).loc Cert.InDtDw.main_arg1) = m ((c.tc : Thread Cert.InDtDw.nD Cert.InDtDw.τ).loc Cert.InDtDw.main_arg1))
      ∧ r.2.sem = fun _ => 0)

def quiescent_InDtDwIdeal [hInDtDwIdeal : Cert.InDtDwIdeal.Facts] : Prop :=
  ∀ (m : (ℓ : Loc Cert.InDtDwIdeal.nD Cert.InDtDwIdeal.τ Cert.InDtDwIdeal.sig) → Buf (Elt Ideal) ℓ) (g : Dev Cert.InDtDwIdeal.nD → PrngReg), Pre_InDtDwIdeal m →
    θ_run (Cert.InDtDwIdeal.defs (F := Ideal)) (onTc (τ := Cert.InDtDwIdeal.τ) (Cert.InDtDwIdeal.main (F := Ideal))) ⟨m, fun _ => 0, g⟩ (fun r => (∀ c : Dev Cert.InDtDwIdeal.nD,
      r.2.mem ((c.tc : Thread Cert.InDtDwIdeal.nD Cert.InDtDwIdeal.τ).loc Cert.InDtDwIdeal.main_arg0) = m ((c.tc : Thread Cert.InDtDwIdeal.nD Cert.InDtDwIdeal.τ).loc Cert.InDtDwIdeal.main_arg0)
      ∧ r.2.mem ((c.tc : Thread Cert.InDtDwIdeal.nD Cert.InDtDwIdeal.τ).loc Cert.InDtDwIdeal.main_arg1) = m ((c.tc : Thread Cert.InDtDwIdeal.nD Cert.InDtDwIdeal.τ).loc Cert.InDtDwIdeal.main_arg1))
      ∧ r.2.sem = fun _ => 0)

def quiescent_InDtDwRefIdeal [hInDtDwRefIdeal : Cert.InDtDwRefIdeal.Facts] : Prop :=
  ∀ (m : (ℓ : Loc Cert.InDtDwRefIdeal.nD Cert.InDtDwRefIdeal.τ Cert.InDtDwRefIdeal.sig) → Buf (Elt Ideal) ℓ) (g : Dev Cert.InDtDwRefIdeal.nD → PrngReg), Pre_InDtDwRefIdeal m →
    θ_run (Cert.InDtDwRefIdeal.defs (F := Ideal)) (onTc (τ := Cert.InDtDwRefIdeal.τ) (Cert.InDtDwRefIdeal.main (F := Ideal))) ⟨m, fun _ => 0, g⟩ (fun r => (∀ c : Dev Cert.InDtDwRefIdeal.nD,
      r.2.mem ((c.tc : Thread Cert.InDtDwRefIdeal.nD Cert.InDtDwRefIdeal.τ).loc Cert.InDtDwRefIdeal.main_arg0) = m ((c.tc : Thread Cert.InDtDwRefIdeal.nD Cert.InDtDwRefIdeal.τ).loc Cert.InDtDwRefIdeal.main_arg0)
      ∧ r.2.mem ((c.tc : Thread Cert.InDtDwRefIdeal.nD Cert.InDtDwRefIdeal.τ).loc Cert.InDtDwRefIdeal.main_arg1) = m ((c.tc : Thread Cert.InDtDwRefIdeal.nD Cert.InDtDwRefIdeal.τ).loc Cert.InDtDwRefIdeal.main_arg1))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1))
      ∧ r.2.sem = fun _ => 0)

def quiescent_OutCDx [hOutCDx : Cert.OutCDx.Facts] : Prop :=
  ∀ (m : (ℓ : Loc Cert.OutCDx.nD Cert.OutCDx.τ Cert.OutCDx.sig) → Buf (Elt Bits) ℓ) (g : Dev Cert.OutCDx.nD → PrngReg), Pre_OutCDx m →
    θ_run (Cert.OutCDx.defs (F := Bits)) (onTc (τ := Cert.OutCDx.τ) (Cert.OutCDx.main (F := Bits))) ⟨m, fun _ => 0, g⟩ (fun r => (∀ c : Dev Cert.OutCDx.nD,
      r.2.mem ((c.tc : Thread Cert.OutCDx.nD Cert.OutCDx.τ).loc Cert.OutCDx.main_arg0) = m ((c.tc : Thread Cert.OutCDx.nD Cert.OutCDx.τ).loc Cert.OutCDx.main_arg0)
      ∧ r.2.mem ((c.tc : Thread Cert.OutCDx.nD Cert.OutCDx.τ).loc Cert.OutCDx.main_arg1) = m ((c.tc : Thread Cert.OutCDx.nD Cert.OutCDx.τ).loc Cert.OutCDx.main_arg1))
      ∧ r.2.sem = fun _ => 0)

def quiescent_OutCDxIdeal [hOutCDxIdeal : Cert.OutCDxIdeal.Facts] : Prop :=
  ∀ (m : (ℓ : Loc Cert.OutCDxIdeal.nD Cert.OutCDxIdeal.τ Cert.OutCDxIdeal.sig) → Buf (Elt Ideal) ℓ) (g : Dev Cert.OutCDxIdeal.nD → PrngReg), Pre_OutCDxIdeal m →
    θ_run (Cert.OutCDxIdeal.defs (F := Ideal)) (onTc (τ := Cert.OutCDxIdeal.τ) (Cert.OutCDxIdeal.main (F := Ideal))) ⟨m, fun _ => 0, g⟩ (fun r => (∀ c : Dev Cert.OutCDxIdeal.nD,
      r.2.mem ((c.tc : Thread Cert.OutCDxIdeal.nD Cert.OutCDxIdeal.τ).loc Cert.OutCDxIdeal.main_arg0) = m ((c.tc : Thread Cert.OutCDxIdeal.nD Cert.OutCDxIdeal.τ).loc Cert.OutCDxIdeal.main_arg0)
      ∧ r.2.mem ((c.tc : Thread Cert.OutCDxIdeal.nD Cert.OutCDxIdeal.τ).loc Cert.OutCDxIdeal.main_arg1) = m ((c.tc : Thread Cert.OutCDxIdeal.nD Cert.OutCDxIdeal.τ).loc Cert.OutCDxIdeal.main_arg1))
      ∧ r.2.sem = fun _ => 0)

def quiescent_OutCDxRefIdeal [hOutCDxRefIdeal : Cert.OutCDxRefIdeal.Facts] : Prop :=
  ∀ (m : (ℓ : Loc Cert.OutCDxRefIdeal.nD Cert.OutCDxRefIdeal.τ Cert.OutCDxRefIdeal.sig) → Buf (Elt Ideal) ℓ) (g : Dev Cert.OutCDxRefIdeal.nD → PrngReg), Pre_OutCDxRefIdeal m →
    θ_run (Cert.OutCDxRefIdeal.defs (F := Ideal)) (onTc (τ := Cert.OutCDxRefIdeal.τ) (Cert.OutCDxRefIdeal.main (F := Ideal))) ⟨m, fun _ => 0, g⟩ (fun r => (∀ c : Dev Cert.OutCDxRefIdeal.nD,
      r.2.mem ((c.tc : Thread Cert.OutCDxRefIdeal.nD Cert.OutCDxRefIdeal.τ).loc Cert.OutCDxRefIdeal.main_arg0) = m ((c.tc : Thread Cert.OutCDxRefIdeal.nD Cert.OutCDxRefIdeal.τ).loc Cert.OutCDxRefIdeal.main_arg0)
      ∧ r.2.mem ((c.tc : Thread Cert.OutCDxRefIdeal.nD Cert.OutCDxRefIdeal.τ).loc Cert.OutCDxRefIdeal.main_arg1) = m ((c.tc : Thread Cert.OutCDxRefIdeal.nD Cert.OutCDxRefIdeal.τ).loc Cert.OutCDxRefIdeal.main_arg1))
      ∧ r.2.sem = fun _ => 0)

def quiescent_OutCDw [hOutCDw : Cert.OutCDw.Facts] : Prop :=
  ∀ (m : (ℓ : Loc Cert.OutCDw.nD Cert.OutCDw.τ Cert.OutCDw.sig) → Buf (Elt Bits) ℓ) (g : Dev Cert.OutCDw.nD → PrngReg), Pre_OutCDw m →
    θ_run (Cert.OutCDw.defs (F := Bits)) (onTc (τ := Cert.OutCDw.τ) (Cert.OutCDw.main (F := Bits))) ⟨m, fun _ => 0, g⟩ (fun r => (∀ c : Dev Cert.OutCDw.nD,
      r.2.mem ((c.tc : Thread Cert.OutCDw.nD Cert.OutCDw.τ).loc Cert.OutCDw.main_arg0) = m ((c.tc : Thread Cert.OutCDw.nD Cert.OutCDw.τ).loc Cert.OutCDw.main_arg0)
      ∧ r.2.mem ((c.tc : Thread Cert.OutCDw.nD Cert.OutCDw.τ).loc Cert.OutCDw.main_arg1) = m ((c.tc : Thread Cert.OutCDw.nD Cert.OutCDw.τ).loc Cert.OutCDw.main_arg1))
      ∧ r.2.sem = fun _ => 0)

def quiescent_OutCDwIdeal [hOutCDwIdeal : Cert.OutCDwIdeal.Facts] : Prop :=
  ∀ (m : (ℓ : Loc Cert.OutCDwIdeal.nD Cert.OutCDwIdeal.τ Cert.OutCDwIdeal.sig) → Buf (Elt Ideal) ℓ) (g : Dev Cert.OutCDwIdeal.nD → PrngReg), Pre_OutCDwIdeal m →
    θ_run (Cert.OutCDwIdeal.defs (F := Ideal)) (onTc (τ := Cert.OutCDwIdeal.τ) (Cert.OutCDwIdeal.main (F := Ideal))) ⟨m, fun _ => 0, g⟩ (fun r => (∀ c : Dev Cert.OutCDwIdeal.nD,
      r.2.mem ((c.tc : Thread Cert.OutCDwIdeal.nD Cert.OutCDwIdeal.τ).loc Cert.OutCDwIdeal.main_arg0) = m ((c.tc : Thread Cert.OutCDwIdeal.nD Cert.OutCDwIdeal.τ).loc Cert.OutCDwIdeal.main_arg0)
      ∧ r.2.mem ((c.tc : Thread Cert.OutCDwIdeal.nD Cert.OutCDwIdeal.τ).loc Cert.OutCDwIdeal.main_arg1) = m ((c.tc : Thread Cert.OutCDwIdeal.nD Cert.OutCDwIdeal.τ).loc Cert.OutCDwIdeal.main_arg1))
      ∧ r.2.sem = fun _ => 0)

def quiescent_OutCDwRefIdeal [hOutCDwRefIdeal : Cert.OutCDwRefIdeal.Facts] : Prop :=
  ∀ (m : (ℓ : Loc Cert.OutCDwRefIdeal.nD Cert.OutCDwRefIdeal.τ Cert.OutCDwRefIdeal.sig) → Buf (Elt Ideal) ℓ) (g : Dev Cert.OutCDwRefIdeal.nD → PrngReg), Pre_OutCDwRefIdeal m →
    θ_run (Cert.OutCDwRefIdeal.defs (F := Ideal)) (onTc (τ := Cert.OutCDwRefIdeal.τ) (Cert.OutCDwRefIdeal.main (F := Ideal))) ⟨m, fun _ => 0, g⟩ (fun r => (∀ c : Dev Cert.OutCDwRefIdeal.nD,
      r.2.mem ((c.tc : Thread Cert.OutCDwRefIdeal.nD Cert.OutCDwRefIdeal.τ).loc Cert.OutCDwRefIdeal.main_arg0) = m ((c.tc : Thread Cert.OutCDwRefIdeal.nD Cert.OutCDwRefIdeal.τ).loc Cert.OutCDwRefIdeal.main_arg0)
      ∧ r.2.mem ((c.tc : Thread Cert.OutCDwRefIdeal.nD Cert.OutCDwRefIdeal.τ).loc Cert.OutCDwRefIdeal.main_arg1) = m ((c.tc : Thread Cert.OutCDwRefIdeal.nD Cert.OutCDwRefIdeal.τ).loc Cert.OutCDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_InCDx [hInCDx : Cert.InCDx.Facts] : Prop :=
  ∀ (m : (ℓ : Loc Cert.InCDx.nD Cert.InCDx.τ Cert.InCDx.sig) → Buf (Elt Bits) ℓ) (g : Dev Cert.InCDx.nD → PrngReg), Pre_InCDx m →
    θ_run (Cert.InCDx.defs (F := Bits)) (onTc (τ := Cert.InCDx.τ) (Cert.InCDx.main (F := Bits))) ⟨m, fun _ => 0, g⟩ (fun r => (∀ c : Dev Cert.InCDx.nD,
      r.2.mem ((c.tc : Thread Cert.InCDx.nD Cert.InCDx.τ).loc Cert.InCDx.main_arg0) = m ((c.tc : Thread Cert.InCDx.nD Cert.InCDx.τ).loc Cert.InCDx.main_arg0)
      ∧ r.2.mem ((c.tc : Thread Cert.InCDx.nD Cert.InCDx.τ).loc Cert.InCDx.main_arg1) = m ((c.tc : Thread Cert.InCDx.nD Cert.InCDx.τ).loc Cert.InCDx.main_arg1)
      ∧ r.2.mem ((c.tc : Thread Cert.InCDx.nD Cert.InCDx.τ).loc Cert.InCDx.main_arg2) = m ((c.tc : Thread Cert.InCDx.nD Cert.InCDx.τ).loc Cert.InCDx.main_arg2))
      ∧ r.2.sem = fun _ => 0)

def quiescent_InCDxIdeal [hInCDxIdeal : Cert.InCDxIdeal.Facts] : Prop :=
  ∀ (m : (ℓ : Loc Cert.InCDxIdeal.nD Cert.InCDxIdeal.τ Cert.InCDxIdeal.sig) → Buf (Elt Ideal) ℓ) (g : Dev Cert.InCDxIdeal.nD → PrngReg), Pre_InCDxIdeal m →
    θ_run (Cert.InCDxIdeal.defs (F := Ideal)) (onTc (τ := Cert.InCDxIdeal.τ) (Cert.InCDxIdeal.main (F := Ideal))) ⟨m, fun _ => 0, g⟩ (fun r => (∀ c : Dev Cert.InCDxIdeal.nD,
      r.2.mem ((c.tc : Thread Cert.InCDxIdeal.nD Cert.InCDxIdeal.τ).loc Cert.InCDxIdeal.main_arg0) = m ((c.tc : Thread Cert.InCDxIdeal.nD Cert.InCDxIdeal.τ).loc Cert.InCDxIdeal.main_arg0)
      ∧ r.2.mem ((c.tc : Thread Cert.InCDxIdeal.nD Cert.InCDxIdeal.τ).loc Cert.InCDxIdeal.main_arg1) = m ((c.tc : Thread Cert.InCDxIdeal.nD Cert.InCDxIdeal.τ).loc Cert.InCDxIdeal.main_arg1)
      ∧ r.2.mem ((c.tc : Thread Cert.InCDxIdeal.nD Cert.InCDxIdeal.τ).loc Cert.InCDxIdeal.main_arg2) = m ((c.tc : Thread Cert.InCDxIdeal.nD Cert.InCDxIdeal.τ).loc Cert.InCDxIdeal.main_arg2))
      ∧ r.2.sem = fun _ => 0)

def quiescent_InCDxRefIdeal [hInCDxRefIdeal : Cert.InCDxRefIdeal.Facts] : Prop :=
  ∀ (m : (ℓ : Loc Cert.InCDxRefIdeal.nD Cert.InCDxRefIdeal.τ Cert.InCDxRefIdeal.sig) → Buf (Elt Ideal) ℓ) (g : Dev Cert.InCDxRefIdeal.nD → PrngReg), Pre_InCDxRefIdeal m →
    θ_run (Cert.InCDxRefIdeal.defs (F := Ideal)) (onTc (τ := Cert.InCDxRefIdeal.τ) (Cert.InCDxRefIdeal.main (F := Ideal))) ⟨m, fun _ => 0, g⟩ (fun r => (∀ c : Dev Cert.InCDxRefIdeal.nD,
      r.2.mem ((c.tc : Thread Cert.InCDxRefIdeal.nD Cert.InCDxRefIdeal.τ).loc Cert.InCDxRefIdeal.main_arg0) = m ((c.tc : Thread Cert.InCDxRefIdeal.nD Cert.InCDxRefIdeal.τ).loc Cert.InCDxRefIdeal.main_arg0)
      ∧ r.2.mem ((c.tc : Thread Cert.InCDxRefIdeal.nD Cert.InCDxRefIdeal.τ).loc Cert.InCDxRefIdeal.main_arg1) = m ((c.tc : Thread Cert.InCDxRefIdeal.nD Cert.InCDxRefIdeal.τ).loc Cert.InCDxRefIdeal.main_arg1)
      ∧ r.2.mem ((c.tc : Thread Cert.InCDxRefIdeal.nD Cert.InCDxRefIdeal.τ).loc Cert.InCDxRefIdeal.main_arg2) = m ((c.tc : Thread Cert.InCDxRefIdeal.nD Cert.InCDxRefIdeal.τ).loc Cert.InCDxRefIdeal.main_arg2))
      ∧ r.2.sem = fun _ => 0)

def quiescent_ColsAb [hColsAb : Cert.ColsAb.Facts] : Prop :=
  ∀ (m : (ℓ : Loc Cert.ColsAb.nD Cert.ColsAb.τ Cert.ColsAb.sig) → Buf (Elt Bits) ℓ) (g : Dev Cert.ColsAb.nD → PrngReg), Pre_ColsAb m →
    θ_run (Cert.ColsAb.defs (F := Bits)) (onTc (τ := Cert.ColsAb.τ) (Cert.ColsAb.main (F := Bits))) ⟨m, fun _ => 0, g⟩ (fun r => (∀ c : Dev Cert.ColsAb.nD,
      r.2.mem ((c.tc : Thread Cert.ColsAb.nD Cert.ColsAb.τ).loc Cert.ColsAb.main_arg0) = m ((c.tc : Thread Cert.ColsAb.nD Cert.ColsAb.τ).loc Cert.ColsAb.main_arg0))
      ∧ r.2.sem = fun _ => 0)

def quiescent_ColsAbIdeal [hColsAbIdeal : Cert.ColsAbIdeal.Facts] : Prop :=
  ∀ (m : (ℓ : Loc Cert.ColsAbIdeal.nD Cert.ColsAbIdeal.τ Cert.ColsAbIdeal.sig) → Buf (Elt Ideal) ℓ) (g : Dev Cert.ColsAbIdeal.nD → PrngReg), Pre_ColsAbIdeal m →
    θ_run (Cert.ColsAbIdeal.defs (F := Ideal)) (onTc (τ := Cert.ColsAbIdeal.τ) (Cert.ColsAbIdeal.main (F := Ideal))) ⟨m, fun _ => 0, g⟩ (fun r => (∀ c : Dev Cert.ColsAbIdeal.nD,
      r.2.mem ((c.tc : Thread Cert.ColsAbIdeal.nD Cert.ColsAbIdeal.τ).loc Cert.ColsAbIdeal.main_arg0) = m ((c.tc : Thread Cert.ColsAbIdeal.nD Cert.ColsAbIdeal.τ).loc Cert.ColsAbIdeal.main_arg0))
      ∧ r.2.sem = fun _ => 0)

def quiescent_ColsAbRefIdeal [hColsAbRefIdeal : Cert.ColsAbRefIdeal.Facts] : Prop :=
  ∀ (m : (ℓ : Loc Cert.ColsAbRefIdeal.nD Cert.ColsAbRefIdeal.τ Cert.ColsAbRefIdeal.sig) → Buf (Elt Ideal) ℓ) (g : Dev Cert.ColsAbRefIdeal.nD → PrngReg), Pre_ColsAbRefIdeal m →
    θ_run (Cert.ColsAbRefIdeal.defs (F := Ideal)) (onTc (τ := Cert.ColsAbRefIdeal.τ) (Cert.ColsAbRefIdeal.main (F := Ideal))) ⟨m, fun _ => 0, g⟩ (fun r => (∀ c : Dev Cert.ColsAbRefIdeal.nD,
      r.2.mem ((c.tc : Thread Cert.ColsAbRefIdeal.nD Cert.ColsAbRefIdeal.τ).loc Cert.ColsAbRefIdeal.main_arg0) = m ((c.tc : Thread Cert.ColsAbRefIdeal.nD Cert.ColsAbRefIdeal.τ).loc Cert.ColsAbRefIdeal.main_arg0))
      ∧ r.2.sem = fun _ => 0)

def quiescent_ColsAbRef [hColsAbRef : Cert.ColsAbRef.Facts] : Prop :=
  ∀ (m : (ℓ : Loc Cert.ColsAbRef.nD Cert.ColsAbRef.τ Cert.ColsAbRef.sig) → Buf (Elt Bits) ℓ) (g : Dev Cert.ColsAbRef.nD → PrngReg), Pre_ColsAbRef m →
    θ_run (Cert.ColsAbRef.defs (F := Bits)) (onTc (τ := Cert.ColsAbRef.τ) (Cert.ColsAbRef.main (F := Bits))) ⟨m, fun _ => 0, g⟩ (fun r => (∀ c : Dev Cert.ColsAbRef.nD,
      r.2.mem ((c.tc : Thread Cert.ColsAbRef.nD Cert.ColsAbRef.τ).loc Cert.ColsAbRef.main_arg0) = m ((c.tc : Thread Cert.ColsAbRef.nD Cert.ColsAbRef.τ).loc Cert.ColsAbRef.main_arg0))
      ∧ r.2.sem = fun _ => 0)

def quiescent_ColsC [hColsC : Cert.ColsC.Facts] : Prop :=
  ∀ (m : (ℓ : Loc Cert.ColsC.nD Cert.ColsC.τ Cert.ColsC.sig) → Buf (Elt Bits) ℓ) (g : Dev Cert.ColsC.nD → PrngReg), Pre_ColsC m →
    θ_run (Cert.ColsC.defs (F := Bits)) (onTc (τ := Cert.ColsC.τ) (Cert.ColsC.main (F := Bits))) ⟨m, fun _ => 0, g⟩ (fun r => (∀ c : Dev Cert.ColsC.nD,
      r.2.mem ((c.tc : Thread Cert.ColsC.nD Cert.ColsC.τ).loc Cert.ColsC.main_arg0) = m ((c.tc : Thread Cert.ColsC.nD Cert.ColsC.τ).loc Cert.ColsC.main_arg0))
      ∧ r.2.sem = fun _ => 0)

def quiescent_ColsCIdeal [hColsCIdeal : Cert.ColsCIdeal.Facts] : Prop :=
  ∀ (m : (ℓ : Loc Cert.ColsCIdeal.nD Cert.ColsCIdeal.τ Cert.ColsCIdeal.sig) → Buf (Elt Ideal) ℓ) (g : Dev Cert.ColsCIdeal.nD → PrngReg), Pre_ColsCIdeal m →
    θ_run (Cert.ColsCIdeal.defs (F := Ideal)) (onTc (τ := Cert.ColsCIdeal.τ) (Cert.ColsCIdeal.main (F := Ideal))) ⟨m, fun _ => 0, g⟩ (fun r => (∀ c : Dev Cert.ColsCIdeal.nD,
      r.2.mem ((c.tc : Thread Cert.ColsCIdeal.nD Cert.ColsCIdeal.τ).loc Cert.ColsCIdeal.main_arg0) = m ((c.tc : Thread Cert.ColsCIdeal.nD Cert.ColsCIdeal.τ).loc Cert.ColsCIdeal.main_arg0))
      ∧ r.2.sem = fun _ => 0)

def quiescent_ColsCRefIdeal [hColsCRefIdeal : Cert.ColsCRefIdeal.Facts] : Prop :=
  ∀ (m : (ℓ : Loc Cert.ColsCRefIdeal.nD Cert.ColsCRefIdeal.τ Cert.ColsCRefIdeal.sig) → Buf (Elt Ideal) ℓ) (g : Dev Cert.ColsCRefIdeal.nD → PrngReg), Pre_ColsCRefIdeal m →
    θ_run (Cert.ColsCRefIdeal.defs (F := Ideal)) (onTc (τ := Cert.ColsCRefIdeal.τ) (Cert.ColsCRefIdeal.main (F := Ideal))) ⟨m, fun _ => 0, g⟩ (fun r => (∀ c : Dev Cert.ColsCRefIdeal.nD,
      r.2.mem ((c.tc : Thread Cert.ColsCRefIdeal.nD Cert.ColsCRefIdeal.τ).loc Cert.ColsCRefIdeal.main_arg0) = m ((c.tc : Thread Cert.ColsCRefIdeal.nD Cert.ColsCRefIdeal.τ).loc Cert.ColsCRefIdeal.main_arg0))
      ∧ r.2.sem = fun _ => 0)

def quiescent_ColsCRef [hColsCRef : Cert.ColsCRef.Facts] : Prop :=
  ∀ (m : (ℓ : Loc Cert.ColsCRef.nD Cert.ColsCRef.τ Cert.ColsCRef.sig) → Buf (Elt Bits) ℓ) (g : Dev Cert.ColsCRef.nD → PrngReg), Pre_ColsCRef m →
    θ_run (Cert.ColsCRef.defs (F := Bits)) (onTc (τ := Cert.ColsCRef.τ) (Cert.ColsCRef.main (F := Bits))) ⟨m, fun _ => 0, g⟩ (fun r => (∀ c : Dev Cert.ColsCRef.nD,
      r.2.mem ((c.tc : Thread Cert.ColsCRef.nD Cert.ColsCRef.τ).loc Cert.ColsCRef.main_arg0) = m ((c.tc : Thread Cert.ColsCRef.nD Cert.ColsCRef.τ).loc Cert.ColsCRef.main_arg0))
      ∧ r.2.sem = fun _ => 0)

def quiescent_ColsUp [hColsUp : Cert.ColsUp.Facts] : Prop :=
  ∀ (m : (ℓ : Loc Cert.ColsUp.nD Cert.ColsUp.τ Cert.ColsUp.sig) → Buf (Elt Bits) ℓ) (g : Dev Cert.ColsUp.nD → PrngReg), Pre_ColsUp m →
    θ_run (Cert.ColsUp.defs (F := Bits)) (onTc (τ := Cert.ColsUp.τ) (Cert.ColsUp.main (F := Bits))) ⟨m, fun _ => 0, g⟩ (fun r => (∀ c : Dev Cert.ColsUp.nD,
      r.2.mem ((c.tc : Thread Cert.ColsUp.nD Cert.ColsUp.τ).loc Cert.ColsUp.main_arg0) = m ((c.tc : Thread Cert.ColsUp.nD Cert.ColsUp.τ).loc Cert.ColsUp.main_arg0))
      ∧ r.2.sem = fun _ => 0)

def quiescent_ColsUpIdeal [hColsUpIdeal : Cert.ColsUpIdeal.Facts] : Prop :=
  ∀ (m : (ℓ : Loc Cert.ColsUpIdeal.nD Cert.ColsUpIdeal.τ Cert.ColsUpIdeal.sig) → Buf (Elt Ideal) ℓ) (g : Dev Cert.ColsUpIdeal.nD → PrngReg), Pre_ColsUpIdeal m →
    θ_run (Cert.ColsUpIdeal.defs (F := Ideal)) (onTc (τ := Cert.ColsUpIdeal.τ) (Cert.ColsUpIdeal.main (F := Ideal))) ⟨m, fun _ => 0, g⟩ (fun r => (∀ c : Dev Cert.ColsUpIdeal.nD,
      r.2.mem ((c.tc : Thread Cert.ColsUpIdeal.nD Cert.ColsUpIdeal.τ).loc Cert.ColsUpIdeal.main_arg0) = m ((c.tc : Thread Cert.ColsUpIdeal.nD Cert.ColsUpIdeal.τ).loc Cert.ColsUpIdeal.main_arg0))
      ∧ r.2.sem = fun _ => 0)

def quiescent_ColsUpRefIdeal [hColsUpRefIdeal : Cert.ColsUpRefIdeal.Facts] : Prop :=
  ∀ (m : (ℓ : Loc Cert.ColsUpRefIdeal.nD Cert.ColsUpRefIdeal.τ Cert.ColsUpRefIdeal.sig) → Buf (Elt Ideal) ℓ) (g : Dev Cert.ColsUpRefIdeal.nD → PrngReg), Pre_ColsUpRefIdeal m →
    θ_run (Cert.ColsUpRefIdeal.defs (F := Ideal)) (onTc (τ := Cert.ColsUpRefIdeal.τ) (Cert.ColsUpRefIdeal.main (F := Ideal))) ⟨m, fun _ => 0, g⟩ (fun r => (∀ c : Dev Cert.ColsUpRefIdeal.nD,
      r.2.mem ((c.tc : Thread Cert.ColsUpRefIdeal.nD Cert.ColsUpRefIdeal.τ).loc Cert.ColsUpRefIdeal.main_arg0) = m ((c.tc : Thread Cert.ColsUpRefIdeal.nD Cert.ColsUpRefIdeal.τ).loc Cert.ColsUpRefIdeal.main_arg0))
      ∧ r.2.sem = fun _ => 0)

def quiescent_ColsUpRef [hColsUpRef : Cert.ColsUpRef.Facts] : Prop :=
  ∀ (m : (ℓ : Loc Cert.ColsUpRef.nD Cert.ColsUpRef.τ Cert.ColsUpRef.sig) → Buf (Elt Bits) ℓ) (g : Dev Cert.ColsUpRef.nD → PrngReg), Pre_ColsUpRef m →
    θ_run (Cert.ColsUpRef.defs (F := Bits)) (onTc (τ := Cert.ColsUpRef.τ) (Cert.ColsUpRef.main (F := Bits))) ⟨m, fun _ => 0, g⟩ (fun r => (∀ c : Dev Cert.ColsUpRef.nD,
      r.2.mem ((c.tc : Thread Cert.ColsUpRef.nD Cert.ColsUpRef.τ).loc Cert.ColsUpRef.main_arg0) = m ((c.tc : Thread Cert.ColsUpRef.nD Cert.ColsUpRef.τ).loc Cert.ColsUpRef.main_arg0))
      ∧ r.2.sem = fun _ => 0)

def quiescent_SlotsAb [hSlotsAb : Cert.SlotsAb.Facts] : Prop :=
  ∀ (m : (ℓ : Loc Cert.SlotsAb.nD Cert.SlotsAb.τ Cert.SlotsAb.sig) → Buf (Elt Bits) ℓ) (g : Dev Cert.SlotsAb.nD → PrngReg), Pre_SlotsAb m →
    θ_run (Cert.SlotsAb.defs (F := Bits)) (onTc (τ := Cert.SlotsAb.τ) (Cert.SlotsAb.main (F := Bits))) ⟨m, fun _ => 0, g⟩ (fun r => (∀ c : Dev Cert.SlotsAb.nD,
      r.2.mem ((c.tc : Thread Cert.SlotsAb.nD Cert.SlotsAb.τ).loc Cert.SlotsAb.main_arg0) = m ((c.tc : Thread Cert.SlotsAb.nD Cert.SlotsAb.τ).loc Cert.SlotsAb.main_arg0))
      ∧ r.2.sem = fun _ => 0)

def quiescent_SlotsAbIdeal [hSlotsAbIdeal : Cert.SlotsAbIdeal.Facts] : Prop :=
  ∀ (m : (ℓ : Loc Cert.SlotsAbIdeal.nD Cert.SlotsAbIdeal.τ Cert.SlotsAbIdeal.sig) → Buf (Elt Ideal) ℓ) (g : Dev Cert.SlotsAbIdeal.nD → PrngReg), Pre_SlotsAbIdeal m →
    θ_run (Cert.SlotsAbIdeal.defs (F := Ideal)) (onTc (τ := Cert.SlotsAbIdeal.τ) (Cert.SlotsAbIdeal.main (F := Ideal))) ⟨m, fun _ => 0, g⟩ (fun r => (∀ c : Dev Cert.SlotsAbIdeal.nD,
      r.2.mem ((c.tc : Thread Cert.SlotsAbIdeal.nD Cert.SlotsAbIdeal.τ).loc Cert.SlotsAbIdeal.main_arg0) = m ((c.tc : Thread Cert.SlotsAbIdeal.nD Cert.SlotsAbIdeal.τ).loc Cert.SlotsAbIdeal.main_arg0))
      ∧ r.2.sem = fun _ => 0)

def quiescent_SlotsAbRefIdeal [hSlotsAbRefIdeal : Cert.SlotsAbRefIdeal.Facts] : Prop :=
  ∀ (m : (ℓ : Loc Cert.SlotsAbRefIdeal.nD Cert.SlotsAbRefIdeal.τ Cert.SlotsAbRefIdeal.sig) → Buf (Elt Ideal) ℓ) (g : Dev Cert.SlotsAbRefIdeal.nD → PrngReg), Pre_SlotsAbRefIdeal m →
    θ_run (Cert.SlotsAbRefIdeal.defs (F := Ideal)) (onTc (τ := Cert.SlotsAbRefIdeal.τ) (Cert.SlotsAbRefIdeal.main (F := Ideal))) ⟨m, fun _ => 0, g⟩ (fun r => (∀ c : Dev Cert.SlotsAbRefIdeal.nD,
      r.2.mem ((c.tc : Thread Cert.SlotsAbRefIdeal.nD Cert.SlotsAbRefIdeal.τ).loc Cert.SlotsAbRefIdeal.main_arg0) = m ((c.tc : Thread Cert.SlotsAbRefIdeal.nD Cert.SlotsAbRefIdeal.τ).loc Cert.SlotsAbRefIdeal.main_arg0))
      ∧ r.2.sem = fun _ => 0)

def quiescent_SlotsAbRef [hSlotsAbRef : Cert.SlotsAbRef.Facts] : Prop :=
  ∀ (m : (ℓ : Loc Cert.SlotsAbRef.nD Cert.SlotsAbRef.τ Cert.SlotsAbRef.sig) → Buf (Elt Bits) ℓ) (g : Dev Cert.SlotsAbRef.nD → PrngReg), Pre_SlotsAbRef m →
    θ_run (Cert.SlotsAbRef.defs (F := Bits)) (onTc (τ := Cert.SlotsAbRef.τ) (Cert.SlotsAbRef.main (F := Bits))) ⟨m, fun _ => 0, g⟩ (fun r => (∀ c : Dev Cert.SlotsAbRef.nD,
      r.2.mem ((c.tc : Thread Cert.SlotsAbRef.nD Cert.SlotsAbRef.τ).loc Cert.SlotsAbRef.main_arg0) = m ((c.tc : Thread Cert.SlotsAbRef.nD Cert.SlotsAbRef.τ).loc Cert.SlotsAbRef.main_arg0))
      ∧ r.2.sem = fun _ => 0)

def quiescent_SlotsC [hSlotsC : Cert.SlotsC.Facts] : Prop :=
  ∀ (m : (ℓ : Loc Cert.SlotsC.nD Cert.SlotsC.τ Cert.SlotsC.sig) → Buf (Elt Bits) ℓ) (g : Dev Cert.SlotsC.nD → PrngReg), Pre_SlotsC m →
    θ_run (Cert.SlotsC.defs (F := Bits)) (onTc (τ := Cert.SlotsC.τ) (Cert.SlotsC.main (F := Bits))) ⟨m, fun _ => 0, g⟩ (fun r => (∀ c : Dev Cert.SlotsC.nD,
      r.2.mem ((c.tc : Thread Cert.SlotsC.nD Cert.SlotsC.τ).loc Cert.SlotsC.main_arg0) = m ((c.tc : Thread Cert.SlotsC.nD Cert.SlotsC.τ).loc Cert.SlotsC.main_arg0)
      ∧ r.2.mem ((c.tc : Thread Cert.SlotsC.nD Cert.SlotsC.τ).loc Cert.SlotsC.main_arg1) = m ((c.tc : Thread Cert.SlotsC.nD Cert.SlotsC.τ).loc Cert.SlotsC.main_arg1))
      ∧ r.2.sem = fun _ => 0)

def quiescent_SlotsCIdeal [hSlotsCIdeal : Cert.SlotsCIdeal.Facts] : Prop :=
  ∀ (m : (ℓ : Loc Cert.SlotsCIdeal.nD Cert.SlotsCIdeal.τ Cert.SlotsCIdeal.sig) → Buf (Elt Ideal) ℓ) (g : Dev Cert.SlotsCIdeal.nD → PrngReg), Pre_SlotsCIdeal m →
    θ_run (Cert.SlotsCIdeal.defs (F := Ideal)) (onTc (τ := Cert.SlotsCIdeal.τ) (Cert.SlotsCIdeal.main (F := Ideal))) ⟨m, fun _ => 0, g⟩ (fun r => (∀ c : Dev Cert.SlotsCIdeal.nD,
      r.2.mem ((c.tc : Thread Cert.SlotsCIdeal.nD Cert.SlotsCIdeal.τ).loc Cert.SlotsCIdeal.main_arg0) = m ((c.tc : Thread Cert.SlotsCIdeal.nD Cert.SlotsCIdeal.τ).loc Cert.SlotsCIdeal.main_arg0)
      ∧ r.2.mem ((c.tc : Thread Cert.SlotsCIdeal.nD Cert.SlotsCIdeal.τ).loc Cert.SlotsCIdeal.main_arg1) = m ((c.tc : Thread Cert.SlotsCIdeal.nD Cert.SlotsCIdeal.τ).loc Cert.SlotsCIdeal.main_arg1))
      ∧ r.2.sem = fun _ => 0)

def quiescent_SlotsCRefIdeal [hSlotsCRefIdeal : Cert.SlotsCRefIdeal.Facts] : Prop :=
  ∀ (m : (ℓ : Loc Cert.SlotsCRefIdeal.nD Cert.SlotsCRefIdeal.τ Cert.SlotsCRefIdeal.sig) → Buf (Elt Ideal) ℓ) (g : Dev Cert.SlotsCRefIdeal.nD → PrngReg), Pre_SlotsCRefIdeal m →
    θ_run (Cert.SlotsCRefIdeal.defs (F := Ideal)) (onTc (τ := Cert.SlotsCRefIdeal.τ) (Cert.SlotsCRefIdeal.main (F := Ideal))) ⟨m, fun _ => 0, g⟩ (fun r => (∀ c : Dev Cert.SlotsCRefIdeal.nD,
      r.2.mem ((c.tc : Thread Cert.SlotsCRefIdeal.nD Cert.SlotsCRefIdeal.τ).loc Cert.SlotsCRefIdeal.main_arg0) = m ((c.tc : Thread Cert.SlotsCRefIdeal.nD Cert.SlotsCRefIdeal.τ).loc Cert.SlotsCRefIdeal.main_arg0)
      ∧ r.2.mem ((c.tc : Thread Cert.SlotsCRefIdeal.nD Cert.SlotsCRefIdeal.τ).loc Cert.SlotsCRefIdeal.main_arg1) = m ((c.tc : Thread Cert.SlotsCRefIdeal.nD Cert.SlotsCRefIdeal.τ).loc Cert.SlotsCRefIdeal.main_arg1))
      ∧ r.2.sem = fun _ => 0)

def quiescent_SlotsCRef [hSlotsCRef : Cert.SlotsCRef.Facts] : Prop :=
  ∀ (m : (ℓ : Loc Cert.SlotsCRef.nD Cert.SlotsCRef.τ Cert.SlotsCRef.sig) → Buf (Elt Bits) ℓ) (g : Dev Cert.SlotsCRef.nD → PrngReg), Pre_SlotsCRef m →
    θ_run (Cert.SlotsCRef.defs (F := Bits)) (onTc (τ := Cert.SlotsCRef.τ) (Cert.SlotsCRef.main (F := Bits))) ⟨m, fun _ => 0, g⟩ (fun r => (∀ c : Dev Cert.SlotsCRef.nD,
      r.2.mem ((c.tc : Thread Cert.SlotsCRef.nD Cert.SlotsCRef.τ).loc Cert.SlotsCRef.main_arg0) = m ((c.tc : Thread Cert.SlotsCRef.nD Cert.SlotsCRef.τ).loc Cert.SlotsCRef.main_arg0)
      ∧ r.2.mem ((c.tc : Thread Cert.SlotsCRef.nD Cert.SlotsCRef.τ).loc Cert.SlotsCRef.main_arg1) = m ((c.tc : Thread Cert.SlotsCRef.nD Cert.SlotsCRef.τ).loc Cert.SlotsCRef.main_arg1))
      ∧ r.2.sem = fun _ => 0)

def quiescent_SlotsUp [hSlotsUp : Cert.SlotsUp.Facts] : Prop :=
  ∀ (m : (ℓ : Loc Cert.SlotsUp.nD Cert.SlotsUp.τ Cert.SlotsUp.sig) → Buf (Elt Bits) ℓ) (g : Dev Cert.SlotsUp.nD → PrngReg), Pre_SlotsUp m →
    θ_run (Cert.SlotsUp.defs (F := Bits)) (onTc (τ := Cert.SlotsUp.τ) (Cert.SlotsUp.main (F := Bits))) ⟨m, fun _ => 0, g⟩ (fun r => (∀ c : Dev Cert.SlotsUp.nD,
      r.2.mem ((c.tc : Thread Cert.SlotsUp.nD Cert.SlotsUp.τ).loc Cert.SlotsUp.main_arg0) = m ((c.tc : Thread Cert.SlotsUp.nD Cert.SlotsUp.τ).loc Cert.SlotsUp.main_arg0))
      ∧ r.2.sem = fun _ => 0)

def quiescent_SlotsUpIdeal [hSlotsUpIdeal : Cert.SlotsUpIdeal.Facts] : Prop :=
  ∀ (m : (ℓ : Loc Cert.SlotsUpIdeal.nD Cert.SlotsUpIdeal.τ Cert.SlotsUpIdeal.sig) → Buf (Elt Ideal) ℓ) (g : Dev Cert.SlotsUpIdeal.nD → PrngReg), Pre_SlotsUpIdeal m →
    θ_run (Cert.SlotsUpIdeal.defs (F := Ideal)) (onTc (τ := Cert.SlotsUpIdeal.τ) (Cert.SlotsUpIdeal.main (F := Ideal))) ⟨m, fun _ => 0, g⟩ (fun r => (∀ c : Dev Cert.SlotsUpIdeal.nD,
      r.2.mem ((c.tc : Thread Cert.SlotsUpIdeal.nD Cert.SlotsUpIdeal.τ).loc Cert.SlotsUpIdeal.main_arg0) = m ((c.tc : Thread Cert.SlotsUpIdeal.nD Cert.SlotsUpIdeal.τ).loc Cert.SlotsUpIdeal.main_arg0))
      ∧ r.2.sem = fun _ => 0)

def quiescent_SlotsUpRefIdeal [hSlotsUpRefIdeal : Cert.SlotsUpRefIdeal.Facts] : Prop :=
  ∀ (m : (ℓ : Loc Cert.SlotsUpRefIdeal.nD Cert.SlotsUpRefIdeal.τ Cert.SlotsUpRefIdeal.sig) → Buf (Elt Ideal) ℓ) (g : Dev Cert.SlotsUpRefIdeal.nD → PrngReg), Pre_SlotsUpRefIdeal m →
    θ_run (Cert.SlotsUpRefIdeal.defs (F := Ideal)) (onTc (τ := Cert.SlotsUpRefIdeal.τ) (Cert.SlotsUpRefIdeal.main (F := Ideal))) ⟨m, fun _ => 0, g⟩ (fun r => (∀ c : Dev Cert.SlotsUpRefIdeal.nD,
      r.2.mem ((c.tc : Thread Cert.SlotsUpRefIdeal.nD Cert.SlotsUpRefIdeal.τ).loc Cert.SlotsUpRefIdeal.main_arg0) = m ((c.tc : Thread Cert.SlotsUpRefIdeal.nD Cert.SlotsUpRefIdeal.τ).loc Cert.SlotsUpRefIdeal.main_arg0))
      ∧ r.2.sem = fun _ => 0)

def quiescent_SlotsUpRef [hSlotsUpRef : Cert.SlotsUpRef.Facts] : Prop :=
  ∀ (m : (ℓ : Loc Cert.SlotsUpRef.nD Cert.SlotsUpRef.τ Cert.SlotsUpRef.sig) → Buf (Elt Bits) ℓ) (g : Dev Cert.SlotsUpRef.nD → PrngReg), Pre_SlotsUpRef m →
    θ_run (Cert.SlotsUpRef.defs (F := Bits)) (onTc (τ := Cert.SlotsUpRef.τ) (Cert.SlotsUpRef.main (F := Bits))) ⟨m, fun _ => 0, g⟩ (fun r => (∀ c : Dev Cert.SlotsUpRef.nD,
      r.2.mem ((c.tc : Thread Cert.SlotsUpRef.nD Cert.SlotsUpRef.τ).loc Cert.SlotsUpRef.main_arg0) = m ((c.tc : Thread Cert.SlotsUpRef.nD Cert.SlotsUpRef.τ).loc Cert.SlotsUpRef.main_arg0))
      ∧ r.2.sem = fun _ => 0)

def quiescent_DecaySum [hDecaySum : Cert.DecaySum.Facts] : Prop :=
  ∀ (m : (ℓ : Loc Cert.DecaySum.nD Cert.DecaySum.τ Cert.DecaySum.sig) → Buf (Elt Bits) ℓ) (g : Dev Cert.DecaySum.nD → PrngReg), Pre_DecaySum m →
    θ_run (Cert.DecaySum.defs (F := Bits)) (onTc (τ := Cert.DecaySum.τ) (Cert.DecaySum.main (F := Bits))) ⟨m, fun _ => 0, g⟩ (fun r => (∀ c : Dev Cert.DecaySum.nD,
      r.2.mem ((c.tc : Thread Cert.DecaySum.nD Cert.DecaySum.τ).loc Cert.DecaySum.main_arg0) = m ((c.tc : Thread Cert.DecaySum.nD Cert.DecaySum.τ).loc Cert.DecaySum.main_arg0))
      ∧ r.2.sem = fun _ => 0)

def quiescent_DecaySumIdeal [hDecaySumIdeal : Cert.DecaySumIdeal.Facts] : Prop :=
  ∀ (m : (ℓ : Loc Cert.DecaySumIdeal.nD Cert.DecaySumIdeal.τ Cert.DecaySumIdeal.sig) → Buf (Elt Ideal) ℓ) (g : Dev Cert.DecaySumIdeal.nD → PrngReg), Pre_DecaySumIdeal m →
    θ_run (Cert.DecaySumIdeal.defs (F := Ideal)) (onTc (τ := Cert.DecaySumIdeal.τ) (Cert.DecaySumIdeal.main (F := Ideal))) ⟨m, fun _ => 0, g⟩ (fun r => (∀ c : Dev Cert.DecaySumIdeal.nD,
      r.2.mem ((c.tc : Thread Cert.DecaySumIdeal.nD Cert.DecaySumIdeal.τ).loc Cert.DecaySumIdeal.main_arg0) = m ((c.tc : Thread Cert.DecaySumIdeal.nD Cert.DecaySumIdeal.τ).loc Cert.DecaySumIdeal.main_arg0))
      ∧ r.2.sem = fun _ => 0)

def quiescent_DecaySumRefIdeal [hDecaySumRefIdeal : Cert.DecaySumRefIdeal.Facts] : Prop :=
  ∀ (m : (ℓ : Loc Cert.DecaySumRefIdeal.nD Cert.DecaySumRefIdeal.τ Cert.DecaySumRefIdeal.sig) → Buf (Elt Ideal) ℓ) (g : Dev Cert.DecaySumRefIdeal.nD → PrngReg), Pre_DecaySumRefIdeal m →
    θ_run (Cert.DecaySumRefIdeal.defs (F := Ideal)) (onTc (τ := Cert.DecaySumRefIdeal.τ) (Cert.DecaySumRefIdeal.main (F := Ideal))) ⟨m, fun _ => 0, g⟩ (fun r => (∀ c : Dev Cert.DecaySumRefIdeal.nD,
      r.2.mem ((c.tc : Thread Cert.DecaySumRefIdeal.nD Cert.DecaySumRefIdeal.τ).loc Cert.DecaySumRefIdeal.main_arg0) = m ((c.tc : Thread Cert.DecaySumRefIdeal.nD Cert.DecaySumRefIdeal.τ).loc Cert.DecaySumRefIdeal.main_arg0))
      ∧ r.2.sem = fun _ => 0)

def preserves_Gather_GatherIdeal : Prop :=
  True

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![2048, 448]⟩ ⟨2, ![2048, 3584]⟩ 1 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![2048, 648]⟩ ⟨2, ![2048, 5184]⟩ 1 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![4096, 704]⟩ ⟨2, ![4096, 5632]⟩ 1 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![2176, 1024]⟩ ⟨2, ![17408, 1024]⟩ 0 8 c (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.block ⟨2, ![112, 128]⟩ ⟨2, ![896, 128]⟩ 0 8 c (m' (((0 : Dev Cert.GatherRef.nD).tc : Thread Cert.GatherRef.nD Cert.GatherRef.τ).loc Cert.GatherRef.main_arg4))) →
    ∃ (v0 : Buf (Elt Bits) (((0 : Dev Cert.GatherRef.nD).tc : Thread Cert.GatherRef.nD Cert.GatherRef.τ).loc Cert.GatherRef.main_v1)) (v1 : Buf (Elt Bits) (((0 : Dev Cert.GatherRef.nD).tc : Thread Cert.GatherRef.nD Cert.GatherRef.τ).loc Cert.GatherRef.main_v3)) (v2 : Buf (Elt Bits) (((0 : Dev Cert.GatherRef.nD).tc : Thread Cert.GatherRef.nD Cert.GatherRef.τ).loc Cert.GatherRef.main_v5)) (v3 : Buf (Elt Bits) (((0 : Dev Cert.GatherRef.nD).tc : Thread Cert.GatherRef.nD Cert.GatherRef.τ).loc Cert.GatherRef.main_v6)) (v4 : Buf (Elt Bits) (((0 : Dev Cert.GatherRef.nD).tc : Thread Cert.GatherRef.nD Cert.GatherRef.τ).loc Cert.GatherRef.main_v7)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_v3) = v1
          ∧ r.2.mem (((0 : Dev Cert.GatherRef.nD).tc : Thread Cert.GatherRef.nD Cert.GatherRef.τ).loc Cert.GatherRef.main_v5) = v2
          ∧ r.2.mem (((0 : Dev Cert.GatherRef.nD).tc : Thread Cert.GatherRef.nD Cert.GatherRef.τ).loc Cert.GatherRef.main_v6) = v3
          ∧ r.2.mem (((0 : Dev Cert.GatherRef.nD).tc : Thread Cert.GatherRef.nD Cert.GatherRef.τ).loc Cert.GatherRef.main_v7) = v4
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4))

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2048, 448]⟩ ⟨2, ![2048, 3584]⟩ 1 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![2048, 648]⟩ ⟨2, ![2048, 5184]⟩ 1 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![4096, 704]⟩ ⟨2, ![4096, 5632]⟩ 1 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![2176, 1024]⟩ ⟨2, ![17408, 1024]⟩ 0 8 c (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.block ⟨2, ![112, 128]⟩ ⟨2, ![896, 128]⟩ 0 8 c (m' (((0 : Dev Cert.GatherRefIdeal.nD).tc : Thread Cert.GatherRefIdeal.nD Cert.GatherRefIdeal.τ).loc Cert.GatherRefIdeal.main_arg4))) →
    ∃ (v0 : Buf (Elt Ideal) (((0 : Dev Cert.GatherRefIdeal.nD).tc : Thread Cert.GatherRefIdeal.nD Cert.GatherRefIdeal.τ).loc Cert.GatherRefIdeal.main_v1)) (v1 : Buf (Elt Ideal) (((0 : Dev Cert.GatherRefIdeal.nD).tc : Thread Cert.GatherRefIdeal.nD Cert.GatherRefIdeal.τ).loc Cert.GatherRefIdeal.main_v3)) (v2 : Buf (Elt Ideal) (((0 : Dev Cert.GatherRefIdeal.nD).tc : Thread Cert.GatherRefIdeal.nD Cert.GatherRefIdeal.τ).loc Cert.GatherRefIdeal.main_v5)) (v3 : Buf (Elt Ideal) (((0 : Dev Cert.GatherRefIdeal.nD).tc : Thread Cert.GatherRefIdeal.nD Cert.GatherRefIdeal.τ).loc Cert.GatherRefIdeal.main_v6)) (v4 : Buf (Elt Ideal) (((0 : Dev Cert.GatherRefIdeal.nD).tc : Thread Cert.GatherRefIdeal.nD Cert.GatherRefIdeal.τ).loc Cert.GatherRefIdeal.main_v7)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v3) = v1
          ∧ r.2.mem (((0 : Dev Cert.GatherRefIdeal.nD).tc : Thread Cert.GatherRefIdeal.nD Cert.GatherRefIdeal.τ).loc Cert.GatherRefIdeal.main_v5) = v2
          ∧ r.2.mem (((0 : Dev Cert.GatherRefIdeal.nD).tc : Thread Cert.GatherRefIdeal.nD Cert.GatherRefIdeal.τ).loc Cert.GatherRefIdeal.main_v6) = v3
          ∧ r.2.mem (((0 : Dev Cert.GatherRefIdeal.nD).tc : Thread Cert.GatherRefIdeal.nD Cert.GatherRefIdeal.τ).loc Cert.GatherRefIdeal.main_v7) = v4
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4))

def preserves_Sibling_SiblingIdeal : Prop :=
  True

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨3, ![8, 2048, 448]⟩ ⟨3, ![64, 2048, 448]⟩ 0 8 c (m' (((0 : Dev Cert.SiblingRef.nD).tc : Thread Cert.SiblingRef.nD Cert.SiblingRef.τ).loc Cert.SiblingRef.main_arg0))
      ∧ m ((c.tc : Thread Cert.Sibling.nD Cert.Sibling.τ).loc Cert.Sibling.main_arg1) = Layout.block ⟨3, ![8, 2048, 648]⟩ ⟨3, ![64, 2048, 648]⟩ 0 8 c (m' (((0 : Dev Cert.SiblingRef.nD).tc : Thread Cert.SiblingRef.nD Cert.SiblingRef.τ).loc Cert.SiblingRef.main_arg1))
      ∧ m ((c.tc : Thread Cert.Sibling.nD Cert.Sibling.τ).loc Cert.Sibling.main_arg2) = Layout.block ⟨3, ![8, 4096, 704]⟩ ⟨3, ![64, 4096, 704]⟩ 0 8 c (m' (((0 : Dev Cert.SiblingRef.nD).tc : Thread Cert.SiblingRef.nD Cert.SiblingRef.τ).loc Cert.SiblingRef.main_arg2))
      ∧ m ((c.tc : Thread Cert.Sibling.nD Cert.Sibling.τ).loc Cert.Sibling.main_arg3) = Layout.block ⟨3, ![8, 2176, 1024]⟩ ⟨3, ![64, 2176, 1024]⟩ 0 8 c (m' (((0 : Dev Cert.SiblingRef.nD).tc : Thread Cert.SiblingRef.nD Cert.SiblingRef.τ).loc Cert.SiblingRef.main_arg3))
      ∧ m ((c.tc : Thread Cert.Sibling.nD Cert.Sibling.τ).loc Cert.Sibling.main_arg4) = Layout.block ⟨3, ![8, 112, 128]⟩ ⟨3, ![64, 112, 128]⟩ 0 8 c (m' (((0 : Dev Cert.SiblingRef.nD).tc : Thread Cert.SiblingRef.nD Cert.SiblingRef.τ).loc Cert.SiblingRef.main_arg4))
      ∧ m ((c.tc : Thread Cert.Sibling.nD Cert.Sibling.τ).loc Cert.Sibling.main_arg5) = Layout.block ⟨2, ![376, 128]⟩ ⟨2, ![3008, 128]⟩ 0 8 c (m' (((0 : Dev Cert.SiblingRef.nD).tc : Thread Cert.SiblingRef.nD Cert.SiblingRef.τ).loc Cert.SiblingRef.main_arg5))) →
    ∃ (v0 : Buf (Elt Bits) (((0 : Dev Cert.SiblingRef.nD).tc : Thread Cert.SiblingRef.nD Cert.SiblingRef.τ).loc Cert.SiblingRef.main_v8)) (v1 : Buf (Elt Bits) (((0 : Dev Cert.SiblingRef.nD).tc : Thread Cert.SiblingRef.nD Cert.SiblingRef.τ).loc Cert.SiblingRef.main_v17)) (v2 : Buf (Elt Bits) (((0 : Dev Cert.SiblingRef.nD).tc : Thread Cert.SiblingRef.nD Cert.SiblingRef.τ).loc Cert.SiblingRef.main_v26)) (v3 : Buf (Elt Bits) (((0 : Dev Cert.SiblingRef.nD).tc : Thread Cert.SiblingRef.nD Cert.SiblingRef.τ).loc Cert.SiblingRef.main_v35)) (v4 : Buf (Elt Bits) (((0 : Dev Cert.SiblingRef.nD).tc : Thread Cert.SiblingRef.nD Cert.SiblingRef.τ).loc Cert.SiblingRef.main_v44)) (v5 : Buf (Elt Bits) (((0 : Dev Cert.SiblingRef.nD).tc : Thread Cert.SiblingRef.nD Cert.SiblingRef.τ).loc Cert.SiblingRef.main_v47)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1_0) = Layout.block ⟨3, ![4, 2048, 448]⟩ ⟨3, ![32, 2048, 448]⟩ 0 8 c v0
          ∧ r.2.mem ((c.tc : Thread Cert.Sibling.nD Cert.Sibling.τ).loc Cert.Sibling.main_v1_1) = Layout.block ⟨3, ![4, 2048, 648]⟩ ⟨3, ![32, 2048, 648]⟩ 0 8 c v1
          ∧ r.2.mem ((c.tc : Thread Cert.Sibling.nD Cert.Sibling.τ).loc Cert.Sibling.main_v1_2) = Layout.block ⟨3, ![4, 4096, 704]⟩ ⟨3, ![32, 4096, 704]⟩ 0 8 c v2
          ∧ r.2.mem ((c.tc : Thread Cert.Sibling.nD Cert.Sibling.τ).loc Cert.Sibling.main_v1_3) = Layout.block ⟨3, ![4, 2176, 1024]⟩ ⟨3, ![32, 2176, 1024]⟩ 0 8 c v3
          ∧ r.2.mem ((c.tc : Thread Cert.Sibling.nD Cert.Sibling.τ).loc Cert.Sibling.main_v1_4) = Layout.block ⟨3, ![4, 112, 128]⟩ ⟨3, ![32, 112, 128]⟩ 0 8 c v4
          ∧ r.2.mem ((c.tc : Thread Cert.Sibling.nD Cert.Sibling.τ).loc Cert.Sibling.main_v1_5) = Layout.block ⟨2, ![376, 128]⟩ ⟨2, ![3008, 128]⟩ 0 8 c v5
          ∧ r.2.mem ((c.tc : Thread Cert.Sibling.nD Cert.Sibling.τ).loc Cert.Sibling.main_arg0) = m ((c.tc : Thread Cert.Sibling.nD Cert.Sibling.τ).loc Cert.Sibling.main_arg0)
          ∧ r.2.mem ((c.tc : Thread Cert.Sibling.nD Cert.Sibling.τ).loc Cert.Sibling.main_arg1) = m ((c.tc : Thread Cert.Sibling.nD Cert.Sibling.τ).loc Cert.Sibling.main_arg1)
          ∧ r.2.mem ((c.tc : Thread Cert.Sibling.nD Cert.Sibling.τ).loc Cert.Sibling.main_arg2) = m ((c.tc : Thread Cert.Sibling.nD Cert.Sibling.τ).loc Cert.Sibling.main_arg2)
          ∧ r.2.mem ((c.tc : Thread Cert.Sibling.nD Cert.Sibling.τ).loc Cert.Sibling.main_arg3) = m ((c.tc : Thread Cert.Sibling.nD Cert.Sibling.τ).loc Cert.Sibling.main_arg3)
          ∧ r.2.mem ((c.tc : Thread Cert.Sibling.nD Cert.Sibling.τ).loc Cert.Sibling.main_arg4) = m ((c.tc : Thread Cert.Sibling.nD Cert.Sibling.τ).loc Cert.Sibling.main_arg4)
          ∧ r.2.mem ((c.tc : Thread Cert.Sibling.nD Cert.Sibling.τ).loc Cert.Sibling.main_arg5) = m ((c.tc : Thread Cert.Sibling.nD Cert.Sibling.τ).loc Cert.Sibling.main_arg5))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v8) = v0
          ∧ r.2.mem (((0 : Dev Cert.SiblingRef.nD).tc : Thread Cert.SiblingRef.nD Cert.SiblingRef.τ).loc Cert.SiblingRef.main_v17) = v1
          ∧ r.2.mem (((0 : Dev Cert.SiblingRef.nD).tc : Thread Cert.SiblingRef.nD Cert.SiblingRef.τ).loc Cert.SiblingRef.main_v26) = v2
          ∧ r.2.mem (((0 : Dev Cert.SiblingRef.nD).tc : Thread Cert.SiblingRef.nD Cert.SiblingRef.τ).loc Cert.SiblingRef.main_v35) = v3
          ∧ r.2.mem (((0 : Dev Cert.SiblingRef.nD).tc : Thread Cert.SiblingRef.nD Cert.SiblingRef.τ).loc Cert.SiblingRef.main_v44) = v4
          ∧ r.2.mem (((0 : Dev Cert.SiblingRef.nD).tc : Thread Cert.SiblingRef.nD Cert.SiblingRef.τ).loc Cert.SiblingRef.main_v47) = v5
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0)
          ∧ r.2.mem (((0 : Dev Cert.SiblingRef.nD).tc : Thread Cert.SiblingRef.nD Cert.SiblingRef.τ).loc Cert.SiblingRef.main_arg1) = m' (((0 : Dev Cert.SiblingRef.nD).tc : Thread Cert.SiblingRef.nD Cert.SiblingRef.τ).loc Cert.SiblingRef.main_arg1)
          ∧ r.2.mem (((0 : Dev Cert.SiblingRef.nD).tc : Thread Cert.SiblingRef.nD Cert.SiblingRef.τ).loc Cert.SiblingRef.main_arg2) = m' (((0 : Dev Cert.SiblingRef.nD).tc : Thread Cert.SiblingRef.nD Cert.SiblingRef.τ).loc Cert.SiblingRef.main_arg2)
          ∧ r.2.mem (((0 : Dev Cert.SiblingRef.nD).tc : Thread Cert.SiblingRef.nD Cert.SiblingRef.τ).loc Cert.SiblingRef.main_arg3) = m' (((0 : Dev Cert.SiblingRef.nD).tc : Thread Cert.SiblingRef.nD Cert.SiblingRef.τ).loc Cert.SiblingRef.main_arg3)
          ∧ r.2.mem (((0 : Dev Cert.SiblingRef.nD).tc : Thread Cert.SiblingRef.nD Cert.SiblingRef.τ).loc Cert.SiblingRef.main_arg4) = m' (((0 : Dev Cert.SiblingRef.nD).tc : Thread Cert.SiblingRef.nD Cert.SiblingRef.τ).loc Cert.SiblingRef.main_arg4)
          ∧ r.2.mem (((0 : Dev Cert.SiblingRef.nD).tc : Thread Cert.SiblingRef.nD Cert.SiblingRef.τ).loc Cert.SiblingRef.main_arg5) = m' (((0 : Dev Cert.SiblingRef.nD).tc : Thread Cert.SiblingRef.nD Cert.SiblingRef.τ).loc Cert.SiblingRef.main_arg5))

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨3, ![8, 2048, 448]⟩ ⟨3, ![64, 2048, 448]⟩ 0 8 c (m' (((0 : Dev Cert.SiblingRefIdeal.nD).tc : Thread Cert.SiblingRefIdeal.nD Cert.SiblingRefIdeal.τ).loc Cert.SiblingRefIdeal.main_arg0))
      ∧ m ((c.tc : Thread Cert.SiblingIdeal.nD Cert.SiblingIdeal.τ).loc Cert.SiblingIdeal.main_arg1) = Layout.block ⟨3, ![8, 2048, 648]⟩ ⟨3, ![64, 2048, 648]⟩ 0 8 c (m' (((0 : Dev Cert.SiblingRefIdeal.nD).tc : Thread Cert.SiblingRefIdeal.nD Cert.SiblingRefIdeal.τ).loc Cert.SiblingRefIdeal.main_arg1))
      ∧ m ((c.tc : Thread Cert.SiblingIdeal.nD Cert.SiblingIdeal.τ).loc Cert.SiblingIdeal.main_arg2) = Layout.block ⟨3, ![8, 4096, 704]⟩ ⟨3, ![64, 4096, 704]⟩ 0 8 c (m' (((0 : Dev Cert.SiblingRefIdeal.nD).tc : Thread Cert.SiblingRefIdeal.nD Cert.SiblingRefIdeal.τ).loc Cert.SiblingRefIdeal.main_arg2))
      ∧ m ((c.tc : Thread Cert.SiblingIdeal.nD Cert.SiblingIdeal.τ).loc Cert.SiblingIdeal.main_arg3) = Layout.block ⟨3, ![8, 2176, 1024]⟩ ⟨3, ![64, 2176, 1024]⟩ 0 8 c (m' (((0 : Dev Cert.SiblingRefIdeal.nD).tc : Thread Cert.SiblingRefIdeal.nD Cert.SiblingRefIdeal.τ).loc Cert.SiblingRefIdeal.main_arg3))
      ∧ m ((c.tc : Thread Cert.SiblingIdeal.nD Cert.SiblingIdeal.τ).loc Cert.SiblingIdeal.main_arg4) = Layout.block ⟨3, ![8, 112, 128]⟩ ⟨3, ![64, 112, 128]⟩ 0 8 c (m' (((0 : Dev Cert.SiblingRefIdeal.nD).tc : Thread Cert.SiblingRefIdeal.nD Cert.SiblingRefIdeal.τ).loc Cert.SiblingRefIdeal.main_arg4))
      ∧ m ((c.tc : Thread Cert.SiblingIdeal.nD Cert.SiblingIdeal.τ).loc Cert.SiblingIdeal.main_arg5) = Layout.block ⟨2, ![376, 128]⟩ ⟨2, ![3008, 128]⟩ 0 8 c (m' (((0 : Dev Cert.SiblingRefIdeal.nD).tc : Thread Cert.SiblingRefIdeal.nD Cert.SiblingRefIdeal.τ).loc Cert.SiblingRefIdeal.main_arg5))) →
    ∃ (v0 : Buf (Elt Ideal) (((0 : Dev Cert.SiblingRefIdeal.nD).tc : Thread Cert.SiblingRefIdeal.nD Cert.SiblingRefIdeal.τ).loc Cert.SiblingRefIdeal.main_v8)) (v1 : Buf (Elt Ideal) (((0 : Dev Cert.SiblingRefIdeal.nD).tc : Thread Cert.SiblingRefIdeal.nD Cert.SiblingRefIdeal.τ).loc Cert.SiblingRefIdeal.main_v17)) (v2 : Buf (Elt Ideal) (((0 : Dev Cert.SiblingRefIdeal.nD).tc : Thread Cert.SiblingRefIdeal.nD Cert.SiblingRefIdeal.τ).loc Cert.SiblingRefIdeal.main_v26)) (v3 : Buf (Elt Ideal) (((0 : Dev Cert.SiblingRefIdeal.nD).tc : Thread Cert.SiblingRefIdeal.nD Cert.SiblingRefIdeal.τ).loc Cert.SiblingRefIdeal.main_v35)) (v4 : Buf (Elt Ideal) (((0 : Dev Cert.SiblingRefIdeal.nD).tc : Thread Cert.SiblingRefIdeal.nD Cert.SiblingRefIdeal.τ).loc Cert.SiblingRefIdeal.main_v44)) (v5 : Buf (Elt Ideal) (((0 : Dev Cert.SiblingRefIdeal.nD).tc : Thread Cert.SiblingRefIdeal.nD Cert.SiblingRefIdeal.τ).loc Cert.SiblingRefIdeal.main_v47)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1_0) = Layout.block ⟨3, ![4, 2048, 448]⟩ ⟨3, ![32, 2048, 448]⟩ 0 8 c v0
          ∧ r.2.mem ((c.tc : Thread Cert.SiblingIdeal.nD Cert.SiblingIdeal.τ).loc Cert.SiblingIdeal.main_v1_1) = Layout.block ⟨3, ![4, 2048, 648]⟩ ⟨3, ![32, 2048, 648]⟩ 0 8 c v1
          ∧ r.2.mem ((c.tc : Thread Cert.SiblingIdeal.nD Cert.SiblingIdeal.τ).loc Cert.SiblingIdeal.main_v1_2) = Layout.block ⟨3, ![4, 4096, 704]⟩ ⟨3, ![32, 4096, 704]⟩ 0 8 c v2
          ∧ r.2.mem ((c.tc : Thread Cert.SiblingIdeal.nD Cert.SiblingIdeal.τ).loc Cert.SiblingIdeal.main_v1_3) = Layout.block ⟨3, ![4, 2176, 1024]⟩ ⟨3, ![32, 2176, 1024]⟩ 0 8 c v3
          ∧ r.2.mem ((c.tc : Thread Cert.SiblingIdeal.nD Cert.SiblingIdeal.τ).loc Cert.SiblingIdeal.main_v1_4) = Layout.block ⟨3, ![4, 112, 128]⟩ ⟨3, ![32, 112, 128]⟩ 0 8 c v4
          ∧ r.2.mem ((c.tc : Thread Cert.SiblingIdeal.nD Cert.SiblingIdeal.τ).loc Cert.SiblingIdeal.main_v1_5) = Layout.block ⟨2, ![376, 128]⟩ ⟨2, ![3008, 128]⟩ 0 8 c v5
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
          ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1)
          ∧ r.2.mem ((c.tc : Thread Cert.SiblingIdeal.nD Cert.SiblingIdeal.τ).loc Cert.SiblingIdeal.main_arg2) = m ((c.tc : Thread Cert.SiblingIdeal.nD Cert.SiblingIdeal.τ).loc Cert.SiblingIdeal.main_arg2)
          ∧ r.2.mem ((c.tc : Thread Cert.SiblingIdeal.nD Cert.SiblingIdeal.τ).loc Cert.SiblingIdeal.main_arg3) = m ((c.tc : Thread Cert.SiblingIdeal.nD Cert.SiblingIdeal.τ).loc Cert.SiblingIdeal.main_arg3)
          ∧ r.2.mem ((c.tc : Thread Cert.SiblingIdeal.nD Cert.SiblingIdeal.τ).loc Cert.SiblingIdeal.main_arg4) = m ((c.tc : Thread Cert.SiblingIdeal.nD Cert.SiblingIdeal.τ).loc Cert.SiblingIdeal.main_arg4)
          ∧ r.2.mem ((c.tc : Thread Cert.SiblingIdeal.nD Cert.SiblingIdeal.τ).loc Cert.SiblingIdeal.main_arg5) = m ((c.tc : Thread Cert.SiblingIdeal.nD Cert.SiblingIdeal.τ).loc Cert.SiblingIdeal.main_arg5))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_v17) = v1
          ∧ r.2.mem (((0 : Dev Cert.SiblingRefIdeal.nD).tc : Thread Cert.SiblingRefIdeal.nD Cert.SiblingRefIdeal.τ).loc Cert.SiblingRefIdeal.main_v26) = v2
          ∧ r.2.mem (((0 : Dev Cert.SiblingRefIdeal.nD).tc : Thread Cert.SiblingRefIdeal.nD Cert.SiblingRefIdeal.τ).loc Cert.SiblingRefIdeal.main_v35) = v3
          ∧ r.2.mem (((0 : Dev Cert.SiblingRefIdeal.nD).tc : Thread Cert.SiblingRefIdeal.nD Cert.SiblingRefIdeal.τ).loc Cert.SiblingRefIdeal.main_v44) = v4
          ∧ r.2.mem (((0 : Dev Cert.SiblingRefIdeal.nD).tc : Thread Cert.SiblingRefIdeal.nD Cert.SiblingRefIdeal.τ).loc Cert.SiblingRefIdeal.main_v47) = v5
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0)
          ∧ r.2.mem (((0 : Dev Cert.SiblingRefIdeal.nD).tc : Thread Cert.SiblingRefIdeal.nD Cert.SiblingRefIdeal.τ).loc Cert.SiblingRefIdeal.main_arg1) = m' (((0 : Dev Cert.SiblingRefIdeal.nD).tc : Thread Cert.SiblingRefIdeal.nD Cert.SiblingRefIdeal.τ).loc Cert.SiblingRefIdeal.main_arg1)
          ∧ r.2.mem (((0 : Dev Cert.SiblingRefIdeal.nD).tc : Thread Cert.SiblingRefIdeal.nD Cert.SiblingRefIdeal.τ).loc Cert.SiblingRefIdeal.main_arg2) = m' (((0 : Dev Cert.SiblingRefIdeal.nD).tc : Thread Cert.SiblingRefIdeal.nD Cert.SiblingRefIdeal.τ).loc Cert.SiblingRefIdeal.main_arg2)
          ∧ r.2.mem (((0 : Dev Cert.SiblingRefIdeal.nD).tc : Thread Cert.SiblingRefIdeal.nD Cert.SiblingRefIdeal.τ).loc Cert.SiblingRefIdeal.main_arg3) = m' (((0 : Dev Cert.SiblingRefIdeal.nD).tc : Thread Cert.SiblingRefIdeal.nD Cert.SiblingRefIdeal.τ).loc Cert.SiblingRefIdeal.main_arg3)
          ∧ r.2.mem (((0 : Dev Cert.SiblingRefIdeal.nD).tc : Thread Cert.SiblingRefIdeal.nD Cert.SiblingRefIdeal.τ).loc Cert.SiblingRefIdeal.main_arg4) = m' (((0 : Dev Cert.SiblingRefIdeal.nD).tc : Thread Cert.SiblingRefIdeal.nD Cert.SiblingRefIdeal.τ).loc Cert.SiblingRefIdeal.main_arg4)
          ∧ r.2.mem (((0 : Dev Cert.SiblingRefIdeal.nD).tc : Thread Cert.SiblingRefIdeal.nD Cert.SiblingRefIdeal.τ).loc Cert.SiblingRefIdeal.main_arg5) = m' (((0 : Dev Cert.SiblingRefIdeal.nD).tc : Thread Cert.SiblingRefIdeal.nD Cert.SiblingRefIdeal.τ).loc Cert.SiblingRefIdeal.main_arg5))

def preserves_Chips_ChipsIdeal : Prop :=
  True

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 2048, 448]⟩ ⟨3, ![32, 2048, 448]⟩ 0 8 c (m' (((0 : Dev Cert.ChipsRef.nD).tc : Thread Cert.ChipsRef.nD Cert.ChipsRef.τ).loc Cert.ChipsRef.main_arg0))
      ∧ m ((c.tc : Thread Cert.Chips.nD Cert.Chips.τ).loc Cert.Chips.main_arg1) = Layout.block ⟨3, ![4, 2048, 648]⟩ ⟨3, ![32, 2048, 648]⟩ 0 8 c (m' (((0 : Dev Cert.ChipsRef.nD).tc : Thread Cert.ChipsRef.nD Cert.ChipsRef.τ).loc Cert.ChipsRef.main_arg1))
      ∧ m ((c.tc : Thread Cert.Chips.nD Cert.Chips.τ).loc Cert.Chips.main_arg2) = Layout.block ⟨3, ![4, 4096, 704]⟩ ⟨3, ![32, 4096, 704]⟩ 0 8 c (m' (((0 : Dev Cert.ChipsRef.nD).tc : Thread Cert.ChipsRef.nD Cert.ChipsRef.τ).loc Cert.ChipsRef.main_arg2))
      ∧ m ((c.tc : Thread Cert.Chips.nD Cert.Chips.τ).loc Cert.Chips.main_arg3) = Layout.block ⟨3, ![4, 2176, 1024]⟩ ⟨3, ![32, 2176, 1024]⟩ 0 8 c (m' (((0 : Dev Cert.ChipsRef.nD).tc : Thread Cert.ChipsRef.nD Cert.ChipsRef.τ).loc Cert.ChipsRef.main_arg3))
      ∧ m ((c.tc : Thread Cert.Chips.nD Cert.Chips.τ).loc Cert.Chips.main_arg4) = Layout.block ⟨3, ![4, 112, 128]⟩ ⟨3, ![32, 112, 128]⟩ 0 8 c (m' (((0 : Dev Cert.ChipsRef.nD).tc : Thread Cert.ChipsRef.nD Cert.ChipsRef.τ).loc Cert.ChipsRef.main_arg4))
      ∧ m ((c.tc : Thread Cert.Chips.nD Cert.Chips.τ).loc Cert.Chips.main_arg5) = Layout.block ⟨2, ![376, 128]⟩ ⟨2, ![3008, 128]⟩ 0 8 c (m' (((0 : Dev Cert.ChipsRef.nD).tc : Thread Cert.ChipsRef.nD Cert.ChipsRef.τ).loc Cert.ChipsRef.main_arg5))) →
    ∃ (v0 : Buf (Elt Bits) (((0 : Dev Cert.ChipsRef.nD).tc : Thread Cert.ChipsRef.nD Cert.ChipsRef.τ).loc Cert.ChipsRef.main_v2)) (v1 : Buf (Elt Bits) (((0 : Dev Cert.ChipsRef.nD).tc : Thread Cert.ChipsRef.nD Cert.ChipsRef.τ).loc Cert.ChipsRef.main_v5)) (v2 : Buf (Elt Bits) (((0 : Dev Cert.ChipsRef.nD).tc : Thread Cert.ChipsRef.nD Cert.ChipsRef.τ).loc Cert.ChipsRef.main_v8)) (v3 : Buf (Elt Bits) (((0 : Dev Cert.ChipsRef.nD).tc : Thread Cert.ChipsRef.nD Cert.ChipsRef.τ).loc Cert.ChipsRef.main_v11)) (v4 : Buf (Elt Bits) (((0 : Dev Cert.ChipsRef.nD).tc : Thread Cert.ChipsRef.nD Cert.ChipsRef.τ).loc Cert.ChipsRef.main_v14)) (v5 : Buf (Elt Bits) (((0 : Dev Cert.ChipsRef.nD).tc : Thread Cert.ChipsRef.nD Cert.ChipsRef.τ).loc Cert.ChipsRef.main_v19)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1_0) = Layout.block ⟨3, ![4, 2048, 448]⟩ ⟨3, ![32, 2048, 448]⟩ 0 8 c v0
          ∧ r.2.mem ((c.tc : Thread Cert.Chips.nD Cert.Chips.τ).loc Cert.Chips.main_v1_1) = Layout.block ⟨3, ![4, 2048, 648]⟩ ⟨3, ![32, 2048, 648]⟩ 0 8 c v1
          ∧ r.2.mem ((c.tc : Thread Cert.Chips.nD Cert.Chips.τ).loc Cert.Chips.main_v1_2) = Layout.block ⟨3, ![4, 4096, 704]⟩ ⟨3, ![32, 4096, 704]⟩ 0 8 c v2
          ∧ r.2.mem ((c.tc : Thread Cert.Chips.nD Cert.Chips.τ).loc Cert.Chips.main_v1_3) = Layout.block ⟨3, ![4, 2176, 1024]⟩ ⟨3, ![32, 2176, 1024]⟩ 0 8 c v3
          ∧ r.2.mem ((c.tc : Thread Cert.Chips.nD Cert.Chips.τ).loc Cert.Chips.main_v1_4) = Layout.block ⟨3, ![4, 112, 128]⟩ ⟨3, ![32, 112, 128]⟩ 0 8 c v4
          ∧ r.2.mem ((c.tc : Thread Cert.Chips.nD Cert.Chips.τ).loc Cert.Chips.main_v1_5) = Layout.block ⟨3, ![4, 376, 128]⟩ ⟨3, ![32, 376, 128]⟩ 0 8 c v5
          ∧ r.2.mem ((c.tc : Thread Cert.Chips.nD Cert.Chips.τ).loc Cert.Chips.main_arg0) = m ((c.tc : Thread Cert.Chips.nD Cert.Chips.τ).loc Cert.Chips.main_arg0)
          ∧ r.2.mem ((c.tc : Thread Cert.Chips.nD Cert.Chips.τ).loc Cert.Chips.main_arg1) = m ((c.tc : Thread Cert.Chips.nD Cert.Chips.τ).loc Cert.Chips.main_arg1)
          ∧ r.2.mem ((c.tc : Thread Cert.Chips.nD Cert.Chips.τ).loc Cert.Chips.main_arg2) = m ((c.tc : Thread Cert.Chips.nD Cert.Chips.τ).loc Cert.Chips.main_arg2)
          ∧ r.2.mem ((c.tc : Thread Cert.Chips.nD Cert.Chips.τ).loc Cert.Chips.main_arg3) = m ((c.tc : Thread Cert.Chips.nD Cert.Chips.τ).loc Cert.Chips.main_arg3)
          ∧ r.2.mem ((c.tc : Thread Cert.Chips.nD Cert.Chips.τ).loc Cert.Chips.main_arg4) = m ((c.tc : Thread Cert.Chips.nD Cert.Chips.τ).loc Cert.Chips.main_arg4)
          ∧ r.2.mem ((c.tc : Thread Cert.Chips.nD Cert.Chips.τ).loc Cert.Chips.main_arg5) = m ((c.tc : Thread Cert.Chips.nD Cert.Chips.τ).loc Cert.Chips.main_arg5))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v2) = v0
          ∧ r.2.mem (((0 : Dev Cert.ChipsRef.nD).tc : Thread Cert.ChipsRef.nD Cert.ChipsRef.τ).loc Cert.ChipsRef.main_v5) = v1
          ∧ r.2.mem (((0 : Dev Cert.ChipsRef.nD).tc : Thread Cert.ChipsRef.nD Cert.ChipsRef.τ).loc Cert.ChipsRef.main_v8) = v2
          ∧ r.2.mem (((0 : Dev Cert.ChipsRef.nD).tc : Thread Cert.ChipsRef.nD Cert.ChipsRef.τ).loc Cert.ChipsRef.main_v11) = v3
          ∧ r.2.mem (((0 : Dev Cert.ChipsRef.nD).tc : Thread Cert.ChipsRef.nD Cert.ChipsRef.τ).loc Cert.ChipsRef.main_v14) = v4
          ∧ r.2.mem (((0 : Dev Cert.ChipsRef.nD).tc : Thread Cert.ChipsRef.nD Cert.ChipsRef.τ).loc Cert.ChipsRef.main_v19) = v5
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0)
          ∧ r.2.mem (((0 : Dev Cert.ChipsRef.nD).tc : Thread Cert.ChipsRef.nD Cert.ChipsRef.τ).loc Cert.ChipsRef.main_arg1) = m' (((0 : Dev Cert.ChipsRef.nD).tc : Thread Cert.ChipsRef.nD Cert.ChipsRef.τ).loc Cert.ChipsRef.main_arg1)
          ∧ r.2.mem (((0 : Dev Cert.ChipsRef.nD).tc : Thread Cert.ChipsRef.nD Cert.ChipsRef.τ).loc Cert.ChipsRef.main_arg2) = m' (((0 : Dev Cert.ChipsRef.nD).tc : Thread Cert.ChipsRef.nD Cert.ChipsRef.τ).loc Cert.ChipsRef.main_arg2)
          ∧ r.2.mem (((0 : Dev Cert.ChipsRef.nD).tc : Thread Cert.ChipsRef.nD Cert.ChipsRef.τ).loc Cert.ChipsRef.main_arg3) = m' (((0 : Dev Cert.ChipsRef.nD).tc : Thread Cert.ChipsRef.nD Cert.ChipsRef.τ).loc Cert.ChipsRef.main_arg3)
          ∧ r.2.mem (((0 : Dev Cert.ChipsRef.nD).tc : Thread Cert.ChipsRef.nD Cert.ChipsRef.τ).loc Cert.ChipsRef.main_arg4) = m' (((0 : Dev Cert.ChipsRef.nD).tc : Thread Cert.ChipsRef.nD Cert.ChipsRef.τ).loc Cert.ChipsRef.main_arg4)
          ∧ r.2.mem (((0 : Dev Cert.ChipsRef.nD).tc : Thread Cert.ChipsRef.nD Cert.ChipsRef.τ).loc Cert.ChipsRef.main_arg5) = m' (((0 : Dev Cert.ChipsRef.nD).tc : Thread Cert.ChipsRef.nD Cert.ChipsRef.τ).loc Cert.ChipsRef.main_arg5))

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 2048, 448]⟩ ⟨3, ![32, 2048, 448]⟩ 0 8 c (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.block ⟨3, ![4, 2048, 648]⟩ ⟨3, ![32, 2048, 648]⟩ 0 8 c (m' (((0 : Dev Cert.ChipsRefIdeal.nD).tc : Thread Cert.ChipsRefIdeal.nD Cert.ChipsRefIdeal.τ).loc Cert.ChipsRefIdeal.main_arg1))
      ∧ m ((c.tc : Thread Cert.ChipsIdeal.nD Cert.ChipsIdeal.τ).loc Cert.ChipsIdeal.main_arg2) = Layout.block ⟨3, ![4, 4096, 704]⟩ ⟨3, ![32, 4096, 704]⟩ 0 8 c (m' (((0 : Dev Cert.ChipsRefIdeal.nD).tc : Thread Cert.ChipsRefIdeal.nD Cert.ChipsRefIdeal.τ).loc Cert.ChipsRefIdeal.main_arg2))
      ∧ m ((c.tc : Thread Cert.ChipsIdeal.nD Cert.ChipsIdeal.τ).loc Cert.ChipsIdeal.main_arg3) = Layout.block ⟨3, ![4, 2176, 1024]⟩ ⟨3, ![32, 2176, 1024]⟩ 0 8 c (m' (((0 : Dev Cert.ChipsRefIdeal.nD).tc : Thread Cert.ChipsRefIdeal.nD Cert.ChipsRefIdeal.τ).loc Cert.ChipsRefIdeal.main_arg3))
      ∧ m ((c.tc : Thread Cert.ChipsIdeal.nD Cert.ChipsIdeal.τ).loc Cert.ChipsIdeal.main_arg4) = Layout.block ⟨3, ![4, 112, 128]⟩ ⟨3, ![32, 112, 128]⟩ 0 8 c (m' (((0 : Dev Cert.ChipsRefIdeal.nD).tc : Thread Cert.ChipsRefIdeal.nD Cert.ChipsRefIdeal.τ).loc Cert.ChipsRefIdeal.main_arg4))
      ∧ m ((c.tc : Thread Cert.ChipsIdeal.nD Cert.ChipsIdeal.τ).loc Cert.ChipsIdeal.main_arg5) = Layout.block ⟨2, ![376, 128]⟩ ⟨2, ![3008, 128]⟩ 0 8 c (m' (((0 : Dev Cert.ChipsRefIdeal.nD).tc : Thread Cert.ChipsRefIdeal.nD Cert.ChipsRefIdeal.τ).loc Cert.ChipsRefIdeal.main_arg5))) →
    ∃ (v0 : Buf (Elt Ideal) (((0 : Dev Cert.ChipsRefIdeal.nD).tc : Thread Cert.ChipsRefIdeal.nD Cert.ChipsRefIdeal.τ).loc Cert.ChipsRefIdeal.main_v2)) (v1 : Buf (Elt Ideal) (((0 : Dev Cert.ChipsRefIdeal.nD).tc : Thread Cert.ChipsRefIdeal.nD Cert.ChipsRefIdeal.τ).loc Cert.ChipsRefIdeal.main_v5)) (v2 : Buf (Elt Ideal) (((0 : Dev Cert.ChipsRefIdeal.nD).tc : Thread Cert.ChipsRefIdeal.nD Cert.ChipsRefIdeal.τ).loc Cert.ChipsRefIdeal.main_v8)) (v3 : Buf (Elt Ideal) (((0 : Dev Cert.ChipsRefIdeal.nD).tc : Thread Cert.ChipsRefIdeal.nD Cert.ChipsRefIdeal.τ).loc Cert.ChipsRefIdeal.main_v11)) (v4 : Buf (Elt Ideal) (((0 : Dev Cert.ChipsRefIdeal.nD).tc : Thread Cert.ChipsRefIdeal.nD Cert.ChipsRefIdeal.τ).loc Cert.ChipsRefIdeal.main_v14)) (v5 : Buf (Elt Ideal) (((0 : Dev Cert.ChipsRefIdeal.nD).tc : Thread Cert.ChipsRefIdeal.nD Cert.ChipsRefIdeal.τ).loc Cert.ChipsRefIdeal.main_v19)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1_0) = Layout.block ⟨3, ![4, 2048, 448]⟩ ⟨3, ![32, 2048, 448]⟩ 0 8 c v0
          ∧ r.2.mem ((c.tc : Thread Cert.ChipsIdeal.nD Cert.ChipsIdeal.τ).loc Cert.ChipsIdeal.main_v1_1) = Layout.block ⟨3, ![4, 2048, 648]⟩ ⟨3, ![32, 2048, 648]⟩ 0 8 c v1
          ∧ r.2.mem ((c.tc : Thread Cert.ChipsIdeal.nD Cert.ChipsIdeal.τ).loc Cert.ChipsIdeal.main_v1_2) = Layout.block ⟨3, ![4, 4096, 704]⟩ ⟨3, ![32, 4096, 704]⟩ 0 8 c v2
          ∧ r.2.mem ((c.tc : Thread Cert.ChipsIdeal.nD Cert.ChipsIdeal.τ).loc Cert.ChipsIdeal.main_v1_3) = Layout.block ⟨3, ![4, 2176, 1024]⟩ ⟨3, ![32, 2176, 1024]⟩ 0 8 c v3
          ∧ r.2.mem ((c.tc : Thread Cert.ChipsIdeal.nD Cert.ChipsIdeal.τ).loc Cert.ChipsIdeal.main_v1_4) = Layout.block ⟨3, ![4, 112, 128]⟩ ⟨3, ![32, 112, 128]⟩ 0 8 c v4
          ∧ r.2.mem ((c.tc : Thread Cert.ChipsIdeal.nD Cert.ChipsIdeal.τ).loc Cert.ChipsIdeal.main_v1_5) = Layout.block ⟨3, ![4, 376, 128]⟩ ⟨3, ![32, 376, 128]⟩ 0 8 c v5
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
          ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
          ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
          ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v2) = v0
          ∧ r.2.mem (((0 : Dev Cert.ChipsRefIdeal.nD).tc : Thread Cert.ChipsRefIdeal.nD Cert.ChipsRefIdeal.τ).loc Cert.ChipsRefIdeal.main_v5) = v1
          ∧ r.2.mem (((0 : Dev Cert.ChipsRefIdeal.nD).tc : Thread Cert.ChipsRefIdeal.nD Cert.ChipsRefIdeal.τ).loc Cert.ChipsRefIdeal.main_v8) = v2
          ∧ r.2.mem (((0 : Dev Cert.ChipsRefIdeal.nD).tc : Thread Cert.ChipsRefIdeal.nD Cert.ChipsRefIdeal.τ).loc Cert.ChipsRefIdeal.main_v11) = v3
          ∧ r.2.mem (((0 : Dev Cert.ChipsRefIdeal.nD).tc : Thread Cert.ChipsRefIdeal.nD Cert.ChipsRefIdeal.τ).loc Cert.ChipsRefIdeal.main_v14) = v4
          ∧ r.2.mem (((0 : Dev Cert.ChipsRefIdeal.nD).tc : Thread Cert.ChipsRefIdeal.nD Cert.ChipsRefIdeal.τ).loc Cert.ChipsRefIdeal.main_v19) = v5
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1)
          ∧ r.2.mem (((0 : Dev Cert.ChipsRefIdeal.nD).tc : Thread Cert.ChipsRefIdeal.nD Cert.ChipsRefIdeal.τ).loc Cert.ChipsRefIdeal.main_arg2) = m' (((0 : Dev Cert.ChipsRefIdeal.nD).tc : Thread Cert.ChipsRefIdeal.nD Cert.ChipsRefIdeal.τ).loc Cert.ChipsRefIdeal.main_arg2)
          ∧ r.2.mem (((0 : Dev Cert.ChipsRefIdeal.nD).tc : Thread Cert.ChipsRefIdeal.nD Cert.ChipsRefIdeal.τ).loc Cert.ChipsRefIdeal.main_arg3) = m' (((0 : Dev Cert.ChipsRefIdeal.nD).tc : Thread Cert.ChipsRefIdeal.nD Cert.ChipsRefIdeal.τ).loc Cert.ChipsRefIdeal.main_arg3)
          ∧ r.2.mem (((0 : Dev Cert.ChipsRefIdeal.nD).tc : Thread Cert.ChipsRefIdeal.nD Cert.ChipsRefIdeal.τ).loc Cert.ChipsRefIdeal.main_arg4) = m' (((0 : Dev Cert.ChipsRefIdeal.nD).tc : Thread Cert.ChipsRefIdeal.nD Cert.ChipsRefIdeal.τ).loc Cert.ChipsRefIdeal.main_arg4)
          ∧ r.2.mem (((0 : Dev Cert.ChipsRefIdeal.nD).tc : Thread Cert.ChipsRefIdeal.nD Cert.ChipsRefIdeal.τ).loc Cert.ChipsRefIdeal.main_arg5) = m' (((0 : Dev Cert.ChipsRefIdeal.nD).tc : Thread Cert.ChipsRefIdeal.nD Cert.ChipsRefIdeal.τ).loc Cert.ChipsRefIdeal.main_arg5))

def preserves_AdamwAb_AdamwAbIdeal : Prop :=
  True

def algebraic_AdamwAbIdeal_AdamwAbRefIdeal [hAdamwAbIdeal : Cert.AdamwAbIdeal.Facts] [hAdamwAbRefIdeal : Cert.AdamwAbRefIdeal.Facts] : Prop :=
  ∀ (m : (ℓ : Loc Cert.AdamwAbIdeal.nD Cert.AdamwAbIdeal.τ Cert.AdamwAbIdeal.sig) → Buf (Elt Ideal) ℓ) (g : Dev Cert.AdamwAbIdeal.nD → PrngReg)
    (m' : (ℓ : Loc Cert.AdamwAbRefIdeal.nD Cert.AdamwAbRefIdeal.τ Cert.AdamwAbRefIdeal.sig) → Buf (Elt Ideal) ℓ) (g' : Dev Cert.AdamwAbRefIdeal.nD → PrngReg), Pre_AdamwAbIdeal m →
    (∀ c : Dev Cert.AdamwAbIdeal.nD,
      m' ((c.tc : Thread Cert.AdamwAbRefIdeal.nD Cert.AdamwAbRefIdeal.τ).loc Cert.AdamwAbRefIdeal.main_arg0) = m ((c.tc : Thread Cert.AdamwAbIdeal.nD Cert.AdamwAbIdeal.τ).loc Cert.AdamwAbIdeal.main_arg0)
      ∧ m' ((c.tc : Thread Cert.AdamwAbRefIdeal.nD Cert.AdamwAbRefIdeal.τ).loc Cert.AdamwAbRefIdeal.main_arg1) = m ((c.tc : Thread Cert.AdamwAbIdeal.nD Cert.AdamwAbIdeal.τ).loc Cert.AdamwAbIdeal.main_arg1)
      ∧ m' ((c.tc : Thread Cert.AdamwAbRefIdeal.nD Cert.AdamwAbRefIdeal.τ).loc Cert.AdamwAbRefIdeal.main_arg2) = m ((c.tc : Thread Cert.AdamwAbIdeal.nD Cert.AdamwAbIdeal.τ).loc Cert.AdamwAbIdeal.main_arg2)
      ∧ m' ((c.tc : Thread Cert.AdamwAbRefIdeal.nD Cert.AdamwAbRefIdeal.τ).loc Cert.AdamwAbRefIdeal.main_arg3) = m ((c.tc : Thread Cert.AdamwAbIdeal.nD Cert.AdamwAbIdeal.τ).loc Cert.AdamwAbIdeal.main_arg3)) →
    ∃ (v0 : (c : Dev Cert.AdamwAbIdeal.nD) → Buf (Elt Ideal) ((c.tc : Thread Cert.AdamwAbIdeal.nD Cert.AdamwAbIdeal.τ).loc Cert.AdamwAbIdeal.main_v0_0)) (v1 : (c : Dev Cert.AdamwAbIdeal.nD) → Buf (Elt Ideal) ((c.tc : Thread Cert.AdamwAbIdeal.nD Cert.AdamwAbIdeal.τ).loc Cert.AdamwAbIdeal.main_v0_1)) (v2 : (c : Dev Cert.AdamwAbIdeal.nD) → Buf (Elt Ideal) ((c.tc : Thread Cert.AdamwAbIdeal.nD Cert.AdamwAbIdeal.τ).loc Cert.AdamwAbIdeal.main_v0_2)) (v3 : (c : Dev Cert.AdamwAbIdeal.nD) → Buf (Elt Ideal) ((c.tc : Thread Cert.AdamwAbIdeal.nD Cert.AdamwAbIdeal.τ).loc Cert.AdamwAbIdeal.main_v0_3)),
      θ_run (Cert.AdamwAbIdeal.defs (F := Ideal)) (onTc (τ := Cert.AdamwAbIdeal.τ) (Cert.AdamwAbIdeal.main (F := Ideal))) ⟨m, fun _ => 0, g⟩ (fun r => ∀ c : Dev Cert.AdamwAbIdeal.nD,
          r.2.mem ((c.tc : Thread Cert.AdamwAbIdeal.nD Cert.AdamwAbIdeal.τ).loc Cert.AdamwAbIdeal.main_v0_0) = v0 c
          ∧ r.2.mem ((c.tc : Thread Cert.AdamwAbIdeal.nD Cert.AdamwAbIdeal.τ).loc Cert.AdamwAbIdeal.main_v0_1) = v1 c
          ∧ r.2.mem ((c.tc : Thread Cert.AdamwAbIdeal.nD Cert.AdamwAbIdeal.τ).loc Cert.AdamwAbIdeal.main_v0_2) = v2 c
          ∧ r.2.mem ((c.tc : Thread Cert.AdamwAbIdeal.nD Cert.AdamwAbIdeal.τ).loc Cert.AdamwAbIdeal.main_v0_3) = v3 c
          ∧ r.2.mem ((c.tc : Thread Cert.AdamwAbIdeal.nD Cert.AdamwAbIdeal.τ).loc Cert.AdamwAbIdeal.main_arg0) = m ((c.tc : Thread Cert.AdamwAbIdeal.nD Cert.AdamwAbIdeal.τ).loc Cert.AdamwAbIdeal.main_arg0)
          ∧ r.2.mem ((c.tc : Thread Cert.AdamwAbIdeal.nD Cert.AdamwAbIdeal.τ).loc Cert.AdamwAbIdeal.main_arg1) = m ((c.tc : Thread Cert.AdamwAbIdeal.nD Cert.AdamwAbIdeal.τ).loc Cert.AdamwAbIdeal.main_arg1)
          ∧ r.2.mem ((c.tc : Thread Cert.AdamwAbIdeal.nD Cert.AdamwAbIdeal.τ).loc Cert.AdamwAbIdeal.main_arg2) = m ((c.tc : Thread Cert.AdamwAbIdeal.nD Cert.AdamwAbIdeal.τ).loc Cert.AdamwAbIdeal.main_arg2)
          ∧ r.2.mem ((c.tc : Thread Cert.AdamwAbIdeal.nD Cert.AdamwAbIdeal.τ).loc Cert.AdamwAbIdeal.main_arg3) = m ((c.tc : Thread Cert.AdamwAbIdeal.nD Cert.AdamwAbIdeal.τ).loc Cert.AdamwAbIdeal.main_arg3))
      ∧ θ_run (Cert.AdamwAbRefIdeal.defs (F := Ideal)) (onTc (τ := Cert.AdamwAbRefIdeal.τ) (Cert.AdamwAbRefIdeal.main (F := Ideal))) ⟨m', fun _ => 0, g'⟩ (fun r => ∀ c : Dev Cert.AdamwAbRefIdeal.nD,
          r.2.mem ((c.tc : Thread Cert.AdamwAbRefIdeal.nD Cert.AdamwAbRefIdeal.τ).loc Cert.AdamwAbRefIdeal.main_v11) = v0 c
          ∧ r.2.mem ((c.tc : Thread Cert.AdamwAbRefIdeal.nD Cert.AdamwAbRefIdeal.τ).loc Cert.AdamwAbRefIdeal.main_v35) = v1 c
          ∧ r.2.mem ((c.tc : Thread Cert.AdamwAbRefIdeal.nD Cert.AdamwAbRefIdeal.τ).loc Cert.AdamwAbRefIdeal.main_v16) = v2 c
          ∧ r.2.mem ((c.tc : Thread Cert.AdamwAbRefIdeal.nD Cert.AdamwAbRefIdeal.τ).loc Cert.AdamwAbRefIdeal.main_v22) = v3 c
          ∧ r.2.mem ((c.tc : Thread Cert.AdamwAbRefIdeal.nD Cert.AdamwAbRefIdeal.τ).loc Cert.AdamwAbRefIdeal.main_arg0) = m' ((c.tc : Thread Cert.AdamwAbRefIdeal.nD Cert.AdamwAbRefIdeal.τ).loc Cert.AdamwAbRefIdeal.main_arg0)
          ∧ r.2.mem ((c.tc : Thread Cert.AdamwAbRefIdeal.nD Cert.AdamwAbRefIdeal.τ).loc Cert.AdamwAbRefIdeal.main_arg1) = m' ((c.tc : Thread Cert.AdamwAbRefIdeal.nD Cert.AdamwAbRefIdeal.τ).loc Cert.AdamwAbRefIdeal.main_arg1)
          ∧ r.2.mem ((c.tc : Thread Cert.AdamwAbRefIdeal.nD Cert.AdamwAbRefIdeal.τ).loc Cert.AdamwAbRefIdeal.main_arg2) = m' ((c.tc : Thread Cert.AdamwAbRefIdeal.nD Cert.AdamwAbRefIdeal.τ).loc Cert.AdamwAbRefIdeal.main_arg2)
          ∧ r.2.mem ((c.tc : Thread Cert.AdamwAbRefIdeal.nD Cert.AdamwAbRefIdeal.τ).loc Cert.AdamwAbRefIdeal.main_arg3) = m' ((c.tc : Thread Cert.AdamwAbRefIdeal.nD Cert.AdamwAbRefIdeal.τ).loc Cert.AdamwAbRefIdeal.main_arg3))

def preserves_AdamwC_AdamwCIdeal : Prop :=
  True

def algebraic_AdamwCIdeal_AdamwCRefIdeal [hAdamwCIdeal : Cert.AdamwCIdeal.Facts] [hAdamwCRefIdeal : Cert.AdamwCRefIdeal.Facts] : Prop :=
  ∀ (m : (ℓ : Loc Cert.AdamwCIdeal.nD Cert.AdamwCIdeal.τ Cert.AdamwCIdeal.sig) → Buf (Elt Ideal) ℓ) (g : Dev Cert.AdamwCIdeal.nD → PrngReg)
    (m' : (ℓ : Loc Cert.AdamwCRefIdeal.nD Cert.AdamwCRefIdeal.τ Cert.AdamwCRefIdeal.sig) → Buf (Elt Ideal) ℓ) (g' : Dev Cert.AdamwCRefIdeal.nD → PrngReg), Pre_AdamwCIdeal m →
    (∀ c : Dev Cert.AdamwCIdeal.nD,
      m' ((c.tc : Thread Cert.AdamwCRefIdeal.nD Cert.AdamwCRefIdeal.τ).loc Cert.AdamwCRefIdeal.main_arg0) = m ((c.tc : Thread Cert.AdamwCIdeal.nD Cert.AdamwCIdeal.τ).loc Cert.AdamwCIdeal.main_arg0)
      ∧ m' ((c.tc : Thread Cert.AdamwCRefIdeal.nD Cert.AdamwCRefIdeal.τ).loc Cert.AdamwCRefIdeal.main_arg1) = m ((c.tc : Thread Cert.AdamwCIdeal.nD Cert.AdamwCIdeal.τ).loc Cert.AdamwCIdeal.main_arg1)
      ∧ m' ((c.tc : Thread Cert.AdamwCRefIdeal.nD Cert.AdamwCRefIdeal.τ).loc Cert.AdamwCRefIdeal.main_arg2) = m ((c.tc : Thread Cert.AdamwCIdeal.nD Cert.AdamwCIdeal.τ).loc Cert.AdamwCIdeal.main_arg2)
      ∧ m' ((c.tc : Thread Cert.AdamwCRefIdeal.nD Cert.AdamwCRefIdeal.τ).loc Cert.AdamwCRefIdeal.main_arg3) = m ((c.tc : Thread Cert.AdamwCIdeal.nD Cert.AdamwCIdeal.τ).loc Cert.AdamwCIdeal.main_arg3)) →
    ∃ (v0 : (c : Dev Cert.AdamwCIdeal.nD) → Buf (Elt Ideal) ((c.tc : Thread Cert.AdamwCIdeal.nD Cert.AdamwCIdeal.τ).loc Cert.AdamwCIdeal.main_v0_0)) (v1 : (c : Dev Cert.AdamwCIdeal.nD) → Buf (Elt Ideal) ((c.tc : Thread Cert.AdamwCIdeal.nD Cert.AdamwCIdeal.τ).loc Cert.AdamwCIdeal.main_v0_1)) (v2 : (c : Dev Cert.AdamwCIdeal.nD) → Buf (Elt Ideal) ((c.tc : Thread Cert.AdamwCIdeal.nD Cert.AdamwCIdeal.τ).loc Cert.AdamwCIdeal.main_v0_2)) (v3 : (c : Dev Cert.AdamwCIdeal.nD) → Buf (Elt Ideal) ((c.tc : Thread Cert.AdamwCIdeal.nD Cert.AdamwCIdeal.τ).loc Cert.AdamwCIdeal.main_v0_3)),
      θ_run (Cert.AdamwCIdeal.defs (F := Ideal)) (onTc (τ := Cert.AdamwCIdeal.τ) (Cert.AdamwCIdeal.main (F := Ideal))) ⟨m, fun _ => 0, g⟩ (fun r => ∀ c : Dev Cert.AdamwCIdeal.nD,
          r.2.mem ((c.tc : Thread Cert.AdamwCIdeal.nD Cert.AdamwCIdeal.τ).loc Cert.AdamwCIdeal.main_v0_0) = v0 c
          ∧ r.2.mem ((c.tc : Thread Cert.AdamwCIdeal.nD Cert.AdamwCIdeal.τ).loc Cert.AdamwCIdeal.main_v0_1) = v1 c
          ∧ r.2.mem ((c.tc : Thread Cert.AdamwCIdeal.nD Cert.AdamwCIdeal.τ).loc Cert.AdamwCIdeal.main_v0_2) = v2 c
          ∧ r.2.mem ((c.tc : Thread Cert.AdamwCIdeal.nD Cert.AdamwCIdeal.τ).loc Cert.AdamwCIdeal.main_v0_3) = v3 c
          ∧ r.2.mem ((c.tc : Thread Cert.AdamwCIdeal.nD Cert.AdamwCIdeal.τ).loc Cert.AdamwCIdeal.main_arg0) = m ((c.tc : Thread Cert.AdamwCIdeal.nD Cert.AdamwCIdeal.τ).loc Cert.AdamwCIdeal.main_arg0)
          ∧ r.2.mem ((c.tc : Thread Cert.AdamwCIdeal.nD Cert.AdamwCIdeal.τ).loc Cert.AdamwCIdeal.main_arg1) = m ((c.tc : Thread Cert.AdamwCIdeal.nD Cert.AdamwCIdeal.τ).loc Cert.AdamwCIdeal.main_arg1)
          ∧ r.2.mem ((c.tc : Thread Cert.AdamwCIdeal.nD Cert.AdamwCIdeal.τ).loc Cert.AdamwCIdeal.main_arg2) = m ((c.tc : Thread Cert.AdamwCIdeal.nD Cert.AdamwCIdeal.τ).loc Cert.AdamwCIdeal.main_arg2)
          ∧ r.2.mem ((c.tc : Thread Cert.AdamwCIdeal.nD Cert.AdamwCIdeal.τ).loc Cert.AdamwCIdeal.main_arg3) = m ((c.tc : Thread Cert.AdamwCIdeal.nD Cert.AdamwCIdeal.τ).loc Cert.AdamwCIdeal.main_arg3))
      ∧ θ_run (Cert.AdamwCRefIdeal.defs (F := Ideal)) (onTc (τ := Cert.AdamwCRefIdeal.τ) (Cert.AdamwCRefIdeal.main (F := Ideal))) ⟨m', fun _ => 0, g'⟩ (fun r => ∀ c : Dev Cert.AdamwCRefIdeal.nD,
          r.2.mem ((c.tc : Thread Cert.AdamwCRefIdeal.nD Cert.AdamwCRefIdeal.τ).loc Cert.AdamwCRefIdeal.main_v11) = v0 c
          ∧ r.2.mem ((c.tc : Thread Cert.AdamwCRefIdeal.nD Cert.AdamwCRefIdeal.τ).loc Cert.AdamwCRefIdeal.main_v35) = v1 c
          ∧ r.2.mem ((c.tc : Thread Cert.AdamwCRefIdeal.nD Cert.AdamwCRefIdeal.τ).loc Cert.AdamwCRefIdeal.main_v16) = v2 c
          ∧ r.2.mem ((c.tc : Thread Cert.AdamwCRefIdeal.nD Cert.AdamwCRefIdeal.τ).loc Cert.AdamwCRefIdeal.main_v22) = v3 c
          ∧ r.2.mem ((c.tc : Thread Cert.AdamwCRefIdeal.nD Cert.AdamwCRefIdeal.τ).loc Cert.AdamwCRefIdeal.main_arg0) = m' ((c.tc : Thread Cert.AdamwCRefIdeal.nD Cert.AdamwCRefIdeal.τ).loc Cert.AdamwCRefIdeal.main_arg0)
          ∧ r.2.mem ((c.tc : Thread Cert.AdamwCRefIdeal.nD Cert.AdamwCRefIdeal.τ).loc Cert.AdamwCRefIdeal.main_arg1) = m' ((c.tc : Thread Cert.AdamwCRefIdeal.nD Cert.AdamwCRefIdeal.τ).loc Cert.AdamwCRefIdeal.main_arg1)
          ∧ r.2.mem ((c.tc : Thread Cert.AdamwCRefIdeal.nD Cert.AdamwCRefIdeal.τ).loc Cert.AdamwCRefIdeal.main_arg2) = m' ((c.tc : Thread Cert.AdamwCRefIdeal.nD Cert.AdamwCRefIdeal.τ).loc Cert.AdamwCRefIdeal.main_arg2)
          ∧ r.2.mem ((c.tc : Thread Cert.AdamwCRefIdeal.nD Cert.AdamwCRefIdeal.τ).loc Cert.AdamwCRefIdeal.main_arg3) = m' ((c.tc : Thread Cert.AdamwCRefIdeal.nD Cert.AdamwCRefIdeal.τ).loc Cert.AdamwCRefIdeal.main_arg3))

def preserves_AdamwUp_AdamwUpIdeal : Prop :=
  True

def algebraic_AdamwUpIdeal_AdamwUpRefIdeal [hAdamwUpIdeal : Cert.AdamwUpIdeal.Facts] [hAdamwUpRefIdeal : Cert.AdamwUpRefIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRefIdeal.nD Cert.AdamwUpRefIdeal.τ Cert.AdamwUpRefIdeal.sig) → Buf (Elt Ideal) ℓ) (g' : Dev Cert.AdamwUpRefIdeal.nD → PrngReg), Pre_AdamwUpIdeal m →
    (∀ c : Dev Cert.AdamwUpIdeal.nD,
      m' ((c.tc : Thread Cert.AdamwUpRefIdeal.nD Cert.AdamwUpRefIdeal.τ).loc Cert.AdamwUpRefIdeal.main_arg0) = m ((c.tc : Thread Cert.AdamwUpIdeal.nD Cert.AdamwUpIdeal.τ).loc Cert.AdamwUpIdeal.main_arg0)
      ∧ m' ((c.tc : Thread Cert.AdamwUpRefIdeal.nD Cert.AdamwUpRefIdeal.τ).loc Cert.AdamwUpRefIdeal.main_arg1) = m ((c.tc : Thread Cert.AdamwUpIdeal.nD Cert.AdamwUpIdeal.τ).loc Cert.AdamwUpIdeal.main_arg1)
      ∧ m' ((c.tc : Thread Cert.AdamwUpRefIdeal.nD Cert.AdamwUpRefIdeal.τ).loc Cert.AdamwUpRefIdeal.main_arg2) = m ((c.tc : Thread Cert.AdamwUpIdeal.nD Cert.AdamwUpIdeal.τ).loc Cert.AdamwUpIdeal.main_arg2)
      ∧ m' ((c.tc : Thread Cert.AdamwUpRefIdeal.nD Cert.AdamwUpRefIdeal.τ).loc Cert.AdamwUpRefIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)) (v3 : (c : Dev Cert.AdamwUpIdeal.nD) → Buf (Elt Ideal) ((c.tc : Thread Cert.AdamwUpIdeal.nD Cert.AdamwUpIdeal.τ).loc Cert.AdamwUpIdeal.main_v0_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_v0_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpRefIdeal.defs (F := Ideal)) (onTc (τ := Cert.AdamwUpRefIdeal.τ) (Cert.AdamwUpRefIdeal.main (F := Ideal))) ⟨m', fun _ => 0, g'⟩ (fun r => ∀ c : Dev Cert.AdamwUpRefIdeal.nD,
          r.2.mem ((c.tc : Thread Cert.AdamwUpRefIdeal.nD Cert.AdamwUpRefIdeal.τ).loc Cert.AdamwUpRefIdeal.main_v11) = v0 c
          ∧ r.2.mem ((c.tc : Thread Cert.AdamwUpRefIdeal.nD Cert.AdamwUpRefIdeal.τ).loc Cert.AdamwUpRefIdeal.main_v35) = v1 c
          ∧ r.2.mem ((c.tc : Thread Cert.AdamwUpRefIdeal.nD Cert.AdamwUpRefIdeal.τ).loc Cert.AdamwUpRefIdeal.main_v16) = v2 c
          ∧ r.2.mem ((c.tc : Thread Cert.AdamwUpRefIdeal.nD Cert.AdamwUpRefIdeal.τ).loc Cert.AdamwUpRefIdeal.main_v22) = v3 c
          ∧ r.2.mem ((c.tc : Thread Cert.AdamwUpRefIdeal.nD Cert.AdamwUpRefIdeal.τ).loc Cert.AdamwUpRefIdeal.main_arg0) = m' ((c.tc : Thread Cert.AdamwUpRefIdeal.nD Cert.AdamwUpRefIdeal.τ).loc Cert.AdamwUpRefIdeal.main_arg0)
          ∧ r.2.mem ((c.tc : Thread Cert.AdamwUpRefIdeal.nD Cert.AdamwUpRefIdeal.τ).loc Cert.AdamwUpRefIdeal.main_arg1) = m' ((c.tc : Thread Cert.AdamwUpRefIdeal.nD Cert.AdamwUpRefIdeal.τ).loc Cert.AdamwUpRefIdeal.main_arg1)
          ∧ r.2.mem ((c.tc : Thread Cert.AdamwUpRefIdeal.nD Cert.AdamwUpRefIdeal.τ).loc Cert.AdamwUpRefIdeal.main_arg2) = m' ((c.tc : Thread Cert.AdamwUpRefIdeal.nD Cert.AdamwUpRefIdeal.τ).loc Cert.AdamwUpRefIdeal.main_arg2)
          ∧ r.2.mem ((c.tc : Thread Cert.AdamwUpRefIdeal.nD Cert.AdamwUpRefIdeal.τ).loc Cert.AdamwUpRefIdeal.main_arg3) = m' ((c.tc : Thread Cert.AdamwUpRefIdeal.nD Cert.AdamwUpRefIdeal.τ).loc Cert.AdamwUpRefIdeal.main_arg3))

def preserves_AdamwRows_AdamwRowsIdeal : Prop :=
  True

def algebraic_AdamwRowsIdeal_AdamwRowsRefIdeal [hAdamwRowsIdeal : Cert.AdamwRowsIdeal.Facts] [hAdamwRowsRefIdeal : Cert.AdamwRowsRefIdeal.Facts] : Prop :=
  ∀ (m : (ℓ : Loc Cert.AdamwRowsIdeal.nD Cert.AdamwRowsIdeal.τ Cert.AdamwRowsIdeal.sig) → Buf (Elt Ideal) ℓ) (g : Dev Cert.AdamwRowsIdeal.nD → PrngReg)
    (m' : (ℓ : Loc Cert.AdamwRowsRefIdeal.nD Cert.AdamwRowsRefIdeal.τ Cert.AdamwRowsRefIdeal.sig) → Buf (Elt Ideal) ℓ) (g' : Dev Cert.AdamwRowsRefIdeal.nD → PrngReg), Pre_AdamwRowsIdeal m →
    (∀ c : Dev Cert.AdamwRowsIdeal.nD,
      m' ((c.tc : Thread Cert.AdamwRowsRefIdeal.nD Cert.AdamwRowsRefIdeal.τ).loc Cert.AdamwRowsRefIdeal.main_arg0) = m ((c.tc : Thread Cert.AdamwRowsIdeal.nD Cert.AdamwRowsIdeal.τ).loc Cert.AdamwRowsIdeal.main_arg0)
      ∧ m' ((c.tc : Thread Cert.AdamwRowsRefIdeal.nD Cert.AdamwRowsRefIdeal.τ).loc Cert.AdamwRowsRefIdeal.main_arg1) = m ((c.tc : Thread Cert.AdamwRowsIdeal.nD Cert.AdamwRowsIdeal.τ).loc Cert.AdamwRowsIdeal.main_arg1)
      ∧ m' ((c.tc : Thread Cert.AdamwRowsRefIdeal.nD Cert.AdamwRowsRefIdeal.τ).loc Cert.AdamwRowsRefIdeal.main_arg2) = m ((c.tc : Thread Cert.AdamwRowsIdeal.nD Cert.AdamwRowsIdeal.τ).loc Cert.AdamwRowsIdeal.main_arg2)
      ∧ m' ((c.tc : Thread Cert.AdamwRowsRefIdeal.nD Cert.AdamwRowsRefIdeal.τ).loc Cert.AdamwRowsRefIdeal.main_arg3) = m ((c.tc : Thread Cert.AdamwRowsIdeal.nD Cert.AdamwRowsIdeal.τ).loc Cert.AdamwRowsIdeal.main_arg3)) →
    ∃ (v0 : (c : Dev Cert.AdamwRowsIdeal.nD) → Buf (Elt Ideal) ((c.tc : Thread Cert.AdamwRowsIdeal.nD Cert.AdamwRowsIdeal.τ).loc Cert.AdamwRowsIdeal.main_v0_0)) (v1 : (c : Dev Cert.AdamwRowsIdeal.nD) → Buf (Elt Ideal) ((c.tc : Thread Cert.AdamwRowsIdeal.nD Cert.AdamwRowsIdeal.τ).loc Cert.AdamwRowsIdeal.main_v0_1)) (v2 : (c : Dev Cert.AdamwRowsIdeal.nD) → Buf (Elt Ideal) ((c.tc : Thread Cert.AdamwRowsIdeal.nD Cert.AdamwRowsIdeal.τ).loc Cert.AdamwRowsIdeal.main_v0_2)) (v3 : (c : Dev Cert.AdamwRowsIdeal.nD) → Buf (Elt Ideal) ((c.tc : Thread Cert.AdamwRowsIdeal.nD Cert.AdamwRowsIdeal.τ).loc Cert.AdamwRowsIdeal.main_v0_3)),
      θ_run (Cert.AdamwRowsIdeal.defs (F := Ideal)) (onTc (τ := Cert.AdamwRowsIdeal.τ) (Cert.AdamwRowsIdeal.main (F := Ideal))) ⟨m, fun _ => 0, g⟩ (fun r => ∀ c : Dev Cert.AdamwRowsIdeal.nD,
          r.2.mem ((c.tc : Thread Cert.AdamwRowsIdeal.nD Cert.AdamwRowsIdeal.τ).loc Cert.AdamwRowsIdeal.main_v0_0) = v0 c
          ∧ r.2.mem ((c.tc : Thread Cert.AdamwRowsIdeal.nD Cert.AdamwRowsIdeal.τ).loc Cert.AdamwRowsIdeal.main_v0_1) = v1 c
          ∧ r.2.mem ((c.tc : Thread Cert.AdamwRowsIdeal.nD Cert.AdamwRowsIdeal.τ).loc Cert.AdamwRowsIdeal.main_v0_2) = v2 c
          ∧ r.2.mem ((c.tc : Thread Cert.AdamwRowsIdeal.nD Cert.AdamwRowsIdeal.τ).loc Cert.AdamwRowsIdeal.main_v0_3) = v3 c
          ∧ r.2.mem ((c.tc : Thread Cert.AdamwRowsIdeal.nD Cert.AdamwRowsIdeal.τ).loc Cert.AdamwRowsIdeal.main_arg0) = m ((c.tc : Thread Cert.AdamwRowsIdeal.nD Cert.AdamwRowsIdeal.τ).loc Cert.AdamwRowsIdeal.main_arg0)
          ∧ r.2.mem ((c.tc : Thread Cert.AdamwRowsIdeal.nD Cert.AdamwRowsIdeal.τ).loc Cert.AdamwRowsIdeal.main_arg1) = m ((c.tc : Thread Cert.AdamwRowsIdeal.nD Cert.AdamwRowsIdeal.τ).loc Cert.AdamwRowsIdeal.main_arg1)
          ∧ r.2.mem ((c.tc : Thread Cert.AdamwRowsIdeal.nD Cert.AdamwRowsIdeal.τ).loc Cert.AdamwRowsIdeal.main_arg2) = m ((c.tc : Thread Cert.AdamwRowsIdeal.nD Cert.AdamwRowsIdeal.τ).loc Cert.AdamwRowsIdeal.main_arg2)
          ∧ r.2.mem ((c.tc : Thread Cert.AdamwRowsIdeal.nD Cert.AdamwRowsIdeal.τ).loc Cert.AdamwRowsIdeal.main_arg3) = m ((c.tc : Thread Cert.AdamwRowsIdeal.nD Cert.AdamwRowsIdeal.τ).loc Cert.AdamwRowsIdeal.main_arg3))
      ∧ θ_run (Cert.AdamwRowsRefIdeal.defs (F := Ideal)) (onTc (τ := Cert.AdamwRowsRefIdeal.τ) (Cert.AdamwRowsRefIdeal.main (F := Ideal))) ⟨m', fun _ => 0, g'⟩ (fun r => ∀ c : Dev Cert.AdamwRowsRefIdeal.nD,
          r.2.mem ((c.tc : Thread Cert.AdamwRowsRefIdeal.nD Cert.AdamwRowsRefIdeal.τ).loc Cert.AdamwRowsRefIdeal.main_v11) = v0 c
          ∧ r.2.mem ((c.tc : Thread Cert.AdamwRowsRefIdeal.nD Cert.AdamwRowsRefIdeal.τ).loc Cert.AdamwRowsRefIdeal.main_v35) = v1 c
          ∧ r.2.mem ((c.tc : Thread Cert.AdamwRowsRefIdeal.nD Cert.AdamwRowsRefIdeal.τ).loc Cert.AdamwRowsRefIdeal.main_v16) = v2 c
          ∧ r.2.mem ((c.tc : Thread Cert.AdamwRowsRefIdeal.nD Cert.AdamwRowsRefIdeal.τ).loc Cert.AdamwRowsRefIdeal.main_v22) = v3 c
          ∧ r.2.mem ((c.tc : Thread Cert.AdamwRowsRefIdeal.nD Cert.AdamwRowsRefIdeal.τ).loc Cert.AdamwRowsRefIdeal.main_arg0) = m' ((c.tc : Thread Cert.AdamwRowsRefIdeal.nD Cert.AdamwRowsRefIdeal.τ).loc Cert.AdamwRowsRefIdeal.main_arg0)
          ∧ r.2.mem ((c.tc : Thread Cert.AdamwRowsRefIdeal.nD Cert.AdamwRowsRefIdeal.τ).loc Cert.AdamwRowsRefIdeal.main_arg1) = m' ((c.tc : Thread Cert.AdamwRowsRefIdeal.nD Cert.AdamwRowsRefIdeal.τ).loc Cert.AdamwRowsRefIdeal.main_arg1)
          ∧ r.2.mem ((c.tc : Thread Cert.AdamwRowsRefIdeal.nD Cert.AdamwRowsRefIdeal.τ).loc Cert.AdamwRowsRefIdeal.main_arg2) = m' ((c.tc : Thread Cert.AdamwRowsRefIdeal.nD Cert.AdamwRowsRefIdeal.τ).loc Cert.AdamwRowsRefIdeal.main_arg2)
          ∧ r.2.mem ((c.tc : Thread Cert.AdamwRowsRefIdeal.nD Cert.AdamwRowsRefIdeal.τ).loc Cert.AdamwRowsRefIdeal.main_arg3) = m' ((c.tc : Thread Cert.AdamwRowsRefIdeal.nD Cert.AdamwRowsRefIdeal.τ).loc Cert.AdamwRowsRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v10) = v0 c
          ∧ r.2.mem ((c.tc : Thread Cert.AdamwSmallRefIdeal.nD Cert.AdamwSmallRefIdeal.τ).loc Cert.AdamwSmallRefIdeal.main_v34) = v1 c
          ∧ r.2.mem ((c.tc : Thread Cert.AdamwSmallRefIdeal.nD Cert.AdamwSmallRefIdeal.τ).loc Cert.AdamwSmallRefIdeal.main_v15) = v2 c
          ∧ r.2.mem ((c.tc : Thread Cert.AdamwSmallRefIdeal.nD Cert.AdamwSmallRefIdeal.τ).loc Cert.AdamwSmallRefIdeal.main_v21) = v3 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_AdamwRep_AdamwRepIdeal : Prop :=
  True

def algebraic_AdamwRepIdeal_AdamwRepRefIdeal [hAdamwRepIdeal : Cert.AdamwRepIdeal.Facts] [hAdamwRepRefIdeal : Cert.AdamwRepRefIdeal.Facts] : Prop :=
  ∀ (m : (ℓ : Loc Cert.AdamwRepIdeal.nD Cert.AdamwRepIdeal.τ Cert.AdamwRepIdeal.sig) → Buf (Elt Ideal) ℓ) (g : Dev Cert.AdamwRepIdeal.nD → PrngReg)
    (m' : (ℓ : Loc Cert.AdamwRepRefIdeal.nD Cert.AdamwRepRefIdeal.τ Cert.AdamwRepRefIdeal.sig) → Buf (Elt Ideal) ℓ) (g' : Dev Cert.AdamwRepRefIdeal.nD → PrngReg), Pre_AdamwRepIdeal m →
    (∀ c : Dev Cert.AdamwRepIdeal.nD,
      m' ((c.tc : Thread Cert.AdamwRepRefIdeal.nD Cert.AdamwRepRefIdeal.τ).loc Cert.AdamwRepRefIdeal.main_arg0) = m ((c.tc : Thread Cert.AdamwRepIdeal.nD Cert.AdamwRepIdeal.τ).loc Cert.AdamwRepIdeal.main_arg0)
      ∧ m' ((c.tc : Thread Cert.AdamwRepRefIdeal.nD Cert.AdamwRepRefIdeal.τ).loc Cert.AdamwRepRefIdeal.main_arg1) = m ((c.tc : Thread Cert.AdamwRepIdeal.nD Cert.AdamwRepIdeal.τ).loc Cert.AdamwRepIdeal.main_arg1)
      ∧ m' ((c.tc : Thread Cert.AdamwRepRefIdeal.nD Cert.AdamwRepRefIdeal.τ).loc Cert.AdamwRepRefIdeal.main_arg2) = m ((c.tc : Thread Cert.AdamwRepIdeal.nD Cert.AdamwRepIdeal.τ).loc Cert.AdamwRepIdeal.main_arg2)
      ∧ m' ((c.tc : Thread Cert.AdamwRepRefIdeal.nD Cert.AdamwRepRefIdeal.τ).loc Cert.AdamwRepRefIdeal.main_arg3) = m ((c.tc : Thread Cert.AdamwRepIdeal.nD Cert.AdamwRepIdeal.τ).loc Cert.AdamwRepIdeal.main_arg3)) →
    ∃ (v0 : (c : Dev Cert.AdamwRepIdeal.nD) → Buf (Elt Ideal) ((c.tc : Thread Cert.AdamwRepIdeal.nD Cert.AdamwRepIdeal.τ).loc Cert.AdamwRepIdeal.main_v0_0)) (v1 : (c : Dev Cert.AdamwRepIdeal.nD) → Buf (Elt Ideal) ((c.tc : Thread Cert.AdamwRepIdeal.nD Cert.AdamwRepIdeal.τ).loc Cert.AdamwRepIdeal.main_v0_1)) (v2 : (c : Dev Cert.AdamwRepIdeal.nD) → Buf (Elt Ideal) ((c.tc : Thread Cert.AdamwRepIdeal.nD Cert.AdamwRepIdeal.τ).loc Cert.AdamwRepIdeal.main_v0_2)) (v3 : (c : Dev Cert.AdamwRepIdeal.nD) → Buf (Elt Ideal) ((c.tc : Thread Cert.AdamwRepIdeal.nD Cert.AdamwRepIdeal.τ).loc Cert.AdamwRepIdeal.main_v0_3)),
      θ_run (Cert.AdamwRepIdeal.defs (F := Ideal)) (onTc (τ := Cert.AdamwRepIdeal.τ) (Cert.AdamwRepIdeal.main (F := Ideal))) ⟨m, fun _ => 0, g⟩ (fun r => ∀ c : Dev Cert.AdamwRepIdeal.nD,
          r.2.mem ((c.tc : Thread Cert.AdamwRepIdeal.nD Cert.AdamwRepIdeal.τ).loc Cert.AdamwRepIdeal.main_v0_0) = v0 c
          ∧ r.2.mem ((c.tc : Thread Cert.AdamwRepIdeal.nD Cert.AdamwRepIdeal.τ).loc Cert.AdamwRepIdeal.main_v0_1) = v1 c
          ∧ r.2.mem ((c.tc : Thread Cert.AdamwRepIdeal.nD Cert.AdamwRepIdeal.τ).loc Cert.AdamwRepIdeal.main_v0_2) = v2 c
          ∧ r.2.mem ((c.tc : Thread Cert.AdamwRepIdeal.nD Cert.AdamwRepIdeal.τ).loc Cert.AdamwRepIdeal.main_v0_3) = v3 c
          ∧ r.2.mem ((c.tc : Thread Cert.AdamwRepIdeal.nD Cert.AdamwRepIdeal.τ).loc Cert.AdamwRepIdeal.main_arg0) = m ((c.tc : Thread Cert.AdamwRepIdeal.nD Cert.AdamwRepIdeal.τ).loc Cert.AdamwRepIdeal.main_arg0)
          ∧ r.2.mem ((c.tc : Thread Cert.AdamwRepIdeal.nD Cert.AdamwRepIdeal.τ).loc Cert.AdamwRepIdeal.main_arg1) = m ((c.tc : Thread Cert.AdamwRepIdeal.nD Cert.AdamwRepIdeal.τ).loc Cert.AdamwRepIdeal.main_arg1)
          ∧ r.2.mem ((c.tc : Thread Cert.AdamwRepIdeal.nD Cert.AdamwRepIdeal.τ).loc Cert.AdamwRepIdeal.main_arg2) = m ((c.tc : Thread Cert.AdamwRepIdeal.nD Cert.AdamwRepIdeal.τ).loc Cert.AdamwRepIdeal.main_arg2)
          ∧ r.2.mem ((c.tc : Thread Cert.AdamwRepIdeal.nD Cert.AdamwRepIdeal.τ).loc Cert.AdamwRepIdeal.main_arg3) = m ((c.tc : Thread Cert.AdamwRepIdeal.nD Cert.AdamwRepIdeal.τ).loc Cert.AdamwRepIdeal.main_arg3))
      ∧ θ_run (Cert.AdamwRepRefIdeal.defs (F := Ideal)) (onTc (τ := Cert.AdamwRepRefIdeal.τ) (Cert.AdamwRepRefIdeal.main (F := Ideal))) ⟨m', fun _ => 0, g'⟩ (fun r => ∀ c : Dev Cert.AdamwRepRefIdeal.nD,
          r.2.mem ((c.tc : Thread Cert.AdamwRepRefIdeal.nD Cert.AdamwRepRefIdeal.τ).loc Cert.AdamwRepRefIdeal.main_v10) = v0 c
          ∧ r.2.mem ((c.tc : Thread Cert.AdamwRepRefIdeal.nD Cert.AdamwRepRefIdeal.τ).loc Cert.AdamwRepRefIdeal.main_v34) = v1 c
          ∧ r.2.mem ((c.tc : Thread Cert.AdamwRepRefIdeal.nD Cert.AdamwRepRefIdeal.τ).loc Cert.AdamwRepRefIdeal.main_v15) = v2 c
          ∧ r.2.mem ((c.tc : Thread Cert.AdamwRepRefIdeal.nD Cert.AdamwRepRefIdeal.τ).loc Cert.AdamwRepRefIdeal.main_v21) = v3 c
          ∧ r.2.mem ((c.tc : Thread Cert.AdamwRepRefIdeal.nD Cert.AdamwRepRefIdeal.τ).loc Cert.AdamwRepRefIdeal.main_arg0) = m' ((c.tc : Thread Cert.AdamwRepRefIdeal.nD Cert.AdamwRepRefIdeal.τ).loc Cert.AdamwRepRefIdeal.main_arg0)
          ∧ r.2.mem ((c.tc : Thread Cert.AdamwRepRefIdeal.nD Cert.AdamwRepRefIdeal.τ).loc Cert.AdamwRepRefIdeal.main_arg1) = m' ((c.tc : Thread Cert.AdamwRepRefIdeal.nD Cert.AdamwRepRefIdeal.τ).loc Cert.AdamwRepRefIdeal.main_arg1)
          ∧ r.2.mem ((c.tc : Thread Cert.AdamwRepRefIdeal.nD Cert.AdamwRepRefIdeal.τ).loc Cert.AdamwRepRefIdeal.main_arg2) = m' ((c.tc : Thread Cert.AdamwRepRefIdeal.nD Cert.AdamwRepRefIdeal.τ).loc Cert.AdamwRepRefIdeal.main_arg2)
          ∧ r.2.mem ((c.tc : Thread Cert.AdamwRepRefIdeal.nD Cert.AdamwRepRefIdeal.τ).loc Cert.AdamwRepRefIdeal.main_arg3) = m' ((c.tc : Thread Cert.AdamwRepRefIdeal.nD Cert.AdamwRepRefIdeal.τ).loc Cert.AdamwRepRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v10) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)) →
    ∃ (v0 : (c : Dev Cert.NormFirstIdeal.nD) → Buf (Elt Ideal) ((c.tc : Thread Cert.NormFirstIdeal.nD Cert.NormFirstIdeal.τ).loc Cert.NormFirstIdeal.main_v0_0)) (v1 : (c : Dev Cert.NormFirstIdeal.nD) → Buf (Elt Ideal) ((c.tc : Thread Cert.NormFirstIdeal.nD Cert.NormFirstIdeal.τ).loc Cert.NormFirstIdeal.main_v0_1)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0_0) = v0 c
          ∧ r.2.mem ((c.tc : Thread Cert.NormFirstIdeal.nD Cert.NormFirstIdeal.τ).loc Cert.NormFirstIdeal.main_v0_1) = v1 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v37) = v0 c
          ∧ r.2.mem ((c.tc : Thread Cert.NormFirstRefIdeal.nD Cert.NormFirstRefIdeal.τ).loc Cert.NormFirstRefIdeal.main_v38) = v1 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3))

def preserves_SumAb_SumAbIdeal : Prop :=
  True

def bitexact_SumAb_SumAbRef [hSumAb : Cert.SumAb.Facts] [hSumAbRef : Cert.SumAbRef.Facts] : Prop :=
  ∀ (m : (ℓ : Loc Cert.SumAb.nD Cert.SumAb.τ Cert.SumAb.sig) → Buf (Elt Bits) ℓ) (g : Dev Cert.SumAb.nD → PrngReg)
    (m' : (ℓ : Loc Cert.SumAbRef.nD Cert.SumAbRef.τ Cert.SumAbRef.sig) → Buf (Elt Bits) ℓ) (g' : Dev Cert.SumAbRef.nD → PrngReg), Pre_SumAb m →
    (∀ c : Dev Cert.SumAb.nD,
      m ((c.tc : Thread Cert.SumAb.nD Cert.SumAb.τ).loc Cert.SumAb.main_arg0) = Layout.block ⟨3, ![8, 2048, 448]⟩ ⟨3, ![64, 2048, 448]⟩ 0 8 c (m' (((0 : Dev Cert.SumAbRef.nD).tc : Thread Cert.SumAbRef.nD Cert.SumAbRef.τ).loc Cert.SumAbRef.main_arg0))
      ∧ m ((c.tc : Thread Cert.SumAb.nD Cert.SumAb.τ).loc Cert.SumAb.main_arg1) = Layout.block ⟨3, ![4, 2048, 448]⟩ ⟨3, ![32, 2048, 448]⟩ 0 8 c (m' (((0 : Dev Cert.SumAbRef.nD).tc : Thread Cert.SumAbRef.nD Cert.SumAbRef.τ).loc Cert.SumAbRef.main_arg1))) →
    ∃ (v0 : Buf (Elt Bits) (((0 : Dev Cert.SumAbRef.nD).tc : Thread Cert.SumAbRef.nD Cert.SumAbRef.τ).loc Cert.SumAbRef.main_v12)),
      θ_run (Cert.SumAb.defs (F := Bits)) (onTc (τ := Cert.SumAb.τ) (Cert.SumAb.main (F := Bits))) ⟨m, fun _ => 0, g⟩ (fun r => ∀ c : Dev Cert.SumAb.nD,
          r.2.mem ((c.tc : Thread Cert.SumAb.nD Cert.SumAb.τ).loc Cert.SumAb.main_v1) = Layout.block ⟨3, ![4, 2048, 448]⟩ ⟨3, ![32, 2048, 448]⟩ 0 8 c v0
          ∧ r.2.mem ((c.tc : Thread Cert.SumAb.nD Cert.SumAb.τ).loc Cert.SumAb.main_arg0) = m ((c.tc : Thread Cert.SumAb.nD Cert.SumAb.τ).loc Cert.SumAb.main_arg0)
          ∧ r.2.mem ((c.tc : Thread Cert.SumAb.nD Cert.SumAb.τ).loc Cert.SumAb.main_arg1) = m ((c.tc : Thread Cert.SumAb.nD Cert.SumAb.τ).loc Cert.SumAb.main_arg1))
      ∧ θ_run (Cert.SumAbRef.defs (F := Bits)) (onTc (τ := Cert.SumAbRef.τ) (Cert.SumAbRef.main (F := Bits))) ⟨m', fun _ => 0, g'⟩ (fun r =>
          r.2.mem (((0 : Dev Cert.SumAbRef.nD).tc : Thread Cert.SumAbRef.nD Cert.SumAbRef.τ).loc Cert.SumAbRef.main_v12) = v0
          ∧ r.2.mem (((0 : Dev Cert.SumAbRef.nD).tc : Thread Cert.SumAbRef.nD Cert.SumAbRef.τ).loc Cert.SumAbRef.main_arg0) = m' (((0 : Dev Cert.SumAbRef.nD).tc : Thread Cert.SumAbRef.nD Cert.SumAbRef.τ).loc Cert.SumAbRef.main_arg0)
          ∧ r.2.mem (((0 : Dev Cert.SumAbRef.nD).tc : Thread Cert.SumAbRef.nD Cert.SumAbRef.τ).loc Cert.SumAbRef.main_arg1) = m' (((0 : Dev Cert.SumAbRef.nD).tc : Thread Cert.SumAbRef.nD Cert.SumAbRef.τ).loc Cert.SumAbRef.main_arg1))

def algebraic_SumAbIdeal_SumAbRefIdeal [hSumAbIdeal : Cert.SumAbIdeal.Facts] [hSumAbRefIdeal : Cert.SumAbRefIdeal.Facts] : Prop :=
  ∀ (m : (ℓ : Loc Cert.SumAbIdeal.nD Cert.SumAbIdeal.τ Cert.SumAbIdeal.sig) → Buf (Elt Ideal) ℓ) (g : Dev Cert.SumAbIdeal.nD → PrngReg)
    (m' : (ℓ : Loc Cert.SumAbRefIdeal.nD Cert.SumAbRefIdeal.τ Cert.SumAbRefIdeal.sig) → Buf (Elt Ideal) ℓ) (g' : Dev Cert.SumAbRefIdeal.nD → PrngReg), Pre_SumAbIdeal m →
    (∀ c : Dev Cert.SumAbIdeal.nD,
      m ((c.tc : Thread Cert.SumAbIdeal.nD Cert.SumAbIdeal.τ).loc Cert.SumAbIdeal.main_arg0) = Layout.block ⟨3, ![8, 2048, 448]⟩ ⟨3, ![64, 2048, 448]⟩ 0 8 c (m' (((0 : Dev Cert.SumAbRefIdeal.nD).tc : Thread Cert.SumAbRefIdeal.nD Cert.SumAbRefIdeal.τ).loc Cert.SumAbRefIdeal.main_arg0))
      ∧ m ((c.tc : Thread Cert.SumAbIdeal.nD Cert.SumAbIdeal.τ).loc Cert.SumAbIdeal.main_arg1) = Layout.block ⟨3, ![4, 2048, 448]⟩ ⟨3, ![32, 2048, 448]⟩ 0 8 c (m' (((0 : Dev Cert.SumAbRefIdeal.nD).tc : Thread Cert.SumAbRefIdeal.nD Cert.SumAbRefIdeal.τ).loc Cert.SumAbRefIdeal.main_arg1))) →
    ∃ (v0 : Buf (Elt Ideal) (((0 : Dev Cert.SumAbRefIdeal.nD).tc : Thread Cert.SumAbRefIdeal.nD Cert.SumAbRefIdeal.τ).loc Cert.SumAbRefIdeal.main_v12)),
      θ_run (Cert.SumAbIdeal.defs (F := Ideal)) (onTc (τ := Cert.SumAbIdeal.τ) (Cert.SumAbIdeal.main (F := Ideal))) ⟨m, fun _ => 0, g⟩ (fun r => ∀ c : Dev Cert.SumAbIdeal.nD,
          r.2.mem ((c.tc : Thread Cert.SumAbIdeal.nD Cert.SumAbIdeal.τ).loc Cert.SumAbIdeal.main_v1) = Layout.block ⟨3, ![4, 2048, 448]⟩ ⟨3, ![32, 2048, 448]⟩ 0 8 c v0
          ∧ r.2.mem ((c.tc : Thread Cert.SumAbIdeal.nD Cert.SumAbIdeal.τ).loc Cert.SumAbIdeal.main_arg0) = m ((c.tc : Thread Cert.SumAbIdeal.nD Cert.SumAbIdeal.τ).loc Cert.SumAbIdeal.main_arg0)
          ∧ r.2.mem ((c.tc : Thread Cert.SumAbIdeal.nD Cert.SumAbIdeal.τ).loc Cert.SumAbIdeal.main_arg1) = m ((c.tc : Thread Cert.SumAbIdeal.nD Cert.SumAbIdeal.τ).loc Cert.SumAbIdeal.main_arg1))
      ∧ θ_run (Cert.SumAbRefIdeal.defs (F := Ideal)) (onTc (τ := Cert.SumAbRefIdeal.τ) (Cert.SumAbRefIdeal.main (F := Ideal))) ⟨m', fun _ => 0, g'⟩ (fun r =>
          r.2.mem (((0 : Dev Cert.SumAbRefIdeal.nD).tc : Thread Cert.SumAbRefIdeal.nD Cert.SumAbRefIdeal.τ).loc Cert.SumAbRefIdeal.main_v12) = v0
          ∧ r.2.mem (((0 : Dev Cert.SumAbRefIdeal.nD).tc : Thread Cert.SumAbRefIdeal.nD Cert.SumAbRefIdeal.τ).loc Cert.SumAbRefIdeal.main_arg0) = m' (((0 : Dev Cert.SumAbRefIdeal.nD).tc : Thread Cert.SumAbRefIdeal.nD Cert.SumAbRefIdeal.τ).loc Cert.SumAbRefIdeal.main_arg0)
          ∧ r.2.mem (((0 : Dev Cert.SumAbRefIdeal.nD).tc : Thread Cert.SumAbRefIdeal.nD Cert.SumAbRefIdeal.τ).loc Cert.SumAbRefIdeal.main_arg1) = m' (((0 : Dev Cert.SumAbRefIdeal.nD).tc : Thread Cert.SumAbRefIdeal.nD Cert.SumAbRefIdeal.τ).loc Cert.SumAbRefIdeal.main_arg1))

def preserves_SumC_SumCIdeal : Prop :=
  True

def bitexact_SumC_SumCRef [hSumC : Cert.SumC.Facts] [hSumCRef : Cert.SumCRef.Facts] : Prop :=
  ∀ (m : (ℓ : Loc Cert.SumC.nD Cert.SumC.τ Cert.SumC.sig) → Buf (Elt Bits) ℓ) (g : Dev Cert.SumC.nD → PrngReg)
    (m' : (ℓ : Loc Cert.SumCRef.nD Cert.SumCRef.τ Cert.SumCRef.sig) → Buf (Elt Bits) ℓ) (g' : Dev Cert.SumCRef.nD → PrngReg), Pre_SumC m →
    (∀ c : Dev Cert.SumC.nD,
      m ((c.tc : Thread Cert.SumC.nD Cert.SumC.τ).loc Cert.SumC.main_arg0) = Layout.block ⟨3, ![8, 2048, 648]⟩ ⟨3, ![64, 2048, 648]⟩ 0 8 c (m' (((0 : Dev Cert.SumCRef.nD).tc : Thread Cert.SumCRef.nD Cert.SumCRef.τ).loc Cert.SumCRef.main_arg0))
      ∧ m ((c.tc : Thread Cert.SumC.nD Cert.SumC.τ).loc Cert.SumC.main_arg1) = Layout.block ⟨3, ![4, 2048, 648]⟩ ⟨3, ![32, 2048, 648]⟩ 0 8 c (m' (((0 : Dev Cert.SumCRef.nD).tc : Thread Cert.SumCRef.nD Cert.SumCRef.τ).loc Cert.SumCRef.main_arg1))) →
    ∃ (v0 : Buf (Elt Bits) (((0 : Dev Cert.SumCRef.nD).tc : Thread Cert.SumCRef.nD Cert.SumCRef.τ).loc Cert.SumCRef.main_v12)),
      θ_run (Cert.SumC.defs (F := Bits)) (onTc (τ := Cert.SumC.τ) (Cert.SumC.main (F := Bits))) ⟨m, fun _ => 0, g⟩ (fun r => ∀ c : Dev Cert.SumC.nD,
          r.2.mem ((c.tc : Thread Cert.SumC.nD Cert.SumC.τ).loc Cert.SumC.main_v1) = Layout.block ⟨3, ![4, 2048, 648]⟩ ⟨3, ![32, 2048, 648]⟩ 0 8 c v0
          ∧ r.2.mem ((c.tc : Thread Cert.SumC.nD Cert.SumC.τ).loc Cert.SumC.main_arg0) = m ((c.tc : Thread Cert.SumC.nD Cert.SumC.τ).loc Cert.SumC.main_arg0)
          ∧ r.2.mem ((c.tc : Thread Cert.SumC.nD Cert.SumC.τ).loc Cert.SumC.main_arg1) = m ((c.tc : Thread Cert.SumC.nD Cert.SumC.τ).loc Cert.SumC.main_arg1))
      ∧ θ_run (Cert.SumCRef.defs (F := Bits)) (onTc (τ := Cert.SumCRef.τ) (Cert.SumCRef.main (F := Bits))) ⟨m', fun _ => 0, g'⟩ (fun r =>
          r.2.mem (((0 : Dev Cert.SumCRef.nD).tc : Thread Cert.SumCRef.nD Cert.SumCRef.τ).loc Cert.SumCRef.main_v12) = v0
          ∧ r.2.mem (((0 : Dev Cert.SumCRef.nD).tc : Thread Cert.SumCRef.nD Cert.SumCRef.τ).loc Cert.SumCRef.main_arg0) = m' (((0 : Dev Cert.SumCRef.nD).tc : Thread Cert.SumCRef.nD Cert.SumCRef.τ).loc Cert.SumCRef.main_arg0)
          ∧ r.2.mem (((0 : Dev Cert.SumCRef.nD).tc : Thread Cert.SumCRef.nD Cert.SumCRef.τ).loc Cert.SumCRef.main_arg1) = m' (((0 : Dev Cert.SumCRef.nD).tc : Thread Cert.SumCRef.nD Cert.SumCRef.τ).loc Cert.SumCRef.main_arg1))

def algebraic_SumCIdeal_SumCRefIdeal [hSumCIdeal : Cert.SumCIdeal.Facts] [hSumCRefIdeal : Cert.SumCRefIdeal.Facts] : Prop :=
  ∀ (m : (ℓ : Loc Cert.SumCIdeal.nD Cert.SumCIdeal.τ Cert.SumCIdeal.sig) → Buf (Elt Ideal) ℓ) (g : Dev Cert.SumCIdeal.nD → PrngReg)
    (m' : (ℓ : Loc Cert.SumCRefIdeal.nD Cert.SumCRefIdeal.τ Cert.SumCRefIdeal.sig) → Buf (Elt Ideal) ℓ) (g' : Dev Cert.SumCRefIdeal.nD → PrngReg), Pre_SumCIdeal m →
    (∀ c : Dev Cert.SumCIdeal.nD,
      m ((c.tc : Thread Cert.SumCIdeal.nD Cert.SumCIdeal.τ).loc Cert.SumCIdeal.main_arg0) = Layout.block ⟨3, ![8, 2048, 648]⟩ ⟨3, ![64, 2048, 648]⟩ 0 8 c (m' (((0 : Dev Cert.SumCRefIdeal.nD).tc : Thread Cert.SumCRefIdeal.nD Cert.SumCRefIdeal.τ).loc Cert.SumCRefIdeal.main_arg0))
      ∧ m ((c.tc : Thread Cert.SumCIdeal.nD Cert.SumCIdeal.τ).loc Cert.SumCIdeal.main_arg1) = Layout.block ⟨3, ![4, 2048, 648]⟩ ⟨3, ![32, 2048, 648]⟩ 0 8 c (m' (((0 : Dev Cert.SumCRefIdeal.nD).tc : Thread Cert.SumCRefIdeal.nD Cert.SumCRefIdeal.τ).loc Cert.SumCRefIdeal.main_arg1))) →
    ∃ (v0 : Buf (Elt Ideal) (((0 : Dev Cert.SumCRefIdeal.nD).tc : Thread Cert.SumCRefIdeal.nD Cert.SumCRefIdeal.τ).loc Cert.SumCRefIdeal.main_v12)),
      θ_run (Cert.SumCIdeal.defs (F := Ideal)) (onTc (τ := Cert.SumCIdeal.τ) (Cert.SumCIdeal.main (F := Ideal))) ⟨m, fun _ => 0, g⟩ (fun r => ∀ c : Dev Cert.SumCIdeal.nD,
          r.2.mem ((c.tc : Thread Cert.SumCIdeal.nD Cert.SumCIdeal.τ).loc Cert.SumCIdeal.main_v1) = Layout.block ⟨3, ![4, 2048, 648]⟩ ⟨3, ![32, 2048, 648]⟩ 0 8 c v0
          ∧ r.2.mem ((c.tc : Thread Cert.SumCIdeal.nD Cert.SumCIdeal.τ).loc Cert.SumCIdeal.main_arg0) = m ((c.tc : Thread Cert.SumCIdeal.nD Cert.SumCIdeal.τ).loc Cert.SumCIdeal.main_arg0)
          ∧ r.2.mem ((c.tc : Thread Cert.SumCIdeal.nD Cert.SumCIdeal.τ).loc Cert.SumCIdeal.main_arg1) = m ((c.tc : Thread Cert.SumCIdeal.nD Cert.SumCIdeal.τ).loc Cert.SumCIdeal.main_arg1))
      ∧ θ_run (Cert.SumCRefIdeal.defs (F := Ideal)) (onTc (τ := Cert.SumCRefIdeal.τ) (Cert.SumCRefIdeal.main (F := Ideal))) ⟨m', fun _ => 0, g'⟩ (fun r =>
          r.2.mem (((0 : Dev Cert.SumCRefIdeal.nD).tc : Thread Cert.SumCRefIdeal.nD Cert.SumCRefIdeal.τ).loc Cert.SumCRefIdeal.main_v12) = v0
          ∧ r.2.mem (((0 : Dev Cert.SumCRefIdeal.nD).tc : Thread Cert.SumCRefIdeal.nD Cert.SumCRefIdeal.τ).loc Cert.SumCRefIdeal.main_arg0) = m' (((0 : Dev Cert.SumCRefIdeal.nD).tc : Thread Cert.SumCRefIdeal.nD Cert.SumCRefIdeal.τ).loc Cert.SumCRefIdeal.main_arg0)
          ∧ r.2.mem (((0 : Dev Cert.SumCRefIdeal.nD).tc : Thread Cert.SumCRefIdeal.nD Cert.SumCRefIdeal.τ).loc Cert.SumCRefIdeal.main_arg1) = m' (((0 : Dev Cert.SumCRefIdeal.nD).tc : Thread Cert.SumCRefIdeal.nD Cert.SumCRefIdeal.τ).loc Cert.SumCRefIdeal.main_arg1))

def preserves_SumUp_SumUpIdeal : Prop :=
  True

def bitexact_SumUp_SumUpRef [hSumUp : Cert.SumUp.Facts] [hSumUpRef : Cert.SumUpRef.Facts] : Prop :=
  ∀ (m : (ℓ : Loc Cert.SumUp.nD Cert.SumUp.τ Cert.SumUp.sig) → Buf (Elt Bits) ℓ) (g : Dev Cert.SumUp.nD → PrngReg)
    (m' : (ℓ : Loc Cert.SumUpRef.nD Cert.SumUpRef.τ Cert.SumUpRef.sig) → Buf (Elt Bits) ℓ) (g' : Dev Cert.SumUpRef.nD → PrngReg), Pre_SumUp m →
    (∀ c : Dev Cert.SumUp.nD,
      m ((c.tc : Thread Cert.SumUp.nD Cert.SumUp.τ).loc Cert.SumUp.main_arg0) = Layout.block ⟨3, ![8, 4096, 704]⟩ ⟨3, ![64, 4096, 704]⟩ 0 8 c (m' (((0 : Dev Cert.SumUpRef.nD).tc : Thread Cert.SumUpRef.nD Cert.SumUpRef.τ).loc Cert.SumUpRef.main_arg0))
      ∧ m ((c.tc : Thread Cert.SumUp.nD Cert.SumUp.τ).loc Cert.SumUp.main_arg1) = Layout.block ⟨3, ![4, 4096, 704]⟩ ⟨3, ![32, 4096, 704]⟩ 0 8 c (m' (((0 : Dev Cert.SumUpRef.nD).tc : Thread Cert.SumUpRef.nD Cert.SumUpRef.τ).loc Cert.SumUpRef.main_arg1))) →
    ∃ (v0 : Buf (Elt Bits) (((0 : Dev Cert.SumUpRef.nD).tc : Thread Cert.SumUpRef.nD Cert.SumUpRef.τ).loc Cert.SumUpRef.main_v12)),
      θ_run (Cert.SumUp.defs (F := Bits)) (onTc (τ := Cert.SumUp.τ) (Cert.SumUp.main (F := Bits))) ⟨m, fun _ => 0, g⟩ (fun r => ∀ c : Dev Cert.SumUp.nD,
          r.2.mem ((c.tc : Thread Cert.SumUp.nD Cert.SumUp.τ).loc Cert.SumUp.main_v1) = Layout.block ⟨3, ![4, 4096, 704]⟩ ⟨3, ![32, 4096, 704]⟩ 0 8 c v0
          ∧ r.2.mem ((c.tc : Thread Cert.SumUp.nD Cert.SumUp.τ).loc Cert.SumUp.main_arg0) = m ((c.tc : Thread Cert.SumUp.nD Cert.SumUp.τ).loc Cert.SumUp.main_arg0)
          ∧ r.2.mem ((c.tc : Thread Cert.SumUp.nD Cert.SumUp.τ).loc Cert.SumUp.main_arg1) = m ((c.tc : Thread Cert.SumUp.nD Cert.SumUp.τ).loc Cert.SumUp.main_arg1))
      ∧ θ_run (Cert.SumUpRef.defs (F := Bits)) (onTc (τ := Cert.SumUpRef.τ) (Cert.SumUpRef.main (F := Bits))) ⟨m', fun _ => 0, g'⟩ (fun r =>
          r.2.mem (((0 : Dev Cert.SumUpRef.nD).tc : Thread Cert.SumUpRef.nD Cert.SumUpRef.τ).loc Cert.SumUpRef.main_v12) = v0
          ∧ r.2.mem (((0 : Dev Cert.SumUpRef.nD).tc : Thread Cert.SumUpRef.nD Cert.SumUpRef.τ).loc Cert.SumUpRef.main_arg0) = m' (((0 : Dev Cert.SumUpRef.nD).tc : Thread Cert.SumUpRef.nD Cert.SumUpRef.τ).loc Cert.SumUpRef.main_arg0)
          ∧ r.2.mem (((0 : Dev Cert.SumUpRef.nD).tc : Thread Cert.SumUpRef.nD Cert.SumUpRef.τ).loc Cert.SumUpRef.main_arg1) = m' (((0 : Dev Cert.SumUpRef.nD).tc : Thread Cert.SumUpRef.nD Cert.SumUpRef.τ).loc Cert.SumUpRef.main_arg1))

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m ((c.tc : Thread Cert.SumUpIdeal.nD Cert.SumUpIdeal.τ).loc Cert.SumUpIdeal.main_arg0) = Layout.block ⟨3, ![8, 4096, 704]⟩ ⟨3, ![64, 4096, 704]⟩ 0 8 c (m' (((0 : Dev Cert.SumUpRefIdeal.nD).tc : Thread Cert.SumUpRefIdeal.nD Cert.SumUpRefIdeal.τ).loc Cert.SumUpRefIdeal.main_arg0))
      ∧ m ((c.tc : Thread Cert.SumUpIdeal.nD Cert.SumUpIdeal.τ).loc Cert.SumUpIdeal.main_arg1) = Layout.block ⟨3, ![4, 4096, 704]⟩ ⟨3, ![32, 4096, 704]⟩ 0 8 c (m' (((0 : Dev Cert.SumUpRefIdeal.nD).tc : Thread Cert.SumUpRefIdeal.nD Cert.SumUpRefIdeal.τ).loc Cert.SumUpRefIdeal.main_arg1))) →
    ∃ (v0 : Buf (Elt Ideal) (((0 : Dev Cert.SumUpRefIdeal.nD).tc : Thread Cert.SumUpRefIdeal.nD Cert.SumUpRefIdeal.τ).loc Cert.SumUpRefIdeal.main_v12)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v1) = Layout.block ⟨3, ![4, 4096, 704]⟩ ⟨3, ![32, 4096, 704]⟩ 0 8 c v0
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
          ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1))
      ∧ θ_run (Cert.SumUpRefIdeal.defs (F := Ideal)) (onTc (τ := Cert.SumUpRefIdeal.τ) (Cert.SumUpRefIdeal.main (F := Ideal))) ⟨m', fun _ => 0, g'⟩ (fun r =>
          r.2.mem (((0 : Dev Cert.SumUpRefIdeal.nD).tc : Thread Cert.SumUpRefIdeal.nD Cert.SumUpRefIdeal.τ).loc Cert.SumUpRefIdeal.main_v12) = v0
          ∧ r.2.mem (((0 : Dev Cert.SumUpRefIdeal.nD).tc : Thread Cert.SumUpRefIdeal.nD Cert.SumUpRefIdeal.τ).loc Cert.SumUpRefIdeal.main_arg0) = m' (((0 : Dev Cert.SumUpRefIdeal.nD).tc : Thread Cert.SumUpRefIdeal.nD Cert.SumUpRefIdeal.τ).loc Cert.SumUpRefIdeal.main_arg0)
          ∧ r.2.mem (((0 : Dev Cert.SumUpRefIdeal.nD).tc : Thread Cert.SumUpRefIdeal.nD Cert.SumUpRefIdeal.τ).loc Cert.SumUpRefIdeal.main_arg1) = m' (((0 : Dev Cert.SumUpRefIdeal.nD).tc : Thread Cert.SumUpRefIdeal.nD Cert.SumUpRefIdeal.τ).loc Cert.SumUpRefIdeal.main_arg1))

def preserves_SumRows_SumRowsIdeal : Prop :=
  True

def bitexact_SumRows_SumRowsRef [hSumRows : Cert.SumRows.Facts] [hSumRowsRef : Cert.SumRowsRef.Facts] : Prop :=
  ∀ (m : (ℓ : Loc Cert.SumRows.nD Cert.SumRows.τ Cert.SumRows.sig) → Buf (Elt Bits) ℓ) (g : Dev Cert.SumRows.nD → PrngReg)
    (m' : (ℓ : Loc Cert.SumRowsRef.nD Cert.SumRowsRef.τ Cert.SumRowsRef.sig) → Buf (Elt Bits) ℓ) (g' : Dev Cert.SumRowsRef.nD → PrngReg), Pre_SumRows m →
    (∀ c : Dev Cert.SumRows.nD,
      m ((c.tc : Thread Cert.SumRows.nD Cert.SumRows.τ).loc Cert.SumRows.main_arg0) = Layout.block ⟨3, ![8, 2176, 1024]⟩ ⟨3, ![64, 2176, 1024]⟩ 0 8 c (m' (((0 : Dev Cert.SumRowsRef.nD).tc : Thread Cert.SumRowsRef.nD Cert.SumRowsRef.τ).loc Cert.SumRowsRef.main_arg0))
      ∧ m ((c.tc : Thread Cert.SumRows.nD Cert.SumRows.τ).loc Cert.SumRows.main_arg1) = Layout.block ⟨3, ![4, 2176, 1024]⟩ ⟨3, ![32, 2176, 1024]⟩ 0 8 c (m' (((0 : Dev Cert.SumRowsRef.nD).tc : Thread Cert.SumRowsRef.nD Cert.SumRowsRef.τ).loc Cert.SumRowsRef.main_arg1))) →
    ∃ (v0 : Buf (Elt Bits) (((0 : Dev Cert.SumRowsRef.nD).tc : Thread Cert.SumRowsRef.nD Cert.SumRowsRef.τ).loc Cert.SumRowsRef.main_v12)),
      θ_run (Cert.SumRows.defs (F := Bits)) (onTc (τ := Cert.SumRows.τ) (Cert.SumRows.main (F := Bits))) ⟨m, fun _ => 0, g⟩ (fun r => ∀ c : Dev Cert.SumRows.nD,
          r.2.mem ((c.tc : Thread Cert.SumRows.nD Cert.SumRows.τ).loc Cert.SumRows.main_v1) = Layout.block ⟨3, ![4, 2176, 1024]⟩ ⟨3, ![32, 2176, 1024]⟩ 0 8 c v0
          ∧ r.2.mem ((c.tc : Thread Cert.SumRows.nD Cert.SumRows.τ).loc Cert.SumRows.main_arg0) = m ((c.tc : Thread Cert.SumRows.nD Cert.SumRows.τ).loc Cert.SumRows.main_arg0)
          ∧ r.2.mem ((c.tc : Thread Cert.SumRows.nD Cert.SumRows.τ).loc Cert.SumRows.main_arg1) = m ((c.tc : Thread Cert.SumRows.nD Cert.SumRows.τ).loc Cert.SumRows.main_arg1))
      ∧ θ_run (Cert.SumRowsRef.defs (F := Bits)) (onTc (τ := Cert.SumRowsRef.τ) (Cert.SumRowsRef.main (F := Bits))) ⟨m', fun _ => 0, g'⟩ (fun r =>
          r.2.mem (((0 : Dev Cert.SumRowsRef.nD).tc : Thread Cert.SumRowsRef.nD Cert.SumRowsRef.τ).loc Cert.SumRowsRef.main_v12) = v0
          ∧ r.2.mem (((0 : Dev Cert.SumRowsRef.nD).tc : Thread Cert.SumRowsRef.nD Cert.SumRowsRef.τ).loc Cert.SumRowsRef.main_arg0) = m' (((0 : Dev Cert.SumRowsRef.nD).tc : Thread Cert.SumRowsRef.nD Cert.SumRowsRef.τ).loc Cert.SumRowsRef.main_arg0)
          ∧ r.2.mem (((0 : Dev Cert.SumRowsRef.nD).tc : Thread Cert.SumRowsRef.nD Cert.SumRowsRef.τ).loc Cert.SumRowsRef.main_arg1) = m' (((0 : Dev Cert.SumRowsRef.nD).tc : Thread Cert.SumRowsRef.nD Cert.SumRowsRef.τ).loc Cert.SumRowsRef.main_arg1))

def algebraic_SumRowsIdeal_SumRowsRefIdeal [hSumRowsIdeal : Cert.SumRowsIdeal.Facts] [hSumRowsRefIdeal : Cert.SumRowsRefIdeal.Facts] : Prop :=
  ∀ (m : (ℓ : Loc Cert.SumRowsIdeal.nD Cert.SumRowsIdeal.τ Cert.SumRowsIdeal.sig) → Buf (Elt Ideal) ℓ) (g : Dev Cert.SumRowsIdeal.nD → PrngReg)
    (m' : (ℓ : Loc Cert.SumRowsRefIdeal.nD Cert.SumRowsRefIdeal.τ Cert.SumRowsRefIdeal.sig) → Buf (Elt Ideal) ℓ) (g' : Dev Cert.SumRowsRefIdeal.nD → PrngReg), Pre_SumRowsIdeal m →
    (∀ c : Dev Cert.SumRowsIdeal.nD,
      m ((c.tc : Thread Cert.SumRowsIdeal.nD Cert.SumRowsIdeal.τ).loc Cert.SumRowsIdeal.main_arg0) = Layout.block ⟨3, ![8, 2176, 1024]⟩ ⟨3, ![64, 2176, 1024]⟩ 0 8 c (m' (((0 : Dev Cert.SumRowsRefIdeal.nD).tc : Thread Cert.SumRowsRefIdeal.nD Cert.SumRowsRefIdeal.τ).loc Cert.SumRowsRefIdeal.main_arg0))
      ∧ m ((c.tc : Thread Cert.SumRowsIdeal.nD Cert.SumRowsIdeal.τ).loc Cert.SumRowsIdeal.main_arg1) = Layout.block ⟨3, ![4, 2176, 1024]⟩ ⟨3, ![32, 2176, 1024]⟩ 0 8 c (m' (((0 : Dev Cert.SumRowsRefIdeal.nD).tc : Thread Cert.SumRowsRefIdeal.nD Cert.SumRowsRefIdeal.τ).loc Cert.SumRowsRefIdeal.main_arg1))) →
    ∃ (v0 : Buf (Elt Ideal) (((0 : Dev Cert.SumRowsRefIdeal.nD).tc : Thread Cert.SumRowsRefIdeal.nD Cert.SumRowsRefIdeal.τ).loc Cert.SumRowsRefIdeal.main_v12)),
      θ_run (Cert.SumRowsIdeal.defs (F := Ideal)) (onTc (τ := Cert.SumRowsIdeal.τ) (Cert.SumRowsIdeal.main (F := Ideal))) ⟨m, fun _ => 0, g⟩ (fun r => ∀ c : Dev Cert.SumRowsIdeal.nD,
          r.2.mem ((c.tc : Thread Cert.SumRowsIdeal.nD Cert.SumRowsIdeal.τ).loc Cert.SumRowsIdeal.main_v1) = Layout.block ⟨3, ![4, 2176, 1024]⟩ ⟨3, ![32, 2176, 1024]⟩ 0 8 c v0
          ∧ r.2.mem ((c.tc : Thread Cert.SumRowsIdeal.nD Cert.SumRowsIdeal.τ).loc Cert.SumRowsIdeal.main_arg0) = m ((c.tc : Thread Cert.SumRowsIdeal.nD Cert.SumRowsIdeal.τ).loc Cert.SumRowsIdeal.main_arg0)
          ∧ r.2.mem ((c.tc : Thread Cert.SumRowsIdeal.nD Cert.SumRowsIdeal.τ).loc Cert.SumRowsIdeal.main_arg1) = m ((c.tc : Thread Cert.SumRowsIdeal.nD Cert.SumRowsIdeal.τ).loc Cert.SumRowsIdeal.main_arg1))
      ∧ θ_run (Cert.SumRowsRefIdeal.defs (F := Ideal)) (onTc (τ := Cert.SumRowsRefIdeal.τ) (Cert.SumRowsRefIdeal.main (F := Ideal))) ⟨m', fun _ => 0, g'⟩ (fun r =>
          r.2.mem (((0 : Dev Cert.SumRowsRefIdeal.nD).tc : Thread Cert.SumRowsRefIdeal.nD Cert.SumRowsRefIdeal.τ).loc Cert.SumRowsRefIdeal.main_v12) = v0
          ∧ r.2.mem (((0 : Dev Cert.SumRowsRefIdeal.nD).tc : Thread Cert.SumRowsRefIdeal.nD Cert.SumRowsRefIdeal.τ).loc Cert.SumRowsRefIdeal.main_arg0) = m' (((0 : Dev Cert.SumRowsRefIdeal.nD).tc : Thread Cert.SumRowsRefIdeal.nD Cert.SumRowsRefIdeal.τ).loc Cert.SumRowsRefIdeal.main_arg0)
          ∧ r.2.mem (((0 : Dev Cert.SumRowsRefIdeal.nD).tc : Thread Cert.SumRowsRefIdeal.nD Cert.SumRowsRefIdeal.τ).loc Cert.SumRowsRefIdeal.main_arg1) = m' (((0 : Dev Cert.SumRowsRefIdeal.nD).tc : Thread Cert.SumRowsRefIdeal.nD Cert.SumRowsRefIdeal.τ).loc Cert.SumRowsRefIdeal.main_arg1))

def preserves_SumSmall_SumSmallIdeal : Prop :=
  True

def bitexact_SumSmall_SumSmallRef [hSumSmall : Cert.SumSmall.Facts] [hSumSmallRef : Cert.SumSmallRef.Facts] : Prop :=
  ∀ (m : (ℓ : Loc Cert.SumSmall.nD Cert.SumSmall.τ Cert.SumSmall.sig) → Buf (Elt Bits) ℓ) (g : Dev Cert.SumSmall.nD → PrngReg)
    (m' : (ℓ : Loc Cert.SumSmallRef.nD Cert.SumSmallRef.τ Cert.SumSmallRef.sig) → Buf (Elt Bits) ℓ) (g' : Dev Cert.SumSmallRef.nD → PrngReg), Pre_SumSmall m →
    (∀ c : Dev Cert.SumSmall.nD,
      m ((c.tc : Thread Cert.SumSmall.nD Cert.SumSmall.τ).loc Cert.SumSmall.main_arg0) = Layout.block ⟨3, ![8, 112, 128]⟩ ⟨3, ![64, 112, 128]⟩ 0 8 c (m' (((0 : Dev Cert.SumSmallRef.nD).tc : Thread Cert.SumSmallRef.nD Cert.SumSmallRef.τ).loc Cert.SumSmallRef.main_arg0))
      ∧ m ((c.tc : Thread Cert.SumSmall.nD Cert.SumSmall.τ).loc Cert.SumSmall.main_arg1) = Layout.block ⟨3, ![4, 112, 128]⟩ ⟨3, ![32, 112, 128]⟩ 0 8 c (m' (((0 : Dev Cert.SumSmallRef.nD).tc : Thread Cert.SumSmallRef.nD Cert.SumSmallRef.τ).loc Cert.SumSmallRef.main_arg1))) →
    ∃ (v0 : Buf (Elt Bits) (((0 : Dev Cert.SumSmallRef.nD).tc : Thread Cert.SumSmallRef.nD Cert.SumSmallRef.τ).loc Cert.SumSmallRef.main_v9)),
      θ_run (Cert.SumSmall.defs (F := Bits)) (onTc (τ := Cert.SumSmall.τ) (Cert.SumSmall.main (F := Bits))) ⟨m, fun _ => 0, g⟩ (fun r => ∀ c : Dev Cert.SumSmall.nD,
          r.2.mem ((c.tc : Thread Cert.SumSmall.nD Cert.SumSmall.τ).loc Cert.SumSmall.main_v1) = Layout.block ⟨3, ![4, 112, 128]⟩ ⟨3, ![32, 112, 128]⟩ 0 8 c v0
          ∧ r.2.mem ((c.tc : Thread Cert.SumSmall.nD Cert.SumSmall.τ).loc Cert.SumSmall.main_arg0) = m ((c.tc : Thread Cert.SumSmall.nD Cert.SumSmall.τ).loc Cert.SumSmall.main_arg0)
          ∧ r.2.mem ((c.tc : Thread Cert.SumSmall.nD Cert.SumSmall.τ).loc Cert.SumSmall.main_arg1) = m ((c.tc : Thread Cert.SumSmall.nD Cert.SumSmall.τ).loc Cert.SumSmall.main_arg1))
      ∧ θ_run (Cert.SumSmallRef.defs (F := Bits)) (onTc (τ := Cert.SumSmallRef.τ) (Cert.SumSmallRef.main (F := Bits))) ⟨m', fun _ => 0, g'⟩ (fun r =>
          r.2.mem (((0 : Dev Cert.SumSmallRef.nD).tc : Thread Cert.SumSmallRef.nD Cert.SumSmallRef.τ).loc Cert.SumSmallRef.main_v9) = v0
          ∧ r.2.mem (((0 : Dev Cert.SumSmallRef.nD).tc : Thread Cert.SumSmallRef.nD Cert.SumSmallRef.τ).loc Cert.SumSmallRef.main_arg0) = m' (((0 : Dev Cert.SumSmallRef.nD).tc : Thread Cert.SumSmallRef.nD Cert.SumSmallRef.τ).loc Cert.SumSmallRef.main_arg0)
          ∧ r.2.mem (((0 : Dev Cert.SumSmallRef.nD).tc : Thread Cert.SumSmallRef.nD Cert.SumSmallRef.τ).loc Cert.SumSmallRef.main_arg1) = m' (((0 : Dev Cert.SumSmallRef.nD).tc : Thread Cert.SumSmallRef.nD Cert.SumSmallRef.τ).loc Cert.SumSmallRef.main_arg1))

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m ((c.tc : Thread Cert.SumSmallIdeal.nD Cert.SumSmallIdeal.τ).loc Cert.SumSmallIdeal.main_arg0) = Layout.block ⟨3, ![8, 112, 128]⟩ ⟨3, ![64, 112, 128]⟩ 0 8 c (m' (((0 : Dev Cert.SumSmallRefIdeal.nD).tc : Thread Cert.SumSmallRefIdeal.nD Cert.SumSmallRefIdeal.τ).loc Cert.SumSmallRefIdeal.main_arg0))
      ∧ m ((c.tc : Thread Cert.SumSmallIdeal.nD Cert.SumSmallIdeal.τ).loc Cert.SumSmallIdeal.main_arg1) = Layout.block ⟨3, ![4, 112, 128]⟩ ⟨3, ![32, 112, 128]⟩ 0 8 c (m' (((0 : Dev Cert.SumSmallRefIdeal.nD).tc : Thread Cert.SumSmallRefIdeal.nD Cert.SumSmallRefIdeal.τ).loc Cert.SumSmallRefIdeal.main_arg1))) →
    ∃ (v0 : Buf (Elt Ideal) (((0 : Dev Cert.SumSmallRefIdeal.nD).tc : Thread Cert.SumSmallRefIdeal.nD Cert.SumSmallRefIdeal.τ).loc Cert.SumSmallRefIdeal.main_v9)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v1) = Layout.block ⟨3, ![4, 112, 128]⟩ ⟨3, ![32, 112, 128]⟩ 0 8 c v0
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ θ_run (Cert.SumSmallRefIdeal.defs (F := Ideal)) (onTc (τ := Cert.SumSmallRefIdeal.τ) (Cert.SumSmallRefIdeal.main (F := Ideal))) ⟨m', fun _ => 0, g'⟩ (fun r =>
          r.2.mem (((0 : Dev Cert.SumSmallRefIdeal.nD).tc : Thread Cert.SumSmallRefIdeal.nD Cert.SumSmallRefIdeal.τ).loc Cert.SumSmallRefIdeal.main_v9) = v0
          ∧ r.2.mem (((0 : Dev Cert.SumSmallRefIdeal.nD).tc : Thread Cert.SumSmallRefIdeal.nD Cert.SumSmallRefIdeal.τ).loc Cert.SumSmallRefIdeal.main_arg0) = m' (((0 : Dev Cert.SumSmallRefIdeal.nD).tc : Thread Cert.SumSmallRefIdeal.nD Cert.SumSmallRefIdeal.τ).loc Cert.SumSmallRefIdeal.main_arg0)
          ∧ r.2.mem (((0 : Dev Cert.SumSmallRefIdeal.nD).tc : Thread Cert.SumSmallRefIdeal.nD Cert.SumSmallRefIdeal.τ).loc Cert.SumSmallRefIdeal.main_arg1) = m' (((0 : Dev Cert.SumSmallRefIdeal.nD).tc : Thread Cert.SumSmallRefIdeal.nD Cert.SumSmallRefIdeal.τ).loc Cert.SumSmallRefIdeal.main_arg1))

def preserves_SumRep_SumRepIdeal : Prop :=
  True

def bitexact_SumRep_SumRepRef [hSumRep : Cert.SumRep.Facts] [hSumRepRef : Cert.SumRepRef.Facts] : Prop :=
  ∀ (m : (ℓ : Loc Cert.SumRep.nD Cert.SumRep.τ Cert.SumRep.sig) → Buf (Elt Bits) ℓ) (g : Dev Cert.SumRep.nD → PrngReg)
    (m' : (ℓ : Loc Cert.SumRepRef.nD Cert.SumRepRef.τ Cert.SumRepRef.sig) → Buf (Elt Bits) ℓ) (g' : Dev Cert.SumRepRef.nD → PrngReg), Pre_SumRep m →
    (∀ c : Dev Cert.SumRep.nD,
      m ((c.tc : Thread Cert.SumRep.nD Cert.SumRep.τ).loc Cert.SumRep.main_arg0) = Layout.block ⟨2, ![376, 128]⟩ ⟨2, ![3008, 128]⟩ 0 8 c (m' (((0 : Dev Cert.SumRepRef.nD).tc : Thread Cert.SumRepRef.nD Cert.SumRepRef.τ).loc Cert.SumRepRef.main_arg0))
      ∧ m ((c.tc : Thread Cert.SumRep.nD Cert.SumRep.τ).loc Cert.SumRep.main_arg1) = Layout.block ⟨2, ![376, 128]⟩ ⟨2, ![3008, 128]⟩ 0 8 c (m' (((0 : Dev Cert.SumRepRef.nD).tc : Thread Cert.SumRepRef.nD Cert.SumRepRef.τ).loc Cert.SumRepRef.main_arg1))) →
    ∃ (v0 : Buf (Elt Bits) (((0 : Dev Cert.SumRepRef.nD).tc : Thread Cert.SumRepRef.nD Cert.SumRepRef.τ).loc Cert.SumRepRef.main_v0)),
      θ_run (Cert.SumRep.defs (F := Bits)) (onTc (τ := Cert.SumRep.τ) (Cert.SumRep.main (F := Bits))) ⟨m, fun _ => 0, g⟩ (fun r => ∀ c : Dev Cert.SumRep.nD,
          r.2.mem ((c.tc : Thread Cert.SumRep.nD Cert.SumRep.τ).loc Cert.SumRep.main_v1) = Layout.block ⟨2, ![376, 128]⟩ ⟨2, ![3008, 128]⟩ 0 8 c v0
          ∧ r.2.mem ((c.tc : Thread Cert.SumRep.nD Cert.SumRep.τ).loc Cert.SumRep.main_arg0) = m ((c.tc : Thread Cert.SumRep.nD Cert.SumRep.τ).loc Cert.SumRep.main_arg0)
          ∧ r.2.mem ((c.tc : Thread Cert.SumRep.nD Cert.SumRep.τ).loc Cert.SumRep.main_arg1) = m ((c.tc : Thread Cert.SumRep.nD Cert.SumRep.τ).loc Cert.SumRep.main_arg1))
      ∧ θ_run (Cert.SumRepRef.defs (F := Bits)) (onTc (τ := Cert.SumRepRef.τ) (Cert.SumRepRef.main (F := Bits))) ⟨m', fun _ => 0, g'⟩ (fun r =>
          r.2.mem (((0 : Dev Cert.SumRepRef.nD).tc : Thread Cert.SumRepRef.nD Cert.SumRepRef.τ).loc Cert.SumRepRef.main_v0) = v0
          ∧ r.2.mem (((0 : Dev Cert.SumRepRef.nD).tc : Thread Cert.SumRepRef.nD Cert.SumRepRef.τ).loc Cert.SumRepRef.main_arg0) = m' (((0 : Dev Cert.SumRepRef.nD).tc : Thread Cert.SumRepRef.nD Cert.SumRepRef.τ).loc Cert.SumRepRef.main_arg0)
          ∧ r.2.mem (((0 : Dev Cert.SumRepRef.nD).tc : Thread Cert.SumRepRef.nD Cert.SumRepRef.τ).loc Cert.SumRepRef.main_arg1) = m' (((0 : Dev Cert.SumRepRef.nD).tc : Thread Cert.SumRepRef.nD Cert.SumRepRef.τ).loc Cert.SumRepRef.main_arg1))

def algebraic_SumRepIdeal_SumRepRefIdeal [hSumRepIdeal : Cert.SumRepIdeal.Facts] [hSumRepRefIdeal : Cert.SumRepRefIdeal.Facts] : Prop :=
  ∀ (m : (ℓ : Loc Cert.SumRepIdeal.nD Cert.SumRepIdeal.τ Cert.SumRepIdeal.sig) → Buf (Elt Ideal) ℓ) (g : Dev Cert.SumRepIdeal.nD → PrngReg)
    (m' : (ℓ : Loc Cert.SumRepRefIdeal.nD Cert.SumRepRefIdeal.τ Cert.SumRepRefIdeal.sig) → Buf (Elt Ideal) ℓ) (g' : Dev Cert.SumRepRefIdeal.nD → PrngReg), Pre_SumRepIdeal m →
    (∀ c : Dev Cert.SumRepIdeal.nD,
      m ((c.tc : Thread Cert.SumRepIdeal.nD Cert.SumRepIdeal.τ).loc Cert.SumRepIdeal.main_arg0) = Layout.block ⟨2, ![376, 128]⟩ ⟨2, ![3008, 128]⟩ 0 8 c (m' (((0 : Dev Cert.SumRepRefIdeal.nD).tc : Thread Cert.SumRepRefIdeal.nD Cert.SumRepRefIdeal.τ).loc Cert.SumRepRefIdeal.main_arg0))
      ∧ m ((c.tc : Thread Cert.SumRepIdeal.nD Cert.SumRepIdeal.τ).loc Cert.SumRepIdeal.main_arg1) = Layout.block ⟨2, ![376, 128]⟩ ⟨2, ![3008, 128]⟩ 0 8 c (m' (((0 : Dev Cert.SumRepRefIdeal.nD).tc : Thread Cert.SumRepRefIdeal.nD Cert.SumRepRefIdeal.τ).loc Cert.SumRepRefIdeal.main_arg1))) →
    ∃ (v0 : Buf (Elt Ideal) (((0 : Dev Cert.SumRepRefIdeal.nD).tc : Thread Cert.SumRepRefIdeal.nD Cert.SumRepRefIdeal.τ).loc Cert.SumRepRefIdeal.main_v0)),
      θ_run (Cert.SumRepIdeal.defs (F := Ideal)) (onTc (τ := Cert.SumRepIdeal.τ) (Cert.SumRepIdeal.main (F := Ideal))) ⟨m, fun _ => 0, g⟩ (fun r => ∀ c : Dev Cert.SumRepIdeal.nD,
          r.2.mem ((c.tc : Thread Cert.SumRepIdeal.nD Cert.SumRepIdeal.τ).loc Cert.SumRepIdeal.main_v1) = Layout.block ⟨2, ![376, 128]⟩ ⟨2, ![3008, 128]⟩ 0 8 c v0
          ∧ r.2.mem ((c.tc : Thread Cert.SumRepIdeal.nD Cert.SumRepIdeal.τ).loc Cert.SumRepIdeal.main_arg0) = m ((c.tc : Thread Cert.SumRepIdeal.nD Cert.SumRepIdeal.τ).loc Cert.SumRepIdeal.main_arg0)
          ∧ r.2.mem ((c.tc : Thread Cert.SumRepIdeal.nD Cert.SumRepIdeal.τ).loc Cert.SumRepIdeal.main_arg1) = m ((c.tc : Thread Cert.SumRepIdeal.nD Cert.SumRepIdeal.τ).loc Cert.SumRepIdeal.main_arg1))
      ∧ θ_run (Cert.SumRepRefIdeal.defs (F := Ideal)) (onTc (τ := Cert.SumRepRefIdeal.τ) (Cert.SumRepRefIdeal.main (F := Ideal))) ⟨m', fun _ => 0, g'⟩ (fun r =>
          r.2.mem (((0 : Dev Cert.SumRepRefIdeal.nD).tc : Thread Cert.SumRepRefIdeal.nD Cert.SumRepRefIdeal.τ).loc Cert.SumRepRefIdeal.main_v0) = v0
          ∧ r.2.mem (((0 : Dev Cert.SumRepRefIdeal.nD).tc : Thread Cert.SumRepRefIdeal.nD Cert.SumRepRefIdeal.τ).loc Cert.SumRepRefIdeal.main_arg0) = m' (((0 : Dev Cert.SumRepRefIdeal.nD).tc : Thread Cert.SumRepRefIdeal.nD Cert.SumRepRefIdeal.τ).loc Cert.SumRepRefIdeal.main_arg0)
          ∧ r.2.mem (((0 : Dev Cert.SumRepRefIdeal.nD).tc : Thread Cert.SumRepRefIdeal.nD Cert.SumRepRefIdeal.τ).loc Cert.SumRepRefIdeal.main_arg1) = m' (((0 : Dev Cert.SumRepRefIdeal.nD).tc : Thread Cert.SumRepRefIdeal.nD Cert.SumRepRefIdeal.τ).loc Cert.SumRepRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v14) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v15) = v0 c
          ∧ r.2.mem ((c.tc : Thread Cert.MidRefIdeal.nD Cert.MidRefIdeal.τ).loc Cert.MidRefIdeal.main_v29) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_End_EndIdeal : Prop :=
  True

def algebraic_EndIdeal_EndRefIdeal [hEndIdeal : Cert.EndIdeal.Facts] [hEndRefIdeal : Cert.EndRefIdeal.Facts] : Prop :=
  ∀ (m : (ℓ : Loc Cert.EndIdeal.nD Cert.EndIdeal.τ Cert.EndIdeal.sig) → Buf (Elt Ideal) ℓ) (g : Dev Cert.EndIdeal.nD → PrngReg)
    (m' : (ℓ : Loc Cert.EndRefIdeal.nD Cert.EndRefIdeal.τ Cert.EndRefIdeal.sig) → Buf (Elt Ideal) ℓ) (g' : Dev Cert.EndRefIdeal.nD → PrngReg), Pre_EndIdeal m →
    (∀ c : Dev Cert.EndIdeal.nD,
      m' ((c.tc : Thread Cert.EndRefIdeal.nD Cert.EndRefIdeal.τ).loc Cert.EndRefIdeal.main_arg0) = m ((c.tc : Thread Cert.EndIdeal.nD Cert.EndIdeal.τ).loc Cert.EndIdeal.main_arg0)
      ∧ m' ((c.tc : Thread Cert.EndRefIdeal.nD Cert.EndRefIdeal.τ).loc Cert.EndRefIdeal.main_arg1) = m ((c.tc : Thread Cert.EndIdeal.nD Cert.EndIdeal.τ).loc Cert.EndIdeal.main_arg1)
      ∧ m' ((c.tc : Thread Cert.EndRefIdeal.nD Cert.EndRefIdeal.τ).loc Cert.EndRefIdeal.main_arg2) = m ((c.tc : Thread Cert.EndIdeal.nD Cert.EndIdeal.τ).loc Cert.EndIdeal.main_arg2)
      ∧ m' ((c.tc : Thread Cert.EndRefIdeal.nD Cert.EndRefIdeal.τ).loc Cert.EndRefIdeal.main_arg3) = m ((c.tc : Thread Cert.EndIdeal.nD Cert.EndIdeal.τ).loc Cert.EndIdeal.main_arg3)) →
    ∃ (v0 : (c : Dev Cert.EndIdeal.nD) → Buf (Elt Ideal) ((c.tc : Thread Cert.EndIdeal.nD Cert.EndIdeal.τ).loc Cert.EndIdeal.main_v0_0)) (v1 : (c : Dev Cert.EndIdeal.nD) → Buf (Elt Ideal) ((c.tc : Thread Cert.EndIdeal.nD Cert.EndIdeal.τ).loc Cert.EndIdeal.main_v0_1)),
      θ_run (Cert.EndIdeal.defs (F := Ideal)) (onTc (τ := Cert.EndIdeal.τ) (Cert.EndIdeal.main (F := Ideal))) ⟨m, fun _ => 0, g⟩ (fun r => ∀ c : Dev Cert.EndIdeal.nD,
          r.2.mem ((c.tc : Thread Cert.EndIdeal.nD Cert.EndIdeal.τ).loc Cert.EndIdeal.main_v0_0) = v0 c
          ∧ r.2.mem ((c.tc : Thread Cert.EndIdeal.nD Cert.EndIdeal.τ).loc Cert.EndIdeal.main_v0_1) = v1 c
          ∧ r.2.mem ((c.tc : Thread Cert.EndIdeal.nD Cert.EndIdeal.τ).loc Cert.EndIdeal.main_arg0) = m ((c.tc : Thread Cert.EndIdeal.nD Cert.EndIdeal.τ).loc Cert.EndIdeal.main_arg0)
          ∧ r.2.mem ((c.tc : Thread Cert.EndIdeal.nD Cert.EndIdeal.τ).loc Cert.EndIdeal.main_arg1) = m ((c.tc : Thread Cert.EndIdeal.nD Cert.EndIdeal.τ).loc Cert.EndIdeal.main_arg1)
          ∧ r.2.mem ((c.tc : Thread Cert.EndIdeal.nD Cert.EndIdeal.τ).loc Cert.EndIdeal.main_arg2) = m ((c.tc : Thread Cert.EndIdeal.nD Cert.EndIdeal.τ).loc Cert.EndIdeal.main_arg2)
          ∧ r.2.mem ((c.tc : Thread Cert.EndIdeal.nD Cert.EndIdeal.τ).loc Cert.EndIdeal.main_arg3) = m ((c.tc : Thread Cert.EndIdeal.nD Cert.EndIdeal.τ).loc Cert.EndIdeal.main_arg3))
      ∧ θ_run (Cert.EndRefIdeal.defs (F := Ideal)) (onTc (τ := Cert.EndRefIdeal.τ) (Cert.EndRefIdeal.main (F := Ideal))) ⟨m', fun _ => 0, g'⟩ (fun r => ∀ c : Dev Cert.EndRefIdeal.nD,
          r.2.mem ((c.tc : Thread Cert.EndRefIdeal.nD Cert.EndRefIdeal.τ).loc Cert.EndRefIdeal.main_v15) = v0 c
          ∧ r.2.mem ((c.tc : Thread Cert.EndRefIdeal.nD Cert.EndRefIdeal.τ).loc Cert.EndRefIdeal.main_v29) = v1 c
          ∧ r.2.mem ((c.tc : Thread Cert.EndRefIdeal.nD Cert.EndRefIdeal.τ).loc Cert.EndRefIdeal.main_arg0) = m' ((c.tc : Thread Cert.EndRefIdeal.nD Cert.EndRefIdeal.τ).loc Cert.EndRefIdeal.main_arg0)
          ∧ r.2.mem ((c.tc : Thread Cert.EndRefIdeal.nD Cert.EndRefIdeal.τ).loc Cert.EndRefIdeal.main_arg1) = m' ((c.tc : Thread Cert.EndRefIdeal.nD Cert.EndRefIdeal.τ).loc Cert.EndRefIdeal.main_arg1)
          ∧ r.2.mem ((c.tc : Thread Cert.EndRefIdeal.nD Cert.EndRefIdeal.τ).loc Cert.EndRefIdeal.main_arg2) = m' ((c.tc : Thread Cert.EndRefIdeal.nD Cert.EndRefIdeal.τ).loc Cert.EndRefIdeal.main_arg2)
          ∧ r.2.mem ((c.tc : Thread Cert.EndRefIdeal.nD Cert.EndRefIdeal.τ).loc Cert.EndRefIdeal.main_arg3) = m' ((c.tc : Thread Cert.EndRefIdeal.nD Cert.EndRefIdeal.τ).loc Cert.EndRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v14) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_LastBwd_LastBwdIdeal : Prop :=
  True

def algebraic_LastBwdIdeal_LastBwdRefIdeal [hLastBwdIdeal : Cert.LastBwdIdeal.Facts] [hLastBwdRefIdeal : Cert.LastBwdRefIdeal.Facts] : Prop :=
  ∀ (m : (ℓ : Loc Cert.LastBwdIdeal.nD Cert.LastBwdIdeal.τ Cert.LastBwdIdeal.sig) → Buf (Elt Ideal) ℓ) (g : Dev Cert.LastBwdIdeal.nD → PrngReg)
    (m' : (ℓ : Loc Cert.LastBwdRefIdeal.nD Cert.LastBwdRefIdeal.τ Cert.LastBwdRefIdeal.sig) → Buf (Elt Ideal) ℓ) (g' : Dev Cert.LastBwdRefIdeal.nD → PrngReg), Pre_LastBwdIdeal m →
    (∀ c : Dev Cert.LastBwdIdeal.nD,
      m' ((c.tc : Thread Cert.LastBwdRefIdeal.nD Cert.LastBwdRefIdeal.τ).loc Cert.LastBwdRefIdeal.main_arg0) = m ((c.tc : Thread Cert.LastBwdIdeal.nD Cert.LastBwdIdeal.τ).loc Cert.LastBwdIdeal.main_arg0)
      ∧ m' ((c.tc : Thread Cert.LastBwdRefIdeal.nD Cert.LastBwdRefIdeal.τ).loc Cert.LastBwdRefIdeal.main_arg1) = m ((c.tc : Thread Cert.LastBwdIdeal.nD Cert.LastBwdIdeal.τ).loc Cert.LastBwdIdeal.main_arg1)
      ∧ m' ((c.tc : Thread Cert.LastBwdRefIdeal.nD Cert.LastBwdRefIdeal.τ).loc Cert.LastBwdRefIdeal.main_arg2) = m ((c.tc : Thread Cert.LastBwdIdeal.nD Cert.LastBwdIdeal.τ).loc Cert.LastBwdIdeal.main_arg2)
      ∧ m' ((c.tc : Thread Cert.LastBwdRefIdeal.nD Cert.LastBwdRefIdeal.τ).loc Cert.LastBwdRefIdeal.main_arg3) = m ((c.tc : Thread Cert.LastBwdIdeal.nD Cert.LastBwdIdeal.τ).loc Cert.LastBwdIdeal.main_arg3)) →
    ∃ (v0 : (c : Dev Cert.LastBwdIdeal.nD) → Buf (Elt Ideal) ((c.tc : Thread Cert.LastBwdIdeal.nD Cert.LastBwdIdeal.τ).loc Cert.LastBwdIdeal.main_v0_0)) (v1 : (c : Dev Cert.LastBwdIdeal.nD) → Buf (Elt Ideal) ((c.tc : Thread Cert.LastBwdIdeal.nD Cert.LastBwdIdeal.τ).loc Cert.LastBwdIdeal.main_v0_1)) (v2 : (c : Dev Cert.LastBwdIdeal.nD) → Buf (Elt Ideal) ((c.tc : Thread Cert.LastBwdIdeal.nD Cert.LastBwdIdeal.τ).loc Cert.LastBwdIdeal.main_v0_2)),
      θ_run (Cert.LastBwdIdeal.defs (F := Ideal)) (onTc (τ := Cert.LastBwdIdeal.τ) (Cert.LastBwdIdeal.main (F := Ideal))) ⟨m, fun _ => 0, g⟩ (fun r => ∀ c : Dev Cert.LastBwdIdeal.nD,
          r.2.mem ((c.tc : Thread Cert.LastBwdIdeal.nD Cert.LastBwdIdeal.τ).loc Cert.LastBwdIdeal.main_v0_0) = v0 c
          ∧ r.2.mem ((c.tc : Thread Cert.LastBwdIdeal.nD Cert.LastBwdIdeal.τ).loc Cert.LastBwdIdeal.main_v0_1) = v1 c
          ∧ r.2.mem ((c.tc : Thread Cert.LastBwdIdeal.nD Cert.LastBwdIdeal.τ).loc Cert.LastBwdIdeal.main_v0_2) = v2 c
          ∧ r.2.mem ((c.tc : Thread Cert.LastBwdIdeal.nD Cert.LastBwdIdeal.τ).loc Cert.LastBwdIdeal.main_arg0) = m ((c.tc : Thread Cert.LastBwdIdeal.nD Cert.LastBwdIdeal.τ).loc Cert.LastBwdIdeal.main_arg0)
          ∧ r.2.mem ((c.tc : Thread Cert.LastBwdIdeal.nD Cert.LastBwdIdeal.τ).loc Cert.LastBwdIdeal.main_arg1) = m ((c.tc : Thread Cert.LastBwdIdeal.nD Cert.LastBwdIdeal.τ).loc Cert.LastBwdIdeal.main_arg1)
          ∧ r.2.mem ((c.tc : Thread Cert.LastBwdIdeal.nD Cert.LastBwdIdeal.τ).loc Cert.LastBwdIdeal.main_arg2) = m ((c.tc : Thread Cert.LastBwdIdeal.nD Cert.LastBwdIdeal.τ).loc Cert.LastBwdIdeal.main_arg2)
          ∧ r.2.mem ((c.tc : Thread Cert.LastBwdIdeal.nD Cert.LastBwdIdeal.τ).loc Cert.LastBwdIdeal.main_arg3) = m ((c.tc : Thread Cert.LastBwdIdeal.nD Cert.LastBwdIdeal.τ).loc Cert.LastBwdIdeal.main_arg3))
      ∧ θ_run (Cert.LastBwdRefIdeal.defs (F := Ideal)) (onTc (τ := Cert.LastBwdRefIdeal.τ) (Cert.LastBwdRefIdeal.main (F := Ideal))) ⟨m', fun _ => 0, g'⟩ (fun r => ∀ c : Dev Cert.LastBwdRefIdeal.nD,
          r.2.mem ((c.tc : Thread Cert.LastBwdRefIdeal.nD Cert.LastBwdRefIdeal.τ).loc Cert.LastBwdRefIdeal.main_arg3) = v0 c
          ∧ r.2.mem ((c.tc : Thread Cert.LastBwdRefIdeal.nD Cert.LastBwdRefIdeal.τ).loc Cert.LastBwdRefIdeal.main_v39) = v1 c
          ∧ r.2.mem ((c.tc : Thread Cert.LastBwdRefIdeal.nD Cert.LastBwdRefIdeal.τ).loc Cert.LastBwdRefIdeal.main_v40) = v2 c
          ∧ r.2.mem ((c.tc : Thread Cert.LastBwdRefIdeal.nD Cert.LastBwdRefIdeal.τ).loc Cert.LastBwdRefIdeal.main_arg0) = m' ((c.tc : Thread Cert.LastBwdRefIdeal.nD Cert.LastBwdRefIdeal.τ).loc Cert.LastBwdRefIdeal.main_arg0)
          ∧ r.2.mem ((c.tc : Thread Cert.LastBwdRefIdeal.nD Cert.LastBwdRefIdeal.τ).loc Cert.LastBwdRefIdeal.main_arg1) = m' ((c.tc : Thread Cert.LastBwdRefIdeal.nD Cert.LastBwdRefIdeal.τ).loc Cert.LastBwdRefIdeal.main_arg1)
          ∧ r.2.mem ((c.tc : Thread Cert.LastBwdRefIdeal.nD Cert.LastBwdRefIdeal.τ).loc Cert.LastBwdRefIdeal.main_arg2) = m' ((c.tc : Thread Cert.LastBwdRefIdeal.nD Cert.LastBwdRefIdeal.τ).loc Cert.LastBwdRefIdeal.main_arg2)
          ∧ r.2.mem ((c.tc : Thread Cert.LastBwdRefIdeal.nD Cert.LastBwdRefIdeal.τ).loc Cert.LastBwdRefIdeal.main_arg3) = m' ((c.tc : Thread Cert.LastBwdRefIdeal.nD Cert.LastBwdRefIdeal.τ).loc Cert.LastBwdRefIdeal.main_arg3))

def preserves_EndBwd_EndBwdIdeal : Prop :=
  True

def algebraic_EndBwdIdeal_EndBwdRefIdeal [hEndBwdIdeal : Cert.EndBwdIdeal.Facts] [hEndBwdRefIdeal : Cert.EndBwdRefIdeal.Facts] : Prop :=
  ∀ (m : (ℓ : Loc Cert.EndBwdIdeal.nD Cert.EndBwdIdeal.τ Cert.EndBwdIdeal.sig) → Buf (Elt Ideal) ℓ) (g : Dev Cert.EndBwdIdeal.nD → PrngReg)
    (m' : (ℓ : Loc Cert.EndBwdRefIdeal.nD Cert.EndBwdRefIdeal.τ Cert.EndBwdRefIdeal.sig) → Buf (Elt Ideal) ℓ) (g' : Dev Cert.EndBwdRefIdeal.nD → PrngReg), Pre_EndBwdIdeal m →
    (∀ c : Dev Cert.EndBwdIdeal.nD,
      m' ((c.tc : Thread Cert.EndBwdRefIdeal.nD Cert.EndBwdRefIdeal.τ).loc Cert.EndBwdRefIdeal.main_arg0) = m ((c.tc : Thread Cert.EndBwdIdeal.nD Cert.EndBwdIdeal.τ).loc Cert.EndBwdIdeal.main_arg0)
      ∧ m' ((c.tc : Thread Cert.EndBwdRefIdeal.nD Cert.EndBwdRefIdeal.τ).loc Cert.EndBwdRefIdeal.main_arg1) = m ((c.tc : Thread Cert.EndBwdIdeal.nD Cert.EndBwdIdeal.τ).loc Cert.EndBwdIdeal.main_arg1)
      ∧ m' ((c.tc : Thread Cert.EndBwdRefIdeal.nD Cert.EndBwdRefIdeal.τ).loc Cert.EndBwdRefIdeal.main_arg2) = m ((c.tc : Thread Cert.EndBwdIdeal.nD Cert.EndBwdIdeal.τ).loc Cert.EndBwdIdeal.main_arg2)
      ∧ m' ((c.tc : Thread Cert.EndBwdRefIdeal.nD Cert.EndBwdRefIdeal.τ).loc Cert.EndBwdRefIdeal.main_arg3) = m ((c.tc : Thread Cert.EndBwdIdeal.nD Cert.EndBwdIdeal.τ).loc Cert.EndBwdIdeal.main_arg3)
      ∧ m' ((c.tc : Thread Cert.EndBwdRefIdeal.nD Cert.EndBwdRefIdeal.τ).loc Cert.EndBwdRefIdeal.main_arg4) = m ((c.tc : Thread Cert.EndBwdIdeal.nD Cert.EndBwdIdeal.τ).loc Cert.EndBwdIdeal.main_arg4)
      ∧ m' ((c.tc : Thread Cert.EndBwdRefIdeal.nD Cert.EndBwdRefIdeal.τ).loc Cert.EndBwdRefIdeal.main_arg5) = m ((c.tc : Thread Cert.EndBwdIdeal.nD Cert.EndBwdIdeal.τ).loc Cert.EndBwdIdeal.main_arg5)) →
    ∃ (v0 : (c : Dev Cert.EndBwdIdeal.nD) → Buf (Elt Ideal) ((c.tc : Thread Cert.EndBwdIdeal.nD Cert.EndBwdIdeal.τ).loc Cert.EndBwdIdeal.main_v0_0)) (v1 : (c : Dev Cert.EndBwdIdeal.nD) → Buf (Elt Ideal) ((c.tc : Thread Cert.EndBwdIdeal.nD Cert.EndBwdIdeal.τ).loc Cert.EndBwdIdeal.main_v0_1)) (v2 : (c : Dev Cert.EndBwdIdeal.nD) → Buf (Elt Ideal) ((c.tc : Thread Cert.EndBwdIdeal.nD Cert.EndBwdIdeal.τ).loc Cert.EndBwdIdeal.main_v0_2)) (v3 : (c : Dev Cert.EndBwdIdeal.nD) → Buf (Elt Ideal) ((c.tc : Thread Cert.EndBwdIdeal.nD Cert.EndBwdIdeal.τ).loc Cert.EndBwdIdeal.main_v0_3)),
      θ_run (Cert.EndBwdIdeal.defs (F := Ideal)) (onTc (τ := Cert.EndBwdIdeal.τ) (Cert.EndBwdIdeal.main (F := Ideal))) ⟨m, fun _ => 0, g⟩ (fun r => ∀ c : Dev Cert.EndBwdIdeal.nD,
          r.2.mem ((c.tc : Thread Cert.EndBwdIdeal.nD Cert.EndBwdIdeal.τ).loc Cert.EndBwdIdeal.main_v0_0) = v0 c
          ∧ r.2.mem ((c.tc : Thread Cert.EndBwdIdeal.nD Cert.EndBwdIdeal.τ).loc Cert.EndBwdIdeal.main_v0_1) = v1 c
          ∧ r.2.mem ((c.tc : Thread Cert.EndBwdIdeal.nD Cert.EndBwdIdeal.τ).loc Cert.EndBwdIdeal.main_v0_2) = v2 c
          ∧ r.2.mem ((c.tc : Thread Cert.EndBwdIdeal.nD Cert.EndBwdIdeal.τ).loc Cert.EndBwdIdeal.main_v0_3) = v3 c
          ∧ r.2.mem ((c.tc : Thread Cert.EndBwdIdeal.nD Cert.EndBwdIdeal.τ).loc Cert.EndBwdIdeal.main_arg0) = m ((c.tc : Thread Cert.EndBwdIdeal.nD Cert.EndBwdIdeal.τ).loc Cert.EndBwdIdeal.main_arg0)
          ∧ r.2.mem ((c.tc : Thread Cert.EndBwdIdeal.nD Cert.EndBwdIdeal.τ).loc Cert.EndBwdIdeal.main_arg1) = m ((c.tc : Thread Cert.EndBwdIdeal.nD Cert.EndBwdIdeal.τ).loc Cert.EndBwdIdeal.main_arg1)
          ∧ r.2.mem ((c.tc : Thread Cert.EndBwdIdeal.nD Cert.EndBwdIdeal.τ).loc Cert.EndBwdIdeal.main_arg2) = m ((c.tc : Thread Cert.EndBwdIdeal.nD Cert.EndBwdIdeal.τ).loc Cert.EndBwdIdeal.main_arg2)
          ∧ r.2.mem ((c.tc : Thread Cert.EndBwdIdeal.nD Cert.EndBwdIdeal.τ).loc Cert.EndBwdIdeal.main_arg3) = m ((c.tc : Thread Cert.EndBwdIdeal.nD Cert.EndBwdIdeal.τ).loc Cert.EndBwdIdeal.main_arg3)
          ∧ r.2.mem ((c.tc : Thread Cert.EndBwdIdeal.nD Cert.EndBwdIdeal.τ).loc Cert.EndBwdIdeal.main_arg4) = m ((c.tc : Thread Cert.EndBwdIdeal.nD Cert.EndBwdIdeal.τ).loc Cert.EndBwdIdeal.main_arg4)
          ∧ r.2.mem ((c.tc : Thread Cert.EndBwdIdeal.nD Cert.EndBwdIdeal.τ).loc Cert.EndBwdIdeal.main_arg5) = m ((c.tc : Thread Cert.EndBwdIdeal.nD Cert.EndBwdIdeal.τ).loc Cert.EndBwdIdeal.main_arg5))
      ∧ θ_run (Cert.EndBwdRefIdeal.defs (F := Ideal)) (onTc (τ := Cert.EndBwdRefIdeal.τ) (Cert.EndBwdRefIdeal.main (F := Ideal))) ⟨m', fun _ => 0, g'⟩ (fun r => ∀ c : Dev Cert.EndBwdRefIdeal.nD,
          r.2.mem ((c.tc : Thread Cert.EndBwdRefIdeal.nD Cert.EndBwdRefIdeal.τ).loc Cert.EndBwdRefIdeal.main_v55) = v0 c
          ∧ r.2.mem ((c.tc : Thread Cert.EndBwdRefIdeal.nD Cert.EndBwdRefIdeal.τ).loc Cert.EndBwdRefIdeal.main_v77) = v1 c
          ∧ r.2.mem ((c.tc : Thread Cert.EndBwdRefIdeal.nD Cert.EndBwdRefIdeal.τ).loc Cert.EndBwdRefIdeal.main_v78) = v2 c
          ∧ r.2.mem ((c.tc : Thread Cert.EndBwdRefIdeal.nD Cert.EndBwdRefIdeal.τ).loc Cert.EndBwdRefIdeal.main_v79) = v3 c
          ∧ r.2.mem ((c.tc : Thread Cert.EndBwdRefIdeal.nD Cert.EndBwdRefIdeal.τ).loc Cert.EndBwdRefIdeal.main_arg0) = m' ((c.tc : Thread Cert.EndBwdRefIdeal.nD Cert.EndBwdRefIdeal.τ).loc Cert.EndBwdRefIdeal.main_arg0)
          ∧ r.2.mem ((c.tc : Thread Cert.EndBwdRefIdeal.nD Cert.EndBwdRefIdeal.τ).loc Cert.EndBwdRefIdeal.main_arg1) = m' ((c.tc : Thread Cert.EndBwdRefIdeal.nD Cert.EndBwdRefIdeal.τ).loc Cert.EndBwdRefIdeal.main_arg1)
          ∧ r.2.mem ((c.tc : Thread Cert.EndBwdRefIdeal.nD Cert.EndBwdRefIdeal.τ).loc Cert.EndBwdRefIdeal.main_arg2) = m' ((c.tc : Thread Cert.EndBwdRefIdeal.nD Cert.EndBwdRefIdeal.τ).loc Cert.EndBwdRefIdeal.main_arg2)
          ∧ r.2.mem ((c.tc : Thread Cert.EndBwdRefIdeal.nD Cert.EndBwdRefIdeal.τ).loc Cert.EndBwdRefIdeal.main_arg3) = m' ((c.tc : Thread Cert.EndBwdRefIdeal.nD Cert.EndBwdRefIdeal.τ).loc Cert.EndBwdRefIdeal.main_arg3)
          ∧ r.2.mem ((c.tc : Thread Cert.EndBwdRefIdeal.nD Cert.EndBwdRefIdeal.τ).loc Cert.EndBwdRefIdeal.main_arg4) = m' ((c.tc : Thread Cert.EndBwdRefIdeal.nD Cert.EndBwdRefIdeal.τ).loc Cert.EndBwdRefIdeal.main_arg4)
          ∧ r.2.mem ((c.tc : Thread Cert.EndBwdRefIdeal.nD Cert.EndBwdRefIdeal.τ).loc Cert.EndBwdRefIdeal.main_arg5) = m' ((c.tc : Thread Cert.EndBwdRefIdeal.nD Cert.EndBwdRefIdeal.τ).loc Cert.EndBwdRefIdeal.main_arg5))

def preserves_MidBwd_MidBwdIdeal : Prop :=
  True

def algebraic_MidBwdIdeal_MidBwdRefIdeal [hMidBwdIdeal : Cert.MidBwdIdeal.Facts] [hMidBwdRefIdeal : Cert.MidBwdRefIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)
      ∧ m' ((c.tc : Thread Cert.MidBwdRefIdeal.nD Cert.MidBwdRefIdeal.τ).loc Cert.MidBwdRefIdeal.main_arg5) = m ((c.tc : Thread Cert.MidBwdIdeal.nD Cert.MidBwdIdeal.τ).loc Cert.MidBwdIdeal.main_arg5)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)) (v3 : (c : Dev Cert.MidBwdIdeal.nD) → Buf (Elt Ideal) ((c.tc : Thread Cert.MidBwdIdeal.nD Cert.MidBwdIdeal.τ).loc Cert.MidBwdIdeal.main_v0_3)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_v0_3) = v3 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
          ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v55) = v0 c
          ∧ r.2.mem ((c.tc : Thread Cert.MidBwdRefIdeal.nD Cert.MidBwdRefIdeal.τ).loc Cert.MidBwdRefIdeal.main_v77) = v1 c
          ∧ r.2.mem ((c.tc : Thread Cert.MidBwdRefIdeal.nD Cert.MidBwdRefIdeal.τ).loc Cert.MidBwdRefIdeal.main_v78) = v2 c
          ∧ r.2.mem ((c.tc : Thread Cert.MidBwdRefIdeal.nD Cert.MidBwdRefIdeal.τ).loc Cert.MidBwdRefIdeal.main_v79) = v3 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)
          ∧ r.2.mem ((c.tc : Thread Cert.MidBwdRefIdeal.nD Cert.MidBwdRefIdeal.τ).loc Cert.MidBwdRefIdeal.main_arg5) = m' ((c.tc : Thread Cert.MidBwdRefIdeal.nD Cert.MidBwdRefIdeal.τ).loc Cert.MidBwdRefIdeal.main_arg5))

def preserves_InAb_InAbIdeal : Prop :=
  True

def algebraic_InAbIdeal_InAbRefIdeal [hInAbIdeal : Cert.InAbIdeal.Facts] [hInAbRefIdeal : Cert.InAbRefIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)) →
    ∃ (v0 : (c : Dev Cert.InAbIdeal.nD) → Buf (Elt Ideal) ((c.tc : Thread Cert.InAbIdeal.nD Cert.InAbIdeal.τ).loc Cert.InAbIdeal.main_v0)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v0) = v0 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v2) = v0 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1))

def preserves_InAbDx_InAbDxIdeal : Prop :=
  True

def algebraic_InAbDxIdeal_InAbDxRefIdeal [hInAbDxIdeal : Cert.InAbDxIdeal.Facts] [hInAbDxRefIdeal : Cert.InAbDxRefIdeal.Facts] : Prop :=
  ∀ (m : (ℓ : Loc Cert.InAbDxIdeal.nD Cert.InAbDxIdeal.τ Cert.InAbDxIdeal.sig) → Buf (Elt Ideal) ℓ) (g : Dev Cert.InAbDxIdeal.nD → PrngReg)
    (m' : (ℓ : Loc Cert.InAbDxRefIdeal.nD Cert.InAbDxRefIdeal.τ Cert.InAbDxRefIdeal.sig) → Buf (Elt Ideal) ℓ) (g' : Dev Cert.InAbDxRefIdeal.nD → PrngReg), Pre_InAbDxIdeal m →
    (∀ c : Dev Cert.InAbDxIdeal.nD,
      m' ((c.tc : Thread Cert.InAbDxRefIdeal.nD Cert.InAbDxRefIdeal.τ).loc Cert.InAbDxRefIdeal.main_arg0) = m ((c.tc : Thread Cert.InAbDxIdeal.nD Cert.InAbDxIdeal.τ).loc Cert.InAbDxIdeal.main_arg0)
      ∧ m' ((c.tc : Thread Cert.InAbDxRefIdeal.nD Cert.InAbDxRefIdeal.τ).loc Cert.InAbDxRefIdeal.main_arg1) = m ((c.tc : Thread Cert.InAbDxIdeal.nD Cert.InAbDxIdeal.τ).loc Cert.InAbDxIdeal.main_arg1)) →
    ∃ (v0 : (c : Dev Cert.InAbDxIdeal.nD) → Buf (Elt Ideal) ((c.tc : Thread Cert.InAbDxIdeal.nD Cert.InAbDxIdeal.τ).loc Cert.InAbDxIdeal.main_v0)),
      θ_run (Cert.InAbDxIdeal.defs (F := Ideal)) (onTc (τ := Cert.InAbDxIdeal.τ) (Cert.InAbDxIdeal.main (F := Ideal))) ⟨m, fun _ => 0, g⟩ (fun r => ∀ c : Dev Cert.InAbDxIdeal.nD,
          r.2.mem ((c.tc : Thread Cert.InAbDxIdeal.nD Cert.InAbDxIdeal.τ).loc Cert.InAbDxIdeal.main_v0) = v0 c
          ∧ r.2.mem ((c.tc : Thread Cert.InAbDxIdeal.nD Cert.InAbDxIdeal.τ).loc Cert.InAbDxIdeal.main_arg0) = m ((c.tc : Thread Cert.InAbDxIdeal.nD Cert.InAbDxIdeal.τ).loc Cert.InAbDxIdeal.main_arg0)
          ∧ r.2.mem ((c.tc : Thread Cert.InAbDxIdeal.nD Cert.InAbDxIdeal.τ).loc Cert.InAbDxIdeal.main_arg1) = m ((c.tc : Thread Cert.InAbDxIdeal.nD Cert.InAbDxIdeal.τ).loc Cert.InAbDxIdeal.main_arg1))
      ∧ θ_run (Cert.InAbDxRefIdeal.defs (F := Ideal)) (onTc (τ := Cert.InAbDxRefIdeal.τ) (Cert.InAbDxRefIdeal.main (F := Ideal))) ⟨m', fun _ => 0, g'⟩ (fun r => ∀ c : Dev Cert.InAbDxRefIdeal.nD,
          r.2.mem ((c.tc : Thread Cert.InAbDxRefIdeal.nD Cert.InAbDxRefIdeal.τ).loc Cert.InAbDxRefIdeal.main_v3) = v0 c
          ∧ r.2.mem ((c.tc : Thread Cert.InAbDxRefIdeal.nD Cert.InAbDxRefIdeal.τ).loc Cert.InAbDxRefIdeal.main_arg0) = m' ((c.tc : Thread Cert.InAbDxRefIdeal.nD Cert.InAbDxRefIdeal.τ).loc Cert.InAbDxRefIdeal.main_arg0)
          ∧ r.2.mem ((c.tc : Thread Cert.InAbDxRefIdeal.nD Cert.InAbDxRefIdeal.τ).loc Cert.InAbDxRefIdeal.main_arg1) = m' ((c.tc : Thread Cert.InAbDxRefIdeal.nD Cert.InAbDxRefIdeal.τ).loc Cert.InAbDxRefIdeal.main_arg1))

def preserves_InAbDw_InAbDwIdeal : Prop :=
  True

def algebraic_InAbDwIdeal_InAbDwRefIdeal [hInAbDwIdeal : Cert.InAbDwIdeal.Facts] [hInAbDwRefIdeal : Cert.InAbDwRefIdeal.Facts] : Prop :=
  ∀ (m : (ℓ : Loc Cert.InAbDwIdeal.nD Cert.InAbDwIdeal.τ Cert.InAbDwIdeal.sig) → Buf (Elt Ideal) ℓ) (g : Dev Cert.InAbDwIdeal.nD → PrngReg)
    (m' : (ℓ : Loc Cert.InAbDwRefIdeal.nD Cert.InAbDwRefIdeal.τ Cert.InAbDwRefIdeal.sig) → Buf (Elt Ideal) ℓ) (g' : Dev Cert.InAbDwRefIdeal.nD → PrngReg), Pre_InAbDwIdeal m →
    (∀ c : Dev Cert.InAbDwIdeal.nD,
      m' ((c.tc : Thread Cert.InAbDwRefIdeal.nD Cert.InAbDwRefIdeal.τ).loc Cert.InAbDwRefIdeal.main_arg0) = m ((c.tc : Thread Cert.InAbDwIdeal.nD Cert.InAbDwIdeal.τ).loc Cert.InAbDwIdeal.main_arg0)
      ∧ m' ((c.tc : Thread Cert.InAbDwRefIdeal.nD Cert.InAbDwRefIdeal.τ).loc Cert.InAbDwRefIdeal.main_arg1) = m ((c.tc : Thread Cert.InAbDwIdeal.nD Cert.InAbDwIdeal.τ).loc Cert.InAbDwIdeal.main_arg1)) →
    ∃ (v0 : (c : Dev Cert.InAbDwIdeal.nD) → Buf (Elt Ideal) ((c.tc : Thread Cert.InAbDwIdeal.nD Cert.InAbDwIdeal.τ).loc Cert.InAbDwIdeal.main_v0)),
      θ_run (Cert.InAbDwIdeal.defs (F := Ideal)) (onTc (τ := Cert.InAbDwIdeal.τ) (Cert.InAbDwIdeal.main (F := Ideal))) ⟨m, fun _ => 0, g⟩ (fun r => ∀ c : Dev Cert.InAbDwIdeal.nD,
          r.2.mem ((c.tc : Thread Cert.InAbDwIdeal.nD Cert.InAbDwIdeal.τ).loc Cert.InAbDwIdeal.main_v0) = v0 c
          ∧ r.2.mem ((c.tc : Thread Cert.InAbDwIdeal.nD Cert.InAbDwIdeal.τ).loc Cert.InAbDwIdeal.main_arg0) = m ((c.tc : Thread Cert.InAbDwIdeal.nD Cert.InAbDwIdeal.τ).loc Cert.InAbDwIdeal.main_arg0)
          ∧ r.2.mem ((c.tc : Thread Cert.InAbDwIdeal.nD Cert.InAbDwIdeal.τ).loc Cert.InAbDwIdeal.main_arg1) = m ((c.tc : Thread Cert.InAbDwIdeal.nD Cert.InAbDwIdeal.τ).loc Cert.InAbDwIdeal.main_arg1))
      ∧ θ_run (Cert.InAbDwRefIdeal.defs (F := Ideal)) (onTc (τ := Cert.InAbDwRefIdeal.τ) (Cert.InAbDwRefIdeal.main (F := Ideal))) ⟨m', fun _ => 0, g'⟩ (fun r => ∀ c : Dev Cert.InAbDwRefIdeal.nD,
          r.2.mem ((c.tc : Thread Cert.InAbDwRefIdeal.nD Cert.InAbDwRefIdeal.τ).loc Cert.InAbDwRefIdeal.main_v3) = v0 c
          ∧ r.2.mem ((c.tc : Thread Cert.InAbDwRefIdeal.nD Cert.InAbDwRefIdeal.τ).loc Cert.InAbDwRefIdeal.main_arg0) = m' ((c.tc : Thread Cert.InAbDwRefIdeal.nD Cert.InAbDwRefIdeal.τ).loc Cert.InAbDwRefIdeal.main_arg0)
          ∧ r.2.mem ((c.tc : Thread Cert.InAbDwRefIdeal.nD Cert.InAbDwRefIdeal.τ).loc Cert.InAbDwRefIdeal.main_arg1) = m' ((c.tc : Thread Cert.InAbDwRefIdeal.nD Cert.InAbDwRefIdeal.τ).loc Cert.InAbDwRefIdeal.main_arg1))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)) →
    ∃ (v0 : (c : Dev Cert.OutAbIdeal.nD) → Buf (Elt Ideal) ((c.tc : Thread Cert.OutAbIdeal.nD Cert.OutAbIdeal.τ).loc Cert.OutAbIdeal.main_v0)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v0) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v2) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1))

def preserves_OutAbDx_OutAbDxIdeal : Prop :=
  True

def algebraic_OutAbDxIdeal_OutAbDxRefIdeal [hOutAbDxIdeal : Cert.OutAbDxIdeal.Facts] [hOutAbDxRefIdeal : Cert.OutAbDxRefIdeal.Facts] : Prop :=
  ∀ (m : (ℓ : Loc Cert.OutAbDxIdeal.nD Cert.OutAbDxIdeal.τ Cert.OutAbDxIdeal.sig) → Buf (Elt Ideal) ℓ) (g : Dev Cert.OutAbDxIdeal.nD → PrngReg)
    (m' : (ℓ : Loc Cert.OutAbDxRefIdeal.nD Cert.OutAbDxRefIdeal.τ Cert.OutAbDxRefIdeal.sig) → Buf (Elt Ideal) ℓ) (g' : Dev Cert.OutAbDxRefIdeal.nD → PrngReg), Pre_OutAbDxIdeal m →
    (∀ c : Dev Cert.OutAbDxIdeal.nD,
      m' ((c.tc : Thread Cert.OutAbDxRefIdeal.nD Cert.OutAbDxRefIdeal.τ).loc Cert.OutAbDxRefIdeal.main_arg0) = m ((c.tc : Thread Cert.OutAbDxIdeal.nD Cert.OutAbDxIdeal.τ).loc Cert.OutAbDxIdeal.main_arg0)
      ∧ m' ((c.tc : Thread Cert.OutAbDxRefIdeal.nD Cert.OutAbDxRefIdeal.τ).loc Cert.OutAbDxRefIdeal.main_arg1) = m ((c.tc : Thread Cert.OutAbDxIdeal.nD Cert.OutAbDxIdeal.τ).loc Cert.OutAbDxIdeal.main_arg1)) →
    ∃ (v0 : (c : Dev Cert.OutAbDxIdeal.nD) → Buf (Elt Ideal) ((c.tc : Thread Cert.OutAbDxIdeal.nD Cert.OutAbDxIdeal.τ).loc Cert.OutAbDxIdeal.main_v0)),
      θ_run (Cert.OutAbDxIdeal.defs (F := Ideal)) (onTc (τ := Cert.OutAbDxIdeal.τ) (Cert.OutAbDxIdeal.main (F := Ideal))) ⟨m, fun _ => 0, g⟩ (fun r => ∀ c : Dev Cert.OutAbDxIdeal.nD,
          r.2.mem ((c.tc : Thread Cert.OutAbDxIdeal.nD Cert.OutAbDxIdeal.τ).loc Cert.OutAbDxIdeal.main_v0) = v0 c
          ∧ r.2.mem ((c.tc : Thread Cert.OutAbDxIdeal.nD Cert.OutAbDxIdeal.τ).loc Cert.OutAbDxIdeal.main_arg0) = m ((c.tc : Thread Cert.OutAbDxIdeal.nD Cert.OutAbDxIdeal.τ).loc Cert.OutAbDxIdeal.main_arg0)
          ∧ r.2.mem ((c.tc : Thread Cert.OutAbDxIdeal.nD Cert.OutAbDxIdeal.τ).loc Cert.OutAbDxIdeal.main_arg1) = m ((c.tc : Thread Cert.OutAbDxIdeal.nD Cert.OutAbDxIdeal.τ).loc Cert.OutAbDxIdeal.main_arg1))
      ∧ θ_run (Cert.OutAbDxRefIdeal.defs (F := Ideal)) (onTc (τ := Cert.OutAbDxRefIdeal.τ) (Cert.OutAbDxRefIdeal.main (F := Ideal))) ⟨m', fun _ => 0, g'⟩ (fun r => ∀ c : Dev Cert.OutAbDxRefIdeal.nD,
          r.2.mem ((c.tc : Thread Cert.OutAbDxRefIdeal.nD Cert.OutAbDxRefIdeal.τ).loc Cert.OutAbDxRefIdeal.main_v3) = v0 c
          ∧ r.2.mem ((c.tc : Thread Cert.OutAbDxRefIdeal.nD Cert.OutAbDxRefIdeal.τ).loc Cert.OutAbDxRefIdeal.main_arg0) = m' ((c.tc : Thread Cert.OutAbDxRefIdeal.nD Cert.OutAbDxRefIdeal.τ).loc Cert.OutAbDxRefIdeal.main_arg0)
          ∧ r.2.mem ((c.tc : Thread Cert.OutAbDxRefIdeal.nD Cert.OutAbDxRefIdeal.τ).loc Cert.OutAbDxRefIdeal.main_arg1) = m' ((c.tc : Thread Cert.OutAbDxRefIdeal.nD Cert.OutAbDxRefIdeal.τ).loc Cert.OutAbDxRefIdeal.main_arg1))

def preserves_OutAbDw_OutAbDwIdeal : Prop :=
  True

def algebraic_OutAbDwIdeal_OutAbDwRefIdeal [hOutAbDwIdeal : Cert.OutAbDwIdeal.Facts] [hOutAbDwRefIdeal : Cert.OutAbDwRefIdeal.Facts] : Prop :=
  ∀ (m : (ℓ : Loc Cert.OutAbDwIdeal.nD Cert.OutAbDwIdeal.τ Cert.OutAbDwIdeal.sig) → Buf (Elt Ideal) ℓ) (g : Dev Cert.OutAbDwIdeal.nD → PrngReg)
    (m' : (ℓ : Loc Cert.OutAbDwRefIdeal.nD Cert.OutAbDwRefIdeal.τ Cert.OutAbDwRefIdeal.sig) → Buf (Elt Ideal) ℓ) (g' : Dev Cert.OutAbDwRefIdeal.nD → PrngReg), Pre_OutAbDwIdeal m →
    (∀ c : Dev Cert.OutAbDwIdeal.nD,
      m' ((c.tc : Thread Cert.OutAbDwRefIdeal.nD Cert.OutAbDwRefIdeal.τ).loc Cert.OutAbDwRefIdeal.main_arg0) = m ((c.tc : Thread Cert.OutAbDwIdeal.nD Cert.OutAbDwIdeal.τ).loc Cert.OutAbDwIdeal.main_arg0)
      ∧ m' ((c.tc : Thread Cert.OutAbDwRefIdeal.nD Cert.OutAbDwRefIdeal.τ).loc Cert.OutAbDwRefIdeal.main_arg1) = m ((c.tc : Thread Cert.OutAbDwIdeal.nD Cert.OutAbDwIdeal.τ).loc Cert.OutAbDwIdeal.main_arg1)) →
    ∃ (v0 : (c : Dev Cert.OutAbDwIdeal.nD) → Buf (Elt Ideal) ((c.tc : Thread Cert.OutAbDwIdeal.nD Cert.OutAbDwIdeal.τ).loc Cert.OutAbDwIdeal.main_v0)),
      θ_run (Cert.OutAbDwIdeal.defs (F := Ideal)) (onTc (τ := Cert.OutAbDwIdeal.τ) (Cert.OutAbDwIdeal.main (F := Ideal))) ⟨m, fun _ => 0, g⟩ (fun r => ∀ c : Dev Cert.OutAbDwIdeal.nD,
          r.2.mem ((c.tc : Thread Cert.OutAbDwIdeal.nD Cert.OutAbDwIdeal.τ).loc Cert.OutAbDwIdeal.main_v0) = v0 c
          ∧ r.2.mem ((c.tc : Thread Cert.OutAbDwIdeal.nD Cert.OutAbDwIdeal.τ).loc Cert.OutAbDwIdeal.main_arg0) = m ((c.tc : Thread Cert.OutAbDwIdeal.nD Cert.OutAbDwIdeal.τ).loc Cert.OutAbDwIdeal.main_arg0)
          ∧ r.2.mem ((c.tc : Thread Cert.OutAbDwIdeal.nD Cert.OutAbDwIdeal.τ).loc Cert.OutAbDwIdeal.main_arg1) = m ((c.tc : Thread Cert.OutAbDwIdeal.nD Cert.OutAbDwIdeal.τ).loc Cert.OutAbDwIdeal.main_arg1))
      ∧ θ_run (Cert.OutAbDwRefIdeal.defs (F := Ideal)) (onTc (τ := Cert.OutAbDwRefIdeal.τ) (Cert.OutAbDwRefIdeal.main (F := Ideal))) ⟨m', fun _ => 0, g'⟩ (fun r => ∀ c : Dev Cert.OutAbDwRefIdeal.nD,
          r.2.mem ((c.tc : Thread Cert.OutAbDwRefIdeal.nD Cert.OutAbDwRefIdeal.τ).loc Cert.OutAbDwRefIdeal.main_v3) = v0 c
          ∧ r.2.mem ((c.tc : Thread Cert.OutAbDwRefIdeal.nD Cert.OutAbDwRefIdeal.τ).loc Cert.OutAbDwRefIdeal.main_arg0) = m' ((c.tc : Thread Cert.OutAbDwRefIdeal.nD Cert.OutAbDwRefIdeal.τ).loc Cert.OutAbDwRefIdeal.main_arg0)
          ∧ r.2.mem ((c.tc : Thread Cert.OutAbDwRefIdeal.nD Cert.OutAbDwRefIdeal.τ).loc Cert.OutAbDwRefIdeal.main_arg1) = m' ((c.tc : Thread Cert.OutAbDwRefIdeal.nD Cert.OutAbDwRefIdeal.τ).loc Cert.OutAbDwRefIdeal.main_arg1))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v0)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v0) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v2) = v0 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1))

def preserves_InCDw_InCDwIdeal : Prop :=
  True

def algebraic_InCDwIdeal_InCDwRefIdeal [hInCDwIdeal : Cert.InCDwIdeal.Facts] [hInCDwRefIdeal : Cert.InCDwRefIdeal.Facts] : Prop :=
  ∀ (m : (ℓ : Loc Cert.InCDwIdeal.nD Cert.InCDwIdeal.τ Cert.InCDwIdeal.sig) → Buf (Elt Ideal) ℓ) (g : Dev Cert.InCDwIdeal.nD → PrngReg)
    (m' : (ℓ : Loc Cert.InCDwRefIdeal.nD Cert.InCDwRefIdeal.τ Cert.InCDwRefIdeal.sig) → Buf (Elt Ideal) ℓ) (g' : Dev Cert.InCDwRefIdeal.nD → PrngReg), Pre_InCDwIdeal m →
    (∀ c : Dev Cert.InCDwIdeal.nD,
      m' ((c.tc : Thread Cert.InCDwRefIdeal.nD Cert.InCDwRefIdeal.τ).loc Cert.InCDwRefIdeal.main_arg0) = m ((c.tc : Thread Cert.InCDwIdeal.nD Cert.InCDwIdeal.τ).loc Cert.InCDwIdeal.main_arg0)
      ∧ m' ((c.tc : Thread Cert.InCDwRefIdeal.nD Cert.InCDwRefIdeal.τ).loc Cert.InCDwRefIdeal.main_arg1) = m ((c.tc : Thread Cert.InCDwIdeal.nD Cert.InCDwIdeal.τ).loc Cert.InCDwIdeal.main_arg1)) →
    ∃ (v0 : (c : Dev Cert.InCDwIdeal.nD) → Buf (Elt Ideal) ((c.tc : Thread Cert.InCDwIdeal.nD Cert.InCDwIdeal.τ).loc Cert.InCDwIdeal.main_v0)),
      θ_run (Cert.InCDwIdeal.defs (F := Ideal)) (onTc (τ := Cert.InCDwIdeal.τ) (Cert.InCDwIdeal.main (F := Ideal))) ⟨m, fun _ => 0, g⟩ (fun r => ∀ c : Dev Cert.InCDwIdeal.nD,
          r.2.mem ((c.tc : Thread Cert.InCDwIdeal.nD Cert.InCDwIdeal.τ).loc Cert.InCDwIdeal.main_v0) = v0 c
          ∧ r.2.mem ((c.tc : Thread Cert.InCDwIdeal.nD Cert.InCDwIdeal.τ).loc Cert.InCDwIdeal.main_arg0) = m ((c.tc : Thread Cert.InCDwIdeal.nD Cert.InCDwIdeal.τ).loc Cert.InCDwIdeal.main_arg0)
          ∧ r.2.mem ((c.tc : Thread Cert.InCDwIdeal.nD Cert.InCDwIdeal.τ).loc Cert.InCDwIdeal.main_arg1) = m ((c.tc : Thread Cert.InCDwIdeal.nD Cert.InCDwIdeal.τ).loc Cert.InCDwIdeal.main_arg1))
      ∧ θ_run (Cert.InCDwRefIdeal.defs (F := Ideal)) (onTc (τ := Cert.InCDwRefIdeal.τ) (Cert.InCDwRefIdeal.main (F := Ideal))) ⟨m', fun _ => 0, g'⟩ (fun r => ∀ c : Dev Cert.InCDwRefIdeal.nD,
          r.2.mem ((c.tc : Thread Cert.InCDwRefIdeal.nD Cert.InCDwRefIdeal.τ).loc Cert.InCDwRefIdeal.main_v3) = v0 c
          ∧ r.2.mem ((c.tc : Thread Cert.InCDwRefIdeal.nD Cert.InCDwRefIdeal.τ).loc Cert.InCDwRefIdeal.main_arg0) = m' ((c.tc : Thread Cert.InCDwRefIdeal.nD Cert.InCDwRefIdeal.τ).loc Cert.InCDwRefIdeal.main_arg0)
          ∧ r.2.mem ((c.tc : Thread Cert.InCDwRefIdeal.nD Cert.InCDwRefIdeal.τ).loc Cert.InCDwRefIdeal.main_arg1) = m' ((c.tc : Thread Cert.InCDwRefIdeal.nD Cert.InCDwRefIdeal.τ).loc Cert.InCDwRefIdeal.main_arg1))

def preserves_InDt_InDtIdeal : Prop :=
  True

def algebraic_InDtIdeal_InDtRefIdeal [hInDtIdeal : Cert.InDtIdeal.Facts] [hInDtRefIdeal : Cert.InDtRefIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtRefIdeal.nD Cert.InDtRefIdeal.τ Cert.InDtRefIdeal.sig) → Buf (Elt Ideal) ℓ) (g' : Dev Cert.InDtRefIdeal.nD → PrngReg), Pre_InDtIdeal m →
    (∀ c : Dev Cert.InDtIdeal.nD,
      m' ((c.tc : Thread Cert.InDtRefIdeal.nD Cert.InDtRefIdeal.τ).loc Cert.InDtRefIdeal.main_arg0) = m ((c.tc : Thread Cert.InDtIdeal.nD Cert.InDtIdeal.τ).loc Cert.InDtIdeal.main_arg0)
      ∧ m' ((c.tc : Thread Cert.InDtRefIdeal.nD Cert.InDtRefIdeal.τ).loc Cert.InDtRefIdeal.main_arg1) = m ((c.tc : Thread Cert.InDtIdeal.nD Cert.InDtIdeal.τ).loc Cert.InDtIdeal.main_arg1)) →
    ∃ (v0 : (c : Dev Cert.InDtIdeal.nD) → Buf (Elt Ideal) ((c.tc : Thread Cert.InDtIdeal.nD Cert.InDtIdeal.τ).loc Cert.InDtIdeal.main_v0)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v0) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ θ_run (Cert.InDtRefIdeal.defs (F := Ideal)) (onTc (τ := Cert.InDtRefIdeal.τ) (Cert.InDtRefIdeal.main (F := Ideal))) ⟨m', fun _ => 0, g'⟩ (fun r => ∀ c : Dev Cert.InDtRefIdeal.nD,
          r.2.mem ((c.tc : Thread Cert.InDtRefIdeal.nD Cert.InDtRefIdeal.τ).loc Cert.InDtRefIdeal.main_v2) = v0 c
          ∧ r.2.mem ((c.tc : Thread Cert.InDtRefIdeal.nD Cert.InDtRefIdeal.τ).loc Cert.InDtRefIdeal.main_arg0) = m' ((c.tc : Thread Cert.InDtRefIdeal.nD Cert.InDtRefIdeal.τ).loc Cert.InDtRefIdeal.main_arg0)
          ∧ r.2.mem ((c.tc : Thread Cert.InDtRefIdeal.nD Cert.InDtRefIdeal.τ).loc Cert.InDtRefIdeal.main_arg1) = m' ((c.tc : Thread Cert.InDtRefIdeal.nD Cert.InDtRefIdeal.τ).loc Cert.InDtRefIdeal.main_arg1))

def preserves_InDtDx_InDtDxIdeal : Prop :=
  True

def algebraic_InDtDxIdeal_InDtDxRefIdeal [hInDtDxIdeal : Cert.InDtDxIdeal.Facts] [hInDtDxRefIdeal : Cert.InDtDxRefIdeal.Facts] : Prop :=
  ∀ (m : (ℓ : Loc Cert.InDtDxIdeal.nD Cert.InDtDxIdeal.τ Cert.InDtDxIdeal.sig) → Buf (Elt Ideal) ℓ) (g : Dev Cert.InDtDxIdeal.nD → PrngReg)
    (m' : (ℓ : Loc Cert.InDtDxRefIdeal.nD Cert.InDtDxRefIdeal.τ Cert.InDtDxRefIdeal.sig) → Buf (Elt Ideal) ℓ) (g' : Dev Cert.InDtDxRefIdeal.nD → PrngReg), Pre_InDtDxIdeal m →
    (∀ c : Dev Cert.InDtDxIdeal.nD,
      m' ((c.tc : Thread Cert.InDtDxRefIdeal.nD Cert.InDtDxRefIdeal.τ).loc Cert.InDtDxRefIdeal.main_arg0) = m ((c.tc : Thread Cert.InDtDxIdeal.nD Cert.InDtDxIdeal.τ).loc Cert.InDtDxIdeal.main_arg0)
      ∧ m' ((c.tc : Thread Cert.InDtDxRefIdeal.nD Cert.InDtDxRefIdeal.τ).loc Cert.InDtDxRefIdeal.main_arg1) = m ((c.tc : Thread Cert.InDtDxIdeal.nD Cert.InDtDxIdeal.τ).loc Cert.InDtDxIdeal.main_arg1)) →
    ∃ (v0 : (c : Dev Cert.InDtDxIdeal.nD) → Buf (Elt Ideal) ((c.tc : Thread Cert.InDtDxIdeal.nD Cert.InDtDxIdeal.τ).loc Cert.InDtDxIdeal.main_v0)),
      θ_run (Cert.InDtDxIdeal.defs (F := Ideal)) (onTc (τ := Cert.InDtDxIdeal.τ) (Cert.InDtDxIdeal.main (F := Ideal))) ⟨m, fun _ => 0, g⟩ (fun r => ∀ c : Dev Cert.InDtDxIdeal.nD,
          r.2.mem ((c.tc : Thread Cert.InDtDxIdeal.nD Cert.InDtDxIdeal.τ).loc Cert.InDtDxIdeal.main_v0) = v0 c
          ∧ r.2.mem ((c.tc : Thread Cert.InDtDxIdeal.nD Cert.InDtDxIdeal.τ).loc Cert.InDtDxIdeal.main_arg0) = m ((c.tc : Thread Cert.InDtDxIdeal.nD Cert.InDtDxIdeal.τ).loc Cert.InDtDxIdeal.main_arg0)
          ∧ r.2.mem ((c.tc : Thread Cert.InDtDxIdeal.nD Cert.InDtDxIdeal.τ).loc Cert.InDtDxIdeal.main_arg1) = m ((c.tc : Thread Cert.InDtDxIdeal.nD Cert.InDtDxIdeal.τ).loc Cert.InDtDxIdeal.main_arg1))
      ∧ θ_run (Cert.InDtDxRefIdeal.defs (F := Ideal)) (onTc (τ := Cert.InDtDxRefIdeal.τ) (Cert.InDtDxRefIdeal.main (F := Ideal))) ⟨m', fun _ => 0, g'⟩ (fun r => ∀ c : Dev Cert.InDtDxRefIdeal.nD,
          r.2.mem ((c.tc : Thread Cert.InDtDxRefIdeal.nD Cert.InDtDxRefIdeal.τ).loc Cert.InDtDxRefIdeal.main_v3) = v0 c
          ∧ r.2.mem ((c.tc : Thread Cert.InDtDxRefIdeal.nD Cert.InDtDxRefIdeal.τ).loc Cert.InDtDxRefIdeal.main_arg0) = m' ((c.tc : Thread Cert.InDtDxRefIdeal.nD Cert.InDtDxRefIdeal.τ).loc Cert.InDtDxRefIdeal.main_arg0)
          ∧ r.2.mem ((c.tc : Thread Cert.InDtDxRefIdeal.nD Cert.InDtDxRefIdeal.τ).loc Cert.InDtDxRefIdeal.main_arg1) = m' ((c.tc : Thread Cert.InDtDxRefIdeal.nD Cert.InDtDxRefIdeal.τ).loc Cert.InDtDxRefIdeal.main_arg1))

def preserves_InDtDw_InDtDwIdeal : Prop :=
  True

def algebraic_InDtDwIdeal_InDtDwRefIdeal [hInDtDwIdeal : Cert.InDtDwIdeal.Facts] [hInDtDwRefIdeal : Cert.InDtDwRefIdeal.Facts] : Prop :=
  ∀ (m : (ℓ : Loc Cert.InDtDwIdeal.nD Cert.InDtDwIdeal.τ Cert.InDtDwIdeal.sig) → Buf (Elt Ideal) ℓ) (g : Dev Cert.InDtDwIdeal.nD → PrngReg)
    (m' : (ℓ : Loc Cert.InDtDwRefIdeal.nD Cert.InDtDwRefIdeal.τ Cert.InDtDwRefIdeal.sig) → Buf (Elt Ideal) ℓ) (g' : Dev Cert.InDtDwRefIdeal.nD → PrngReg), Pre_InDtDwIdeal m →
    (∀ c : Dev Cert.InDtDwIdeal.nD,
      m' ((c.tc : Thread Cert.InDtDwRefIdeal.nD Cert.InDtDwRefIdeal.τ).loc Cert.InDtDwRefIdeal.main_arg0) = m ((c.tc : Thread Cert.InDtDwIdeal.nD Cert.InDtDwIdeal.τ).loc Cert.InDtDwIdeal.main_arg0)
      ∧ m' ((c.tc : Thread Cert.InDtDwRefIdeal.nD Cert.InDtDwRefIdeal.τ).loc Cert.InDtDwRefIdeal.main_arg1) = m ((c.tc : Thread Cert.InDtDwIdeal.nD Cert.InDtDwIdeal.τ).loc Cert.InDtDwIdeal.main_arg1)) →
    ∃ (v0 : (c : Dev Cert.InDtDwIdeal.nD) → Buf (Elt Ideal) ((c.tc : Thread Cert.InDtDwIdeal.nD Cert.InDtDwIdeal.τ).loc Cert.InDtDwIdeal.main_v0)),
      θ_run (Cert.InDtDwIdeal.defs (F := Ideal)) (onTc (τ := Cert.InDtDwIdeal.τ) (Cert.InDtDwIdeal.main (F := Ideal))) ⟨m, fun _ => 0, g⟩ (fun r => ∀ c : Dev Cert.InDtDwIdeal.nD,
          r.2.mem ((c.tc : Thread Cert.InDtDwIdeal.nD Cert.InDtDwIdeal.τ).loc Cert.InDtDwIdeal.main_v0) = v0 c
          ∧ r.2.mem ((c.tc : Thread Cert.InDtDwIdeal.nD Cert.InDtDwIdeal.τ).loc Cert.InDtDwIdeal.main_arg0) = m ((c.tc : Thread Cert.InDtDwIdeal.nD Cert.InDtDwIdeal.τ).loc Cert.InDtDwIdeal.main_arg0)
          ∧ r.2.mem ((c.tc : Thread Cert.InDtDwIdeal.nD Cert.InDtDwIdeal.τ).loc Cert.InDtDwIdeal.main_arg1) = m ((c.tc : Thread Cert.InDtDwIdeal.nD Cert.InDtDwIdeal.τ).loc Cert.InDtDwIdeal.main_arg1))
      ∧ θ_run (Cert.InDtDwRefIdeal.defs (F := Ideal)) (onTc (τ := Cert.InDtDwRefIdeal.τ) (Cert.InDtDwRefIdeal.main (F := Ideal))) ⟨m', fun _ => 0, g'⟩ (fun r => ∀ c : Dev Cert.InDtDwRefIdeal.nD,
          r.2.mem ((c.tc : Thread Cert.InDtDwRefIdeal.nD Cert.InDtDwRefIdeal.τ).loc Cert.InDtDwRefIdeal.main_v3) = v0 c
          ∧ r.2.mem ((c.tc : Thread Cert.InDtDwRefIdeal.nD Cert.InDtDwRefIdeal.τ).loc Cert.InDtDwRefIdeal.main_arg0) = m' ((c.tc : Thread Cert.InDtDwRefIdeal.nD Cert.InDtDwRefIdeal.τ).loc Cert.InDtDwRefIdeal.main_arg0)
          ∧ r.2.mem ((c.tc : Thread Cert.InDtDwRefIdeal.nD Cert.InDtDwRefIdeal.τ).loc Cert.InDtDwRefIdeal.main_arg1) = m' ((c.tc : Thread Cert.InDtDwRefIdeal.nD Cert.InDtDwRefIdeal.τ).loc Cert.InDtDwRefIdeal.main_arg1))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v2) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1))

def preserves_OutCDx_OutCDxIdeal : Prop :=
  True

def algebraic_OutCDxIdeal_OutCDxRefIdeal [hOutCDxIdeal : Cert.OutCDxIdeal.Facts] [hOutCDxRefIdeal : Cert.OutCDxRefIdeal.Facts] : Prop :=
  ∀ (m : (ℓ : Loc Cert.OutCDxIdeal.nD Cert.OutCDxIdeal.τ Cert.OutCDxIdeal.sig) → Buf (Elt Ideal) ℓ) (g : Dev Cert.OutCDxIdeal.nD → PrngReg)
    (m' : (ℓ : Loc Cert.OutCDxRefIdeal.nD Cert.OutCDxRefIdeal.τ Cert.OutCDxRefIdeal.sig) → Buf (Elt Ideal) ℓ) (g' : Dev Cert.OutCDxRefIdeal.nD → PrngReg), Pre_OutCDxIdeal m →
    (∀ c : Dev Cert.OutCDxIdeal.nD,
      m' ((c.tc : Thread Cert.OutCDxRefIdeal.nD Cert.OutCDxRefIdeal.τ).loc Cert.OutCDxRefIdeal.main_arg0) = m ((c.tc : Thread Cert.OutCDxIdeal.nD Cert.OutCDxIdeal.τ).loc Cert.OutCDxIdeal.main_arg0)
      ∧ m' ((c.tc : Thread Cert.OutCDxRefIdeal.nD Cert.OutCDxRefIdeal.τ).loc Cert.OutCDxRefIdeal.main_arg1) = m ((c.tc : Thread Cert.OutCDxIdeal.nD Cert.OutCDxIdeal.τ).loc Cert.OutCDxIdeal.main_arg1)) →
    ∃ (v0 : (c : Dev Cert.OutCDxIdeal.nD) → Buf (Elt Ideal) ((c.tc : Thread Cert.OutCDxIdeal.nD Cert.OutCDxIdeal.τ).loc Cert.OutCDxIdeal.main_v0)),
      θ_run (Cert.OutCDxIdeal.defs (F := Ideal)) (onTc (τ := Cert.OutCDxIdeal.τ) (Cert.OutCDxIdeal.main (F := Ideal))) ⟨m, fun _ => 0, g⟩ (fun r => ∀ c : Dev Cert.OutCDxIdeal.nD,
          r.2.mem ((c.tc : Thread Cert.OutCDxIdeal.nD Cert.OutCDxIdeal.τ).loc Cert.OutCDxIdeal.main_v0) = v0 c
          ∧ r.2.mem ((c.tc : Thread Cert.OutCDxIdeal.nD Cert.OutCDxIdeal.τ).loc Cert.OutCDxIdeal.main_arg0) = m ((c.tc : Thread Cert.OutCDxIdeal.nD Cert.OutCDxIdeal.τ).loc Cert.OutCDxIdeal.main_arg0)
          ∧ r.2.mem ((c.tc : Thread Cert.OutCDxIdeal.nD Cert.OutCDxIdeal.τ).loc Cert.OutCDxIdeal.main_arg1) = m ((c.tc : Thread Cert.OutCDxIdeal.nD Cert.OutCDxIdeal.τ).loc Cert.OutCDxIdeal.main_arg1))
      ∧ θ_run (Cert.OutCDxRefIdeal.defs (F := Ideal)) (onTc (τ := Cert.OutCDxRefIdeal.τ) (Cert.OutCDxRefIdeal.main (F := Ideal))) ⟨m', fun _ => 0, g'⟩ (fun r => ∀ c : Dev Cert.OutCDxRefIdeal.nD,
          r.2.mem ((c.tc : Thread Cert.OutCDxRefIdeal.nD Cert.OutCDxRefIdeal.τ).loc Cert.OutCDxRefIdeal.main_v3) = v0 c
          ∧ r.2.mem ((c.tc : Thread Cert.OutCDxRefIdeal.nD Cert.OutCDxRefIdeal.τ).loc Cert.OutCDxRefIdeal.main_arg0) = m' ((c.tc : Thread Cert.OutCDxRefIdeal.nD Cert.OutCDxRefIdeal.τ).loc Cert.OutCDxRefIdeal.main_arg0)
          ∧ r.2.mem ((c.tc : Thread Cert.OutCDxRefIdeal.nD Cert.OutCDxRefIdeal.τ).loc Cert.OutCDxRefIdeal.main_arg1) = m' ((c.tc : Thread Cert.OutCDxRefIdeal.nD Cert.OutCDxRefIdeal.τ).loc Cert.OutCDxRefIdeal.main_arg1))

def preserves_OutCDw_OutCDwIdeal : Prop :=
  True

def algebraic_OutCDwIdeal_OutCDwRefIdeal [hOutCDwIdeal : Cert.OutCDwIdeal.Facts] [hOutCDwRefIdeal : Cert.OutCDwRefIdeal.Facts] : Prop :=
  ∀ (m : (ℓ : Loc Cert.OutCDwIdeal.nD Cert.OutCDwIdeal.τ Cert.OutCDwIdeal.sig) → Buf (Elt Ideal) ℓ) (g : Dev Cert.OutCDwIdeal.nD → PrngReg)
    (m' : (ℓ : Loc Cert.OutCDwRefIdeal.nD Cert.OutCDwRefIdeal.τ Cert.OutCDwRefIdeal.sig) → Buf (Elt Ideal) ℓ) (g' : Dev Cert.OutCDwRefIdeal.nD → PrngReg), Pre_OutCDwIdeal m →
    (∀ c : Dev Cert.OutCDwIdeal.nD,
      m' ((c.tc : Thread Cert.OutCDwRefIdeal.nD Cert.OutCDwRefIdeal.τ).loc Cert.OutCDwRefIdeal.main_arg0) = m ((c.tc : Thread Cert.OutCDwIdeal.nD Cert.OutCDwIdeal.τ).loc Cert.OutCDwIdeal.main_arg0)
      ∧ m' ((c.tc : Thread Cert.OutCDwRefIdeal.nD Cert.OutCDwRefIdeal.τ).loc Cert.OutCDwRefIdeal.main_arg1) = m ((c.tc : Thread Cert.OutCDwIdeal.nD Cert.OutCDwIdeal.τ).loc Cert.OutCDwIdeal.main_arg1)) →
    ∃ (v0 : (c : Dev Cert.OutCDwIdeal.nD) → Buf (Elt Ideal) ((c.tc : Thread Cert.OutCDwIdeal.nD Cert.OutCDwIdeal.τ).loc Cert.OutCDwIdeal.main_v0)),
      θ_run (Cert.OutCDwIdeal.defs (F := Ideal)) (onTc (τ := Cert.OutCDwIdeal.τ) (Cert.OutCDwIdeal.main (F := Ideal))) ⟨m, fun _ => 0, g⟩ (fun r => ∀ c : Dev Cert.OutCDwIdeal.nD,
          r.2.mem ((c.tc : Thread Cert.OutCDwIdeal.nD Cert.OutCDwIdeal.τ).loc Cert.OutCDwIdeal.main_v0) = v0 c
          ∧ r.2.mem ((c.tc : Thread Cert.OutCDwIdeal.nD Cert.OutCDwIdeal.τ).loc Cert.OutCDwIdeal.main_arg0) = m ((c.tc : Thread Cert.OutCDwIdeal.nD Cert.OutCDwIdeal.τ).loc Cert.OutCDwIdeal.main_arg0)
          ∧ r.2.mem ((c.tc : Thread Cert.OutCDwIdeal.nD Cert.OutCDwIdeal.τ).loc Cert.OutCDwIdeal.main_arg1) = m ((c.tc : Thread Cert.OutCDwIdeal.nD Cert.OutCDwIdeal.τ).loc Cert.OutCDwIdeal.main_arg1))
      ∧ θ_run (Cert.OutCDwRefIdeal.defs (F := Ideal)) (onTc (τ := Cert.OutCDwRefIdeal.τ) (Cert.OutCDwRefIdeal.main (F := Ideal))) ⟨m', fun _ => 0, g'⟩ (fun r => ∀ c : Dev Cert.OutCDwRefIdeal.nD,
          r.2.mem ((c.tc : Thread Cert.OutCDwRefIdeal.nD Cert.OutCDwRefIdeal.τ).loc Cert.OutCDwRefIdeal.main_v3) = v0 c
          ∧ r.2.mem ((c.tc : Thread Cert.OutCDwRefIdeal.nD Cert.OutCDwRefIdeal.τ).loc Cert.OutCDwRefIdeal.main_arg0) = m' ((c.tc : Thread Cert.OutCDwRefIdeal.nD Cert.OutCDwRefIdeal.τ).loc Cert.OutCDwRefIdeal.main_arg0)
          ∧ r.2.mem ((c.tc : Thread Cert.OutCDwRefIdeal.nD Cert.OutCDwRefIdeal.τ).loc Cert.OutCDwRefIdeal.main_arg1) = m' ((c.tc : Thread Cert.OutCDwRefIdeal.nD Cert.OutCDwRefIdeal.τ).loc Cert.OutCDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v3) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v3) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_InCDx_InCDxIdeal : Prop :=
  True

def algebraic_InCDxIdeal_InCDxRefIdeal [hInCDxIdeal : Cert.InCDxIdeal.Facts] [hInCDxRefIdeal : Cert.InCDxRefIdeal.Facts] : Prop :=
  ∀ (m : (ℓ : Loc Cert.InCDxIdeal.nD Cert.InCDxIdeal.τ Cert.InCDxIdeal.sig) → Buf (Elt Ideal) ℓ) (g : Dev Cert.InCDxIdeal.nD → PrngReg)
    (m' : (ℓ : Loc Cert.InCDxRefIdeal.nD Cert.InCDxRefIdeal.τ Cert.InCDxRefIdeal.sig) → Buf (Elt Ideal) ℓ) (g' : Dev Cert.InCDxRefIdeal.nD → PrngReg), Pre_InCDxIdeal m →
    (∀ c : Dev Cert.InCDxIdeal.nD,
      m' ((c.tc : Thread Cert.InCDxRefIdeal.nD Cert.InCDxRefIdeal.τ).loc Cert.InCDxRefIdeal.main_arg0) = m ((c.tc : Thread Cert.InCDxIdeal.nD Cert.InCDxIdeal.τ).loc Cert.InCDxIdeal.main_arg0)
      ∧ m' ((c.tc : Thread Cert.InCDxRefIdeal.nD Cert.InCDxRefIdeal.τ).loc Cert.InCDxRefIdeal.main_arg1) = m ((c.tc : Thread Cert.InCDxIdeal.nD Cert.InCDxIdeal.τ).loc Cert.InCDxIdeal.main_arg1)
      ∧ m' ((c.tc : Thread Cert.InCDxRefIdeal.nD Cert.InCDxRefIdeal.τ).loc Cert.InCDxRefIdeal.main_arg2) = m ((c.tc : Thread Cert.InCDxIdeal.nD Cert.InCDxIdeal.τ).loc Cert.InCDxIdeal.main_arg2)) →
    ∃ (v0 : (c : Dev Cert.InCDxIdeal.nD) → Buf (Elt Ideal) ((c.tc : Thread Cert.InCDxIdeal.nD Cert.InCDxIdeal.τ).loc Cert.InCDxIdeal.main_v0)),
      θ_run (Cert.InCDxIdeal.defs (F := Ideal)) (onTc (τ := Cert.InCDxIdeal.τ) (Cert.InCDxIdeal.main (F := Ideal))) ⟨m, fun _ => 0, g⟩ (fun r => ∀ c : Dev Cert.InCDxIdeal.nD,
          r.2.mem ((c.tc : Thread Cert.InCDxIdeal.nD Cert.InCDxIdeal.τ).loc Cert.InCDxIdeal.main_v0) = v0 c
          ∧ r.2.mem ((c.tc : Thread Cert.InCDxIdeal.nD Cert.InCDxIdeal.τ).loc Cert.InCDxIdeal.main_arg0) = m ((c.tc : Thread Cert.InCDxIdeal.nD Cert.InCDxIdeal.τ).loc Cert.InCDxIdeal.main_arg0)
          ∧ r.2.mem ((c.tc : Thread Cert.InCDxIdeal.nD Cert.InCDxIdeal.τ).loc Cert.InCDxIdeal.main_arg1) = m ((c.tc : Thread Cert.InCDxIdeal.nD Cert.InCDxIdeal.τ).loc Cert.InCDxIdeal.main_arg1)
          ∧ r.2.mem ((c.tc : Thread Cert.InCDxIdeal.nD Cert.InCDxIdeal.τ).loc Cert.InCDxIdeal.main_arg2) = m ((c.tc : Thread Cert.InCDxIdeal.nD Cert.InCDxIdeal.τ).loc Cert.InCDxIdeal.main_arg2))
      ∧ θ_run (Cert.InCDxRefIdeal.defs (F := Ideal)) (onTc (τ := Cert.InCDxRefIdeal.τ) (Cert.InCDxRefIdeal.main (F := Ideal))) ⟨m', fun _ => 0, g'⟩ (fun r => ∀ c : Dev Cert.InCDxRefIdeal.nD,
          r.2.mem ((c.tc : Thread Cert.InCDxRefIdeal.nD Cert.InCDxRefIdeal.τ).loc Cert.InCDxRefIdeal.main_v4) = v0 c
          ∧ r.2.mem ((c.tc : Thread Cert.InCDxRefIdeal.nD Cert.InCDxRefIdeal.τ).loc Cert.InCDxRefIdeal.main_arg0) = m' ((c.tc : Thread Cert.InCDxRefIdeal.nD Cert.InCDxRefIdeal.τ).loc Cert.InCDxRefIdeal.main_arg0)
          ∧ r.2.mem ((c.tc : Thread Cert.InCDxRefIdeal.nD Cert.InCDxRefIdeal.τ).loc Cert.InCDxRefIdeal.main_arg1) = m' ((c.tc : Thread Cert.InCDxRefIdeal.nD Cert.InCDxRefIdeal.τ).loc Cert.InCDxRefIdeal.main_arg1)
          ∧ r.2.mem ((c.tc : Thread Cert.InCDxRefIdeal.nD Cert.InCDxRefIdeal.τ).loc Cert.InCDxRefIdeal.main_arg2) = m' ((c.tc : Thread Cert.InCDxRefIdeal.nD Cert.InCDxRefIdeal.τ).loc Cert.InCDxRefIdeal.main_arg2))

def preserves_ColsAb_ColsAbIdeal : Prop :=
  True

def bitexact_ColsAb_ColsAbRef [hColsAb : Cert.ColsAb.Facts] [hColsAbRef : Cert.ColsAbRef.Facts] : Prop :=
  ∀ (m : (ℓ : Loc Cert.ColsAb.nD Cert.ColsAb.τ Cert.ColsAb.sig) → Buf (Elt Bits) ℓ) (g : Dev Cert.ColsAb.nD → PrngReg)
    (m' : (ℓ : Loc Cert.ColsAbRef.nD Cert.ColsAbRef.τ Cert.ColsAbRef.sig) → Buf (Elt Bits) ℓ) (g' : Dev Cert.ColsAbRef.nD → PrngReg), Pre_ColsAb m →
    (∀ c : Dev Cert.ColsAb.nD,
      m' ((c.tc : Thread Cert.ColsAbRef.nD Cert.ColsAbRef.τ).loc Cert.ColsAbRef.main_arg0) = m ((c.tc : Thread Cert.ColsAb.nD Cert.ColsAb.τ).loc Cert.ColsAb.main_arg0)) →
    ∃ (v0 : (c : Dev Cert.ColsAb.nD) → Buf (Elt Bits) ((c.tc : Thread Cert.ColsAb.nD Cert.ColsAb.τ).loc Cert.ColsAb.main_v0)),
      θ_run (Cert.ColsAb.defs (F := Bits)) (onTc (τ := Cert.ColsAb.τ) (Cert.ColsAb.main (F := Bits))) ⟨m, fun _ => 0, g⟩ (fun r => ∀ c : Dev Cert.ColsAb.nD,
          r.2.mem ((c.tc : Thread Cert.ColsAb.nD Cert.ColsAb.τ).loc Cert.ColsAb.main_v0) = v0 c
          ∧ r.2.mem ((c.tc : Thread Cert.ColsAb.nD Cert.ColsAb.τ).loc Cert.ColsAb.main_arg0) = m ((c.tc : Thread Cert.ColsAb.nD Cert.ColsAb.τ).loc Cert.ColsAb.main_arg0))
      ∧ θ_run (Cert.ColsAbRef.defs (F := Bits)) (onTc (τ := Cert.ColsAbRef.τ) (Cert.ColsAbRef.main (F := Bits))) ⟨m', fun _ => 0, g'⟩ (fun r => ∀ c : Dev Cert.ColsAbRef.nD,
          r.2.mem ((c.tc : Thread Cert.ColsAbRef.nD Cert.ColsAbRef.τ).loc Cert.ColsAbRef.main_v1) = v0 c
          ∧ r.2.mem ((c.tc : Thread Cert.ColsAbRef.nD Cert.ColsAbRef.τ).loc Cert.ColsAbRef.main_arg0) = m' ((c.tc : Thread Cert.ColsAbRef.nD Cert.ColsAbRef.τ).loc Cert.ColsAbRef.main_arg0))

def algebraic_ColsAbIdeal_ColsAbRefIdeal [hColsAbIdeal : Cert.ColsAbIdeal.Facts] [hColsAbRefIdeal : Cert.ColsAbRefIdeal.Facts] : Prop :=
  ∀ (m : (ℓ : Loc Cert.ColsAbIdeal.nD Cert.ColsAbIdeal.τ Cert.ColsAbIdeal.sig) → Buf (Elt Ideal) ℓ) (g : Dev Cert.ColsAbIdeal.nD → PrngReg)
    (m' : (ℓ : Loc Cert.ColsAbRefIdeal.nD Cert.ColsAbRefIdeal.τ Cert.ColsAbRefIdeal.sig) → Buf (Elt Ideal) ℓ) (g' : Dev Cert.ColsAbRefIdeal.nD → PrngReg), Pre_ColsAbIdeal m →
    (∀ c : Dev Cert.ColsAbIdeal.nD,
      m' ((c.tc : Thread Cert.ColsAbRefIdeal.nD Cert.ColsAbRefIdeal.τ).loc Cert.ColsAbRefIdeal.main_arg0) = m ((c.tc : Thread Cert.ColsAbIdeal.nD Cert.ColsAbIdeal.τ).loc Cert.ColsAbIdeal.main_arg0)) →
    ∃ (v0 : (c : Dev Cert.ColsAbIdeal.nD) → Buf (Elt Ideal) ((c.tc : Thread Cert.ColsAbIdeal.nD Cert.ColsAbIdeal.τ).loc Cert.ColsAbIdeal.main_v0)),
      θ_run (Cert.ColsAbIdeal.defs (F := Ideal)) (onTc (τ := Cert.ColsAbIdeal.τ) (Cert.ColsAbIdeal.main (F := Ideal))) ⟨m, fun _ => 0, g⟩ (fun r => ∀ c : Dev Cert.ColsAbIdeal.nD,
          r.2.mem ((c.tc : Thread Cert.ColsAbIdeal.nD Cert.ColsAbIdeal.τ).loc Cert.ColsAbIdeal.main_v0) = v0 c
          ∧ r.2.mem ((c.tc : Thread Cert.ColsAbIdeal.nD Cert.ColsAbIdeal.τ).loc Cert.ColsAbIdeal.main_arg0) = m ((c.tc : Thread Cert.ColsAbIdeal.nD Cert.ColsAbIdeal.τ).loc Cert.ColsAbIdeal.main_arg0))
      ∧ θ_run (Cert.ColsAbRefIdeal.defs (F := Ideal)) (onTc (τ := Cert.ColsAbRefIdeal.τ) (Cert.ColsAbRefIdeal.main (F := Ideal))) ⟨m', fun _ => 0, g'⟩ (fun r => ∀ c : Dev Cert.ColsAbRefIdeal.nD,
          r.2.mem ((c.tc : Thread Cert.ColsAbRefIdeal.nD Cert.ColsAbRefIdeal.τ).loc Cert.ColsAbRefIdeal.main_v1) = v0 c
          ∧ r.2.mem ((c.tc : Thread Cert.ColsAbRefIdeal.nD Cert.ColsAbRefIdeal.τ).loc Cert.ColsAbRefIdeal.main_arg0) = m' ((c.tc : Thread Cert.ColsAbRefIdeal.nD Cert.ColsAbRefIdeal.τ).loc Cert.ColsAbRefIdeal.main_arg0))

def preserves_ColsC_ColsCIdeal : Prop :=
  True

def bitexact_ColsC_ColsCRef [hColsC : Cert.ColsC.Facts] [hColsCRef : Cert.ColsCRef.Facts] : Prop :=
  ∀ (m : (ℓ : Loc Cert.ColsC.nD Cert.ColsC.τ Cert.ColsC.sig) → Buf (Elt Bits) ℓ) (g : Dev Cert.ColsC.nD → PrngReg)
    (m' : (ℓ : Loc Cert.ColsCRef.nD Cert.ColsCRef.τ Cert.ColsCRef.sig) → Buf (Elt Bits) ℓ) (g' : Dev Cert.ColsCRef.nD → PrngReg), Pre_ColsC m →
    (∀ c : Dev Cert.ColsC.nD,
      m' ((c.tc : Thread Cert.ColsCRef.nD Cert.ColsCRef.τ).loc Cert.ColsCRef.main_arg0) = m ((c.tc : Thread Cert.ColsC.nD Cert.ColsC.τ).loc Cert.ColsC.main_arg0)) →
    ∃ (v0 : (c : Dev Cert.ColsC.nD) → Buf (Elt Bits) ((c.tc : Thread Cert.ColsC.nD Cert.ColsC.τ).loc Cert.ColsC.main_v0_0)) (v1 : (c : Dev Cert.ColsC.nD) → Buf (Elt Bits) ((c.tc : Thread Cert.ColsC.nD Cert.ColsC.τ).loc Cert.ColsC.main_v0_1)),
      θ_run (Cert.ColsC.defs (F := Bits)) (onTc (τ := Cert.ColsC.τ) (Cert.ColsC.main (F := Bits))) ⟨m, fun _ => 0, g⟩ (fun r => ∀ c : Dev Cert.ColsC.nD,
          r.2.mem ((c.tc : Thread Cert.ColsC.nD Cert.ColsC.τ).loc Cert.ColsC.main_v0_0) = v0 c
          ∧ r.2.mem ((c.tc : Thread Cert.ColsC.nD Cert.ColsC.τ).loc Cert.ColsC.main_v0_1) = v1 c
          ∧ r.2.mem ((c.tc : Thread Cert.ColsC.nD Cert.ColsC.τ).loc Cert.ColsC.main_arg0) = m ((c.tc : Thread Cert.ColsC.nD Cert.ColsC.τ).loc Cert.ColsC.main_arg0))
      ∧ θ_run (Cert.ColsCRef.defs (F := Bits)) (onTc (τ := Cert.ColsCRef.τ) (Cert.ColsCRef.main (F := Bits))) ⟨m', fun _ => 0, g'⟩ (fun r => ∀ c : Dev Cert.ColsCRef.nD,
          r.2.mem ((c.tc : Thread Cert.ColsCRef.nD Cert.ColsCRef.τ).loc Cert.ColsCRef.main_v2) = v0 c
          ∧ r.2.mem ((c.tc : Thread Cert.ColsCRef.nD Cert.ColsCRef.τ).loc Cert.ColsCRef.main_v3) = v1 c
          ∧ r.2.mem ((c.tc : Thread Cert.ColsCRef.nD Cert.ColsCRef.τ).loc Cert.ColsCRef.main_arg0) = m' ((c.tc : Thread Cert.ColsCRef.nD Cert.ColsCRef.τ).loc Cert.ColsCRef.main_arg0))

def algebraic_ColsCIdeal_ColsCRefIdeal [hColsCIdeal : Cert.ColsCIdeal.Facts] [hColsCRefIdeal : Cert.ColsCRefIdeal.Facts] : Prop :=
  ∀ (m : (ℓ : Loc Cert.ColsCIdeal.nD Cert.ColsCIdeal.τ Cert.ColsCIdeal.sig) → Buf (Elt Ideal) ℓ) (g : Dev Cert.ColsCIdeal.nD → PrngReg)
    (m' : (ℓ : Loc Cert.ColsCRefIdeal.nD Cert.ColsCRefIdeal.τ Cert.ColsCRefIdeal.sig) → Buf (Elt Ideal) ℓ) (g' : Dev Cert.ColsCRefIdeal.nD → PrngReg), Pre_ColsCIdeal m →
    (∀ c : Dev Cert.ColsCIdeal.nD,
      m' ((c.tc : Thread Cert.ColsCRefIdeal.nD Cert.ColsCRefIdeal.τ).loc Cert.ColsCRefIdeal.main_arg0) = m ((c.tc : Thread Cert.ColsCIdeal.nD Cert.ColsCIdeal.τ).loc Cert.ColsCIdeal.main_arg0)) →
    ∃ (v0 : (c : Dev Cert.ColsCIdeal.nD) → Buf (Elt Ideal) ((c.tc : Thread Cert.ColsCIdeal.nD Cert.ColsCIdeal.τ).loc Cert.ColsCIdeal.main_v0_0)) (v1 : (c : Dev Cert.ColsCIdeal.nD) → Buf (Elt Ideal) ((c.tc : Thread Cert.ColsCIdeal.nD Cert.ColsCIdeal.τ).loc Cert.ColsCIdeal.main_v0_1)),
      θ_run (Cert.ColsCIdeal.defs (F := Ideal)) (onTc (τ := Cert.ColsCIdeal.τ) (Cert.ColsCIdeal.main (F := Ideal))) ⟨m, fun _ => 0, g⟩ (fun r => ∀ c : Dev Cert.ColsCIdeal.nD,
          r.2.mem ((c.tc : Thread Cert.ColsCIdeal.nD Cert.ColsCIdeal.τ).loc Cert.ColsCIdeal.main_v0_0) = v0 c
          ∧ r.2.mem ((c.tc : Thread Cert.ColsCIdeal.nD Cert.ColsCIdeal.τ).loc Cert.ColsCIdeal.main_v0_1) = v1 c
          ∧ r.2.mem ((c.tc : Thread Cert.ColsCIdeal.nD Cert.ColsCIdeal.τ).loc Cert.ColsCIdeal.main_arg0) = m ((c.tc : Thread Cert.ColsCIdeal.nD Cert.ColsCIdeal.τ).loc Cert.ColsCIdeal.main_arg0))
      ∧ θ_run (Cert.ColsCRefIdeal.defs (F := Ideal)) (onTc (τ := Cert.ColsCRefIdeal.τ) (Cert.ColsCRefIdeal.main (F := Ideal))) ⟨m', fun _ => 0, g'⟩ (fun r => ∀ c : Dev Cert.ColsCRefIdeal.nD,
          r.2.mem ((c.tc : Thread Cert.ColsCRefIdeal.nD Cert.ColsCRefIdeal.τ).loc Cert.ColsCRefIdeal.main_v2) = v0 c
          ∧ r.2.mem ((c.tc : Thread Cert.ColsCRefIdeal.nD Cert.ColsCRefIdeal.τ).loc Cert.ColsCRefIdeal.main_v3) = v1 c
          ∧ r.2.mem ((c.tc : Thread Cert.ColsCRefIdeal.nD Cert.ColsCRefIdeal.τ).loc Cert.ColsCRefIdeal.main_arg0) = m' ((c.tc : Thread Cert.ColsCRefIdeal.nD Cert.ColsCRefIdeal.τ).loc Cert.ColsCRefIdeal.main_arg0))

def preserves_ColsUp_ColsUpIdeal : Prop :=
  True

def bitexact_ColsUp_ColsUpRef [hColsUp : Cert.ColsUp.Facts] [hColsUpRef : Cert.ColsUpRef.Facts] : Prop :=
  ∀ (m : (ℓ : Loc Cert.ColsUp.nD Cert.ColsUp.τ Cert.ColsUp.sig) → Buf (Elt Bits) ℓ) (g : Dev Cert.ColsUp.nD → PrngReg)
    (m' : (ℓ : Loc Cert.ColsUpRef.nD Cert.ColsUpRef.τ Cert.ColsUpRef.sig) → Buf (Elt Bits) ℓ) (g' : Dev Cert.ColsUpRef.nD → PrngReg), Pre_ColsUp m →
    (∀ c : Dev Cert.ColsUp.nD,
      m' ((c.tc : Thread Cert.ColsUpRef.nD Cert.ColsUpRef.τ).loc Cert.ColsUpRef.main_arg0) = m ((c.tc : Thread Cert.ColsUp.nD Cert.ColsUp.τ).loc Cert.ColsUp.main_arg0)) →
    ∃ (v0 : (c : Dev Cert.ColsUp.nD) → Buf (Elt Bits) ((c.tc : Thread Cert.ColsUp.nD Cert.ColsUp.τ).loc Cert.ColsUp.main_v0)),
      θ_run (Cert.ColsUp.defs (F := Bits)) (onTc (τ := Cert.ColsUp.τ) (Cert.ColsUp.main (F := Bits))) ⟨m, fun _ => 0, g⟩ (fun r => ∀ c : Dev Cert.ColsUp.nD,
          r.2.mem ((c.tc : Thread Cert.ColsUp.nD Cert.ColsUp.τ).loc Cert.ColsUp.main_v0) = v0 c
          ∧ r.2.mem ((c.tc : Thread Cert.ColsUp.nD Cert.ColsUp.τ).loc Cert.ColsUp.main_arg0) = m ((c.tc : Thread Cert.ColsUp.nD Cert.ColsUp.τ).loc Cert.ColsUp.main_arg0))
      ∧ θ_run (Cert.ColsUpRef.defs (F := Bits)) (onTc (τ := Cert.ColsUpRef.τ) (Cert.ColsUpRef.main (F := Bits))) ⟨m', fun _ => 0, g'⟩ (fun r => ∀ c : Dev Cert.ColsUpRef.nD,
          r.2.mem ((c.tc : Thread Cert.ColsUpRef.nD Cert.ColsUpRef.τ).loc Cert.ColsUpRef.main_v4) = v0 c
          ∧ r.2.mem ((c.tc : Thread Cert.ColsUpRef.nD Cert.ColsUpRef.τ).loc Cert.ColsUpRef.main_arg0) = m' ((c.tc : Thread Cert.ColsUpRef.nD Cert.ColsUpRef.τ).loc Cert.ColsUpRef.main_arg0))

def algebraic_ColsUpIdeal_ColsUpRefIdeal [hColsUpIdeal : Cert.ColsUpIdeal.Facts] [hColsUpRefIdeal : Cert.ColsUpRefIdeal.Facts] : Prop :=
  ∀ (m : (ℓ : Loc Cert.ColsUpIdeal.nD Cert.ColsUpIdeal.τ Cert.ColsUpIdeal.sig) → Buf (Elt Ideal) ℓ) (g : Dev Cert.ColsUpIdeal.nD → PrngReg)
    (m' : (ℓ : Loc Cert.ColsUpRefIdeal.nD Cert.ColsUpRefIdeal.τ Cert.ColsUpRefIdeal.sig) → Buf (Elt Ideal) ℓ) (g' : Dev Cert.ColsUpRefIdeal.nD → PrngReg), Pre_ColsUpIdeal m →
    (∀ c : Dev Cert.ColsUpIdeal.nD,
      m' ((c.tc : Thread Cert.ColsUpRefIdeal.nD Cert.ColsUpRefIdeal.τ).loc Cert.ColsUpRefIdeal.main_arg0) = m ((c.tc : Thread Cert.ColsUpIdeal.nD Cert.ColsUpIdeal.τ).loc Cert.ColsUpIdeal.main_arg0)) →
    ∃ (v0 : (c : Dev Cert.ColsUpIdeal.nD) → Buf (Elt Ideal) ((c.tc : Thread Cert.ColsUpIdeal.nD Cert.ColsUpIdeal.τ).loc Cert.ColsUpIdeal.main_v0)),
      θ_run (Cert.ColsUpIdeal.defs (F := Ideal)) (onTc (τ := Cert.ColsUpIdeal.τ) (Cert.ColsUpIdeal.main (F := Ideal))) ⟨m, fun _ => 0, g⟩ (fun r => ∀ c : Dev Cert.ColsUpIdeal.nD,
          r.2.mem ((c.tc : Thread Cert.ColsUpIdeal.nD Cert.ColsUpIdeal.τ).loc Cert.ColsUpIdeal.main_v0) = v0 c
          ∧ r.2.mem ((c.tc : Thread Cert.ColsUpIdeal.nD Cert.ColsUpIdeal.τ).loc Cert.ColsUpIdeal.main_arg0) = m ((c.tc : Thread Cert.ColsUpIdeal.nD Cert.ColsUpIdeal.τ).loc Cert.ColsUpIdeal.main_arg0))
      ∧ θ_run (Cert.ColsUpRefIdeal.defs (F := Ideal)) (onTc (τ := Cert.ColsUpRefIdeal.τ) (Cert.ColsUpRefIdeal.main (F := Ideal))) ⟨m', fun _ => 0, g'⟩ (fun r => ∀ c : Dev Cert.ColsUpRefIdeal.nD,
          r.2.mem ((c.tc : Thread Cert.ColsUpRefIdeal.nD Cert.ColsUpRefIdeal.τ).loc Cert.ColsUpRefIdeal.main_v4) = v0 c
          ∧ r.2.mem ((c.tc : Thread Cert.ColsUpRefIdeal.nD Cert.ColsUpRefIdeal.τ).loc Cert.ColsUpRefIdeal.main_arg0) = m' ((c.tc : Thread Cert.ColsUpRefIdeal.nD Cert.ColsUpRefIdeal.τ).loc Cert.ColsUpRefIdeal.main_arg0))

def preserves_SlotsAb_SlotsAbIdeal : Prop :=
  True

def bitexact_SlotsAb_SlotsAbRef [hSlotsAb : Cert.SlotsAb.Facts] [hSlotsAbRef : Cert.SlotsAbRef.Facts] : Prop :=
  ∀ (m : (ℓ : Loc Cert.SlotsAb.nD Cert.SlotsAb.τ Cert.SlotsAb.sig) → Buf (Elt Bits) ℓ) (g : Dev Cert.SlotsAb.nD → PrngReg)
    (m' : (ℓ : Loc Cert.SlotsAbRef.nD Cert.SlotsAbRef.τ Cert.SlotsAbRef.sig) → Buf (Elt Bits) ℓ) (g' : Dev Cert.SlotsAbRef.nD → PrngReg), Pre_SlotsAb m →
    (∀ c : Dev Cert.SlotsAb.nD,
      m' ((c.tc : Thread Cert.SlotsAbRef.nD Cert.SlotsAbRef.τ).loc Cert.SlotsAbRef.main_arg0) = m ((c.tc : Thread Cert.SlotsAb.nD Cert.SlotsAb.τ).loc Cert.SlotsAb.main_arg0)) →
    ∃ (v0 : (c : Dev Cert.SlotsAb.nD) → Buf (Elt Bits) ((c.tc : Thread Cert.SlotsAb.nD Cert.SlotsAb.τ).loc Cert.SlotsAb.main_v0)),
      θ_run (Cert.SlotsAb.defs (F := Bits)) (onTc (τ := Cert.SlotsAb.τ) (Cert.SlotsAb.main (F := Bits))) ⟨m, fun _ => 0, g⟩ (fun r => ∀ c : Dev Cert.SlotsAb.nD,
          r.2.mem ((c.tc : Thread Cert.SlotsAb.nD Cert.SlotsAb.τ).loc Cert.SlotsAb.main_v0) = v0 c
          ∧ r.2.mem ((c.tc : Thread Cert.SlotsAb.nD Cert.SlotsAb.τ).loc Cert.SlotsAb.main_arg0) = m ((c.tc : Thread Cert.SlotsAb.nD Cert.SlotsAb.τ).loc Cert.SlotsAb.main_arg0))
      ∧ θ_run (Cert.SlotsAbRef.defs (F := Bits)) (onTc (τ := Cert.SlotsAbRef.τ) (Cert.SlotsAbRef.main (F := Bits))) ⟨m', fun _ => 0, g'⟩ (fun r => ∀ c : Dev Cert.SlotsAbRef.nD,
          r.2.mem ((c.tc : Thread Cert.SlotsAbRef.nD Cert.SlotsAbRef.τ).loc Cert.SlotsAbRef.main_v2) = v0 c
          ∧ r.2.mem ((c.tc : Thread Cert.SlotsAbRef.nD Cert.SlotsAbRef.τ).loc Cert.SlotsAbRef.main_arg0) = m' ((c.tc : Thread Cert.SlotsAbRef.nD Cert.SlotsAbRef.τ).loc Cert.SlotsAbRef.main_arg0))

def algebraic_SlotsAbIdeal_SlotsAbRefIdeal [hSlotsAbIdeal : Cert.SlotsAbIdeal.Facts] [hSlotsAbRefIdeal : Cert.SlotsAbRefIdeal.Facts] : Prop :=
  ∀ (m : (ℓ : Loc Cert.SlotsAbIdeal.nD Cert.SlotsAbIdeal.τ Cert.SlotsAbIdeal.sig) → Buf (Elt Ideal) ℓ) (g : Dev Cert.SlotsAbIdeal.nD → PrngReg)
    (m' : (ℓ : Loc Cert.SlotsAbRefIdeal.nD Cert.SlotsAbRefIdeal.τ Cert.SlotsAbRefIdeal.sig) → Buf (Elt Ideal) ℓ) (g' : Dev Cert.SlotsAbRefIdeal.nD → PrngReg), Pre_SlotsAbIdeal m →
    (∀ c : Dev Cert.SlotsAbIdeal.nD,
      m' ((c.tc : Thread Cert.SlotsAbRefIdeal.nD Cert.SlotsAbRefIdeal.τ).loc Cert.SlotsAbRefIdeal.main_arg0) = m ((c.tc : Thread Cert.SlotsAbIdeal.nD Cert.SlotsAbIdeal.τ).loc Cert.SlotsAbIdeal.main_arg0)) →
    ∃ (v0 : (c : Dev Cert.SlotsAbIdeal.nD) → Buf (Elt Ideal) ((c.tc : Thread Cert.SlotsAbIdeal.nD Cert.SlotsAbIdeal.τ).loc Cert.SlotsAbIdeal.main_v0)),
      θ_run (Cert.SlotsAbIdeal.defs (F := Ideal)) (onTc (τ := Cert.SlotsAbIdeal.τ) (Cert.SlotsAbIdeal.main (F := Ideal))) ⟨m, fun _ => 0, g⟩ (fun r => ∀ c : Dev Cert.SlotsAbIdeal.nD,
          r.2.mem ((c.tc : Thread Cert.SlotsAbIdeal.nD Cert.SlotsAbIdeal.τ).loc Cert.SlotsAbIdeal.main_v0) = v0 c
          ∧ r.2.mem ((c.tc : Thread Cert.SlotsAbIdeal.nD Cert.SlotsAbIdeal.τ).loc Cert.SlotsAbIdeal.main_arg0) = m ((c.tc : Thread Cert.SlotsAbIdeal.nD Cert.SlotsAbIdeal.τ).loc Cert.SlotsAbIdeal.main_arg0))
      ∧ θ_run (Cert.SlotsAbRefIdeal.defs (F := Ideal)) (onTc (τ := Cert.SlotsAbRefIdeal.τ) (Cert.SlotsAbRefIdeal.main (F := Ideal))) ⟨m', fun _ => 0, g'⟩ (fun r => ∀ c : Dev Cert.SlotsAbRefIdeal.nD,
          r.2.mem ((c.tc : Thread Cert.SlotsAbRefIdeal.nD Cert.SlotsAbRefIdeal.τ).loc Cert.SlotsAbRefIdeal.main_v2) = v0 c
          ∧ r.2.mem ((c.tc : Thread Cert.SlotsAbRefIdeal.nD Cert.SlotsAbRefIdeal.τ).loc Cert.SlotsAbRefIdeal.main_arg0) = m' ((c.tc : Thread Cert.SlotsAbRefIdeal.nD Cert.SlotsAbRefIdeal.τ).loc Cert.SlotsAbRefIdeal.main_arg0))

def preserves_SlotsC_SlotsCIdeal : Prop :=
  True

def bitexact_SlotsC_SlotsCRef [hSlotsC : Cert.SlotsC.Facts] [hSlotsCRef : Cert.SlotsCRef.Facts] : Prop :=
  ∀ (m : (ℓ : Loc Cert.SlotsC.nD Cert.SlotsC.τ Cert.SlotsC.sig) → Buf (Elt Bits) ℓ) (g : Dev Cert.SlotsC.nD → PrngReg)
    (m' : (ℓ : Loc Cert.SlotsCRef.nD Cert.SlotsCRef.τ Cert.SlotsCRef.sig) → Buf (Elt Bits) ℓ) (g' : Dev Cert.SlotsCRef.nD → PrngReg), Pre_SlotsC m →
    (∀ c : Dev Cert.SlotsC.nD,
      m' ((c.tc : Thread Cert.SlotsCRef.nD Cert.SlotsCRef.τ).loc Cert.SlotsCRef.main_arg0) = m ((c.tc : Thread Cert.SlotsC.nD Cert.SlotsC.τ).loc Cert.SlotsC.main_arg0)
      ∧ m' ((c.tc : Thread Cert.SlotsCRef.nD Cert.SlotsCRef.τ).loc Cert.SlotsCRef.main_arg1) = m ((c.tc : Thread Cert.SlotsC.nD Cert.SlotsC.τ).loc Cert.SlotsC.main_arg1)) →
    ∃ (v0 : (c : Dev Cert.SlotsC.nD) → Buf (Elt Bits) ((c.tc : Thread Cert.SlotsC.nD Cert.SlotsC.τ).loc Cert.SlotsC.main_v0)),
      θ_run (Cert.SlotsC.defs (F := Bits)) (onTc (τ := Cert.SlotsC.τ) (Cert.SlotsC.main (F := Bits))) ⟨m, fun _ => 0, g⟩ (fun r => ∀ c : Dev Cert.SlotsC.nD,
          r.2.mem ((c.tc : Thread Cert.SlotsC.nD Cert.SlotsC.τ).loc Cert.SlotsC.main_v0) = v0 c
          ∧ r.2.mem ((c.tc : Thread Cert.SlotsC.nD Cert.SlotsC.τ).loc Cert.SlotsC.main_arg0) = m ((c.tc : Thread Cert.SlotsC.nD Cert.SlotsC.τ).loc Cert.SlotsC.main_arg0)
          ∧ r.2.mem ((c.tc : Thread Cert.SlotsC.nD Cert.SlotsC.τ).loc Cert.SlotsC.main_arg1) = m ((c.tc : Thread Cert.SlotsC.nD Cert.SlotsC.τ).loc Cert.SlotsC.main_arg1))
      ∧ θ_run (Cert.SlotsCRef.defs (F := Bits)) (onTc (τ := Cert.SlotsCRef.τ) (Cert.SlotsCRef.main (F := Bits))) ⟨m', fun _ => 0, g'⟩ (fun r => ∀ c : Dev Cert.SlotsCRef.nD,
          r.2.mem ((c.tc : Thread Cert.SlotsCRef.nD Cert.SlotsCRef.τ).loc Cert.SlotsCRef.main_v3) = v0 c
          ∧ r.2.mem ((c.tc : Thread Cert.SlotsCRef.nD Cert.SlotsCRef.τ).loc Cert.SlotsCRef.main_arg0) = m' ((c.tc : Thread Cert.SlotsCRef.nD Cert.SlotsCRef.τ).loc Cert.SlotsCRef.main_arg0)
          ∧ r.2.mem ((c.tc : Thread Cert.SlotsCRef.nD Cert.SlotsCRef.τ).loc Cert.SlotsCRef.main_arg1) = m' ((c.tc : Thread Cert.SlotsCRef.nD Cert.SlotsCRef.τ).loc Cert.SlotsCRef.main_arg1))

def algebraic_SlotsCIdeal_SlotsCRefIdeal [hSlotsCIdeal : Cert.SlotsCIdeal.Facts] [hSlotsCRefIdeal : Cert.SlotsCRefIdeal.Facts] : Prop :=
  ∀ (m : (ℓ : Loc Cert.SlotsCIdeal.nD Cert.SlotsCIdeal.τ Cert.SlotsCIdeal.sig) → Buf (Elt Ideal) ℓ) (g : Dev Cert.SlotsCIdeal.nD → PrngReg)
    (m' : (ℓ : Loc Cert.SlotsCRefIdeal.nD Cert.SlotsCRefIdeal.τ Cert.SlotsCRefIdeal.sig) → Buf (Elt Ideal) ℓ) (g' : Dev Cert.SlotsCRefIdeal.nD → PrngReg), Pre_SlotsCIdeal m →
    (∀ c : Dev Cert.SlotsCIdeal.nD,
      m' ((c.tc : Thread Cert.SlotsCRefIdeal.nD Cert.SlotsCRefIdeal.τ).loc Cert.SlotsCRefIdeal.main_arg0) = m ((c.tc : Thread Cert.SlotsCIdeal.nD Cert.SlotsCIdeal.τ).loc Cert.SlotsCIdeal.main_arg0)
      ∧ m' ((c.tc : Thread Cert.SlotsCRefIdeal.nD Cert.SlotsCRefIdeal.τ).loc Cert.SlotsCRefIdeal.main_arg1) = m ((c.tc : Thread Cert.SlotsCIdeal.nD Cert.SlotsCIdeal.τ).loc Cert.SlotsCIdeal.main_arg1)) →
    ∃ (v0 : (c : Dev Cert.SlotsCIdeal.nD) → Buf (Elt Ideal) ((c.tc : Thread Cert.SlotsCIdeal.nD Cert.SlotsCIdeal.τ).loc Cert.SlotsCIdeal.main_v0)),
      θ_run (Cert.SlotsCIdeal.defs (F := Ideal)) (onTc (τ := Cert.SlotsCIdeal.τ) (Cert.SlotsCIdeal.main (F := Ideal))) ⟨m, fun _ => 0, g⟩ (fun r => ∀ c : Dev Cert.SlotsCIdeal.nD,
          r.2.mem ((c.tc : Thread Cert.SlotsCIdeal.nD Cert.SlotsCIdeal.τ).loc Cert.SlotsCIdeal.main_v0) = v0 c
          ∧ r.2.mem ((c.tc : Thread Cert.SlotsCIdeal.nD Cert.SlotsCIdeal.τ).loc Cert.SlotsCIdeal.main_arg0) = m ((c.tc : Thread Cert.SlotsCIdeal.nD Cert.SlotsCIdeal.τ).loc Cert.SlotsCIdeal.main_arg0)
          ∧ r.2.mem ((c.tc : Thread Cert.SlotsCIdeal.nD Cert.SlotsCIdeal.τ).loc Cert.SlotsCIdeal.main_arg1) = m ((c.tc : Thread Cert.SlotsCIdeal.nD Cert.SlotsCIdeal.τ).loc Cert.SlotsCIdeal.main_arg1))
      ∧ θ_run (Cert.SlotsCRefIdeal.defs (F := Ideal)) (onTc (τ := Cert.SlotsCRefIdeal.τ) (Cert.SlotsCRefIdeal.main (F := Ideal))) ⟨m', fun _ => 0, g'⟩ (fun r => ∀ c : Dev Cert.SlotsCRefIdeal.nD,
          r.2.mem ((c.tc : Thread Cert.SlotsCRefIdeal.nD Cert.SlotsCRefIdeal.τ).loc Cert.SlotsCRefIdeal.main_v3) = v0 c
          ∧ r.2.mem ((c.tc : Thread Cert.SlotsCRefIdeal.nD Cert.SlotsCRefIdeal.τ).loc Cert.SlotsCRefIdeal.main_arg0) = m' ((c.tc : Thread Cert.SlotsCRefIdeal.nD Cert.SlotsCRefIdeal.τ).loc Cert.SlotsCRefIdeal.main_arg0)
          ∧ r.2.mem ((c.tc : Thread Cert.SlotsCRefIdeal.nD Cert.SlotsCRefIdeal.τ).loc Cert.SlotsCRefIdeal.main_arg1) = m' ((c.tc : Thread Cert.SlotsCRefIdeal.nD Cert.SlotsCRefIdeal.τ).loc Cert.SlotsCRefIdeal.main_arg1))

def preserves_SlotsUp_SlotsUpIdeal : Prop :=
  True

def bitexact_SlotsUp_SlotsUpRef [hSlotsUp : Cert.SlotsUp.Facts] [hSlotsUpRef : Cert.SlotsUpRef.Facts] : Prop :=
  ∀ (m : (ℓ : Loc Cert.SlotsUp.nD Cert.SlotsUp.τ Cert.SlotsUp.sig) → Buf (Elt Bits) ℓ) (g : Dev Cert.SlotsUp.nD → PrngReg)
    (m' : (ℓ : Loc Cert.SlotsUpRef.nD Cert.SlotsUpRef.τ Cert.SlotsUpRef.sig) → Buf (Elt Bits) ℓ) (g' : Dev Cert.SlotsUpRef.nD → PrngReg), Pre_SlotsUp m →
    (∀ c : Dev Cert.SlotsUp.nD,
      m' ((c.tc : Thread Cert.SlotsUpRef.nD Cert.SlotsUpRef.τ).loc Cert.SlotsUpRef.main_arg0) = m ((c.tc : Thread Cert.SlotsUp.nD Cert.SlotsUp.τ).loc Cert.SlotsUp.main_arg0)) →
    ∃ (v0 : (c : Dev Cert.SlotsUp.nD) → Buf (Elt Bits) ((c.tc : Thread Cert.SlotsUp.nD Cert.SlotsUp.τ).loc Cert.SlotsUp.main_v0)),
      θ_run (Cert.SlotsUp.defs (F := Bits)) (onTc (τ := Cert.SlotsUp.τ) (Cert.SlotsUp.main (F := Bits))) ⟨m, fun _ => 0, g⟩ (fun r => ∀ c : Dev Cert.SlotsUp.nD,
          r.2.mem ((c.tc : Thread Cert.SlotsUp.nD Cert.SlotsUp.τ).loc Cert.SlotsUp.main_v0) = v0 c
          ∧ r.2.mem ((c.tc : Thread Cert.SlotsUp.nD Cert.SlotsUp.τ).loc Cert.SlotsUp.main_arg0) = m ((c.tc : Thread Cert.SlotsUp.nD Cert.SlotsUp.τ).loc Cert.SlotsUp.main_arg0))
      ∧ θ_run (Cert.SlotsUpRef.defs (F := Bits)) (onTc (τ := Cert.SlotsUpRef.τ) (Cert.SlotsUpRef.main (F := Bits))) ⟨m', fun _ => 0, g'⟩ (fun r => ∀ c : Dev Cert.SlotsUpRef.nD,
          r.2.mem ((c.tc : Thread Cert.SlotsUpRef.nD Cert.SlotsUpRef.τ).loc Cert.SlotsUpRef.main_v5) = v0 c
          ∧ r.2.mem ((c.tc : Thread Cert.SlotsUpRef.nD Cert.SlotsUpRef.τ).loc Cert.SlotsUpRef.main_arg0) = m' ((c.tc : Thread Cert.SlotsUpRef.nD Cert.SlotsUpRef.τ).loc Cert.SlotsUpRef.main_arg0))

def algebraic_SlotsUpIdeal_SlotsUpRefIdeal [hSlotsUpIdeal : Cert.SlotsUpIdeal.Facts] [hSlotsUpRefIdeal : Cert.SlotsUpRefIdeal.Facts] : Prop :=
  ∀ (m : (ℓ : Loc Cert.SlotsUpIdeal.nD Cert.SlotsUpIdeal.τ Cert.SlotsUpIdeal.sig) → Buf (Elt Ideal) ℓ) (g : Dev Cert.SlotsUpIdeal.nD → PrngReg)
    (m' : (ℓ : Loc Cert.SlotsUpRefIdeal.nD Cert.SlotsUpRefIdeal.τ Cert.SlotsUpRefIdeal.sig) → Buf (Elt Ideal) ℓ) (g' : Dev Cert.SlotsUpRefIdeal.nD → PrngReg), Pre_SlotsUpIdeal m →
    (∀ c : Dev Cert.SlotsUpIdeal.nD,
      m' ((c.tc : Thread Cert.SlotsUpRefIdeal.nD Cert.SlotsUpRefIdeal.τ).loc Cert.SlotsUpRefIdeal.main_arg0) = m ((c.tc : Thread Cert.SlotsUpIdeal.nD Cert.SlotsUpIdeal.τ).loc Cert.SlotsUpIdeal.main_arg0)) →
    ∃ (v0 : (c : Dev Cert.SlotsUpIdeal.nD) → Buf (Elt Ideal) ((c.tc : Thread Cert.SlotsUpIdeal.nD Cert.SlotsUpIdeal.τ).loc Cert.SlotsUpIdeal.main_v0)),
      θ_run (Cert.SlotsUpIdeal.defs (F := Ideal)) (onTc (τ := Cert.SlotsUpIdeal.τ) (Cert.SlotsUpIdeal.main (F := Ideal))) ⟨m, fun _ => 0, g⟩ (fun r => ∀ c : Dev Cert.SlotsUpIdeal.nD,
          r.2.mem ((c.tc : Thread Cert.SlotsUpIdeal.nD Cert.SlotsUpIdeal.τ).loc Cert.SlotsUpIdeal.main_v0) = v0 c
          ∧ r.2.mem ((c.tc : Thread Cert.SlotsUpIdeal.nD Cert.SlotsUpIdeal.τ).loc Cert.SlotsUpIdeal.main_arg0) = m ((c.tc : Thread Cert.SlotsUpIdeal.nD Cert.SlotsUpIdeal.τ).loc Cert.SlotsUpIdeal.main_arg0))
      ∧ θ_run (Cert.SlotsUpRefIdeal.defs (F := Ideal)) (onTc (τ := Cert.SlotsUpRefIdeal.τ) (Cert.SlotsUpRefIdeal.main (F := Ideal))) ⟨m', fun _ => 0, g'⟩ (fun r => ∀ c : Dev Cert.SlotsUpRefIdeal.nD,
          r.2.mem ((c.tc : Thread Cert.SlotsUpRefIdeal.nD Cert.SlotsUpRefIdeal.τ).loc Cert.SlotsUpRefIdeal.main_v5) = v0 c
          ∧ r.2.mem ((c.tc : Thread Cert.SlotsUpRefIdeal.nD Cert.SlotsUpRefIdeal.τ).loc Cert.SlotsUpRefIdeal.main_arg0) = m' ((c.tc : Thread Cert.SlotsUpRefIdeal.nD Cert.SlotsUpRefIdeal.τ).loc Cert.SlotsUpRefIdeal.main_arg0))

def preserves_DecaySum_DecaySumIdeal : Prop :=
  True

def algebraic_DecaySumIdeal_DecaySumRefIdeal [hDecaySumIdeal : Cert.DecaySumIdeal.Facts] [hDecaySumRefIdeal : Cert.DecaySumRefIdeal.Facts] : Prop :=
  ∀ (m : (ℓ : Loc Cert.DecaySumIdeal.nD Cert.DecaySumIdeal.τ Cert.DecaySumIdeal.sig) → Buf (Elt Ideal) ℓ) (g : Dev Cert.DecaySumIdeal.nD → PrngReg)
    (m' : (ℓ : Loc Cert.DecaySumRefIdeal.nD Cert.DecaySumRefIdeal.τ Cert.DecaySumRefIdeal.sig) → Buf (Elt Ideal) ℓ) (g' : Dev Cert.DecaySumRefIdeal.nD → PrngReg), Pre_DecaySumIdeal m →
    (∀ c : Dev Cert.DecaySumIdeal.nD,
      m' ((c.tc : Thread Cert.DecaySumRefIdeal.nD Cert.DecaySumRefIdeal.τ).loc Cert.DecaySumRefIdeal.main_arg0) = m ((c.tc : Thread Cert.DecaySumIdeal.nD Cert.DecaySumIdeal.τ).loc Cert.DecaySumIdeal.main_arg0)) →
    ∃ (v0 : (c : Dev Cert.DecaySumIdeal.nD) → Buf (Elt Ideal) ((c.tc : Thread Cert.DecaySumIdeal.nD Cert.DecaySumIdeal.τ).loc Cert.DecaySumIdeal.main_v0)),
      θ_run (Cert.DecaySumIdeal.defs (F := Ideal)) (onTc (τ := Cert.DecaySumIdeal.τ) (Cert.DecaySumIdeal.main (F := Ideal))) ⟨m, fun _ => 0, g⟩ (fun r => ∀ c : Dev Cert.DecaySumIdeal.nD,
          r.2.mem ((c.tc : Thread Cert.DecaySumIdeal.nD Cert.DecaySumIdeal.τ).loc Cert.DecaySumIdeal.main_v0) = v0 c
          ∧ r.2.mem ((c.tc : Thread Cert.DecaySumIdeal.nD Cert.DecaySumIdeal.τ).loc Cert.DecaySumIdeal.main_arg0) = m ((c.tc : Thread Cert.DecaySumIdeal.nD Cert.DecaySumIdeal.τ).loc Cert.DecaySumIdeal.main_arg0))
      ∧ θ_run (Cert.DecaySumRefIdeal.defs (F := Ideal)) (onTc (τ := Cert.DecaySumRefIdeal.τ) (Cert.DecaySumRefIdeal.main (F := Ideal))) ⟨m', fun _ => 0, g'⟩ (fun r => ∀ c : Dev Cert.DecaySumRefIdeal.nD,
          r.2.mem ((c.tc : Thread Cert.DecaySumRefIdeal.nD Cert.DecaySumRefIdeal.τ).loc Cert.DecaySumRefIdeal.main_v1) = v0 c
          ∧ r.2.mem ((c.tc : Thread Cert.DecaySumRefIdeal.nD Cert.DecaySumRefIdeal.τ).loc Cert.DecaySumRefIdeal.main_arg0) = m' ((c.tc : Thread Cert.DecaySumRefIdeal.nD Cert.DecaySumRefIdeal.τ).loc Cert.DecaySumRefIdeal.main_arg0))

def Claim : Prop :=
  ∃ (hGather : Cert.Gather.Facts) (hGatherIdeal : Cert.GatherIdeal.Facts) (hGatherRefIdeal : Cert.GatherRefIdeal.Facts) (hGatherRef : Cert.GatherRef.Facts) (hSibling : Cert.Sibling.Facts) (hSiblingIdeal : Cert.SiblingIdeal.Facts) (hSiblingRefIdeal : Cert.SiblingRefIdeal.Facts) (hSiblingRef : Cert.SiblingRef.Facts) (hChips : Cert.Chips.Facts) (hChipsIdeal : Cert.ChipsIdeal.Facts) (hChipsRefIdeal : Cert.ChipsRefIdeal.Facts) (hChipsRef : Cert.ChipsRef.Facts) (hAdamwAb : Cert.AdamwAb.Facts) (hAdamwAbIdeal : Cert.AdamwAbIdeal.Facts) (hAdamwAbRefIdeal : Cert.AdamwAbRefIdeal.Facts) (hAdamwC : Cert.AdamwC.Facts) (hAdamwCIdeal : Cert.AdamwCIdeal.Facts) (hAdamwCRefIdeal : Cert.AdamwCRefIdeal.Facts) (hAdamwUp : Cert.AdamwUp.Facts) (hAdamwUpIdeal : Cert.AdamwUpIdeal.Facts) (hAdamwUpRefIdeal : Cert.AdamwUpRefIdeal.Facts) (hAdamwRows : Cert.AdamwRows.Facts) (hAdamwRowsIdeal : Cert.AdamwRowsIdeal.Facts) (hAdamwRowsRefIdeal : Cert.AdamwRowsRefIdeal.Facts) (hAdamwSmall : Cert.AdamwSmall.Facts) (hAdamwSmallIdeal : Cert.AdamwSmallIdeal.Facts) (hAdamwSmallRefIdeal : Cert.AdamwSmallRefIdeal.Facts) (hAdamwRep : Cert.AdamwRep.Facts) (hAdamwRepIdeal : Cert.AdamwRepIdeal.Facts) (hAdamwRepRefIdeal : Cert.AdamwRepRefIdeal.Facts) (hLoss : Cert.Loss.Facts) (hLossIdeal : Cert.LossIdeal.Facts) (hLossRefIdeal : Cert.LossRefIdeal.Facts) (hNormFirst : Cert.NormFirst.Facts) (hNormFirstIdeal : Cert.NormFirstIdeal.Facts) (hNormFirstRefIdeal : Cert.NormFirstRefIdeal.Facts) (hSumAb : Cert.SumAb.Facts) (hSumAbIdeal : Cert.SumAbIdeal.Facts) (hSumAbRefIdeal : Cert.SumAbRefIdeal.Facts) (hSumAbRef : Cert.SumAbRef.Facts) (hSumC : Cert.SumC.Facts) (hSumCIdeal : Cert.SumCIdeal.Facts) (hSumCRefIdeal : Cert.SumCRefIdeal.Facts) (hSumCRef : Cert.SumCRef.Facts) (hSumUp : Cert.SumUp.Facts) (hSumUpIdeal : Cert.SumUpIdeal.Facts) (hSumUpRefIdeal : Cert.SumUpRefIdeal.Facts) (hSumUpRef : Cert.SumUpRef.Facts) (hSumRows : Cert.SumRows.Facts) (hSumRowsIdeal : Cert.SumRowsIdeal.Facts) (hSumRowsRefIdeal : Cert.SumRowsRefIdeal.Facts) (hSumRowsRef : Cert.SumRowsRef.Facts) (hSumSmall : Cert.SumSmall.Facts) (hSumSmallIdeal : Cert.SumSmallIdeal.Facts) (hSumSmallRefIdeal : Cert.SumSmallRefIdeal.Facts) (hSumSmallRef : Cert.SumSmallRef.Facts) (hSumRep : Cert.SumRep.Facts) (hSumRepIdeal : Cert.SumRepIdeal.Facts) (hSumRepRefIdeal : Cert.SumRepRefIdeal.Facts) (hSumRepRef : Cert.SumRepRef.Facts) (hFirst : Cert.First.Facts) (hFirstIdeal : Cert.FirstIdeal.Facts) (hFirstRefIdeal : Cert.FirstRefIdeal.Facts) (hMid : Cert.Mid.Facts) (hMidIdeal : Cert.MidIdeal.Facts) (hMidRefIdeal : Cert.MidRefIdeal.Facts) (hEnd : Cert.End.Facts) (hEndIdeal : Cert.EndIdeal.Facts) (hEndRefIdeal : Cert.EndRefIdeal.Facts) (hLast : Cert.Last.Facts) (hLastIdeal : Cert.LastIdeal.Facts) (hLastRefIdeal : Cert.LastRefIdeal.Facts) (hLastBwd : Cert.LastBwd.Facts) (hLastBwdIdeal : Cert.LastBwdIdeal.Facts) (hLastBwdRefIdeal : Cert.LastBwdRefIdeal.Facts) (hEndBwd : Cert.EndBwd.Facts) (hEndBwdIdeal : Cert.EndBwdIdeal.Facts) (hEndBwdRefIdeal : Cert.EndBwdRefIdeal.Facts) (hMidBwd : Cert.MidBwd.Facts) (hMidBwdIdeal : Cert.MidBwdIdeal.Facts) (hMidBwdRefIdeal : Cert.MidBwdRefIdeal.Facts) (hInAb : Cert.InAb.Facts) (hInAbIdeal : Cert.InAbIdeal.Facts) (hInAbRefIdeal : Cert.InAbRefIdeal.Facts) (hInAbDx : Cert.InAbDx.Facts) (hInAbDxIdeal : Cert.InAbDxIdeal.Facts) (hInAbDxRefIdeal : Cert.InAbDxRefIdeal.Facts) (hInAbDw : Cert.InAbDw.Facts) (hInAbDwIdeal : Cert.InAbDwIdeal.Facts) (hInAbDwRefIdeal : Cert.InAbDwRefIdeal.Facts) (hOutAb : Cert.OutAb.Facts) (hOutAbIdeal : Cert.OutAbIdeal.Facts) (hOutAbRefIdeal : Cert.OutAbRefIdeal.Facts) (hOutAbDx : Cert.OutAbDx.Facts) (hOutAbDxIdeal : Cert.OutAbDxIdeal.Facts) (hOutAbDxRefIdeal : Cert.OutAbDxRefIdeal.Facts) (hOutAbDw : Cert.OutAbDw.Facts) (hOutAbDwIdeal : Cert.OutAbDwIdeal.Facts) (hOutAbDwRefIdeal : Cert.OutAbDwRefIdeal.Facts) (hInC : Cert.InC.Facts) (hInCIdeal : Cert.InCIdeal.Facts) (hInCRefIdeal : Cert.InCRefIdeal.Facts) (hInCDw : Cert.InCDw.Facts) (hInCDwIdeal : Cert.InCDwIdeal.Facts) (hInCDwRefIdeal : Cert.InCDwRefIdeal.Facts) (hInDt : Cert.InDt.Facts) (hInDtIdeal : Cert.InDtIdeal.Facts) (hInDtRefIdeal : Cert.InDtRefIdeal.Facts) (hInDtDx : Cert.InDtDx.Facts) (hInDtDxIdeal : Cert.InDtDxIdeal.Facts) (hInDtDxRefIdeal : Cert.InDtDxRefIdeal.Facts) (hInDtDw : Cert.InDtDw.Facts) (hInDtDwIdeal : Cert.InDtDwIdeal.Facts) (hInDtDwRefIdeal : Cert.InDtDwRefIdeal.Facts) (hOutC : Cert.OutC.Facts) (hOutCIdeal : Cert.OutCIdeal.Facts) (hOutCRefIdeal : Cert.OutCRefIdeal.Facts) (hOutCDx : Cert.OutCDx.Facts) (hOutCDxIdeal : Cert.OutCDxIdeal.Facts) (hOutCDxRefIdeal : Cert.OutCDxRefIdeal.Facts) (hOutCDw : Cert.OutCDw.Facts) (hOutCDwIdeal : Cert.OutCDwIdeal.Facts) (hOutCDwRefIdeal : Cert.OutCDwRefIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hInCDx : Cert.InCDx.Facts) (hInCDxIdeal : Cert.InCDxIdeal.Facts) (hInCDxRefIdeal : Cert.InCDxRefIdeal.Facts) (hColsAb : Cert.ColsAb.Facts) (hColsAbIdeal : Cert.ColsAbIdeal.Facts) (hColsAbRefIdeal : Cert.ColsAbRefIdeal.Facts) (hColsAbRef : Cert.ColsAbRef.Facts) (hColsC : Cert.ColsC.Facts) (hColsCIdeal : Cert.ColsCIdeal.Facts) (hColsCRefIdeal : Cert.ColsCRefIdeal.Facts) (hColsCRef : Cert.ColsCRef.Facts) (hColsUp : Cert.ColsUp.Facts) (hColsUpIdeal : Cert.ColsUpIdeal.Facts) (hColsUpRefIdeal : Cert.ColsUpRefIdeal.Facts) (hColsUpRef : Cert.ColsUpRef.Facts) (hSlotsAb : Cert.SlotsAb.Facts) (hSlotsAbIdeal : Cert.SlotsAbIdeal.Facts) (hSlotsAbRefIdeal : Cert.SlotsAbRefIdeal.Facts) (hSlotsAbRef : Cert.SlotsAbRef.Facts) (hSlotsC : Cert.SlotsC.Facts) (hSlotsCIdeal : Cert.SlotsCIdeal.Facts) (hSlotsCRefIdeal : Cert.SlotsCRefIdeal.Facts) (hSlotsCRef : Cert.SlotsCRef.Facts) (hSlotsUp : Cert.SlotsUp.Facts) (hSlotsUpIdeal : Cert.SlotsUpIdeal.Facts) (hSlotsUpRefIdeal : Cert.SlotsUpRefIdeal.Facts) (hSlotsUpRef : Cert.SlotsUpRef.Facts) (hDecaySum : Cert.DecaySum.Facts) (hDecaySumIdeal : Cert.DecaySumIdeal.Facts) (hDecaySumRefIdeal : Cert.DecaySumRefIdeal.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Sibling (hSibling := hSibling)
    ∧ quiescent_SiblingIdeal (hSiblingIdeal := hSiblingIdeal)
    ∧ quiescent_SiblingRefIdeal (hSiblingRefIdeal := hSiblingRefIdeal)
    ∧ quiescent_SiblingRef (hSiblingRef := hSiblingRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_AdamwAb (hAdamwAb := hAdamwAb)
    ∧ quiescent_AdamwAbIdeal (hAdamwAbIdeal := hAdamwAbIdeal)
    ∧ quiescent_AdamwAbRefIdeal (hAdamwAbRefIdeal := hAdamwAbRefIdeal)
    ∧ quiescent_AdamwC (hAdamwC := hAdamwC)
    ∧ quiescent_AdamwCIdeal (hAdamwCIdeal := hAdamwCIdeal)
    ∧ quiescent_AdamwCRefIdeal (hAdamwCRefIdeal := hAdamwCRefIdeal)
    ∧ quiescent_AdamwUp (hAdamwUp := hAdamwUp)
    ∧ quiescent_AdamwUpIdeal (hAdamwUpIdeal := hAdamwUpIdeal)
    ∧ quiescent_AdamwUpRefIdeal (hAdamwUpRefIdeal := hAdamwUpRefIdeal)
    ∧ quiescent_AdamwRows (hAdamwRows := hAdamwRows)
    ∧ quiescent_AdamwRowsIdeal (hAdamwRowsIdeal := hAdamwRowsIdeal)
    ∧ quiescent_AdamwRowsRefIdeal (hAdamwRowsRefIdeal := hAdamwRowsRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_AdamwRep (hAdamwRep := hAdamwRep)
    ∧ quiescent_AdamwRepIdeal (hAdamwRepIdeal := hAdamwRepIdeal)
    ∧ quiescent_AdamwRepRefIdeal (hAdamwRepRefIdeal := hAdamwRepRefIdeal)
    ∧ quiescent_Loss (hLoss := hLoss)
    ∧ quiescent_LossIdeal (hLossIdeal := hLossIdeal)
    ∧ quiescent_LossRefIdeal (hLossRefIdeal := hLossRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_SumAb (hSumAb := hSumAb)
    ∧ quiescent_SumAbIdeal (hSumAbIdeal := hSumAbIdeal)
    ∧ quiescent_SumAbRefIdeal (hSumAbRefIdeal := hSumAbRefIdeal)
    ∧ quiescent_SumAbRef (hSumAbRef := hSumAbRef)
    ∧ quiescent_SumC (hSumC := hSumC)
    ∧ quiescent_SumCIdeal (hSumCIdeal := hSumCIdeal)
    ∧ quiescent_SumCRefIdeal (hSumCRefIdeal := hSumCRefIdeal)
    ∧ quiescent_SumCRef (hSumCRef := hSumCRef)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumUpRef (hSumUpRef := hSumUpRef)
    ∧ quiescent_SumRows (hSumRows := hSumRows)
    ∧ quiescent_SumRowsIdeal (hSumRowsIdeal := hSumRowsIdeal)
    ∧ quiescent_SumRowsRefIdeal (hSumRowsRefIdeal := hSumRowsRefIdeal)
    ∧ quiescent_SumRowsRef (hSumRowsRef := hSumRowsRef)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumSmallRef (hSumSmallRef := hSumSmallRef)
    ∧ quiescent_SumRep (hSumRep := hSumRep)
    ∧ quiescent_SumRepIdeal (hSumRepIdeal := hSumRepIdeal)
    ∧ quiescent_SumRepRefIdeal (hSumRepRefIdeal := hSumRepRefIdeal)
    ∧ quiescent_SumRepRef (hSumRepRef := hSumRepRef)
    ∧ quiescent_First (hFirst := hFirst)
    ∧ quiescent_FirstIdeal (hFirstIdeal := hFirstIdeal)
    ∧ quiescent_FirstRefIdeal (hFirstRefIdeal := hFirstRefIdeal)
    ∧ quiescent_Mid (hMid := hMid)
    ∧ quiescent_MidIdeal (hMidIdeal := hMidIdeal)
    ∧ quiescent_MidRefIdeal (hMidRefIdeal := hMidRefIdeal)
    ∧ quiescent_End (hEnd := hEnd)
    ∧ quiescent_EndIdeal (hEndIdeal := hEndIdeal)
    ∧ quiescent_EndRefIdeal (hEndRefIdeal := hEndRefIdeal)
    ∧ quiescent_Last (hLast := hLast)
    ∧ quiescent_LastIdeal (hLastIdeal := hLastIdeal)
    ∧ quiescent_LastRefIdeal (hLastRefIdeal := hLastRefIdeal)
    ∧ quiescent_LastBwd (hLastBwd := hLastBwd)
    ∧ quiescent_LastBwdIdeal (hLastBwdIdeal := hLastBwdIdeal)
    ∧ quiescent_LastBwdRefIdeal (hLastBwdRefIdeal := hLastBwdRefIdeal)
    ∧ quiescent_EndBwd (hEndBwd := hEndBwd)
    ∧ quiescent_EndBwdIdeal (hEndBwdIdeal := hEndBwdIdeal)
    ∧ quiescent_EndBwdRefIdeal (hEndBwdRefIdeal := hEndBwdRefIdeal)
    ∧ quiescent_MidBwd (hMidBwd := hMidBwd)
    ∧ quiescent_MidBwdIdeal (hMidBwdIdeal := hMidBwdIdeal)
    ∧ quiescent_MidBwdRefIdeal (hMidBwdRefIdeal := hMidBwdRefIdeal)
    ∧ quiescent_InAb (hInAb := hInAb)
    ∧ quiescent_InAbIdeal (hInAbIdeal := hInAbIdeal)
    ∧ quiescent_InAbRefIdeal (hInAbRefIdeal := hInAbRefIdeal)
    ∧ quiescent_InAbDx (hInAbDx := hInAbDx)
    ∧ quiescent_InAbDxIdeal (hInAbDxIdeal := hInAbDxIdeal)
    ∧ quiescent_InAbDxRefIdeal (hInAbDxRefIdeal := hInAbDxRefIdeal)
    ∧ quiescent_InAbDw (hInAbDw := hInAbDw)
    ∧ quiescent_InAbDwIdeal (hInAbDwIdeal := hInAbDwIdeal)
    ∧ quiescent_InAbDwRefIdeal (hInAbDwRefIdeal := hInAbDwRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_OutAbDx (hOutAbDx := hOutAbDx)
    ∧ quiescent_OutAbDxIdeal (hOutAbDxIdeal := hOutAbDxIdeal)
    ∧ quiescent_OutAbDxRefIdeal (hOutAbDxRefIdeal := hOutAbDxRefIdeal)
    ∧ quiescent_OutAbDw (hOutAbDw := hOutAbDw)
    ∧ quiescent_OutAbDwIdeal (hOutAbDwIdeal := hOutAbDwIdeal)
    ∧ quiescent_OutAbDwRefIdeal (hOutAbDwRefIdeal := hOutAbDwRefIdeal)
    ∧ quiescent_InC (hInC := hInC)
    ∧ quiescent_InCIdeal (hInCIdeal := hInCIdeal)
    ∧ quiescent_InCRefIdeal (hInCRefIdeal := hInCRefIdeal)
    ∧ quiescent_InCDw (hInCDw := hInCDw)
    ∧ quiescent_InCDwIdeal (hInCDwIdeal := hInCDwIdeal)
    ∧ quiescent_InCDwRefIdeal (hInCDwRefIdeal := hInCDwRefIdeal)
    ∧ quiescent_InDt (hInDt := hInDt)
    ∧ quiescent_InDtIdeal (hInDtIdeal := hInDtIdeal)
    ∧ quiescent_InDtRefIdeal (hInDtRefIdeal := hInDtRefIdeal)
    ∧ quiescent_InDtDx (hInDtDx := hInDtDx)
    ∧ quiescent_InDtDxIdeal (hInDtDxIdeal := hInDtDxIdeal)
    ∧ quiescent_InDtDxRefIdeal (hInDtDxRefIdeal := hInDtDxRefIdeal)
    ∧ quiescent_InDtDw (hInDtDw := hInDtDw)
    ∧ quiescent_InDtDwIdeal (hInDtDwIdeal := hInDtDwIdeal)
    ∧ quiescent_InDtDwRefIdeal (hInDtDwRefIdeal := hInDtDwRefIdeal)
    ∧ quiescent_OutC (hOutC := hOutC)
    ∧ quiescent_OutCIdeal (hOutCIdeal := hOutCIdeal)
    ∧ quiescent_OutCRefIdeal (hOutCRefIdeal := hOutCRefIdeal)
    ∧ quiescent_OutCDx (hOutCDx := hOutCDx)
    ∧ quiescent_OutCDxIdeal (hOutCDxIdeal := hOutCDxIdeal)
    ∧ quiescent_OutCDxRefIdeal (hOutCDxRefIdeal := hOutCDxRefIdeal)
    ∧ quiescent_OutCDw (hOutCDw := hOutCDw)
    ∧ quiescent_OutCDwIdeal (hOutCDwIdeal := hOutCDwIdeal)
    ∧ quiescent_OutCDwRefIdeal (hOutCDwRefIdeal := hOutCDwRefIdeal)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InCDx (hInCDx := hInCDx)
    ∧ quiescent_InCDxIdeal (hInCDxIdeal := hInCDxIdeal)
    ∧ quiescent_InCDxRefIdeal (hInCDxRefIdeal := hInCDxRefIdeal)
    ∧ quiescent_ColsAb (hColsAb := hColsAb)
    ∧ quiescent_ColsAbIdeal (hColsAbIdeal := hColsAbIdeal)
    ∧ quiescent_ColsAbRefIdeal (hColsAbRefIdeal := hColsAbRefIdeal)
    ∧ quiescent_ColsAbRef (hColsAbRef := hColsAbRef)
    ∧ quiescent_ColsC (hColsC := hColsC)
    ∧ quiescent_ColsCIdeal (hColsCIdeal := hColsCIdeal)
    ∧ quiescent_ColsCRefIdeal (hColsCRefIdeal := hColsCRefIdeal)
    ∧ quiescent_ColsCRef (hColsCRef := hColsCRef)
    ∧ quiescent_ColsUp (hColsUp := hColsUp)
    ∧ quiescent_ColsUpIdeal (hColsUpIdeal := hColsUpIdeal)
    ∧ quiescent_ColsUpRefIdeal (hColsUpRefIdeal := hColsUpRefIdeal)
    ∧ quiescent_ColsUpRef (hColsUpRef := hColsUpRef)
    ∧ quiescent_SlotsAb (hSlotsAb := hSlotsAb)
    ∧ quiescent_SlotsAbIdeal (hSlotsAbIdeal := hSlotsAbIdeal)
    ∧ quiescent_SlotsAbRefIdeal (hSlotsAbRefIdeal := hSlotsAbRefIdeal)
    ∧ quiescent_SlotsAbRef (hSlotsAbRef := hSlotsAbRef)
    ∧ quiescent_SlotsC (hSlotsC := hSlotsC)
    ∧ quiescent_SlotsCIdeal (hSlotsCIdeal := hSlotsCIdeal)
    ∧ quiescent_SlotsCRefIdeal (hSlotsCRefIdeal := hSlotsCRefIdeal)
    ∧ quiescent_SlotsCRef (hSlotsCRef := hSlotsCRef)
    ∧ quiescent_SlotsUp (hSlotsUp := hSlotsUp)
    ∧ quiescent_SlotsUpIdeal (hSlotsUpIdeal := hSlotsUpIdeal)
    ∧ quiescent_SlotsUpRefIdeal (hSlotsUpRefIdeal := hSlotsUpRefIdeal)
    ∧ quiescent_SlotsUpRef (hSlotsUpRef := hSlotsUpRef)
    ∧ quiescent_DecaySum (hDecaySum := hDecaySum)
    ∧ quiescent_DecaySumIdeal (hDecaySumIdeal := hDecaySumIdeal)
    ∧ quiescent_DecaySumRefIdeal (hDecaySumRefIdeal := hDecaySumRefIdeal)
    ∧ preserves_Gather_GatherIdeal
    ∧ bitexact_Gather_GatherRef (hGather := hGather) (hGatherRef := hGatherRef)
    ∧ algebraic_GatherIdeal_GatherRefIdeal (hGatherIdeal := hGatherIdeal) (hGatherRefIdeal := hGatherRefIdeal)
    ∧ preserves_Sibling_SiblingIdeal
    ∧ bitexact_Sibling_SiblingRef (hSibling := hSibling) (hSiblingRef := hSiblingRef)
    ∧ algebraic_SiblingIdeal_SiblingRefIdeal (hSiblingIdeal := hSiblingIdeal) (hSiblingRefIdeal := hSiblingRefIdeal)
    ∧ preserves_Chips_ChipsIdeal
    ∧ bitexact_Chips_ChipsRef (hChips := hChips) (hChipsRef := hChipsRef)
    ∧ algebraic_ChipsIdeal_ChipsRefIdeal (hChipsIdeal := hChipsIdeal) (hChipsRefIdeal := hChipsRefIdeal)
    ∧ preserves_AdamwAb_AdamwAbIdeal
    ∧ algebraic_AdamwAbIdeal_AdamwAbRefIdeal (hAdamwAbIdeal := hAdamwAbIdeal) (hAdamwAbRefIdeal := hAdamwAbRefIdeal)
    ∧ preserves_AdamwC_AdamwCIdeal
    ∧ algebraic_AdamwCIdeal_AdamwCRefIdeal (hAdamwCIdeal := hAdamwCIdeal) (hAdamwCRefIdeal := hAdamwCRefIdeal)
    ∧ preserves_AdamwUp_AdamwUpIdeal
    ∧ algebraic_AdamwUpIdeal_AdamwUpRefIdeal (hAdamwUpIdeal := hAdamwUpIdeal) (hAdamwUpRefIdeal := hAdamwUpRefIdeal)
    ∧ preserves_AdamwRows_AdamwRowsIdeal
    ∧ algebraic_AdamwRowsIdeal_AdamwRowsRefIdeal (hAdamwRowsIdeal := hAdamwRowsIdeal) (hAdamwRowsRefIdeal := hAdamwRowsRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_AdamwRep_AdamwRepIdeal
    ∧ algebraic_AdamwRepIdeal_AdamwRepRefIdeal (hAdamwRepIdeal := hAdamwRepIdeal) (hAdamwRepRefIdeal := hAdamwRepRefIdeal)
    ∧ preserves_Loss_LossIdeal
    ∧ algebraic_LossIdeal_LossRefIdeal (hLossIdeal := hLossIdeal) (hLossRefIdeal := hLossRefIdeal)
    ∧ preserves_NormFirst_NormFirstIdeal
    ∧ algebraic_NormFirstIdeal_NormFirstRefIdeal (hNormFirstIdeal := hNormFirstIdeal) (hNormFirstRefIdeal := hNormFirstRefIdeal)
    ∧ preserves_SumAb_SumAbIdeal
    ∧ bitexact_SumAb_SumAbRef (hSumAb := hSumAb) (hSumAbRef := hSumAbRef)
    ∧ algebraic_SumAbIdeal_SumAbRefIdeal (hSumAbIdeal := hSumAbIdeal) (hSumAbRefIdeal := hSumAbRefIdeal)
    ∧ preserves_SumC_SumCIdeal
    ∧ bitexact_SumC_SumCRef (hSumC := hSumC) (hSumCRef := hSumCRef)
    ∧ algebraic_SumCIdeal_SumCRefIdeal (hSumCIdeal := hSumCIdeal) (hSumCRefIdeal := hSumCRefIdeal)
    ∧ preserves_SumUp_SumUpIdeal
    ∧ bitexact_SumUp_SumUpRef (hSumUp := hSumUp) (hSumUpRef := hSumUpRef)
    ∧ algebraic_SumUpIdeal_SumUpRefIdeal (hSumUpIdeal := hSumUpIdeal) (hSumUpRefIdeal := hSumUpRefIdeal)
    ∧ preserves_SumRows_SumRowsIdeal
    ∧ bitexact_SumRows_SumRowsRef (hSumRows := hSumRows) (hSumRowsRef := hSumRowsRef)
    ∧ algebraic_SumRowsIdeal_SumRowsRefIdeal (hSumRowsIdeal := hSumRowsIdeal) (hSumRowsRefIdeal := hSumRowsRefIdeal)
    ∧ preserves_SumSmall_SumSmallIdeal
    ∧ bitexact_SumSmall_SumSmallRef (hSumSmall := hSumSmall) (hSumSmallRef := hSumSmallRef)
    ∧ algebraic_SumSmallIdeal_SumSmallRefIdeal (hSumSmallIdeal := hSumSmallIdeal) (hSumSmallRefIdeal := hSumSmallRefIdeal)
    ∧ preserves_SumRep_SumRepIdeal
    ∧ bitexact_SumRep_SumRepRef (hSumRep := hSumRep) (hSumRepRef := hSumRepRef)
    ∧ algebraic_SumRepIdeal_SumRepRefIdeal (hSumRepIdeal := hSumRepIdeal) (hSumRepRefIdeal := hSumRepRefIdeal)
    ∧ preserves_First_FirstIdeal
    ∧ algebraic_FirstIdeal_FirstRefIdeal (hFirstIdeal := hFirstIdeal) (hFirstRefIdeal := hFirstRefIdeal)
    ∧ preserves_Mid_MidIdeal
    ∧ algebraic_MidIdeal_MidRefIdeal (hMidIdeal := hMidIdeal) (hMidRefIdeal := hMidRefIdeal)
    ∧ preserves_End_EndIdeal
    ∧ algebraic_EndIdeal_EndRefIdeal (hEndIdeal := hEndIdeal) (hEndRefIdeal := hEndRefIdeal)
    ∧ preserves_Last_LastIdeal
    ∧ algebraic_LastIdeal_LastRefIdeal (hLastIdeal := hLastIdeal) (hLastRefIdeal := hLastRefIdeal)
    ∧ preserves_LastBwd_LastBwdIdeal
    ∧ algebraic_LastBwdIdeal_LastBwdRefIdeal (hLastBwdIdeal := hLastBwdIdeal) (hLastBwdRefIdeal := hLastBwdRefIdeal)
    ∧ preserves_EndBwd_EndBwdIdeal
    ∧ algebraic_EndBwdIdeal_EndBwdRefIdeal (hEndBwdIdeal := hEndBwdIdeal) (hEndBwdRefIdeal := hEndBwdRefIdeal)
    ∧ preserves_MidBwd_MidBwdIdeal
    ∧ algebraic_MidBwdIdeal_MidBwdRefIdeal (hMidBwdIdeal := hMidBwdIdeal) (hMidBwdRefIdeal := hMidBwdRefIdeal)
    ∧ preserves_InAb_InAbIdeal
    ∧ algebraic_InAbIdeal_InAbRefIdeal (hInAbIdeal := hInAbIdeal) (hInAbRefIdeal := hInAbRefIdeal)
    ∧ preserves_InAbDx_InAbDxIdeal
    ∧ algebraic_InAbDxIdeal_InAbDxRefIdeal (hInAbDxIdeal := hInAbDxIdeal) (hInAbDxRefIdeal := hInAbDxRefIdeal)
    ∧ preserves_InAbDw_InAbDwIdeal
    ∧ algebraic_InAbDwIdeal_InAbDwRefIdeal (hInAbDwIdeal := hInAbDwIdeal) (hInAbDwRefIdeal := hInAbDwRefIdeal)
    ∧ preserves_OutAb_OutAbIdeal
    ∧ algebraic_OutAbIdeal_OutAbRefIdeal (hOutAbIdeal := hOutAbIdeal) (hOutAbRefIdeal := hOutAbRefIdeal)
    ∧ preserves_OutAbDx_OutAbDxIdeal
    ∧ algebraic_OutAbDxIdeal_OutAbDxRefIdeal (hOutAbDxIdeal := hOutAbDxIdeal) (hOutAbDxRefIdeal := hOutAbDxRefIdeal)
    ∧ preserves_OutAbDw_OutAbDwIdeal
    ∧ algebraic_OutAbDwIdeal_OutAbDwRefIdeal (hOutAbDwIdeal := hOutAbDwIdeal) (hOutAbDwRefIdeal := hOutAbDwRefIdeal)
    ∧ preserves_InC_InCIdeal
    ∧ algebraic_InCIdeal_InCRefIdeal (hInCIdeal := hInCIdeal) (hInCRefIdeal := hInCRefIdeal)
    ∧ preserves_InCDw_InCDwIdeal
    ∧ algebraic_InCDwIdeal_InCDwRefIdeal (hInCDwIdeal := hInCDwIdeal) (hInCDwRefIdeal := hInCDwRefIdeal)
    ∧ preserves_InDt_InDtIdeal
    ∧ algebraic_InDtIdeal_InDtRefIdeal (hInDtIdeal := hInDtIdeal) (hInDtRefIdeal := hInDtRefIdeal)
    ∧ preserves_InDtDx_InDtDxIdeal
    ∧ algebraic_InDtDxIdeal_InDtDxRefIdeal (hInDtDxIdeal := hInDtDxIdeal) (hInDtDxRefIdeal := hInDtDxRefIdeal)
    ∧ preserves_InDtDw_InDtDwIdeal
    ∧ algebraic_InDtDwIdeal_InDtDwRefIdeal (hInDtDwIdeal := hInDtDwIdeal) (hInDtDwRefIdeal := hInDtDwRefIdeal)
    ∧ preserves_OutC_OutCIdeal
    ∧ algebraic_OutCIdeal_OutCRefIdeal (hOutCIdeal := hOutCIdeal) (hOutCRefIdeal := hOutCRefIdeal)
    ∧ preserves_OutCDx_OutCDxIdeal
    ∧ algebraic_OutCDxIdeal_OutCDxRefIdeal (hOutCDxIdeal := hOutCDxIdeal) (hOutCDxRefIdeal := hOutCDxRefIdeal)
    ∧ preserves_OutCDw_OutCDwIdeal
    ∧ algebraic_OutCDwIdeal_OutCDwRefIdeal (hOutCDwIdeal := hOutCDwIdeal) (hOutCDwRefIdeal := hOutCDwRefIdeal)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_InCDx_InCDxIdeal
    ∧ algebraic_InCDxIdeal_InCDxRefIdeal (hInCDxIdeal := hInCDxIdeal) (hInCDxRefIdeal := hInCDxRefIdeal)
    ∧ preserves_ColsAb_ColsAbIdeal
    ∧ bitexact_ColsAb_ColsAbRef (hColsAb := hColsAb) (hColsAbRef := hColsAbRef)
    ∧ algebraic_ColsAbIdeal_ColsAbRefIdeal (hColsAbIdeal := hColsAbIdeal) (hColsAbRefIdeal := hColsAbRefIdeal)
    ∧ preserves_ColsC_ColsCIdeal
    ∧ bitexact_ColsC_ColsCRef (hColsC := hColsC) (hColsCRef := hColsCRef)
    ∧ algebraic_ColsCIdeal_ColsCRefIdeal (hColsCIdeal := hColsCIdeal) (hColsCRefIdeal := hColsCRefIdeal)
    ∧ preserves_ColsUp_ColsUpIdeal
    ∧ bitexact_ColsUp_ColsUpRef (hColsUp := hColsUp) (hColsUpRef := hColsUpRef)
    ∧ algebraic_ColsUpIdeal_ColsUpRefIdeal (hColsUpIdeal := hColsUpIdeal) (hColsUpRefIdeal := hColsUpRefIdeal)
    ∧ preserves_SlotsAb_SlotsAbIdeal
    ∧ bitexact_SlotsAb_SlotsAbRef (hSlotsAb := hSlotsAb) (hSlotsAbRef := hSlotsAbRef)
    ∧ algebraic_SlotsAbIdeal_SlotsAbRefIdeal (hSlotsAbIdeal := hSlotsAbIdeal) (hSlotsAbRefIdeal := hSlotsAbRefIdeal)
    ∧ preserves_SlotsC_SlotsCIdeal
    ∧ bitexact_SlotsC_SlotsCRef (hSlotsC := hSlotsC) (hSlotsCRef := hSlotsCRef)
    ∧ algebraic_SlotsCIdeal_SlotsCRefIdeal (hSlotsCIdeal := hSlotsCIdeal) (hSlotsCRefIdeal := hSlotsCRefIdeal)
    ∧ preserves_SlotsUp_SlotsUpIdeal
    ∧ bitexact_SlotsUp_SlotsUpRef (hSlotsUp := hSlotsUp) (hSlotsUpRef := hSlotsUpRef)
    ∧ algebraic_SlotsUpIdeal_SlotsUpRefIdeal (hSlotsUpIdeal := hSlotsUpIdeal) (hSlotsUpRefIdeal := hSlotsUpRefIdeal)
    ∧ preserves_DecaySum_DecaySumIdeal
    ∧ algebraic_DecaySumIdeal_DecaySumRefIdeal (hDecaySumIdeal := hDecaySumIdeal) (hDecaySumRefIdeal := hDecaySumRefIdeal)
-- ==== Gather.lean ====
abbrev S2048x448 : Shape := ⟨2, ![2048, 448]⟩
abbrev S2048x648 : Shape := ⟨2, ![2048, 648]⟩
abbrev S4096x704 : Shape := ⟨2, ![4096, 704]⟩
abbrev S2176x1024 : Shape := ⟨2, ![2176, 1024]⟩
abbrev S112x128 : Shape := ⟨2, ![112, 128]⟩
abbrev S8x2048x448 : Shape := ⟨3, ![8, 2048, 448]⟩
abbrev S8x2048x648 : Shape := ⟨3, ![8, 2048, 648]⟩
abbrev S8x4096x704 : Shape := ⟨3, ![8, 4096, 704]⟩
abbrev S8x2176x1024 : Shape := ⟨3, ![8, 2176, 1024]⟩
abbrev S8x112x128 : Shape := ⟨3, ![8, 112, 128]⟩
abbrev S35 : Shape := ⟨1, ![35]⟩
abbrev S5 : Shape := ⟨1, ![5]⟩
abbrev S1 : Shape := ⟨1, ![1]⟩
abbrev S_ : Shape := ⟨0, ![]⟩
abbrev S1x2048x448 : Shape := ⟨3, ![1, 2048, 448]⟩
abbrev S1x2048x648 : Shape := ⟨3, ![1, 2048, 648]⟩
abbrev S1x4096x704 : Shape := ⟨3, ![1, 4096, 704]⟩
abbrev S1x2176x1024 : Shape := ⟨3, ![1, 2176, 1024]⟩
abbrev S1x112x128 : Shape := ⟨3, ![1, 112, 128]⟩

abbrev nBuf : Space → Nat
  | .hbm => 10
  | .vmem => 0
  | .smem => 0
  | _ => 0

abbrev bufTy : (tb : Table) → Fin (tcTables nBuf tb) → BufTy
  | .hbm, ⟨0, _⟩ => ⟨S2048x448, .bf16⟩
  | .hbm, ⟨1, _⟩ => ⟨S2048x648, .bf16⟩
  | .hbm, ⟨2, _⟩ => ⟨S4096x704, .bf16⟩
  | .hbm, ⟨3, _⟩ => ⟨S2176x1024, .bf16⟩
  | .hbm, ⟨4, _⟩ => ⟨S112x128, .f32⟩
  | .hbm, ⟨5, _⟩ => ⟨S8x2048x448, .bf16⟩
  | .hbm, ⟨6, _⟩ => ⟨S8x2048x648, .bf16⟩
  | .hbm, ⟨7, _⟩ => ⟨S8x4096x704, .bf16⟩
  | .hbm, ⟨8, _⟩ => ⟨S8x2176x1024, .bf16⟩
  | .hbm, ⟨9, _⟩ => ⟨S8x112x128, .f32⟩
  | _, _ => ⟨S2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_18 : BitVec 32 := 0#32
  let c0_i32_19 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_21 : BitVec 32 := 0#32
  let c0_i32_22 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_24 : BitVec 32 := 0#32
  let c0_i32_25 : BitVec 32 := 0#32
  ![v25.toNat, 0, 0]
def k0_off4 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_26 : BitVec 32 := 0#32
  let c0_i32_27 : BitVec 32 := 0#32
  ![v29.toNat, 0, 0]
def k0_off5 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_29 : BitVec 32 := 0#32
  let c0_i32_30 : BitVec 32 := 0#32
  ![v33.toNat, 0, 0]
def k0_dev1 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v134 : BitVec 32 := Scalar.muli v2 c4_i32_73
  let v135 : BitVec 32 := Scalar.addi c0_i32_74 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v136 : BitVec 32 := Scalar.muli v5 c2_i32_75
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_76 : BitVec 32 := 1#32
  let v138 : BitVec 32 := Scalar.muli v9 c1_i32_76
  let v139 : BitVec 32 := Scalar.addi v137 v138
  v139.toNat
def k0_dev2 (d0 : Dev nD) : Nat :=
  let c0_i32_82 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_81 : BitVec 32 := 4#32
  let v146 : BitVec 32 := Scalar.muli v10 c4_i32_81
  let v147 : BitVec 32 := Scalar.addi c0_i32_82 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v148 : BitVec 32 := Scalar.muli v5 c2_i32_83
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v150 : BitVec 32 := Scalar.muli v8 c1_i32_84
  let v151 : BitVec 32 := Scalar.addi v149 v150
  v151.toNat
def k0_dev3 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v158 : BitVec 32 := Scalar.muli v2 c4_i32_89
  let v159 : BitVec 32 := Scalar.addi c0_i32_90 v158
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_91 : BitVec 32 := 2#32
  let v160 : BitVec 32 := Scalar.muli v11 c2_i32_91
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v162 : BitVec 32 := Scalar.muli v8 c1_i32_92
  let v163 : BitVec 32 := Scalar.addi v161 v162
  v163.toNat
def k0_dev4 (d0 : Dev nD) : Nat :=
  let c0_i32_98 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_97 : BitVec 32 := 4#32
  let v170 : BitVec 32 := Scalar.muli v12 c4_i32_97
  let v171 : BitVec 32 := Scalar.addi c0_i32_98 v170
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_99 : BitVec 32 := 2#32
  let v172 : BitVec 32 := Scalar.muli v13 c2_i32_99
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v174 : BitVec 32 := Scalar.muli v8 c1_i32_100
  let v175 : BitVec 32 := Scalar.addi v173 v174
  v175.toNat
def k0_dev5 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v182 : BitVec 32 := Scalar.muli v2 c4_i32_104
  let v183 : BitVec 32 := Scalar.addi c0_i32_105 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v184 : BitVec 32 := Scalar.muli v5 c2_i32_106
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_107 : BitVec 32 := 1#32
  let v186 : BitVec 32 := Scalar.muli v9 c1_i32_107
  let v187 : BitVec 32 := Scalar.addi v185 v186
  v187.toNat
def k0_dev6 (d0 : Dev nD) : Nat :=
  let c0_i32_112 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_111 : BitVec 32 := 4#32
  let v194 : BitVec 32 := Scalar.muli v10 c4_i32_111
  let v195 : BitVec 32 := Scalar.addi c0_i32_112 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v196 : BitVec 32 := Scalar.muli v5 c2_i32_113
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v198 : BitVec 32 := Scalar.muli v8 c1_i32_114
  let v199 : BitVec 32 := Scalar.addi v197 v198
  v199.toNat
def k0_dev7 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v206 : BitVec 32 := Scalar.muli v2 c4_i32_118
  let v207 : BitVec 32 := Scalar.addi c0_i32_119 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_120 : BitVec 32 := 2#32
  let v208 : BitVec 32 := Scalar.muli v11 c2_i32_120
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v210 : BitVec 32 := Scalar.muli v8 c1_i32_121
  let v211 : BitVec 32 := Scalar.addi v209 v210
  v211.toNat
def k0_dev8 (d0 : Dev nD) : Nat :=
  let c0_i32_126 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_125 : BitVec 32 := 4#32
  let v218 : BitVec 32 := Scalar.muli v12 c4_i32_125
  let v219 : BitVec 32 := Scalar.addi c0_i32_126 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_127 : BitVec 32 := 2#32
  let v220 : BitVec 32 := Scalar.muli v13 c2_i32_127
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v222 : BitVec 32 := Scalar.muli v8 c1_i32_128
  let v223 : BitVec 32 := Scalar.addi v221 v222
  v223.toNat
def k0_dev9 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_132 : BitVec 32 := 4#32
  let v230 : BitVec 32 := Scalar.muli v2 c4_i32_132
  let v231 : BitVec 32 := Scalar.addi c0_i32_133 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_134 : BitVec 32 := 2#32
  let v232 : BitVec 32 := Scalar.muli v5 c2_i32_134
  let v233 : BitVec 32 := Scalar.addi v231 v232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_135 : BitVec 32 := 1#32
  let v234 : BitVec 32 := Scalar.muli v9 c1_i32_135
  let v235 : BitVec 32 := Scalar.addi v233 v234
  v235.toNat
def k0_dev10 (d0 : Dev nD) : Nat :=
  let c0_i32_140 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_139 : BitVec 32 := 4#32
  let v242 : BitVec 32 := Scalar.muli v10 c4_i32_139
  let v243 : BitVec 32 := Scalar.addi c0_i32_140 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v244 : BitVec 32 := Scalar.muli v5 c2_i32_141
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v246 : BitVec 32 := Scalar.muli v8 c1_i32_142
  let v247 : BitVec 32 := Scalar.addi v245 v246
  v247.toNat
def k0_dev11 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v254 : BitVec 32 := Scalar.muli v2 c4_i32_146
  let v255 : BitVec 32 := Scalar.addi c0_i32_147 v254
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_148 : BitVec 32 := 2#32
  let v256 : BitVec 32 := Scalar.muli v11 c2_i32_148
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v258 : BitVec 32 := Scalar.muli v8 c1_i32_149
  let v259 : BitVec 32 := Scalar.addi v257 v258
  v259.toNat
def k0_dev12 (d0 : Dev nD) : Nat :=
  let c0_i32_154 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_153 : BitVec 32 := 4#32
  let v266 : BitVec 32 := Scalar.muli v12 c4_i32_153
  let v267 : BitVec 32 := Scalar.addi c0_i32_154 v266
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_155 : BitVec 32 := 2#32
  let v268 : BitVec 32 := Scalar.muli v13 c2_i32_155
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v270 : BitVec 32 := Scalar.muli v8 c1_i32_156
  let v271 : BitVec 32 := Scalar.addi v269 v270
  v271.toNat
def k0_dev13 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_160 : BitVec 32 := 4#32
  let v278 : BitVec 32 := Scalar.muli v2 c4_i32_160
  let v279 : BitVec 32 := Scalar.addi c0_i32_161 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v280 : BitVec 32 := Scalar.muli v5 c2_i32_162
  let v281 : BitVec 32 := Scalar.addi v279 v280
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_163 : BitVec 32 := 1#32
  let v282 : BitVec 32 := Scalar.muli v9 c1_i32_163
  let v283 : BitVec 32 := Scalar.addi v281 v282
  v283.toNat
def k0_dev14 (d0 : Dev nD) : Nat :=
  let c0_i32_168 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_167 : BitVec 32 := 4#32
  let v290 : BitVec 32 := Scalar.muli v10 c4_i32_167
  let v291 : BitVec 32 := Scalar.addi c0_i32_168 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v292 : BitVec 32 := Scalar.muli v5 c2_i32_169
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v294 : BitVec 32 := Scalar.muli v8 c1_i32_170
  let v295 : BitVec 32 := Scalar.addi v293 v294
  v295.toNat
def k0_dev15 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v302 : BitVec 32 := Scalar.muli v2 c4_i32_174
  let v303 : BitVec 32 := Scalar.addi c0_i32_175 v302
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_176 : BitVec 32 := 2#32
  let v304 : BitVec 32 := Scalar.muli v11 c2_i32_176
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v306 : BitVec 32 := Scalar.muli v8 c1_i32_177
  let v307 : BitVec 32 := Scalar.addi v305 v306
  v307.toNat
def k0_dev16 (d0 : Dev nD) : Nat :=
  let c0_i32_182 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_181 : BitVec 32 := 4#32
  let v314 : BitVec 32 := Scalar.muli v12 c4_i32_181
  let v315 : BitVec 32 := Scalar.addi c0_i32_182 v314
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_183 : BitVec 32 := 2#32
  let v316 : BitVec 32 := Scalar.muli v13 c2_i32_183
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v318 : BitVec 32 := Scalar.muli v8 c1_i32_184
  let v319 : BitVec 32 := Scalar.addi v317 v318
  v319.toNat
def k0_dev17 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v326 : BitVec 32 := Scalar.muli v2 c4_i32_188
  let v327 : BitVec 32 := Scalar.addi c0_i32_189 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v328 : BitVec 32 := Scalar.muli v5 c2_i32_190
  let v329 : BitVec 32 := Scalar.addi v327 v328
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_191 : BitVec 32 := 1#32
  let v330 : BitVec 32 := Scalar.muli v9 c1_i32_191
  let v331 : BitVec 32 := Scalar.addi v329 v330
  v331.toNat
def k0_dev18 (d0 : Dev nD) : Nat :=
  let c0_i32_196 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_195 : BitVec 32 := 4#32
  let v338 : BitVec 32 := Scalar.muli v10 c4_i32_195
  let v339 : BitVec 32 := Scalar.addi c0_i32_196 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v340 : BitVec 32 := Scalar.muli v5 c2_i32_197
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v342 : BitVec 32 := Scalar.muli v8 c1_i32_198
  let v343 : BitVec 32 := Scalar.addi v341 v342
  v343.toNat
def k0_dev19 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v350 : BitVec 32 := Scalar.muli v2 c4_i32_202
  let v351 : BitVec 32 := Scalar.addi c0_i32_203 v350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_204 : BitVec 32 := 2#32
  let v352 : BitVec 32 := Scalar.muli v11 c2_i32_204
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v354 : BitVec 32 := Scalar.muli v8 c1_i32_205
  let v355 : BitVec 32 := Scalar.addi v353 v354
  v355.toNat
def k0_dev20 (d0 : Dev nD) : Nat :=
  let c0_i32_210 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_209 : BitVec 32 := 4#32
  let v362 : BitVec 32 := Scalar.muli v12 c4_i32_209
  let v363 : BitVec 32 := Scalar.addi c0_i32_210 v362
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_211 : BitVec 32 := 2#32
  let v364 : BitVec 32 := Scalar.muli v13 c2_i32_211
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v366 : BitVec 32 := Scalar.muli v8 c1_i32_212
  let v367 : BitVec 32 := Scalar.addi v365 v366
  v367.toNat
def k0_off6 (d0 : Dev nD) : Fin 3 → Nat :=
  let c4_i32_215 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v374 : BitVec 32 := Scalar.muli c4_i32_215 v10
  let c2_i32_216 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v375 : BitVec 32 := Scalar.muli c2_i32_216 v5
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c0_i32_223 : BitVec 32 := 0#32
  let c0_i32_224 : BitVec 32 := 0#32
  ![v377.toNat, 0, 0]
def k0_dev21 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v394 : BitVec 32 := Scalar.muli v2 c4_i32_231
  let v395 : BitVec 32 := Scalar.addi c0_i32_232 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v396 : BitVec 32 := Scalar.muli v5 c2_i32_233
  let v397 : BitVec 32 := Scalar.addi v395 v396
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_234 : BitVec 32 := 1#32
  let v398 : BitVec 32 := Scalar.muli v9 c1_i32_234
  let v399 : BitVec 32 := Scalar.addi v397 v398
  v399.toNat
def k0_off7 (d0 : Dev nD) : Fin 3 → Nat :=
  let c4_i32_239 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v408 : BitVec 32 := Scalar.muli c4_i32_239 v10
  let c2_i32_240 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.muli c2_i32_240 v5
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v411 : BitVec 32 := Scalar.addi v410 v8
  let c0_i32_247 : BitVec 32 := 0#32
  let c0_i32_248 : BitVec 32 := 0#32
  ![v411.toNat, 0, 0]
def k0_dev22 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v428 : BitVec 32 := Scalar.muli v2 c4_i32_254
  let v429 : BitVec 32 := Scalar.addi c0_i32_255 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v430 : BitVec 32 := Scalar.muli v5 c2_i32_256
  let v431 : BitVec 32 := Scalar.addi v429 v430
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_257 : BitVec 32 := 1#32
  let v432 : BitVec 32 := Scalar.muli v9 c1_i32_257
  let v433 : BitVec 32 := Scalar.addi v431 v432
  v433.toNat
def k0_off8 (d0 : Dev nD) : Fin 3 → Nat :=
  let c4_i32_262 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v442 : BitVec 32 := Scalar.muli c4_i32_262 v10
  let c2_i32_263 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v443 : BitVec 32 := Scalar.muli c2_i32_263 v5
  let v444 : BitVec 32 := Scalar.addi v442 v443
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v445 : BitVec 32 := Scalar.addi v444 v8
  let c0_i32_270 : BitVec 32 := 0#32
  let c0_i32_271 : BitVec 32 := 0#32
  ![v445.toNat, 0, 0]
def k0_dev23 (d0 : Dev nD) : Nat :=
  let c0_i32_278 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_277 : BitVec 32 := 4#32
  let v462 : BitVec 32 := Scalar.muli v2 c4_i32_277
  let v463 : BitVec 32 := Scalar.addi c0_i32_278 v462
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v464 : BitVec 32 := Scalar.muli v5 c2_i32_279
  let v465 : BitVec 32 := Scalar.addi v463 v464
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_280 : BitVec 32 := 1#32
  let v466 : BitVec 32 := Scalar.muli v9 c1_i32_280
  let v467 : BitVec 32 := Scalar.addi v465 v466
  v467.toNat
def k0_off9 (d0 : Dev nD) : Fin 3 → Nat :=
  let c4_i32_285 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v476 : BitVec 32 := Scalar.muli c4_i32_285 v10
  let c2_i32_286 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v477 : BitVec 32 := Scalar.muli c2_i32_286 v5
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v479 : BitVec 32 := Scalar.addi v478 v8
  let c0_i32_293 : BitVec 32 := 0#32
  let c0_i32_294 : BitVec 32 := 0#32
  ![v479.toNat, 0, 0]
def k0_dev24 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v496 : BitVec 32 := Scalar.muli v2 c4_i32_300
  let v497 : BitVec 32 := Scalar.addi c0_i32_301 v496
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v498 : BitVec 32 := Scalar.muli v5 c2_i32_302
  let v499 : BitVec 32 := Scalar.addi v497 v498
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_303 : BitVec 32 := 1#32
  let v500 : BitVec 32 := Scalar.muli v9 c1_i32_303
  let v501 : BitVec 32 := Scalar.addi v499 v500
  v501.toNat
def k0_off10 (d0 : Dev nD) : Fin 3 → Nat :=
  let c4_i32_308 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v510 : BitVec 32 := Scalar.muli c4_i32_308 v10
  let c2_i32_309 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.muli c2_i32_309 v5
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v513 : BitVec 32 := Scalar.addi v512 v8
  let c0_i32_316 : BitVec 32 := 0#32
  let c0_i32_317 : BitVec 32 := 0#32
  ![v513.toNat, 0, 0]
def k0_dev25 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v530 : BitVec 32 := Scalar.muli v2 c4_i32_323
  let v531 : BitVec 32 := Scalar.addi c0_i32_324 v530
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v532 : BitVec 32 := Scalar.muli v5 c2_i32_325
  let v533 : BitVec 32 := Scalar.addi v531 v532
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_326 : BitVec 32 := 1#32
  let v534 : BitVec 32 := Scalar.muli v9 c1_i32_326
  let v535 : BitVec 32 := Scalar.addi v533 v534
  v535.toNat
def k0_off11 (d0 : Dev nD) : Fin 3 → Nat :=
  let c4_i32_331 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v544 : BitVec 32 := Scalar.muli c4_i32_331 v2
  let c2_i32_332 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v545 : BitVec 32 := Scalar.muli c2_i32_332 v11
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v547 : BitVec 32 := Scalar.addi v546 v8
  let c0_i32_339 : BitVec 32 := 0#32
  let c0_i32_340 : BitVec 32 := 0#32
  ![v547.toNat, 0, 0]
def k0_dev26 (d0 : Dev nD) : Nat :=
  let c0_i32_347 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_346 : BitVec 32 := 4#32
  let v564 : BitVec 32 := Scalar.muli v2 c4_i32_346
  let v565 : BitVec 32 := Scalar.addi c0_i32_347 v564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v566 : BitVec 32 := Scalar.muli v5 c2_i32_348
  let v567 : BitVec 32 := Scalar.addi v565 v566
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_349 : BitVec 32 := 1#32
  let v568 : BitVec 32 := Scalar.muli v9 c1_i32_349
  let v569 : BitVec 32 := Scalar.addi v567 v568
  v569.toNat
def k0_off12 (d0 : Dev nD) : Fin 3 → Nat :=
  let c4_i32_354 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v578 : BitVec 32 := Scalar.muli c4_i32_354 v2
  let c2_i32_355 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v579 : BitVec 32 := Scalar.muli c2_i32_355 v11
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v581 : BitVec 32 := Scalar.addi v580 v8
  let c0_i32_362 : BitVec 32 := 0#32
  let c0_i32_363 : BitVec 32 := 0#32
  ![v581.toNat, 0, 0]
def k0_dev27 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v598 : BitVec 32 := Scalar.muli v2 c4_i32_369
  let v599 : BitVec 32 := Scalar.addi c0_i32_370 v598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v600 : BitVec 32 := Scalar.muli v5 c2_i32_371
  let v601 : BitVec 32 := Scalar.addi v599 v600
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_372 : BitVec 32 := 1#32
  let v602 : BitVec 32 := Scalar.muli v9 c1_i32_372
  let v603 : BitVec 32 := Scalar.addi v601 v602
  v603.toNat
def k0_off13 (d0 : Dev nD) : Fin 3 → Nat :=
  let c4_i32_377 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v612 : BitVec 32 := Scalar.muli c4_i32_377 v2
  let c2_i32_378 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v613 : BitVec 32 := Scalar.muli c2_i32_378 v11
  let v614 : BitVec 32 := Scalar.addi v612 v613
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v615 : BitVec 32 := Scalar.addi v614 v8
  let c0_i32_385 : BitVec 32 := 0#32
  let c0_i32_386 : BitVec 32 := 0#32
  ![v615.toNat, 0, 0]
def k0_dev28 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v632 : BitVec 32 := Scalar.muli v2 c4_i32_392
  let v633 : BitVec 32 := Scalar.addi c0_i32_393 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_394 : BitVec 32 := 2#32
  let v634 : BitVec 32 := Scalar.muli v5 c2_i32_394
  let v635 : BitVec 32 := Scalar.addi v633 v634
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_395 : BitVec 32 := 1#32
  let v636 : BitVec 32 := Scalar.muli v9 c1_i32_395
  let v637 : BitVec 32 := Scalar.addi v635 v636
  v637.toNat
def k0_off14 (d0 : Dev nD) : Fin 3 → Nat :=
  let c4_i32_400 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v646 : BitVec 32 := Scalar.muli c4_i32_400 v2
  let c2_i32_401 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v647 : BitVec 32 := Scalar.muli c2_i32_401 v11
  let v648 : BitVec 32 := Scalar.addi v646 v647
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v649 : BitVec 32 := Scalar.addi v648 v8
  let c0_i32_408 : BitVec 32 := 0#32
  let c0_i32_409 : BitVec 32 := 0#32
  ![v649.toNat, 0, 0]
def k0_dev29 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v666 : BitVec 32 := Scalar.muli v2 c4_i32_415
  let v667 : BitVec 32 := Scalar.addi c0_i32_416 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_417 : BitVec 32 := 2#32
  let v668 : BitVec 32 := Scalar.muli v5 c2_i32_417
  let v669 : BitVec 32 := Scalar.addi v667 v668
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_418 : BitVec 32 := 1#32
  let v670 : BitVec 32 := Scalar.muli v9 c1_i32_418
  let v671 : BitVec 32 := Scalar.addi v669 v670
  v671.toNat
def k0_off15 (d0 : Dev nD) : Fin 3 → Nat :=
  let c4_i32_423 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v680 : BitVec 32 := Scalar.muli c4_i32_423 v2
  let c2_i32_424 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v681 : BitVec 32 := Scalar.muli c2_i32_424 v11
  let v682 : BitVec 32 := Scalar.addi v680 v681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v683 : BitVec 32 := Scalar.addi v682 v8
  let c0_i32_431 : BitVec 32 := 0#32
  let c0_i32_432 : BitVec 32 := 0#32
  ![v683.toNat, 0, 0]
def k0_dev30 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v700 : BitVec 32 := Scalar.muli v2 c4_i32_438
  let v701 : BitVec 32 := Scalar.addi c0_i32_439 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v702 : BitVec 32 := Scalar.muli v5 c2_i32_440
  let v703 : BitVec 32 := Scalar.addi v701 v702
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_441 : BitVec 32 := 1#32
  let v704 : BitVec 32 := Scalar.muli v9 c1_i32_441
  let v705 : BitVec 32 := Scalar.addi v703 v704
  v705.toNat
def k0_off16 (d0 : Dev nD) : Fin 3 → Nat :=
  let c4_i32_446 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v714 : BitVec 32 := Scalar.muli c4_i32_446 v12
  let c2_i32_447 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v715 : BitVec 32 := Scalar.muli c2_i32_447 v13
  let v716 : BitVec 32 := Scalar.addi v714 v715
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v717 : BitVec 32 := Scalar.addi v716 v8
  let c0_i32_454 : BitVec 32 := 0#32
  let c0_i32_455 : BitVec 32 := 0#32
  ![v717.toNat, 0, 0]
def k0_dev31 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_461 : BitVec 32 := 4#32
  let v734 : BitVec 32 := Scalar.muli v2 c4_i32_461
  let v735 : BitVec 32 := Scalar.addi c0_i32_462 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_463 : BitVec 32 := 2#32
  let v736 : BitVec 32 := Scalar.muli v5 c2_i32_463
  let v737 : BitVec 32 := Scalar.addi v735 v736
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_464 : BitVec 32 := 1#32
  let v738 : BitVec 32 := Scalar.muli v9 c1_i32_464
  let v739 : BitVec 32 := Scalar.addi v737 v738
  v739.toNat
def k0_off17 (d0 : Dev nD) : Fin 3 → Nat :=
  let c4_i32_469 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v748 : BitVec 32 := Scalar.muli c4_i32_469 v12
  let c2_i32_470 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v749 : BitVec 32 := Scalar.muli c2_i32_470 v13
  let v750 : BitVec 32 := Scalar.addi v748 v749
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v751 : BitVec 32 := Scalar.addi v750 v8
  let c0_i32_477 : BitVec 32 := 0#32
  let c0_i32_478 : BitVec 32 := 0#32
  ![v751.toNat, 0, 0]
def k0_dev32 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v768 : BitVec 32 := Scalar.muli v2 c4_i32_484
  let v769 : BitVec 32 := Scalar.addi c0_i32_485 v768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_486 : BitVec 32 := 2#32
  let v770 : BitVec 32 := Scalar.muli v5 c2_i32_486
  let v771 : BitVec 32 := Scalar.addi v769 v770
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_487 : BitVec 32 := 1#32
  let v772 : BitVec 32 := Scalar.muli v9 c1_i32_487
  let v773 : BitVec 32 := Scalar.addi v771 v772
  v773.toNat
def k0_off18 (d0 : Dev nD) : Fin 3 → Nat :=
  let c4_i32_492 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v782 : BitVec 32 := Scalar.muli c4_i32_492 v12
  let c2_i32_493 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v783 : BitVec 32 := Scalar.muli c2_i32_493 v13
  let v784 : BitVec 32 := Scalar.addi v782 v783
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v785 : BitVec 32 := Scalar.addi v784 v8
  let c0_i32_500 : BitVec 32 := 0#32
  let c0_i32_501 : BitVec 32 := 0#32
  ![v785.toNat, 0, 0]
def k0_dev33 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_507 : BitVec 32 := 4#32
  let v802 : BitVec 32 := Scalar.muli v2 c4_i32_507
  let v803 : BitVec 32 := Scalar.addi c0_i32_508 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_509 : BitVec 32 := 2#32
  let v804 : BitVec 32 := Scalar.muli v5 c2_i32_509
  let v805 : BitVec 32 := Scalar.addi v803 v804
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_510 : BitVec 32 := 1#32
  let v806 : BitVec 32 := Scalar.muli v9 c1_i32_510
  let v807 : BitVec 32 := Scalar.addi v805 v806
  v807.toNat
def k0_off19 (d0 : Dev nD) : Fin 3 → Nat :=
  let c4_i32_515 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v816 : BitVec 32 := Scalar.muli c4_i32_515 v12
  let c2_i32_516 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v817 : BitVec 32 := Scalar.muli c2_i32_516 v13
  let v818 : BitVec 32 := Scalar.addi v816 v817
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v819 : BitVec 32 := Scalar.addi v818 v8
  let c0_i32_523 : BitVec 32 := 0#32
  let c0_i32_524 : BitVec 32 := 0#32
  ![v819.toNat, 0, 0]
def k0_dev34 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v836 : BitVec 32 := Scalar.muli v2 c4_i32_530
  let v837 : BitVec 32 := Scalar.addi c0_i32_531 v836
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_532 : BitVec 32 := 2#32
  let v838 : BitVec 32 := Scalar.muli v5 c2_i32_532
  let v839 : BitVec 32 := Scalar.addi v837 v838
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_533 : BitVec 32 := 1#32
  let v840 : BitVec 32 := Scalar.muli v9 c1_i32_533
  let v841 : BitVec 32 := Scalar.addi v839 v840
  v841.toNat
def k0_off20 (d0 : Dev nD) : Fin 3 → Nat :=
  let c4_i32_538 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v850 : BitVec 32 := Scalar.muli c4_i32_538 v12
  let c2_i32_539 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v851 : BitVec 32 := Scalar.muli c2_i32_539 v13
  let v852 : BitVec 32 := Scalar.addi v850 v851
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v853 : BitVec 32 := Scalar.addi v852 v8
  let c0_i32_546 : BitVec 32 := 0#32
  let c0_i32_547 : BitVec 32 := 0#32
  ![v853.toNat, 0, 0]
def k0_dev35 (d0 : Dev nD) : Nat :=
  let c0_i32_554 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_553 : BitVec 32 := 4#32
  let v870 : BitVec 32 := Scalar.muli v2 c4_i32_553
  let v871 : BitVec 32 := Scalar.addi c0_i32_554 v870
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_555 : BitVec 32 := 2#32
  let v872 : BitVec 32 := Scalar.muli v5 c2_i32_555
  let v873 : BitVec 32 := Scalar.addi v871 v872
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_556 : BitVec 32 := 1#32
  let v874 : BitVec 32 := Scalar.muli v9 c1_i32_556
  let v875 : BitVec 32 := Scalar.addi v873 v874
  v875.toNat
def k0_off21 (d0 : Dev nD) : Fin 3 → Nat :=
  let c4_i32_561 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v884 : BitVec 32 := Scalar.muli c4_i32_561 v2
  let c2_i32_562 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v885 : BitVec 32 := Scalar.muli c2_i32_562 v5
  let v886 : BitVec 32 := Scalar.addi v884 v885
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v887 : BitVec 32 := Scalar.addi v886 v9
  let c0_i32_569 : BitVec 32 := 0#32
  let c0_i32_570 : BitVec 32 := 0#32
  ![v887.toNat, 0, 0]
def k0_off22 (d0 : Dev nD) : Fin 3 → Nat :=
  let c4_i32_574 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v901 : BitVec 32 := Scalar.muli c4_i32_574 v10
  let c2_i32_575 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v902 : BitVec 32 := Scalar.muli c2_i32_575 v5
  let v903 : BitVec 32 := Scalar.addi v901 v902
  let c1_i32_573 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v900 : BitVec 32 := Scalar.subi c1_i32_573 v8
  let v904 : BitVec 32 := Scalar.addi v903 v900
  let c0_i32_582 : BitVec 32 := 0#32
  let c0_i32_583 : BitVec 32 := 0#32
  ![v904.toNat, 0, 0]
def k0_off23 (d0 : Dev nD) : Fin 3 → Nat :=
  let c4_i32_587 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v918 : BitVec 32 := Scalar.muli c4_i32_587 v2
  let c2_i32_588 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v919 : BitVec 32 := Scalar.muli c2_i32_588 v11
  let v920 : BitVec 32 := Scalar.addi v918 v919
  let c1_i32_586 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v917 : BitVec 32 := Scalar.subi c1_i32_586 v8
  let v921 : BitVec 32 := Scalar.addi v920 v917
  let c0_i32_595 : BitVec 32 := 0#32
  let c0_i32_596 : BitVec 32 := 0#32
  ![v921.toNat, 0, 0]
def k0_off24 (d0 : Dev nD) : Fin 3 → Nat :=
  let c4_i32_600 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v935 : BitVec 32 := Scalar.muli c4_i32_600 v12
  let c2_i32_601 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v936 : BitVec 32 := Scalar.muli c2_i32_601 v13
  let v937 : BitVec 32 := Scalar.addi v935 v936
  let c1_i32_599 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v934 : BitVec 32 := Scalar.subi c1_i32_599 v8
  let v938 : BitVec 32 := Scalar.addi v937 v934
  let c0_i32_608 : BitVec 32 := 0#32
  let c0_i32_609 : BitVec 32 := 0#32
  ![v938.toNat, 0, 0]
def k0_off25 (d0 : Dev nD) : Fin 3 → Nat :=
  let c4_i32_612 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v951 : BitVec 32 := Scalar.muli c4_i32_612 v2
  let c2_i32_613 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v952 : BitVec 32 := Scalar.muli c2_i32_613 v5
  let v953 : BitVec 32 := Scalar.addi v951 v952
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v954 : BitVec 32 := Scalar.addi v953 v9
  let c0_i32_620 : BitVec 32 := 0#32
  let c0_i32_621 : BitVec 32 := 0#32
  ![v954.toNat, 0, 0]
def k0_off26 (d0 : Dev nD) : Fin 3 → Nat :=
  let c4_i32_625 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v968 : BitVec 32 := Scalar.muli c4_i32_625 v10
  let c2_i32_626 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v969 : BitVec 32 := Scalar.muli c2_i32_626 v5
  let v970 : BitVec 32 := Scalar.addi v968 v969
  let c1_i32_624 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v967 : BitVec 32 := Scalar.subi c1_i32_624 v8
  let v971 : BitVec 32 := Scalar.addi v970 v967
  let c0_i32_633 : BitVec 32 := 0#32
  let c0_i32_634 : BitVec 32 := 0#32
  ![v971.toNat, 0, 0]
def k0_off27 (d0 : Dev nD) : Fin 3 → Nat :=
  let c4_i32_638 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v985 : BitVec 32 := Scalar.muli c4_i32_638 v2
  let c2_i32_639 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v986 : BitVec 32 := Scalar.muli c2_i32_639 v11
  let v987 : BitVec 32 := Scalar.addi v985 v986
  let c1_i32_637 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v984 : BitVec 32 := Scalar.subi c1_i32_637 v8
  let v988 : BitVec 32 := Scalar.addi v987 v984
  let c0_i32_646 : BitVec 32 := 0#32
  let c0_i32_647 : BitVec 32 := 0#32
  ![v988.toNat, 0, 0]
def k0_off28 (d0 : Dev nD) : Fin 3 → Nat :=
  let c4_i32_651 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1002 : BitVec 32 := Scalar.muli c4_i32_651 v12
  let c2_i32_652 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1003 : BitVec 32 := Scalar.muli c2_i32_652 v13
  let v1004 : BitVec 32 := Scalar.addi v1002 v1003
  let c1_i32_650 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1001 : BitVec 32 := Scalar.subi c1_i32_650 v8
  let v1005 : BitVec 32 := Scalar.addi v1004 v1001
  let c0_i32_659 : BitVec 32 := 0#32
  let c0_i32_660 : BitVec 32 := 0#32
  ![v1005.toNat, 0, 0]
def k0_off29 (d0 : Dev nD) : Fin 3 → Nat :=
  let c4_i32_663 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1018 : BitVec 32 := Scalar.muli c4_i32_663 v2
  let c2_i32_664 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1019 : BitVec 32 := Scalar.muli c2_i32_664 v5
  let v1020 : BitVec 32 := Scalar.addi v1018 v1019
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1021 : BitVec 32 := Scalar.addi v1020 v9
  let c0_i32_671 : BitVec 32 := 0#32
  let c0_i32_672 : BitVec 32 := 0#32
  ![v1021.toNat, 0, 0]
def k0_off30 (d0 : Dev nD) : Fin 3 → Nat :=
  let c4_i32_676 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1035 : BitVec 32 := Scalar.muli c4_i32_676 v10
  let c2_i32_677 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1036 : BitVec 32 := Scalar.muli c2_i32_677 v5
  let v1037 : BitVec 32 := Scalar.addi v1035 v1036
  let c1_i32_675 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1034 : BitVec 32 := Scalar.subi c1_i32_675 v8
  let v1038 : BitVec 32 := Scalar.addi v1037 v1034
  let c0_i32_684 : BitVec 32 := 0#32
  let c0_i32_685 : BitVec 32 := 0#32
  ![v1038.toNat, 0, 0]
def k0_off31 (d0 : Dev nD) : Fin 3 → Nat :=
  let c4_i32_689 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1052 : BitVec 32 := Scalar.muli c4_i32_689 v2
  let c2_i32_690 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1053 : BitVec 32 := Scalar.muli c2_i32_690 v11
  let v1054 : BitVec 32 := Scalar.addi v1052 v1053
  let c1_i32_688 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1051 : BitVec 32 := Scalar.subi c1_i32_688 v8
  let v1055 : BitVec 32 := Scalar.addi v1054 v1051
  let c0_i32_697 : BitVec 32 := 0#32
  let c0_i32_698 : BitVec 32 := 0#32
  ![v1055.toNat, 0, 0]
def k0_off32 (d0 : Dev nD) : Fin 3 → Nat :=
  let c4_i32_702 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1069 : BitVec 32 := Scalar.muli c4_i32_702 v12
  let c2_i32_703 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1070 : BitVec 32 := Scalar.muli c2_i32_703 v13
  let v1071 : BitVec 32 := Scalar.addi v1069 v1070
  let c1_i32_701 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.subi c1_i32_701 v8
  let v1072 : BitVec 32 := Scalar.addi v1071 v1068
  let c0_i32_710 : BitVec 32 := 0#32
  let c0_i32_711 : BitVec 32 := 0#32
  ![v1072.toNat, 0, 0]
def k0_off33 (d0 : Dev nD) : Fin 3 → Nat :=
  let c4_i32_714 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1085 : BitVec 32 := Scalar.muli c4_i32_714 v2
  let c2_i32_715 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1086 : BitVec 32 := Scalar.muli c2_i32_715 v5
  let v1087 : BitVec 32 := Scalar.addi v1085 v1086
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1088 : BitVec 32 := Scalar.addi v1087 v9
  let c0_i32_722 : BitVec 32 := 0#32
  let c0_i32_723 : BitVec 32 := 0#32
  ![v1088.toNat, 0, 0]
def k0_off34 (d0 : Dev nD) : Fin 3 → Nat :=
  let c4_i32_727 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1102 : BitVec 32 := Scalar.muli c4_i32_727 v10
  let c2_i32_728 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1103 : BitVec 32 := Scalar.muli c2_i32_728 v5
  let v1104 : BitVec 32 := Scalar.addi v1102 v1103
  let c1_i32_726 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1101 : BitVec 32 := Scalar.subi c1_i32_726 v8
  let v1105 : BitVec 32 := Scalar.addi v1104 v1101
  let c0_i32_735 : BitVec 32 := 0#32
  let c0_i32_736 : BitVec 32 := 0#32
  ![v1105.toNat, 0, 0]
def k0_off35 (d0 : Dev nD) : Fin 3 → Nat :=
  let c4_i32_740 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1119 : BitVec 32 := Scalar.muli c4_i32_740 v2
  let c2_i32_741 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1120 : BitVec 32 := Scalar.muli c2_i32_741 v11
  let v1121 : BitVec 32 := Scalar.addi v1119 v1120
  let c1_i32_739 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1118 : BitVec 32 := Scalar.subi c1_i32_739 v8
  let v1122 : BitVec 32 := Scalar.addi v1121 v1118
  let c0_i32_748 : BitVec 32 := 0#32
  let c0_i32_749 : BitVec 32 := 0#32
  ![v1122.toNat, 0, 0]
def k0_off36 (d0 : Dev nD) : Fin 3 → Nat :=
  let c4_i32_753 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1136 : BitVec 32 := Scalar.muli c4_i32_753 v12
  let c2_i32_754 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1137 : BitVec 32 := Scalar.muli c2_i32_754 v13
  let v1138 : BitVec 32 := Scalar.addi v1136 v1137
  let c1_i32_752 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1135 : BitVec 32 := Scalar.subi c1_i32_752 v8
  let v1139 : BitVec 32 := Scalar.addi v1138 v1135
  let c0_i32_761 : BitVec 32 := 0#32
  let c0_i32_762 : BitVec 32 := 0#32
  ![v1139.toNat, 0, 0]
def k0_off37 (d0 : Dev nD) : Fin 3 → Nat :=
  let c4_i32_765 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1152 : BitVec 32 := Scalar.muli c4_i32_765 v2
  let c2_i32_766 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1153 : BitVec 32 := Scalar.muli c2_i32_766 v5
  let v1154 : BitVec 32 := Scalar.addi v1152 v1153
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1155 : BitVec 32 := Scalar.addi v1154 v9
  let c0_i32_773 : BitVec 32 := 0#32
  let c0_i32_774 : BitVec 32 := 0#32
  ![v1155.toNat, 0, 0]
def k0_off38 (d0 : Dev nD) : Fin 3 → Nat :=
  let c4_i32_778 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1169 : BitVec 32 := Scalar.muli c4_i32_778 v10
  let c2_i32_779 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1170 : BitVec 32 := Scalar.muli c2_i32_779 v5
  let v1171 : BitVec 32 := Scalar.addi v1169 v1170
  let c1_i32_777 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1168 : BitVec 32 := Scalar.subi c1_i32_777 v8
  let v1172 : BitVec 32 := Scalar.addi v1171 v1168
  let c0_i32_786 : BitVec 32 := 0#32
  let c0_i32_787 : BitVec 32 := 0#32
  ![v1172.toNat, 0, 0]
def k0_off39 (d0 : Dev nD) : Fin 3 → Nat :=
  let c4_i32_791 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1186 : BitVec 32 := Scalar.muli c4_i32_791 v2
  let c2_i32_792 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1187 : BitVec 32 := Scalar.muli c2_i32_792 v11
  let v1188 : BitVec 32 := Scalar.addi v1186 v1187
  let c1_i32_790 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1185 : BitVec 32 := Scalar.subi c1_i32_790 v8
  let v1189 : BitVec 32 := Scalar.addi v1188 v1185
  let c0_i32_799 : BitVec 32 := 0#32
  let c0_i32_800 : BitVec 32 := 0#32
  ![v1189.toNat, 0, 0]
def k0_off40 (d0 : Dev nD) : Fin 3 → Nat :=
  let c4_i32_804 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1203 : BitVec 32 := Scalar.muli c4_i32_804 v12
  let c2_i32_805 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1204 : BitVec 32 := Scalar.muli c2_i32_805 v13
  let v1205 : BitVec 32 := Scalar.addi v1203 v1204
  let c1_i32_803 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1202 : BitVec 32 := Scalar.subi c1_i32_803 v8
  let v1206 : BitVec 32 := Scalar.addi v1205 v1202
  let c0_i32_812 : BitVec 32 := 0#32
  let c0_i32_813 : BitVec 32 := 0#32
  ![v1206.toNat, 0, 0]
-- ==== GatherRef.lean ====
abbrev S2048x3584 : Shape := ⟨2, ![2048, 3584]⟩
abbrev S2048x5184 : Shape := ⟨2, ![2048, 5184]⟩
abbrev S4096x5632 : Shape := ⟨2, ![4096, 5632]⟩
abbrev S17408x1024 : Shape := ⟨2, ![17408, 1024]⟩
abbrev S896x128 : Shape := ⟨2, ![896, 128]⟩
abbrev S2048x8x448 : Shape := ⟨3, ![2048, 8, 448]⟩
abbrev S8x2048x448 : Shape := ⟨3, ![8, 2048, 448]⟩
abbrev S2048x8x648 : Shape := ⟨3, ![2048, 8, 648]⟩
abbrev S8x2048x648 : Shape := ⟨3, ![8, 2048, 648]⟩
abbrev S4096x8x704 : Shape := ⟨3, ![4096, 8, 704]⟩
abbrev S8x4096x704 : Shape := ⟨3, ![8, 4096, 704]⟩
abbrev S8x2176x1024 : Shape := ⟨3, ![8, 2176, 1024]⟩
abbrev S8x112x128 : Shape := ⟨3, ![8, 112, 128]⟩

abbrev nBuf : Space → Nat
  | .hbm => 13
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x5184, .bf16⟩
  | .hbm, ⟨2, _⟩ => ⟨S4096x5632, .bf16⟩
  | .hbm, ⟨3, _⟩ => ⟨S17408x1024, .bf16⟩
  | .hbm, ⟨4, _⟩ => ⟨S896x128, .f32⟩
  | .hbm, ⟨5, _⟩ => ⟨S2048x8x448, .bf16⟩
  | .hbm, ⟨6, _⟩ => ⟨S8x2048x448, .bf16⟩
  | .hbm, ⟨7, _⟩ => ⟨S2048x8x648, .bf16⟩
  | .hbm, ⟨8, _⟩ => ⟨S8x2048x648, .bf16⟩
  | .hbm, ⟨9, _⟩ => ⟨S4096x8x704, .bf16⟩
  | .hbm, ⟨10, _⟩ => ⟨S8x4096x704, .bf16⟩
  | .hbm, ⟨11, _⟩ => ⟨S8x2176x1024, .bf16⟩
  | .hbm, ⟨12, _⟩ => ⟨S8x112x128, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Sibling.lean ====
abbrev S8x2048x448 : Shape := ⟨3, ![8, 2048, 448]⟩
abbrev S8x2048x648 : Shape := ⟨3, ![8, 2048, 648]⟩
abbrev S8x4096x704 : Shape := ⟨3, ![8, 4096, 704]⟩
abbrev S8x2176x1024 : Shape := ⟨3, ![8, 2176, 1024]⟩
abbrev S8x112x128 : Shape := ⟨3, ![8, 112, 128]⟩
abbrev S376x128 : Shape := ⟨2, ![376, 128]⟩
abbrev S4x2048x448 : Shape := ⟨3, ![4, 2048, 448]⟩
abbrev S4x2048x648 : Shape := ⟨3, ![4, 2048, 648]⟩
abbrev S4x4096x704 : Shape := ⟨3, ![4, 4096, 704]⟩
abbrev S4x2176x1024 : Shape := ⟨3, ![4, 2176, 1024]⟩
abbrev S4x112x128 : Shape := ⟨3, ![4, 112, 128]⟩
abbrev S21 : Shape := ⟨1, ![21]⟩
abbrev S1 : Shape := ⟨1, ![1]⟩
abbrev S_ : Shape := ⟨0, ![]⟩
abbrev S1x2048x448 : Shape := ⟨3, ![1, 2048, 448]⟩
abbrev S2048x448 : Shape := ⟨2, ![2048, 448]⟩
abbrev S1x2048x648 : Shape := ⟨3, ![1, 2048, 648]⟩
abbrev S2048x648 : Shape := ⟨2, ![2048, 648]⟩
abbrev S1x4096x704 : Shape := ⟨3, ![1, 4096, 704]⟩
abbrev S4096x704 : Shape := ⟨2, ![4096, 704]⟩
abbrev S1x2176x1024 : Shape := ⟨3, ![1, 2176, 1024]⟩
abbrev S2176x1024 : Shape := ⟨2, ![2176, 1024]⟩
abbrev S1x112x128 : Shape := ⟨3, ![1, 112, 128]⟩
abbrev S112x128 : Shape := ⟨2, ![112, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x448, .bf16⟩
  | .hbm, ⟨1, _⟩ => ⟨S8x2048x648, .bf16⟩
  | .hbm, ⟨2, _⟩ => ⟨S8x4096x704, .bf16⟩
  | .hbm, ⟨3, _⟩ => ⟨S8x2176x1024, .bf16⟩
  | .hbm, ⟨4, _⟩ => ⟨S8x112x128, .f32⟩
  | .hbm, ⟨5, _⟩ => ⟨S376x128, .f32⟩
  | .hbm, ⟨6, _⟩ => ⟨S4x2048x448, .bf16⟩
  | .hbm, ⟨7, _⟩ => ⟨S4x2048x648, .bf16⟩
  | .hbm, ⟨8, _⟩ => ⟨S4x4096x704, .bf16⟩
  | .hbm, ⟨9, _⟩ => ⟨S4x2176x1024, .bf16⟩
  | .hbm, ⟨10, _⟩ => ⟨S4x112x128, .f32⟩
  | .hbm, ⟨11, _⟩ => ⟨S376x128, .f32⟩
  | _, _ => ⟨S8x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v10 : BitVec 32 := Scalar.addi c0_i32 v9
  let c0_i32_71 : BitVec 32 := 0#32
  let c0_i32_72 : BitVec 32 := 0#32
  ![v10.toNat, 0, 0]
def k0_dev1 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v70 : BitVec 32 := Scalar.muli v2 c4_i32_65
  let v71 : BitVec 32 := Scalar.addi c0_i32_66 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v72 : BitVec 32 := Scalar.muli v5 c2_i32_67
  let v73 : BitVec 32 := Scalar.addi v71 v72
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_68 : BitVec 32 := 1#32
  let v74 : BitVec 32 := Scalar.muli v17 c1_i32_68
  let v75 : BitVec 32 := Scalar.addi v73 v74
  v75.toNat
def k0_dev2 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v84 : BitVec 32 := Scalar.muli v2 c4_i32_76
  let v85 : BitVec 32 := Scalar.addi c0_i32_77 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v86 : BitVec 32 := Scalar.muli v5 c2_i32_78
  let v87 : BitVec 32 := Scalar.addi v85 v86
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let c1_i32_79 : BitVec 32 := 1#32
  let v88 : BitVec 32 := Scalar.muli v18 c1_i32_79
  let v89 : BitVec 32 := Scalar.addi v87 v88
  v89.toNat
def k0_dev3 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v98 : BitVec 32 := Scalar.muli v2 c4_i32_87
  let v99 : BitVec 32 := Scalar.addi c0_i32_88 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v100 : BitVec 32 := Scalar.muli v5 c2_i32_89
  let v101 : BitVec 32 := Scalar.addi v99 v100
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_90 : BitVec 32 := 1#32
  let v102 : BitVec 32 := Scalar.muli v19 c1_i32_90
  let v103 : BitVec 32 := Scalar.addi v101 v102
  v103.toNat
def k0_dev4 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v112 : BitVec 32 := Scalar.muli v2 c4_i32_97
  let v113 : BitVec 32 := Scalar.addi c0_i32_98 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v114 : BitVec 32 := Scalar.muli v5 c2_i32_99
  let v115 : BitVec 32 := Scalar.addi v113 v114
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_100 : BitVec 32 := 1#32
  let v116 : BitVec 32 := Scalar.muli v20 c1_i32_100
  let v117 : BitVec 32 := Scalar.addi v115 v116
  v117.toNat
def k0_off2 (d0 : Dev nD) (c0_i32_14 : BitVec 32) : Fin 3 → Nat :=
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_13 v8
  let v22 : BitVec 32 := Scalar.addi c0_i32_14 v21
  let c0_i32_114 : BitVec 32 := 0#32
  let c0_i32_115 : BitVec 32 := 0#32
  ![v22.toNat, 0, 0]
def k0_dev5 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v126 : BitVec 32 := Scalar.muli v2 c4_i32_108
  let v127 : BitVec 32 := Scalar.addi c0_i32_109 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v128 : BitVec 32 := Scalar.muli v5 c2_i32_110
  let v129 : BitVec 32 := Scalar.addi v127 v128
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_21 v8
  let c1_i32_111 : BitVec 32 := 1#32
  let v130 : BitVec 32 := Scalar.muli v29 c1_i32_111
  let v131 : BitVec 32 := Scalar.addi v129 v130
  v131.toNat
def k0_dev6 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v140 : BitVec 32 := Scalar.muli v2 c4_i32_118
  let v141 : BitVec 32 := Scalar.addi c0_i32_119 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v142 : BitVec 32 := Scalar.muli v5 c2_i32_120
  let v143 : BitVec 32 := Scalar.addi v141 v142
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_22 v8
  let c1_i32_121 : BitVec 32 := 1#32
  let v144 : BitVec 32 := Scalar.muli v30 c1_i32_121
  let v145 : BitVec 32 := Scalar.addi v143 v144
  v145.toNat
def k0_dev7 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v154 : BitVec 32 := Scalar.muli v2 c4_i32_129
  let v155 : BitVec 32 := Scalar.addi c0_i32_130 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v156 : BitVec 32 := Scalar.muli v5 c2_i32_131
  let v157 : BitVec 32 := Scalar.addi v155 v156
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_23 v8
  let c1_i32_132 : BitVec 32 := 1#32
  let v158 : BitVec 32 := Scalar.muli v31 c1_i32_132
  let v159 : BitVec 32 := Scalar.addi v157 v158
  v159.toNat
def k0_dev8 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v168 : BitVec 32 := Scalar.muli v2 c4_i32_139
  let v169 : BitVec 32 := Scalar.addi c0_i32_140 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v170 : BitVec 32 := Scalar.muli v5 c2_i32_141
  let v171 : BitVec 32 := Scalar.addi v169 v170
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_24 v8
  let c1_i32_142 : BitVec 32 := 1#32
  let v172 : BitVec 32 := Scalar.muli v32 c1_i32_142
  let v173 : BitVec 32 := Scalar.addi v171 v172
  v173.toNat
def k0_off3 (d0 : Dev nD) (c0_i32_26 : BitVec 32) : Fin 3 → Nat :=
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_25 v8
  let v34 : BitVec 32 := Scalar.addi c0_i32_26 v33
  let c0_i32_155 : BitVec 32 := 0#32
  let c0_i32_156 : BitVec 32 := 0#32
  ![v34.toNat, 0, 0]
def k0_dev9 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v182 : BitVec 32 := Scalar.muli v2 c4_i32_149
  let v183 : BitVec 32 := Scalar.addi c0_i32_150 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v184 : BitVec 32 := Scalar.muli v5 c2_i32_151
  let v185 : BitVec 32 := Scalar.addi v183 v184
  let c1_i32_33 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_33 v8
  let c1_i32_152 : BitVec 32 := 1#32
  let v186 : BitVec 32 := Scalar.muli v41 c1_i32_152
  let v187 : BitVec 32 := Scalar.addi v185 v186
  v187.toNat
def k0_dev10 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v196 : BitVec 32 := Scalar.muli v2 c4_i32_159
  let v197 : BitVec 32 := Scalar.addi c0_i32_160 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v198 : BitVec 32 := Scalar.muli v5 c2_i32_161
  let v199 : BitVec 32 := Scalar.addi v197 v198
  let c1_i32_34 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_34 v8
  let c1_i32_162 : BitVec 32 := 1#32
  let v200 : BitVec 32 := Scalar.muli v42 c1_i32_162
  let v201 : BitVec 32 := Scalar.addi v199 v200
  v201.toNat
def k0_dev11 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v210 : BitVec 32 := Scalar.muli v2 c4_i32_169
  let v211 : BitVec 32 := Scalar.addi c0_i32_170 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v212 : BitVec 32 := Scalar.muli v5 c2_i32_171
  let v213 : BitVec 32 := Scalar.addi v211 v212
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_35 v8
  let c1_i32_172 : BitVec 32 := 1#32
  let v214 : BitVec 32 := Scalar.muli v43 c1_i32_172
  let v215 : BitVec 32 := Scalar.addi v213 v214
  v215.toNat
def k0_dev12 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v224 : BitVec 32 := Scalar.muli v2 c4_i32_179
  let v225 : BitVec 32 := Scalar.addi c0_i32_180 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v226 : BitVec 32 := Scalar.muli v5 c2_i32_181
  let v227 : BitVec 32 := Scalar.addi v225 v226
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_36 v8
  let c1_i32_182 : BitVec 32 := 1#32
  let v228 : BitVec 32 := Scalar.muli v44 c1_i32_182
  let v229 : BitVec 32 := Scalar.addi v227 v228
  v229.toNat
def k0_off4 (d0 : Dev nD) (c0_i32_38 : BitVec 32) : Fin 3 → Nat :=
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_37 v8
  let v46 : BitVec 32 := Scalar.addi c0_i32_38 v45
  let c0_i32_195 : BitVec 32 := 0#32
  let c0_i32_196 : BitVec 32 := 0#32
  ![v46.toNat, 0, 0]
def k0_dev13 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v238 : BitVec 32 := Scalar.muli v2 c4_i32_189
  let v239 : BitVec 32 := Scalar.addi c0_i32_190 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v240 : BitVec 32 := Scalar.muli v5 c2_i32_191
  let v241 : BitVec 32 := Scalar.addi v239 v240
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_45 v8
  let c1_i32_192 : BitVec 32 := 1#32
  let v242 : BitVec 32 := Scalar.muli v53 c1_i32_192
  let v243 : BitVec 32 := Scalar.addi v241 v242
  v243.toNat
def k0_dev14 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v252 : BitVec 32 := Scalar.muli v2 c4_i32_199
  let v253 : BitVec 32 := Scalar.addi c0_i32_200 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v254 : BitVec 32 := Scalar.muli v5 c2_i32_201
  let v255 : BitVec 32 := Scalar.addi v253 v254
  let c1_i32_46 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_46 v8
  let c1_i32_202 : BitVec 32 := 1#32
  let v256 : BitVec 32 := Scalar.muli v54 c1_i32_202
  let v257 : BitVec 32 := Scalar.addi v255 v256
  v257.toNat
def k0_dev15 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v266 : BitVec 32 := Scalar.muli v2 c4_i32_209
  let v267 : BitVec 32 := Scalar.addi c0_i32_210 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v268 : BitVec 32 := Scalar.muli v5 c2_i32_211
  let v269 : BitVec 32 := Scalar.addi v267 v268
  let c1_i32_47 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v55 : BitVec 32 := Scalar.subi c1_i32_47 v8
  let c1_i32_212 : BitVec 32 := 1#32
  let v270 : BitVec 32 := Scalar.muli v55 c1_i32_212
  let v271 : BitVec 32 := Scalar.addi v269 v270
  v271.toNat
def k0_dev16 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v280 : BitVec 32 := Scalar.muli v2 c4_i32_219
  let v281 : BitVec 32 := Scalar.addi c0_i32_220 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v282 : BitVec 32 := Scalar.muli v5 c2_i32_221
  let v283 : BitVec 32 := Scalar.addi v281 v282
  let c1_i32_48 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_48 v8
  let c1_i32_222 : BitVec 32 := 1#32
  let v284 : BitVec 32 := Scalar.muli v56 c1_i32_222
  let v285 : BitVec 32 := Scalar.addi v283 v284
  v285.toNat
def k0_off5 (d0 : Dev nD) (c0_i32_50 : BitVec 32) : Fin 3 → Nat :=
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_49 v8
  let v58 : BitVec 32 := Scalar.addi c0_i32_50 v57
  let c0_i32_235 : BitVec 32 := 0#32
  let c0_i32_236 : BitVec 32 := 0#32
  ![v58.toNat, 0, 0]
def k0_dev17 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v294 : BitVec 32 := Scalar.muli v2 c4_i32_229
  let v295 : BitVec 32 := Scalar.addi c0_i32_230 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v296 : BitVec 32 := Scalar.muli v5 c2_i32_231
  let v297 : BitVec 32 := Scalar.addi v295 v296
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_57 v8
  let c1_i32_232 : BitVec 32 := 1#32
  let v298 : BitVec 32 := Scalar.muli v65 c1_i32_232
  let v299 : BitVec 32 := Scalar.addi v297 v298
  v299.toNat
def k0_dev18 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v308 : BitVec 32 := Scalar.muli v2 c4_i32_239
  let v309 : BitVec 32 := Scalar.addi c0_i32_240 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v310 : BitVec 32 := Scalar.muli v5 c2_i32_241
  let v311 : BitVec 32 := Scalar.addi v309 v310
  let c1_i32_58 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v66 : BitVec 32 := Scalar.subi c1_i32_58 v8
  let c1_i32_242 : BitVec 32 := 1#32
  let v312 : BitVec 32 := Scalar.muli v66 c1_i32_242
  let v313 : BitVec 32 := Scalar.addi v311 v312
  v313.toNat
def k0_dev19 (d0 : Dev nD) : Nat :=
  let c0_i32_250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_249 : BitVec 32 := 4#32
  let v322 : BitVec 32 := Scalar.muli v2 c4_i32_249
  let v323 : BitVec 32 := Scalar.addi c0_i32_250 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v324 : BitVec 32 := Scalar.muli v5 c2_i32_251
  let v325 : BitVec 32 := Scalar.addi v323 v324
  let c1_i32_59 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_59 v8
  let c1_i32_252 : BitVec 32 := 1#32
  let v326 : BitVec 32 := Scalar.muli v67 c1_i32_252
  let v327 : BitVec 32 := Scalar.addi v325 v326
  v327.toNat
def k0_dev20 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v336 : BitVec 32 := Scalar.muli v2 c4_i32_259
  let v337 : BitVec 32 := Scalar.addi c0_i32_260 v336
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v338 : BitVec 32 := Scalar.muli v5 c2_i32_261
  let v339 : BitVec 32 := Scalar.addi v337 v338
  let c1_i32_60 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v68 : BitVec 32 := Scalar.subi c1_i32_60 v8
  let c1_i32_262 : BitVec 32 := 1#32
  let v340 : BitVec 32 := Scalar.muli v68 c1_i32_262
  let v341 : BitVec 32 := Scalar.addi v339 v340
  v341.toNat
def k0_dev21 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v350 : BitVec 32 := Scalar.muli v2 c4_i32_268
  let v351 : BitVec 32 := Scalar.addi c0_i32_269 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v352 : BitVec 32 := Scalar.muli v5 c2_i32_270
  let v353 : BitVec 32 := Scalar.addi v351 v352
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v69 : BitVec 32 := Scalar.subi c1_i32_61 v8
  let c1_i32_271 : BitVec 32 := 1#32
  let v354 : BitVec 32 := Scalar.muli v69 c1_i32_271
  let v355 : BitVec 32 := Scalar.addi v353 v354
  v355.toNat
-- ==== SiblingRef.lean ====
abbrev S64x2048x448 : Shape := ⟨3, ![64, 2048, 448]⟩
abbrev S64x2048x648 : Shape := ⟨3, ![64, 2048, 648]⟩
abbrev S64x4096x704 : Shape := ⟨3, ![64, 4096, 704]⟩
abbrev S64x2176x1024 : Shape := ⟨3, ![64, 2176, 1024]⟩
abbrev S64x112x128 : Shape := ⟨3, ![64, 112, 128]⟩
abbrev S3008x128 : Shape := ⟨2, ![3008, 128]⟩
abbrev S4x2x4x2x2048x448 : Shape := ⟨6, ![4, 2, 4, 2, 2048, 448]⟩
abbrev S4x1x4x1x2048x448 : Shape := ⟨6, ![4, 1, 4, 1, 2048, 448]⟩
abbrev S4x4x2048x448 : Shape := ⟨4, ![4, 4, 2048, 448]⟩
abbrev S4x1x4x2048x448 : Shape := ⟨5, ![4, 1, 4, 2048, 448]⟩
abbrev S4x2x4x2048x448 : Shape := ⟨5, ![4, 2, 4, 2048, 448]⟩
abbrev S32x2048x448 : Shape := ⟨3, ![32, 2048, 448]⟩
abbrev S4x2x4x2x2048x648 : Shape := ⟨6, ![4, 2, 4, 2, 2048, 648]⟩
abbrev S4x1x4x1x2048x648 : Shape := ⟨6, ![4, 1, 4, 1, 2048, 648]⟩
abbrev S4x4x2048x648 : Shape := ⟨4, ![4, 4, 2048, 648]⟩
abbrev S4x1x4x2048x648 : Shape := ⟨5, ![4, 1, 4, 2048, 648]⟩
abbrev S4x2x4x2048x648 : Shape := ⟨5, ![4, 2, 4, 2048, 648]⟩
abbrev S32x2048x648 : Shape := ⟨3, ![32, 2048, 648]⟩
abbrev S4x2x4x2x4096x704 : Shape := ⟨6, ![4, 2, 4, 2, 4096, 704]⟩
abbrev S4x1x4x1x4096x704 : Shape := ⟨6, ![4, 1, 4, 1, 4096, 704]⟩
abbrev S4x4x4096x704 : Shape := ⟨4, ![4, 4, 4096, 704]⟩
abbrev S4x1x4x4096x704 : Shape := ⟨5, ![4, 1, 4, 4096, 704]⟩
abbrev S4x2x4x4096x704 : Shape := ⟨5, ![4, 2, 4, 4096, 704]⟩
abbrev S32x4096x704 : Shape := ⟨3, ![32, 4096, 704]⟩
abbrev S4x2x4x2x2176x1024 : Shape := ⟨6, ![4, 2, 4, 2, 2176, 1024]⟩
abbrev S4x1x4x1x2176x1024 : Shape := ⟨6, ![4, 1, 4, 1, 2176, 1024]⟩
abbrev S4x4x2176x1024 : Shape := ⟨4, ![4, 4, 2176, 1024]⟩
abbrev S4x1x4x2176x1024 : Shape := ⟨5, ![4, 1, 4, 2176, 1024]⟩
abbrev S4x2x4x2176x1024 : Shape := ⟨5, ![4, 2, 4, 2176, 1024]⟩
abbrev S32x2176x1024 : Shape := ⟨3, ![32, 2176, 1024]⟩
abbrev S4x2x4x2x112x128 : Shape := ⟨6, ![4, 2, 4, 2, 112, 128]⟩
abbrev S4x1x4x1x112x128 : Shape := ⟨6, ![4, 1, 4, 1, 112, 128]⟩
abbrev S4x4x112x128 : Shape := ⟨4, ![4, 4, 112, 128]⟩
abbrev S4x1x4x112x128 : Shape := ⟨5, ![4, 1, 4, 112, 128]⟩
abbrev S4x2x4x112x128 : Shape := ⟨5, ![4, 2, 4, 112, 128]⟩
abbrev S32x112x128 : Shape := ⟨3, ![32, 112, 128]⟩
abbrev S4x2x376x128 : Shape := ⟨4, ![4, 2, 376, 128]⟩

abbrev nBuf : Space → Nat
  | .hbm => 54
  | .vmem => 0
  | .smem => 0
  | _ => 0

abbrev bufTy : (tb : Table) → Fin (tcTables nBuf tb) → BufTy
  | .hbm, ⟨0, _⟩ => ⟨S64x2048x448, .bf16⟩
  | .hbm, ⟨1, _⟩ => ⟨S64x2048x648, .bf16⟩
  | .hbm, ⟨2, _⟩ => ⟨S64x4096x704, .bf16⟩
  | .hbm, ⟨3, _⟩ => ⟨S64x2176x1024, .bf16⟩
  | .hbm, ⟨4, _⟩ => ⟨S64x112x128, .f32⟩
  | .hbm, ⟨5, _⟩ => ⟨S3008x128, .f32⟩
  | .hbm, ⟨6, _⟩ => ⟨S4x2x4x2x2048x448, .bf16⟩
  | .hbm, ⟨7, _⟩ => ⟨S4x1x4x1x2048x448, .bf16⟩
  | .hbm, ⟨8, _⟩ => ⟨S4x4x2048x448, .bf16⟩
  | .hbm, ⟨9, _⟩ => ⟨S4x1x4x1x2048x448, .bf16⟩
  | .hbm, ⟨10, _⟩ => ⟨S4x4x2048x448, .bf16⟩
  | .hbm, ⟨11, _⟩ => ⟨S4x1x4x2048x448, .bf16⟩
  | .hbm, ⟨12, _⟩ => ⟨S4x1x4x2048x448, .bf16⟩
  | .hbm, ⟨13, _⟩ => ⟨S4x2x4x2048x448, .bf16⟩
  | .hbm, ⟨14, _⟩ => ⟨S32x2048x448, .bf16⟩
  | .hbm, ⟨15, _⟩ => ⟨S4x2x4x2x2048x648, .bf16⟩
  | .hbm, ⟨16, _⟩ => ⟨S4x1x4x1x2048x648, .bf16⟩
  | .hbm, ⟨17, _⟩ => ⟨S4x4x2048x648, .bf16⟩
  | .hbm, ⟨18, _⟩ => ⟨S4x1x4x1x2048x648, .bf16⟩
  | .hbm, ⟨19, _⟩ => ⟨S4x4x2048x648, .bf16⟩
  | .hbm, ⟨20, _⟩ => ⟨S4x1x4x2048x648, .bf16⟩
  | .hbm, ⟨21, _⟩ => ⟨S4x1x4x2048x648, .bf16⟩
  | .hbm, ⟨22, _⟩ => ⟨S4x2x4x2048x648, .bf16⟩
  | .hbm, ⟨23, _⟩ => ⟨S32x2048x648, .bf16⟩
  | .hbm, ⟨24, _⟩ => ⟨S4x2x4x2x4096x704, .bf16⟩
  | .hbm, ⟨25, _⟩ => ⟨S4x1x4x1x4096x704, .bf16⟩
  | .hbm, ⟨26, _⟩ => ⟨S4x4x4096x704, .bf16⟩
  | .hbm, ⟨27, _⟩ => ⟨S4x1x4x1x4096x704, .bf16⟩
  | .hbm, ⟨28, _⟩ => ⟨S4x4x4096x704, .bf16⟩
  | .hbm, ⟨29, _⟩ => ⟨S4x1x4x4096x704, .bf16⟩
  | .hbm, ⟨30, _⟩ => ⟨S4x1x4x4096x704, .bf16⟩
  | .hbm, ⟨31, _⟩ => ⟨S4x2x4x4096x704, .bf16⟩
  | .hbm, ⟨32, _⟩ => ⟨S32x4096x704, .bf16⟩
  | .hbm, ⟨33, _⟩ => ⟨S4x2x4x2x2176x1024, .bf16⟩
  | .hbm, ⟨34, _⟩ => ⟨S4x1x4x1x2176x1024, .bf16⟩
  | .hbm, ⟨35, _⟩ => ⟨S4x4x2176x1024, .bf16⟩
  | .hbm, ⟨36, _⟩ => ⟨S4x1x4x1x2176x1024, .bf16⟩
  | .hbm, ⟨37, _⟩ => ⟨S4x4x2176x1024, .bf16⟩
  | .hbm, ⟨38, _⟩ => ⟨S4x1x4x2176x1024, .bf16⟩
  | .hbm, ⟨39, _⟩ => ⟨S4x1x4x2176x1024, .bf16⟩
  | .hbm, ⟨40, _⟩ => ⟨S4x2x4x2176x1024, .bf16⟩
  | .hbm, ⟨41, _⟩ => ⟨S32x2176x1024, .bf16⟩
  | .hbm, ⟨42, _⟩ => ⟨S4x2x4x2x112x128, .f32⟩
  | .hbm, ⟨43, _⟩ => ⟨S4x1x4x1x112x128, .f32⟩
  | .hbm, ⟨44, _⟩ => ⟨S4x4x112x128, .f32⟩
  | .hbm, ⟨45, _⟩ => ⟨S4x1x4x1x112x128, .f32⟩
  | .hbm, ⟨46, _⟩ => ⟨S4x4x112x128, .f32⟩
  | .hbm, ⟨47, _⟩ => ⟨S4x1x4x112x128, .f32⟩
  | .hbm, ⟨48, _⟩ => ⟨S4x1x4x112x128, .f32⟩
  | .hbm, ⟨49, _⟩ => ⟨S4x2x4x112x128, .f32⟩
  | .hbm, ⟨50, _⟩ => ⟨S32x112x128, .f32⟩
  | .hbm, ⟨51, _⟩ => ⟨S4x2x376x128, .f32⟩
  | .hbm, ⟨52, _⟩ => ⟨S4x2x376x128, .f32⟩
  | .hbm, ⟨53, _⟩ => ⟨S3008x128, .f32⟩
  | _, _ => ⟨S64x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== Chips.lean ====
abbrev S4x2048x448 : Shape := ⟨3, ![4, 2048, 448]⟩
abbrev S4x2048x648 : Shape := ⟨3, ![4, 2048, 648]⟩
abbrev S4x4096x704 : Shape := ⟨3, ![4, 4096, 704]⟩
abbrev S4x2176x1024 : Shape := ⟨3, ![4, 2176, 1024]⟩
abbrev S4x112x128 : Shape := ⟨3, ![4, 112, 128]⟩
abbrev S376x128 : Shape := ⟨2, ![376, 128]⟩
abbrev S4x376x128 : Shape := ⟨3, ![4, 376, 128]⟩
abbrev S18 : Shape := ⟨1, ![18]⟩
abbrev S6 : Shape := ⟨1, ![6]⟩
abbrev S1 : Shape := ⟨1, ![1]⟩
abbrev S_ : Shape := ⟨0, ![]⟩
abbrev S1x2048x448 : Shape := ⟨3, ![1, 2048, 448]⟩
abbrev S2048x448 : Shape := ⟨2, ![2048, 448]⟩
abbrev S1x2048x648 : Shape := ⟨3, ![1, 2048, 648]⟩
abbrev S2048x648 : Shape := ⟨2, ![2048, 648]⟩
abbrev S1x4096x704 : Shape := ⟨3, ![1, 4096, 704]⟩
abbrev S4096x704 : Shape := ⟨2, ![4096, 704]⟩
abbrev S1x2176x1024 : Shape := ⟨3, ![1, 2176, 1024]⟩
abbrev S2176x1024 : Shape := ⟨2, ![2176, 1024]⟩
abbrev S1x112x128 : Shape := ⟨3, ![1, 112, 128]⟩
abbrev S112x128 : Shape := ⟨2, ![112, 128]⟩
abbrev S1x376x128 : Shape := ⟨3, ![1, 376, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x448, .bf16⟩
  | .hbm, ⟨1, _⟩ => ⟨S4x2048x648, .bf16⟩
  | .hbm, ⟨2, _⟩ => ⟨S4x4096x704, .bf16⟩
  | .hbm, ⟨3, _⟩ => ⟨S4x2176x1024, .bf16⟩
  | .hbm, ⟨4, _⟩ => ⟨S4x112x128, .f32⟩
  | .hbm, ⟨5, _⟩ => ⟨S376x128, .f32⟩
  | .hbm, ⟨6, _⟩ => ⟨S4x2048x448, .bf16⟩
  | .hbm, ⟨7, _⟩ => ⟨S4x2048x648, .bf16⟩
  | .hbm, ⟨8, _⟩ => ⟨S4x4096x704, .bf16⟩
  | .hbm, ⟨9, _⟩ => ⟨S4x2176x1024, .bf16⟩
  | .hbm, ⟨10, _⟩ => ⟨S4x112x128, .f32⟩
  | .hbm, ⟨11, _⟩ => ⟨S4x376x128, .f32⟩
  | _, _ => ⟨S4x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_9 : BitVec 32 := 0#32
  let c0_i32_10 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_14 : BitVec 32 := 0#32
  let c0_i32_15 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_18 : BitVec 32 := 0#32
  let c0_i32_19 : BitVec 32 := 0#32
  ![v10.toNat, 0, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_23 : BitVec 32 := 0#32
  let c0_i32_24 : BitVec 32 := 0#32
  ![v10.toNat, 0, 0]
def k0_off6 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_27 : BitVec 32 := 0#32
  let c0_i32_28 : BitVec 32 := 0#32
  ![v10.toNat, 0, 0]
def k0_off7 (d0 : Dev nD) : Fin 3 → Nat :=
  let c2_i32_33 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v49 : BitVec 32 := Scalar.muli c2_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.addi v49 v5
  let c0_i32_42 : BitVec 32 := 0#32
  let c0_i32_43 : BitVec 32 := 0#32
  ![v50.toNat, 0, 0]
def k0_dev1 (d0 : Dev nD) : Nat :=
  let c0_i32_37 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let c4_i32_36 : BitVec 32 := 4#32
  let v51 : BitVec 32 := Scalar.muli v45 c4_i32_36
  let v52 : BitVec 32 := Scalar.addi c0_i32_37 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v53 : BitVec 32 := Scalar.muli v5 c2_i32_38
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v55 : BitVec 32 := Scalar.muli v8 c1_i32_39
  let v56 : BitVec 32 := Scalar.addi v54 v55
  v56.toNat
def k0_off8 (d0 : Dev nD) : Fin 3 → Nat :=
  let c2_i32_33 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v49 : BitVec 32 := Scalar.muli c2_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.addi v49 v5
  let c0_i32_52 : BitVec 32 := 0#32
  let c0_i32_53 : BitVec 32 := 0#32
  ![v50.toNat, 0, 0]
def k0_dev2 (d0 : Dev nD) : Nat :=
  let c0_i32_47 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let c4_i32_46 : BitVec 32 := 4#32
  let v65 : BitVec 32 := Scalar.muli v45 c4_i32_46
  let v66 : BitVec 32 := Scalar.addi c0_i32_47 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v67 : BitVec 32 := Scalar.muli v5 c2_i32_48
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v69 : BitVec 32 := Scalar.muli v8 c1_i32_49
  let v70 : BitVec 32 := Scalar.addi v68 v69
  v70.toNat
def k0_off9 (d0 : Dev nD) : Fin 3 → Nat :=
  let c2_i32_33 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v49 : BitVec 32 := Scalar.muli c2_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.addi v49 v5
  let c0_i32_61 : BitVec 32 := 0#32
  let c0_i32_62 : BitVec 32 := 0#32
  ![v50.toNat, 0, 0]
def k0_dev3 (d0 : Dev nD) : Nat :=
  let c0_i32_56 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let c4_i32_55 : BitVec 32 := 4#32
  let v79 : BitVec 32 := Scalar.muli v45 c4_i32_55
  let v80 : BitVec 32 := Scalar.addi c0_i32_56 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v81 : BitVec 32 := Scalar.muli v5 c2_i32_57
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v83 : BitVec 32 := Scalar.muli v8 c1_i32_58
  let v84 : BitVec 32 := Scalar.addi v82 v83
  v84.toNat
def k0_off10 (d0 : Dev nD) : Fin 3 → Nat :=
  let c2_i32_33 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v49 : BitVec 32 := Scalar.muli c2_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.addi v49 v5
  let c0_i32_70 : BitVec 32 := 0#32
  let c0_i32_71 : BitVec 32 := 0#32
  ![v50.toNat, 0, 0]
def k0_dev4 (d0 : Dev nD) : Nat :=
  let c0_i32_65 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let c4_i32_64 : BitVec 32 := 4#32
  let v93 : BitVec 32 := Scalar.muli v45 c4_i32_64
  let v94 : BitVec 32 := Scalar.addi c0_i32_65 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v95 : BitVec 32 := Scalar.muli v5 c2_i32_66
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v97 : BitVec 32 := Scalar.muli v8 c1_i32_67
  let v98 : BitVec 32 := Scalar.addi v96 v97
  v98.toNat
def k0_off11 (d0 : Dev nD) : Fin 3 → Nat :=
  let c2_i32_33 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v49 : BitVec 32 := Scalar.muli c2_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.addi v49 v5
  let c0_i32_79 : BitVec 32 := 0#32
  let c0_i32_80 : BitVec 32 := 0#32
  ![v50.toNat, 0, 0]
def k0_dev5 (d0 : Dev nD) : Nat :=
  let c0_i32_74 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let c4_i32_73 : BitVec 32 := 4#32
  let v107 : BitVec 32 := Scalar.muli v45 c4_i32_73
  let v108 : BitVec 32 := Scalar.addi c0_i32_74 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v109 : BitVec 32 := Scalar.muli v5 c2_i32_75
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v111 : BitVec 32 := Scalar.muli v8 c1_i32_76
  let v112 : BitVec 32 := Scalar.addi v110 v111
  v112.toNat
def k0_dev6 (d0 : Dev nD) : Nat :=
  let c0_i32_83 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let c4_i32_82 : BitVec 32 := 4#32
  let v121 : BitVec 32 := Scalar.muli v45 c4_i32_82
  let v122 : BitVec 32 := Scalar.addi c0_i32_83 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v123 : BitVec 32 := Scalar.muli v5 c2_i32_84
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v125 : BitVec 32 := Scalar.muli v8 c1_i32_85
  let v126 : BitVec 32 := Scalar.addi v124 v125
  v126.toNat
def k0_off12 (d0 : Dev nD) : Fin 3 → Nat :=
  let c2_i32_88 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.muli c2_i32_88 v2
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let v134 : BitVec 32 := Scalar.addi v133 v46
  let c0_i32_97 : BitVec 32 := 0#32
  let c0_i32_98 : BitVec 32 := 0#32
  ![v134.toNat, 0, 0]
def k0_dev7 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v135 : BitVec 32 := Scalar.muli v2 c4_i32_91
  let v136 : BitVec 32 := Scalar.addi c0_i32_92 v135
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let c2_i32_93 : BitVec 32 := 2#32
  let v137 : BitVec 32 := Scalar.muli v46 c2_i32_93
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v139 : BitVec 32 := Scalar.muli v8 c1_i32_94
  let v140 : BitVec 32 := Scalar.addi v138 v139
  v140.toNat
def k0_off13 (d0 : Dev nD) : Fin 3 → Nat :=
  let c2_i32_88 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.muli c2_i32_88 v2
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let v134 : BitVec 32 := Scalar.addi v133 v46
  let c0_i32_107 : BitVec 32 := 0#32
  let c0_i32_108 : BitVec 32 := 0#32
  ![v134.toNat, 0, 0]
def k0_dev8 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v149 : BitVec 32 := Scalar.muli v2 c4_i32_101
  let v150 : BitVec 32 := Scalar.addi c0_i32_102 v149
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let c2_i32_103 : BitVec 32 := 2#32
  let v151 : BitVec 32 := Scalar.muli v46 c2_i32_103
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v153 : BitVec 32 := Scalar.muli v8 c1_i32_104
  let v154 : BitVec 32 := Scalar.addi v152 v153
  v154.toNat
def k0_off14 (d0 : Dev nD) : Fin 3 → Nat :=
  let c2_i32_88 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.muli c2_i32_88 v2
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let v134 : BitVec 32 := Scalar.addi v133 v46
  let c0_i32_116 : BitVec 32 := 0#32
  let c0_i32_117 : BitVec 32 := 0#32
  ![v134.toNat, 0, 0]
def k0_dev9 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v163 : BitVec 32 := Scalar.muli v2 c4_i32_110
  let v164 : BitVec 32 := Scalar.addi c0_i32_111 v163
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let c2_i32_112 : BitVec 32 := 2#32
  let v165 : BitVec 32 := Scalar.muli v46 c2_i32_112
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v167 : BitVec 32 := Scalar.muli v8 c1_i32_113
  let v168 : BitVec 32 := Scalar.addi v166 v167
  v168.toNat
def k0_off15 (d0 : Dev nD) : Fin 3 → Nat :=
  let c2_i32_88 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.muli c2_i32_88 v2
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let v134 : BitVec 32 := Scalar.addi v133 v46
  let c0_i32_125 : BitVec 32 := 0#32
  let c0_i32_126 : BitVec 32 := 0#32
  ![v134.toNat, 0, 0]
def k0_dev10 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v177 : BitVec 32 := Scalar.muli v2 c4_i32_119
  let v178 : BitVec 32 := Scalar.addi c0_i32_120 v177
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let c2_i32_121 : BitVec 32 := 2#32
  let v179 : BitVec 32 := Scalar.muli v46 c2_i32_121
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v181 : BitVec 32 := Scalar.muli v8 c1_i32_122
  let v182 : BitVec 32 := Scalar.addi v180 v181
  v182.toNat
def k0_off16 (d0 : Dev nD) : Fin 3 → Nat :=
  let c2_i32_88 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.muli c2_i32_88 v2
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let v134 : BitVec 32 := Scalar.addi v133 v46
  let c0_i32_134 : BitVec 32 := 0#32
  let c0_i32_135 : BitVec 32 := 0#32
  ![v134.toNat, 0, 0]
def k0_dev11 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v191 : BitVec 32 := Scalar.muli v2 c4_i32_128
  let v192 : BitVec 32 := Scalar.addi c0_i32_129 v191
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let c2_i32_130 : BitVec 32 := 2#32
  let v193 : BitVec 32 := Scalar.muli v46 c2_i32_130
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v195 : BitVec 32 := Scalar.muli v8 c1_i32_131
  let v196 : BitVec 32 := Scalar.addi v194 v195
  v196.toNat
def k0_dev12 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_137 : BitVec 32 := 4#32
  let v205 : BitVec 32 := Scalar.muli v2 c4_i32_137
  let v206 : BitVec 32 := Scalar.addi c0_i32_138 v205
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let c2_i32_139 : BitVec 32 := 2#32
  let v207 : BitVec 32 := Scalar.muli v46 c2_i32_139
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v209 : BitVec 32 := Scalar.muli v8 c1_i32_140
  let v210 : BitVec 32 := Scalar.addi v208 v209
  v210.toNat
def k0_off17 (d0 : Dev nD) : Fin 3 → Nat :=
  let c2_i32_143 : BitVec 32 := 2#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let v217 : BitVec 32 := Scalar.muli c2_i32_143 v47
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let v218 : BitVec 32 := Scalar.addi v217 v48
  let c0_i32_152 : BitVec 32 := 0#32
  let c0_i32_153 : BitVec 32 := 0#32
  ![v218.toNat, 0, 0]
def k0_dev13 (d0 : Dev nD) : Nat :=
  let c0_i32_147 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let c4_i32_146 : BitVec 32 := 4#32
  let v219 : BitVec 32 := Scalar.muli v47 c4_i32_146
  let v220 : BitVec 32 := Scalar.addi c0_i32_147 v219
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let c2_i32_148 : BitVec 32 := 2#32
  let v221 : BitVec 32 := Scalar.muli v48 c2_i32_148
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v223 : BitVec 32 := Scalar.muli v8 c1_i32_149
  let v224 : BitVec 32 := Scalar.addi v222 v223
  v224.toNat
def k0_off18 (d0 : Dev nD) : Fin 3 → Nat :=
  let c2_i32_143 : BitVec 32 := 2#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let v217 : BitVec 32 := Scalar.muli c2_i32_143 v47
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let v218 : BitVec 32 := Scalar.addi v217 v48
  let c0_i32_162 : BitVec 32 := 0#32
  let c0_i32_163 : BitVec 32 := 0#32
  ![v218.toNat, 0, 0]
def k0_dev14 (d0 : Dev nD) : Nat :=
  let c0_i32_157 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let c4_i32_156 : BitVec 32 := 4#32
  let v233 : BitVec 32 := Scalar.muli v47 c4_i32_156
  let v234 : BitVec 32 := Scalar.addi c0_i32_157 v233
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let c2_i32_158 : BitVec 32 := 2#32
  let v235 : BitVec 32 := Scalar.muli v48 c2_i32_158
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v237 : BitVec 32 := Scalar.muli v8 c1_i32_159
  let v238 : BitVec 32 := Scalar.addi v236 v237
  v238.toNat
def k0_off19 (d0 : Dev nD) : Fin 3 → Nat :=
  let c2_i32_143 : BitVec 32 := 2#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let v217 : BitVec 32 := Scalar.muli c2_i32_143 v47
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let v218 : BitVec 32 := Scalar.addi v217 v48
  let c0_i32_171 : BitVec 32 := 0#32
  let c0_i32_172 : BitVec 32 := 0#32
  ![v218.toNat, 0, 0]
def k0_dev15 (d0 : Dev nD) : Nat :=
  let c0_i32_166 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let c4_i32_165 : BitVec 32 := 4#32
  let v247 : BitVec 32 := Scalar.muli v47 c4_i32_165
  let v248 : BitVec 32 := Scalar.addi c0_i32_166 v247
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let c2_i32_167 : BitVec 32 := 2#32
  let v249 : BitVec 32 := Scalar.muli v48 c2_i32_167
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v251 : BitVec 32 := Scalar.muli v8 c1_i32_168
  let v252 : BitVec 32 := Scalar.addi v250 v251
  v252.toNat
def k0_off20 (d0 : Dev nD) : Fin 3 → Nat :=
  let c2_i32_143 : BitVec 32 := 2#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let v217 : BitVec 32 := Scalar.muli c2_i32_143 v47
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let v218 : BitVec 32 := Scalar.addi v217 v48
  let c0_i32_180 : BitVec 32 := 0#32
  let c0_i32_181 : BitVec 32 := 0#32
  ![v218.toNat, 0, 0]
def k0_dev16 (d0 : Dev nD) : Nat :=
  let c0_i32_175 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let c4_i32_174 : BitVec 32 := 4#32
  let v261 : BitVec 32 := Scalar.muli v47 c4_i32_174
  let v262 : BitVec 32 := Scalar.addi c0_i32_175 v261
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let c2_i32_176 : BitVec 32 := 2#32
  let v263 : BitVec 32 := Scalar.muli v48 c2_i32_176
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v265 : BitVec 32 := Scalar.muli v8 c1_i32_177
  let v266 : BitVec 32 := Scalar.addi v264 v265
  v266.toNat
def k0_off21 (d0 : Dev nD) : Fin 3 → Nat :=
  let c2_i32_143 : BitVec 32 := 2#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let v217 : BitVec 32 := Scalar.muli c2_i32_143 v47
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let v218 : BitVec 32 := Scalar.addi v217 v48
  let c0_i32_189 : BitVec 32 := 0#32
  let c0_i32_190 : BitVec 32 := 0#32
  ![v218.toNat, 0, 0]
def k0_dev17 (d0 : Dev nD) : Nat :=
  let c0_i32_184 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let c4_i32_183 : BitVec 32 := 4#32
  let v275 : BitVec 32 := Scalar.muli v47 c4_i32_183
  let v276 : BitVec 32 := Scalar.addi c0_i32_184 v275
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let c2_i32_185 : BitVec 32 := 2#32
  let v277 : BitVec 32 := Scalar.muli v48 c2_i32_185
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v279 : BitVec 32 := Scalar.muli v8 c1_i32_186
  let v280 : BitVec 32 := Scalar.addi v278 v279
  v280.toNat
def k0_dev18 (d0 : Dev nD) : Nat :=
  let c0_i32_193 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let c4_i32_192 : BitVec 32 := 4#32
  let v289 : BitVec 32 := Scalar.muli v47 c4_i32_192
  let v290 : BitVec 32 := Scalar.addi c0_i32_193 v289
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let c2_i32_194 : BitVec 32 := 2#32
  let v291 : BitVec 32 := Scalar.muli v48 c2_i32_194
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v293 : BitVec 32 := Scalar.muli v8 c1_i32_195
  let v294 : BitVec 32 := Scalar.addi v292 v293
  v294.toNat
def k0_off22 (d0 : Dev nD) : Fin 3 → Nat :=
  let c2_i32_33 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v49 : BitVec 32 := Scalar.muli c2_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.addi v49 v5
  let c0_i32_254 : BitVec 32 := 0#32
  let c0_i32_255 : BitVec 32 := 0#32
  ![v50.toNat, 0, 0]
def k0_off23 (d0 : Dev nD) : Fin 3 → Nat :=
  let c2_i32_88 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.muli c2_i32_88 v2
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.subi c1_i32_30 v5
  let v134 : BitVec 32 := Scalar.addi v133 v46
  let c0_i32_312 : BitVec 32 := 0#32
  let c0_i32_313 : BitVec 32 := 0#32
  ![v134.toNat, 0, 0]
def k0_off24 (d0 : Dev nD) : Fin 3 → Nat :=
  let c2_i32_143 : BitVec 32 := 2#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_31 v2
  let v217 : BitVec 32 := Scalar.muli c2_i32_143 v47
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_32 v5
  let v218 : BitVec 32 := Scalar.addi v217 v48
  let c0_i32_370 : BitVec 32 := 0#32
  let c0_i32_371 : BitVec 32 := 0#32
  ![v218.toNat, 0, 0]
-- ==== ChipsRef.lean ====
abbrev S32x2048x448 : Shape := ⟨3, ![32, 2048, 448]⟩
abbrev S32x2048x648 : Shape := ⟨3, ![32, 2048, 648]⟩
abbrev S32x4096x704 : Shape := ⟨3, ![32, 4096, 704]⟩
abbrev S32x2176x1024 : Shape := ⟨3, ![32, 2176, 1024]⟩
abbrev S32x112x128 : Shape := ⟨3, ![32, 112, 128]⟩
abbrev S3008x128 : Shape := ⟨2, ![3008, 128]⟩
abbrev S4x2x4x2048x448 : Shape := ⟨5, ![4, 2, 4, 2048, 448]⟩
abbrev S4x2x4x2048x648 : Shape := ⟨5, ![4, 2, 4, 2048, 648]⟩
abbrev S4x2x4x4096x704 : Shape := ⟨5, ![4, 2, 4, 4096, 704]⟩
abbrev S4x2x4x2176x1024 : Shape := ⟨5, ![4, 2, 4, 2176, 1024]⟩
abbrev S4x2x4x112x128 : Shape := ⟨5, ![4, 2, 4, 112, 128]⟩
abbrev S4x2x376x128 : Shape := ⟨4, ![4, 2, 376, 128]⟩
abbrev S2x4x376x128 : Shape := ⟨4, ![2, 4, 376, 128]⟩
abbrev S1x2x4x376x128 : Shape := ⟨5, ![1, 2, 4, 376, 128]⟩
abbrev S4x2x4x376x128 : Shape := ⟨5, ![4, 2, 4, 376, 128]⟩
abbrev S32x376x128 : Shape := ⟨3, ![32, 376, 128]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x448, .bf16⟩
  | .hbm, ⟨1, _⟩ => ⟨S32x2048x648, .bf16⟩
  | .hbm, ⟨2, _⟩ => ⟨S32x4096x704, .bf16⟩
  | .hbm, ⟨3, _⟩ => ⟨S32x2176x1024, .bf16⟩
  | .hbm, ⟨4, _⟩ => ⟨S32x112x128, .f32⟩
  | .hbm, ⟨5, _⟩ => ⟨S3008x128, .f32⟩
  | .hbm, ⟨6, _⟩ => ⟨S4x2x4x2048x448, .bf16⟩
  | .hbm, ⟨7, _⟩ => ⟨S4x2x4x2048x448, .bf16⟩
  | .hbm, ⟨8, _⟩ => ⟨S32x2048x448, .bf16⟩
  | .hbm, ⟨9, _⟩ => ⟨S4x2x4x2048x648, .bf16⟩
  | .hbm, ⟨10, _⟩ => ⟨S4x2x4x2048x648, .bf16⟩
  | .hbm, ⟨11, _⟩ => ⟨S32x2048x648, .bf16⟩
  | .hbm, ⟨12, _⟩ => ⟨S4x2x4x4096x704, .bf16⟩
  | .hbm, ⟨13, _⟩ => ⟨S4x2x4x4096x704, .bf16⟩
  | .hbm, ⟨14, _⟩ => ⟨S32x4096x704, .bf16⟩
  | .hbm, ⟨15, _⟩ => ⟨S4x2x4x2176x1024, .bf16⟩
  | .hbm, ⟨16, _⟩ => ⟨S4x2x4x2176x1024, .bf16⟩
  | .hbm, ⟨17, _⟩ => ⟨S32x2176x1024, .bf16⟩
  | .hbm, ⟨18, _⟩ => ⟨S4x2x4x112x128, .f32⟩
  | .hbm, ⟨19, _⟩ => ⟨S4x2x4x112x128, .f32⟩
  | .hbm, ⟨20, _⟩ => ⟨S32x112x128, .f32⟩
  | .hbm, ⟨21, _⟩ => ⟨S4x2x376x128, .f32⟩
  | .hbm, ⟨22, _⟩ => ⟨S2x4x376x128, .f32⟩
  | .hbm, ⟨23, _⟩ => ⟨S1x2x4x376x128, .f32⟩
  | .hbm, ⟨24, _⟩ => ⟨S4x2x4x376x128, .f32⟩
  | .hbm, ⟨25, _⟩ => ⟨S32x376x128, .f32⟩
  | _, _ => ⟨S32x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== AdamwAb.lean ====
abbrev S4x2048x448 : Shape := ⟨3, ![4, 2048, 448]⟩
abbrev S2048x448 : Shape := ⟨2, ![2048, 448]⟩
abbrev S4x256x448 : Shape := ⟨3, ![4, 256, 448]⟩
abbrev S256x448 : Shape := ⟨2, ![256, 448]⟩
abbrev S1x256x448 : Shape := ⟨3, ![1, 256, 448]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x448, .bf16⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S2048x448, .f32⟩
  | .hbm, ⟨5, _⟩ => ⟨S2048x448, .f32⟩
  | .hbm, ⟨6, _⟩ => ⟨S2048x448, .f32⟩
  | .hbm, ⟨7, _⟩ => ⟨S2048x448, .f32⟩
  | .local _ .vmem, ⟨0, _⟩ => ⟨S4x256x448, .bf16⟩
  | .local _ .vmem, ⟨1, _⟩ => ⟨S4x256x448, .bf16⟩
  | .local _ .vmem, ⟨2, _⟩ => ⟨S256x448, .f32⟩
  | .local _ .vmem, ⟨3, _⟩ => ⟨S256x448, .f32⟩
  | .local _ .vmem, ⟨4, _⟩ => ⟨S256x448, .f32⟩
  | .local _ .vmem, ⟨5, _⟩ => ⟨S256x448, .f32⟩
  | .local _ .vmem, ⟨6, _⟩ => ⟨S256x448, .f32⟩
  | .local _ .vmem, ⟨7, _⟩ => ⟨S256x448, .f32⟩
  | .local _ .vmem, ⟨8, _⟩ => ⟨S256x448, .f32⟩
  | .local _ .vmem, ⟨9, _⟩ => ⟨S256x448, .f32⟩
  | .local _ .vmem, ⟨10, _⟩ => ⟨S256x448, .f32⟩
  | .local _ .vmem, ⟨11, _⟩ => ⟨S256x448, .f32⟩
  | .local _ .vmem, ⟨12, _⟩ => ⟨S256x448, .f32⟩
  | .local _ .vmem, ⟨13, _⟩ => ⟨S256x448, .f32⟩
  | .local _ .vmem, ⟨14, _⟩ => ⟨S256x448, .f32⟩
  | .local _ .vmem, ⟨15, _⟩ => ⟨S256x448, .f32⟩
  | _, _ => ⟨S4x2048x448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwAbRefIdeal.lean ====
abbrev S4x2048x448 : Shape := ⟨3, ![4, 2048, 448]⟩
abbrev S2048x448 : Shape := ⟨2, ![2048, 448]⟩
abbrev S1x2048x448 : Shape := ⟨3, ![1, 2048, 448]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x448, .bf16⟩
  | .hbm, ⟨1, _⟩ => ⟨S2048x448, .f32⟩
  | .hbm, ⟨2, _⟩ => ⟨S2048x448, .f32⟩
  | .hbm, ⟨3, _⟩ => ⟨S2048x448, .f32⟩
  | .hbm, ⟨4, _⟩ => ⟨S4x2048x448, .f32⟩
  | .hbm, ⟨5, _⟩ => ⟨S1x2048x448, .f32⟩
  | .hbm, ⟨6, _⟩ => ⟨S2048x448, .f32⟩
  | .hbm, ⟨7, _⟩ => ⟨S1x2048x448, .f32⟩
  | .hbm, ⟨8, _⟩ => ⟨S2048x448, .f32⟩
  | .hbm, ⟨9, _⟩ => ⟨S1x2048x448, .f32⟩
  | .hbm, ⟨10, _⟩ => ⟨S2048x448, .f32⟩
  | .hbm, ⟨11, _⟩ => ⟨S1x2048x448, .f32⟩
  | .hbm, ⟨12, _⟩ => ⟨S2048x448, .f32⟩
  | .hbm, ⟨13, _⟩ => ⟨S2048x448, .f32⟩
  | .hbm, ⟨14, _⟩ => ⟨S2048x448, .f32⟩
  | .hbm, ⟨15, _⟩ => ⟨S2048x448, .f32⟩
  | .hbm, ⟨16, _⟩ => ⟨S_, .f32⟩
  | .hbm, ⟨17, _⟩ => ⟨S2048x448, .f32⟩
  | .hbm, ⟨18, _⟩ => ⟨S2048x448, .f32⟩
  | .hbm, ⟨19, _⟩ => ⟨S_, .f32⟩
  | .hbm, ⟨20, _⟩ => ⟨S2048x448, .f32⟩
  | .hbm, ⟨21, _⟩ => ⟨S2048x448, .f32⟩
  | .hbm, ⟨22, _⟩ => ⟨S2048x448, .f32⟩
  | .hbm, ⟨23, _⟩ => ⟨S_, .f32⟩
  | .hbm, ⟨24, _⟩ => ⟨S2048x448, .f32⟩
  | .hbm, ⟨25, _⟩ => ⟨S2048x448, .f32⟩
  | .hbm, ⟨26, _⟩ => ⟨S2048x448, .f32⟩
  | .hbm, ⟨27, _⟩ => ⟨S_, .f32⟩
  | .hbm, ⟨28, _⟩ => ⟨S2048x448, .f32⟩
  | .hbm, ⟨29, _⟩ => ⟨S2048x448, .f32⟩
  | .hbm, ⟨30, _⟩ => ⟨S2048x448, .f32⟩
  | .hbm, ⟨31, _⟩ => ⟨S_, .f32⟩
  | .hbm, ⟨32, _⟩ => ⟨S2048x448, .f32⟩
  | .hbm, ⟨33, _⟩ => ⟨S2048x448, .f32⟩
  | .hbm, ⟨34, _⟩ => ⟨S_, .f32⟩
  | .hbm, ⟨35, _⟩ => ⟨S2048x448, .f32⟩
  | .hbm, ⟨36, _⟩ => ⟨S2048x448, .f32⟩
  | .hbm, ⟨37, _⟩ => ⟨S2048x448, .f32⟩
  | .hbm, ⟨38, _⟩ => ⟨S_, .f32⟩
  | .hbm, ⟨39, _⟩ => ⟨S2048x448, .f32⟩
  | .hbm, ⟨40, _⟩ => ⟨S2048x448, .f32⟩
  | .hbm, ⟨41, _⟩ => ⟨S2048x448, .f32⟩
  | .hbm, ⟨42, _⟩ => ⟨S_, .f32⟩
  | .hbm, ⟨43, _⟩ => ⟨S2048x448, .f32⟩
  | .hbm, ⟨44, _⟩ => ⟨S2048x448, .f32⟩
  | .hbm, ⟨45, _⟩ => ⟨S2048x448, .f32⟩
  | .hbm, ⟨46, _⟩ => ⟨S_, .f32⟩
  | .hbm, ⟨47, _⟩ => ⟨S2048x448, .f32⟩
  | .hbm, ⟨48, _⟩ => ⟨S2048x448, .f32⟩
  | _, _ => ⟨S4x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== AdamwC.lean ====
abbrev S4x2048x648 : Shape := ⟨3, ![4, 2048, 648]⟩
abbrev S2048x648 : Shape := ⟨2, ![2048, 648]⟩
abbrev S4x256x648 : Shape := ⟨3, ![4, 256, 648]⟩
abbrev S256x648 : Shape := ⟨2, ![256, 648]⟩
abbrev S1x256x648 : Shape := ⟨3, ![1, 256, 648]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x648, .bf16⟩
  | .hbm, ⟨1, _⟩ => ⟨S2048x648, .f32⟩
  | .hbm, ⟨2, _⟩ => ⟨S2048x648, .f32⟩
  | .hbm, ⟨3, _⟩ => ⟨S2048x648, .f32⟩
  | .hbm, ⟨4, _⟩ => ⟨S2048x648, .f32⟩
  | .hbm, ⟨5, _⟩ => ⟨S2048x648, .f32⟩
  | .hbm, ⟨6, _⟩ => ⟨S2048x648, .f32⟩
  | .hbm, ⟨7, _⟩ => ⟨S2048x648, .f32⟩
  | .local _ .vmem, ⟨0, _⟩ => ⟨S4x256x648, .bf16⟩
  | .local _ .vmem, ⟨1, _⟩ => ⟨S4x256x648, .bf16⟩
  | .local _ .vmem, ⟨2, _⟩ => ⟨S256x648, .f32⟩
  | .local _ .vmem, ⟨3, _⟩ => ⟨S256x648, .f32⟩
  | .local _ .vmem, ⟨4, _⟩ => ⟨S256x648, .f32⟩
  | .local _ .vmem, ⟨5, _⟩ => ⟨S256x648, .f32⟩
  | .local _ .vmem, ⟨6, _⟩ => ⟨S256x648, .f32⟩
  | .local _ .vmem, ⟨7, _⟩ => ⟨S256x648, .f32⟩
  | .local _ .vmem, ⟨8, _⟩ => ⟨S256x648, .f32⟩
  | .local _ .vmem, ⟨9, _⟩ => ⟨S256x648, .f32⟩
  | .local _ .vmem, ⟨10, _⟩ => ⟨S256x648, .f32⟩
  | .local _ .vmem, ⟨11, _⟩ => ⟨S256x648, .f32⟩
  | .local _ .vmem, ⟨12, _⟩ => ⟨S256x648, .f32⟩
  | .local _ .vmem, ⟨13, _⟩ => ⟨S256x648, .f32⟩
  | .local _ .vmem, ⟨14, _⟩ => ⟨S256x648, .f32⟩
  | .local _ .vmem, ⟨15, _⟩ => ⟨S256x648, .f32⟩
  | _, _ => ⟨S4x2048x648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwCRefIdeal.lean ====
abbrev S4x2048x648 : Shape := ⟨3, ![4, 2048, 648]⟩
abbrev S2048x648 : Shape := ⟨2, ![2048, 648]⟩
abbrev S1x2048x648 : Shape := ⟨3, ![1, 2048, 648]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x648, .bf16⟩
  | .hbm, ⟨1, _⟩ => ⟨S2048x648, .f32⟩
  | .hbm, ⟨2, _⟩ => ⟨S2048x648, .f32⟩
  | .hbm, ⟨3, _⟩ => ⟨S2048x648, .f32⟩
  | .hbm, ⟨4, _⟩ => ⟨S4x2048x648, .f32⟩
  | .hbm, ⟨5, _⟩ => ⟨S1x2048x648, .f32⟩
  | .hbm, ⟨6, _⟩ => ⟨S2048x648, .f32⟩
  | .hbm, ⟨7, _⟩ => ⟨S1x2048x648, .f32⟩
  | .hbm, ⟨8, _⟩ => ⟨S2048x648, .f32⟩
  | .hbm, ⟨9, _⟩ => ⟨S1x2048x648, .f32⟩
  | .hbm, ⟨10, _⟩ => ⟨S2048x648, .f32⟩
  | .hbm, ⟨11, _⟩ => ⟨S1x2048x648, .f32⟩
  | .hbm, ⟨12, _⟩ => ⟨S2048x648, .f32⟩
  | .hbm, ⟨13, _⟩ => ⟨S2048x648, .f32⟩
  | .hbm, ⟨14, _⟩ => ⟨S2048x648, .f32⟩
  | .hbm, ⟨15, _⟩ => ⟨S2048x648, .f32⟩
  | .hbm, ⟨16, _⟩ => ⟨S_, .f32⟩
  | .hbm, ⟨17, _⟩ => ⟨S2048x648, .f32⟩
  | .hbm, ⟨18, _⟩ => ⟨S2048x648, .f32⟩
  | .hbm, ⟨19, _⟩ => ⟨S_, .f32⟩
  | .hbm, ⟨20, _⟩ => ⟨S2048x648, .f32⟩
  | .hbm, ⟨21, _⟩ => ⟨S2048x648, .f32⟩
  | .hbm, ⟨22, _⟩ => ⟨S2048x648, .f32⟩
  | .hbm, ⟨23, _⟩ => ⟨S_, .f32⟩
  | .hbm, ⟨24, _⟩ => ⟨S2048x648, .f32⟩
  | .hbm, ⟨25, _⟩ => ⟨S2048x648, .f32⟩
  | .hbm, ⟨26, _⟩ => ⟨S2048x648, .f32⟩
  | .hbm, ⟨27, _⟩ => ⟨S_, .f32⟩
  | .hbm, ⟨28, _⟩ => ⟨S2048x648, .f32⟩
  | .hbm, ⟨29, _⟩ => ⟨S2048x648, .f32⟩
  | .hbm, ⟨30, _⟩ => ⟨S2048x648, .f32⟩
  | .hbm, ⟨31, _⟩ => ⟨S_, .f32⟩
  | .hbm, ⟨32, _⟩ => ⟨S2048x648, .f32⟩
  | .hbm, ⟨33, _⟩ => ⟨S2048x648, .f32⟩
  | .hbm, ⟨34, _⟩ => ⟨S_, .f32⟩
  | .hbm, ⟨35, _⟩ => ⟨S2048x648, .f32⟩
  | .hbm, ⟨36, _⟩ => ⟨S2048x648, .f32⟩
  | .hbm, ⟨37, _⟩ => ⟨S2048x648, .f32⟩
  | .hbm, ⟨38, _⟩ => ⟨S_, .f32⟩
  | .hbm, ⟨39, _⟩ => ⟨S2048x648, .f32⟩
  | .hbm, ⟨40, _⟩ => ⟨S2048x648, .f32⟩
  | .hbm, ⟨41, _⟩ => ⟨S2048x648, .f32⟩
  | .hbm, ⟨42, _⟩ => ⟨S_, .f32⟩
  | .hbm, ⟨43, _⟩ => ⟨S2048x648, .f32⟩
  | .hbm, ⟨44, _⟩ => ⟨S2048x648, .f32⟩
  | .hbm, ⟨45, _⟩ => ⟨S2048x648, .f32⟩
  | .hbm, ⟨46, _⟩ => ⟨S_, .f32⟩
  | .hbm, ⟨47, _⟩ => ⟨S2048x648, .f32⟩
  | .hbm, ⟨48, _⟩ => ⟨S2048x648, .f32⟩
  | _, _ => ⟨S4x2048x648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== AdamwUp.lean ====
abbrev S4x4096x704 : Shape := ⟨3, ![4, 4096, 704]⟩
abbrev S4096x704 : Shape := ⟨2, ![4096, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwUpRefIdeal.lean ====
abbrev S4x4096x704 : Shape := ⟨3, ![4, 4096, 704]⟩
abbrev S4096x704 : Shape := ⟨2, ![4096, 704]⟩
abbrev S1x4096x704 : Shape := ⟨3, ![1, 4096, 704]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4x4096x704, .f32⟩
  | .hbm, ⟨5, _⟩ => ⟨S1x4096x704, .f32⟩
  | .hbm, ⟨6, _⟩ => ⟨S4096x704, .f32⟩
  | .hbm, ⟨7, _⟩ => ⟨S1x4096x704, .f32⟩
  | .hbm, ⟨8, _⟩ => ⟨S4096x704, .f32⟩
  | .hbm, ⟨9, _⟩ => ⟨S1x4096x704, .f32⟩
  | .hbm, ⟨10, _⟩ => ⟨S4096x704, .f32⟩
  | .hbm, ⟨11, _⟩ => ⟨S1x4096x704, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S4096x704, .f32⟩
  | .hbm, ⟨16, _⟩ => ⟨S_, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S4096x704, .f32⟩
  | .hbm, ⟨23, _⟩ => ⟨S_, .f32⟩
  | .hbm, ⟨24, _⟩ => ⟨S4096x704, .f32⟩
  | .hbm, ⟨25, _⟩ => ⟨S4096x704, .f32⟩
  | .hbm, ⟨26, _⟩ => ⟨S4096x704, .f32⟩
  | .hbm, ⟨27, _⟩ => ⟨S_, .f32⟩
  | .hbm, ⟨28, _⟩ => ⟨S4096x704, .f32⟩
  | .hbm, ⟨29, _⟩ => ⟨S4096x704, .f32⟩
  | .hbm, ⟨30, _⟩ => ⟨S4096x704, .f32⟩
  | .hbm, ⟨31, _⟩ => ⟨S_, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | .hbm, ⟨37, _⟩ => ⟨S4096x704, .f32⟩
  | .hbm, ⟨38, _⟩ => ⟨S_, .f32⟩
  | .hbm, ⟨39, _⟩ => ⟨S4096x704, .f32⟩
  | .hbm, ⟨40, _⟩ => ⟨S4096x704, .f32⟩
  | .hbm, ⟨41, _⟩ => ⟨S4096x704, .f32⟩
  | .hbm, ⟨42, _⟩ => ⟨S_, .f32⟩
  | .hbm, ⟨43, _⟩ => ⟨S4096x704, .f32⟩
  | .hbm, ⟨44, _⟩ => ⟨S4096x704, .f32⟩
  | .hbm, ⟨45, _⟩ => ⟨S4096x704, .f32⟩
  | .hbm, ⟨46, _⟩ => ⟨S_, .f32⟩
  | .hbm, ⟨47, _⟩ => ⟨S4096x704, .f32⟩
  | .hbm, ⟨48, _⟩ => ⟨S4096x704, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== AdamwRows.lean ====
abbrev S4x2176x1024 : Shape := ⟨3, ![4, 2176, 1024]⟩
abbrev S2176x1024 : Shape := ⟨2, ![2176, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x2176x1024, .bf16⟩
  | .hbm, ⟨1, _⟩ => ⟨S2176x1024, .f32⟩
  | .hbm, ⟨2, _⟩ => ⟨S2176x1024, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S2176x1024, .f32⟩
  | .local _ .vmem, ⟨0, _⟩ => ⟨S4x64x1024, .bf16⟩
  | .local _ .vmem, ⟨1, _⟩ => ⟨S4x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S4x2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRowsRefIdeal.lean ====
abbrev S4x2176x1024 : Shape := ⟨3, ![4, 2176, 1024]⟩
abbrev S2176x1024 : Shape := ⟨2, ![2176, 1024]⟩
abbrev S1x2176x1024 : Shape := ⟨3, ![1, 2176, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x2176x1024, .bf16⟩
  | .hbm, ⟨1, _⟩ => ⟨S2176x1024, .f32⟩
  | .hbm, ⟨2, _⟩ => ⟨S2176x1024, .f32⟩
  | .hbm, ⟨3, _⟩ => ⟨S2176x1024, .f32⟩
  | .hbm, ⟨4, _⟩ => ⟨S4x2176x1024, .f32⟩
  | .hbm, ⟨5, _⟩ => ⟨S1x2176x1024, .f32⟩
  | .hbm, ⟨6, _⟩ => ⟨S2176x1024, .f32⟩
  | .hbm, ⟨7, _⟩ => ⟨S1x2176x1024, .f32⟩
  | .hbm, ⟨8, _⟩ => ⟨S2176x1024, .f32⟩
  | .hbm, ⟨9, _⟩ => ⟨S1x2176x1024, .f32⟩
  | .hbm, ⟨10, _⟩ => ⟨S2176x1024, .f32⟩
  | .hbm, ⟨11, _⟩ => ⟨S1x2176x1024, .f32⟩
  | .hbm, ⟨12, _⟩ => ⟨S2176x1024, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S_, .f32⟩
  | .hbm, ⟨17, _⟩ => ⟨S2176x1024, .f32⟩
  | .hbm, ⟨18, _⟩ => ⟨S2176x1024, .f32⟩
  | .hbm, ⟨19, _⟩ => ⟨S_, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S_, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S_, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S_, .f32⟩
  | .hbm, ⟨32, _⟩ => ⟨S2176x1024, .f32⟩
  | .hbm, ⟨33, _⟩ => ⟨S2176x1024, .f32⟩
  | .hbm, ⟨34, _⟩ => ⟨S_, .f32⟩
  | .hbm, ⟨35, _⟩ => ⟨S2176x1024, .f32⟩
  | .hbm, ⟨36, _⟩ => ⟨S2176x1024, .f32⟩
  | .hbm, ⟨37, _⟩ => ⟨S2176x1024, .f32⟩
  | .hbm, ⟨38, _⟩ => ⟨S_, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S_, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S_, .f32⟩
  | .hbm, ⟨47, _⟩ => ⟨S2176x1024, .f32⟩
  | .hbm, ⟨48, _⟩ => ⟨S2176x1024, .f32⟩
  | _, _ => ⟨S4x2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== AdamwSmall.lean ====
abbrev S4x112x128 : Shape := ⟨3, ![4, 112, 128]⟩
abbrev S112x128 : Shape := ⟨2, ![112, 128]⟩
abbrev S1x112x128 : Shape := ⟨3, ![1, 112, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S112x128, .f32⟩
  | .hbm, ⟨5, _⟩ => ⟨S112x128, .f32⟩
  | .hbm, ⟨6, _⟩ => ⟨S112x128, .f32⟩
  | .hbm, ⟨7, _⟩ => ⟨S112x128, .f32⟩
  | .local _ .vmem, ⟨0, _⟩ => ⟨S4x112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S112x128, .f32⟩
  | .local _ .vmem, ⟨7, _⟩ => ⟨S112x128, .f32⟩
  | _, _ => ⟨S4x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S112x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSmallRefIdeal.lean ====
abbrev S4x112x128 : Shape := ⟨3, ![4, 112, 128]⟩
abbrev S112x128 : Shape := ⟨2, ![112, 128]⟩
abbrev S1x112x128 : Shape := ⟨3, ![1, 112, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4x112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S1x112x128, .f32⟩
  | .hbm, ⟨5, _⟩ => ⟨S112x128, .f32⟩
  | .hbm, ⟨6, _⟩ => ⟨S1x112x128, .f32⟩
  | .hbm, ⟨7, _⟩ => ⟨S112x128, .f32⟩
  | .hbm, ⟨8, _⟩ => ⟨S1x112x128, .f32⟩
  | .hbm, ⟨9, _⟩ => ⟨S112x128, .f32⟩
  | .hbm, ⟨10, _⟩ => ⟨S1x112x128, .f32⟩
  | .hbm, ⟨11, _⟩ => ⟨S112x128, .f32⟩
  | .hbm, ⟨12, _⟩ => ⟨S112x128, .f32⟩
  | .hbm, ⟨13, _⟩ => ⟨S112x128, .f32⟩
  | .hbm, ⟨14, _⟩ => ⟨S112x128, .f32⟩
  | .hbm, ⟨15, _⟩ => ⟨S_, .f32⟩
  | .hbm, ⟨16, _⟩ => ⟨S112x128, .f32⟩
  | .hbm, ⟨17, _⟩ => ⟨S112x128, .f32⟩
  | .hbm, ⟨18, _⟩ => ⟨S_, .f32⟩
  | .hbm, ⟨19, _⟩ => ⟨S112x128, .f32⟩
  | .hbm, ⟨20, _⟩ => ⟨S112x128, .f32⟩
  | .hbm, ⟨21, _⟩ => ⟨S112x128, .f32⟩
  | .hbm, ⟨22, _⟩ => ⟨S_, .f32⟩
  | .hbm, ⟨23, _⟩ => ⟨S112x128, .f32⟩
  | .hbm, ⟨24, _⟩ => ⟨S112x128, .f32⟩
  | .hbm, ⟨25, _⟩ => ⟨S112x128, .f32⟩
  | .hbm, ⟨26, _⟩ => ⟨S_, .f32⟩
  | .hbm, ⟨27, _⟩ => ⟨S112x128, .f32⟩
  | .hbm, ⟨28, _⟩ => ⟨S112x128, .f32⟩
  | .hbm, ⟨29, _⟩ => ⟨S112x128, .f32⟩
  | .hbm, ⟨30, _⟩ => ⟨S_, .f32⟩
  | .hbm, ⟨31, _⟩ => ⟨S112x128, .f32⟩
  | .hbm, ⟨32, _⟩ => ⟨S112x128, .f32⟩
  | .hbm, ⟨33, _⟩ => ⟨S_, .f32⟩
  | .hbm, ⟨34, _⟩ => ⟨S112x128, .f32⟩
  | .hbm, ⟨35, _⟩ => ⟨S112x128, .f32⟩
  | .hbm, ⟨36, _⟩ => ⟨S112x128, .f32⟩
  | .hbm, ⟨37, _⟩ => ⟨S_, .f32⟩
  | .hbm, ⟨38, _⟩ => ⟨S112x128, .f32⟩
  | .hbm, ⟨39, _⟩ => ⟨S112x128, .f32⟩
  | .hbm, ⟨40, _⟩ => ⟨S112x128, .f32⟩
  | .hbm, ⟨41, _⟩ => ⟨S_, .f32⟩
  | .hbm, ⟨42, _⟩ => ⟨S112x128, .f32⟩
  | .hbm, ⟨43, _⟩ => ⟨S112x128, .f32⟩
  | .hbm, ⟨44, _⟩ => ⟨S112x128, .f32⟩
  | .hbm, ⟨45, _⟩ => ⟨S_, .f32⟩
  | .hbm, ⟨46, _⟩ => ⟨S112x128, .f32⟩
  | .hbm, ⟨47, _⟩ => ⟨S112x128, .f32⟩
  | _, _ => ⟨S4x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== AdamwRep.lean ====
abbrev S4x376x128 : Shape := ⟨3, ![4, 376, 128]⟩
abbrev S376x128 : Shape := ⟨2, ![376, 128]⟩
abbrev S1x376x128 : Shape := ⟨3, ![1, 376, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x376x128, .f32⟩
  | .hbm, ⟨1, _⟩ => ⟨S376x128, .f32⟩
  | .hbm, ⟨2, _⟩ => ⟨S376x128, .f32⟩
  | .hbm, ⟨3, _⟩ => ⟨S376x128, .f32⟩
  | .hbm, ⟨4, _⟩ => ⟨S376x128, .f32⟩
  | .hbm, ⟨5, _⟩ => ⟨S376x128, .f32⟩
  | .hbm, ⟨6, _⟩ => ⟨S376x128, .f32⟩
  | .hbm, ⟨7, _⟩ => ⟨S376x128, .f32⟩
  | .local _ .vmem, ⟨0, _⟩ => ⟨S4x376x128, .f32⟩
  | .local _ .vmem, ⟨1, _⟩ => ⟨S376x128, .f32⟩
  | .local _ .vmem, ⟨2, _⟩ => ⟨S376x128, .f32⟩
  | .local _ .vmem, ⟨3, _⟩ => ⟨S376x128, .f32⟩
  | .local _ .vmem, ⟨4, _⟩ => ⟨S376x128, .f32⟩
  | .local _ .vmem, ⟨5, _⟩ => ⟨S376x128, .f32⟩
  | .local _ .vmem, ⟨6, _⟩ => ⟨S376x128, .f32⟩
  | .local _ .vmem, ⟨7, _⟩ => ⟨S376x128, .f32⟩
  | _, _ => ⟨S4x376x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x376x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S376x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S376x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S376x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S376x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S376x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwRepRefIdeal.lean ====
abbrev S4x376x128 : Shape := ⟨3, ![4, 376, 128]⟩
abbrev S376x128 : Shape := ⟨2, ![376, 128]⟩
abbrev S1x376x128 : Shape := ⟨3, ![1, 376, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4x376x128, .f32⟩
  | .hbm, ⟨1, _⟩ => ⟨S376x128, .f32⟩
  | .hbm, ⟨2, _⟩ => ⟨S376x128, .f32⟩
  | .hbm, ⟨3, _⟩ => ⟨S376x128, .f32⟩
  | .hbm, ⟨4, _⟩ => ⟨S1x376x128, .f32⟩
  | .hbm, ⟨5, _⟩ => ⟨S376x128, .f32⟩
  | .hbm, ⟨6, _⟩ => ⟨S1x376x128, .f32⟩
  | .hbm, ⟨7, _⟩ => ⟨S376x128, .f32⟩
  | .hbm, ⟨8, _⟩ => ⟨S1x376x128, .f32⟩
  | .hbm, ⟨9, _⟩ => ⟨S376x128, .f32⟩
  | .hbm, ⟨10, _⟩ => ⟨S1x376x128, .f32⟩
  | .hbm, ⟨11, _⟩ => ⟨S376x128, .f32⟩
  | .hbm, ⟨12, _⟩ => ⟨S376x128, .f32⟩
  | .hbm, ⟨13, _⟩ => ⟨S376x128, .f32⟩
  | .hbm, ⟨14, _⟩ => ⟨S376x128, .f32⟩
  | .hbm, ⟨15, _⟩ => ⟨S_, .f32⟩
  | .hbm, ⟨16, _⟩ => ⟨S376x128, .f32⟩
  | .hbm, ⟨17, _⟩ => ⟨S376x128, .f32⟩
  | .hbm, ⟨18, _⟩ => ⟨S_, .f32⟩
  | .hbm, ⟨19, _⟩ => ⟨S376x128, .f32⟩
  | .hbm, ⟨20, _⟩ => ⟨S376x128, .f32⟩
  | .hbm, ⟨21, _⟩ => ⟨S376x128, .f32⟩
  | .hbm, ⟨22, _⟩ => ⟨S_, .f32⟩
  | .hbm, ⟨23, _⟩ => ⟨S376x128, .f32⟩
  | .hbm, ⟨24, _⟩ => ⟨S376x128, .f32⟩
  | .hbm, ⟨25, _⟩ => ⟨S376x128, .f32⟩
  | .hbm, ⟨26, _⟩ => ⟨S_, .f32⟩
  | .hbm, ⟨27, _⟩ => ⟨S376x128, .f32⟩
  | .hbm, ⟨28, _⟩ => ⟨S376x128, .f32⟩
  | .hbm, ⟨29, _⟩ => ⟨S376x128, .f32⟩
  | .hbm, ⟨30, _⟩ => ⟨S_, .f32⟩
  | .hbm, ⟨31, _⟩ => ⟨S376x128, .f32⟩
  | .hbm, ⟨32, _⟩ => ⟨S376x128, .f32⟩
  | .hbm, ⟨33, _⟩ => ⟨S_, .f32⟩
  | .hbm, ⟨34, _⟩ => ⟨S376x128, .f32⟩
  | .hbm, ⟨35, _⟩ => ⟨S376x128, .f32⟩
  | .hbm, ⟨36, _⟩ => ⟨S376x128, .f32⟩
  | .hbm, ⟨37, _⟩ => ⟨S_, .f32⟩
  | .hbm, ⟨38, _⟩ => ⟨S376x128, .f32⟩
  | .hbm, ⟨39, _⟩ => ⟨S376x128, .f32⟩
  | .hbm, ⟨40, _⟩ => ⟨S376x128, .f32⟩
  | .hbm, ⟨41, _⟩ => ⟨S_, .f32⟩
  | .hbm, ⟨42, _⟩ => ⟨S376x128, .f32⟩
  | .hbm, ⟨43, _⟩ => ⟨S376x128, .f32⟩
  | .hbm, ⟨44, _⟩ => ⟨S376x128, .f32⟩
  | .hbm, ⟨45, _⟩ => ⟨S_, .f32⟩
  | .hbm, ⟨46, _⟩ => ⟨S376x128, .f32⟩
  | .hbm, ⟨47, _⟩ => ⟨S376x128, .f32⟩
  | _, _ => ⟨S4x376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Loss.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_10 : BitVec 32 := 0#32
  let v21 : BitVec 1 := Scalar.cmpi .ne v20 c0_i32_10
  v21

def k0_cond2 (i : grid0.Coords) : BitVec 1 :=
  let arg0 : BitVec 32 := BitVec.ofNat 32 (i 0).val
  let c0_i32_11 : BitVec 32 := 0#32
  let v22 : BitVec 1 := Scalar.cmpi .sgt arg0 c0_i32_11
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== NormFirst.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg1 : BitVec 32 := BitVec.ofNat 32 (i 1).val
  let c0_i32_17 : BitVec 32 := 0#32
  let v42 : BitVec 1 := Scalar.cmpi .sgt arg1 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== NormFirstRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== SumAb.lean ====
abbrev S8x2048x448 : Shape := ⟨3, ![8, 2048, 448]⟩
abbrev S4x2048x448 : Shape := ⟨3, ![4, 2048, 448]⟩
abbrev S2x256x448 : Shape := ⟨3, ![2, 256, 448]⟩
abbrev S1x256x448 : Shape := ⟨3, ![1, 256, 448]⟩
abbrev S256x448 : Shape := ⟨2, ![256, 448]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x448, .bf16⟩
  | .hbm, ⟨1, _⟩ => ⟨S4x2048x448, .bf16⟩
  | .hbm, ⟨2, _⟩ => ⟨S4x2048x448, .bf16⟩
  | .local _ .vmem, ⟨0, _⟩ => ⟨S2x256x448, .bf16⟩
  | .local _ .vmem, ⟨1, _⟩ => ⟨S2x256x448, .bf16⟩
  | .local _ .vmem, ⟨2, _⟩ => ⟨S1x256x448, .bf16⟩
  | .local _ .vmem, ⟨3, _⟩ => ⟨S1x256x448, .bf16⟩
  | .local _ .vmem, ⟨4, _⟩ => ⟨S1x256x448, .bf16⟩
  | .local _ .vmem, ⟨5, _⟩ => ⟨S1x256x448, .bf16⟩
  | _, _ => ⟨S8x2048x448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 8], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumAbIdeal.lean ====
abbrev S8x2048x448 : Shape := ⟨3, ![8, 2048, 448]⟩
abbrev S4x2048x448 : Shape := ⟨3, ![4, 2048, 448]⟩
abbrev S2x256x448 : Shape := ⟨3, ![2, 256, 448]⟩
abbrev S1x256x448 : Shape := ⟨3, ![1, 256, 448]⟩
abbrev S256x448 : Shape := ⟨2, ![256, 448]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x448, .bf16⟩
  | .hbm, ⟨1, _⟩ => ⟨S4x2048x448, .bf16⟩
  | .hbm, ⟨2, _⟩ => ⟨S4x2048x448, .bf16⟩
  | .local _ .vmem, ⟨0, _⟩ => ⟨S2x256x448, .bf16⟩
  | .local _ .vmem, ⟨1, _⟩ => ⟨S2x256x448, .bf16⟩
  | .local _ .vmem, ⟨2, _⟩ => ⟨S1x256x448, .bf16⟩
  | .local _ .vmem, ⟨3, _⟩ => ⟨S1x256x448, .bf16⟩
  | .local _ .vmem, ⟨4, _⟩ => ⟨S1x256x448, .bf16⟩
  | .local _ .vmem, ⟨5, _⟩ => ⟨S1x256x448, .bf16⟩
  | _, _ => ⟨S8x2048x448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 8], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumAbRefIdeal.lean ====
abbrev S64x2048x448 : Shape := ⟨3, ![64, 2048, 448]⟩
abbrev S32x2048x448 : Shape := ⟨3, ![32, 2048, 448]⟩
abbrev S4x2x4x2x2048x448 : Shape := ⟨6, ![4, 2, 4, 2, 2048, 448]⟩
abbrev S4x1x4x1x2048x448 : Shape := ⟨6, ![4, 1, 4, 1, 2048, 448]⟩
abbrev S4x4x2048x448 : Shape := ⟨4, ![4, 4, 2048, 448]⟩
abbrev S4x1x4x2048x448 : Shape := ⟨5, ![4, 1, 4, 2048, 448]⟩
abbrev S4x2x4x2048x448 : Shape := ⟨5, ![4, 2, 4, 2048, 448]⟩

abbrev nBuf : Space → Nat
  | .hbm => 15
  | .vmem => 0
  | .smem => 0
  | _ => 0

abbrev bufTy : (tb : Table) → Fin (tcTables nBuf tb) → BufTy
  | .hbm, ⟨0, _⟩ => ⟨S64x2048x448, .bf16⟩
  | .hbm, ⟨1, _⟩ => ⟨S32x2048x448, .bf16⟩
  | .hbm, ⟨2, _⟩ => ⟨S4x2x4x2x2048x448, .bf16⟩
  | .hbm, ⟨3, _⟩ => ⟨S4x1x4x1x2048x448, .bf16⟩
  | .hbm, ⟨4, _⟩ => ⟨S4x4x2048x448, .bf16⟩
  | .hbm, ⟨5, _⟩ => ⟨S4x1x4x1x2048x448, .bf16⟩
  | .hbm, ⟨6, _⟩ => ⟨S4x4x2048x448, .bf16⟩
  | .hbm, ⟨7, _⟩ => ⟨S4x1x4x2048x448, .bf16⟩
  | .hbm, ⟨8, _⟩ => ⟨S4x1x4x2048x448, .bf16⟩
  | .hbm, ⟨9, _⟩ => ⟨S4x2x4x2048x448, .bf16⟩
  | .hbm, ⟨10, _⟩ => ⟨S32x2048x448, .bf16⟩
  | .hbm, ⟨11, _⟩ => ⟨S32x2048x448, .f32⟩
  | .hbm, ⟨12, _⟩ => ⟨S32x2048x448, .f32⟩
  | .hbm, ⟨13, _⟩ => ⟨S32x2048x448, .f32⟩
  | .hbm, ⟨14, _⟩ => ⟨S32x2048x448, .bf16⟩
  | _, _ => ⟨S64x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumAbRef.lean ====
abbrev S64x2048x448 : Shape := ⟨3, ![64, 2048, 448]⟩
abbrev S32x2048x448 : Shape := ⟨3, ![32, 2048, 448]⟩
abbrev S4x2x4x2x2048x448 : Shape := ⟨6, ![4, 2, 4, 2, 2048, 448]⟩
abbrev S4x1x4x1x2048x448 : Shape := ⟨6, ![4, 1, 4, 1, 2048, 448]⟩
abbrev S4x4x2048x448 : Shape := ⟨4, ![4, 4, 2048, 448]⟩
abbrev S4x1x4x2048x448 : Shape := ⟨5, ![4, 1, 4, 2048, 448]⟩
abbrev S4x2x4x2048x448 : Shape := ⟨5, ![4, 2, 4, 2048, 448]⟩

abbrev nBuf : Space → Nat
  | .hbm => 15
  | .vmem => 0
  | .smem => 0
  | _ => 0

abbrev bufTy : (tb : Table) → Fin (tcTables nBuf tb) → BufTy
  | .hbm, ⟨0, _⟩ => ⟨S64x2048x448, .bf16⟩
  | .hbm, ⟨1, _⟩ => ⟨S32x2048x448, .bf16⟩
  | .hbm, ⟨2, _⟩ => ⟨S4x2x4x2x2048x448, .bf16⟩
  | .hbm, ⟨3, _⟩ => ⟨S4x1x4x1x2048x448, .bf16⟩
  | .hbm, ⟨4, _⟩ => ⟨S4x4x2048x448, .bf16⟩
  | .hbm, ⟨5, _⟩ => ⟨S4x1x4x1x2048x448, .bf16⟩
  | .hbm, ⟨6, _⟩ => ⟨S4x4x2048x448, .bf16⟩
  | .hbm, ⟨7, _⟩ => ⟨S4x1x4x2048x448, .bf16⟩
  | .hbm, ⟨8, _⟩ => ⟨S4x1x4x2048x448, .bf16⟩
  | .hbm, ⟨9, _⟩ => ⟨S4x2x4x2048x448, .bf16⟩
  | .hbm, ⟨10, _⟩ => ⟨S32x2048x448, .bf16⟩
  | .hbm, ⟨11, _⟩ => ⟨S32x2048x448, .f32⟩
  | .hbm, ⟨12, _⟩ => ⟨S32x2048x448, .f32⟩
  | .hbm, ⟨13, _⟩ => ⟨S32x2048x448, .f32⟩
  | .hbm, ⟨14, _⟩ => ⟨S32x2048x448, .bf16⟩
  | _, _ => ⟨S64x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumC.lean ====
abbrev S8x2048x648 : Shape := ⟨3, ![8, 2048, 648]⟩
abbrev S4x2048x648 : Shape := ⟨3, ![4, 2048, 648]⟩
abbrev S2x256x648 : Shape := ⟨3, ![2, 256, 648]⟩
abbrev S1x256x648 : Shape := ⟨3, ![1, 256, 648]⟩
abbrev S256x648 : Shape := ⟨2, ![256, 648]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x648, .bf16⟩
  | .hbm, ⟨1, _⟩ => ⟨S4x2048x648, .bf16⟩
  | .hbm, ⟨2, _⟩ => ⟨S4x2048x648, .bf16⟩
  | .local _ .vmem, ⟨0, _⟩ => ⟨S2x256x648, .bf16⟩
  | .local _ .vmem, ⟨1, _⟩ => ⟨S2x256x648, .bf16⟩
  | .local _ .vmem, ⟨2, _⟩ => ⟨S1x256x648, .bf16⟩
  | .local _ .vmem, ⟨3, _⟩ => ⟨S1x256x648, .bf16⟩
  | .local _ .vmem, ⟨4, _⟩ => ⟨S1x256x648, .bf16⟩
  | .local _ .vmem, ⟨5, _⟩ => ⟨S1x256x648, .bf16⟩
  | _, _ => ⟨S8x2048x648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 8], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x648 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x648 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumCIdeal.lean ====
abbrev S8x2048x648 : Shape := ⟨3, ![8, 2048, 648]⟩
abbrev S4x2048x648 : Shape := ⟨3, ![4, 2048, 648]⟩
abbrev S2x256x648 : Shape := ⟨3, ![2, 256, 648]⟩
abbrev S1x256x648 : Shape := ⟨3, ![1, 256, 648]⟩
abbrev S256x648 : Shape := ⟨2, ![256, 648]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x648, .bf16⟩
  | .hbm, ⟨1, _⟩ => ⟨S4x2048x648, .bf16⟩
  | .hbm, ⟨2, _⟩ => ⟨S4x2048x648, .bf16⟩
  | .local _ .vmem, ⟨0, _⟩ => ⟨S2x256x648, .bf16⟩
  | .local _ .vmem, ⟨1, _⟩ => ⟨S2x256x648, .bf16⟩
  | .local _ .vmem, ⟨2, _⟩ => ⟨S1x256x648, .bf16⟩
  | .local _ .vmem, ⟨3, _⟩ => ⟨S1x256x648, .bf16⟩
  | .local _ .vmem, ⟨4, _⟩ => ⟨S1x256x648, .bf16⟩
  | .local _ .vmem, ⟨5, _⟩ => ⟨S1x256x648, .bf16⟩
  | _, _ => ⟨S8x2048x648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 8], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x648 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x648 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumCRefIdeal.lean ====
abbrev S64x2048x648 : Shape := ⟨3, ![64, 2048, 648]⟩
abbrev S32x2048x648 : Shape := ⟨3, ![32, 2048, 648]⟩
abbrev S4x2x4x2x2048x648 : Shape := ⟨6, ![4, 2, 4, 2, 2048, 648]⟩
abbrev S4x1x4x1x2048x648 : Shape := ⟨6, ![4, 1, 4, 1, 2048, 648]⟩
abbrev S4x4x2048x648 : Shape := ⟨4, ![4, 4, 2048, 648]⟩
abbrev S4x1x4x2048x648 : Shape := ⟨5, ![4, 1, 4, 2048, 648]⟩
abbrev S4x2x4x2048x648 : Shape := ⟨5, ![4, 2, 4, 2048, 648]⟩

abbrev nBuf : Space → Nat
  | .hbm => 15
  | .vmem => 0
  | .smem => 0
  | _ => 0

abbrev bufTy : (tb : Table) → Fin (tcTables nBuf tb) → BufTy
  | .hbm, ⟨0, _⟩ => ⟨S64x2048x648, .bf16⟩
  | .hbm, ⟨1, _⟩ => ⟨S32x2048x648, .bf16⟩
  | .hbm, ⟨2, _⟩ => ⟨S4x2x4x2x2048x648, .bf16⟩
  | .hbm, ⟨3, _⟩ => ⟨S4x1x4x1x2048x648, .bf16⟩
  | .hbm, ⟨4, _⟩ => ⟨S4x4x2048x648, .bf16⟩
  | .hbm, ⟨5, _⟩ => ⟨S4x1x4x1x2048x648, .bf16⟩
  | .hbm, ⟨6, _⟩ => ⟨S4x4x2048x648, .bf16⟩
  | .hbm, ⟨7, _⟩ => ⟨S4x1x4x2048x648, .bf16⟩
  | .hbm, ⟨8, _⟩ => ⟨S4x1x4x2048x648, .bf16⟩
  | .hbm, ⟨9, _⟩ => ⟨S4x2x4x2048x648, .bf16⟩
  | .hbm, ⟨10, _⟩ => ⟨S32x2048x648, .bf16⟩
  | .hbm, ⟨11, _⟩ => ⟨S32x2048x648, .f32⟩
  | .hbm, ⟨12, _⟩ => ⟨S32x2048x648, .f32⟩
  | .hbm, ⟨13, _⟩ => ⟨S32x2048x648, .f32⟩
  | .hbm, ⟨14, _⟩ => ⟨S32x2048x648, .bf16⟩
  | _, _ => ⟨S64x2048x648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumCRef.lean ====
abbrev S64x2048x648 : Shape := ⟨3, ![64, 2048, 648]⟩
abbrev S32x2048x648 : Shape := ⟨3, ![32, 2048, 648]⟩
abbrev S4x2x4x2x2048x648 : Shape := ⟨6, ![4, 2, 4, 2, 2048, 648]⟩
abbrev S4x1x4x1x2048x648 : Shape := ⟨6, ![4, 1, 4, 1, 2048, 648]⟩
abbrev S4x4x2048x648 : Shape := ⟨4, ![4, 4, 2048, 648]⟩
abbrev S4x1x4x2048x648 : Shape := ⟨5, ![4, 1, 4, 2048, 648]⟩
abbrev S4x2x4x2048x648 : Shape := ⟨5, ![4, 2, 4, 2048, 648]⟩

abbrev nBuf : Space → Nat
  | .hbm => 15
  | .vmem => 0
  | .smem => 0
  | _ => 0

abbrev bufTy : (tb : Table) → Fin (tcTables nBuf tb) → BufTy
  | .hbm, ⟨0, _⟩ => ⟨S64x2048x648, .bf16⟩
  | .hbm, ⟨1, _⟩ => ⟨S32x2048x648, .bf16⟩
  | .hbm, ⟨2, _⟩ => ⟨S4x2x4x2x2048x648, .bf16⟩
  | .hbm, ⟨3, _⟩ => ⟨S4x1x4x1x2048x648, .bf16⟩
  | .hbm, ⟨4, _⟩ => ⟨S4x4x2048x648, .bf16⟩
  | .hbm, ⟨5, _⟩ => ⟨S4x1x4x1x2048x648, .bf16⟩
  | .hbm, ⟨6, _⟩ => ⟨S4x4x2048x648, .bf16⟩
  | .hbm, ⟨7, _⟩ => ⟨S4x1x4x2048x648, .bf16⟩
  | .hbm, ⟨8, _⟩ => ⟨S4x1x4x2048x648, .bf16⟩
  | .hbm, ⟨9, _⟩ => ⟨S4x2x4x2048x648, .bf16⟩
  | .hbm, ⟨10, _⟩ => ⟨S32x2048x648, .bf16⟩
  | .hbm, ⟨11, _⟩ => ⟨S32x2048x648, .f32⟩
  | .hbm, ⟨12, _⟩ => ⟨S32x2048x648, .f32⟩
  | .hbm, ⟨13, _⟩ => ⟨S32x2048x648, .f32⟩
  | .hbm, ⟨14, _⟩ => ⟨S32x2048x648, .bf16⟩
  | _, _ => ⟨S64x2048x648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumUp.lean ====
abbrev S8x4096x704 : Shape := ⟨3, ![8, 4096, 704]⟩
abbrev S4x4096x704 : Shape := ⟨3, ![4, 4096, 704]⟩
abbrev S2x256x704 : Shape := ⟨3, ![2, 256, 704]⟩
abbrev S1x256x704 : Shape := ⟨3, ![1, 256, 704]⟩
abbrev S256x704 : Shape := ⟨2, ![256, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S4x4096x704, .bf16⟩
  | .hbm, ⟨2, _⟩ => ⟨S4x4096x704, .bf16⟩
  | .local _ .vmem, ⟨0, _⟩ => ⟨S2x256x704, .bf16⟩
  | .local _ .vmem, ⟨1, _⟩ => ⟨S2x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 16], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumUpIdeal.lean ====
abbrev S8x4096x704 : Shape := ⟨3, ![8, 4096, 704]⟩
abbrev S4x4096x704 : Shape := ⟨3, ![4, 4096, 704]⟩
abbrev S2x256x704 : Shape := ⟨3, ![2, 256, 704]⟩
abbrev S1x256x704 : Shape := ⟨3, ![1, 256, 704]⟩
abbrev S256x704 : Shape := ⟨2, ![256, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S4x4096x704, .bf16⟩
  | .hbm, ⟨2, _⟩ => ⟨S4x4096x704, .bf16⟩
  | .local _ .vmem, ⟨0, _⟩ => ⟨S2x256x704, .bf16⟩
  | .local _ .vmem, ⟨1, _⟩ => ⟨S2x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 16], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumUpRefIdeal.lean ====
abbrev S64x4096x704 : Shape := ⟨3, ![64, 4096, 704]⟩
abbrev S32x4096x704 : Shape := ⟨3, ![32, 4096, 704]⟩
abbrev S4x2x4x2x4096x704 : Shape := ⟨6, ![4, 2, 4, 2, 4096, 704]⟩
abbrev S4x1x4x1x4096x704 : Shape := ⟨6, ![4, 1, 4, 1, 4096, 704]⟩
abbrev S4x4x4096x704 : Shape := ⟨4, ![4, 4, 4096, 704]⟩
abbrev S4x1x4x4096x704 : Shape := ⟨5, ![4, 1, 4, 4096, 704]⟩
abbrev S4x2x4x4096x704 : Shape := ⟨5, ![4, 2, 4, 4096, 704]⟩

abbrev nBuf : Space → Nat
  | .hbm => 15
  | .vmem => 0
  | .smem => 0
  | _ => 0

abbrev bufTy : (tb : Table) → Fin (tcTables nBuf tb) → BufTy
  | .hbm, ⟨0, _⟩ => ⟨S64x4096x704, .bf16⟩
  | .hbm, ⟨1, _⟩ => ⟨S32x4096x704, .bf16⟩
  | .hbm, ⟨2, _⟩ => ⟨S4x2x4x2x4096x704, .bf16⟩
  | .hbm, ⟨3, _⟩ => ⟨S4x1x4x1x4096x704, .bf16⟩
  | .hbm, ⟨4, _⟩ => ⟨S4x4x4096x704, .bf16⟩
  | .hbm, ⟨5, _⟩ => ⟨S4x1x4x1x4096x704, .bf16⟩
  | .hbm, ⟨6, _⟩ => ⟨S4x4x4096x704, .bf16⟩
  | .hbm, ⟨7, _⟩ => ⟨S4x1x4x4096x704, .bf16⟩
  | .hbm, ⟨8, _⟩ => ⟨S4x1x4x4096x704, .bf16⟩
  | .hbm, ⟨9, _⟩ => ⟨S4x2x4x4096x704, .bf16⟩
  | .hbm, ⟨10, _⟩ => ⟨S32x4096x704, .bf16⟩
  | .hbm, ⟨11, _⟩ => ⟨S32x4096x704, .f32⟩
  | .hbm, ⟨12, _⟩ => ⟨S32x4096x704, .f32⟩
  | .hbm, ⟨13, _⟩ => ⟨S32x4096x704, .f32⟩
  | .hbm, ⟨14, _⟩ => ⟨S32x4096x704, .bf16⟩
  | _, _ => ⟨S64x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumUpRef.lean ====
abbrev S64x4096x704 : Shape := ⟨3, ![64, 4096, 704]⟩
abbrev S32x4096x704 : Shape := ⟨3, ![32, 4096, 704]⟩
abbrev S4x2x4x2x4096x704 : Shape := ⟨6, ![4, 2, 4, 2, 4096, 704]⟩
abbrev S4x1x4x1x4096x704 : Shape := ⟨6, ![4, 1, 4, 1, 4096, 704]⟩
abbrev S4x4x4096x704 : Shape := ⟨4, ![4, 4, 4096, 704]⟩
abbrev S4x1x4x4096x704 : Shape := ⟨5, ![4, 1, 4, 4096, 704]⟩
abbrev S4x2x4x4096x704 : Shape := ⟨5, ![4, 2, 4, 4096, 704]⟩

abbrev nBuf : Space → Nat
  | .hbm => 15
  | .vmem => 0
  | .smem => 0
  | _ => 0

abbrev bufTy : (tb : Table) → Fin (tcTables nBuf tb) → BufTy
  | .hbm, ⟨0, _⟩ => ⟨S64x4096x704, .bf16⟩
  | .hbm, ⟨1, _⟩ => ⟨S32x4096x704, .bf16⟩
  | .hbm, ⟨2, _⟩ => ⟨S4x2x4x2x4096x704, .bf16⟩
  | .hbm, ⟨3, _⟩ => ⟨S4x1x4x1x4096x704, .bf16⟩
  | .hbm, ⟨4, _⟩ => ⟨S4x4x4096x704, .bf16⟩
  | .hbm, ⟨5, _⟩ => ⟨S4x1x4x1x4096x704, .bf16⟩
  | .hbm, ⟨6, _⟩ => ⟨S4x4x4096x704, .bf16⟩
  | .hbm, ⟨7, _⟩ => ⟨S4x1x4x4096x704, .bf16⟩
  | .hbm, ⟨8, _⟩ => ⟨S4x1x4x4096x704, .bf16⟩
  | .hbm, ⟨9, _⟩ => ⟨S4x2x4x4096x704, .bf16⟩
  | .hbm, ⟨10, _⟩ => ⟨S32x4096x704, .bf16⟩
  | .hbm, ⟨11, _⟩ => ⟨S32x4096x704, .f32⟩
  | .hbm, ⟨12, _⟩ => ⟨S32x4096x704, .f32⟩
  | .hbm, ⟨13, _⟩ => ⟨S32x4096x704, .f32⟩
  | .hbm, ⟨14, _⟩ => ⟨S32x4096x704, .bf16⟩
  | _, _ => ⟨S64x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumRows.lean ====
abbrev S8x2176x1024 : Shape := ⟨3, ![8, 2176, 1024]⟩
abbrev S4x2176x1024 : Shape := ⟨3, ![4, 2176, 1024]⟩
abbrev S2x64x1024 : Shape := ⟨3, ![2, 64, 1024]⟩
abbrev S1x64x1024 : Shape := ⟨3, ![1, 64, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2176x1024, .bf16⟩
  | .hbm, ⟨1, _⟩ => ⟨S4x2176x1024, .bf16⟩
  | .hbm, ⟨2, _⟩ => ⟨S4x2176x1024, .bf16⟩
  | .local _ .vmem, ⟨0, _⟩ => ⟨S2x64x1024, .bf16⟩
  | .local _ .vmem, ⟨1, _⟩ => ⟨S2x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | _, _ => ⟨S8x2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 34], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumRowsIdeal.lean ====
abbrev S8x2176x1024 : Shape := ⟨3, ![8, 2176, 1024]⟩
abbrev S4x2176x1024 : Shape := ⟨3, ![4, 2176, 1024]⟩
abbrev S2x64x1024 : Shape := ⟨3, ![2, 64, 1024]⟩
abbrev S1x64x1024 : Shape := ⟨3, ![1, 64, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2176x1024, .bf16⟩
  | .hbm, ⟨1, _⟩ => ⟨S4x2176x1024, .bf16⟩
  | .hbm, ⟨2, _⟩ => ⟨S4x2176x1024, .bf16⟩
  | .local _ .vmem, ⟨0, _⟩ => ⟨S2x64x1024, .bf16⟩
  | .local _ .vmem, ⟨1, _⟩ => ⟨S2x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | _, _ => ⟨S8x2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 34], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumRowsRefIdeal.lean ====
abbrev S64x2176x1024 : Shape := ⟨3, ![64, 2176, 1024]⟩
abbrev S32x2176x1024 : Shape := ⟨3, ![32, 2176, 1024]⟩
abbrev S4x2x4x2x2176x1024 : Shape := ⟨6, ![4, 2, 4, 2, 2176, 1024]⟩
abbrev S4x1x4x1x2176x1024 : Shape := ⟨6, ![4, 1, 4, 1, 2176, 1024]⟩
abbrev S4x4x2176x1024 : Shape := ⟨4, ![4, 4, 2176, 1024]⟩
abbrev S4x1x4x2176x1024 : Shape := ⟨5, ![4, 1, 4, 2176, 1024]⟩
abbrev S4x2x4x2176x1024 : Shape := ⟨5, ![4, 2, 4, 2176, 1024]⟩

abbrev nBuf : Space → Nat
  | .hbm => 15
  | .vmem => 0
  | .smem => 0
  | _ => 0

abbrev bufTy : (tb : Table) → Fin (tcTables nBuf tb) → BufTy
  | .hbm, ⟨0, _⟩ => ⟨S64x2176x1024, .bf16⟩
  | .hbm, ⟨1, _⟩ => ⟨S32x2176x1024, .bf16⟩
  | .hbm, ⟨2, _⟩ => ⟨S4x2x4x2x2176x1024, .bf16⟩
  | .hbm, ⟨3, _⟩ => ⟨S4x1x4x1x2176x1024, .bf16⟩
  | .hbm, ⟨4, _⟩ => ⟨S4x4x2176x1024, .bf16⟩
  | .hbm, ⟨5, _⟩ => ⟨S4x1x4x1x2176x1024, .bf16⟩
  | .hbm, ⟨6, _⟩ => ⟨S4x4x2176x1024, .bf16⟩
  | .hbm, ⟨7, _⟩ => ⟨S4x1x4x2176x1024, .bf16⟩
  | .hbm, ⟨8, _⟩ => ⟨S4x1x4x2176x1024, .bf16⟩
  | .hbm, ⟨9, _⟩ => ⟨S4x2x4x2176x1024, .bf16⟩
  | .hbm, ⟨10, _⟩ => ⟨S32x2176x1024, .bf16⟩
  | .hbm, ⟨11, _⟩ => ⟨S32x2176x1024, .f32⟩
  | .hbm, ⟨12, _⟩ => ⟨S32x2176x1024, .f32⟩
  | .hbm, ⟨13, _⟩ => ⟨S32x2176x1024, .f32⟩
  | .hbm, ⟨14, _⟩ => ⟨S32x2176x1024, .bf16⟩
  | _, _ => ⟨S64x2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumRowsRef.lean ====
abbrev S64x2176x1024 : Shape := ⟨3, ![64, 2176, 1024]⟩
abbrev S32x2176x1024 : Shape := ⟨3, ![32, 2176, 1024]⟩
abbrev S4x2x4x2x2176x1024 : Shape := ⟨6, ![4, 2, 4, 2, 2176, 1024]⟩
abbrev S4x1x4x1x2176x1024 : Shape := ⟨6, ![4, 1, 4, 1, 2176, 1024]⟩
abbrev S4x4x2176x1024 : Shape := ⟨4, ![4, 4, 2176, 1024]⟩
abbrev S4x1x4x2176x1024 : Shape := ⟨5, ![4, 1, 4, 2176, 1024]⟩
abbrev S4x2x4x2176x1024 : Shape := ⟨5, ![4, 2, 4, 2176, 1024]⟩

abbrev nBuf : Space → Nat
  | .hbm => 15
  | .vmem => 0
  | .smem => 0
  | _ => 0

abbrev bufTy : (tb : Table) → Fin (tcTables nBuf tb) → BufTy
  | .hbm, ⟨0, _⟩ => ⟨S64x2176x1024, .bf16⟩
  | .hbm, ⟨1, _⟩ => ⟨S32x2176x1024, .bf16⟩
  | .hbm, ⟨2, _⟩ => ⟨S4x2x4x2x2176x1024, .bf16⟩
  | .hbm, ⟨3, _⟩ => ⟨S4x1x4x1x2176x1024, .bf16⟩
  | .hbm, ⟨4, _⟩ => ⟨S4x4x2176x1024, .bf16⟩
  | .hbm, ⟨5, _⟩ => ⟨S4x1x4x1x2176x1024, .bf16⟩
  | .hbm, ⟨6, _⟩ => ⟨S4x4x2176x1024, .bf16⟩
  | .hbm, ⟨7, _⟩ => ⟨S4x1x4x2176x1024, .bf16⟩
  | .hbm, ⟨8, _⟩ => ⟨S4x1x4x2176x1024, .bf16⟩
  | .hbm, ⟨9, _⟩ => ⟨S4x2x4x2176x1024, .bf16⟩
  | .hbm, ⟨10, _⟩ => ⟨S32x2176x1024, .bf16⟩
  | .hbm, ⟨11, _⟩ => ⟨S32x2176x1024, .f32⟩
  | .hbm, ⟨12, _⟩ => ⟨S32x2176x1024, .f32⟩
  | .hbm, ⟨13, _⟩ => ⟨S32x2176x1024, .f32⟩
  | .hbm, ⟨14, _⟩ => ⟨S32x2176x1024, .bf16⟩
  | _, _ => ⟨S64x2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== SumSmall.lean ====
abbrev S8x112x128 : Shape := ⟨3, ![8, 112, 128]⟩
abbrev S4x112x128 : Shape := ⟨3, ![4, 112, 128]⟩
abbrev S2x112x128 : Shape := ⟨3, ![2, 112, 128]⟩
abbrev S1x112x128 : Shape := ⟨3, ![1, 112, 128]⟩
abbrev S112x128 : Shape := ⟨2, ![112, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x112x128, .f32⟩
  | .hbm, ⟨1, _⟩ => ⟨S4x112x128, .f32⟩
  | .hbm, ⟨2, _⟩ => ⟨S4x112x128, .f32⟩
  | .local _ .vmem, ⟨0, _⟩ => ⟨S2x112x128, .f32⟩
  | .local _ .vmem, ⟨1, _⟩ => ⟨S2x112x128, .f32⟩
  | .local _ .vmem, ⟨2, _⟩ => ⟨S1x112x128, .f32⟩
  | .local _ .vmem, ⟨3, _⟩ => ⟨S1x112x128, .f32⟩
  | .local _ .vmem, ⟨4, _⟩ => ⟨S1x112x128, .f32⟩
  | .local _ .vmem, ⟨5, _⟩ => ⟨S1x112x128, .f32⟩
  | _, _ => ⟨S8x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 1], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumSmallIdeal.lean ====
abbrev S8x112x128 : Shape := ⟨3, ![8, 112, 128]⟩
abbrev S4x112x128 : Shape := ⟨3, ![4, 112, 128]⟩
abbrev S2x112x128 : Shape := ⟨3, ![2, 112, 128]⟩
abbrev S1x112x128 : Shape := ⟨3, ![1, 112, 128]⟩
abbrev S112x128 : Shape := ⟨2, ![112, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x112x128, .f32⟩
  | .hbm, ⟨1, _⟩ => ⟨S4x112x128, .f32⟩
  | .hbm, ⟨2, _⟩ => ⟨S4x112x128, .f32⟩
  | .local _ .vmem, ⟨0, _⟩ => ⟨S2x112x128, .f32⟩
  | .local _ .vmem, ⟨1, _⟩ => ⟨S2x112x128, .f32⟩
  | .local _ .vmem, ⟨2, _⟩ => ⟨S1x112x128, .f32⟩
  | .local _ .vmem, ⟨3, _⟩ => ⟨S1x112x128, .f32⟩
  | .local _ .vmem, ⟨4, _⟩ => ⟨S1x112x128, .f32⟩
  | .local _ .vmem, ⟨5, _⟩ => ⟨S1x112x128, .f32⟩
  | _, _ => ⟨S8x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![4, 1], ![false, false]⟩

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : Index := Scalar.indexCast v2
  let c0 : Index := 0#32
  let c0_0 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SumSmallRef.lean ====
abbrev S64x112x128 : Shape := ⟨3, ![64, 112, 128]⟩
abbrev S32x112x128 : Shape := ⟨3, ![32, 112, 128]⟩
abbrev S4x2x4x2x112x128 : Shape := ⟨6, ![4, 2, 4, 2, 112, 128]⟩
abbrev S4x1x4x1x112x128 : Shape := ⟨6, ![4, 1, 4, 1, 112, 128]⟩
abbrev S4x4x112x128 : Shape := ⟨4, ![4, 4, 112, 128]⟩
abbrev S4x1x4x112x128 : Shape := ⟨5, ![4, 1, 4, 112, 128]⟩
abbrev S4x2x4x112x128 : Shape := ⟨5, ![4, 2, 4, 112, 128]⟩

abbrev nBuf : Space → Nat
  | .hbm => 12
  | .vmem => 0
  | .smem => 0
  | _ => 0

abbrev bufTy : (tb : Table) → Fin (tcTables nBuf tb) → BufTy
  | .hbm, ⟨0, _⟩ => ⟨S64x112x128, .f32⟩
  | .hbm, ⟨1, _⟩ => ⟨S32x112x128, .f32⟩
  | .hbm, ⟨2, _⟩ => ⟨S4x2x4x2x112x128, .f32⟩
  | .hbm, ⟨3, _⟩ => ⟨S4x1x4x1x112x128, .f32⟩
  | .hbm, ⟨4, _⟩ => ⟨S4x4x112x128, .f32⟩
  | .hbm, ⟨5, _⟩ => ⟨S4x1x4x1x112x128, .f32⟩
  | .hbm, ⟨6, _⟩ => ⟨S4x4x112x128, .f32⟩
  | .hbm, ⟨7, _⟩ => ⟨S4x1x4x112x128, .f32⟩
  | .hbm, ⟨8, _⟩ => ⟨S4x1x4x112x128, .f32⟩
  | .hbm, ⟨9, _⟩ => ⟨S4x2x4x112x128, .f32⟩
  | .hbm, ⟨10, _⟩ => ⟨S32x112x128, .f32⟩
  | .hbm, ⟨11, _⟩ => ⟨S32x112x128, .f32⟩
  | _, _ => ⟨S64x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== SumRep.lean ====
abbrev S376x128 : Shape := ⟨2, ![376, 128]⟩

abbrev nBuf : Space → Nat
  | .hbm => 3
  | .vmem => 3
  | .smem => 0
  | _ => 0

abbrev bufTy : (tb : Table) → Fin (tcTables nBuf tb) → BufTy
  | .hbm, ⟨0, _⟩ => ⟨S376x128, .f32⟩
  | .hbm, ⟨1, _⟩ => ⟨S376x128, .f32⟩
  | .hbm, ⟨2, _⟩ => ⟨S376x128, .f32⟩
  | .local _ .vmem, ⟨0, _⟩ => ⟨S376x128, .f32⟩
  | .local _ .vmem, ⟨1, _⟩ => ⟨S376x128, .f32⟩
  | .local _ .vmem, ⟨2, _⟩ => ⟨S376x128, .f32⟩
  | _, _ => ⟨S376x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 8
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S376x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]
-- ==== SumRepRef.lean ====
abbrev S3008x128 : Shape := ⟨2, ![3008, 128]⟩

abbrev nBuf : Space → Nat
  | .hbm => 3
  | .vmem => 0
  | .smem => 0
  | _ => 0

abbrev bufTy : (tb : Table) → Fin (tcTables nBuf tb) → BufTy
  | .hbm, ⟨0, _⟩ => ⟨S3008x128, .f32⟩
  | .hbm, ⟨1, _⟩ => ⟨S3008x128, .f32⟩
  | .hbm, ⟨2, _⟩ => ⟨S3008x128, .f32⟩
  | _, _ => ⟨S3008x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== First.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FirstRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Mid.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== End.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EndRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Last.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== LastBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v40 : BitVec 1 := Scalar.cmpi .eq arg1 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg1 : BitVec 32 := BitVec.ofNat 32 (i 1).val
  let c0_i32_17 : BitVec 32 := 0#32
  let v43 : BitVec 1 := Scalar.cmpi .sgt arg1 c0_i32_17
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LastBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== EndBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v80 : BitVec 1 := Scalar.cmpi .eq arg1 c0_i32
  let v81 : BitVec 32 := Scalar.extui v80
  let c0_i32_30 : BitVec 32 := 0#32
  let v82 : BitVec 1 := Scalar.cmpi .ne v81 c0_i32_30
  v82

def k0_cond2 (i : grid0.Coords) : BitVec 1 :=
  let arg1 : BitVec 32 := BitVec.ofNat 32 (i 1).val
  let c0_i32_31 : BitVec 32 := 0#32
  let v83 : BitVec 1 := Scalar.cmpi .sgt arg1 c0_i32_31
  let v84 : BitVec 32 := Scalar.extui v83
  let c0_i32_32 : BitVec 32 := 0#32
  let v85 : BitVec 1 := Scalar.cmpi .ne v84 c0_i32_32
  v85

def k0_cond3 (i : grid0.Coords) : BitVec 1 :=
  let arg1 : BitVec 32 := BitVec.ofNat 32 (i 1).val
  let c0_i32_33 : BitVec 32 := 0#32
  let v86 : BitVec 1 := Scalar.cmpi .eq arg1 c0_i32_33
  let v87 : BitVec 32 := Scalar.extui v86
  let c0_i32_34 : BitVec 32 := 0#32
  let v88 : BitVec 1 := Scalar.cmpi .ne v87 c0_i32_34
  v88

def k0_cond4 (i : grid0.Coords) : BitVec 1 :=
  let arg1 : BitVec 32 := BitVec.ofNat 32 (i 1).val
  let c0_i32_35 : BitVec 32 := 0#32
  let v89 : BitVec 1 := Scalar.cmpi .sgt arg1 c0_i32_35
  let v90 : BitVec 32 := Scalar.extui v89
  let c0_i32_36 : BitVec 32 := 0#32
  let v91 : BitVec 1 := Scalar.cmpi .ne v90 c0_i32_36
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== EndBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .bf16⟩
  | .hbm, ⟨102, _⟩ => ⟨S1x1024, .f32⟩
  | .hbm, ⟨103, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== MidBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v80 : BitVec 1 := Scalar.cmpi .eq arg1 c0_i32
  let v81 : BitVec 32 := Scalar.extui v80
  let c0_i32_30 : BitVec 32 := 0#32
  let v82 : BitVec 1 := Scalar.cmpi .ne v81 c0_i32_30
  v82

def k0_cond2 (i : grid0.Coords) : BitVec 1 :=
  let arg1 : BitVec 32 := BitVec.ofNat 32 (i 1).val
  let c0_i32_31 : BitVec 32 := 0#32
  let v83 : BitVec 1 := Scalar.cmpi .sgt arg1 c0_i32_31
  let v84 : BitVec 32 := Scalar.extui v83
  let c0_i32_32 : BitVec 32 := 0#32
  let v85 : BitVec 1 := Scalar.cmpi .ne v84 c0_i32_32
  v85

def k0_cond3 (i : grid0.Coords) : BitVec 1 :=
  let arg1 : BitVec 32 := BitVec.ofNat 32 (i 1).val
  let c0_i32_33 : BitVec 32 := 0#32
  let v86 : BitVec 1 := Scalar.cmpi .eq arg1 c0_i32_33
  let v87 : BitVec 32 := Scalar.extui v86
  let c0_i32_34 : BitVec 32 := 0#32
  let v88 : BitVec 1 := Scalar.cmpi .ne v87 c0_i32_34
  v88

def k0_cond4 (i : grid0.Coords) : BitVec 1 :=
  let arg1 : BitVec 32 := BitVec.ofNat 32 (i 1).val
  let c0_i32_35 : BitVec 32 := 0#32
  let v89 : BitVec 1 := Scalar.cmpi .sgt arg1 c0_i32_35
  let v90 : BitVec 32 := Scalar.extui v89
  let c0_i32_36 : BitVec 32 := 0#32
  let v91 : BitVec 1 := Scalar.cmpi .ne v90 c0_i32_36
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== MidBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .bf16⟩
  | .hbm, ⟨102, _⟩ => ⟨S1x1024, .f32⟩
  | .hbm, ⟨103, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== InAb.lean ====
abbrev S8192x1024 : Shape := ⟨2, ![8192, 1024]⟩
abbrev S1024x3584 : Shape := ⟨2, ![1024, 3584]⟩
abbrev S8192x3584 : Shape := ⟨2, ![8192, 3584]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAbIdeal.lean ====
abbrev S8192x1024 : Shape := ⟨2, ![8192, 1024]⟩
abbrev S1024x3584 : Shape := ⟨2, ![1024, 3584]⟩
abbrev S8192x3584 : Shape := ⟨2, ![8192, 3584]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAbRefIdeal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x1024, .f32⟩
  | .hbm, ⟨3, _⟩ => ⟨S1024x3584, .f32⟩
  | .hbm, ⟨4, _⟩ => ⟨S8192x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InAbDx.lean ====
abbrev S8192x3584 : Shape := ⟨2, ![8192, 3584]⟩
abbrev S1024x3584 : Shape := ⟨2, ![1024, 3584]⟩
abbrev S8192x1024 : Shape := ⟨2, ![8192, 1024]⟩
abbrev S512x3584 : Shape := ⟨2, ![512, 3584]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x1024, .f32⟩
  | .local _ .vmem, ⟨0, _⟩ => ⟨S1024x3584, .bf16⟩
  | .local _ .vmem, ⟨1, _⟩ => ⟨S1024x3584, .bf16⟩
  | .local _ .vmem, ⟨2, _⟩ => ⟨S512x3584, .bf16⟩
  | .local _ .vmem, ⟨3, _⟩ => ⟨S512x3584, .bf16⟩
  | .local _ .vmem, ⟨4, _⟩ => ⟨S1024x512, .f32⟩
  | .local _ .vmem, ⟨5, _⟩ => ⟨S1024x512, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAbDxIdeal.lean ====
abbrev S8192x3584 : Shape := ⟨2, ![8192, 3584]⟩
abbrev S1024x3584 : Shape := ⟨2, ![1024, 3584]⟩
abbrev S8192x1024 : Shape := ⟨2, ![8192, 1024]⟩
abbrev S512x3584 : Shape := ⟨2, ![512, 3584]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x1024, .f32⟩
  | .local _ .vmem, ⟨0, _⟩ => ⟨S1024x3584, .bf16⟩
  | .local _ .vmem, ⟨1, _⟩ => ⟨S1024x3584, .bf16⟩
  | .local _ .vmem, ⟨2, _⟩ => ⟨S512x3584, .bf16⟩
  | .local _ .vmem, ⟨3, _⟩ => ⟨S512x3584, .bf16⟩
  | .local _ .vmem, ⟨4, _⟩ => ⟨S1024x512, .f32⟩
  | .local _ .vmem, ⟨5, _⟩ => ⟨S1024x512, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAbDxRefIdeal.lean ====
abbrev S8192x3584 : Shape := ⟨2, ![8192, 3584]⟩
abbrev S1024x3584 : Shape := ⟨2, ![1024, 3584]⟩
abbrev S3584x1024 : Shape := ⟨2, ![3584, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x3584, .f32⟩
  | .hbm, ⟨3, _⟩ => ⟨S1024x3584, .f32⟩
  | .hbm, ⟨4, _⟩ => ⟨S3584x1024, .f32⟩
  | .hbm, ⟨5, _⟩ => ⟨S8192x1024, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InAbDw.lean ====
abbrev S8192x1024 : Shape := ⟨2, ![8192, 1024]⟩
abbrev S8192x3584 : Shape := ⟨2, ![8192, 3584]⟩
abbrev S1024x3584 : Shape := ⟨2, ![1024, 3584]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbDwIdeal.lean ====
abbrev S8192x1024 : Shape := ⟨2, ![8192, 1024]⟩
abbrev S8192x3584 : Shape := ⟨2, ![8192, 3584]⟩
abbrev S1024x3584 : Shape := ⟨2, ![1024, 3584]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbDwRefIdeal.lean ====
abbrev S8192x1024 : Shape := ⟨2, ![8192, 1024]⟩
abbrev S8192x3584 : Shape := ⟨2, ![8192, 3584]⟩
abbrev S1024x8192 : Shape := ⟨2, ![1024, 8192]⟩
abbrev S1024x3584 : Shape := ⟨2, ![1024, 3584]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S8192x1024, .f32⟩
  | .hbm, ⟨3, _⟩ => ⟨S1024x8192, .f32⟩
  | .hbm, ⟨4, _⟩ => ⟨S8192x3584, .f32⟩
  | .hbm, ⟨5, _⟩ => ⟨S1024x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutAb.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutAbIdeal.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutAbRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutAbDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutAbDxIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutAbDxRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutAbDw.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAbDwIdeal.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAbDwRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InC.lean ====
abbrev S8192x1024 : Shape := ⟨2, ![8192, 1024]⟩
abbrev S1024x5120 : Shape := ⟨2, ![1024, 5120]⟩
abbrev S8192x5120 : Shape := ⟨2, ![8192, 5120]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InCIdeal.lean ====
abbrev S8192x1024 : Shape := ⟨2, ![8192, 1024]⟩
abbrev S1024x5120 : Shape := ⟨2, ![1024, 5120]⟩
abbrev S8192x5120 : Shape := ⟨2, ![8192, 5120]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InCRefIdeal.lean ====
abbrev S8192x1024 : Shape := ⟨2, ![8192, 1024]⟩
abbrev S1024x5120 : Shape := ⟨2, ![1024, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .bf16⟩
  | .hbm, ⟨2, _⟩ => ⟨S8192x1024, .f32⟩
  | .hbm, ⟨3, _⟩ => ⟨S1024x5120, .f32⟩
  | .hbm, ⟨4, _⟩ => ⟨S8192x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InCDw.lean ====
abbrev S8192x1024 : Shape := ⟨2, ![8192, 1024]⟩
abbrev S8192x5120 : Shape := ⟨2, ![8192, 5120]⟩
abbrev S1024x5120 : Shape := ⟨2, ![1024, 5120]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S1024x5120, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCDwIdeal.lean ====
abbrev S8192x1024 : Shape := ⟨2, ![8192, 1024]⟩
abbrev S8192x5120 : Shape := ⟨2, ![8192, 5120]⟩
abbrev S1024x5120 : Shape := ⟨2, ![1024, 5120]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S1024x5120, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCDwRefIdeal.lean ====
abbrev S8192x1024 : Shape := ⟨2, ![8192, 1024]⟩
abbrev S8192x5120 : Shape := ⟨2, ![8192, 5120]⟩
abbrev S1024x8192 : Shape := ⟨2, ![1024, 8192]⟩
abbrev S1024x5120 : Shape := ⟨2, ![1024, 5120]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5120, .bf16⟩
  | .hbm, ⟨2, _⟩ => ⟨S8192x1024, .f32⟩
  | .hbm, ⟨3, _⟩ => ⟨S1024x8192, .f32⟩
  | .hbm, ⟨4, _⟩ => ⟨S8192x5120, .f32⟩
  | .hbm, ⟨5, _⟩ => ⟨S1024x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDt.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .f32⟩
  | .local _ .vmem, ⟨4, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtIdeal.lean ====
abbrev S8192x1024 : Shape := ⟨2, ![8192, 1024]⟩
abbrev S1024x64 : Shape := ⟨2, ![1024, 64]⟩
abbrev S8192x64 : Shape := ⟨2, ![8192, 64]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x64, .bf16⟩
  | .local _ .vmem, ⟨3, _⟩ => ⟨S1024x64, .f32⟩
  | .local _ .vmem, ⟨4, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtRefIdeal.lean ====
abbrev S8192x1024 : Shape := ⟨2, ![8192, 1024]⟩
abbrev S1024x64 : Shape := ⟨2, ![1024, 64]⟩
abbrev S8192x64 : Shape := ⟨2, ![8192, 64]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x64, .bf16⟩
  | .hbm, ⟨2, _⟩ => ⟨S8192x1024, .f32⟩
  | .hbm, ⟨3, _⟩ => ⟨S1024x64, .f32⟩
  | .hbm, ⟨4, _⟩ => ⟨S8192x64, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDtDx.lean ====
abbrev S8192x64 : Shape := ⟨2, ![8192, 64]⟩
abbrev S1024x64 : Shape := ⟨2, ![1024, 64]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .bf16⟩
  | .hbm, ⟨1, _⟩ => ⟨S1024x64, .bf16⟩
  | .hbm, ⟨2, _⟩ => ⟨S8192x1024, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x1024, .f32⟩
  | .local _ .vmem, ⟨4, _⟩ => ⟨S1024x1024, .f32⟩
  | _, _ => ⟨S8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtDxIdeal.lean ====
abbrev S8192x64 : Shape := ⟨2, ![8192, 64]⟩
abbrev S1024x64 : Shape := ⟨2, ![1024, 64]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x64, .bf16⟩
  | .hbm, ⟨1, _⟩ => ⟨S1024x64, .bf16⟩
  | .hbm, ⟨2, _⟩ => ⟨S8192x1024, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x1024, .f32⟩
  | .local _ .vmem, ⟨4, _⟩ => ⟨S1024x1024, .f32⟩
  | _, _ => ⟨S8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtDxRefIdeal.lean ====
abbrev S8192x64 : Shape := ⟨2, ![8192, 64]⟩
abbrev S1024x64 : Shape := ⟨2, ![1024, 64]⟩
abbrev S64x1024 : Shape := ⟨2, ![64, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x64, .bf16⟩
  | .hbm, ⟨1, _⟩ => ⟨S1024x64, .bf16⟩
  | .hbm, ⟨2, _⟩ => ⟨S8192x64, .f32⟩
  | .hbm, ⟨3, _⟩ => ⟨S1024x64, .f32⟩
  | .hbm, ⟨4, _⟩ => ⟨S64x1024, .f32⟩
  | .hbm, ⟨5, _⟩ => ⟨S8192x1024, .f32⟩
  | _, _ => ⟨S8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDtDw.lean ====
abbrev S8192x1024 : Shape := ⟨2, ![8192, 1024]⟩
abbrev S8192x64 : Shape := ⟨2, ![8192, 64]⟩
abbrev S1024x64 : Shape := ⟨2, ![1024, 64]⟩
abbrev S2048x1024 : Shape := ⟨2, ![2048, 1024]⟩
abbrev S2048x64 : Shape := ⟨2, ![2048, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x64, .bf16⟩
  | .hbm, ⟨2, _⟩ => ⟨S1024x64, .f32⟩
  | .local _ .vmem, ⟨0, _⟩ => ⟨S2048x1024, .bf16⟩
  | .local _ .vmem, ⟨1, _⟩ => ⟨S2048x1024, .bf16⟩
  | .local _ .vmem, ⟨2, _⟩ => ⟨S2048x64, .bf16⟩
  | .local _ .vmem, ⟨3, _⟩ => ⟨S2048x64, .bf16⟩
  | .local _ .vmem, ⟨4, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDtDwIdeal.lean ====
abbrev S8192x1024 : Shape := ⟨2, ![8192, 1024]⟩
abbrev S8192x64 : Shape := ⟨2, ![8192, 64]⟩
abbrev S1024x64 : Shape := ⟨2, ![1024, 64]⟩
abbrev S2048x1024 : Shape := ⟨2, ![2048, 1024]⟩
abbrev S2048x64 : Shape := ⟨2, ![2048, 64]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x64, .bf16⟩
  | .hbm, ⟨2, _⟩ => ⟨S1024x64, .f32⟩
  | .local _ .vmem, ⟨0, _⟩ => ⟨S2048x1024, .bf16⟩
  | .local _ .vmem, ⟨1, _⟩ => ⟨S2048x1024, .bf16⟩
  | .local _ .vmem, ⟨2, _⟩ => ⟨S2048x64, .bf16⟩
  | .local _ .vmem, ⟨3, _⟩ => ⟨S2048x64, .bf16⟩
  | .local _ .vmem, ⟨4, _⟩ => ⟨S1024x64, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDtDwRefIdeal.lean ====
abbrev S8192x1024 : Shape := ⟨2, ![8192, 1024]⟩
abbrev S8192x64 : Shape := ⟨2, ![8192, 64]⟩
abbrev S1024x8192 : Shape := ⟨2, ![1024, 8192]⟩
abbrev S1024x64 : Shape := ⟨2, ![1024, 64]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x64, .bf16⟩
  | .hbm, ⟨2, _⟩ => ⟨S8192x1024, .f32⟩
  | .hbm, ⟨3, _⟩ => ⟨S1024x8192, .f32⟩
  | .hbm, ⟨4, _⟩ => ⟨S8192x64, .f32⟩
  | .hbm, ⟨5, _⟩ => ⟨S1024x64, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutC.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutCIdeal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutCRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutCDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutCDxIdeal.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutCDxRefIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S1024x2048, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutCDw.lean ====
abbrev S8192x2048 : Shape := ⟨2, ![8192, 2048]⟩
abbrev S8192x1024 : Shape := ⟨2, ![8192, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutCDwIdeal.lean ====
abbrev S8192x2048 : Shape := ⟨2, ![8192, 2048]⟩
abbrev S8192x1024 : Shape := ⟨2, ![8192, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutCDwRefIdeal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S2048x8192, .f32⟩
  | .hbm, ⟨4, _⟩ => ⟨S8192x1024, .f32⟩
  | .hbm, ⟨5, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpIdeal.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDxIdeal.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDxRefIdeal.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S5632x1024, .f32⟩
  | .hbm, ⟨5, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S1024x8192, .f32⟩
  | .hbm, ⟨4, _⟩ => ⟨S8192x5632, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S1024x2816, .f32⟩
  | .hbm, ⟨5, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InCDx.lean ====
abbrev S8192x5120 : Shape := ⟨2, ![8192, 5120]⟩
abbrev S1024x5120 : Shape := ⟨2, ![1024, 5120]⟩
abbrev S8192x1024 : Shape := ⟨2, ![8192, 1024]⟩
abbrev S512x5120 : Shape := ⟨2, ![512, 5120]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .hbm, ⟨3, _⟩ => ⟨S8192x1024, .f32⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InCDxRefIdeal.lean ====
abbrev S8192x5120 : Shape := ⟨2, ![8192, 5120]⟩
abbrev S1024x5120 : Shape := ⟨2, ![1024, 5120]⟩
abbrev S8192x1024 : Shape := ⟨2, ![8192, 1024]⟩
abbrev S5120x1024 : Shape := ⟨2, ![5120, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .hbm, ⟨3, _⟩ => ⟨S8192x5120, .f32⟩
  | .hbm, ⟨4, _⟩ => ⟨S1024x5120, .f32⟩
  | .hbm, ⟨5, _⟩ => ⟨S5120x1024, .f32⟩
  | .hbm, ⟨6, _⟩ => ⟨S8192x1024, .f32⟩
  | .hbm, ⟨7, _⟩ => ⟨S8192x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ColsAb.lean ====
abbrev S8x2048x448 : Shape := ⟨3, ![8, 2048, 448]⟩
abbrev S2048x3584 : Shape := ⟨2, ![2048, 3584]⟩
abbrev S8x256x448 : Shape := ⟨3, ![8, 256, 448]⟩
abbrev S256x3584 : Shape := ⟨2, ![256, 3584]⟩
abbrev S1x256x448 : Shape := ⟨3, ![1, 256, 448]⟩
abbrev S256x448 : Shape := ⟨2, ![256, 448]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x448, .bf16⟩
  | .hbm, ⟨1, _⟩ => ⟨S2048x3584, .bf16⟩
  | .local _ .vmem, ⟨0, _⟩ => ⟨S8x256x448, .bf16⟩
  | .local _ .vmem, ⟨1, _⟩ => ⟨S8x256x448, .bf16⟩
  | .local _ .vmem, ⟨2, _⟩ => ⟨S256x3584, .bf16⟩
  | .local _ .vmem, ⟨3, _⟩ => ⟨S256x3584, .bf16⟩
  | _, _ => ⟨S8x2048x448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ColsAbRef.lean ====
abbrev S8x2048x448 : Shape := ⟨3, ![8, 2048, 448]⟩
abbrev S2048x8x448 : Shape := ⟨3, ![2048, 8, 448]⟩
abbrev S2048x3584 : Shape := ⟨2, ![2048, 3584]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x448, .bf16⟩
  | .hbm, ⟨1, _⟩ => ⟨S2048x8x448, .bf16⟩
  | .hbm, ⟨2, _⟩ => ⟨S2048x3584, .bf16⟩
  | _, _ => ⟨S8x2048x448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== ColsC.lean ====
abbrev S8x2048x648 : Shape := ⟨3, ![8, 2048, 648]⟩
abbrev S2048x5120 : Shape := ⟨2, ![2048, 5120]⟩
abbrev S2048x64 : Shape := ⟨2, ![2048, 64]⟩
abbrev S8x256x648 : Shape := ⟨3, ![8, 256, 648]⟩
abbrev S256x5120 : Shape := ⟨2, ![256, 5120]⟩
abbrev S256x64 : Shape := ⟨2, ![256, 64]⟩
abbrev S1x256x648 : Shape := ⟨3, ![1, 256, 648]⟩
abbrev S256x648 : Shape := ⟨2, ![256, 648]⟩
abbrev S1x256x584 : Shape := ⟨3, ![1, 256, 584]⟩
abbrev S256x584 : Shape := ⟨2, ![256, 584]⟩
abbrev S1x256x64 : Shape := ⟨3, ![1, 256, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x648, .bf16⟩
  | .hbm, ⟨1, _⟩ => ⟨S2048x5120, .bf16⟩
  | .hbm, ⟨2, _⟩ => ⟨S2048x64, .bf16⟩
  | .local _ .vmem, ⟨0, _⟩ => ⟨S8x256x648, .bf16⟩
  | .local _ .vmem, ⟨1, _⟩ => ⟨S8x256x648, .bf16⟩
  | .local _ .vmem, ⟨2, _⟩ => ⟨S256x5120, .bf16⟩
  | .local _ .vmem, ⟨3, _⟩ => ⟨S256x5120, .bf16⟩
  | .local _ .vmem, ⟨4, _⟩ => ⟨S256x64, .bf16⟩
  | .local _ .vmem, ⟨5, _⟩ => ⟨S256x64, .bf16⟩
  | _, _ => ⟨S8x2048x648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ColsCRef.lean ====
abbrev S8x2048x648 : Shape := ⟨3, ![8, 2048, 648]⟩
abbrev S2048x8x648 : Shape := ⟨3, ![2048, 8, 648]⟩
abbrev S2048x5184 : Shape := ⟨2, ![2048, 5184]⟩
abbrev S2048x5120 : Shape := ⟨2, ![2048, 5120]⟩
abbrev S2048x64 : Shape := ⟨2, ![2048, 64]⟩

abbrev nBuf : Space → Nat
  | .hbm => 5
  | .vmem => 0
  | .smem => 0
  | _ => 0

abbrev bufTy : (tb : Table) → Fin (tcTables nBuf tb) → BufTy
  | .hbm, ⟨0, _⟩ => ⟨S8x2048x648, .bf16⟩
  | .hbm, ⟨1, _⟩ => ⟨S2048x8x648, .bf16⟩
  | .hbm, ⟨2, _⟩ => ⟨S2048x5184, .bf16⟩
  | .hbm, ⟨3, _⟩ => ⟨S2048x5120, .bf16⟩
  | .hbm, ⟨4, _⟩ => ⟨S2048x64, .bf16⟩
  | _, _ => ⟨S8x2048x648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== ColsUp.lean ====
abbrev S8x4096x704 : Shape := ⟨3, ![8, 4096, 704]⟩
abbrev S4096x5632 : Shape := ⟨2, ![4096, 5632]⟩
abbrev S8x256x704 : Shape := ⟨3, ![8, 256, 704]⟩
abbrev S256x5632 : Shape := ⟨2, ![256, 5632]⟩
abbrev S1x256x256 : Shape := ⟨3, ![1, 256, 256]⟩
abbrev S256x256 : Shape := ⟨2, ![256, 256]⟩
abbrev S1x256x192 : Shape := ⟨3, ![1, 256, 192]⟩
abbrev S256x192 : Shape := ⟨2, ![256, 192]⟩
abbrev S1x256x64 : Shape := ⟨3, ![1, 256, 64]⟩
abbrev S256x64 : Shape := ⟨2, ![256, 64]⟩
abbrev S1x256x128 : Shape := ⟨3, ![1, 256, 128]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x704, .bf16⟩
  | .hbm, ⟨1, _⟩ => ⟨S4096x5632, .bf16⟩
  | .local _ .vmem, ⟨0, _⟩ => ⟨S8x256x704, .bf16⟩
  | .local _ .vmem, ⟨1, _⟩ => ⟨S8x256x704, .bf16⟩
  | .local _ .vmem, ⟨2, _⟩ => ⟨S256x5632, .bf16⟩
  | .local _ .vmem, ⟨3, _⟩ => ⟨S256x5632, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ColsUpRef.lean ====
abbrev S8x4096x704 : Shape := ⟨3, ![8, 4096, 704]⟩
abbrev S4096x8x704 : Shape := ⟨3, ![4096, 8, 704]⟩
abbrev S4096x5632 : Shape := ⟨2, ![4096, 5632]⟩
abbrev S4096x2x11x256 : Shape := ⟨4, ![4096, 2, 11, 256]⟩
abbrev S4096x11x2x256 : Shape := ⟨4, ![4096, 11, 2, 256]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x8x704, .bf16⟩
  | .hbm, ⟨2, _⟩ => ⟨S4096x5632, .bf16⟩
  | .hbm, ⟨3, _⟩ => ⟨S4096x2x11x256, .bf16⟩
  | .hbm, ⟨4, _⟩ => ⟨S4096x11x2x256, .bf16⟩
  | .hbm, ⟨5, _⟩ => ⟨S4096x5632, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== SlotsAb.lean ====
abbrev S1024x3584 : Shape := ⟨2, ![1024, 3584]⟩
abbrev S8x1024x448 : Shape := ⟨3, ![8, 1024, 448]⟩
abbrev S256x3584 : Shape := ⟨2, ![256, 3584]⟩
abbrev S8x256x448 : Shape := ⟨3, ![8, 256, 448]⟩
abbrev S256x448 : Shape := ⟨2, ![256, 448]⟩
abbrev S1x256x448 : Shape := ⟨3, ![1, 256, 448]⟩

abbrev nBuf : Space → Nat
  | .hbm => 2
  | .vmem => 4
  | .smem => 0
  | _ => 0

abbrev bufTy : (tb : Table) → Fin (tcTables nBuf tb) → BufTy
  | .hbm, ⟨0, _⟩ => ⟨S1024x3584, .f32⟩
  | .hbm, ⟨1, _⟩ => ⟨S8x1024x448, .bf16⟩
  | .local _ .vmem, ⟨0, _⟩ => ⟨S256x3584, .f32⟩
  | .local _ .vmem, ⟨1, _⟩ => ⟨S256x3584, .f32⟩
  | .local _ .vmem, ⟨2, _⟩ => ⟨S8x256x448, .bf16⟩
  | .local _ .vmem, ⟨3, _⟩ => ⟨S8x256x448, .bf16⟩
  | _, _ => ⟨S1024x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsAbRef.lean ====
abbrev S1024x3584 : Shape := ⟨2, ![1024, 3584]⟩
abbrev S1024x8x448 : Shape := ⟨3, ![1024, 8, 448]⟩
abbrev S8x1024x448 : Shape := ⟨3, ![8, 1024, 448]⟩

abbrev nBuf : Space → Nat
  | .hbm => 4
  | .vmem => 0
  | .smem => 0
  | _ => 0

abbrev bufTy : (tb : Table) → Fin (tcTables nBuf tb) → BufTy
  | .hbm, ⟨0, _⟩ => ⟨S1024x3584, .f32⟩
  | .hbm, ⟨1, _⟩ => ⟨S1024x3584, .bf16⟩
  | .hbm, ⟨2, _⟩ => ⟨S1024x8x448, .bf16⟩
  | .hbm, ⟨3, _⟩ => ⟨S8x1024x448, .bf16⟩
  | _, _ => ⟨S1024x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== SlotsC.lean ====
abbrev S1024x5120 : Shape := ⟨2, ![1024, 5120]⟩
abbrev S1024x64 : Shape := ⟨2, ![1024, 64]⟩
abbrev S8x1024x648 : Shape := ⟨3, ![8, 1024, 648]⟩
abbrev S256x5120 : Shape := ⟨2, ![256, 5120]⟩
abbrev S256x64 : Shape := ⟨2, ![256, 64]⟩
abbrev S8x256x648 : Shape := ⟨3, ![8, 256, 648]⟩
abbrev S256x648 : Shape := ⟨2, ![256, 648]⟩
abbrev S1x256x648 : Shape := ⟨3, ![1, 256, 648]⟩
abbrev S256x584 : Shape := ⟨2, ![256, 584]⟩
abbrev S1x256x584 : Shape := ⟨3, ![1, 256, 584]⟩
abbrev S1x256x64 : Shape := ⟨3, ![1, 256, 64]⟩

abbrev nBuf : Space → Nat
  | .hbm => 3
  | .vmem => 6
  | .smem => 0
  | _ => 0

abbrev bufTy : (tb : Table) → Fin (tcTables nBuf tb) → BufTy
  | .hbm, ⟨0, _⟩ => ⟨S1024x5120, .f32⟩
  | .hbm, ⟨1, _⟩ => ⟨S1024x64, .f32⟩
  | .hbm, ⟨2, _⟩ => ⟨S8x1024x648, .bf16⟩
  | .local _ .vmem, ⟨0, _⟩ => ⟨S256x5120, .f32⟩
  | .local _ .vmem, ⟨1, _⟩ => ⟨S256x5120, .f32⟩
  | .local _ .vmem, ⟨2, _⟩ => ⟨S256x64, .f32⟩
  | .local _ .vmem, ⟨3, _⟩ => ⟨S256x64, .f32⟩
  | .local _ .vmem, ⟨4, _⟩ => ⟨S8x256x648, .bf16⟩
  | .local _ .vmem, ⟨5, _⟩ => ⟨S8x256x648, .bf16⟩
  | _, _ => ⟨S1024x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x648 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SlotsCRef.lean ====
abbrev S1024x5120 : Shape := ⟨2, ![1024, 5120]⟩
abbrev S1024x64 : Shape := ⟨2, ![1024, 64]⟩
abbrev S1024x5184 : Shape := ⟨2, ![1024, 5184]⟩
abbrev S1024x8x648 : Shape := ⟨3, ![1024, 8, 648]⟩
abbrev S8x1024x648 : Shape := ⟨3, ![8, 1024, 648]⟩

abbrev nBuf : Space → Nat
  | .hbm => 6
  | .vmem => 0
  | .smem => 0
  | _ => 0

abbrev bufTy : (tb : Table) → Fin (tcTables nBuf tb) → BufTy
  | .hbm, ⟨0, _⟩ => ⟨S1024x5120, .f32⟩
  | .hbm, ⟨1, _⟩ => ⟨S1024x64, .f32⟩
  | .hbm, ⟨2, _⟩ => ⟨S1024x5184, .f32⟩
  | .hbm, ⟨3, _⟩ => ⟨S1024x5184, .bf16⟩
  | .hbm, ⟨4, _⟩ => ⟨S1024x8x648, .bf16⟩
  | .hbm, ⟨5, _⟩ => ⟨S8x1024x648, .bf16⟩
  | _, _ => ⟨S1024x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SlotsUp.lean ====
abbrev S1024x5632 : Shape := ⟨2, ![1024, 5632]⟩
abbrev S8x1024x704 : Shape := ⟨3, ![8, 1024, 704]⟩
abbrev S256x5632 : Shape := ⟨2, ![256, 5632]⟩
abbrev S8x256x704 : Shape := ⟨3, ![8, 256, 704]⟩
abbrev S256x256 : Shape := ⟨2, ![256, 256]⟩
abbrev S1x256x256 : Shape := ⟨3, ![1, 256, 256]⟩
abbrev S256x192 : Shape := ⟨2, ![256, 192]⟩
abbrev S1x256x192 : Shape := ⟨3, ![1, 256, 192]⟩
abbrev S256x64 : Shape := ⟨2, ![256, 64]⟩
abbrev S1x256x64 : Shape := ⟨3, ![1, 256, 64]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S1024x5632, .f32⟩
  | .hbm, ⟨1, _⟩ => ⟨S8x1024x704, .bf16⟩
  | .local _ .vmem, ⟨0, _⟩ => ⟨S256x5632, .f32⟩
  | .local _ .vmem, ⟨1, _⟩ => ⟨S256x5632, .f32⟩
  | .local _ .vmem, ⟨2, _⟩ => ⟨S8x256x704, .bf16⟩
  | .local _ .vmem, ⟨3, _⟩ => ⟨S8x256x704, .bf16⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsUpRef.lean ====
abbrev S1024x5632 : Shape := ⟨2, ![1024, 5632]⟩
abbrev S1024x11x2x256 : Shape := ⟨4, ![1024, 11, 2, 256]⟩
abbrev S1024x2x11x256 : Shape := ⟨4, ![1024, 2, 11, 256]⟩
abbrev S1024x8x704 : Shape := ⟨3, ![1024, 8, 704]⟩
abbrev S8x1024x704 : Shape := ⟨3, ![8, 1024, 704]⟩

abbrev nBuf : Space → Nat
  | .hbm => 7
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S1024x11x2x256, .f32⟩
  | .hbm, ⟨2, _⟩ => ⟨S1024x2x11x256, .f32⟩
  | .hbm, ⟨3, _⟩ => ⟨S1024x5632, .f32⟩
  | .hbm, ⟨4, _⟩ => ⟨S1024x5632, .bf16⟩
  | .hbm, ⟨5, _⟩ => ⟨S1024x8x704, .bf16⟩
  | .hbm, ⟨6, _⟩ => ⟨S8x1024x704, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== DecaySum.lean ====
abbrev S8192x16 : Shape := ⟨2, ![8192, 16]⟩
abbrev S1x16 : Shape := ⟨2, ![1, 16]⟩
abbrev S512x16 : Shape := ⟨2, ![512, 16]⟩
abbrev S16 : Shape := ⟨1, ![16]⟩

abbrev nBuf : Space → Nat
  | .hbm => 2
  | .vmem => 3
  | .smem => 0
  | _ => 0

abbrev bufTy : (tb : Table) → Fin (tcTables nBuf tb) → BufTy
  | .hbm, ⟨0, _⟩ => ⟨S8192x16, .f32⟩
  | .hbm, ⟨1, _⟩ => ⟨S1x16, .f32⟩
  | .local _ .vmem, ⟨0, _⟩ => ⟨S512x16, .f32⟩
  | .local _ .vmem, ⟨1, _⟩ => ⟨S512x16, .f32⟩
  | .local _ .vmem, ⟨2, _⟩ => ⟨S1x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== DecaySumRefIdeal.lean ====
abbrev S8192x16 : Shape := ⟨2, ![8192, 16]⟩
abbrev S_ : Shape := ⟨0, ![]⟩
abbrev S16 : Shape := ⟨1, ![16]⟩
abbrev S1x16 : Shape := ⟨2, ![1, 16]⟩

abbrev nBuf : Space → Nat
  | .hbm => 4
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S_, .f32⟩
  | .hbm, ⟨2, _⟩ => ⟨S16, .f32⟩
  | .hbm, ⟨3, _⟩ => ⟨S1x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Call.lean ====
/-
# A program whose @main is one windowless kernel call

The call's arguments stay in HBM (no window is staged), so all that is left of the launch is: every device's
semaphore counters at zero, every device's arrays, and what the devices owe each other. `run_call` hands all of
that — of ALL devices at once — to one global step, which deals each device what it starts its body with
(`Start`); the body ends with the counters at zero again and with `Fin`, which is read against the final memory.
-/
module

public import Idealize.ShloMosaic.Lib.Pipeline.Launch
public import Idealize.ShloMosaic.Lib.Pipeline.Kit
public import Idealize.ShloMosaic.Lib.Tactic

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section Call

variable {nD : Nat} {τ : Topo} {sig : RefSig} {Val : EltTy → Type} {U : Type} [URA U]
variable {Λ₀ : Idealize.SL.Sem.Labels} {P : Type} [Fintype P] [DecidableEq P]

local notation "𝕄" => MT nD τ sig Unit Val ℕ U ℕ

variable (pcs : P → PCfg sig Λ₀ Val) (a : (p : P) → (pcs p).Adm)

/-- The proof data of a windowless call: what a device holds before the body, what after, what it owes before. -/
def callDat [hW : ∀ p, IsEmpty (Fin (pcs p).W)] (S E : Dev nD → sProp 𝕄) (O₀ : Dev nD → CellTallies nD τ sig Unit)
    (p : P) (c : Dev nD) : Dat τ Val Unit ℕ U ℕ (pinD pcs (fun _ => a) c p) c where
  A w := (hW p).elim w
  after w := (hW p).elim w
  Φ t := if t = 0 then S c else E c
  q _ := fullShare
  owed t := if t = 0 then O₀ c else 0

variable (EP : Emb (UR sig nD τ) (MT nD τ sig Unit Val ℕ U ℕ)) (defs₀ : Defs nD τ sig Val Λ₀) (𝒱₀ : Variants) (p : P)

local notation "𝔻" => Pipeline.defs pcs defs₀
local notation "𝕍" => Variants.lift 𝒱₀

/-- The levels of the TensorCores' cells assigned once, every device together. -/
theorem levels_assign (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  classical
  refine (BI.bigSep_mono fun c _ => lev_assign_cells (c.tc : Thread nD τ) L lv).trans <| (BI.bigSep_bupd _ _).trans <| BI.bupd_mono ?_
  have hsc : (bigSep Finset.univ fun d : Dev nD => bigSep (Finset.univ.erase Proc.tc) fun q => (coreLevAts ((d, q) : Thread nD τ) L lv : sProp 𝕄)) = BI.emp := by
    rw [BI.bigSep_congr (Ψ := fun _ : Dev nD => (BI.emp : sProp 𝕄)) fun d _ =>
      (BI.bigSep_congr (Ψ := fun _ : Proc τ => (BI.emp : sProp 𝕄)) fun q hq => by
        unfold coreLevAts
        rw [BI.bigSep_congr (Ψ := fun _ : SemLoc sig => (BI.emp : sProp 𝕄)) fun sm _ => by
          rw [hL (((d, q) : Thread nD τ), sm) (Finset.ne_of_mem_erase hq), BI.bigSep_empty], BI.bigSep_emp_const]).trans
      (BI.bigSep_emp_const _), BI.bigSep_emp_const]
  have hinner : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (iprop((bigSep Finset.univ fun d : Dev nD => coreLevAts (d.tc : Thread nD τ) L lv)
          ∗ bigSep Finset.univ fun d : Dev nD => bigSep (Finset.univ.erase Proc.tc) fun q => (coreLevAts ((d, q) : Thread nD τ) L lv)) : sProp 𝕄) := by
    rw [hsc, bigSep_sep']
    iintro ⟨-, H⟩
    isplitl [H]; · iexact H
    iempintro
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  exact hinner

include EP in
/-- At launch, from the counters, arrays and debts of all devices and the ghost state `u₀`, one step deals every
    device its start; each body then runs from its start to its end; the ends are read in the final memory. -/
theorem run_call [hW : ∀ p, IsEmpty (Fin (pcs p).W)] [hK : IsEmpty (Fin (pcs p).pre.K)] [∀ e, Nonempty (Val e)]
    (phinj : Function.Injective (PerCore.cellOf (nD := nD) (τ := τ) (pinD pcs fun _ => a)))
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (O₀ : Dev nD → CellTallies nD τ sig Unit)
    (L : GSem nD τ sig → Finset Unit) (lv : GSem nD τ sig → Unit → ℕ) (hL : ∀ g : GSem nD τ sig, g.1.2 ≠ .tc → L g = ∅)
    (u₀ : U) (S E : Dev nD → sProp 𝕄)
    (hglob : iprop((bigSep Finset.univ fun c : Dev nD => scopedSems0 (c.tc : Thread nD τ))
        ∗ (bigSep Finset.univ fun c : Dev nD => unscopedBufs c fun b => m ((c.tc : Thread nD τ).loc b))
        ∗ (bigSep Finset.univ fun c : Dev nD => launchCred O₀ c) ∗ levAts L lv ∗ ownU u₀ : sProp 𝕄)
      ⊢ |={Set.univ}=> bigSep Finset.univ S)
    (hN : ∀ c : Dev nD, (pinD pcs (fun _ => a) c p).N = 1)
    (hbody : ∀ (c : Dev nD) (t : Fin (pinD pcs (fun _ => a) c p).N) (W : Waits sig Unit),
      iprop(S c ∗ owes (c.tc : Thread nD τ) (O₀ c) W)
        ⊢ wp frame (wpE defs₀ 𝒱₀ (c.tc : Thread nD τ) none) Set.univ
            (defs₀ .tc (pinD pcs (fun _ => a) c p).body ((pinD pcs (fun _ => a) c p).bodyArgs t ((pinD pcs (fun _ => a) c p).slots t)))
            fun _ => iprop((scopedSems0 (c.tc : Thread nD τ) ∗ E c) ∗ ∃ W, owes (c.tc : Thread nD τ) 0 W))
    (QY : Dev nD → MemSt nD τ sig Val → Prop)
    (hY : ∀ c (s' : Phys nD τ sig Val), iprop(E c ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let S' : Dev nD → sProp 𝕄 := fun c => iprop(S c ∗ scopedBufs (c.tc : Thread nD τ))
  let E' : Dev nD → sProp 𝕄 := fun c => iprop((scopedSems0 (c.tc : Thread nD τ) ∗ E c) ∗ scopedBufs (c.tc : Thread nD τ))
  let pd := callDat (nD := nD) (τ := τ) pcs a S' E' O₀
  have hemp (c : Dev nD) (Φ : Fin (pinD pcs (fun _ => a) c p).W → sProp 𝕄) : bigSep Finset.univ Φ = BI.emp := by
    haveI : IsEmpty (Fin (pinD pcs (fun _ => a) c p).W) := hW p
    rw [Finset.univ_eq_empty, BI.bigSep_empty]
  have hb (c : Dev nD) : BodyObligationLoose (pd p c) defs₀ 𝒱₀ () Set.univ := fun t => by
    have ht : (t.castSucc : Fin ((pinD pcs (fun _ => a) c p).N + 1)) = 0 := Fin.ext (by have := t.isLt; have := hN c; simp; omega)
    have ht' : (t.succ : Fin ((pinD pcs (fun _ => a) c p).N + 1)) ≠ 0 := Fin.succ_ne_zero t
    have h0 : (pd p c).Φ t.castSucc = S' c := if_pos ht
    have h1 : (pd p c).Φ t.succ = E' c := if_neg (t := S' c) ht'
    have h2 : (pd p c).owed t.castSucc = O₀ c := if_pos ht
    have h3 : (pd p c).owed t.succ = 0 := if_neg (t := O₀ c) ht'
    rw [h0, h1]
    unfold Dat.owesAt owesWithin
    rw [h2, h3]
    iintro ⟨⟨HS, Hsc⟩, ⟨%W, -, HO⟩, -⟩
    ihave Hw := (hbody c t W) $$ [HS HO]
    · isplitl [HS] <;> iassumption
    iapply (wp_wand frame (wpE defs₀ 𝒱₀ (c.tc : Thread nD τ) none) Set.univ) $$ Hw
    iintro %r ⟨HE, %W', HO⟩
    isplitl [HE Hsc]
    · isplitl [HE] <;> iassumption
    isplitl [HO]
    · iexists W'; isplitr; · ipureintro; exact fun _ _ => Or.inl trivial
      iexact HO
    · rw [hemp c]; iempintro
  let pre : Dev nD → sProp 𝕄 := fun c => iprop(scopedBufs (c.tc : Thread nD τ) ∗ owes (c.tc : Thread nD τ) (O₀ c) ∅ ∗ S c)
  let fin : Dev nD → sProp 𝕄 := fun c => iprop(scopedSems0 (c.tc : Thread nD τ) ∗ E c)
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcore (c : Dev nD) :
        coreInit (Ix := Unit) (Name := ℕ) (U := U) (Lvl := ℕ) (owing O₀) 0 (⟨m, fun _ => 0, g⟩ : MemSt nD τ sig Val) (c.tc : Thread nD τ)
          ⊢ iprop(scopedBufs (c.tc : Thread nD τ) ∗ scopedSems0 (c.tc : Thread nD τ) ∗ unscopedBufs c (fun b => m ((c.tc : Thread nD τ).loc b))
              ∗ owes (c.tc : Thread nD τ) (O₀ c) ∅ ∗ levels0 c ∗ launchCred O₀ c) := by
      refine (coreInit_boundary_owing O₀ m g c).trans ?_
      unfold boundary
      iintro ⟨⟨Hsb, Hss, -⟩, Hub, -, HO, Hlv, -, Hcr⟩
      isplitl [Hsb]; · iexact Hsb
      isplitl [Hss]; · iexact Hss
      isplitl [Hub]; · iexact Hub
      isplitl [HO]; · iexact HO
      isplitl [Hlv] <;> iassumption
    have hcores : (bigSep Finset.univ fun c : Dev nD =>
          coreInit (Ix := Unit) (Name := ℕ) (U := U) (Lvl := ℕ) (owing O₀) 0 (⟨m, fun _ => 0, g⟩ : MemSt nD τ sig Val) (c.tc : Thread nD τ))
        ⊢ (iprop((bigSep Finset.univ fun c : Dev nD => scopedBufs (c.tc : Thread nD τ))
            ∗ (bigSep Finset.univ fun c : Dev nD => scopedSems0 (c.tc : Thread nD τ))
            ∗ (bigSep Finset.univ fun c : Dev nD => unscopedBufs c fun b => m ((c.tc : Thread nD τ).loc b))
            ∗ (bigSep Finset.univ fun c : Dev nD => owes (c.tc : Thread nD τ) (O₀ c) ∅)
            ∗ (bigSep Finset.univ fun c : Dev nD => levels0 c)
            ∗ (bigSep Finset.univ fun c : Dev nD => launchCred O₀ c)) : sProp 𝕄) := by
      refine (BI.bigSep_mono fun c _ => hcore c).trans ?_
      simp only [bigSep_sep']
      exact BI.Entails.refl _
    iintro ⟨Hcores, Hu⟩
    ihave Hc := hcores $$ Hcores
    icases Hc with ⟨Hsb, Hss, Hub, HO, Hlv, Hcr⟩
    imod (levels_assign L lv hL) $$ Hlv with Hla
    imod hglob $$ [Hss Hub Hcr Hla Hu] with HS
    · isplitl [Hss]; · iexact Hss
      isplitl [Hub]; · iexact Hub
      isplitl [Hcr]; · iexact Hcr
      isplitl [Hla] <;> iassumption
    imodintro
    iexists ()
    isplitr []
    · simp only [pre, bigSep_sep']
      isplitl [Hsb]; · iexact Hsb
      isplitl [HO] <;> iassumption
    · iempintro
  · simp only [pre]
    rw [hmain c]
    iintro ⟨Hsb, HO, HS⟩
    have h0 : (pd p c).owed 0 = O₀ c := if_pos (e := 0) (show (0 : Fin ((pinD pcs (fun _ => a) c p).N + 1)) = 0 from rfl)
    have hlast : (Fin.last (pinD pcs (fun _ => a) c p).N) ≠ 0 := fun h => by
      have := congrArg Fin.val h; rw [Fin.val_last, hN c] at this; exact Nat.one_ne_zero this
    have h1 : (pd p c).owed (Fin.last _) = 0 := if_neg (t := O₀ c) hlast
    have hpre : (owes (c.tc : Thread nD τ) (O₀ c) ∅ : sProp 𝕄)
        ⊢ PerCore.EntryPre (pinD pcs fun _ => a) pd () EP (fun _ => 0) p c := by
      unfold PerCore.EntryPre Dat.owesAt owesWithin PerCore.cellsWaits PerCore.RDat.cellsWaits PerCore.cellsInit PerCore.RDat.cellsInit PerCore.toksInit Dat.arrays
      rw [h0, hemp c, hemp c, hemp c, hemp c]
      iintro HO
      isplitr; · iempintro
      isplitl [HO]
      · iexists ∅; isplitr; · ipureintro; rw [Finset.coe_empty]; exact Set.empty_subset _
        iexact HO
      isplitr; · iempintro
      isplitr <;> iempintro
    have hst : (Dat.staging (pinD pcs (fun _ => a) c p) c : sProp 𝕄) = BI.emp := by unfold Dat.staging; exact hemp c _
    iapply (PerCore.wp_customCall_entry_frame pcs (fun _ => a) pd () EP (fun _ => 0) phinj p defs₀ 𝒱₀ (fun _ => fullShare) c Set.univ (fun _ _ => Set.mem_univ _)
        (hb c) (fun w => (hW p).elim w) none (fun u h => nomatch h) (X := S c) (Y := E c) (R := scopedBufs (c.tc : Thread nD τ)) (I := iprop(emp))
        (by rw [hst]; iintro H; isplitr; · iempintro
            iexact H)
        (by
          rw [show (pd p c).Φ 0 = S' c from if_pos (e := E' c) (show (0 : Fin ((pinD pcs (fun _ => a) c p).N + 1)) = 0 from rfl)]
          iintro ⟨HS, -, Hsb⟩
          isplitl [HS] <;> iassumption)
        (by
          rw [show (pd p c).Φ (Fin.last _) = E' c from if_neg (t := S' c) hlast]
          iintro ⟨⟨⟨Hss, HE⟩, Hsb⟩, -⟩
          isplitl [HE]; · iexact HE
          isplitl [Hss] <;> iassumption)
        (k := fun _ => .ret ⟨⟩) (Q := fun _ => post (liftTc fin BI.emp) (c.tc : Thread nD τ))) $$ [HO HS Hsb]
    · isplitl [HO]; · iapply hpre; iexact HO
      isplitr; · unfold prefHeld; rw [Finset.univ_eq_empty, BI.bigSep_empty]; iempintro
      isplitl [HS]; · iexact HS
      isplitr; · iempintro
      iexact Hsb
    iintro ⟨Hpost, HE, Hss, -⟩
    rw [wp_ret]; imodintro
    unfold post; simp only [liftTc_tc, fin]
    unfold PerCore.EntryPost Dat.owesAt owesWithin
    rw [h1]
    icases Hpost with ⟨-, %W, -, HO⟩
    isplitr [HO]
    · isplitl [Hss] <;> iassumption
    · iexists W; iexact HO
  · have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨Hss, HE⟩, HSI⟩
      ihave %hz := (tcScoped_read_pers c s') $$ [Hss HSI]
      · isplitl [Hss] <;> iassumption
      imod (hY c s') $$ [HE HSI] with ⟨%hy, HSI⟩
      · isplitl [HE] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Call

end Exchange

end
-- ==== Proof.Net.lean ====
/-
# One-shot transfers between the devices

A body of the kernel issues remote copies (indexed by `K`) and local copies (indexed by `H`), each with
semaphores of its own, each once, and waits for every one of them. Remote copy `k` of device `d` goes to `peer d k`,
whose copy `k` comes back: `peer` is an involution. A copy that is passed on (`fwd k = some k'`: what copy `k`
brought is the source of copy `k'`) may start only when it has arrived.

Every semaphore is one cell of the rounds library with a single duty in round 0. `Res` says what a device holds at a
state of its copies, and each operation of the body moves it from a state to the next (`next`).
-/
module

public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The ghost state: the cells' rounds. -/
abbrev UR (sig : RefSig) (nD : Nat) (τ : Topo) : Type := URounds (GSem nD τ sig) Unit

variable {nD : Nat} {τ : Topo} {sig : RefSig} {Val : EltTy → Type}

local notation "𝕄" => MT nD τ sig Unit Val ℕ (UR sig nD τ) ℕ

/-- The rounds' ghost state is all there is. -/
def EN : Emb (UR sig nD τ) (MT nD τ sig Unit Val ℕ (UR sig nD τ) ℕ) :=
  (Emb.refl _).trans (uEmb (nD := nD) (τ := τ) (sig := sig) (Ix := Unit) (Val := Val) (Name := ℕ) (U := UR sig nD τ) (Lvl := ℕ)).toEmb

instance EN_landsIn : (EN : Emb (UR sig nD τ) 𝕄).LandsIn (upEmb : UEmb _ 𝕄) := by unfold EN; infer_instance

/-! ## The plan of a body -/

/-- How far the copies of one device are. Sends: 0 not started, its source not there yet; 1 ready; 2 in flight; 3 done.
    Arrivals: whether they were waited for. Local copies: 0 ready, 1 in flight, 2 done. -/
structure St (K H : Type) where
  snd : K → ℕ
  rcv : K → Bool
  loc : H → ℕ

/-- The operations of a body. -/
inductive Act (K H : Type) where
  | send (k : K) | sent (k : K) | arrived (k : K) | copy (l : H) | copied (l : H)

/-- The copies of a body: what is passed on to what, and the order in which arrivals may be waited for. -/
structure Plan (K H : Type) where
  fwd : K → Option (K)
  lev : K → ℕ

variable {K H : Type} [Fintype K] [DecidableEq K] [Fintype H] [DecidableEq H]

/-- A copy to be passed on has its source only after the first has arrived. -/
def Plan.blocked (P : Plan K H) (k : K) : Bool := decide (∃ k', P.fwd k' = some k)

/-- Before the body. -/
def Plan.init (P : Plan K H) : St K H where
  snd k := if P.blocked k then 0 else 1
  rcv _ := false
  loc _ := 0

/-- One operation, refused (`none`) out of turn. -/
def Plan.next (P : Plan K H) (s : St K H) : Act K H → Option (St K H)
  | .send k => if s.snd k = 1 then some { s with snd := Function.update s.snd k 2 } else none
  | .sent k => if s.snd k = 2 then some { s with snd := Function.update s.snd k 3 } else none
  | .arrived k => if s.rcv k = false ∧ (∀ k', s.snd k' < 2 → P.lev k < P.lev k') ∧ (∀ k' ∈ P.fwd k, s.snd k' = 0) then
      some { s with rcv := Function.update s.rcv k true
                    snd := match P.fwd k with | none => s.snd | some k' => Function.update s.snd k' 1 }
      else none
  | .copy l => if s.loc l = 0 then some { s with loc := Function.update s.loc l 1 } else none
  | .copied l => if s.loc l = 1 then some { s with loc := Function.update s.loc l 2 } else none

/-- All of a body's operations, in order, leave every copy done. -/
def Plan.completes (P : Plan K H) (acts : List (Act K H)) : Bool :=
  match acts.foldlM P.next P.init with
  | none => false
  | some s => decide ((∀ k, s.snd k = 3) ∧ (∀ k, s.rcv k = true) ∧ ∀ l, s.loc l = 2)

/-! ## The cells and what they hand over -/

/-- The wiring of the copies and the resources that travel with them. -/
structure Net (nD : Nat) (τ : Topo) (sig : RefSig) (Val : EltTy → Type) (K H : Type) where
  plan : Plan K H
  dec : DmaSem sig ≃ (K ⊕ K) ⊕ H
  peer : K → Dev nD → Dev nD
  peer_peer : ∀ k d, peer k (peer k d) = d
  amt : K → ℕ
  amt_pos : ∀ k, 0 < amt k
  amtL : H → ℕ
  amtL_pos : ∀ l, 0 < amtL l
  /-- What copy `k` of device `d` reads. -/
  srcP : Dev nD → K → sProp (MT nD τ sig Unit Val ℕ (UR sig nD τ) ℕ)
  srcP_storable : ∀ d k, BI.Storable (upEmb : UEmb _ (MT nD τ sig Unit Val ℕ (UR sig nD τ) ℕ)) (srcP d k)
  /-- Where on device `d` copy `k` of its peer goes, before. -/
  dstP : Dev nD → K → sProp (MT nD τ sig Unit Val ℕ (UR sig nD τ) ℕ)
  /-- What device `d` keeps of what copy `k` of its peer brought. -/
  keepP : Dev nD → K → sProp (MT nD τ sig Unit Val ℕ (UR sig nD τ) ℕ)
  keepP_storable : ∀ d k, BI.Storable (upEmb : UEmb _ (MT nD τ sig Unit Val ℕ (UR sig nD τ) ℕ)) (keepP d k)
  /-- A local copy's source and destination before and after. -/
  preL : Dev nD → H → sProp (MT nD τ sig Unit Val ℕ (UR sig nD τ) ℕ)
  postL : Dev nD → H → sProp (MT nD τ sig Unit Val ℕ (UR sig nD τ) ℕ)
  postL_storable : ∀ d l, BI.Storable (upEmb : UEmb _ (MT nD τ sig Unit Val ℕ (UR sig nD τ) ℕ)) (postL d l)

namespace Net

attribute [instance] Net.srcP_storable Net.keepP_storable Net.postL_storable

variable (N : Net nD τ sig Val K H)

/-- The semaphores of the sends, the arrivals and the local copies. -/
def sS (k : K) : DmaSem sig := N.dec.symm (.inl (.inl k))
def sR (k : K) : DmaSem sig := N.dec.symm (.inl (.inr k))
def sL (l : H) : DmaSem sig := N.dec.symm (.inr l)

/-- Semaphore `s` of device `d`. -/
abbrev cell (d : Dev nD) (s : DmaSem sig) : GSem nD τ sig := ((d.tc : Thread nD τ), .dma s)

/-- What arrives with copy `k`: what is kept, and the source of the copy it is passed on by. -/
def gotP (d : Dev nD) (k : K) : sProp 𝕄 :=
  iprop(N.keepP d k ∗ match N.plan.fwd k with | none => iprop(emp) | some k' => N.srcP d k')

instance gotP_storable (d : Dev nD) (k : K) : BI.Storable (upEmb : UEmb _ 𝕄) (N.gotP d k) := by
  unfold gotP; split <;> infer_instance

/-- What semaphore `s` of device `d` hands over. -/
def pay (d : Dev nD) (s : DmaSem sig) : sProp 𝕄 :=
  match N.dec s with
  | .inl (.inl k) => N.srcP d k
  | .inl (.inr k) => N.gotP d k
  | .inr l => N.postL d l

instance pay_storable (d : Dev nD) (s : DmaSem sig) : BI.Storable (upEmb : UEmb _ 𝕄) (N.pay d s) := by
  unfold pay; split <;> infer_instance

/-- How far semaphore `s` is raised. -/
def amount (s : DmaSem sig) : ℕ :=
  match N.dec s with
  | .inl (.inl k) => N.amt k
  | .inl (.inr k) => N.amt k
  | .inr l => N.amtL l

theorem amount_pos' (s : DmaSem sig) : 0 < N.amount s := by
  unfold amount; split
  · exact N.amt_pos _
  · exact N.amt_pos _
  · exact N.amtL_pos _

/-- The cells' schedule: one duty, in round 0, on every DMA semaphore of every TensorCore. -/
def sched : Schedule (GSem nD τ sig) Unit 𝕄 where
  duties g r := match g.1.2, g.2, r with | .tc, .dma _, 0 => {()} | _, _, _ => ∅
  amount g _ _ := match g.2 with | .dma s => N.amount s | .reg _ => 1
  payload g _ _ := match g.2 with | .dma s => N.pay g.1.1 s | .reg _ => iprop(emp)
  amount_pos g r d _ := by
    obtain ⟨t, sm⟩ := g
    cases sm with
    | dma s => exact N.amount_pos' s
    | reg s => exact Nat.one_pos
  unitless _ := False

instance sched_storable (g : GSem nD τ sig) (r : ℕ) (u : Unit) : BI.Storable (upEmb : UEmb _ 𝕄) (N.sched.payload g r u) := by
  obtain ⟨t, sm⟩ := g
  cases sm with
  | dma s => exact N.pay_storable t.1 s
  | reg s => exact (inferInstance : BI.Storable (upEmb : UEmb _ 𝕄) (iprop(emp) : sProp 𝕄))

section Facts
variable (d : Dev nD) (s : DmaSem sig) (k : K) (l : H)

theorem duties0 : N.sched.duties (cell d s : GSem nD τ sig) 0 = {()} := rfl
theorem duties_later (g : GSem nD τ sig) : ∀ r, 0 + 1 ≤ r → N.sched.duties g r = ∅ := fun r hr => by
  obtain ⟨r, rfl⟩ : ∃ r', r = r' + 1 := ⟨r - 1, by omega⟩
  obtain ⟨⟨d, p⟩, sm⟩ := g
  cases p <;> cases sm <;> rfl
theorem amount_eq (u : Unit) : N.sched.amount (cell d s : GSem nD τ sig) 0 u = N.amount s := rfl
theorem payload_eq (u : Unit) : N.sched.payload (cell d s : GSem nD τ sig) 0 u = N.pay d s := rfl
theorem expect_eq : N.sched.expect (cell d s : GSem nD τ sig) 0 = N.amount s := by
  unfold Schedule.expect Schedule.amountOf; rw [duties0, Finset.sum_singleton, amount_eq]
theorem rest_eq : bigSep (N.sched.duties (cell d s : GSem nD τ sig) 0 \ ∅) (fun u => N.sched.payload (cell d s : GSem nD τ sig) 0 u) = N.pay d s := by
  rw [Finset.sdiff_empty, duties0, bigSep_singleton, payload_eq]

theorem amount_sS : N.amount (N.sS k) = N.amt k := by unfold amount sS; rw [Equiv.apply_symm_apply]
theorem amount_sR : N.amount (N.sR k) = N.amt k := by unfold amount sR; rw [Equiv.apply_symm_apply]
theorem amount_sL : N.amount (N.sL l) = N.amtL l := by unfold amount sL; rw [Equiv.apply_symm_apply]
theorem pay_sS : N.pay d (N.sS k) = N.srcP d k := by unfold pay sS; rw [Equiv.apply_symm_apply]
theorem pay_sR : N.pay d (N.sR k) = N.gotP d k := by unfold pay sR; rw [Equiv.apply_symm_apply]
theorem pay_sL : N.pay d (N.sL l) = N.postL d l := by unfold pay sL; rw [Equiv.apply_symm_apply]

end Facts

/-! ## Levels -/

def L (g : GSem nD τ sig) : Finset Unit := if g.1.2 = .tc then {()} else ∅
theorem L_of_ne (g : GSem nD τ sig) (h : g.1.2 ≠ .tc) : L g = ∅ := if_neg h
theorem L_tc (d : Dev nD) (sm : SemLoc sig) : () ∈ L ((d.tc : Thread nD τ), sm) := by rw [L, if_pos rfl]; exact Finset.mem_singleton_self _

/-- Arrivals are waited for in the plan's order; everything else is below them. -/
def lv (g : GSem nD τ sig) (_ : Unit) : ℕ :=
  match g.2 with
  | .dma s => match N.dec s with | .inl (.inr k) => N.plan.lev k + 1 | _ => 0
  | .reg _ => 0

theorem lv_sR (d : Dev nD) (k : K) (u : Unit) : N.lv (cell d (N.sR k) : GSem nD τ sig) u = N.plan.lev k + 1 := by
  unfold lv sR; dsimp only; rw [Equiv.apply_symm_apply]
theorem lv_sS (d : Dev nD) (k : K) (u : Unit) : N.lv (cell d (N.sS k) : GSem nD τ sig) u = 0 := by
  unfold lv sS; dsimp only; rw [Equiv.apply_symm_apply]
theorem lv_sL (d : Dev nD) (l : H) (u : Unit) : N.lv (cell d (N.sL l) : GSem nD τ sig) u = 0 := by
  unfold lv sL; dsimp only; rw [Equiv.apply_symm_apply]

/-- What device `d` still owes its peers: the arrivals of what it has not started. -/
def owed (snd : K → ℕ) (d : Dev nD) : CellTallies nD τ sig Unit :=
  ∑ k, if snd k < 2 then tallyAt (cell (N.peer k d) (N.sR k)) () (N.amt k) else 0

theorem owed_pos {snd : K → ℕ} {d : Dev nD} {g : GSem nD τ sig} {u : Unit} (h : 0 < N.owed snd d g u) :
    ∃ k, snd k < 2 ∧ g = cell (N.peer k d) (N.sR k) := by
  unfold owed at h
  rw [Finset.sum_apply, Finsupp.finsetSum_apply] at h
  obtain ⟨k, -, hk⟩ := Finset.exists_ne_zero_of_sum_ne_zero (Nat.pos_iff_ne_zero.mp h)
  by_cases hs : snd k < 2
  · rw [if_pos hs, tallyAt_apply] at hk
    by_cases hg : g = cell (N.peer k d) (N.sR k) ∧ u = ()
    · exact ⟨k, hs, hg.1⟩
    · rw [if_neg hg] at hk; exact absurd rfl hk
  · rw [if_neg hs] at hk; exact absurd rfl hk

theorem mayWait (d : Dev nD) (s : DmaSem sig) (snd : K → ℕ)
    (h : ∀ k, snd k < 2 → N.lv (cell d s : GSem nD τ sig) () < N.plan.lev k + 1) :
    (levAts L N.lv : sProp 𝕄) ⊢ MayWait (d.tc : Thread nD τ) (.dma s) () (N.owed snd d) :=
  Pipeline.mayWait_of_levAts (L_tc d _) fun g i hg => by
    obtain ⟨k, hk, rfl⟩ := N.owed_pos hg
    exact ⟨L_tc _ _, (N.lv_sR _ _ i).symm ▸ h k hk⟩

/-- Starting copy `k` pays what it owes. -/
theorem owed_send (snd : K → ℕ) (d : Dev nD) (k : K) (hk : snd k = 1) :
    N.owed snd d = N.owed (Function.update snd k 2) d + tallyAt (cell (N.peer k d) (N.sR k) : GSem nD τ sig) () (N.amt k) := by
  unfold owed
  rw [← Finset.add_sum_erase _ _ (Finset.mem_univ k), ← Finset.add_sum_erase (a := k) _ (fun k' => if Function.update snd k 2 k' < 2 then _ else _) (Finset.mem_univ k),
    if_pos (by rw [hk]; decide), Function.update_self, if_neg (by decide), zero_add, add_comm]
  congr 1
  refine Finset.sum_congr rfl fun k' hk' => ?_
  rw [Function.update_of_ne (Finset.ne_of_mem_erase hk')]

theorem owed_congr {snd snd' : K → ℕ} (d : Dev nD) (h : ∀ k, snd k < 2 ↔ snd' k < 2) : N.owed (τ := τ) snd d = N.owed snd' d := by
  unfold owed; exact Finset.sum_congr rfl fun k _ => by rw [if_congr (h k) rfl rfl]

/-! ## What a device holds -/

def invs (κ : Dev nD × DmaSem sig → ℕ) : sProp 𝕄 := bigSep Finset.univ fun x => cellInv EN N.sched (κ x) (cell x.1 x.2)
def reacheds : sProp 𝕄 := bigSep Finset.univ fun x : Dev nD × DmaSem sig => reached EN (cell x.1 x.2 : GSem nD τ sig) 0

instance invs_persistent (κ : Dev nD × DmaSem sig → ℕ) : BI.Persistent (N.invs κ) := by unfold invs; infer_instance
instance reacheds_persistent : BI.Persistent (reacheds : sProp 𝕄) := by unfold reacheds; infer_instance

/-- What every device knows throughout. -/
def env (κ : Dev nD × DmaSem sig → ℕ) : sProp 𝕄 := iprop(N.invs κ ∗ reacheds ∗ levAts L N.lv)
instance env_persistent (κ : Dev nD × DmaSem sig → ℕ) : BI.Persistent (N.env κ) := by unfold env; infer_instance

theorem invs_at (κ : Dev nD × DmaSem sig → ℕ) (d : Dev nD) (s : DmaSem sig) : N.invs κ ⊢ cellInv EN N.sched (κ (d, s)) (cell d s) :=
  BI.bigSep_elim (Φ := fun x : Dev nD × DmaSem sig => cellInv EN N.sched (κ x) (cell x.1 x.2)) (Finset.mem_univ (d, s))
theorem reacheds_at (d : Dev nD) (s : DmaSem sig) : (reacheds : sProp 𝕄) ⊢ reached EN (cell d s : GSem nD τ sig) 0 :=
  BI.bigSep_elim (Φ := fun x : Dev nD × DmaSem sig => reached EN (cell x.1 x.2 : GSem nD τ sig) 0) (Finset.mem_univ (d, s))

/-- The right to start copy `k`: both cells' duties, the place it goes to, and the sender's own cell unopened. -/
def may (d : Dev nD) (k : K) : sProp 𝕄 :=
  iprop(dutyTok EN (cell d (N.sS k)) 0 () ∗ dutyTok EN (cell (N.peer k d) (N.sR k)) 0 () ∗ N.dstP (N.peer k d) k
    ∗ atPos EN (cell d (N.sS k)) 0 ∅ 0)

def sRes (d : Dev nD) (k : K) : ℕ → sProp 𝕄
  | 0 => N.may d k
  | 1 => iprop(N.may d k ∗ N.srcP d k)
  | 2 => iprop(cred (tallyAt (cell d (N.sS k)) () (N.amt k)) ∗ atPos EN (cell d (N.sS k)) 0 ∅ 0)
  | _ => iprop(atPos EN (cell d (N.sS k)) (0 + 1) ∅ 0 ∗ N.srcP d k)

def rRes (d : Dev nD) (k : K) : Bool → sProp 𝕄
  | false => iprop(cred (tallyAt (cell d (N.sR k)) () (N.amt k)) ∗ atPos EN (cell d (N.sR k)) 0 ∅ 0)
  | true => iprop(atPos EN (cell d (N.sR k)) (0 + 1) ∅ 0 ∗ N.keepP d k)

def lRes (d : Dev nD) (l : H) : ℕ → sProp 𝕄
  | 0 => iprop(dutyTok EN (cell d (N.sL l)) 0 () ∗ atPos EN (cell d (N.sL l)) 0 ∅ 0 ∗ N.preL d l)
  | 1 => iprop(cred (tallyAt (cell d (N.sL l)) () (N.amtL l)) ∗ atPos EN (cell d (N.sL l)) 0 ∅ 0)
  | _ => iprop(atPos EN (cell d (N.sL l)) (0 + 1) ∅ 0 ∗ N.postL d l)

/-- What device `d` holds at state `s` of its copies. -/
def Res (d : Dev nD) (s : St K H) : sProp 𝕄 :=
  iprop((bigSep Finset.univ fun k => N.sRes d k (s.snd k)) ∗ (bigSep Finset.univ fun k => N.rRes d k (s.rcv k))
    ∗ (bigSep Finset.univ fun l => N.lRes d l (s.loc l)) ∗ ∃ W, owes (d.tc : Thread nD τ) (N.owed s.snd d) W)

/-- One index of a family moves on. -/
theorem bigSep_step {I A : Type} [Fintype I] [DecidableEq I] (R : I → A → sProp 𝕄) (s : I → A) (i : I) (a : A) :
    (bigSep Finset.univ fun j => R j (s j)) ⊢ iprop(R i (s i) ∗ (R i a -∗ bigSep Finset.univ fun j => R j (Function.update s i a j))) := by
  have h1 : (bigSep Finset.univ fun j => R j (s j)) = iprop(R i (s i) ∗ bigSep (Finset.univ.erase i) fun j => R j (s j)) :=
    BI.bigSep_erase (Finset.mem_univ i)
  have h2 : (bigSep Finset.univ fun j => R j (Function.update s i a j)) = iprop(R i a ∗ bigSep (Finset.univ.erase i) fun j => R j (s j)) := by
    rw [BI.bigSep_erase (Φ := fun j => R j (Function.update s i a j)) (Finset.mem_univ i), Function.update_self,
      BI.bigSep_congr (s := Finset.univ.erase i) (Φ := fun j => R j (Function.update s i a j)) (Ψ := fun j => R j (s j))
        fun j hj => by rw [Function.update_of_ne (Finset.ne_of_mem_erase hj)]]
    rfl
  rw [h1, h2]
  iintro ⟨H, Hr⟩
  isplitl [H]; · iexact H
  iintro H
  isplitl [H] <;> iassumption

end Net

end Exchange

end
-- ==== Proof.Steps.lean ====
/-
# The operations of a body, one by one, and a list of them

Each operation moves what the device holds from one state of its copies to the next (`Triple`). A body that is a list
of operations which the plan accepts from beginning to end runs from the plan's start to all copies done.
-/
module

public import proofs.«01_k».proof.Proof.Net

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Idealize.SL.Sem.Labels}

local notation "𝕄" => MT nD τ sig Unit Val ℕ (UR sig nD τ) ℕ

namespace Net

variable {K H : Type} [Fintype K] [DecidableEq K] [Fintype H] [DecidableEq H] (N : Net nD τ sig Val K H) (defs : Defs nD τ sig Val Λ) (𝒱 : Variants) (κ : Dev nD × DmaSem sig → ℕ) (d : Dev nD)

theorem sRes_0 (k : K) : N.sRes d k 0 = N.may d k := rfl
theorem sRes_1 (k : K) : N.sRes d k 1 = iprop(N.may d k ∗ N.srcP d k) := rfl
theorem sRes_2 (k : K) : N.sRes d k 2 = iprop(cred (tallyAt (cell d (N.sS k)) () (N.amt k)) ∗ atPos EN (cell d (N.sS k)) 0 ∅ 0) := rfl
theorem sRes_3 (k : K) : N.sRes d k 3 = iprop(atPos EN (cell d (N.sS k)) (0 + 1) ∅ 0 ∗ N.srcP d k) := rfl
theorem rRes_f (k : K) : N.rRes d k false = iprop(cred (tallyAt (cell d (N.sR k)) () (N.amt k)) ∗ atPos EN (cell d (N.sR k)) 0 ∅ 0) := rfl
theorem rRes_t (k : K) : N.rRes d k true = iprop(atPos EN (cell d (N.sR k)) (0 + 1) ∅ 0 ∗ N.keepP d k) := rfl
theorem lRes_0 (l : H) : N.lRes d l 0 = iprop(dutyTok EN (cell d (N.sL l)) 0 () ∗ atPos EN (cell d (N.sL l)) 0 ∅ 0 ∗ N.preL d l) := rfl
theorem lRes_1 (l : H) : N.lRes d l 1 = iprop(cred (tallyAt (cell d (N.sL l)) () (N.amtL l)) ∗ atPos EN (cell d (N.sL l)) 0 ∅ 0) := rfl
theorem lRes_2 (l : H) : N.lRes d l 2 = iprop(atPos EN (cell d (N.sL l)) (0 + 1) ∅ 0 ∗ N.postL d l) := rfl

/-- Operation `op` of device `d` does what `act` says. -/
def Triple (op : TpuEff nD τ sig Val Λ .tc PUnit) (act : Act K H) : Prop :=
  ∀ s s', N.plan.next s act = some s' → ∀ {α : Type} (Q : α → sProp 𝕄) (k : PUnit → Prog (TpuEff nD τ sig Val Λ .tc) α),
    iprop(N.env κ ∗ N.Res d s)
      ⊢ iprop((N.Res d s' -∗ wp frame (wpE defs 𝒱 (d.tc : Thread nD τ) none) Set.univ (k ⟨⟩) Q)
          -∗ wp frame (wpE defs 𝒱 (d.tc : Thread nD τ) none) Set.univ (.op op k) Q)

variable {sp sp' sp₁ sp₂ : Space} {sh sh₁ : Shape} {el el₁ : EltTy}

theorem triple_send (k : K) (n : Dev nD) (hn : n = N.peer k d) {sS sR : DmaSem sig} (hsS : sS = N.sS k) (hsR : sR = N.sR k)
    (src : Memref sig .tc sp sh el) (dst : Memref sig (Dev.tc n : Thread nD τ).2.kind sp' sh el) {hsc : dst.view.ref.isScScratch = false}
    {hsrc : src.view.WordExact} {hdst : dst.view.WordExact}
    {hsem : DmaTarget.Typed sp (.dma sR) (.remote (Dev.tc n : Thread nD τ) dst (.dma sS) hsc)}
    (q : PosShare TreeShare) (fs : Buf Val (src.view.loc (d.tc : Thread nD τ)))
    (hS : N.srcP d k = (src.view.loc (d.tc : Thread nD τ) ↦[src.view.set]{q} fs))
    (hD : N.dstP n k ⊢ iprop(∃ fd, dst.view.loc (n.tc : Thread nD τ) ↦[dst.view.set]{fullShare} fd))
    (hG : ∀ fd, (dst.view.loc (n.tc : Thread nD τ) ↦[dst.view.set]{fullShare} (dst.view.write Val fd (src.view.read Val fs) Finset.univ)) ⊢ N.gotP n k)
    (hN : dst.view.dmaCredit = N.amt k) :
    N.Triple defs 𝒱 κ d (.enqueueDma src (.remote (Dev.tc n : Thread nD τ) dst (.dma sS) hsc) (.dma sR) hsrc hdst hsem) (.send k) := by
  subst hn hsS hsR
  intro s s' hs α Q kt
  simp only [Plan.next] at hs
  split at hs
  case isFalse => cases hs
  case isTrue hk =>
  cases hs
  unfold Res env
  dsimp only
  iintro ⟨⟨#Hinv, #Hrch, -⟩, Hs, Hr, Hl, %W, HO⟩ Hk
  ihave Hs' := (bigSep_step (fun k p => N.sRes d k p) s.snd k 2) $$ Hs
  rw [hk]
  simp only [sRes_1, sRes_2, sRes_3, rRes_f, rRes_t, lRes_0, lRes_1, lRes_2, may]
  icases Hs' with ⟨⟨⟨Ht, Htp, Hd, Ha⟩, Hsrc⟩, Hback⟩
  ihave Hd' := hD $$ Hd
  icases Hd' with ⟨%fd, Hd⟩
  ihave Hsrc' := (Entails.of_eq hS) $$ Hsrc
  iapply (Rounds.wp_send_pointsTo 𝒱 EN N.sched (d.tc : Thread nD τ) none (κ₁ := κ (d, N.sS k)) (κ₂ := κ (N.peer k d, N.sR k))
    (r₁ := 0) (r₂ := 0) (d₁ := ()) (d₂ := ()) (fd := fd) (q := q) (fs := fs)
    (Finset.mem_singleton_self _) (Finset.mem_singleton_self _) () () (N.amt k) (show dst.view.amount (.dma (N.sR k)) = N.amt k from hN) ((N.amount_eq d _ ()).trans (N.amount_sS k))
    ((N.amount_eq _ _ ()).trans (N.amount_sR k)) (N.owed (Function.update s.snd k 2) d) (N.owed_send s.snd d k hk) (W := W)
    (by rw [← hS, N.payload_eq, N.pay_sS]) (by rw [N.payload_eq, N.pay_sR]; exact hG fd)) $$ [Hsrc' Hd HO Ht Htp]
  · isplitr; · iapply (N.invs_at κ d (N.sS k)); iexact Hinv
    isplitr; · iapply (N.invs_at κ (N.peer k d) (N.sR k)); iexact Hinv
    isplitl [Hsrc']; · iexact Hsrc'
    isplitl [Hd]; · iexact Hd
    isplitl [HO]; · iexact HO
    isplitl [Ht]; · iexact Ht
    isplitr; · iapply (reacheds_at d (N.sS k)); iexact Hrch
    isplitl [Htp]; · iexact Htp
    iapply (reacheds_at (N.peer k d) (N.sR k)); iexact Hrch
  iintro ⟨Hc, HO⟩
  iapply Hk
  isplitl [Hback Hc Ha]
  · iapply Hback
    isplitl [Hc] <;> iassumption
  isplitl [Hr]; · iexact Hr
  isplitl [Hl]; · iexact Hl
  iexists W; iexact HO

theorem triple_sent (k : K) {sS : DmaSem sig} (hsS : sS = N.sS k)
    (src : Memref sig .tc sp₁ sh₁ el₁) (dst : Memref sig .tc sp sh el)
    {hsrc : src.view.WordExact} {hdst : dst.view.WordExact} (hN : dst.view.dmaCredit = N.amt k) :
    N.Triple defs 𝒱 κ d (.waitDma2 sS src dst hsrc hdst) (.sent k) := by
  subst hsS
  intro s s' hs α Q kt
  simp only [Plan.next] at hs
  split at hs
  case isFalse => cases hs
  case isTrue hk =>
  cases hs
  unfold Res env
  dsimp only
  iintro ⟨⟨#Hinv, #Hrch, #Hlev⟩, Hs, Hr, Hl, %W, HO⟩ Hk
  ihave Hs' := (bigSep_step (fun k p => N.sRes d k p) s.snd k 3) $$ Hs
  rw [hk]
  simp only [sRes_1, sRes_2, sRes_3, rRes_f, rRes_t, lRes_0, lRes_1, lRes_2, may]
  icases Hs' with ⟨⟨Hc, Ha⟩, Hback⟩
  iapply (Rounds.wp_wait_rest_token 𝒱 EN N.sched (d.tc : Thread nD τ) none (κ := κ (d, N.sS k))
      (wpE_waitDma2_eq 𝒱 (d.tc : Thread nD τ) none Set.univ) (Set.mem_univ _) () (O := N.owed s.snd d) (W := W) (R := 0) (m := 0) (T := ∅)
      (by rw [Nat.zero_add, expect_eq, amount_sS, hN])) $$ [Hc HO Ha]
  · isplitr; · iapply (N.invs_at κ d (N.sS k)); iexact Hinv
    isplitl [Hc]; · rw [hN]; iexact Hc
    isplitl [HO]; · iexact HO
    isplitr; · iapply (N.mayWait d (N.sS k) s.snd (fun k' _ => by rw [lv_sS]; exact Nat.succ_pos _)); iexact Hlev
    iexact Ha
  iintro ⟨HO, Ha, -, Hpay⟩
  ihave Hp := (Entails.of_eq ((N.rest_eq d (N.sS k)).trans (N.pay_sS d k))) $$ Hpay
  iapply Hk
  isplitl [Hback Hp Ha]
  · iapply Hback
    isplitl [Ha] <;> iassumption
  isplitl [Hr]; · iexact Hr
  isplitl [Hl]; · iexact Hl
  iexists _
  rw [N.owed_congr d (snd := Function.update s.snd k 3) (snd' := s.snd) (fun k' => by
    by_cases h : k' = k
    · subst h; rw [Function.update_self, hk]; decide
    · rw [Function.update_of_ne h])]
  iexact HO

theorem triple_arrived (k : K) {sR : DmaSem sig} (hsR : sR = N.sR k)
    (src : Memref sig .tc sp₁ sh₁ el₁) (dst : Memref sig .tc sp sh el)
    {hsrc : src.view.WordExact} {hdst : dst.view.WordExact} (hN : dst.view.dmaCredit = N.amt k) :
    N.Triple defs 𝒱 κ d (.waitDma2 sR src dst hsrc hdst) (.arrived k) := by
  subst hsR
  intro s s' hs α Q kt
  simp only [Plan.next] at hs
  split at hs
  case isFalse => cases hs
  case isTrue hk =>
  obtain ⟨hk, hlev, hf⟩ := hk
  cases hs
  unfold Res env
  dsimp only
  iintro ⟨⟨#Hinv, #Hrch, #Hlev⟩, Hs, Hr, Hl, %W, HO⟩ Hk
  ihave Hr' := (bigSep_step (fun k p => N.rRes d k p) s.rcv k true) $$ Hr
  rw [hk]
  simp only [sRes_1, sRes_2, sRes_3, rRes_f, rRes_t, lRes_0, lRes_1, lRes_2, may]
  icases Hr' with ⟨⟨Hc, Ha⟩, Hback⟩
  iapply (Rounds.wp_wait_rest_token 𝒱 EN N.sched (d.tc : Thread nD τ) none (κ := κ (d, N.sR k))
      (wpE_waitDma2_eq 𝒱 (d.tc : Thread nD τ) none Set.univ) (Set.mem_univ _) () (O := N.owed s.snd d) (W := W) (R := 0) (m := 0) (T := ∅)
      (by rw [Nat.zero_add, expect_eq, amount_sR, hN])) $$ [Hc HO Ha]
  · isplitr; · iapply (N.invs_at κ d (N.sR k)); iexact Hinv
    isplitl [Hc]; · rw [hN]; iexact Hc
    isplitl [HO]; · iexact HO
    isplitr; · iapply (N.mayWait d (N.sR k) s.snd (fun k' hk' => by rw [lv_sR]; exact Nat.succ_lt_succ (hlev k' hk'))); iexact Hlev
    iexact Ha
  iintro ⟨HO, Ha, -, Hpay⟩
  ihave Hp := (Entails.of_eq ((N.rest_eq d (N.sR k)).trans (N.pay_sR d k))) $$ Hpay
  unfold gotP
  icases Hp with ⟨Hkeep, Hsrc⟩
  iapply Hk
  cases hfk : N.plan.fwd k with
  | none =>
    dsimp only
    isplitl [Hs]; · iexact Hs
    isplitl [Hback Hkeep Ha]
    · iapply Hback
      isplitl [Ha] <;> iassumption
    isplitl [Hl]; · iexact Hl
    iexists _; iexact HO
  | some k' =>
    dsimp only
    have hk0 : s.snd k' = 0 := hf k' hfk
    isplitl [Hs Hsrc]
    · ihave Hs' := (bigSep_step (fun k p => N.sRes d k p) s.snd k' 1) $$ Hs
      rw [hk0]
      simp only [sRes_0, sRes_1]
      icases Hs' with ⟨Hmay, Hb⟩
      iapply Hb
      isplitl [Hmay] <;> iassumption
    isplitl [Hback Hkeep Ha]
    · iapply Hback
      isplitl [Ha] <;> iassumption
    isplitl [Hl]; · iexact Hl
    iexists _
    rw [N.owed_congr d (snd := Function.update s.snd k' 1) (snd' := s.snd) (fun k'' => by
      by_cases h : k'' = k'
      · subst h; rw [Function.update_self, hk0]; decide
      · rw [Function.update_of_ne h])]
    iexact HO

theorem triple_copy (l : H) {sL : DmaSem sig} (hsL : sL = N.sL l)
    (src : Memref sig .tc sp sh el) (dst : Memref sig (Proc.tc : Proc τ).kind sp' sh el)
    {hsrc : src.view.WordExact} {hdst : dst.view.WordExact} {hsem : DmaTarget.Typed (nD := nD) sp (.dma sL) (.here dst)}
    (q : PosShare TreeShare) (fs : Buf Val (src.view.loc (d.tc : Thread nD τ)))
    (hP : N.preL d l ⊢ iprop((src.view.loc (d.tc : Thread nD τ) ↦[src.view.set]{q} fs) ∗ ∃ fd, dst.view.loc (d.tc : Thread nD τ) ↦[dst.view.set]{fullShare} fd))
    (hG : ∀ fd, iprop((dst.view.loc (d.tc : Thread nD τ) ↦[dst.view.set]{fullShare} (dst.view.write Val fd (src.view.read Val fs) Finset.univ))
        ∗ (src.view.loc (d.tc : Thread nD τ) ↦[src.view.set]{q} fs)) ⊢ N.postL d l)
    (hN : dst.view.dmaCredit = N.amtL l) :
    N.Triple defs 𝒱 κ d (.enqueueDma src (.here dst) (.dma sL) hsrc hdst hsem) (.copy l) := by
  subst hsL
  intro s s' hs α Q kt
  simp only [Plan.next] at hs
  split at hs
  case isFalse => cases hs
  case isTrue hk =>
  cases hs
  unfold Res env
  dsimp only
  iintro ⟨⟨#Hinv, #Hrch, #Hlev⟩, Hs, Hr, Hl, %W, HO⟩ Hk
  ihave Hl' := (bigSep_step (fun k p => N.lRes d k p) s.loc l 1) $$ Hl
  rw [hk]
  simp only [sRes_1, sRes_2, sRes_3, rRes_f, rRes_t, lRes_0, lRes_1, lRes_2, may]
  icases Hl' with ⟨⟨Ht, Ha, Hpre⟩, Hback⟩
  ihave Hpre' := hP $$ Hpre
  icases Hpre' with ⟨Hsrc, %fd, Hd⟩
  iapply (Rounds.wp_copy_pointsTo 𝒱 EN N.sched (d.tc : Thread nD τ) none (κ := κ (d, N.sL l)) (r := 0) (d := ()) (fd := fd) (q := q) (fs := fs)
    (Finset.mem_singleton_self _) () (N.amtL l) (show dst.view.amount (.dma (N.sL l)) = N.amtL l from hN) ((N.amount_eq d _ ()).trans (N.amount_sL l))
    (by rw [N.payload_eq, N.pay_sL]; exact hG fd)) $$ [Hsrc Hd Ht]
  · isplitr; · iapply (N.invs_at κ d (N.sL l)); iexact Hinv
    isplitl [Hsrc]; · iexact Hsrc
    isplitl [Hd]; · iexact Hd
    isplitl [Ht]; · iexact Ht
    iapply (reacheds_at d (N.sL l)); iexact Hrch
  iintro Hc
  iapply Hk
  isplitl [Hs]; · iexact Hs
  isplitl [Hr]; · iexact Hr
  isplitl [Hback Hc Ha]
  · iapply Hback
    isplitl [Hc] <;> iassumption
  iexists W; iexact HO

theorem triple_copied (l : H) {sL : DmaSem sig} (hsL : sL = N.sL l)
    (src : Memref sig .tc sp₁ sh₁ el₁) (dst : Memref sig .tc sp sh el)
    {hsrc : src.view.WordExact} {hdst : dst.view.WordExact} (hN : dst.view.dmaCredit = N.amtL l) :
    N.Triple defs 𝒱 κ d (.waitDma2 sL src dst hsrc hdst) (.copied l) := by
  subst hsL
  intro s s' hs α Q kt
  simp only [Plan.next] at hs
  split at hs
  case isFalse => cases hs
  case isTrue hk =>
  cases hs
  unfold Res env
  dsimp only
  iintro ⟨⟨#Hinv, #Hrch, #Hlev⟩, Hs, Hr, Hl, %W, HO⟩ Hk
  ihave Hl' := (bigSep_step (fun k p => N.lRes d k p) s.loc l 2) $$ Hl
  rw [hk]
  simp only [sRes_1, sRes_2, sRes_3, rRes_f, rRes_t, lRes_0, lRes_1, lRes_2, may]
  icases Hl' with ⟨⟨Hc, Ha⟩, Hback⟩
  iapply (Rounds.wp_wait_rest_token 𝒱 EN N.sched (d.tc : Thread nD τ) none (κ := κ (d, N.sL l))
      (wpE_waitDma2_eq 𝒱 (d.tc : Thread nD τ) none Set.univ) (Set.mem_univ _) () (O := N.owed s.snd d) (W := W) (R := 0) (m := 0) (T := ∅)
      (by rw [Nat.zero_add, expect_eq, amount_sL, hN])) $$ [Hc HO Ha]
  · isplitr; · iapply (N.invs_at κ d (N.sL l)); iexact Hinv
    isplitl [Hc]; · rw [hN]; iexact Hc
    isplitl [HO]; · iexact HO
    isplitr; · iapply (N.mayWait d (N.sL l) s.snd (fun k' _ => by rw [lv_sL]; exact Nat.succ_pos _)); iexact Hlev
    iexact Ha
  iintro ⟨HO, Ha, -, Hpay⟩
  ihave Hp := (Entails.of_eq ((N.rest_eq d (N.sL l)).trans (N.pay_sL d l))) $$ Hpay
  iapply Hk
  isplitl [Hs]; · iexact Hs
  isplitl [Hr]; · iexact Hr
  isplitl [Hback Hp Ha]
  · iapply Hback
    isplitl [Ha] <;> iassumption
  iexists _; iexact HO

/-! ## A list of operations -/

/-- The operations of `acts`, one after the other. -/
def runActs {A : Type} (op : A → TpuEff nD τ sig Val Λ .tc PUnit) : List A → Prog (TpuEff nD τ sig Val Λ .tc) PUnit
  | [] => .ret ⟨⟩
  | a :: acts => .op (op a) fun _ => runActs op acts

theorem wp_acts (op : Act K H → TpuEff nD τ sig Val Λ .tc PUnit) (hop : ∀ a, N.Triple defs 𝒱 κ d (op a) a)
    (acts : List (Act K H)) : ∀ s s', acts.foldlM N.plan.next s = some s' → ∀ Q : PUnit → sProp 𝕄,
      iprop(N.env κ ∗ N.Res d s) ⊢ iprop((N.Res d s' -∗ |={Set.univ}=> Q ⟨⟩)
        -∗ wp frame (wpE defs 𝒱 (d.tc : Thread nD τ) none) Set.univ (runActs op acts) Q) := by
  induction acts with
  | nil =>
    intro s s' h Q
    cases h
    iintro ⟨-, H⟩ HQ
    unfold runActs
    rw [wp_ret]
    iapply HQ; iexact H
  | cons a acts ih =>
    intro s s' h Q
    rw [List.foldlM_cons] at h
    obtain ⟨s₁, h₁, h₂⟩ := Option.bind_eq_some_iff.mp h
    unfold runActs
    iintro ⟨#He, H⟩ HQ
    iapply (hop a s s₁ h₁ Q fun _ => runActs op acts) $$ [H]
    · isplitr; · iexact He
      iexact H
    iintro H
    iapply (ih s₁ s' h₂ Q) $$ [H] [HQ]
    · isplitr; · iexact He
      iexact H
    iexact HQ

/-- What a device holds when every copy is done. -/
def Done (d : Dev nD) : sProp 𝕄 :=
  iprop((bigSep Finset.univ fun k => N.srcP d k) ∗ (bigSep Finset.univ fun k => N.keepP d k) ∗ (bigSep Finset.univ fun l => N.postL d l))

/-- All copies done, the counters are at zero again. -/
theorem close (s : St K H) (hs : ∀ k, s.snd k = 3) (hr : ∀ k, s.rcv k = true) (hl : ∀ l, s.loc l = 2) :
    iprop(N.env κ ∗ N.Res d s) ⊢ |={Set.univ}=> iprop((bigSep Finset.univ fun sm : DmaSem sig => semVal (cell d sm : GSem nD τ sig) 0)
      ∗ N.Done d ∗ ∃ W, owes (d.tc : Thread nD τ) 0 W) := by
  have hcell (sm : DmaSem sig) : iprop(N.env κ ∗ atPos EN (cell d sm) (0 + 1) ∅ 0) ⊢ iprop(|={Set.univ}=> semVal (cell d sm : GSem nD τ sig) 0) := by
    unfold env
    iintro ⟨⟨#Hinv, -, -⟩, Ha⟩
    iapply (Rounds.cell_close EN N.sched (Set.mem_univ (κ (d, sm))) (fun h => h) (R := 0 + 1) (N.duties_later (cell d sm)))
    isplitr; · iapply (N.invs_at κ d sm); iexact Hinv
    iexact Ha
  have hall : iprop(N.env κ ∗ bigSep Finset.univ fun sm : DmaSem sig => atPos EN (cell d sm) (0 + 1) ∅ 0)
      ⊢ iprop(|={Set.univ}=> bigSep Finset.univ fun sm : DmaSem sig => semVal (cell d sm : GSem nD τ sig) 0) := by
    refine BI.Entails.trans ?_ (BI.bigSep_fupd _ _)
    refine BI.Entails.trans ?_ (BI.bigSep_mono fun sm _ => hcell sm)
    exact (BI.sep_mono_l (BI.bigSep_intro_persistent fun _ _ => BI.Entails.refl _)).trans (Entails.of_eq (bigSep_sep' _ _ _).symm)
  have hdeal : (bigSep Finset.univ fun sm : DmaSem sig => (atPos EN (cell d sm : GSem nD τ sig) (0 + 1) ∅ 0 : sProp 𝕄))
      = iprop(((bigSep Finset.univ fun k => atPos EN (cell d (N.sS k)) (0 + 1) ∅ 0) ∗ (bigSep Finset.univ fun k => atPos EN (cell d (N.sR k)) (0 + 1) ∅ 0))
        ∗ (bigSep Finset.univ fun l => atPos EN (cell d (N.sL l)) (0 + 1) ∅ 0)) := by
    rw [BI.bigSep_univ_equiv N.dec.symm, BI.bigSep_univ_sum, BI.bigSep_univ_sum]; rfl
  have hO : N.owed s.snd d = (0 : CellTallies nD τ sig Unit) := by
    unfold owed; exact Finset.sum_eq_zero fun k _ => by rw [hs, if_neg (by decide)]
  unfold Res Done
  simp only [hs, hr, hl, sRes_3, rRes_t, lRes_2, bigSep_sep', hO]
  iintro ⟨#He, ⟨Has, Hs⟩, ⟨Har, Hr⟩, ⟨Hal, Hl⟩, HO⟩
  imod hall $$ [Has Har Hal] with Hz
  · isplitr; · iexact He
    rw [hdeal]
    isplitl [Has Har]
    · isplitl [Has] <;> iassumption
    iexact Hal
  imodintro
  isplitl [Hz]; · iexact Hz
  isplitr [HO]
  · isplitl [Hs]; · iexact Hs
    isplitl [Hr] <;> iassumption
  iexact HO

end Net

end Exchange

end
-- ==== Proof.Deal.lean ====
/-
# The whole call

`Net.run`: a program that is one call, whose body is a list of operations that the plan accepts. At launch every
semaphore becomes a cell, the right to raise an arrival's semaphore goes to the peer that sends it together with the
place the copy goes to, and every device starts with what its own copies read. At the end all copies are done.
-/
module

public import proofs.«01_k».proof.Proof.Call
public import proofs.«01_k».proof.Proof.Steps

@[expose] public section

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

namespace Net

section Deal

variable {nD : Nat} {τ : Topo} {sig : RefSig} {Val : EltTy → Type} {K H : Type} [Fintype K] [DecidableEq K] [Fintype H] [DecidableEq H]

local notation "𝕄" => MT nD τ sig Unit Val ℕ (UR sig nD τ) ℕ

variable (N : Net nD τ sig Val K H)

/-- Every device's cells. -/
def cellEmb : Dev nD × DmaSem sig ↪ GSem nD τ sig :=
  ⟨fun x => cell x.1 x.2, fun x y h => by
    obtain ⟨d, s⟩ := x
    obtain ⟨d', s'⟩ := y
    have h1 : d = d' := congrArg (fun g : GSem nD τ sig => g.1.1) h
    have h2 : (SemLoc.dma s : SemLoc sig) = .dma s' := congrArg Prod.snd h
    cases h1; cases h2; rfl⟩

def cells : Finset (GSem nD τ sig) := Finset.univ.map cellEmb
def toks : Finset (GSem nD τ sig × ℕ × Unit) :=
  (Finset.univ : Finset (Dev nD × DmaSem sig)).map ⟨fun x => (cell x.1 x.2, 0, ()), fun x y h => cellEmb.injective (congrArg Prod.fst h)⟩

/-- The ghost state at launch. -/
def u₀ : UR sig nD τ := initOf cells toks

theorem sep_assoc_eq (A B C : sProp 𝕄) : iprop((A ∗ B) ∗ C) = iprop(A ∗ B ∗ C) := by
  have h₁ : iprop((A ∗ B) ∗ C) ⊢ iprop(A ∗ B ∗ C) := by
    iintro ⟨⟨HA, HB⟩, HC⟩
    isplitl [HA]; · iexact HA
    isplitl [HB] <;> iassumption
  have h₂ : iprop(A ∗ B ∗ C) ⊢ iprop((A ∗ B) ∗ C) := by
    iintro ⟨HA, HB, HC⟩
    isplitr [HC]
    · isplitl [HA] <;> iassumption
    iexact HC
  exact BI.Entails.antisymm h₁ h₂

/-- A family over all devices' semaphores, device by device and by what they are for. -/
theorem bigSep_cells (Φ : Dev nD → DmaSem sig → sProp 𝕄) :
    (bigSep Finset.univ fun x : Dev nD × DmaSem sig => Φ x.1 x.2)
      = iprop((bigSep Finset.univ fun d => bigSep Finset.univ fun k => Φ d (N.sS k)) ∗ (bigSep Finset.univ fun d => bigSep Finset.univ fun k => Φ d (N.sR k))
        ∗ (bigSep Finset.univ fun d => bigSep Finset.univ fun l => Φ d (N.sL l))) := by
  have h (d : Dev nD) : (bigSep Finset.univ fun s : DmaSem sig => Φ d s)
      = iprop((bigSep Finset.univ fun k => Φ d (N.sS k)) ∗ (bigSep Finset.univ fun k => Φ d (N.sR k)) ∗ (bigSep Finset.univ fun l => Φ d (N.sL l))) := by
    rw [BI.bigSep_univ_equiv N.dec.symm, BI.bigSep_univ_sum, BI.bigSep_univ_sum]
    exact sep_assoc_eq _ _ _
  rw [BI.bigSep_univ_prod (fun x : Dev nD × DmaSem sig => Φ x.1 x.2), BI.bigSep_congr fun d _ => h d]
  simp only [bigSep_sep']

/-- What goes with copy `k` of device `d` may be named by the device it comes to. -/
theorem bigSep_peer (Φ : Dev nD → K → sProp 𝕄) :
    (bigSep Finset.univ fun d => bigSep Finset.univ fun k => Φ d k) = bigSep Finset.univ fun d => bigSep Finset.univ fun k => Φ (N.peer k d) k := by
  rw [BI.bigSep_univ_comm, BI.bigSep_univ_comm (Φ := fun d k => Φ (N.peer k d) k)]
  refine BI.bigSep_congr fun k _ => ?_
  exact BI.bigSep_univ_equiv ⟨N.peer k, N.peer k, N.peer_peer k, N.peer_peer k⟩ (fun d => Φ d k)

theorem init_lt (k : K) : N.plan.init.snd k < 2 := by
  unfold Plan.init; dsimp only; split <;> decide

/-- The credit every device starts with: its own arrivals'. -/
theorem launchCred_arrivals (d : Dev nD) :
    (launchCred (fun c => N.owed N.plan.init.snd c) d : sProp 𝕄) ⊢ bigSep Finset.univ fun k => cred (tallyAt (cell d (N.sR k)) () (N.amt k)) := by
  rw [show (fun c => N.owed N.plan.init.snd c) = fun c => ∑ k, tallyAt (cell (N.peer k c) (N.sR k) : GSem nD τ sig) () (N.amt k) from
    funext fun c => Finset.sum_congr rfl fun k _ => if_pos (N.init_lt k)]
  rw [launchCred_sum]
  exact BI.bigSep_mono fun k _ => launchCred_tallyAt _ (N.peer k) (N.peer k) (N.peer_peer k) (N.peer_peer k) () (N.amt k) d

/-- What device `d` starts its body with. -/
def Start (rest : Dev nD → sProp 𝕄) (d : Dev nD) : sProp 𝕄 :=
  iprop((∃ κ, N.env κ) ∗ ((bigSep Finset.univ fun k => N.sRes d k (N.plan.init.snd k)) ∗ (bigSep Finset.univ fun k => N.rRes d k false)
    ∗ (bigSep Finset.univ fun l => N.lRes d l 0)) ∗ rest d)

/-- The cells' set-up: every semaphore at zero becomes a cell, its opener's and its owner's tokens come out. -/
theorem setup :
    iprop((bigSep Finset.univ fun x : Dev nD × DmaSem sig => (semVal (cell x.1 x.2 : GSem nD τ sig) 0 : sProp 𝕄)) ∗ ownU u₀)
      ⊢ |={Set.univ}=> iprop((∃ κ, N.invs κ) ∗ reacheds
        ∗ (bigSep Finset.univ fun x : Dev nD × DmaSem sig => atPos EN (cell x.1 x.2 : GSem nD τ sig) 0 ∅ 0)
        ∗ bigSep Finset.univ fun x : Dev nD × DmaSem sig => dutyTok EN (cell x.1 x.2 : GSem nD τ sig) 0 ()) := by
  have hfund := Rounds.fund (EN : Emb (UR sig nD τ) 𝕄) N.sched cells toks
  unfold cells toks at hfund
  simp only [BI.bigSep_map] at hfund
  iintro ⟨Hv, Hu⟩
  ihave Hu' := (show (ownU u₀ : sProp 𝕄) ⊢ BI.own (EN u₀) from BI.Entails.refl _) $$ Hu
  imod (show (BI.own (EN u₀) : sProp 𝕄) ⊢ iprop(|==> ((bigSep Finset.univ fun x : Dev nD × DmaSem sig => roundState EN N.sched (cell x.1 x.2) 0)
      ∗ reacheds ∗ (bigSep Finset.univ fun x : Dev nD × DmaSem sig => atPos EN (cell x.1 x.2 : GSem nD τ sig) 0 ∅ 0)
      ∗ bigSep Finset.univ fun x : Dev nD × DmaSem sig => dutyTok EN (cell x.1 x.2 : GSem nD τ sig) 0 ())) from hfund) $$ Hu' with ⟨Hst, Hr, Ha, Ht⟩
  ihave Hb := (show iprop((bigSep Finset.univ fun x : Dev nD × DmaSem sig => (semVal (cell x.1 x.2 : GSem nD τ sig) 0 : sProp 𝕄))
      ∗ bigSep Finset.univ fun x : Dev nD × DmaSem sig => roundState EN N.sched (cell x.1 x.2) 0)
      ⊢ bigSep Finset.univ fun x : Dev nD × DmaSem sig => Rounds.body EN N.sched (cell x.1 x.2) from
    (Entails.of_eq (BI.bigSep_sep _ _ _).symm).trans (BI.bigSep_mono fun x _ => body_intro EN N.sched _)) $$ [Hv Hst]
  · isplitl [Hv] <;> iassumption
  imod (inv_alloc_family Finset.univ (fun x : Dev nD × DmaSem sig => Rounds.body EN N.sched (cell x.1 x.2)) ∅ (E := Set.univ)) $$ Hb with ⟨%κ, -, Hinv⟩
  imodintro
  isplitl [Hinv]; · iexists κ; unfold invs cellInv; iexact Hinv
  isplitl [Hr]; · iexact Hr
  isplitl [Ha] <;> iassumption

end Deal

section Run

variable {nD : Nat} {τ : Topo} {sig : RefSig} {Val : EltTy → Type} {K H : Type} [Fintype K] [DecidableEq K] [Fintype H] [DecidableEq H]
variable {Λ₀ : Idealize.SL.Sem.Labels} {P : Type} [Fintype P] [DecidableEq P]

local notation "𝕄" => MT nD τ sig Unit Val ℕ (UR sig nD τ) ℕ

variable (N : Net nD τ sig Val K H)
variable (pcs : P → PCfg sig Λ₀ Val) (a : (p : P) → (pcs p).Adm) (defs₀ : Defs nD τ sig Val Λ₀) (𝒱₀ : Variants) (p : P)

/-- The scoped counters of a TensorCore are its DMA semaphores. -/
theorem scopedSems0_eq (hsem : ∀ sm : SemLoc sig, sm.isScoped .tc = true ↔ ∃ s, sm = .dma s) (d : Dev nD) :
    (scopedSems0 (d.tc : Thread nD τ) : sProp 𝕄) = bigSep Finset.univ fun s : DmaSem sig => semVal (cell d s : GSem nD τ sig) 0 := by
  rw [show (scopedSems0 (d.tc : Thread nD τ) : sProp 𝕄)
      = bigSep (Finset.univ.filter fun sm : SemLoc sig => sm.isScoped .tc) fun sm => (semVal (((d, .tc) : Thread nD τ), sm) 0 : sProp 𝕄) from scopedSems0_tc d]
  rw [show (Finset.univ.filter fun sm : SemLoc sig => sm.isScoped .tc = true) = Finset.univ.map ⟨fun s : DmaSem sig => SemLoc.dma s, fun s s' h => by cases h; rfl⟩ from by
    ext sm; simp only [Finset.mem_filter, Finset.mem_univ, true_and, Finset.mem_map, Function.Embedding.coeFn_mk, hsem sm]
    exact exists_congr fun s => eq_comm]
  rw [BI.bigSep_map]; rfl

/-- The call runs from the devices' launch memory to all copies done; what they hold then is read in the final memory. -/
theorem run (rest : Dev nD → sProp 𝕄) [hW : ∀ p, IsEmpty (Fin (pcs p).W)] [hK : IsEmpty (Fin (pcs p).pre.K)] [∀ e, Nonempty (Val e)]
    (phinj : Function.Injective (PerCore.cellOf (nD := nD) (τ := τ) (pinD pcs fun _ => a)))
    (hsem : ∀ sm : SemLoc sig, sm.isScoped .tc = true ↔ ∃ s, sm = .dma s)
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hN : ∀ c : Dev nD, (pinD pcs (fun _ => a) c p).N = 1)
    (hmem : ∀ d : Dev nD, (unscopedBufs d fun b => m ((d.tc : Thread nD τ).loc b)) ⊢ iprop(rest d
      ∗ (bigSep Finset.univ fun k => if N.plan.blocked k then iprop(emp) else N.srcP d k)
      ∗ (bigSep Finset.univ fun k => N.dstP d k) ∗ bigSep Finset.univ fun l => N.preL d l))
    (op : Dev nD → Act K H → TpuEff nD τ sig Val Λ₀ .tc PUnit) (acts : List (Act K H))
    (hbody : ∀ (c : Dev nD) (t : Fin (pinD pcs (fun _ => a) c p).N) (R : sProp 𝕄),
      wp frame (wpE defs₀ 𝒱₀ (c.tc : Thread nD τ) none) Set.univ (.op .deviceId fun d => runActs (op d) acts) (fun _ => R)
        ⊢ wp frame (wpE defs₀ 𝒱₀ (c.tc : Thread nD τ) none) Set.univ
            (defs₀ .tc (pinD pcs (fun _ => a) c p).body ((pinD pcs (fun _ => a) c p).bodyArgs t ((pinD pcs (fun _ => a) c p).slots t))) (fun _ => R))
    (hop : ∀ κ d a, N.Triple defs₀ 𝒱₀ κ d (op d a) a)
    (hacts : N.plan.completes acts = true)
    (QY : Dev nD → MemSt nD τ sig Val → Prop)
    (hY : ∀ c (s' : Phys nD τ sig Val), iprop((N.Done c ∗ rest c) ∗ SI s') ⊢ |={Set.univ}=> iprop(⌜QY c s'.mem⌝ ∗ SI s'))
    {Q : PUnit × MemSt nD τ sig Val → Prop}
    (hQ : ∀ s : MemSt nD τ sig Val, (∀ c, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  obtain ⟨s', hfold, hs, hr, hl⟩ : ∃ s', acts.foldlM N.plan.next N.plan.init = some s' ∧ (∀ k, s'.snd k = 3) ∧ (∀ k, s'.rcv k = true) ∧ ∀ l, s'.loc l = 2 := by
    unfold Plan.completes at hacts
    split at hacts
    · cases hacts
    · rename_i s' h
      exact ⟨s', h, of_decide_eq_true hacts⟩
  refine run_call pcs a EN defs₀ 𝒱₀ p phinj m g main hmain (fun c => N.owed N.plan.init.snd c) L N.lv L_of_ne u₀
    (N.Start rest) (fun d => iprop(N.Done d ∗ rest d)) ?_ hN ?_ QY hY hQ
  · have hmem' : (bigSep Finset.univ fun d : Dev nD => unscopedBufs d fun b => m ((d.tc : Thread nD τ).loc b))
        ⊢ (bigSep Finset.univ fun d : Dev nD => iprop(rest d
          ∗ (bigSep Finset.univ fun k => if N.plan.blocked k then iprop(emp) else N.srcP d k)
          ∗ (bigSep Finset.univ fun k => N.dstP d k) ∗ bigSep Finset.univ fun l => N.preL d l) : sProp 𝕄) := BI.bigSep_mono fun d _ => hmem d
    have hcred : (bigSep Finset.univ fun d : Dev nD => launchCred (fun c => N.owed N.plan.init.snd c) d)
        ⊢ (bigSep Finset.univ fun d : Dev nD => bigSep Finset.univ fun k => cred (tallyAt (cell d (N.sR k)) () (N.amt k)) : sProp 𝕄) :=
      BI.bigSep_mono fun d _ => N.launchCred_arrivals d
    rw [BI.bigSep_congr fun d _ => scopedSems0_eq hsem d,
      ← BI.bigSep_univ_prod (fun x : Dev nD × DmaSem sig => (semVal (cell x.1 x.2 : GSem nD τ sig) 0 : sProp 𝕄))]
    have hgoal : iprop((bigSep Finset.univ fun _ : Dev nD => iprop(∃ κ, N.env κ))
        ∗ ((bigSep Finset.univ fun d : Dev nD => bigSep Finset.univ fun k => N.sRes d k (N.plan.init.snd k))
          ∗ (bigSep Finset.univ fun d : Dev nD => bigSep Finset.univ fun k => N.rRes d k false)
          ∗ (bigSep Finset.univ fun d : Dev nD => bigSep Finset.univ fun l => N.lRes d l 0)) ∗ bigSep Finset.univ rest)
        ⊢ (bigSep Finset.univ (N.Start rest) : sProp 𝕄) := by
      rw [show N.Start rest = fun d => N.Start rest d from rfl]
      unfold Start
      simp only [bigSep_sep']
      exact BI.Entails.refl _
    iintro ⟨Hss, Hub, Hcr, Hla, Hu⟩
    imod N.setup $$ [Hss Hu] with ⟨Hinv, #Hrch, Ha, Ht⟩
    · isplitl [Hss] <;> iassumption
    imodintro
    ihave Hm := hmem' $$ Hub
    ihave Hc := hcred $$ Hcr
    ihave Ha := (Entails.of_eq (N.bigSep_cells fun d s => atPos EN (cell d s) 0 ∅ 0)) $$ Ha
    ihave Ht := (Entails.of_eq (N.bigSep_cells fun d s => dutyTok EN (cell d s) 0 ())) $$ Ht
    ihave Hm := (show _ ⊢ iprop(bigSep Finset.univ rest
          ∗ (bigSep Finset.univ fun d : Dev nD => bigSep Finset.univ fun k => if N.plan.blocked k then iprop(emp) else N.srcP d k)
          ∗ (bigSep Finset.univ fun d : Dev nD => bigSep Finset.univ fun k => N.dstP d k) ∗ (bigSep Finset.univ fun d : Dev nD => bigSep Finset.univ fun l => N.preL d l))
        from Entails.of_eq (by simp only [bigSep_sep'])) $$ Hm
    icases Hm with ⟨Hf, Hsrc, Hdst, Hpre⟩
    icases Ha with ⟨HaS, HaR, HaL⟩
    icases Ht with ⟨HtS, HtR, HtL⟩
    ihave HtR := (Entails.of_eq (N.bigSep_peer fun d k => dutyTok EN (cell d (N.sR k)) 0 ())) $$ HtR
    ihave Hdst := (Entails.of_eq (N.bigSep_peer fun d k => N.dstP d k)) $$ Hdst
    iapply hgoal
    isplitl [Hinv Hla]
    · iapply (BI.bigSep_intro_persistent (R := iprop(∃ κ, N.env κ)) fun _ _ => BI.Entails.refl _)
      icases Hinv with ⟨%κ, Hinv⟩
      iexists κ
      unfold env
      isplitl [Hinv]; · iexact Hinv
      isplitr; · iexact Hrch
      iexact Hla
    isplitr [Hf]
    · isplitl [HtS HtR Hdst HaS Hsrc]
      · iapply (show iprop((bigSep Finset.univ fun d : Dev nD => bigSep Finset.univ fun k => dutyTok EN (cell d (N.sS k)) 0 ())
            ∗ (bigSep Finset.univ fun d : Dev nD => bigSep Finset.univ fun k => dutyTok EN (cell (N.peer k d) (N.sR k)) 0 ())
            ∗ (bigSep Finset.univ fun d : Dev nD => bigSep Finset.univ fun k => N.dstP (N.peer k d) k)
            ∗ (bigSep Finset.univ fun d : Dev nD => bigSep Finset.univ fun k => atPos EN (cell d (N.sS k)) 0 ∅ 0)
            ∗ (bigSep Finset.univ fun d : Dev nD => bigSep Finset.univ fun k => if N.plan.blocked k then iprop(emp) else N.srcP d k))
          ⊢ bigSep Finset.univ fun d : Dev nD => bigSep Finset.univ fun k => N.sRes d k (N.plan.init.snd k) from by
            simp only [← bigSep_sep']
            refine BI.bigSep_mono fun d _ => BI.bigSep_mono fun k _ => (show iprop(dutyTok EN (cell d (N.sS k)) 0 () ∗ dutyTok EN (cell (N.peer k d) (N.sR k)) 0 ()
              ∗ N.dstP (N.peer k d) k ∗ atPos EN (cell d (N.sS k)) 0 ∅ 0 ∗ if N.plan.blocked k then iprop(emp) else N.srcP d k)
              ⊢ N.sRes d k (N.plan.init.snd k) from ?_)
            unfold Plan.init
            dsimp only
            cases N.plan.blocked k
            · simp only [Bool.false_eq_true, if_false, sRes_1, may]
              iintro ⟨A, B, C, D, E⟩
              isplitr [E]
              · isplitl [A]; · iexact A
                isplitl [B]; · iexact B
                isplitl [C] <;> iassumption
              iexact E
            · simp only [if_true, sRes_0, may]
              iintro ⟨A, B, C, D, -⟩
              isplitl [A]; · iexact A
              isplitl [B]; · iexact B
              isplitl [C] <;> iassumption)
        isplitl [HtS]; · iexact HtS
        isplitl [HtR]; · iexact HtR
        isplitl [Hdst]; · iexact Hdst
        isplitl [HaS] <;> iassumption
      isplitl [Hc HaR]
      · simp only [rRes_f, bigSep_sep']
        isplitl [Hc] <;> iassumption
      · simp only [lRes_0, bigSep_sep']
        isplitl [HtL]; · iexact HtL
        isplitl [HaL] <;> iassumption
    iexact Hf
  · intro c t W
    refine (show iprop(N.Start rest c ∗ owes (c.tc : Thread nD τ) (N.owed N.plan.init.snd c) W)
      ⊢ wp frame (wpE defs₀ 𝒱₀ (c.tc : Thread nD τ) none) Set.univ (.op .deviceId fun d => runActs (op d) acts)
        (fun _ => iprop((scopedSems0 (c.tc : Thread nD τ) ∗ N.Done c ∗ rest c) ∗ ∃ W, owes (c.tc : Thread nD τ) 0 W)) from ?_).trans (hbody c t _)
    rw [wp_deviceId]
    unfold Start
    iintro ⟨⟨⟨%κ, #He⟩, ⟨Hs, Hr, Hl⟩, Hf⟩, HO⟩
    iapply (N.wp_acts defs₀ 𝒱₀ κ c (op c) (hop κ c) acts N.plan.init s' hfold) $$ [Hs Hr Hl HO] [Hf]
    · isplitr; · iexact He
      unfold Res
      isplitl [Hs]; · iexact Hs
      isplitl [Hr]; · iexact Hr
      isplitl [Hl]; · iexact Hl
      iexists W; iexact HO
    iintro HR
    imod (N.close κ c s' hs hr hl) $$ [HR] with ⟨Hz, HD, HO⟩
    · isplitr; · iexact He
      iexact HR
    imodintro
    rw [scopedSems0_eq hsem c]
    isplitr [HO]
    · isplitl [Hz]; · iexact Hz
      isplitl [HD] <;> iassumption
    iexact HO

end Run

end Net

end Exchange

end
-- ==== Proof.Copies.lean ====
/-
# A net of copies between views, given by the memory they leave

The copies of a body are views: what each reads on the device that starts it and where it goes on the device it is sent
to. `M` is the memory at the end. Everything the copies hold is stated at `M`: it is enough that reading a
destination in `M` is reading its source in `M`, on the two devices. The arguments are given out in shares, one for
every copy and one that stays; the results are cut into the places the copies write, a place for every element.
-/
module

public import proofs.«01_k».proof.Proof.Deal
public import Idealize.ShloMosaic.Lib.ShareLeaves
public import Idealize.ShloMosaic.Lib.Ring

@[expose] public section

noncomputable section

namespace Exchange

open Idealize.ShloMosaic
open Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

local notation "𝕄" => MT nD τ sig Unit Val ℕ (UR sig nD τ) ℕ

/-- A family over two indices, the other way round. -/
theorem bigSep_swap {I J : Type} [DecidableEq I] [Fintype J] (S : Finset I) (Φ : I → J → sProp 𝕄) :
    (bigSep S fun i => bigSep Finset.univ fun j => Φ i j) = bigSep Finset.univ fun j => bigSep S fun i => Φ i j := by
  induction S using Finset.induction_on with
  | empty =>
    rw [BI.bigSep_empty, BI.bigSep_congr fun j _ => BI.bigSep_empty, BI.bigSep_emp_const]
  | insert i S hi ih =>
    rw [BI.bigSep_insert hi, ih, BI.bigSep_congr fun j _ => BI.bigSep_insert hi]
    exact (BI.bigSep_sep _ _ _).symm

/-- Pieces of buffers, read against the machine's memory. -/
theorem read_pieces {I : Type} [DecidableEq I] (S : Finset I) (ℓ : I → Loc nD τ sig) (X : (x : I) → Finset (Idx (ℓ x)))
    (q : I → PosShare TreeShare) (f : (x : I) → Buf Val (ℓ x)) (s' : Phys nD τ sig Val) :
    iprop((bigSep S fun x => (ℓ x ↦[X x]{q x} f x : sProp 𝕄)) ∗ SI s') ⊢ iprop(⌜∀ x ∈ S, ∀ i ∈ X x, s'.mem.mem (ℓ x) i = f x i⌝ ∗ SI s') := by
  induction S using Finset.induction_on with
  | empty =>
    iintro ⟨-, HSI⟩
    isplitr; · ipureintro; intro x hx; cases hx
    iexact HSI
  | insert x S hx ih =>
    have h : (bigSep (insert x S) fun x => (ℓ x ↦[X x]{q x} f x : sProp 𝕄)) = iprop((ℓ x ↦[X x]{q x} f x) ∗ bigSep S fun x => (ℓ x ↦[X x]{q x} f x : sProp 𝕄)) :=
      BI.bigSep_insert hx
    rw [h]
    iintro ⟨⟨Hx, HS⟩, HSI⟩
    icombine HSI Hx gives %hx'
    ihave H := ih $$ [HS HSI]
    · isplitl [HS] <;> iassumption
    icases H with ⟨%hS, HSI⟩
    isplitr
    · ipureintro
      intro y hy
      rcases Finset.mem_insert.mp hy with rfl | hy
      · exact hx'
      · exact hS y hy
    iexact HSI

/-- A piece of a buffer has some contents. -/
theorem some_contents {ℓ : Loc nD τ sig} (X : Finset (Idx ℓ)) (f : Buf Val ℓ) : (ℓ ↦[X]{fullShare} f) ⊢ (iprop(∃ fd, ℓ ↦[X]{fullShare} fd) : sProp 𝕄) := by
  iintro H
  iexists f; iexact H

variable {K H : Type} [Fintype K] [DecidableEq K] [Fintype H] [DecidableEq H]

/-- The views of a body's copies, between devices (`K`) and on one (`H`), and the memory at the end. -/
structure Copies (nD : Nat) (τ : Topo) (sig : RefSig) (Val : EltTy → Type) (K H : Type) where
  plan : Plan K H
  dec : DmaSem sig ≃ (K ⊕ K) ⊕ H
  peer : K → Dev nD → Dev nD
  peer_peer : ∀ k d, peer k (peer k d) = d
  amt : K → ℕ
  amt_pos : ∀ k, 0 < amt k
  amtL : H → ℕ
  amtL_pos : ∀ l, 0 < amtL l
  sh : K → Shape
  el : K → EltTy
  src : Dev nD → (k : K) → Memref sig .tc .hbm (sh k) (el k)
  dst : Dev nD → (k : K) → Memref sig .tc .hbm (sh k) (el k)
  shL : H → Shape
  elL : H → EltTy
  srcL : Dev nD → (l : H) → Memref sig .tc .hbm (shL l) (elL l)
  dstL : Dev nD → (l : H) → Memref sig .tc .hbm (shL l) (elL l)
  M : (d : Dev nD) → (b : Ref sig .tc) → Buf Val ((d.tc : Thread nD τ).loc b)

namespace Copies

/-- The share of an argument that copy `x`, or what stays (`inr`), has. -/
def share (x : (K ⊕ H) ⊕ Unit) : PosShare TreeShare :=
  ShareLeaves.leaf (Fintype.card ((K ⊕ H) ⊕ Unit)) fullShare (Fin.castLE Nat.lt_two_pow_self.le (Fintype.equivFin _ x))

/-- A buffer is the shares of all copies. -/
theorem shares_of {ℓ : Loc nD τ sig} (f : Buf Val ℓ) :
    (ℓ ↦{fullShare} f : sProp 𝕄) ⊢ bigSep Finset.univ fun x : (K ⊕ H) ⊕ Unit => ℓ ↦{share x} f := by
  rw [ShareLeaves.pointsTo_leaves _ f (Fintype.card ((K ⊕ H) ⊕ Unit)) fullShare]
  refine (BI.bigSep_subset (Finset.subset_univ (Finset.univ.map ⟨fun x : (K ⊕ H) ⊕ Unit => (Fin.castLE Nat.lt_two_pow_self.le (Fintype.equivFin _ x)
    : Fin (2 ^ Fintype.card ((K ⊕ H) ⊕ Unit))), fun x y h => (Fintype.equivFin _).injective (Fin.castLE_injective _ h)⟩))).trans ?_
  rw [BI.bigSep_map]
  exact BI.Entails.refl _

variable (C : Copies nD τ sig Val K H)

/-- The share of its source a copy reads by: an argument's, or half of what arrived. -/
def srcShare (k : K) : PosShare TreeShare := if C.plan.blocked k then fullShare.right else share (H := H) (.inl (.inl k))
/-- The share of what arrived that is kept. -/
def keepShare (k : K) : PosShare TreeShare := match C.plan.fwd k with | none => fullShare | some _ => fullShare.left

/-- The net of the copies. -/
def net : Net nD τ sig Val K H where
  plan := C.plan
  dec := C.dec
  peer := C.peer
  peer_peer := C.peer_peer
  amt := C.amt
  amt_pos := C.amt_pos
  amtL := C.amtL
  amtL_pos := C.amtL_pos
  srcP d k := (C.src d k).view.loc (d.tc : Thread nD τ) ↦[(C.src d k).view.set]{C.srcShare k} C.M d (C.src d k).view.ref
  srcP_storable _ _ := inferInstance
  dstP d k := iprop(∃ fd, (C.dst (C.peer k d) k).view.loc (d.tc : Thread nD τ) ↦[(C.dst (C.peer k d) k).view.set]{fullShare} fd)
  keepP d k := (C.dst (C.peer k d) k).view.loc (d.tc : Thread nD τ) ↦[(C.dst (C.peer k d) k).view.set]{C.keepShare k} C.M d (C.dst (C.peer k d) k).view.ref
  keepP_storable _ _ := inferInstance
  preL d l := iprop(((C.srcL d l).view.loc (d.tc : Thread nD τ) ↦[(C.srcL d l).view.set]{share (.inl (.inr l) : (K ⊕ H) ⊕ Unit)} C.M d (C.srcL d l).view.ref)
    ∗ ∃ fd, (C.dstL d l).view.loc (d.tc : Thread nD τ) ↦[(C.dstL d l).view.set]{fullShare} fd)
  postL d l := iprop(((C.dstL d l).view.loc (d.tc : Thread nD τ) ↦[(C.dstL d l).view.set]{fullShare} C.M d (C.dstL d l).view.ref)
    ∗ ((C.srcL d l).view.loc (d.tc : Thread nD τ) ↦[(C.srcL d l).view.set]{share (.inl (.inr l) : (K ⊕ H) ⊕ Unit)} C.M d (C.srcL d l).view.ref))
  postL_storable _ _ := inferInstance

/-- The piece of device `d`'s memory that copy `x` fills: its buffer and its elements. -/
def ref (d : Dev nD) : K ⊕ H → Ref sig .tc
  | .inl k => (C.dst (C.peer k d) k).view.ref
  | .inr l => (C.dstL d l).view.ref
def piece (d : Dev nD) : (x : K ⊕ H) → Finset (C.ref d x).ty.Idx
  | .inl k => (C.dst (C.peer k d) k).view.set
  | .inr l => (C.dstL d l).view.set

/-- What makes the memory `M` the one the copies leave of `m`: `ins` are the arguments, `outs` the results, `who` says
    which copy fills an element. -/
structure Ok (m : (ℓ : Loc nD τ sig) → Buf Val ℓ) (ins outs : Finset (Ref sig .tc)) (who : Dev nD → (b : Ref sig .tc) → b.ty.Idx → K ⊕ H) : Prop where
  reads : ∀ d k, (C.dst d k).view.read Val (C.M (C.peer k d) (C.dst d k).view.ref) = (C.src d k).view.read Val (C.M d (C.src d k).view.ref)
  readsL : ∀ d l, (C.dstL d l).view.read Val (C.M d (C.dstL d l).view.ref) = (C.srcL d l).view.read Val (C.M d (C.srcL d l).view.ref)
  passes : ∀ d k k', C.plan.fwd k = some k' → ∀ q : PosShare TreeShare,
    ((C.dst (C.peer k d) k).view.loc (d.tc : Thread nD τ) ↦[(C.dst (C.peer k d) k).view.set]{q} C.M d (C.dst (C.peer k d) k).view.ref : sProp 𝕄)
      = ((C.src d k').view.loc (d.tc : Thread nD τ) ↦[(C.src d k').view.set]{q} C.M d (C.src d k').view.ref)
  fills : ∀ d x i, i ∈ C.piece d x ↔ who d (C.ref d x) i = x
  who_ref : ∀ d, ∀ b ∈ outs, ∀ i, C.ref d (who d b i) = b
  ref_outs : ∀ d x, C.ref d x ∈ outs
  src_ins : ∀ d k, C.plan.blocked k = false → (C.src d k).view.ref ∈ ins
  srcL_ins : ∀ d l, (C.srcL d l).view.ref ∈ ins
  unscoped : (Finset.univ.filter fun b : Ref sig .tc => ¬ b.isScoped) = ins ∪ outs
  disj : Disjoint ins outs
  kept : ∀ d, ∀ b ∈ ins, C.M d b = m ((d.tc : Thread nD τ).loc b)

/-- The share of the arguments that stays. -/
def rest (ins : Finset (Ref sig .tc)) (d : Dev nD) : sProp 𝕄 :=
  bigSep ins fun b => ((d.tc : Thread nD τ).loc b) ↦{share (.inr () : (K ⊕ H) ⊕ Unit)} C.M d b

variable {C} {m : (ℓ : Loc nD τ sig) → Buf Val ℓ} {ins outs : Finset (Ref sig .tc)} {who : Dev nD → (b : Ref sig .tc) → b.ty.Idx → K ⊕ H}

/-- A view written with what another reads holds `M`, where `M` reads the same through both. -/
theorem written {ℓ : Loc nD τ sig} {sp : Space} {s : Shape} {e : EltTy} (v : View sig .tc sp s e) (d : Dev nD) (M fd : Buf Val (v.loc (d.tc : Thread nD τ)))
    (w : s.Idx → Val e) (h : v.read Val M = w) (q : PosShare TreeShare) :
    (v.loc (d.tc : Thread nD τ) ↦[v.set]{q} v.write Val fd w Finset.univ : sProp 𝕄) = (v.loc (d.tc : Thread nD τ) ↦[v.set]{q} M) := by
  refine pointsTo_congr fun i hi => ?_
  obtain ⟨x, -, rfl⟩ := Finset.mem_map.mp hi
  rw [View.write_emb_of_mem _ _ (Finset.mem_univ x), ← h, View.read_apply, cast_cast, cast_eq]

/-- A copy's arrival is what it is to bring. -/
theorem Ok.brings (O : C.Ok m ins outs who) (d : Dev nD) (k : K) (fd : Buf Val ((C.dst d k).view.loc ((C.peer k d).tc : Thread nD τ))) :
    ((C.dst d k).view.loc ((C.peer k d).tc : Thread nD τ) ↦[(C.dst d k).view.set]{fullShare}
        ((C.dst d k).view.write Val fd ((C.src d k).view.read Val (C.M d (C.src d k).view.ref)) Finset.univ) : sProp 𝕄)
      ⊢ C.net.gotP (C.peer k d) k := by
  have h := written (ℓ := (C.dst d k).view.loc ((C.peer k d).tc : Thread nD τ)) (C.dst d k).view (C.peer k d) (C.M (C.peer k d) (C.dst d k).view.ref) fd _ (O.reads d k) fullShare
  refine (Entails.of_eq h).trans ?_
  have hp := C.peer_peer k d
  generalize C.peer k d = n at *
  subst hp
  unfold Net.gotP
  simp only [net, keepShare]
  cases hf : C.plan.fwd k with
  | none =>
    dsimp only
    iintro H
    isplitl [H]; · iexact H
    iempintro
  | some k' =>
    dsimp only
    have hb : C.plan.blocked k' = true := by unfold Plan.blocked; exact decide_eq_true ⟨k, hf⟩
    have hs : C.srcShare k' = fullShare.right := by unfold srcShare; rw [if_pos hb]
    rw [hs, ← O.passes n k k' hf]
    exact (pointsTo_share (PosShare.mem_left_op_right fullShare)).1

/-- What a copy on a device leaves is what it is to leave. -/
theorem Ok.leaves (O : C.Ok m ins outs who) (d : Dev nD) (l : H) (fd : Buf Val ((C.dstL d l).view.loc (d.tc : Thread nD τ))) :
    iprop(((C.dstL d l).view.loc (d.tc : Thread nD τ) ↦[(C.dstL d l).view.set]{fullShare}
        ((C.dstL d l).view.write Val fd ((C.srcL d l).view.read Val (C.M d (C.srcL d l).view.ref)) Finset.univ) : sProp 𝕄)
      ∗ ((C.srcL d l).view.loc (d.tc : Thread nD τ) ↦[(C.srcL d l).view.set]{share (.inl (.inr l) : (K ⊕ H) ⊕ Unit)} C.M d (C.srcL d l).view.ref))
      ⊢ C.net.postL d l :=
  BI.sep_mono (Entails.of_eq (written (ℓ := (C.dstL d l).view.loc (d.tc : Thread nD τ)) (C.dstL d l).view d (C.M d (C.dstL d l).view.ref) fd _ (O.readsL d l) fullShare)) (BI.Entails.refl _)

/-- The devices' memory at launch is what the copies need. -/
theorem Ok.deal (O : C.Ok m ins outs who) (d : Dev nD) :
    (unscopedBufs d fun b => m ((d.tc : Thread nD τ).loc b)) ⊢ (iprop(C.rest ins d
      ∗ (bigSep Finset.univ fun k => if C.net.plan.blocked k then iprop(emp) else C.net.srcP d k)
      ∗ (bigSep Finset.univ fun k => C.net.dstP d k) ∗ bigSep Finset.univ fun l => C.net.preL d l) : sProp 𝕄) := by
  have hins : (bigSep ins fun b => ((d.tc : Thread nD τ).loc b) ↦{fullShare} m ((d.tc : Thread nD τ).loc b) : sProp 𝕄)
      ⊢ iprop(((bigSep Finset.univ fun k : K => bigSep ins fun b => ((d.tc : Thread nD τ).loc b) ↦{share (.inl (.inl k) : (K ⊕ H) ⊕ Unit)} C.M d b)
        ∗ (bigSep Finset.univ fun l : H => bigSep ins fun b => ((d.tc : Thread nD τ).loc b) ↦{share (.inl (.inr l) : (K ⊕ H) ⊕ Unit)} C.M d b))
        ∗ C.rest ins d) := by
    refine (BI.bigSep_mono (Ψ := fun b => bigSep Finset.univ fun x : (K ⊕ H) ⊕ Unit => ((d.tc : Thread nD τ).loc b) ↦{share x} C.M d b) fun b hb => ?_).trans ?_
    · rw [O.kept d b hb]; exact shares_of _
    · rw [bigSep_swap, BI.bigSep_univ_sum, BI.bigSep_univ_sum, BI.bigSep_univ_of_subsingleton ()]
      exact BI.Entails.refl _
  have houts : (bigSep outs fun b => ((d.tc : Thread nD τ).loc b) ↦{fullShare} m ((d.tc : Thread nD τ).loc b) : sProp 𝕄)
      ⊢ iprop((bigSep Finset.univ fun k => C.net.dstP d k)
        ∗ bigSep Finset.univ fun l => iprop(∃ fd, (C.dstL d l).view.loc (d.tc : Thread nD τ) ↦[(C.dstL d l).view.set]{fullShare} fd)) := by
    have h1 : ∀ b, (((d.tc : Thread nD τ).loc b) ↦{fullShare} m ((d.tc : Thread nD τ).loc b) : sProp 𝕄)
        = bigSep Finset.univ fun x : K ⊕ H => ((d.tc : Thread nD τ).loc b) ↦[Finset.univ.filter fun i : b.ty.Idx => who d b i = x]{fullShare} m ((d.tc : Thread nD τ).loc b) := fun b =>
      Ring.pointsTo_blocks (ℓ := (d.tc : Thread nD τ).loc b) (fun x : K ⊕ H => (Finset.univ.filter fun i : b.ty.Idx => who d b i = x : Finset b.ty.Idx))
        (fun x y hxy => Finset.disjoint_left.mpr fun i hi hj => hxy ((Finset.mem_filter.mp hi).2.symm.trans (Finset.mem_filter.mp hj).2))
        (Finset.eq_univ_iff_forall.mpr fun i => Finset.mem_biUnion.mpr ⟨who d b i, Finset.mem_univ _, Finset.mem_filter.mpr ⟨Finset.mem_univ _, rfl⟩⟩) _
    have h2 : ∀ x, (Finset.univ.filter fun i : (C.ref d x).ty.Idx => who d (C.ref d x) i = x) = C.piece d x := fun x =>
      Finset.ext fun i => by rw [Finset.mem_filter, O.fills d x i]; exact and_iff_right (Finset.mem_univ _)
    rw [BI.bigSep_congr fun b _ => h1 b, bigSep_swap, BI.bigSep_univ_sum]
    have hK : ∀ k : K, (bigSep outs fun b => ((d.tc : Thread nD τ).loc b) ↦[Finset.univ.filter fun i : b.ty.Idx => who d b i = .inl k]{fullShare} m ((d.tc : Thread nD τ).loc b) : sProp 𝕄)
        ⊢ C.net.dstP d k := fun k => by
      refine (BI.bigSep_elim (O.ref_outs d (.inl k))).trans ?_
      rw [h2 (.inl k)]
      exact some_contents _ _
    have hH : ∀ l : H, (bigSep outs fun b => ((d.tc : Thread nD τ).loc b) ↦[Finset.univ.filter fun i : b.ty.Idx => who d b i = .inr l]{fullShare} m ((d.tc : Thread nD τ).loc b) : sProp 𝕄)
        ⊢ iprop(∃ fd, (C.dstL d l).view.loc (d.tc : Thread nD τ) ↦[(C.dstL d l).view.set]{fullShare} fd) := fun l => by
      refine (BI.bigSep_elim (O.ref_outs d (.inr l))).trans ?_
      rw [h2 (.inr l)]
      exact some_contents _ _
    exact BI.sep_mono (BI.bigSep_mono fun k _ => hK k) (BI.bigSep_mono fun l _ => hH l)
  have hsub : ∀ (b : Ref sig .tc) (X : Finset b.ty.Idx) (q : PosShare TreeShare) (f : Buf Val ((d.tc : Thread nD τ).loc b)),
      (((d.tc : Thread nD τ).loc b) ↦{q} f : sProp 𝕄) ⊢ (((d.tc : Thread nD τ).loc b) ↦[X]{q} f) := fun b X q f => by
    refine (pointsTo_split_subset (ℓ := (d.tc : Thread nD τ).loc b) (Finset.subset_univ X)).1.trans ?_
    iintro ⟨H, -⟩; iexact H
  have hsrc : ∀ k : K, (bigSep ins fun b => ((d.tc : Thread nD τ).loc b) ↦{share (.inl (.inl k) : (K ⊕ H) ⊕ Unit)} C.M d b : sProp 𝕄)
      ⊢ (if C.net.plan.blocked k then iprop(emp) else C.net.srcP d k) := fun k => by
    by_cases hb : C.plan.blocked k = true
    · refine (show _ ⊢ iprop(emp) from ?_).trans (Entails.of_eq (if_pos (e := C.net.srcP d k) hb).symm)
      iintro -; iempintro
    · refine (show _ ⊢ C.net.srcP d k from ?_).trans (Entails.of_eq (if_neg (t := iprop(emp)) hb).symm)
      refine (BI.bigSep_elim (O.src_ins d k (Bool.eq_false_iff.mpr hb))).trans ?_
      simp only [net, srcShare]
      rw [if_neg hb]
      exact hsub _ _ _ _
  have hsrcL : ∀ l : H, (bigSep ins fun b => ((d.tc : Thread nD τ).loc b) ↦{share (.inl (.inr l) : (K ⊕ H) ⊕ Unit)} C.M d b : sProp 𝕄)
      ⊢ ((C.srcL d l).view.loc (d.tc : Thread nD τ) ↦[(C.srcL d l).view.set]{share (.inl (.inr l) : (K ⊕ H) ⊕ Unit)} C.M d (C.srcL d l).view.ref) := fun l =>
    (BI.bigSep_elim (O.srcL_ins d l)).trans (hsub _ _ _ _)
  have hall : (unscopedBufs d fun b => m ((d.tc : Thread nD τ).loc b)) = (iprop((bigSep ins fun b => ((d.tc : Thread nD τ).loc b) ↦{fullShare} m ((d.tc : Thread nD τ).loc b))
      ∗ bigSep outs fun b => ((d.tc : Thread nD τ).loc b) ↦{fullShare} m ((d.tc : Thread nD τ).loc b)) : sProp 𝕄) := by
    unfold unscopedBufs
    rw [O.unscoped]
    exact BI.bigSep_union O.disj
  have hpre : (bigSep Finset.univ fun l => C.net.preL d l) = (iprop((bigSep Finset.univ fun l : H => (C.srcL d l).view.loc (d.tc : Thread nD τ) ↦[(C.srcL d l).view.set]{share (.inl (.inr l) : (K ⊕ H) ⊕ Unit)} C.M d (C.srcL d l).view.ref)
      ∗ bigSep Finset.univ fun l => iprop(∃ fd, (C.dstL d l).view.loc (d.tc : Thread nD τ) ↦[(C.dstL d l).view.set]{fullShare} fd)) : sProp 𝕄) :=
    BI.bigSep_sep _ _ _
  have hsrcs : (bigSep Finset.univ fun k : K => bigSep ins fun b => ((d.tc : Thread nD τ).loc b) ↦{share (.inl (.inl k) : (K ⊕ H) ⊕ Unit)} C.M d b)
      ⊢ (bigSep Finset.univ fun k => if C.net.plan.blocked k then iprop(emp) else C.net.srcP d k : sProp 𝕄) := BI.bigSep_mono fun k _ => hsrc k
  have hsrcLs : (bigSep Finset.univ fun l : H => bigSep ins fun b => ((d.tc : Thread nD τ).loc b) ↦{share (.inl (.inr l) : (K ⊕ H) ⊕ Unit)} C.M d b)
      ⊢ (bigSep Finset.univ fun l : H => (C.srcL d l).view.loc (d.tc : Thread nD τ) ↦[(C.srcL d l).view.set]{share (.inl (.inr l) : (K ⊕ H) ⊕ Unit)} C.M d (C.srcL d l).view.ref : sProp 𝕄) :=
    BI.bigSep_mono fun l _ => hsrcL l
  rw [hall, hpre]
  iintro ⟨Hi, Ho⟩
  ihave Hi := hins $$ Hi
  ihave Ho := houts $$ Ho
  icases Hi with ⟨⟨HK, HL⟩, Hr⟩
  icases Ho with ⟨HdK, HdL⟩
  isplitl [Hr]; · iexact Hr
  isplitl [HK]; · iapply hsrcs; iexact HK
  isplitl [HdK]; · iexact HdK
  isplitl [HL]; · iapply hsrcLs; iexact HL
  iexact HdL

/-- All copies done, the memory is `M`. -/
theorem Ok.final (O : C.Ok m ins outs who) (d : Dev nD) (s' : Phys nD τ sig Val) :
    iprop((C.net.Done d ∗ C.rest ins d) ∗ SI s') ⊢ (|={Set.univ}=> iprop(⌜(∀ b ∈ ins, s'.mem.mem ((d.tc : Thread nD τ).loc b) = C.M d b)
        ∧ ∀ b ∈ outs, s'.mem.mem ((d.tc : Thread nD τ).loc b) = C.M d b⌝ ∗ SI s') : sProp 𝕄) := by
  have hK := read_pieces (Val := Val) (Finset.univ : Finset K) (fun k => (C.dst (C.peer k d) k).view.loc (d.tc : Thread nD τ)) (fun k => (C.dst (C.peer k d) k).view.set) C.keepShare
    (fun k => C.M d (C.dst (C.peer k d) k).view.ref) s'
  have hH := read_pieces (Val := Val) (Finset.univ : Finset H) (fun l => (C.dstL d l).view.loc (d.tc : Thread nD τ)) (fun l => (C.dstL d l).view.set) (fun _ => fullShare)
    (fun l => C.M d (C.dstL d l).view.ref) s'
  have hR := read_pieces (Val := Val) ins (fun b => (d.tc : Thread nD τ).loc b) (fun b => Finset.univ) (fun _ => share (.inr () : (K ⊕ H) ⊕ Unit)) (fun b => C.M d b) s'
  have hpost : (bigSep Finset.univ fun l => C.net.postL d l) = (iprop((bigSep Finset.univ fun l : H => (C.dstL d l).view.loc (d.tc : Thread nD τ) ↦[(C.dstL d l).view.set]{fullShare} C.M d (C.dstL d l).view.ref)
      ∗ bigSep Finset.univ fun l : H => (C.srcL d l).view.loc (d.tc : Thread nD τ) ↦[(C.srcL d l).view.set]{share (.inl (.inr l) : (K ⊕ H) ⊕ Unit)} C.M d (C.srcL d l).view.ref) : sProp 𝕄) :=
    BI.bigSep_sep _ _ _
  unfold Net.Done rest
  rw [hpost]
  iintro ⟨⟨⟨-, Hk, Hl, -⟩, Hr⟩, HSI⟩
  ihave H1 := hK $$ [Hk HSI]
  · isplitl [Hk]; · iexact Hk
    iexact HSI
  icases H1 with ⟨%h1, HSI⟩
  ihave H2 := hH $$ [Hl HSI]
  · isplitl [Hl]; · iexact Hl
    iexact HSI
  icases H2 with ⟨%h2, HSI⟩
  ihave H3 := hR $$ [Hr HSI]
  · isplitl [Hr]; · iexact Hr
    iexact HSI
  icases H3 with ⟨%h3, HSI⟩
  imodintro
  isplitr
  · ipureintro
    refine ⟨fun b hb => funext fun i => h3 b hb i (Finset.mem_univ _), fun b hb => funext fun i => ?_⟩
    have hr := O.who_ref d b hb i
    have hx : ∀ x : K ⊕ H, ∀ i ∈ C.piece d x, s'.mem.mem ((d.tc : Thread nD τ).loc (C.ref d x)) i = C.M d (C.ref d x) i := fun x =>
      match x with
      | .inl k => h1 k (Finset.mem_univ _)
      | .inr l => h2 l (Finset.mem_univ _)
    generalize hw : who d b i = x at hr
    subst hr
    exact hx x i ((O.fills d x i).mpr hw)
  iexact HSI

section Starts

variable {Λ : Idealize.SL.Sem.Labels} {κ : Dev nD × DmaSem sig → ℕ}

variable (C) in
/-- The place on the peer that a copy goes to. -/
theorem place (d : Dev nD) (k : K) : C.net.dstP (C.peer k d) k
    ⊢ (iprop(∃ fd, (C.dst d k).view.loc ((C.peer k d).tc : Thread nD τ) ↦[(C.dst d k).view.set]{fullShare} fd) : sProp 𝕄) := by
  have hp := C.peer_peer k d
  generalize C.peer k d = n at *
  subst hp
  exact Entails.of_eq rfl

/-- Starting a copy to a peer. -/
theorem Ok.triple_send (O : C.Ok m ins outs who) (defs : Defs nD τ sig Val Λ) (𝒱 : Variants) (d : Dev nD) (k : K)
    {sS sR : DmaSem sig} (hsS : sS = C.net.sS k) (hsR : sR = C.net.sR k)
    {hsc : (C.dst d k).view.ref.isScScratch = false} {hsrc : (C.src d k).view.WordExact} {hdst : (C.dst d k).view.WordExact}
    {hsem : DmaTarget.Typed .hbm (.dma sR) (.remote (Dev.tc (C.peer k d) : Thread nD τ) (C.dst d k) (.dma sS) hsc)}
    (hN : (C.dst d k).view.dmaCredit = C.amt k) :
    C.net.Triple defs 𝒱 κ d (.enqueueDma (C.src d k) (.remote (Dev.tc (C.peer k d) : Thread nD τ) (C.dst d k) (.dma sS) hsc) (.dma sR) hsrc hdst hsem) (.send k) :=
  Net.triple_send _ _ _ κ d k (C.peer k d) rfl hsS hsR (C.src d k) (C.dst d k) (C.srcShare k) (C.M d (C.src d k).view.ref) rfl
    (C.place d k) (fun fd => O.brings d k fd) hN

/-- Starting a copy on the device. -/
theorem Ok.triple_copy (O : C.Ok m ins outs who) (defs : Defs nD τ sig Val Λ) (𝒱 : Variants) (d : Dev nD) (l : H)
    {sL : DmaSem sig} (hsL : sL = C.net.sL l) {hsrc : (C.srcL d l).view.WordExact} {hdst : (C.dstL d l).view.WordExact}
    {hsem : DmaTarget.Typed (nD := nD) (p := (Proc.tc : Proc τ)) .hbm (.dma sL) (.here (C.dstL d l))} (hN : (C.dstL d l).view.dmaCredit = C.amtL l) :
    C.net.Triple defs 𝒱 κ d (.enqueueDma (C.srcL d l) (.here (C.dstL d l)) (.dma sL) hsrc hdst hsem) (.copy l) :=
  Net.triple_copy _ _ _ κ d l hsL (C.srcL d l) (C.dstL d l) (share (.inl (.inr l) : (K ⊕ H) ⊕ Unit)) (C.M d (C.srcL d l).view.ref)
    (Entails.of_eq rfl) (fun fd => O.leaves d l fd) hN

end Starts

end Copies

end Exchange

end
-- ==== Proof.Slots.lean ====
/-
# Slots of stacked arrays

An array `[n, R, C]` is `n` slots. A copy that moves a slot addresses it as a rectangle of one slot, counted without
its first axis.
-/
module

public import Idealize.ShloMosaic.Lib.Exec

@[expose] public section

noncomputable section

namespace Exchange

open Idealize.ShloMosaic

/-- An index's first coordinate. -/
def lead {s : Shape} (i : s.Idx) : ℕ := if h : 0 < s.rank then (i ⟨0, h⟩).val else 0

/-- The slots of an array of rank three. -/
abbrev Stack (n R C : ℕ) : Shape := ⟨3, ![n, R, C]⟩

variable {n R C : ℕ}

/-- An index of a stack. -/
def at3 (s : ℕ) (hs : s < n) (y : Fin R) (z : Fin C) : (Stack n R C).Idx
  | 0 => ⟨s, hs⟩ | 1 => y | 2 => z

theorem at3_ext {i j : (Stack n R C).Idx} (h0 : (i 0).val = (j 0).val) (h1 : (i 1).val = (j 1).val) (h2 : (i 2).val = (j 2).val) : i = j :=
  funext fun a => match a with | 0 => Fin.ext h0 | 1 => Fin.ext h1 | 2 => Fin.ext h2

/-- The elements of slot `s`. -/
theorem mem_slot {off : Fin 3 → ℕ} {inb} {s : ℕ} (h : off = ![s, 0, 0]) (i : (Stack n R C).Idx) :
    i ∈ (Rect.unit (s := Stack n R C) off (Stack 1 R C).size inb).set ↔ (i 0).val = s := by
  subst h
  rw [Rect.mem_set_unit]
  constructor
  · intro h
    have h0 := h 0
    have h1 : s ≤ (i 0).val := h0.1
    have h2 : (i 0).val < s + 1 := h0.2
    omega
  · intro h a
    match a with
    | 0 => exact ⟨(show s ≤ (i 0).val by omega), (show (i 0).val < s + 1 by omega)⟩
    | 1 => exact ⟨Nat.zero_le _, (show (i 1).val < 0 + R by have : (i 1).val < R := (i 1).isLt; omega)⟩
    | 2 => exact ⟨Nat.zero_le _, (show (i 2).val < 0 + C by have : (i 2).val < C := (i 2).isLt; omega)⟩

/-- Where an element of a slot lies. -/
theorem emb_slot {off : Fin 3 → ℕ} {inb} {s : ℕ} (h : off = ![s, 0, 0]) (x : (Stack 1 R C).Idx) :
    (((Rect.unit (s := Stack n R C) off (Stack 1 R C).size inb).emb x 0).val = s)
      ∧ (((Rect.unit (s := Stack n R C) off (Stack 1 R C).size inb).emb x 1).val = (x 1).val)
      ∧ (((Rect.unit (s := Stack n R C) off (Stack 1 R C).size inb).emb x 2).val = (x 2).val) := by
  subst h
  have h0 : (x 0).val < 1 := (x 0).isLt
  exact ⟨(show s + 1 * (x 0).val = s by omega), (show 0 + 1 * (x 1).val = (x 1).val by omega), (show 0 + 1 * (x 2).val = (x 2).val by omega)⟩

variable {sig : RefSig} {κ : Kind} {Val : EltTy → Type}

/-- Two slots counted alike hold the same where the stacks agree. -/
theorem slot_reads {n' : ℕ} {sp sp' : Space} {e : EltTy} (v : View sig κ sp (Stack n R C) e) (w : View sig κ sp' (Stack n' R C) e) {t : Shape}
    {off off' : Fin 3 → ℕ} {inb} {inb'} (h : t.numel = (Stack 1 R C).numel)
    (f : v.ty.Contents Val) (g : w.ty.Contents Val)
    (hfg : ∀ x : (Stack 1 R C).Idx, v.read Val f ((Rect.unit (s := Stack n R C) off (Stack 1 R C).size inb).emb x)
      = w.read Val g ((Rect.unit (s := Stack n' R C) off' (Stack 1 R C).size inb').emb x)) :
    View.read Val ((v.slice (Rect.unit (s := Stack n R C) off (Stack 1 R C).size inb)).reshape t h) f
      = View.read Val ((w.slice (Rect.unit (s := Stack n' R C) off' (Stack 1 R C).size inb')).reshape t h) g :=
  funext fun j => hfg (Shape.reshapeEquiv h j)

/-- A slot lies in its stack. -/
theorem slot_inb {off : Fin 3 → ℕ} {s : ℕ} (h : off = ![s, 0, 0]) (hs : s < n) : ∀ a, off a + (Stack 1 R C).size a ≤ (Stack n R C).size a := by
  subst h
  intro a
  match a with
  | 0 => exact (show s + 1 ≤ n by omega)
  | 1 => exact (Nat.zero_add R).le
  | 2 => exact (Nat.zero_add C).le

theorem squeezes_slot : (Stack 1 R C).Squeezes ⟨2, ![R, C]⟩ := by
  simp [Shape.Squeezes, Shape.dropsOnes]

/-- A slot, counted without its first axis. -/
abbrev slot {sp : Space} {e : EltTy} (A : Memref sig κ sp (Stack n R C) e) (off : Fin 3 → ℕ)
    (inb : ∀ a, off a + (Stack 1 R C).size a ≤ (Stack n R C).size a) : Memref sig κ sp ⟨2, ![R, C]⟩ e :=
  (A.slice (Rect.unit (s := Stack n R C) off (Stack 1 R C).size inb) (fun _ => rfl)).squeeze ⟨2, ![R, C]⟩ squeezes_slot

/-- What a slot holds. -/
theorem slot_read {sp : Space} {e : EltTy} (v : View sig κ sp (Stack n R C) e) {off : Fin 3 → ℕ} {inb} {s : ℕ} (hs : s < n) (h : off = ![s, 0, 0])
    {hn : (⟨2, ![R, C]⟩ : Shape).numel = (Stack 1 R C).numel} (f : v.ty.Contents Val) :
    View.read Val ((v.slice (Rect.unit (s := Stack n R C) off (Stack 1 R C).size inb)).reshape ⟨2, ![R, C]⟩ hn) f
      = fun j => v.read Val f (at3 (R := R) (C := C) s hs (j 0) (j 1)) := by
  funext j
  have e : Shape.reshapeEquiv hn j = at3 (n := 1) (R := R) (C := C) 0 Nat.zero_lt_one (j 0) (j 1) := by
    refine Shape.reshapeEquiv_eq_of_rowMajor hn ?_
    rw [Shape.rowMajor_val_three, Shape.rowMajor_val_two]
    show (0 * R + (j 0).val) * C + (j 1).val = (j 0).val * C + (j 1).val
    rw [Nat.zero_mul, Nat.zero_add]
  show v.read Val f ((Rect.unit (s := Stack n R C) off (Stack 1 R C).size inb).emb (Shape.reshapeEquiv hn j)) = _
  rw [e]
  obtain ⟨a0, a1, a2⟩ := emb_slot (inb := inb) h (at3 (n := 1) (R := R) (C := C) 0 Nat.zero_lt_one (j 0) (j 1))
  exact congrArg _ (at3_ext a0 a1 a2)

end Exchange

end
-- ==== Proof.Gather.lean ====
/-
# The gather, as a list of operations

Every device's part of five arrays comes to every device. A device copies its own part into its slot of the results
and sends it to its sibling (the other core of its chip) and to the devices of its core on the three other chips; what
arrives from another chip it sends on to its sibling. The body starts the five own copies and the twenty first sends,
sends on what arrives from the chips, waits for the rest to arrive, for its own to have left, and for the five.
-/
module

public import proofs.«01_k».proof.Proof.Copies
public import proofs.«01_k».proof.Proof.Slots
public import proofs.«01_k».proof.Proof.Gen.GatherIdeal.Frame

@[expose] public section

set_option maxRecDepth 65536

noncomputable section

namespace Exchange.Gather

open Idealize.ShloMosaic Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GatherIdeal Cert.GatherIdeal.Gen

variable {F : FTy → Type} [FloatOps F]

/-- The copies between devices: of array `a`, to the sibling (0), to the `j`th other chip (`1 + j`), and what came from
    there on to the sibling (`4 + j`). On a device: of array `a`. -/
abbrev K : Type := Fin 5 × Fin 7
abbrev H : Type := Fin 5

/-- An array's parts: their rows, columns and elements. -/
abbrev rows : H → ℕ
  | 0 => 2048 | 1 => 2048 | 2 => 4096 | 3 => 2176 | 4 => 112
abbrev cols : H → ℕ
  | 0 => 448 | 1 => 648 | 2 => 704 | 3 => 1024 | 4 => 128
abbrev elA : H → EltTy
  | 0 => .bf16 | 1 => .bf16 | 2 => .bf16 | 3 => .bf16 | 4 => .f32
abbrev shA (a : H) : Shape := ⟨2, ![rows a, cols a]⟩

/-- Where the body finds its own slot; the slot copy `k` goes to; and the slot the peer's copy `k` comes to. -/
abbrev own : H → Dev nD → Fin 3 → ℕ
  | 0 => k0_off1 | 1 => k0_off2 | 2 => k0_off3 | 3 => k0_off4 | 4 => k0_off5
abbrev put : H → Fin 7 → Dev nD → Fin 3 → ℕ
  | 0, 0 => k0_off1 | 0, 1 => k0_off1 | 0, 2 => k0_off1 | 0, 3 => k0_off1 | 0, 4 => k0_off6 | 0, 5 => k0_off11 | 0, 6 => k0_off16
  | 1, 0 => k0_off2 | 1, 1 => k0_off2 | 1, 2 => k0_off2 | 1, 3 => k0_off2 | 1, 4 => k0_off7 | 1, 5 => k0_off12 | 1, 6 => k0_off17
  | 2, 0 => k0_off3 | 2, 1 => k0_off3 | 2, 2 => k0_off3 | 2, 3 => k0_off3 | 2, 4 => k0_off8 | 2, 5 => k0_off13 | 2, 6 => k0_off18
  | 3, 0 => k0_off4 | 3, 1 => k0_off4 | 3, 2 => k0_off4 | 3, 3 => k0_off4 | 3, 4 => k0_off9 | 3, 5 => k0_off14 | 3, 6 => k0_off19
  | 4, 0 => k0_off5 | 4, 1 => k0_off5 | 4, 2 => k0_off5 | 4, 3 => k0_off5 | 4, 4 => k0_off10 | 4, 5 => k0_off15 | 4, 6 => k0_off20
abbrev come : H → Fin 7 → Dev nD → Fin 3 → ℕ
  | 0, 0 => k0_off21 | 0, 1 => k0_off6 | 0, 2 => k0_off11 | 0, 3 => k0_off16 | 0, 4 => k0_off22 | 0, 5 => k0_off23 | 0, 6 => k0_off24
  | 1, 0 => k0_off25 | 1, 1 => k0_off7 | 1, 2 => k0_off12 | 1, 3 => k0_off17 | 1, 4 => k0_off26 | 1, 5 => k0_off27 | 1, 6 => k0_off28
  | 2, 0 => k0_off29 | 2, 1 => k0_off8 | 2, 2 => k0_off13 | 2, 3 => k0_off18 | 2, 4 => k0_off30 | 2, 5 => k0_off31 | 2, 6 => k0_off32
  | 3, 0 => k0_off33 | 3, 1 => k0_off9 | 3, 2 => k0_off14 | 3, 3 => k0_off19 | 3, 4 => k0_off34 | 3, 5 => k0_off35 | 3, 6 => k0_off36
  | 4, 0 => k0_off37 | 4, 1 => k0_off10 | 4, 2 => k0_off15 | 4, 3 => k0_off20 | 4, 4 => k0_off38 | 4, 5 => k0_off39 | 4, 6 => k0_off40

/-- Whom copy `k` goes to, and whose part it carries. -/
abbrev peer : Fin 7 → Dev nD → Dev nD
  | 0, d => ⟨k0_dev1 d, k0_dev1_lt d⟩
  | 1, d => ⟨k0_dev2 d, k0_dev2_lt d⟩ | 2, d => ⟨k0_dev3 d, k0_dev3_lt d⟩ | 3, d => ⟨k0_dev4 d, k0_dev4_lt d⟩
  | 4, d => ⟨k0_dev1 d, k0_dev1_lt d⟩ | 5, d => ⟨k0_dev1 d, k0_dev1_lt d⟩ | 6, d => ⟨k0_dev1 d, k0_dev1_lt d⟩
abbrev orig : Fin 7 → Dev nD → Dev nD
  | 0, d => d | 1, d => d | 2, d => d | 3, d => d | 4, d => peer 1 d | 5, d => peer 2 d | 6, d => peer 3 d

theorem peer_peer (k : Fin 7) (d : Dev nD) : peer k (peer k d) = d := by revert k d; decide +kernel
theorem own_eq (a : H) (d : Dev nD) : own a d = ![d.val, 0, 0] := by revert a d; decide +kernel
theorem put_eq (a : H) (k : Fin 7) (d : Dev nD) : put a k d = ![(orig k d).val, 0, 0] := by revert a k d; decide +kernel
theorem come_eq (a : H) (k : Fin 7) (d : Dev nD) : come a k d = ![(orig k (peer k d)).val, 0, 0] := by revert a k d; decide +kernel

/-- The arguments and the results. -/
abbrev inM : (a : H) → Memref sig .tc .hbm (shA a) (elA a)
  | 0 => Memref.whole main_arg0
  | 1 => Memref.whole main_arg1
  | 2 => Memref.whole main_arg2
  | 3 => Memref.whole main_arg3
  | 4 => Memref.whole main_arg4
abbrev outM : (a : H) → Memref sig .tc .hbm (Stack 8 (rows a) (cols a)) (elA a)
  | 0 => Memref.whole main_v1_0
  | 1 => Memref.whole main_v1_1
  | 2 => Memref.whole main_v1_2
  | 3 => Memref.whole main_v1_3
  | 4 => Memref.whole main_v1_4

theorem own_inb (a : H) (d : Dev nD) : ∀ x, own a d x + (Stack 1 (rows a) (cols a)).size x ≤ (Stack 8 (rows a) (cols a)).size x :=
  slot_inb (own_eq a d) d.isLt
theorem put_inb (a : H) (k : Fin 7) (d : Dev nD) : ∀ x, put a k d x + (Stack 1 (rows a) (cols a)).size x ≤ (Stack 8 (rows a) (cols a)).size x :=
  slot_inb (put_eq a k d) (orig k d).isLt
theorem come_inb (a : H) (k : Fin 7) (d : Dev nD) : ∀ x, come a k d x + (Stack 1 (rows a) (cols a)).size x ≤ (Stack 8 (rows a) (cols a)).size x :=
  slot_inb (come_eq a k d) (orig k _).isLt

/-- A slot begins and ends at whole words. -/
theorem word0 (s : Fin 8) : (Rect.unit (s := Stack 8 2048 448) ![s.val, 0, 0] (Stack 1 2048 448).size (slot_inb rfl s.isLt)).WholeWords (EltTy.packing .bf16) := by
  revert s; decide
theorem word1 (s : Fin 8) : (Rect.unit (s := Stack 8 2048 648) ![s.val, 0, 0] (Stack 1 2048 648).size (slot_inb rfl s.isLt)).WholeWords (EltTy.packing .bf16) := by
  revert s; decide
theorem word2 (s : Fin 8) : (Rect.unit (s := Stack 8 4096 704) ![s.val, 0, 0] (Stack 1 4096 704).size (slot_inb rfl s.isLt)).WholeWords (EltTy.packing .bf16) := by
  revert s; decide
theorem word3 (s : Fin 8) : (Rect.unit (s := Stack 8 2176 1024) ![s.val, 0, 0] (Stack 1 2176 1024).size (slot_inb rfl s.isLt)).WholeWords (EltTy.packing .bf16) := by
  revert s; decide

theorem out_word : ∀ a {off : Fin 3 → ℕ} {s : Fin 8} (h : off = ![s.val, 0, 0]) {inb}, (slot (outM a) off inb).view.WordExact
  | 0, _, s, rfl, _ => ((Memref.isWhole_whole main_v1_0).wordExact_slice rfl _ (word0 s)).reshape _ _
  | 1, _, s, rfl, _ => ((Memref.isWhole_whole main_v1_1).wordExact_slice rfl _ (word1 s)).reshape _ _
  | 2, _, s, rfl, _ => ((Memref.isWhole_whole main_v1_2).wordExact_slice rfl _ (word2 s)).reshape _ _
  | 3, _, s, rfl, _ => ((Memref.isWhole_whole main_v1_3).wordExact_slice rfl _ (word3 s)).reshape _ _
  | 4, _, _, _, _ => (View.wordExact_bits rfl).reshape _ _
theorem in_word : ∀ a, (inM a).view.WordExact
  | 0 => (Memref.isWhole_whole main_arg0).wordExact | 1 => (Memref.isWhole_whole main_arg1).wordExact | 2 => (Memref.isWhole_whole main_arg2).wordExact | 3 => (Memref.isWhole_whole main_arg3).wordExact | 4 => (Memref.isWhole_whole main_arg4).wordExact
theorem out_tc : ∀ a {off inb}, (slot (outM a) off inb).view.ref.isScScratch = false
  | 0, _, _ => rfl | 1, _, _ => rfl | 2, _, _ => rfl | 3, _, _ => rfl | 4, _, _ => rfl

/-- A copy's destination; where the peer's comes to; and its source, the argument or the slot that is sent on. -/
abbrev dst (d : Dev nD) (k : K) : Memref sig .tc .hbm (shA k.1) (elA k.1) := slot (outM k.1) (put k.1 k.2 d) (put_inb k.1 k.2 d)
abbrev got (d : Dev nD) (k : K) : Memref sig .tc .hbm (shA k.1) (elA k.1) := slot (outM k.1) (come k.1 k.2 d) (come_inb k.1 k.2 d)
abbrev srcA (d : Dev nD) (a : H) : Fin 7 → Memref sig .tc .hbm (shA a) (elA a)
  | 0 => inM a | 1 => inM a | 2 => inM a | 3 => inM a
  | 4 => slot (outM a) (put a 4 d) (put_inb a 4 d) | 5 => slot (outM a) (put a 5 d) (put_inb a 5 d) | 6 => slot (outM a) (put a 6 d) (put_inb a 6 d)
abbrev src (d : Dev nD) (k : K) : Memref sig .tc .hbm (shA k.1) (elA k.1) := srcA d k.1 k.2
/-- The device's own slot of array `a`. -/
abbrev dstL (d : Dev nD) (a : H) : Memref sig .tc .hbm (shA a) (elA a) := slot (outM a) (own a d) (own_inb a d)

theorem src_word (d : Dev nD) (a : H) : ∀ k, (srcA d a k).view.WordExact
  | 0 => in_word a | 1 => in_word a | 2 => in_word a | 3 => in_word a
  | 4 => out_word a (put_eq a 4 d) | 5 => out_word a (put_eq a 5 d) | 6 => out_word a (put_eq a 6 d)

/-- The number of a copy, and the semaphores. -/
abbrev num (k : K) : Fin 35 := ⟨7 * k.1.val + k.2.val, by omega⟩
theorem inb35 (i : Fin 35) : ∀ a, (![i.val] : Fin 1 → Nat) a + S1.size a ≤ S35.size a := by revert i; decide
theorem inb5 (i : Fin 5) : ∀ a, (![i.val] : Fin 1 → Nat) a + S1.size a ≤ S5.size a := by revert i; decide
abbrev semS (k : K) : DmaSem sig := ((cc0_scratch0.slice (Rect.unit (s := S35) ![(num k).val] S1.size (inb35 (num k)))).squeeze S_ squeezes_S1_S_).sem
abbrev semR (k : K) : DmaSem sig := ((cc0_scratch1.slice (Rect.unit (s := S35) ![(num k).val] S1.size (inb35 (num k)))).squeeze S_ squeezes_S1_S_).sem
abbrev semL (a : H) : DmaSem sig := ((cc0_scratch2.slice (Rect.unit (s := S5) ![a.val] S1.size (inb5 a))).squeeze S_ squeezes_S1_S_).sem

/-- The operations. -/
def op (d : Dev nD) : Act K H → TpuEff nD τ sig (Elt F) Λ₀ .tc PUnit
  | .send k => .enqueueDma (src d k) (.remote (Dev.tc (peer k.2 d)) (dst d k) (.dma (semS k)) (out_tc k.1)) (.dma (semR k))
      (src_word d k.1 k.2) (out_word k.1 (put_eq k.1 k.2 d)) ⟨⟨rfl, Or.inl rfl⟩, trivial⟩
  | .arrived k => .waitDma2 (semR k) (got d k) (got d k) (out_word k.1 (come_eq k.1 k.2 d)) (out_word k.1 (come_eq k.1 k.2 d))
  | .sent k => .waitDma2 (semS k) (dst d k) (src d k) (out_word k.1 (put_eq k.1 k.2 d)) (src_word d k.1 k.2)
  | .copy a => .enqueueDma (inM a) (.here (dstL d a)) (.dma (semL a)) (in_word a) (out_word a (own_eq a d)) ⟨Or.inl rfl, trivial⟩
  | .copied a => .waitDma2 (semL a) (inM a) (dstL d a) (in_word a) (out_word a (own_eq a d))

/-- The copies in the body's order. -/
def ls : List H := [0, 1, 2, 3, 4]
def first : List K := ls.flatMap fun a => [(a, 0), (a, 1), (a, 2), (a, 3)]
def rest' : List K := ls.flatMap fun a => [(a, 0), (a, 4), (a, 5), (a, 6)]
def acts : List (Act K H) :=
  ls.map .copy ++ (first.map .send ++ (([(1, 4), (2, 5), (3, 6)] : List (Fin 7 × Fin 7)).flatMap (fun x => ls.flatMap fun a => [.arrived (a, x.1), .send (a, x.2)])
    ++ (rest'.map .arrived ++ (first.map .sent ++ (([4, 5, 6] : List (Fin 7)).flatMap (fun x => ls.map fun a => .sent (a, x)) ++ ls.map .copied)))))

set_option maxHeartbeats 4000000 in
/-- The body is its operations. -/
theorem body_eq (t : Fin cfg0.N) (s : (w : Fin 0) → Fin (win0 w).nbuf) :
    (defs₀ (F := F) .tc 0 (t, s) : Prog (TpuEff nD τ sig (Elt F) Λ₀ .tc) PUnit) = .op .deviceId fun d => Net.runActs (op d) acts := rfl

/-! ## The memory at the end -/

/-- Whose part an element of a stack is in, and the element counted within its slot. -/
def part {R C : ℕ} (i : (Stack 8 R C).Idx) : Dev nD := i 0
def flat {n R C : ℕ} (i : (Stack n R C).Idx) : (⟨2, ![R, C]⟩ : Shape).Idx
  | 0 => i 1 | 1 => i 2

variable (m : (ℓ : Loc nD τ sig) → Buf (Elt F) ℓ)

/-- The results: every slot its device's part. -/
def T0 (d : Dev nD) : Buf (Elt F) ((d.tc : Thread nD τ).loc main_v1_0) := fun (i : (Stack 8 2048 448).Idx) => m (((part i).tc : Thread nD τ).loc main_arg0) (flat (R := 2048) (C := 448) i)
def T1 (d : Dev nD) : Buf (Elt F) ((d.tc : Thread nD τ).loc main_v1_1) := fun (i : (Stack 8 2048 648).Idx) => m (((part i).tc : Thread nD τ).loc main_arg1) (flat (R := 2048) (C := 648) i)
def T2 (d : Dev nD) : Buf (Elt F) ((d.tc : Thread nD τ).loc main_v1_2) := fun (i : (Stack 8 4096 704).Idx) => m (((part i).tc : Thread nD τ).loc main_arg2) (flat (R := 4096) (C := 704) i)
def T3 (d : Dev nD) : Buf (Elt F) ((d.tc : Thread nD τ).loc main_v1_3) := fun (i : (Stack 8 2176 1024).Idx) => m (((part i).tc : Thread nD τ).loc main_arg3) (flat (R := 2176) (C := 1024) i)
def T4 (d : Dev nD) : Buf (Elt F) ((d.tc : Thread nD τ).loc main_v1_4) := fun (i : (Stack 8 112 128).Idx) => m (((part i).tc : Thread nD τ).loc main_arg4) (flat (R := 112) (C := 128) i)

/-- The memory at the end. -/
def M (d : Dev nD) : (b : Ref sig .tc) → Buf (Elt F) ((d.tc : Thread nD τ).loc b) :=
  Function.update (Function.update (Function.update (Function.update (Function.update (fun b => m ((d.tc : Thread nD τ).loc b))
    main_v1_0 (T0 m d)) main_v1_1 (T1 m d)) main_v1_2 (T2 m d)) main_v1_3 (T3 m d)) main_v1_4 (T4 m d)

theorem M0 (d : Dev nD) : M m d main_v1_0 = T0 m d := by
  unfold M
  rw [Function.update_of_ne (by decide), Function.update_of_ne (by decide), Function.update_of_ne (by decide), Function.update_of_ne (by decide), Function.update_self]
theorem M1 (d : Dev nD) : M m d main_v1_1 = T1 m d := by
  unfold M
  rw [Function.update_of_ne (by decide), Function.update_of_ne (by decide), Function.update_of_ne (by decide), Function.update_self]
theorem M2 (d : Dev nD) : M m d main_v1_2 = T2 m d := by
  unfold M
  rw [Function.update_of_ne (by decide), Function.update_of_ne (by decide), Function.update_self]
theorem M3 (d : Dev nD) : M m d main_v1_3 = T3 m d := by
  unfold M
  rw [Function.update_of_ne (by decide), Function.update_self]
theorem M4 (d : Dev nD) : M m d main_v1_4 = T4 m d := by
  unfold M
  rw [Function.update_self]

/-- The arguments and the results. -/
def ins : Finset (Ref sig .tc) := {main_arg0, main_arg1, main_arg2, main_arg3, main_arg4}
def outs : Finset (Ref sig .tc) := {main_v1_0, main_v1_1, main_v1_2, main_v1_3, main_v1_4}

theorem M_ins (d : Dev nD) (b : Ref sig .tc) (hb : b ∈ ins) : M m d b = m ((d.tc : Thread nD τ).loc b) := by
  have h : ∀ b ∈ ins, b ≠ main_v1_0 ∧ b ≠ main_v1_1 ∧ b ≠ main_v1_2 ∧ b ≠ main_v1_3 ∧ b ≠ main_v1_4 := by decide
  obtain ⟨h0, h1, h2, h3, h4⟩ := h b hb
  unfold M
  rw [Function.update_of_ne h4, Function.update_of_ne h3, Function.update_of_ne h2, Function.update_of_ne h1, Function.update_of_ne h0]

theorem at_dev {b : Ref sig .tc} {d d' : Dev nD} (h : d = d') {i j : b.ty.Idx} (hij : i = j) :
    m ((d.tc : Thread nD τ).loc b) i = m ((d'.tc : Thread nD τ).loc b) j := by
  subst h hij; rfl

/-- Slot `d` of any device's results is device `d`'s part. -/
theorem moved (d n : Dev nD) {off : Fin 3 → ℕ} (h : off = ![d.val, 0, 0]) :
    ∀ a {inb}, (slot (outM a) off inb).view.read (Elt F) (M m n (slot (outM a) off inb).view.ref)
      = (inM a).view.read (Elt F) (M m d (inM a).view.ref)
  | 0, _ => by
    refine (slot_read (View.whole main_v1_0) d.isLt h _).trans (funext fun y => ?_)
    rw [M0, M_ins m d main_arg0 (by decide)]
    exact at_dev m (Fin.ext rfl) (funext fun x => match x with | 0 => rfl | 1 => rfl)
  | 1, _ => by
    refine (slot_read (View.whole main_v1_1) d.isLt h _).trans (funext fun y => ?_)
    rw [M1, M_ins m d main_arg1 (by decide)]
    exact at_dev m (Fin.ext rfl) (funext fun x => match x with | 0 => rfl | 1 => rfl)
  | 2, _ => by
    refine (slot_read (View.whole main_v1_2) d.isLt h _).trans (funext fun y => ?_)
    rw [M2, M_ins m d main_arg2 (by decide)]
    exact at_dev m (Fin.ext rfl) (funext fun x => match x with | 0 => rfl | 1 => rfl)
  | 3, _ => by
    refine (slot_read (View.whole main_v1_3) d.isLt h _).trans (funext fun y => ?_)
    rw [M3, M_ins m d main_arg3 (by decide)]
    exact at_dev m (Fin.ext rfl) (funext fun x => match x with | 0 => rfl | 1 => rfl)
  | 4, _ => by
    refine (slot_read (View.whole main_v1_4) d.isLt h _).trans (funext fun y => ?_)
    rw [M4, M_ins m d main_arg4 (by decide)]
    exact at_dev m (Fin.ext rfl) (funext fun x => match x with | 0 => rfl | 1 => rfl)

/-! ## The copies -/

/-- The semaphores are the copies' and no others. -/
def dec : DmaSem sig ≃ (K ⊕ K) ⊕ H :=
  (Equiv.ofBijective (Sum.elim (Sum.elim semS semR) semL : (K ⊕ K) ⊕ H → DmaSem sig) (by decide +kernel)).symm

/-- What arrives from another chip is sent on. -/
def plan : Plan K H where
  fwd k := match k with
    | (a, 1) => some (a, 4) | (a, 2) => some (a, 5) | (a, 3) => some (a, 6) | _ => none
  lev k := if 4 ≤ k.2.val then 2 else 1

theorem fwd_some {k k' : K} (h : plan.fwd k = some k') : k' = (k.1, 4) ∧ k.2 = 1 ∨ k' = (k.1, 5) ∧ k.2 = 2 ∨ k' = (k.1, 6) ∧ k.2 = 3 := by
  revert k k'; decide +kernel
theorem first_of {k : K} (h : plan.blocked k = false) : k.2.val < 4 := by revert k; decide +kernel

/-- What a copy counts for. -/
abbrev amt (a : H) : ℕ := (inM a).view.dmaCredit
theorem amt_pos (a : H) : 0 < amt a := by revert a; decide +kernel

/-- It is the same for all parts of an array. -/
theorem out_credit : ∀ a {off inb}, (slot (outM a) off inb).view.dmaCredit = amt a
  | 0, _, _ => rfl | 1, _, _ => rfl | 2, _, _ => rfl | 3, _, _ => rfl | 4, _, _ => rfl
theorem src_credit (d : Dev nD) (a : H) : ∀ k, (srcA d a k).view.dmaCredit = amt a
  | 0 => rfl | 1 => rfl | 2 => rfl | 3 => rfl | 4 => out_credit a | 5 => out_credit a | 6 => out_credit a

def copies : Copies nD τ sig (Elt F) K H where
  plan := plan
  dec := dec
  peer k := peer k.2
  peer_peer k d := peer_peer k.2 d
  amt k := amt k.1
  amt_pos k := amt_pos k.1
  amtL := amt
  amtL_pos := amt_pos
  sh k := shA k.1
  el k := elA k.1
  src := src
  dst := dst
  shL := shA
  elL := elA
  srcL _ := inM
  dstL := dstL
  M := M m

/-- Which copy fills slot `s`. -/
def from' (d : Dev nD) (s : ℕ) : Fin 7 ⊕ Unit :=
  if d.val = s then .inr () else if (peer 0 d).val = s then .inl 0 else if (peer 1 d).val = s then .inl 1 else if (peer 2 d).val = s then .inl 2
  else if (peer 3 d).val = s then .inl 3 else if (orig 4 (peer 4 d)).val = s then .inl 4 else if (orig 5 (peer 5 d)).val = s then .inl 5 else .inl 6

theorem from_own (d : Dev nD) (s : Fin 8) : s.val = d.val ↔ from' d s.val = .inr () := by revert d s; decide +kernel
theorem from_peer (k : Fin 7) (d : Dev nD) (s : Fin 8) : s.val = (orig k (peer k d)).val ↔ from' d s.val = .inl k := by revert k d s; decide +kernel

/-- Which array a result is of, and which copy fills an element of it. -/
def arr (b : Ref sig .tc) : H :=
  if b = main_v1_0 then 0 else if b = main_v1_1 then 1 else if b = main_v1_2 then 2 else if b = main_v1_3 then 3 else 4
def who (d : Dev nD) (b : Ref sig .tc) (i : b.ty.Idx) : K ⊕ H := (from' d (lead i)).map (fun j => (arr b, j)) fun _ => arr b

theorem map_inl {a : H} {x : Fin 7 ⊕ Unit} {j : Fin 7} : x.map (fun j => (a, j)) (fun _ => a) = (.inl (a, j) : K ⊕ H) ↔ x = .inl j := by
  cases x with
  | inl y => simp
  | inr y => simp
theorem map_inr {a : H} {x : Fin 7 ⊕ Unit} : x.map (fun j => (a, j)) (fun _ => a) = (.inr a : K ⊕ H) ↔ x = .inr () := by
  cases x with
  | inl y => simp
  | inr y => simp

/-- An element lies in slot `s` where it counts `s` first. -/
theorem mem_out {s : ℕ} : ∀ a {off : Fin 3 → ℕ} {inb} (h : off = ![s, 0, 0]) (i : (slot (outM a) off inb).view.ref.ty.Idx),
    (i ∈ (slot (outM a) off inb).view.set ↔ lead i = s) ∧ lead i < 8 ∧ arr (slot (outM a) off inb).view.ref = a
  | 0, _, _, h, i => ⟨(Iff.of_eq (congrArg (i ∈ ·) ((View.set_reshape _ _).trans (View.set_slice_whole main_v1_0 _)))).trans (mem_slot h i),
    (show (i 0).val < 8 from (i 0).isLt), (show arr main_v1_0 = 0 by decide)⟩
  | 1, _, _, h, i => ⟨(Iff.of_eq (congrArg (i ∈ ·) ((View.set_reshape _ _).trans (View.set_slice_whole main_v1_1 _)))).trans (mem_slot h i),
    (show (i 0).val < 8 from (i 0).isLt), (show arr main_v1_1 = 1 by decide)⟩
  | 2, _, _, h, i => ⟨(Iff.of_eq (congrArg (i ∈ ·) ((View.set_reshape _ _).trans (View.set_slice_whole main_v1_2 _)))).trans (mem_slot h i),
    (show (i 0).val < 8 from (i 0).isLt), (show arr main_v1_2 = 2 by decide)⟩
  | 3, _, _, h, i => ⟨(Iff.of_eq (congrArg (i ∈ ·) ((View.set_reshape _ _).trans (View.set_slice_whole main_v1_3 _)))).trans (mem_slot h i),
    (show (i 0).val < 8 from (i 0).isLt), (show arr main_v1_3 = 3 by decide)⟩
  | 4, _, _, h, i => ⟨(Iff.of_eq (congrArg (i ∈ ·) ((View.set_reshape _ _).trans (View.set_slice_whole main_v1_4 _)))).trans (mem_slot h i),
    (show (i 0).val < 8 from (i 0).isLt), (show arr main_v1_4 = 4 by decide)⟩

theorem in_ins (a : H) : (inM a).view.ref ∈ ins := by revert a; decide

/-- Where a copy goes on the peer's device is what the peer sends on. -/
theorem same_place (d : Dev nD) (a : H) {off off' : Fin 3 → ℕ} {inb inb'} (h : off = off') (q : PosShare TreeShare) :
    ((slot (outM a) off inb).view.loc (d.tc : Thread nD τ) ↦[(slot (outM a) off inb).view.set]{q} M m d (slot (outM a) off inb).view.ref : sProp (MT nD τ sig Unit (Elt F) ℕ (UR sig nD τ) ℕ))
      = ((slot (outM a) off' inb').view.loc (d.tc : Thread nD τ) ↦[(slot (outM a) off' inb').view.set]{q} M m d (slot (outM a) off' inb').view.ref) := by
  subst h; rfl

theorem reads (d : Dev nD) (a : H) : ∀ k : Fin 7, (dst d (a, k)).view.read (Elt F) (M m (peer k d) (dst d (a, k)).view.ref)
    = (srcA d a k).view.read (Elt F) (M m d (srcA d a k).view.ref)
  | 0 => moved m d _ (put_eq a 0 d) a | 1 => moved m d _ (put_eq a 1 d) a | 2 => moved m d _ (put_eq a 2 d) a | 3 => moved m d _ (put_eq a 3 d) a
  | 4 => (moved m (orig 4 d) _ (put_eq a 4 d) a).trans (moved m (orig 4 d) d (put_eq a 4 d) a).symm
  | 5 => (moved m (orig 5 d) _ (put_eq a 5 d) a).trans (moved m (orig 5 d) d (put_eq a 5 d) a).symm
  | 6 => (moved m (orig 6 d) _ (put_eq a 6 d) a).trans (moved m (orig 6 d) d (put_eq a 6 d) a).symm

theorem ok : (copies m).Ok m ins outs who where
  reads d k := reads m d k.1 k.2
  readsL d a := moved m d d (own_eq a d) a
  passes d k k' h q := by
    obtain ⟨a, k⟩ := k
    rcases fwd_some h with ⟨rfl, hk⟩ | ⟨rfl, hk⟩ | ⟨rfl, hk⟩
    · obtain rfl : k = 1 := hk
      exact same_place m d a ((put_eq a 1 (peer 1 d)).trans (put_eq a 4 d).symm) q
    · obtain rfl : k = 2 := hk
      exact same_place m d a ((put_eq a 2 (peer 2 d)).trans (put_eq a 5 d).symm) q
    · obtain rfl : k = 3 := hk
      exact same_place m d a ((put_eq a 3 (peer 3 d)).trans (put_eq a 6 d).symm) q
  fills d x := match x with
    | .inl k => fun i => by
      obtain ⟨h1, h2, h3⟩ := mem_out k.1 (put_eq k.1 k.2 (peer k.2 d)) i
      refine h1.trans ((from_peer k.2 d ⟨_, h2⟩).trans ?_)
      unfold who
      rw [show arr ((copies m).ref d (.inl k)) = k.1 from h3]
      exact map_inl.symm
    | .inr a => fun i => by
      obtain ⟨h1, h2, h3⟩ := mem_out a (own_eq a d) i
      refine h1.trans ((from_own d ⟨_, h2⟩).trans ?_)
      unfold who
      rw [show arr ((copies m).ref d (.inr a)) = a from h3]
      exact map_inr.symm
  who_ref d b hb i := by
    have h : ∀ b ∈ outs, (outM (arr b)).view.ref = b := by decide
    have e : ∀ x : Fin 7 ⊕ Unit, (copies m).ref d (x.map (fun j => (arr b, j)) fun _ => arr b) = (outM (arr b)).view.ref := fun x => by
      cases x <;> rfl
    exact (e _).trans (h b hb)
  ref_outs d x := by
    have h : ∀ a, (outM a).view.ref ∈ outs := by decide
    exact match x with
      | .inl k => h k.1
      | .inr a => h a
  src_ins d k hb := by
    obtain ⟨a, k⟩ := k
    have h4 : k.val < 4 := first_of hb
    exact match k, h4 with
      | 0, _ => in_ins a | 1, _ => in_ins a | 2, _ => in_ins a | 3, _ => in_ins a
  srcL_ins d a := in_ins a
  unscoped := by decide
  disj := by decide
  kept := M_ins m

/-- The operations do what the list says. -/
theorem op_triple (κ : Dev nD × DmaSem sig → ℕ) (d : Dev nD) (x : Act K H) : (copies m).net.Triple defs₀ Variants.none κ d (op d x) x :=
  match x with
  | .send k => (ok m).triple_send defs₀ Variants.none d k rfl rfl (out_credit k.1)
  | .sent k => Net.triple_sent _ _ _ κ d k rfl (dst d k) (src d k) (hsrc := out_word k.1 (put_eq k.1 k.2 d)) (hdst := src_word d k.1 k.2)
      (src_credit d k.1 k.2)
  | .arrived k => Net.triple_arrived _ _ _ κ d k rfl (got d k) (got d k) (hsrc := out_word k.1 (come_eq k.1 k.2 d)) (hdst := out_word k.1 (come_eq k.1 k.2 d))
      (out_credit k.1)
  | .copy a => (ok m).triple_copy defs₀ Variants.none d a rfl (out_credit a)
  | .copied a => Net.triple_copied _ _ _ κ d a rfl (inM a) (dstL d a) (hsrc := in_word a) (hdst := out_word a (own_eq a d)) (out_credit a)
theorem acts_complete : plan.completes acts = true := by decide +kernel

theorem all_scoped : ∀ sm : SemLoc sig, sm.isScoped .tc = true := by decide +kernel

/-- The call, from any memory: every argument as it was, every result what the devices sent. -/
theorem run (g : Dev nD → PrngReg) : θ_run (defs (F := F)) (onTc main) ⟨m, fun _ => 0, g⟩ fun r =>
    (∀ c : Dev nD, (∀ b ∈ ins, r.2.mem ((c.tc : Thread nD τ).loc b) = M m c b) ∧ ∀ b ∈ outs, r.2.mem ((c.tc : Thread nD τ).loc b) = M m c b) ∧ r.2.sem = fun _ => 0 :=
  (copies m).net.run pcfgs (fun p => (cfgs p).toPCfg_adm) defs₀ Variants.none 0 ((copies m).rest ins) cellOf_inj (by decide) m g main (fun _ => rfl)
    (fun c => N_0) (ok m).deal op acts (fun c t R => Entails.of_eq rfl) (op_triple m) acts_complete
    (fun c s => (∀ b ∈ ins, s.mem ((c.tc : Thread nD τ).loc b) = M m c b) ∧ ∀ b ∈ outs, s.mem ((c.tc : Thread nD τ).loc b) = M m c b)
    (ok m).final (fun s h hs => ⟨h, funext fun g => hs g (.inr (all_scoped g.2))⟩)

end Exchange.Gather

end
-- ==== Proof.Whole.lean ====
/-
# The references read at an index

The references rearrange whole arrays: they split an axis into the mesh's axes (four chips of two cores, eight devices
in this order), select or transpose, and join the axes again. Each is here read at one index of its result.
-/
module

public import proofs.«01_k».proof.Proof.Slots
public import Idealize.ShloMosaic.Lib.Pipeline.Value
public import Idealize.ShloMosaic.Lib.ValueIdx
public import Idealize.ShloMosaic.Lib.ValueIdxRank6

@[expose] public section

noncomputable section

namespace Exchange

open Idealize.ShloMosaic Idealize.ShloMosaic.ValueIdx

variable {α : Type} {R C : ℕ}

/-- Two positions of rank three and five are one where the leading axes count alike. -/
theorem join5 {n a b c : ℕ} (i : (Stack n R C).Idx) (k : (⟨5, ![a, b, c, R, C]⟩ : Shape).Idx)
    (h : ((k 0).val * b + (k 1).val) * c + (k 2).val = (i 0).val) (h1 : (k 3).val = (i 1).val) (h2 : (k 4).val = (i 2).val) :
    ((⟨5, ![a, b, c, R, C]⟩ : Shape).rowMajor k).val = ((Stack n R C).rowMajor i).val := by
  rw [Shape.rowMajor_val_five, Shape.rowMajor_val_three]
  show ((((k 0).val * b + (k 1).val) * c + (k 2).val) * R + (k 3).val) * C + (k 4).val = ((i 0).val * R + (i 1).val) * C + (i 2).val
  rw [h, h1, h2]

/-- The same of rank six. -/
theorem join6 {n a b c e : ℕ} (i : (Stack n R C).Idx) (k : (⟨6, ![a, b, c, e, R, C]⟩ : Shape).Idx)
    (h : (((k 0).val * b + (k 1).val) * c + (k 2).val) * e + (k 3).val = (i 0).val) (h1 : (k 4).val = (i 1).val) (h2 : (k 5).val = (i 2).val) :
    ((Stack n R C).rowMajor i).val = ((⟨6, ![a, b, c, e, R, C]⟩ : Shape).rowMajor k).val := by
  rw [Shape.rowMajor_val_six, Shape.rowMajor_val_three]
  show ((i 0).val * R + (i 1).val) * C + (i 2).val = (((((k 0).val * b + (k 1).val) * c + (k 2).val) * e + (k 3).val) * R + (k 4).val) * C + (k 5).val
  rw [h, h1, h2]

/-- One core's half of the parts: the slots of every chip's core `o 1` that lie at core `o 3` of their pairs. -/
theorem half_apply (g : (Stack 64 R C).Idx → α) (u v : Fin 2)
    (h1 : (Stack 64 R C).ShapeCasts ⟨6, ![4, 2, 4, 2, R, C]⟩)
    (h2 : (⟨6, ![4, 2, 4, 2, R, C]⟩ : Shape).Slices ![0, u.val, 0, v.val, 0, 0] ⟨6, ![4, 1, 4, 1, R, C]⟩)
    (h3 : (⟨6, ![4, 1, 4, 1, R, C]⟩ : Shape).ShapeCasts ⟨4, ![4, 4, R, C]⟩)
    (h4 : (⟨4, ![4, 4, R, C]⟩ : Shape).BroadcastsInDim ⟨5, ![4, 1, 4, R, C]⟩ ![0, 2, 3, 4])
    (q s : Fin 4) (y : Fin R) (z : Fin C) :
    broadcastInDim ⟨5, ![4, 1, 4, R, C]⟩ ![0, 2, 3, 4] h4
        (shapeCast ⟨4, ![4, 4, R, C]⟩ (extractStridedSlice ⟨6, ![4, 1, 4, 1, R, C]⟩ ![0, u.val, 0, v.val, 0, 0] (shapeCast ⟨6, ![4, 2, 4, 2, R, C]⟩ g h1) h2) h3)
        (ix5 q 0 s y z)
      = g (at3 (8 * (2 * q.val + u.val) + 2 * s.val + v.val) (by omega) y z) := by
  refine (broadcastInDim_apply _ h4 _ _ (ix4 q s y z) fun a => ?_).trans ?_
  · match a with
    | 0 => rfl
    | 1 => rfl
    | 2 => show y.val = if R = 1 then 0 else y.val; split <;> omega
    | 3 => show z.val = if C = 1 then 0 else z.val; split <;> omega
  refine (shapeCast_apply _ h3 _ (ix6 q 0 s 0 y z) ?_).trans ?_
  · rw [Shape.rowMajor_val_six, Shape.rowMajor_val_four]
    show ((((q.val * 1 + 0) * 4 + s.val) * 1 + 0) * R + y.val) * C + z.val = ((q.val * 4 + s.val) * R + y.val) * C + z.val
    simp only [Nat.mul_one, Nat.add_zero]
  refine (extractStridedSlice_apply _ _ h2 _ (ix6 q u s v y z) fun a => ?_).trans ?_
  · match a with
    | 0 => exact (Nat.zero_add _).symm
    | 1 => exact (Nat.add_zero _).symm
    | 2 => exact (Nat.zero_add _).symm
    | 3 => exact (Nat.add_zero _).symm
    | 4 => exact (Nat.zero_add _).symm
    | 5 => exact (Nat.zero_add _).symm
  refine shapeCast_apply g h1 _ _ (join6 _ _ ?_ rfl rfl)
  show ((q.val * 2 + u.val) * 4 + s.val) * 2 + v.val = 8 * (2 * q.val + u.val) + 2 * s.val + v.val
  omega

/-- Slots of both cores joined: core `0`'s are the slots of every chip's core `u` that lie at core `v` of their pairs,
core `1`'s those of core `u'` at `v'`. -/
theorem sides_apply (g : (Stack 64 R C).Idx → α) (u v u' v' : Fin 2)
    (h1 : (Stack 64 R C).ShapeCasts ⟨6, ![4, 2, 4, 2, R, C]⟩)
    (h2 : (⟨6, ![4, 2, 4, 2, R, C]⟩ : Shape).Slices ![0, u.val, 0, v.val, 0, 0] ⟨6, ![4, 1, 4, 1, R, C]⟩)
    (h2' : (⟨6, ![4, 2, 4, 2, R, C]⟩ : Shape).Slices ![0, u'.val, 0, v'.val, 0, 0] ⟨6, ![4, 1, 4, 1, R, C]⟩)
    (h3 : (⟨6, ![4, 1, 4, 1, R, C]⟩ : Shape).ShapeCasts ⟨4, ![4, 4, R, C]⟩)
    (h4 : (⟨4, ![4, 4, R, C]⟩ : Shape).BroadcastsInDim ⟨5, ![4, 1, 4, R, C]⟩ ![0, 2, 3, 4])
    (h5 : Shape.Concatenates [⟨5, ![4, 1, 4, R, C]⟩, ⟨5, ![4, 1, 4, R, C]⟩] ⟨5, ![4, 2, 4, R, C]⟩ 1)
    (h6 : (⟨5, ![4, 2, 4, R, C]⟩ : Shape).ShapeCasts (Stack 32 R C)) (i : (Stack 32 R C).Idx) (k : (Stack 64 R C).Idx)
    (hk0 : (i 0).val / 4 % 2 = 0 → (k 0).val = 8 * (2 * ((i 0).val / 8) + u.val) + 2 * ((i 0).val % 4) + v.val)
    (hk0' : (i 0).val / 4 % 2 = 1 → (k 0).val = 8 * (2 * ((i 0).val / 8) + u'.val) + 2 * ((i 0).val % 4) + v'.val)
    (hk1 : (k 1).val = (i 1).val) (hk2 : (k 2).val = (i 2).val) :
    shapeCast (Stack 32 R C) (concatenate ⟨5, ![4, 2, 4, R, C]⟩ 1
        [⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, u.val, 0, v.val, 0, 0] (shapeCast ⟨6, ![4, 2, 4, 2, R, C]⟩ g h1) h2) h3)⟩,
         ⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, u'.val, 0, v'.val, 0, 0] (shapeCast ⟨6, ![4, 2, 4, 2, R, C]⟩ g h1) h2') h3)⟩] h5) h6 i
      = g k := by
  have hi : (i 0).val < 32 := (i 0).isLt
  let q : Fin 4 := ⟨(i 0).val / 8, by omega⟩
  let c : Fin 2 := ⟨(i 0).val / 4 % 2, by omega⟩
  let s : Fin 4 := ⟨(i 0).val % 4, by omega⟩
  refine (shapeCast_apply _ h6 i (ix5 q c s (i 1) (i 2)) (join5 _ _ ?_ rfl rfl)).trans ?_
  · show ((i 0).val / 8 * 2 + (i 0).val / 4 % 2) * 4 + (i 0).val % 4 = (i 0).val
    omega
  rcases Nat.lt_or_ge ((i 0).val / 4 % 2) 1 with hc | hc
  · refine (concatenate_pair_apply_left 1 _ _ h5 _ rfl (ix5 q 0 s (i 1) (i 2)) fun b => ?_).trans ?_
    · match b with
      | 0 => rfl
      | 1 => show 0 = (i 0).val / 4 % 2; omega
      | 2 => rfl
      | 3 => rfl
      | 4 => rfl
    · exact (half_apply g u v h1 h2 h3 h4 q s (i 1) (i 2)).trans (congrArg g (at3_ext (hk0 (by omega)).symm hk1.symm hk2.symm))
  · refine (concatenate_pair_apply_right 1 _ _ h5 _ rfl rfl (ix5 q 0 s (i 1) (i 2)) (fun b hb => ?_) ?_).trans ?_
    · match b with
      | 0 => rfl
      | 1 => exact absurd rfl hb
      | 2 => rfl
      | 3 => rfl
      | 4 => rfl
    · show 0 + 1 = (i 0).val / 4 % 2
      omega
    · exact (half_apply g u' v' h1 h2' h3 h4 q s (i 1) (i 2)).trans (congrArg g (at3_ext (hk0' (by omega)).symm hk1.symm hk2.symm))

/-- The parts that change hands: device `8 ⋅ d + …`'s slot is its sibling's. -/
theorem swap_apply (g : (Stack 64 R C).Idx → α)
    (h1 : (Stack 64 R C).ShapeCasts ⟨6, ![4, 2, 4, 2, R, C]⟩)
    (h2 : (⟨6, ![4, 2, 4, 2, R, C]⟩ : Shape).Slices ![0, 1, 0, 0, 0, 0] ⟨6, ![4, 1, 4, 1, R, C]⟩)
    (h2' : (⟨6, ![4, 2, 4, 2, R, C]⟩ : Shape).Slices ![0, 0, 0, 1, 0, 0] ⟨6, ![4, 1, 4, 1, R, C]⟩)
    (h3 : (⟨6, ![4, 1, 4, 1, R, C]⟩ : Shape).ShapeCasts ⟨4, ![4, 4, R, C]⟩)
    (h4 : (⟨4, ![4, 4, R, C]⟩ : Shape).BroadcastsInDim ⟨5, ![4, 1, 4, R, C]⟩ ![0, 2, 3, 4])
    (h5 : Shape.Concatenates [⟨5, ![4, 1, 4, R, C]⟩, ⟨5, ![4, 1, 4, R, C]⟩] ⟨5, ![4, 2, 4, R, C]⟩ 1)
    (h6 : (⟨5, ![4, 2, 4, R, C]⟩ : Shape).ShapeCasts (Stack 32 R C)) (i : (Stack 32 R C).Idx) (k : (Stack 64 R C).Idx)
    (hk : (k 0).val = 8 * (2 * ((i 0).val / 8) + (1 - (i 0).val / 4 % 2)) + 2 * ((i 0).val % 4) + (i 0).val / 4 % 2)
    (hk1 : (k 1).val = (i 1).val) (hk2 : (k 2).val = (i 2).val) :
    shapeCast (Stack 32 R C) (concatenate ⟨5, ![4, 2, 4, R, C]⟩ 1
        [⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, 1, 0, 0, 0, 0] (shapeCast ⟨6, ![4, 2, 4, 2, R, C]⟩ g h1) h2) h3)⟩,
         ⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, 0, 0, 1, 0, 0] (shapeCast ⟨6, ![4, 2, 4, 2, R, C]⟩ g h1) h2') h3)⟩] h5) h6 i
      = g k :=
  sides_apply g 1 0 0 1 h1 h2 h2' h3 h4 h5 h6 i k
    (fun h => by show (k 0).val = 8 * (2 * ((i 0).val / 8) + 1) + 2 * ((i 0).val % 4) + 0; omega)
    (fun h => by show (k 0).val = 8 * (2 * ((i 0).val / 8) + 0) + 2 * ((i 0).val % 4) + 1; omega) hk1 hk2

/-- The parts that a core keeps: its slots for its own side. -/
theorem keep_apply (g : (Stack 64 R C).Idx → α)
    (h1 : (Stack 64 R C).ShapeCasts ⟨6, ![4, 2, 4, 2, R, C]⟩)
    (h2 : (⟨6, ![4, 2, 4, 2, R, C]⟩ : Shape).Slices ![0, 0, 0, 0, 0, 0] ⟨6, ![4, 1, 4, 1, R, C]⟩)
    (h2' : (⟨6, ![4, 2, 4, 2, R, C]⟩ : Shape).Slices ![0, 1, 0, 1, 0, 0] ⟨6, ![4, 1, 4, 1, R, C]⟩)
    (h3 : (⟨6, ![4, 1, 4, 1, R, C]⟩ : Shape).ShapeCasts ⟨4, ![4, 4, R, C]⟩)
    (h4 : (⟨4, ![4, 4, R, C]⟩ : Shape).BroadcastsInDim ⟨5, ![4, 1, 4, R, C]⟩ ![0, 2, 3, 4])
    (h5 : Shape.Concatenates [⟨5, ![4, 1, 4, R, C]⟩, ⟨5, ![4, 1, 4, R, C]⟩] ⟨5, ![4, 2, 4, R, C]⟩ 1)
    (h6 : (⟨5, ![4, 2, 4, R, C]⟩ : Shape).ShapeCasts (Stack 32 R C)) (i : (Stack 32 R C).Idx) (k : (Stack 64 R C).Idx)
    (hk : (k 0).val = 8 * (2 * ((i 0).val / 8) + (i 0).val / 4 % 2) + 2 * ((i 0).val % 4) + (i 0).val / 4 % 2)
    (hk1 : (k 1).val = (i 1).val) (hk2 : (k 2).val = (i 2).val) :
    shapeCast (Stack 32 R C) (concatenate ⟨5, ![4, 2, 4, R, C]⟩ 1
        [⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, 0, 0, 0, 0, 0] (shapeCast ⟨6, ![4, 2, 4, 2, R, C]⟩ g h1) h2) h3)⟩,
         ⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, 1, 0, 1, 0, 0] (shapeCast ⟨6, ![4, 2, 4, 2, R, C]⟩ g h1) h2') h3)⟩] h5) h6 i
      = g k :=
  sides_apply g 0 0 1 1 h1 h2 h2' h3 h4 h5 h6 i k
    (fun h => by show (k 0).val = 8 * (2 * ((i 0).val / 8) + 0) + 2 * ((i 0).val % 4) + 0; omega)
    (fun h => by show (k 0).val = 8 * (2 * ((i 0).val / 8) + 1) + 2 * ((i 0).val % 4) + 1; omega) hk1 hk2

/-- Eight arrays stacked by rows, those of siblings exchanged. -/
theorem swap_rows_apply (g : (⟨2, ![3008, 128]⟩ : Shape).Idx → α)
    (h1 : (⟨2, ![3008, 128]⟩ : Shape).ShapeCasts ⟨4, ![4, 2, 376, 128]⟩) (h2 : (⟨4, ![4, 2, 376, 128]⟩ : Shape).ShapeCasts ⟨2, ![3008, 128]⟩)
    (i k : (⟨2, ![3008, 128]⟩ : Shape).Idx)
    (hk : (k 0).val = (2 * ((i 0).val / 752) + (1 - (i 0).val / 376 % 2)) * 376 + (i 0).val % 376) (hk1 : (k 1).val = (i 1).val) :
    shapeCast ⟨2, ![3008, 128]⟩ (Host.reverse (s := ⟨4, ![4, 2, 376, 128]⟩) [1] (shapeCast ⟨4, ![4, 2, 376, 128]⟩ g h1)) h2 i = g k := by
  have hi : (i 0).val < 3008 := (i 0).isLt
  let q : Fin 4 := ⟨(i 0).val / 752, by omega⟩
  let c : Fin 2 := ⟨(i 0).val / 376 % 2, by omega⟩
  let s : Fin 376 := ⟨(i 0).val % 376, by omega⟩
  refine (shapeCast_apply _ h2 i (ix4 q c s (i 1)) ?_).trans ?_
  · rw [Shape.rowMajor_val_two, Shape.rowMajor_val_four]
    show ((((i 0).val / 752 * 2 + (i 0).val / 376 % 2) * 376 + (i 0).val % 376) * 128 + (i 1).val) = (i 0).val * 128 + (i 1).val
    omega
  · refine shapeCast_apply g h1 _ k ?_
    rw [Shape.rowMajor_val_two, Shape.rowMajor_val_four]
    show (k 0).val * 128 + (k 1).val = ((((i 0).val / 752 * 2 + (2 - ((i 0).val / 376 % 2 + 1))) * 376 + (i 0).val % 376) * 128 + (i 1).val)
    omega

/-- What the chips exchange: chip `p`'s slot `q` is chip `q`'s slot `p`. -/
theorem cross_apply (g : (Stack 32 R C).Idx → α)
    (h1 : (Stack 32 R C).ShapeCasts ⟨5, ![4, 2, 4, R, C]⟩) (h2 : (⟨5, ![4, 2, 4, R, C]⟩ : Shape).Transposes [2, 1, 0, 3, 4] ⟨5, ![4, 2, 4, R, C]⟩)
    (h3 : (⟨5, ![4, 2, 4, R, C]⟩ : Shape).ShapeCasts (Stack 32 R C)) (i k : (Stack 32 R C).Idx)
    (hk : (k 0).val = 8 * ((i 0).val % 4) + 4 * ((i 0).val / 4 % 2) + (i 0).val / 8) (hk1 : (k 1).val = (i 1).val) (hk2 : (k 2).val = (i 2).val) :
    shapeCast (Stack 32 R C) (transpose ⟨5, ![4, 2, 4, R, C]⟩ [2, 1, 0, 3, 4] (shapeCast ⟨5, ![4, 2, 4, R, C]⟩ g h1) h2) h3 i = g k := by
  have hi : (i 0).val < 32 := (i 0).isLt
  let p : Fin 4 := ⟨(i 0).val / 8, by omega⟩
  let c : Fin 2 := ⟨(i 0).val / 4 % 2, by omega⟩
  let q : Fin 4 := ⟨(i 0).val % 4, by omega⟩
  refine (shapeCast_apply _ h3 i (ix5 p c q (i 1) (i 2)) (join5 _ _ ?_ rfl rfl)).trans ?_
  · show ((i 0).val / 8 * 2 + (i 0).val / 4 % 2) * 4 + (i 0).val % 4 = (i 0).val
    omega
  refine (transpose_apply _ _ h2 _ (ix5 q c p (i 1) (i 2)) fun b => ?_).trans ?_
  · match b with
    | 0 => rfl
    | 1 => rfl
    | 2 => rfl
    | 3 => rfl
    | 4 => rfl
  refine shapeCast_apply g h1 _ k (join5 _ _ ?_ hk1.symm hk2.symm).symm
  show ((i 0).val % 4 * 2 + (i 0).val / 4 % 2) * 4 + (i 0).val / 8 = (k 0).val
  omega

/-- The sixth array of the chips: every chip has all four of its side. -/
theorem spread_apply (g : (⟨2, ![3008, 128]⟩ : Shape).Idx → α)
    (h1 : (⟨2, ![3008, 128]⟩ : Shape).ShapeCasts ⟨4, ![4, 2, 376, 128]⟩) (h2 : (⟨4, ![4, 2, 376, 128]⟩ : Shape).Transposes [1, 0, 2, 3] ⟨4, ![2, 4, 376, 128]⟩)
    (h3 : (⟨4, ![2, 4, 376, 128]⟩ : Shape).BroadcastsInDim ⟨5, ![1, 2, 4, 376, 128]⟩ ![1, 2, 3, 4])
    (h4 : (⟨5, ![1, 2, 4, 376, 128]⟩ : Shape).BroadcastsInDim ⟨5, ![4, 2, 4, 376, 128]⟩ ![0, 1, 2, 3, 4])
    (h5 : (⟨5, ![4, 2, 4, 376, 128]⟩ : Shape).ShapeCasts (Stack 32 376 128)) (i : (Stack 32 376 128).Idx) (k : (⟨2, ![3008, 128]⟩ : Shape).Idx)
    (hk : (k 0).val = (2 * ((i 0).val % 4) + (i 0).val / 4 % 2) * 376 + (i 1).val) (hk1 : (k 1).val = (i 2).val) :
    shapeCast (Stack 32 376 128) (broadcastInDim ⟨5, ![4, 2, 4, 376, 128]⟩ ![0, 1, 2, 3, 4] h4 (broadcastInDim ⟨5, ![1, 2, 4, 376, 128]⟩ ![1, 2, 3, 4] h3
      (transpose ⟨4, ![2, 4, 376, 128]⟩ [1, 0, 2, 3] (shapeCast ⟨4, ![4, 2, 376, 128]⟩ g h1) h2))) h5 i = g k := by
  have hi : (i 0).val < 32 := (i 0).isLt
  let p : Fin 4 := ⟨(i 0).val / 8, by omega⟩
  let c : Fin 2 := ⟨(i 0).val / 4 % 2, by omega⟩
  let q : Fin 4 := ⟨(i 0).val % 4, by omega⟩
  refine (shapeCast_apply _ h5 i (ix5 p c q (i 1) (i 2)) (join5 _ _ ?_ rfl rfl)).trans ?_
  · show ((i 0).val / 8 * 2 + (i 0).val / 4 % 2) * 4 + (i 0).val % 4 = (i 0).val
    omega
  refine (broadcastInDim_apply _ h4 _ _ (ix5 0 c q (i 1) (i 2)) fun b => ?_).trans ?_
  · match b with
    | 0 => rfl
    | 1 => rfl
    | 2 => rfl
    | 3 => rfl
    | 4 => rfl
  refine (broadcastInDim_apply _ h3 _ _ (ix4 c q (i 1) (i 2)) fun b => ?_).trans ?_
  · match b with
    | 0 => rfl
    | 1 => rfl
    | 2 => rfl
    | 3 => rfl
  refine (transpose_apply _ _ h2 _ (ix4 q c (i 1) (i 2)) fun b => ?_).trans ?_
  · match b with
    | 0 => rfl
    | 1 => rfl
    | 2 => rfl
    | 3 => rfl
  refine shapeCast_apply g h1 _ k ?_
  rw [Shape.rowMajor_val_two, Shape.rowMajor_val_four]
  show (k 0).val * 128 + (k 1).val = (((i 0).val % 4 * 2 + (i 0).val / 4 % 2) * 376 + (i 1).val) * 128 + (i 2).val
  rw [hk, hk1, Nat.mul_comm 2]

/-- The eight parts of a matrix cut along its columns, stacked. -/
theorem columns_apply {N : ℕ} (g : (⟨2, ![R, N]⟩ : Shape).Idx → α) (h1 : (⟨2, ![R, N]⟩ : Shape).ShapeCasts (Stack R 8 C))
    (h2 : (Stack R 8 C).Transposes [1, 0, 2] (Stack 8 R C)) (hN : N = 8 * C) (i : (Stack 8 R C).Idx) (k : (⟨2, ![R, N]⟩ : Shape).Idx)
    (hk : (k 0).val = (i 1).val) (hk1 : (k 1).val = (i 0).val * C + (i 2).val) :
    transpose (Stack 8 R C) [1, 0, 2] (shapeCast (Stack R 8 C) g h1) h2 i = g k := by
  refine (transpose_apply _ _ h2 _ (ix3 (i 1) (i 0) (i 2)) fun b => ?_).trans ?_
  · match b with
    | 0 => rfl
    | 1 => rfl
    | 2 => rfl
  refine shapeCast_apply g h1 _ k ?_
  rw [Shape.rowMajor_val_two, Shape.rowMajor_val_three]
  show (k 0).val * N + (k 1).val = ((i 1).val * 8 + (i 0).val) * C + (i 2).val
  rw [hk, hk1, hN, Nat.add_mul, Nat.mul_assoc, Nat.add_assoc]

/-- The eight parts of a matrix cut along its rows, stacked. -/
theorem rows_apply {N : ℕ} (g : (⟨2, ![N, C]⟩ : Shape).Idx → α) (h1 : (⟨2, ![N, C]⟩ : Shape).ShapeCasts (Stack 8 R C))
    (i : (Stack 8 R C).Idx) (k : (⟨2, ![N, C]⟩ : Shape).Idx) (hk : (k 0).val = (i 0).val * R + (i 1).val) (hk1 : (k 1).val = (i 2).val) :
    shapeCast (Stack 8 R C) g h1 i = g k := by
  refine shapeCast_apply g h1 _ k ?_
  rw [Shape.rowMajor_val_two, Shape.rowMajor_val_three]
  show (k 0).val * C + (k 1).val = ((i 0).val * R + (i 1).val) * C + (i 2).val
  rw [hk, hk1]

end Exchange

end
-- ==== Proof.GatherValue.lean ====
/-
# What the gather brings is the reference's arrays

Slot `s` of a device's result is device `s`'s argument: of an array cut by columns, the whole array's columns from `s`
times a part's width on; of one cut by rows, its rows likewise.
-/
module

public import proofs.«01_k».proof.Proof.Gather
public import proofs.«01_k».proof.Proof.Whole
public import proofs.«01_k».proof.Proof.Gen.GatherRefIdeal.Run
public import Idealize.ShloMosaic.Lib.Layout

@[expose] public section

noncomputable section

namespace Exchange.Gather

open Idealize.ShloMosaic Idealize.ShloMosaic.TcCoe Idealize.SL.Sem
open Cert.GatherIdeal Cert.GatherIdeal.Gen

/-- The devices' blocks of columns, stacked. -/
theorem bridge_cols {α : Type} {R C N : ℕ} {g : (⟨2, ![R, N]⟩ : Shape).Idx → α} {w : (Stack 8 R C).Idx → α}
    (hw : ∀ (i : (Stack 8 R C).Idx) (k : (⟨2, ![R, N]⟩ : Shape).Idx),
      (k 0).val = (i 1).val → (k 1).val = (i 0).val * C + (i 2).val → w i = g k)
    (t : Layout.Tiles ⟨2, ![R, C]⟩ ⟨2, ![R, N]⟩ 1 8)
    {f : Dev nD → (⟨2, ![R, C]⟩ : Shape).Idx → α} (hf : ∀ c, f c = Layout.block ⟨2, ![R, C]⟩ ⟨2, ![R, N]⟩ 1 8 c g t) :
    (fun i => f (part i) (flat i)) = w := by
  funext i
  rw [hf (part i)]
  obtain ⟨a0, a1⟩ := Layout.idx_cols_val t (part i) (flat i)
  have e : (![R, C] : Fin 2 → ℕ) 1 = C := rfl
  rw [e] at a1
  exact (hw i (t.idx (part i) (flat i)) a0 a1).symm

/-- The devices' blocks of rows, stacked. -/
theorem bridge_rows {α : Type} {R C N : ℕ} {g : (⟨2, ![N, C]⟩ : Shape).Idx → α} {w : (Stack 8 R C).Idx → α}
    (hw : ∀ (i : (Stack 8 R C).Idx) (k : (⟨2, ![N, C]⟩ : Shape).Idx),
      (k 0).val = (i 0).val * R + (i 1).val → (k 1).val = (i 2).val → w i = g k)
    (t : Layout.Tiles ⟨2, ![R, C]⟩ ⟨2, ![N, C]⟩ 0 8)
    {f : Dev nD → (⟨2, ![R, C]⟩ : Shape).Idx → α} (hf : ∀ c, f c = Layout.block ⟨2, ![R, C]⟩ ⟨2, ![N, C]⟩ 0 8 c g t) :
    (fun i => f (part i) (flat i)) = w := by
  funext i
  rw [hf (part i)]
  obtain ⟨a0, a1⟩ := Layout.idx_rows_val t (part i) (flat i)
  have e : (![R, C] : Fin 2 → ℕ) 0 = R := rfl
  rw [e] at a0
  exact (hw i (t.idx (part i) (flat i)) a0 a1).symm

variable {F : FTy → Type} [FloatOps F]

/-- Every argument ends as it was, and every counter at zero. -/
theorem frame (m : (ℓ : Loc nD τ sig) → Buf (Elt F) ℓ) (g : Dev nD → PrngReg) :
    θ_run (defs (F := F)) (onTc main) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
        ∧ r.2.sem = fun _ => 0) := by
  refine (θ_run defs _ _).mono (fun r hr => ⟨fun c => ?_, hr.2⟩) (run m g)
  have hin := fun b hb => ((hr.1 c).1 b hb).trans (M_ins m c b hb)
  exact ⟨hin main_arg0 (by decide), hin main_arg1 (by decide), hin main_arg2 (by decide), hin main_arg3 (by decide), hin main_arg4 (by decide)⟩

/-- Every device ends with the reference's results. -/
theorem values (m : (ℓ : Loc nD τ sig) → Buf (Elt F) ℓ) (g : Dev nD → PrngReg)
    (m' : (ℓ : Loc Cert.GatherRefIdeal.nD Cert.GatherRefIdeal.τ Cert.GatherRefIdeal.sig) → Buf (Elt F) ℓ) (g' : Dev Cert.GatherRefIdeal.nD → PrngReg)
    (h : ∀ c : Dev nD,
      m ((c.tc : Thread nD τ).loc main_arg0) = Layout.block ⟨2, ![2048, 448]⟩ ⟨2, ![2048, 3584]⟩ 1 8 c (m' (((0 : Dev Cert.GatherRefIdeal.nD).tc : Thread Cert.GatherRefIdeal.nD Cert.GatherRefIdeal.τ).loc Cert.GatherRefIdeal.main_arg0))
      ∧ m ((c.tc : Thread nD τ).loc main_arg1) = Layout.block ⟨2, ![2048, 648]⟩ ⟨2, ![2048, 5184]⟩ 1 8 c (m' (((0 : Dev Cert.GatherRefIdeal.nD).tc : Thread Cert.GatherRefIdeal.nD Cert.GatherRefIdeal.τ).loc Cert.GatherRefIdeal.main_arg1))
      ∧ m ((c.tc : Thread nD τ).loc main_arg2) = Layout.block ⟨2, ![4096, 704]⟩ ⟨2, ![4096, 5632]⟩ 1 8 c (m' (((0 : Dev Cert.GatherRefIdeal.nD).tc : Thread Cert.GatherRefIdeal.nD Cert.GatherRefIdeal.τ).loc Cert.GatherRefIdeal.main_arg2))
      ∧ m ((c.tc : Thread nD τ).loc main_arg3) = Layout.block ⟨2, ![2176, 1024]⟩ ⟨2, ![17408, 1024]⟩ 0 8 c (m' (((0 : Dev Cert.GatherRefIdeal.nD).tc : Thread Cert.GatherRefIdeal.nD Cert.GatherRefIdeal.τ).loc Cert.GatherRefIdeal.main_arg3))
      ∧ m ((c.tc : Thread nD τ).loc main_arg4) = Layout.block ⟨2, ![112, 128]⟩ ⟨2, ![896, 128]⟩ 0 8 c (m' (((0 : Dev Cert.GatherRefIdeal.nD).tc : Thread Cert.GatherRefIdeal.nD Cert.GatherRefIdeal.τ).loc Cert.GatherRefIdeal.main_arg4))) :
    ∃ v0 v1 v2 v3 v4,
      θ_run (defs (F := F)) (onTc main) ⟨m, fun _ => 0, g⟩ (fun r => ∀ c : Dev nD,
          r.2.mem ((c.tc : Thread nD τ).loc main_v1_0) = v0
          ∧ r.2.mem ((c.tc : Thread nD τ).loc main_v1_1) = v1
          ∧ r.2.mem ((c.tc : Thread nD τ).loc main_v1_2) = v2
          ∧ r.2.mem ((c.tc : Thread nD τ).loc main_v1_3) = v3
          ∧ r.2.mem ((c.tc : Thread nD τ).loc main_v1_4) = v4
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.GatherRefIdeal.defs (F := F)) (onTc Cert.GatherRefIdeal.main) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v3) = v1
          ∧ r.2.mem (((0 : Dev Cert.GatherRefIdeal.nD).tc : Thread Cert.GatherRefIdeal.nD Cert.GatherRefIdeal.τ).loc Cert.GatherRefIdeal.main_v5) = v2
          ∧ r.2.mem (((0 : Dev Cert.GatherRefIdeal.nD).tc : Thread Cert.GatherRefIdeal.nD Cert.GatherRefIdeal.τ).loc Cert.GatherRefIdeal.main_v6) = v3
          ∧ r.2.mem (((0 : Dev Cert.GatherRefIdeal.nD).tc : Thread Cert.GatherRefIdeal.nD Cert.GatherRefIdeal.τ).loc Cert.GatherRefIdeal.main_v7) = v4
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)) := by
  refine ⟨_, _, _, _, _, ?_, (θ_run Cert.GatherRefIdeal.defs _ _).mono (fun r hr => hr 0) (Cert.GatherRefIdeal.Value.run (F := F) m' g')⟩
  refine (θ_run defs _ _).mono (fun r hr c => ?_) (run m g)
  have ho := fun b hb => (hr.1 c).2 b hb
  have hin := fun b hb => ((hr.1 c).1 b hb).trans (M_ins m c b hb)
  refine ⟨((ho main_v1_0 (by decide)).trans (M0 m c)).trans (bridge_cols (columns_apply _ _ _ rfl) _ (fun c => (h c).1)),
    ((ho main_v1_1 (by decide)).trans (M1 m c)).trans (bridge_cols (columns_apply _ _ _ rfl) _ (fun c => (h c).2.1)),
    ((ho main_v1_2 (by decide)).trans (M2 m c)).trans (bridge_cols (columns_apply _ _ _ rfl) _ (fun c => (h c).2.2.1)),
    ((ho main_v1_3 (by decide)).trans (M3 m c)).trans (bridge_rows (rows_apply _ _) _ (fun c => (h c).2.2.2.1)),
    ((ho main_v1_4 (by decide)).trans (M4 m c)).trans (bridge_rows (rows_apply _ _) _ (fun c => (h c).2.2.2.2)),
    hin main_arg0 (by decide), hin main_arg1 (by decide), hin main_arg2 (by decide), hin main_arg3 (by decide), hin main_arg4 (by decide)⟩

end Exchange.Gather

end
-- ==== Proof.Sibling.lean ====
/-
# The transfer to the sibling core, as a list of operations

Every device sends its sibling (the other core of its chip) the parts the sibling is to sum: of five arrays the four
slots of the sibling's core, slot `2q + (1 - c)` for chip `q`, and the sixth array whole. The body starts all 21
copies, waits for the 21 that arrive, then for its own to have left.
-/
module

public import proofs.«01_k».proof.Proof.Copies
public import proofs.«01_k».proof.Proof.Slots
public import proofs.«01_k».proof.Proof.Gen.SiblingIdeal.Frame

@[expose] public section

set_option maxRecDepth 65536

noncomputable section

namespace Exchange.Sibling

open Idealize.ShloMosaic Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SiblingIdeal Cert.SiblingIdeal.Gen

variable {F : FTy → Type} [FloatOps F]

/-- The copies: slot `q` of array `a`, and the sixth array. -/
abbrev K : Type := Fin 5 × Fin 4 ⊕ Unit

/-- The shape and the element type of what a copy moves. -/
abbrev shA : Fin 5 → Shape
  | 0 => S2048x448 | 1 => S2048x648 | 2 => S4096x704 | 3 => S2176x1024 | 4 => S112x128
abbrev elA : Fin 5 → EltTy
  | 0 => .bf16 | 1 => .bf16 | 2 => .bf16 | 3 => .bf16 | 4 => .f32
abbrev sh : K → Shape := Sum.elim (fun x => shA x.1) fun _ => S376x128
abbrev el : K → EltTy := Sum.elim (fun x => elA x.1) fun _ => .f32

theorem inb0 (q : Fin 4) : ∀ a, (![q.val, 0, 0] : Fin 3 → Nat) a + S1x2048x448.size a ≤ S4x2048x448.size a := by revert q; decide
theorem inb1 (q : Fin 4) : ∀ a, (![q.val, 0, 0] : Fin 3 → Nat) a + S1x2048x648.size a ≤ S4x2048x648.size a := by revert q; decide
theorem inb2 (q : Fin 4) : ∀ a, (![q.val, 0, 0] : Fin 3 → Nat) a + S1x4096x704.size a ≤ S4x4096x704.size a := by revert q; decide
theorem inb3 (q : Fin 4) : ∀ a, (![q.val, 0, 0] : Fin 3 → Nat) a + S1x2176x1024.size a ≤ S4x2176x1024.size a := by revert q; decide
theorem inb4 (q : Fin 4) : ∀ a, (![q.val, 0, 0] : Fin 3 → Nat) a + S1x112x128.size a ≤ S4x112x128.size a := by revert q; decide
theorem word0 (q : Fin 4) : (Rect.unit (s := S4x2048x448) ![q.val, 0, 0] S1x2048x448.size (inb0 q)).WholeWords (EltTy.packing .bf16) := by revert q; decide
theorem word1 (q : Fin 4) : (Rect.unit (s := S4x2048x648) ![q.val, 0, 0] S1x2048x648.size (inb1 q)).WholeWords (EltTy.packing .bf16) := by revert q; decide
theorem word2 (q : Fin 4) : (Rect.unit (s := S4x4096x704) ![q.val, 0, 0] S1x4096x704.size (inb2 q)).WholeWords (EltTy.packing .bf16) := by revert q; decide
theorem word3 (q : Fin 4) : (Rect.unit (s := S4x2176x1024) ![q.val, 0, 0] S1x2176x1024.size (inb3 q)).WholeWords (EltTy.packing .bf16) := by revert q; decide

/-- The slot of array `a` of device `d` that copy `(a, q)` reads. -/
abbrev srcA (d : Dev nD) : (a : Fin 5) → (q : Fin 4) → Memref sig .tc .hbm (shA a) (elA a)
  | 0, q => ((Memref.whole main_arg0).slice (Rect.unit (s := S8x2048x448) (k0_off1 d (BitVec.ofNat 32 (2 * q.val))) S1x2048x448.size (k0_off1_inb d q)) (fun _ => rfl)).squeeze S2048x448 squeezes_S1x2048x448_S2048x448
  | 1, q => ((Memref.whole main_arg1).slice (Rect.unit (s := S8x2048x648) (k0_off2 d (BitVec.ofNat 32 (2 * q.val))) S1x2048x648.size (k0_off2_inb d q)) (fun _ => rfl)).squeeze S2048x648 squeezes_S1x2048x648_S2048x648
  | 2, q => ((Memref.whole main_arg2).slice (Rect.unit (s := S8x4096x704) (k0_off3 d (BitVec.ofNat 32 (2 * q.val))) S1x4096x704.size (k0_off3_inb d q)) (fun _ => rfl)).squeeze S4096x704 squeezes_S1x4096x704_S4096x704
  | 3, q => ((Memref.whole main_arg3).slice (Rect.unit (s := S8x2176x1024) (k0_off4 d (BitVec.ofNat 32 (2 * q.val))) S1x2176x1024.size (k0_off4_inb d q)) (fun _ => rfl)).squeeze S2176x1024 squeezes_S1x2176x1024_S2176x1024
  | 4, q => ((Memref.whole main_arg4).slice (Rect.unit (s := S8x112x128) (k0_off5 d (BitVec.ofNat 32 (2 * q.val))) S1x112x128.size (k0_off5_inb d q)) (fun _ => rfl)).squeeze S112x128 squeezes_S1x112x128_S112x128

/-- The slot of the sibling's result `a` it goes to. -/
abbrev dstA : (a : Fin 5) → (q : Fin 4) → Memref sig .tc .hbm (shA a) (elA a)
  | 0, q => ((Memref.whole main_v1_0).slice (Rect.unit (s := S4x2048x448) ![q.val, 0, 0] S1x2048x448.size (inb0 q)) (fun _ => rfl)).squeeze S2048x448 squeezes_S1x2048x448_S2048x448
  | 1, q => ((Memref.whole main_v1_1).slice (Rect.unit (s := S4x2048x648) ![q.val, 0, 0] S1x2048x648.size (inb1 q)) (fun _ => rfl)).squeeze S2048x648 squeezes_S1x2048x648_S2048x648
  | 2, q => ((Memref.whole main_v1_2).slice (Rect.unit (s := S4x4096x704) ![q.val, 0, 0] S1x4096x704.size (inb2 q)) (fun _ => rfl)).squeeze S4096x704 squeezes_S1x4096x704_S4096x704
  | 3, q => ((Memref.whole main_v1_3).slice (Rect.unit (s := S4x2176x1024) ![q.val, 0, 0] S1x2176x1024.size (inb3 q)) (fun _ => rfl)).squeeze S2176x1024 squeezes_S1x2176x1024_S2176x1024
  | 4, q => ((Memref.whole main_v1_4).slice (Rect.unit (s := S4x112x128) ![q.val, 0, 0] S1x112x128.size (inb4 q)) (fun _ => rfl)).squeeze S112x128 squeezes_S1x112x128_S112x128

/-- Both begin and end at whole words. -/
theorem srcA_word (d : Dev nD) : ∀ a q, (srcA d a q).view.WordExact
  | 0, q => ((Memref.isWhole_whole main_arg0).wordExact_slice rfl _ (k0_off1_wordsbf16 d q)).reshape _ _
  | 1, q => ((Memref.isWhole_whole main_arg1).wordExact_slice rfl _ (k0_off2_wordsbf16 d q)).reshape _ _
  | 2, q => ((Memref.isWhole_whole main_arg2).wordExact_slice rfl _ (k0_off3_wordsbf16 d q)).reshape _ _
  | 3, q => ((Memref.isWhole_whole main_arg3).wordExact_slice rfl _ (k0_off4_wordsbf16 d q)).reshape _ _
  | 4, q => (View.wordExact_bits rfl).reshape _ _
theorem dstA_word : ∀ a q, (dstA a q).view.WordExact
  | 0, q => ((Memref.isWhole_whole main_v1_0).wordExact_slice rfl _ (word0 q)).reshape _ _
  | 1, q => ((Memref.isWhole_whole main_v1_1).wordExact_slice rfl _ (word1 q)).reshape _ _
  | 2, q => ((Memref.isWhole_whole main_v1_2).wordExact_slice rfl _ (word2 q)).reshape _ _
  | 3, q => ((Memref.isWhole_whole main_v1_3).wordExact_slice rfl _ (word3 q)).reshape _ _
  | 4, q => (View.wordExact_bits rfl).reshape _ _

/-- A copy's source and destination. -/
abbrev src (d : Dev nD) : (k : K) → Memref sig .tc .hbm (sh k) (el k)
  | .inl x => srcA d x.1 x.2
  | .inr _ => Memref.whole main_arg5
abbrev dst : (k : K) → Memref sig .tc .hbm (sh k) (el k)
  | .inl x => dstA x.1 x.2
  | .inr _ => Memref.whole main_v1_5
theorem src_word (d : Dev nD) : ∀ k, (src d k).view.WordExact
  | .inl x => srcA_word d x.1 x.2
  | .inr _ => (Memref.isWhole_whole main_arg5).wordExact
theorem dst_word : ∀ k, (dst k).view.WordExact
  | .inl x => dstA_word x.1 x.2
  | .inr _ => (Memref.isWhole_whole main_v1_5).wordExact
theorem dst_tc : ∀ k, (dst k).view.ref.isScScratch = false
  | .inl (0, _) => rfl | .inl (1, _) => rfl | .inl (2, _) => rfl | .inl (3, _) => rfl | .inl (4, _) => rfl
  | .inr _ => rfl

/-- The number of a copy, and its two semaphores. -/
abbrev num : K → Fin 21
  | .inl x => ⟨4 * x.1.val + x.2.val, by omega⟩
  | .inr _ => 20
theorem inb21 (i : Fin 21) : ∀ a, (![i.val] : Fin 1 → Nat) a + S1.size a ≤ S21.size a := by revert i; decide
abbrev semS (k : K) : DmaSem sig := ((cc0_scratch0.slice (Rect.unit (s := S21) ![(num k).val] S1.size (inb21 (num k)))).squeeze S_ squeezes_S1_S_).sem
abbrev semR (k : K) : DmaSem sig := ((cc0_scratch1.slice (Rect.unit (s := S21) ![(num k).val] S1.size (inb21 (num k)))).squeeze S_ squeezes_S1_S_).sem

/-- The sibling. -/
abbrev sib (d : Dev nD) : Dev nD := ⟨k0_dev1 d, k0_dev1_lt d⟩

/-- The operations. -/
def op (d : Dev nD) : Act K Empty → TpuEff nD τ sig (Elt F) Λ₀ .tc PUnit
  | .send k => .enqueueDma (src d k) (.remote (Dev.tc (sib d)) (dst k) (.dma (semS k)) (dst_tc k)) (.dma (semR k)) (src_word d k) (dst_word k) ⟨⟨rfl, Or.inl rfl⟩, trivial⟩
  | .arrived k => .waitDma2 (semR k) (src d k) (dst k) (src_word d k) (dst_word k)
  | .sent k => .waitDma2 (semS k) (dst k) (src d k) (dst_word k) (src_word d k)
  | .copy l => l.elim
  | .copied l => l.elim

/-- The copies in the body's order. -/
def ks : List K :=
  [.inl (0, 0), .inl (0, 1), .inl (0, 2), .inl (0, 3), .inl (1, 0), .inl (1, 1), .inl (1, 2), .inl (1, 3), .inl (2, 0), .inl (2, 1), .inl (2, 2), .inl (2, 3),
   .inl (3, 0), .inl (3, 1), .inl (3, 2), .inl (3, 3), .inl (4, 0), .inl (4, 1), .inl (4, 2), .inl (4, 3), .inr ()]
def acts : List (Act K Empty) := ks.map .send ++ (ks.map .arrived ++ ks.map .sent)

set_option maxHeartbeats 4000000 in
/-- The body is its operations. -/
theorem body_eq (t : Fin cfg0.N) (s : (w : Fin 0) → Fin (win0 w).nbuf) :
    (defs₀ (F := F) .tc 0 (t, s) : Prog (TpuEff nD τ sig (Elt F) Λ₀ .tc) PUnit) = .op .deviceId fun d => Net.runActs (op d) acts := rfl

/-! ## The memory at the end -/

theorem sib_val (d : Dev nD) : (sib d).val % 2 = 1 - d.val % 2 ∧ sib (sib d) = d := by revert d; decide
theorem off1_eq (d : Dev nD) (q : Fin 4) : k0_off1 d (BitVec.ofNat 32 (2 * q.val)) = ![2 * q.val + (1 - d.val % 2), 0, 0] := by revert d q; decide +kernel
theorem off2_eq (d : Dev nD) (q : Fin 4) : k0_off2 d (BitVec.ofNat 32 (2 * q.val)) = ![2 * q.val + (1 - d.val % 2), 0, 0] := by revert d q; decide +kernel
theorem off3_eq (d : Dev nD) (q : Fin 4) : k0_off3 d (BitVec.ofNat 32 (2 * q.val)) = ![2 * q.val + (1 - d.val % 2), 0, 0] := by revert d q; decide +kernel
theorem off4_eq (d : Dev nD) (q : Fin 4) : k0_off4 d (BitVec.ofNat 32 (2 * q.val)) = ![2 * q.val + (1 - d.val % 2), 0, 0] := by revert d q; decide +kernel
theorem off5_eq (d : Dev nD) (q : Fin 4) : k0_off5 d (BitVec.ofNat 32 (2 * q.val)) = ![2 * q.val + (1 - d.val % 2), 0, 0] := by revert d q; decide +kernel

/-- Where in its sibling's stack of eight an element of device `d`'s stack of four comes from. -/
def pick {R C : ℕ} (d : Dev nD) (i : (Stack 4 R C).Idx) : (Stack 8 R C).Idx :=
  at3 (2 * (i 0).val + d.val % 2) (by have h : (i 0).val < 4 := (i 0).isLt; omega) (i 1) (i 2)

theorem pick_emb {R C : ℕ} (d : Dev nD) (q : Fin 4) {off : Fin 3 → ℕ} {inb inb'} (h : off = ![2 * q.val + (1 - d.val % 2), 0, 0]) (x : (Stack 1 R C).Idx) :
    pick (sib d) ((Rect.unit (s := Stack 4 R C) ![q.val, 0, 0] (Stack 1 R C).size inb).emb x) = (Rect.unit (s := Stack 8 R C) off (Stack 1 R C).size inb').emb x := by
  obtain ⟨a0, a1, a2⟩ := emb_slot (inb := inb) (rfl : (![q.val, 0, 0] : Fin 3 → ℕ) = _) x
  obtain ⟨b0, b1, b2⟩ := emb_slot (inb := inb') h x
  refine at3_ext ?_ (a1.trans b1.symm) (a2.trans b2.symm)
  refine Eq.trans ?_ b0.symm
  show 2 * _ + (sib d).val % 2 = _
  rw [a0, (sib_val d).1]

variable (m : (ℓ : Loc nD τ sig) → Buf (Elt F) ℓ)

/-- What arrives: of each array, device `d`'s slots of its sibling's eight; the sixth whole. -/
def R0 (d : Dev nD) : Buf (Elt F) ((d.tc : Thread nD τ).loc main_v1_0) := fun i => m (((sib d).tc : Thread nD τ).loc main_arg0) (pick (R := 2048) (C := 448) d i)
def R1 (d : Dev nD) : Buf (Elt F) ((d.tc : Thread nD τ).loc main_v1_1) := fun i => m (((sib d).tc : Thread nD τ).loc main_arg1) (pick (R := 2048) (C := 648) d i)
def R2 (d : Dev nD) : Buf (Elt F) ((d.tc : Thread nD τ).loc main_v1_2) := fun i => m (((sib d).tc : Thread nD τ).loc main_arg2) (pick (R := 4096) (C := 704) d i)
def R3 (d : Dev nD) : Buf (Elt F) ((d.tc : Thread nD τ).loc main_v1_3) := fun i => m (((sib d).tc : Thread nD τ).loc main_arg3) (pick (R := 2176) (C := 1024) d i)
def R4 (d : Dev nD) : Buf (Elt F) ((d.tc : Thread nD τ).loc main_v1_4) := fun i => m (((sib d).tc : Thread nD τ).loc main_arg4) (pick (R := 112) (C := 128) d i)
def R5 (d : Dev nD) : Buf (Elt F) ((d.tc : Thread nD τ).loc main_v1_5) := fun i => m (((sib d).tc : Thread nD τ).loc main_arg5) i

/-- The memory at the end. -/
def M (d : Dev nD) : (b : Ref sig .tc) → Buf (Elt F) ((d.tc : Thread nD τ).loc b) :=
  Function.update (Function.update (Function.update (Function.update (Function.update (Function.update (fun b => m ((d.tc : Thread nD τ).loc b))
    main_v1_0 (R0 m d)) main_v1_1 (R1 m d)) main_v1_2 (R2 m d)) main_v1_3 (R3 m d)) main_v1_4 (R4 m d)) main_v1_5 (R5 m d)

theorem M0 (d : Dev nD) : M m d main_v1_0 = R0 m d := by
  unfold M
  rw [Function.update_of_ne (by decide), Function.update_of_ne (by decide), Function.update_of_ne (by decide), Function.update_of_ne (by decide),
    Function.update_of_ne (by decide), Function.update_self]
theorem M1 (d : Dev nD) : M m d main_v1_1 = R1 m d := by
  unfold M
  rw [Function.update_of_ne (by decide), Function.update_of_ne (by decide), Function.update_of_ne (by decide), Function.update_of_ne (by decide),
    Function.update_self]
theorem M2 (d : Dev nD) : M m d main_v1_2 = R2 m d := by
  unfold M
  rw [Function.update_of_ne (by decide), Function.update_of_ne (by decide), Function.update_of_ne (by decide), Function.update_self]
theorem M3 (d : Dev nD) : M m d main_v1_3 = R3 m d := by
  unfold M
  rw [Function.update_of_ne (by decide), Function.update_of_ne (by decide), Function.update_self]
theorem M4 (d : Dev nD) : M m d main_v1_4 = R4 m d := by
  unfold M
  rw [Function.update_of_ne (by decide), Function.update_self]
theorem M5 (d : Dev nD) : M m d main_v1_5 = R5 m d := by
  unfold M
  rw [Function.update_self]

/-- The arguments and the results. -/
def ins : Finset (Ref sig .tc) := {main_arg0, main_arg1, main_arg2, main_arg3, main_arg4, main_arg5}
def outs : Finset (Ref sig .tc) := {main_v1_0, main_v1_1, main_v1_2, main_v1_3, main_v1_4, main_v1_5}

theorem M_ins (d : Dev nD) (b : Ref sig .tc) (hb : b ∈ ins) : M m d b = m ((d.tc : Thread nD τ).loc b) := by
  have h : ∀ b ∈ ins, b ≠ main_v1_0 ∧ b ≠ main_v1_1 ∧ b ≠ main_v1_2 ∧ b ≠ main_v1_3 ∧ b ≠ main_v1_4 ∧ b ≠ main_v1_5 := by decide
  obtain ⟨h0, h1, h2, h3, h4, h5⟩ := h b hb
  unfold M
  rw [Function.update_of_ne h5, Function.update_of_ne h4, Function.update_of_ne h3, Function.update_of_ne h2, Function.update_of_ne h1, Function.update_of_ne h0]

/-! ## The copies -/

/-- The semaphores are the copies' and no others. -/
def dec : DmaSem sig ≃ (K ⊕ K) ⊕ Empty :=
  (Equiv.ofBijective (Sum.elim (Sum.elim semS semR) Empty.elim : (K ⊕ K) ⊕ Empty → DmaSem sig) (by decide +kernel)).symm

/-- No arrival is sent on. -/
def plan : Plan K Empty where
  fwd _ := none
  lev _ := 0

def copies : Copies nD τ sig (Elt F) K Empty where
  plan := plan
  dec := dec
  peer _ := sib
  peer_peer _ d := (sib_val d).2
  amt k := (dst k).view.dmaCredit
  amt_pos k := by revert k; decide +kernel
  amtL l := l.elim
  amtL_pos l := l.elim
  sh := sh
  el := el
  src := src
  dst _ := dst
  shL l := l.elim
  elL l := l.elim
  srcL _ l := l.elim
  dstL _ l := l.elim
  M := M m

/-- Which copy fills an element of a result. -/
def who (_ : Dev nD) (b : Ref sig .tc) (i : b.ty.Idx) : K ⊕ Empty :=
  .inl (if b = main_v1_0 then .inl (0, ⟨lead i % 4, Nat.mod_lt _ (by decide)⟩) else if b = main_v1_1 then .inl (1, ⟨lead i % 4, Nat.mod_lt _ (by decide)⟩)
    else if b = main_v1_2 then .inl (2, ⟨lead i % 4, Nat.mod_lt _ (by decide)⟩) else if b = main_v1_3 then .inl (3, ⟨lead i % 4, Nat.mod_lt _ (by decide)⟩)
    else if b = main_v1_4 then .inl (4, ⟨lead i % 4, Nat.mod_lt _ (by decide)⟩) else .inr ())

theorem at_sib_sib {b : Ref sig .tc} (d : Dev nD) {i j : b.ty.Idx} (h : i = j) :
    m (((sib (sib d)).tc : Thread nD τ).loc b) i = m ((d.tc : Thread nD τ).loc b) j := by
  subst h; rw [(sib_val d).2]

theorem reads (d : Dev nD) (k : K) : (dst k).view.read (Elt F) (M m (sib d) (dst k).view.ref) = (src d k).view.read (Elt F) (M m d (src d k).view.ref) :=
  match k with
  | .inl (0, q) => by
    refine slot_reads (View.whole main_v1_0) (View.whole main_arg0) _ _ _ fun x => ?_
    rw [M0, M_ins m d main_arg0 (by decide)]
    exact at_sib_sib m d (pick_emb d q (off1_eq d q) x)
  | .inl (1, q) => by
    refine slot_reads (View.whole main_v1_1) (View.whole main_arg1) _ _ _ fun x => ?_
    rw [M1, M_ins m d main_arg1 (by decide)]
    exact at_sib_sib m d (pick_emb d q (off2_eq d q) x)
  | .inl (2, q) => by
    refine slot_reads (View.whole main_v1_2) (View.whole main_arg2) _ _ _ fun x => ?_
    rw [M2, M_ins m d main_arg2 (by decide)]
    exact at_sib_sib m d (pick_emb d q (off3_eq d q) x)
  | .inl (3, q) => by
    refine slot_reads (View.whole main_v1_3) (View.whole main_arg3) _ _ _ fun x => ?_
    rw [M3, M_ins m d main_arg3 (by decide)]
    exact at_sib_sib m d (pick_emb d q (off4_eq d q) x)
  | .inl (4, q) => by
    refine slot_reads (View.whole main_v1_4) (View.whole main_arg4) _ _ _ fun x => ?_
    rw [M4, M_ins m d main_arg4 (by decide)]
    exact at_sib_sib m d (pick_emb d q (off5_eq d q) x)
  | .inr () => by
    show View.read (Elt F) (View.whole main_v1_5) (M m (sib d) main_v1_5) = View.read (Elt F) (View.whole main_arg5) (M m d main_arg5)
    rw [M5, M_ins m d main_arg5 (by decide)]
    funext i
    exact at_sib_sib m d (b := main_arg5) rfl

/-- An element of result `b`'s slot `q` is the copy's into that slot. -/
theorem fills_slot {R C : ℕ} {q : Fin 4} {inb} {a : Fin 5} (i : (Stack 4 R C).Idx) :
    i ∈ (Rect.unit (s := Stack 4 R C) ![q.val, 0, 0] (Stack 1 R C).size inb).set
      ↔ (.inl (.inl (a, ⟨lead i % 4, Nat.mod_lt _ (by decide)⟩)) : K ⊕ Empty) = .inl (.inl (a, q)) := by
  rw [mem_slot rfl]
  have hi : (i 0).val < 4 := (i 0).isLt
  have hl : lead i = (i 0).val := rfl
  constructor
  · intro h
    have e : (⟨lead i % 4, Nat.mod_lt _ (by decide)⟩ : Fin 4) = q := Fin.ext (show lead i % 4 = q.val by omega)
    rw [e]
  · intro h
    have e := congrArg Fin.val (Prod.mk.inj (Sum.inl.inj (Sum.inl.inj h))).2
    have e : lead i % 4 = q.val := e
    omega

theorem fills (d : Dev nD) (k : K) : ∀ i, i ∈ (dst k).view.set ↔ who d (dst k).view.ref i = .inl k :=
  match k with
  | .inl (0, q) => fun i => by
    rw [show (dst (.inl (0, q))).view.set = (Rect.unit (s := S4x2048x448) ![q.val, 0, 0] S1x2048x448.size (inb0 q)).set from (View.set_reshape _ _).trans (View.set_slice_whole main_v1_0 _)]
    exact fills_slot i
  | .inl (1, q) => fun i => by
    rw [show (dst (.inl (1, q))).view.set = (Rect.unit (s := S4x2048x648) ![q.val, 0, 0] S1x2048x648.size (inb1 q)).set from (View.set_reshape _ _).trans (View.set_slice_whole main_v1_1 _)]
    exact fills_slot i
  | .inl (2, q) => fun i => by
    rw [show (dst (.inl (2, q))).view.set = (Rect.unit (s := S4x4096x704) ![q.val, 0, 0] S1x4096x704.size (inb2 q)).set from (View.set_reshape _ _).trans (View.set_slice_whole main_v1_2 _)]
    exact fills_slot i
  | .inl (3, q) => fun i => by
    rw [show (dst (.inl (3, q))).view.set = (Rect.unit (s := S4x2176x1024) ![q.val, 0, 0] S1x2176x1024.size (inb3 q)).set from (View.set_reshape _ _).trans (View.set_slice_whole main_v1_3 _)]
    exact fills_slot i
  | .inl (4, q) => fun i => by
    rw [show (dst (.inl (4, q))).view.set = (Rect.unit (s := S4x112x128) ![q.val, 0, 0] S1x112x128.size (inb4 q)).set from (View.set_reshape _ _).trans (View.set_slice_whole main_v1_4 _)]
    exact fills_slot i
  | .inr () => fun i => by
    rw [show (dst (.inr ())).view.set = (Finset.univ : Finset S376x128.Idx) from View.set_whole main_v1_5]
    exact ⟨fun _ => rfl, fun _ => Finset.mem_univ _⟩

theorem ok : (copies m).Ok m ins outs who where
  reads := reads m
  readsL _ l := l.elim
  passes _ _ _ h := by cases h
  fills d x := match x with
    | .inl k => fills d k
    | .inr l => l.elim
  who_ref d b hb i := by
    have h : ∀ b ∈ outs, ∀ n : Fin 4, (dst (if b = main_v1_0 then .inl (0, n) else if b = main_v1_1 then .inl (1, n)
      else if b = main_v1_2 then .inl (2, n) else if b = main_v1_3 then .inl (3, n) else if b = main_v1_4 then .inl (4, n) else .inr ())).view.ref = b := by decide
    exact h b hb _
  ref_outs d x := match x with
    | .inl k => (show ∀ k, (dst k).view.ref ∈ outs by decide) k
    | .inr l => l.elim
  src_ins d k _ := (show ∀ d k, (src d k).view.ref ∈ ins by decide) d k
  srcL_ins _ l := l.elim
  unscoped := by decide
  disj := by decide
  kept := M_ins m

/-- A copy's source counts as much as its destination. -/
theorem credit (d : Dev nD) : ∀ k, (src d k).view.dmaCredit = (dst k).view.dmaCredit
  | .inl (0, _) => rfl | .inl (1, _) => rfl | .inl (2, _) => rfl | .inl (3, _) => rfl | .inl (4, _) => rfl
  | .inr _ => rfl

/-- The operations do what the list says. -/
theorem op_triple (κ : Dev nD × DmaSem sig → ℕ) (d : Dev nD) (a : Act K Empty) : (copies m).net.Triple defs₀ Variants.none κ d (op d a) a :=
  match a with
  | .send k => Net.triple_send _ _ _ κ d k (sib d) rfl rfl rfl (src d k) (dst k) ((copies m).srcShare k) (M m d (src d k).view.ref) rfl
      (Entails.of_eq rfl) (fun fd => (ok m).brings d k fd) rfl
  | .sent k => Net.triple_sent _ _ _ κ d k rfl (dst k) (src d k) (hsrc := dst_word k) (hdst := src_word d k) (credit d k)
  | .arrived k => Net.triple_arrived _ _ _ κ d k rfl (src d k) (dst k) (hsrc := src_word d k) (hdst := dst_word k) rfl
  | .copy l => l.elim
  | .copied l => l.elim

theorem acts_complete : plan.completes acts = true := by decide +kernel

theorem all_scoped : ∀ sm : SemLoc sig, sm.isScoped .tc = true := by decide

/-- The call, from any memory: every argument as it was, every result what the sibling sent. -/
theorem run (g : Dev nD → PrngReg) : θ_run (defs (F := F)) (onTc main) ⟨m, fun _ => 0, g⟩ fun r =>
    (∀ c : Dev nD, (∀ b ∈ ins, r.2.mem ((c.tc : Thread nD τ).loc b) = M m c b) ∧ ∀ b ∈ outs, r.2.mem ((c.tc : Thread nD τ).loc b) = M m c b) ∧ r.2.sem = fun _ => 0 :=
  (copies m).net.run pcfgs (fun p => (cfgs p).toPCfg_adm) defs₀ Variants.none 0 ((copies m).rest ins) cellOf_inj (by decide) m g main (fun _ => rfl)
    (fun c => N_0) (ok m).deal op acts (fun c t R => Entails.of_eq rfl) (op_triple m) acts_complete
    (fun c s => (∀ b ∈ ins, s.mem ((c.tc : Thread nD τ).loc b) = M m c b) ∧ ∀ b ∈ outs, s.mem ((c.tc : Thread nD τ).loc b) = M m c b)
    (ok m).final (fun s h hs => ⟨h, funext fun g => hs g (.inr (all_scoped g.2))⟩)

end Exchange.Sibling

end
-- ==== Proof.SiblingValue.lean ====
/-
# What the siblings exchange is the reference's exchange

Device `2q + c`'s slot of a result is slot `2s + c` of device `2q + (1 - c)`'s argument, which is where the reference
takes that slot of the whole result from.
-/
module

public import proofs.«01_k».proof.Proof.Sibling
public import proofs.«01_k».proof.Proof.Whole
public import proofs.«01_k».proof.Proof.Gen.SiblingRefIdeal.Run
public import Idealize.ShloMosaic.Lib.Layout

@[expose] public section

noncomputable section

namespace Exchange.Sibling

open Idealize.ShloMosaic Idealize.ShloMosaic.TcCoe Idealize.SL.Sem
open Cert.SiblingIdeal Cert.SiblingIdeal.Gen

/-- The sibling's number. -/
theorem sib_num (d : Dev nD) : (sib d).val = 2 * (d.val / 2) + (1 - d.val % 2) := by revert d; decide

/-- A device's slots of its sibling's stack are its block of the stacks with the siblings' slots exchanged. -/
theorem bridge {α : Type} {R C : ℕ} {g : (Stack 64 R C).Idx → α} {w : (Stack 32 R C).Idx → α}
    (hw : ∀ (i : (Stack 32 R C).Idx) (k : (Stack 64 R C).Idx),
      (k 0).val = 8 * (2 * ((i 0).val / 8) + (1 - (i 0).val / 4 % 2)) + 2 * ((i 0).val % 4) + (i 0).val / 4 % 2 →
      (k 1).val = (i 1).val → (k 2).val = (i 2).val → w i = g k)
    (t8 : Layout.Tiles (Stack 8 R C) (Stack 64 R C) 0 8) (t4 : Layout.Tiles (Stack 4 R C) (Stack 32 R C) 0 8)
    {f : Dev nD → (Stack 8 R C).Idx → α} (hf : ∀ c, f c = Layout.block (Stack 8 R C) (Stack 64 R C) 0 8 c g t8) (d : Dev nD) :
    (fun i => f (sib d) (pick d i)) = Layout.block (Stack 4 R C) (Stack 32 R C) 0 8 d w t4 := by
  funext i
  rw [hf (sib d)]
  have hi : (i 0).val < 4 := (i 0).isLt
  refine (hw (t4.idx d i) (t8.idx (sib d) (pick d i)) ?_ rfl rfl).symm
  show (sib d).val * 8 + (2 * (i 0).val + d.val % 2)
    = 8 * (2 * ((d.val * 4 + (i 0).val) / 8) + (1 - (d.val * 4 + (i 0).val) / 4 % 2)) + 2 * ((d.val * 4 + (i 0).val) % 4) + (d.val * 4 + (i 0).val) / 4 % 2
  rw [sib_num]
  omega

/-- The sibling's whole array is a device's block of the arrays with the siblings' exchanged. -/
theorem bridge_rows {α : Type} {g w : (⟨2, ![3008, 128]⟩ : Shape).Idx → α}
    (hw : ∀ i k : (⟨2, ![3008, 128]⟩ : Shape).Idx,
      (k 0).val = (2 * ((i 0).val / 752) + (1 - (i 0).val / 376 % 2)) * 376 + (i 0).val % 376 → (k 1).val = (i 1).val → w i = g k)
    (t : Layout.Tiles ⟨2, ![376, 128]⟩ ⟨2, ![3008, 128]⟩ 0 8)
    {f : Dev nD → (⟨2, ![376, 128]⟩ : Shape).Idx → α} (hf : ∀ c, f c = Layout.block ⟨2, ![376, 128]⟩ ⟨2, ![3008, 128]⟩ 0 8 c g t) (d : Dev nD) :
    (fun i => f (sib d) i) = Layout.block ⟨2, ![376, 128]⟩ ⟨2, ![3008, 128]⟩ 0 8 d w t := by
  funext i
  rw [hf (sib d)]
  have hi : (i 0).val < 376 := (i 0).isLt
  obtain ⟨a0, a1⟩ := Layout.idx_rows_val t d i
  obtain ⟨b0, b1⟩ := Layout.idx_rows_val t (sib d) i
  have e : (![376, 128] : Fin 2 → ℕ) 0 = 376 := rfl
  rw [e] at a0 b0
  refine (hw (t.idx d i) (t.idx (sib d) i) ?_ (b1.trans a1.symm)).symm
  rw [a0, b0, sib_num]
  omega

variable {F : FTy → Type} [FloatOps F]

/-- Every argument ends as it was, and every counter at zero. -/
theorem frame (m : (ℓ : Loc nD τ sig) → Buf (Elt F) ℓ) (g : Dev nD → PrngReg) :
    θ_run (defs (F := F)) (onTc main) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
        ∧ r.2.sem = fun _ => 0) := by
  refine (θ_run defs _ _).mono (fun r hr => ⟨fun c => ?_, hr.2⟩) (run m g)
  have hin := fun b hb => ((hr.1 c).1 b hb).trans (M_ins m c b hb)
  exact ⟨hin main_arg0 (by decide), hin main_arg1 (by decide), hin main_arg2 (by decide), hin main_arg3 (by decide), hin main_arg4 (by decide), hin main_arg5 (by decide)⟩

/-- Every device ends with its blocks of the reference's results. -/
theorem values (m : (ℓ : Loc nD τ sig) → Buf (Elt F) ℓ) (g : Dev nD → PrngReg)
    (m' : (ℓ : Loc Cert.SiblingRefIdeal.nD Cert.SiblingRefIdeal.τ Cert.SiblingRefIdeal.sig) → Buf (Elt F) ℓ) (g' : Dev Cert.SiblingRefIdeal.nD → PrngReg)
    (h : ∀ c : Dev nD,
      m ((c.tc : Thread nD τ).loc main_arg0) = Layout.block ⟨3, ![8, 2048, 448]⟩ ⟨3, ![64, 2048, 448]⟩ 0 8 c (m' (((0 : Dev Cert.SiblingRefIdeal.nD).tc : Thread Cert.SiblingRefIdeal.nD Cert.SiblingRefIdeal.τ).loc Cert.SiblingRefIdeal.main_arg0))
      ∧ m ((c.tc : Thread nD τ).loc main_arg1) = Layout.block ⟨3, ![8, 2048, 648]⟩ ⟨3, ![64, 2048, 648]⟩ 0 8 c (m' (((0 : Dev Cert.SiblingRefIdeal.nD).tc : Thread Cert.SiblingRefIdeal.nD Cert.SiblingRefIdeal.τ).loc Cert.SiblingRefIdeal.main_arg1))
      ∧ m ((c.tc : Thread nD τ).loc main_arg2) = Layout.block ⟨3, ![8, 4096, 704]⟩ ⟨3, ![64, 4096, 704]⟩ 0 8 c (m' (((0 : Dev Cert.SiblingRefIdeal.nD).tc : Thread Cert.SiblingRefIdeal.nD Cert.SiblingRefIdeal.τ).loc Cert.SiblingRefIdeal.main_arg2))
      ∧ m ((c.tc : Thread nD τ).loc main_arg3) = Layout.block ⟨3, ![8, 2176, 1024]⟩ ⟨3, ![64, 2176, 1024]⟩ 0 8 c (m' (((0 : Dev Cert.SiblingRefIdeal.nD).tc : Thread Cert.SiblingRefIdeal.nD Cert.SiblingRefIdeal.τ).loc Cert.SiblingRefIdeal.main_arg3))
      ∧ m ((c.tc : Thread nD τ).loc main_arg4) = Layout.block ⟨3, ![8, 112, 128]⟩ ⟨3, ![64, 112, 128]⟩ 0 8 c (m' (((0 : Dev Cert.SiblingRefIdeal.nD).tc : Thread Cert.SiblingRefIdeal.nD Cert.SiblingRefIdeal.τ).loc Cert.SiblingRefIdeal.main_arg4))
      ∧ m ((c.tc : Thread nD τ).loc main_arg5) = Layout.block ⟨2, ![376, 128]⟩ ⟨2, ![3008, 128]⟩ 0 8 c (m' (((0 : Dev Cert.SiblingRefIdeal.nD).tc : Thread Cert.SiblingRefIdeal.nD Cert.SiblingRefIdeal.τ).loc Cert.SiblingRefIdeal.main_arg5))) :
    ∃ v0 v1 v2 v3 v4 v5,
      θ_run (defs (F := F)) (onTc main) ⟨m, fun _ => 0, g⟩ (fun r => ∀ c : Dev nD,
          r.2.mem ((c.tc : Thread nD τ).loc main_v1_0) = Layout.block ⟨3, ![4, 2048, 448]⟩ ⟨3, ![32, 2048, 448]⟩ 0 8 c v0
          ∧ r.2.mem ((c.tc : Thread nD τ).loc main_v1_1) = Layout.block ⟨3, ![4, 2048, 648]⟩ ⟨3, ![32, 2048, 648]⟩ 0 8 c v1
          ∧ r.2.mem ((c.tc : Thread nD τ).loc main_v1_2) = Layout.block ⟨3, ![4, 4096, 704]⟩ ⟨3, ![32, 4096, 704]⟩ 0 8 c v2
          ∧ r.2.mem ((c.tc : Thread nD τ).loc main_v1_3) = Layout.block ⟨3, ![4, 2176, 1024]⟩ ⟨3, ![32, 2176, 1024]⟩ 0 8 c v3
          ∧ r.2.mem ((c.tc : Thread nD τ).loc main_v1_4) = Layout.block ⟨3, ![4, 112, 128]⟩ ⟨3, ![32, 112, 128]⟩ 0 8 c v4
          ∧ r.2.mem ((c.tc : Thread nD τ).loc main_v1_5) = Layout.block ⟨2, ![376, 128]⟩ ⟨2, ![3008, 128]⟩ 0 8 c v5
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
      ∧ θ_run (Cert.SiblingRefIdeal.defs (F := F)) (onTc Cert.SiblingRefIdeal.main) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_v17) = v1
          ∧ r.2.mem (((0 : Dev Cert.SiblingRefIdeal.nD).tc : Thread Cert.SiblingRefIdeal.nD Cert.SiblingRefIdeal.τ).loc Cert.SiblingRefIdeal.main_v26) = v2
          ∧ r.2.mem (((0 : Dev Cert.SiblingRefIdeal.nD).tc : Thread Cert.SiblingRefIdeal.nD Cert.SiblingRefIdeal.τ).loc Cert.SiblingRefIdeal.main_v35) = v3
          ∧ r.2.mem (((0 : Dev Cert.SiblingRefIdeal.nD).tc : Thread Cert.SiblingRefIdeal.nD Cert.SiblingRefIdeal.τ).loc Cert.SiblingRefIdeal.main_v44) = v4
          ∧ r.2.mem (((0 : Dev Cert.SiblingRefIdeal.nD).tc : Thread Cert.SiblingRefIdeal.nD Cert.SiblingRefIdeal.τ).loc Cert.SiblingRefIdeal.main_v47) = v5
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0)
          ∧ r.2.mem (((0 : Dev Cert.SiblingRefIdeal.nD).tc : Thread Cert.SiblingRefIdeal.nD Cert.SiblingRefIdeal.τ).loc Cert.SiblingRefIdeal.main_arg1) = m' (((0 : Dev Cert.SiblingRefIdeal.nD).tc : Thread Cert.SiblingRefIdeal.nD Cert.SiblingRefIdeal.τ).loc Cert.SiblingRefIdeal.main_arg1)
          ∧ r.2.mem (((0 : Dev Cert.SiblingRefIdeal.nD).tc : Thread Cert.SiblingRefIdeal.nD Cert.SiblingRefIdeal.τ).loc Cert.SiblingRefIdeal.main_arg2) = m' (((0 : Dev Cert.SiblingRefIdeal.nD).tc : Thread Cert.SiblingRefIdeal.nD Cert.SiblingRefIdeal.τ).loc Cert.SiblingRefIdeal.main_arg2)
          ∧ r.2.mem (((0 : Dev Cert.SiblingRefIdeal.nD).tc : Thread Cert.SiblingRefIdeal.nD Cert.SiblingRefIdeal.τ).loc Cert.SiblingRefIdeal.main_arg3) = m' (((0 : Dev Cert.SiblingRefIdeal.nD).tc : Thread Cert.SiblingRefIdeal.nD Cert.SiblingRefIdeal.τ).loc Cert.SiblingRefIdeal.main_arg3)
          ∧ r.2.mem (((0 : Dev Cert.SiblingRefIdeal.nD).tc : Thread Cert.SiblingRefIdeal.nD Cert.SiblingRefIdeal.τ).loc Cert.SiblingRefIdeal.main_arg4) = m' (((0 : Dev Cert.SiblingRefIdeal.nD).tc : Thread Cert.SiblingRefIdeal.nD Cert.SiblingRefIdeal.τ).loc Cert.SiblingRefIdeal.main_arg4)
          ∧ r.2.mem (((0 : Dev Cert.SiblingRefIdeal.nD).tc : Thread Cert.SiblingRefIdeal.nD Cert.SiblingRefIdeal.τ).loc Cert.SiblingRefIdeal.main_arg5) = m' (((0 : Dev Cert.SiblingRefIdeal.nD).tc : Thread Cert.SiblingRefIdeal.nD Cert.SiblingRefIdeal.τ).loc Cert.SiblingRefIdeal.main_arg5)) := by
  refine ⟨_, _, _, _, _, _, ?_, (θ_run Cert.SiblingRefIdeal.defs _ _).mono (fun r hr => hr 0) (Cert.SiblingRefIdeal.Value.run (F := F) m' g')⟩
  refine (θ_run defs _ _).mono (fun r hr c => ?_) (run m g)
  have ho := fun b hb => (hr.1 c).2 b hb
  have hin := fun b hb => ((hr.1 c).1 b hb).trans (M_ins m c b hb)
  refine ⟨((ho main_v1_0 (by decide)).trans (M0 m c)).trans (bridge (swap_apply _ _ _ _ _ _ _ _) _ _ (fun c => (h c).1) c),
    ((ho main_v1_1 (by decide)).trans (M1 m c)).trans (bridge (swap_apply _ _ _ _ _ _ _ _) _ _ (fun c => (h c).2.1) c),
    ((ho main_v1_2 (by decide)).trans (M2 m c)).trans (bridge (swap_apply _ _ _ _ _ _ _ _) _ _ (fun c => (h c).2.2.1) c),
    ((ho main_v1_3 (by decide)).trans (M3 m c)).trans (bridge (swap_apply _ _ _ _ _ _ _ _) _ _ (fun c => (h c).2.2.2.1) c),
    ((ho main_v1_4 (by decide)).trans (M4 m c)).trans (bridge (swap_apply _ _ _ _ _ _ _ _) _ _ (fun c => (h c).2.2.2.2.1) c),
    ((ho main_v1_5 (by decide)).trans (M5 m c)).trans (bridge_rows (swap_rows_apply _ _ _) _ (fun c => (h c).2.2.2.2.2) c),
    hin main_arg0 (by decide), hin main_arg1 (by decide), hin main_arg2 (by decide), hin main_arg3 (by decide), hin main_arg4 (by decide), hin main_arg5 (by decide)⟩

end Exchange.Sibling

end
-- ==== Proof.Chips.lean ====
/-
# The transfers between the chips, as a list of operations

Chip `q`'s device of core `c` sends each other chip `p`'s device of the same core slot `p` of five arrays, and the
sixth array whole; what it receives from chip `p` goes to slot `p` of its results, and its own slot it copies itself.
The body starts its six own copies and the eighteen to the other chips, waits for the eighteen that arrive, for its
own to have left, and for the six.
-/
module

public import proofs.«01_k».proof.Proof.Copies
public import proofs.«01_k».proof.Proof.Slots
public import proofs.«01_k».proof.Proof.Gen.ChipsIdeal.Frame

@[expose] public section

set_option maxRecDepth 65536

noncomputable section

namespace Exchange.Chips

open Idealize.ShloMosaic Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ChipsIdeal Cert.ChipsIdeal.Gen

variable {F : FTy → Type} [FloatOps F]

/-- The copies between devices: of array `a` to the `j`th other chip. On a device: of array `a`. -/
abbrev K : Type := Fin 6 × Fin 3
abbrev H : Type := Fin 6

/-- An array's slots: their rows, columns and elements. -/
abbrev rows : H → ℕ
  | 0 => 2048 | 1 => 2048 | 2 => 4096 | 3 => 2176 | 4 => 112 | 5 => 376
abbrev cols : H → ℕ
  | 0 => 448 | 1 => 648 | 2 => 704 | 3 => 1024 | 4 => 128 | 5 => 128
abbrev elA : H → EltTy
  | 0 => .bf16 | 1 => .bf16 | 2 => .bf16 | 3 => .bf16 | 4 => .f32 | 5 => .f32
abbrev shA (a : H) : Shape := ⟨2, ![rows a, cols a]⟩

/-- Where the body finds its own slot, and the slot of the `j`th other chip. -/
abbrev own : H → Dev nD → Fin 3 → ℕ
  | 0 => k0_off1 | 1 => k0_off2 | 2 => k0_off3 | 3 => k0_off4 | 4 => k0_off5 | 5 => k0_off6
abbrev offs : H → Fin 3 → Dev nD → Fin 3 → ℕ
  | 0, 0 => k0_off7 | 0, 1 => k0_off12 | 0, 2 => k0_off17
  | 1, 0 => k0_off8 | 1, 1 => k0_off13 | 1, 2 => k0_off18
  | 2, 0 => k0_off9 | 2, 1 => k0_off14 | 2, 2 => k0_off19
  | 3, 0 => k0_off10 | 3, 1 => k0_off15 | 3, 2 => k0_off20
  | 4, 0 => k0_off11 | 4, 1 => k0_off16 | 4, 2 => k0_off21
  | 5, 0 => k0_off22 | 5, 1 => k0_off23 | 5, 2 => k0_off24

/-- The device of the same core on the `j`th other chip. -/
abbrev peer : Fin 3 → Dev nD → Dev nD
  | 0, d => ⟨k0_dev1 d, k0_dev1_lt d⟩ | 1, d => ⟨k0_dev7 d, k0_dev7_lt d⟩ | 2, d => ⟨k0_dev13 d, k0_dev13_lt d⟩

theorem peer_core (j : Fin 3) (d : Dev nD) : (peer j d).val % 2 = d.val % 2 := by revert j d; decide +kernel
theorem peer_peer (j : Fin 3) (d : Dev nD) : peer j (peer j d) = d := by revert j d; decide +kernel
theorem own_eq (a : H) (d : Dev nD) : own a d = ![d.val / 2, 0, 0] := by revert a d; decide +kernel
theorem offs_eq (a : H) (j : Fin 3) (d : Dev nD) : offs a j d = ![(peer j d).val / 2, 0, 0] := by revert a j d; decide +kernel
theorem chip_lt (d : Dev nD) : d.val / 2 < 4 := by have h : d.val < 8 := d.isLt; omega

/-- The results, and the parts of the arguments that are sent. -/
abbrev outM : (a : H) → Memref sig .tc .hbm (Stack 4 (rows a) (cols a)) (elA a)
  | 0 => Memref.whole main_v1_0
  | 1 => Memref.whole main_v1_1
  | 2 => Memref.whole main_v1_2
  | 3 => Memref.whole main_v1_3
  | 4 => Memref.whole main_v1_4
  | 5 => Memref.whole main_v1_5
abbrev part : (a : H) → (off : Fin 3 → ℕ) → (∀ x, off x + (Stack 1 (rows a) (cols a)).size x ≤ (Stack 4 (rows a) (cols a)).size x) →
    Memref sig .tc .hbm (shA a) (elA a)
  | 0, off, inb => slot (Memref.whole main_arg0) off inb
  | 1, off, inb => slot (Memref.whole main_arg1) off inb
  | 2, off, inb => slot (Memref.whole main_arg2) off inb
  | 3, off, inb => slot (Memref.whole main_arg3) off inb
  | 4, off, inb => slot (Memref.whole main_arg4) off inb
  | 5, _, _ => Memref.whole main_arg5

theorem own_inb (a : H) (d : Dev nD) : ∀ x, own a d x + (Stack 1 (rows a) (cols a)).size x ≤ (Stack 4 (rows a) (cols a)).size x :=
  slot_inb (own_eq a d) (chip_lt d)
theorem offs_inb (a : H) (j : Fin 3) (d : Dev nD) : ∀ x, offs a j d x + (Stack 1 (rows a) (cols a)).size x ≤ (Stack 4 (rows a) (cols a)).size x :=
  slot_inb (offs_eq a j d) (chip_lt _)

/-- A slot begins and ends at whole words. -/
theorem word0 (s : Fin 4) : (Rect.unit (s := Stack 4 2048 448) ![s.val, 0, 0] (Stack 1 2048 448).size (slot_inb rfl s.isLt)).WholeWords (EltTy.packing .bf16) := by
  revert s; decide
theorem word1 (s : Fin 4) : (Rect.unit (s := Stack 4 2048 648) ![s.val, 0, 0] (Stack 1 2048 648).size (slot_inb rfl s.isLt)).WholeWords (EltTy.packing .bf16) := by
  revert s; decide
theorem word2 (s : Fin 4) : (Rect.unit (s := Stack 4 4096 704) ![s.val, 0, 0] (Stack 1 4096 704).size (slot_inb rfl s.isLt)).WholeWords (EltTy.packing .bf16) := by
  revert s; decide
theorem word3 (s : Fin 4) : (Rect.unit (s := Stack 4 2176 1024) ![s.val, 0, 0] (Stack 1 2176 1024).size (slot_inb rfl s.isLt)).WholeWords (EltTy.packing .bf16) := by
  revert s; decide

theorem out_word : ∀ a {off : Fin 3 → ℕ} {s : ℕ} (hs : s < 4) (h : off = ![s, 0, 0]) {inb}, (slot (outM a) off inb).view.WordExact
  | 0, _, s, hs, rfl, _ => ((Memref.isWhole_whole main_v1_0).wordExact_slice rfl _ (word0 ⟨s, hs⟩)).reshape _ _
  | 1, _, s, hs, rfl, _ => ((Memref.isWhole_whole main_v1_1).wordExact_slice rfl _ (word1 ⟨s, hs⟩)).reshape _ _
  | 2, _, s, hs, rfl, _ => ((Memref.isWhole_whole main_v1_2).wordExact_slice rfl _ (word2 ⟨s, hs⟩)).reshape _ _
  | 3, _, s, hs, rfl, _ => ((Memref.isWhole_whole main_v1_3).wordExact_slice rfl _ (word3 ⟨s, hs⟩)).reshape _ _
  | 4, _, _, _, _, _ => (View.wordExact_bits rfl).reshape _ _
  | 5, _, _, _, _, _ => (View.wordExact_bits rfl).reshape _ _
theorem part_word : ∀ a {off : Fin 3 → ℕ} {s : ℕ} (hs : s < 4) (h : off = ![s, 0, 0]) {inb}, (part a off inb).view.WordExact
  | 0, _, s, hs, rfl, _ => ((Memref.isWhole_whole main_arg0).wordExact_slice rfl _ (word0 ⟨s, hs⟩)).reshape _ _
  | 1, _, s, hs, rfl, _ => ((Memref.isWhole_whole main_arg1).wordExact_slice rfl _ (word1 ⟨s, hs⟩)).reshape _ _
  | 2, _, s, hs, rfl, _ => ((Memref.isWhole_whole main_arg2).wordExact_slice rfl _ (word2 ⟨s, hs⟩)).reshape _ _
  | 3, _, s, hs, rfl, _ => ((Memref.isWhole_whole main_arg3).wordExact_slice rfl _ (word3 ⟨s, hs⟩)).reshape _ _
  | 4, _, _, _, _, _ => (View.wordExact_bits rfl).reshape _ _
  | 5, _, _, _, _, _ => (Memref.isWhole_whole main_arg5).wordExact
theorem out_tc : ∀ a {off inb}, (slot (outM a) off inb).view.ref.isScScratch = false
  | 0, _, _ => rfl | 1, _, _ => rfl | 2, _, _ => rfl | 3, _, _ => rfl | 4, _, _ => rfl | 5, _, _ => rfl

/-- The other chip's part of array `a`; the slot it goes to there; and the slot what it sends comes to here. -/
abbrev src (d : Dev nD) (k : K) : Memref sig .tc .hbm (shA k.1) (elA k.1) := part k.1 (offs k.1 k.2 d) (offs_inb k.1 k.2 d)
abbrev dst (d : Dev nD) (k : K) : Memref sig .tc .hbm (shA k.1) (elA k.1) := slot (outM k.1) (own k.1 d) (own_inb k.1 d)
abbrev got (d : Dev nD) (k : K) : Memref sig .tc .hbm (shA k.1) (elA k.1) := slot (outM k.1) (offs k.1 k.2 d) (offs_inb k.1 k.2 d)
/-- The device's own part of array `a`, and its slot. -/
abbrev srcL (d : Dev nD) (a : H) : Memref sig .tc .hbm (shA a) (elA a) := part a (own a d) (own_inb a d)
abbrev dstL (d : Dev nD) (a : H) : Memref sig .tc .hbm (shA a) (elA a) := slot (outM a) (own a d) (own_inb a d)

/-- The number of a copy, and the semaphores. -/
abbrev num (k : K) : Fin 18 := ⟨3 * k.1.val + k.2.val, by omega⟩
theorem inb18 (i : Fin 18) : ∀ a, (![i.val] : Fin 1 → Nat) a + S1.size a ≤ S18.size a := by revert i; decide
theorem inb6 (i : Fin 6) : ∀ a, (![i.val] : Fin 1 → Nat) a + S1.size a ≤ S6.size a := by revert i; decide
abbrev semS (k : K) : DmaSem sig := ((cc0_scratch0.slice (Rect.unit (s := S18) ![(num k).val] S1.size (inb18 (num k)))).squeeze S_ squeezes_S1_S_).sem
abbrev semR (k : K) : DmaSem sig := ((cc0_scratch1.slice (Rect.unit (s := S18) ![(num k).val] S1.size (inb18 (num k)))).squeeze S_ squeezes_S1_S_).sem
abbrev semL (a : H) : DmaSem sig := ((cc0_scratch2.slice (Rect.unit (s := S6) ![a.val] S1.size (inb6 a))).squeeze S_ squeezes_S1_S_).sem

/-- The operations. -/
def op (d : Dev nD) : Act K H → TpuEff nD τ sig (Elt F) Λ₀ .tc PUnit
  | .send k => .enqueueDma (src d k) (.remote (Dev.tc (peer k.2 d)) (dst d k) (.dma (semS k)) (out_tc k.1)) (.dma (semR k))
      (part_word k.1 (chip_lt _) (offs_eq k.1 k.2 d)) (out_word k.1 (chip_lt _) (own_eq k.1 d)) ⟨⟨rfl, Or.inl rfl⟩, trivial⟩
  | .arrived k => .waitDma2 (semR k) (src d k) (got d k) (part_word k.1 (chip_lt _) (offs_eq k.1 k.2 d)) (out_word k.1 (chip_lt _) (offs_eq k.1 k.2 d))
  | .sent k => .waitDma2 (semS k) (got d k) (src d k) (out_word k.1 (chip_lt _) (offs_eq k.1 k.2 d)) (part_word k.1 (chip_lt _) (offs_eq k.1 k.2 d))
  | .copy a => .enqueueDma (srcL d a) (.here (dstL d a)) (.dma (semL a)) (part_word a (chip_lt _) (own_eq a d)) (out_word a (chip_lt _) (own_eq a d)) ⟨Or.inl rfl, trivial⟩
  | .copied a => .waitDma2 (semL a) (srcL d a) (dstL d a) (part_word a (chip_lt _) (own_eq a d)) (out_word a (chip_lt _) (own_eq a d))

/-- The copies in the body's order. -/
def ls : List H := [0, 1, 2, 3, 4, 5]
def ks : List K :=
  [(0, 0), (1, 0), (2, 0), (3, 0), (4, 0), (5, 0), (0, 1), (1, 1), (2, 1), (3, 1), (4, 1), (5, 1), (0, 2), (1, 2), (2, 2), (3, 2), (4, 2), (5, 2)]
def acts : List (Act K H) := ls.map .copy ++ (ks.map .send ++ (ks.map .arrived ++ (ks.map .sent ++ ls.map .copied)))

set_option maxHeartbeats 4000000 in
/-- The body is its operations. -/
theorem body_eq (t : Fin cfg0.N) (s : (w : Fin 0) → Fin (win0 w).nbuf) :
    (defs₀ (F := F) .tc 0 (t, s) : Prog (TpuEff nD τ sig (Elt F) Λ₀ .tc) PUnit) = .op .deviceId fun d => Net.runActs (op d) acts := rfl

/-! ## The memory at the end -/

/-- Whose part comes to slot `i 0` of device `d`'s results, and where it lies in that device's argument. -/
def home {R C : ℕ} (d : Dev nD) (i : (Stack 4 R C).Idx) : Dev nD :=
  ⟨2 * (i 0).val + d.val % 2, by have h : (i 0).val < 4 := (i 0).isLt; show _ < 8; omega⟩
def mine {R C : ℕ} (d : Dev nD) (i : (Stack 4 R C).Idx) : (Stack 4 R C).Idx := at3 (d.val / 2) (chip_lt d) (i 1) (i 2)
def flat {R C : ℕ} (i : (Stack 4 R C).Idx) : (⟨2, ![R, C]⟩ : Shape).Idx
  | 0 => i 1 | 1 => i 2

theorem home_at {R C : ℕ} {n d : Dev nD} (hc : n.val % 2 = d.val % 2) (y : Fin R) (z : Fin C) : home n (at3 (d.val / 2) (chip_lt d) y z) = d :=
  Fin.ext (show 2 * (d.val / 2) + n.val % 2 = d.val by omega)

variable (m : (ℓ : Loc nD τ sig) → Buf (Elt F) ℓ)

/-- The results: each slot the chip's part for this chip; the sixth array's, the chip's whole array. -/
def T0 (d : Dev nD) : Buf (Elt F) ((d.tc : Thread nD τ).loc main_v1_0) := fun i => m (((home (R := 2048) (C := 448) d i).tc : Thread nD τ).loc main_arg0) (mine (R := 2048) (C := 448) d i)
def T1 (d : Dev nD) : Buf (Elt F) ((d.tc : Thread nD τ).loc main_v1_1) := fun i => m (((home (R := 2048) (C := 648) d i).tc : Thread nD τ).loc main_arg1) (mine (R := 2048) (C := 648) d i)
def T2 (d : Dev nD) : Buf (Elt F) ((d.tc : Thread nD τ).loc main_v1_2) := fun i => m (((home (R := 4096) (C := 704) d i).tc : Thread nD τ).loc main_arg2) (mine (R := 4096) (C := 704) d i)
def T3 (d : Dev nD) : Buf (Elt F) ((d.tc : Thread nD τ).loc main_v1_3) := fun i => m (((home (R := 2176) (C := 1024) d i).tc : Thread nD τ).loc main_arg3) (mine (R := 2176) (C := 1024) d i)
def T4 (d : Dev nD) : Buf (Elt F) ((d.tc : Thread nD τ).loc main_v1_4) := fun i => m (((home (R := 112) (C := 128) d i).tc : Thread nD τ).loc main_arg4) (mine (R := 112) (C := 128) d i)
def T5 (d : Dev nD) : Buf (Elt F) ((d.tc : Thread nD τ).loc main_v1_5) := fun i => m (((home (R := 376) (C := 128) d i).tc : Thread nD τ).loc main_arg5) (flat (R := 376) (C := 128) i)

/-- The memory at the end. -/
def M (d : Dev nD) : (b : Ref sig .tc) → Buf (Elt F) ((d.tc : Thread nD τ).loc b) :=
  Function.update (Function.update (Function.update (Function.update (Function.update (Function.update (fun b => m ((d.tc : Thread nD τ).loc b))
    main_v1_0 (T0 m d)) main_v1_1 (T1 m d)) main_v1_2 (T2 m d)) main_v1_3 (T3 m d)) main_v1_4 (T4 m d)) main_v1_5 (T5 m d)

theorem M0 (d : Dev nD) : M m d main_v1_0 = T0 m d := by
  unfold M
  rw [Function.update_of_ne (by decide), Function.update_of_ne (by decide), Function.update_of_ne (by decide), Function.update_of_ne (by decide), Function.update_of_ne (by decide), Function.update_self]
theorem M1 (d : Dev nD) : M m d main_v1_1 = T1 m d := by
  unfold M
  rw [Function.update_of_ne (by decide), Function.update_of_ne (by decide), Function.update_of_ne (by decide), Function.update_of_ne (by decide), Function.update_self]
theorem M2 (d : Dev nD) : M m d main_v1_2 = T2 m d := by
  unfold M
  rw [Function.update_of_ne (by decide), Function.update_of_ne (by decide), Function.update_of_ne (by decide), Function.update_self]
theorem M3 (d : Dev nD) : M m d main_v1_3 = T3 m d := by
  unfold M
  rw [Function.update_of_ne (by decide), Function.update_of_ne (by decide), Function.update_self]
theorem M4 (d : Dev nD) : M m d main_v1_4 = T4 m d := by
  unfold M
  rw [Function.update_of_ne (by decide), Function.update_self]
theorem M5 (d : Dev nD) : M m d main_v1_5 = T5 m d := by
  unfold M
  rw [Function.update_self]

/-- The arguments and the results. -/
def ins : Finset (Ref sig .tc) := {main_arg0, main_arg1, main_arg2, main_arg3, main_arg4, main_arg5}
def outs : Finset (Ref sig .tc) := {main_v1_0, main_v1_1, main_v1_2, main_v1_3, main_v1_4, main_v1_5}

theorem M_ins (d : Dev nD) (b : Ref sig .tc) (hb : b ∈ ins) : M m d b = m ((d.tc : Thread nD τ).loc b) := by
  have h : ∀ b ∈ ins, b ≠ main_v1_0 ∧ b ≠ main_v1_1 ∧ b ≠ main_v1_2 ∧ b ≠ main_v1_3 ∧ b ≠ main_v1_4 ∧ b ≠ main_v1_5 := by decide
  obtain ⟨h0, h1, h2, h3, h4, h5⟩ := h b hb
  unfold M
  rw [Function.update_of_ne h5, Function.update_of_ne h4, Function.update_of_ne h3, Function.update_of_ne h2, Function.update_of_ne h1, Function.update_of_ne h0]

theorem at_dev {b : Ref sig .tc} {d d' : Dev nD} (h : d = d') {i j : b.ty.Idx} (hij : i = j) :
    m ((d.tc : Thread nD τ).loc b) i = m ((d'.tc : Thread nD τ).loc b) j := by
  subst h hij; rfl

/-- Slot `q` of device `n`'s results is what chip `q`'s device `d` of the same core has for it. -/
theorem moved (d n : Dev nD) (hc : n.val % 2 = d.val % 2) {off off' : Fin 3 → ℕ} (h : off = ![d.val / 2, 0, 0]) (h' : off' = ![n.val / 2, 0, 0]) :
    ∀ a {inb inb'}, (slot (outM a) off inb).view.read (Elt F) (M m n (slot (outM a) off inb).view.ref)
      = (part a off' inb').view.read (Elt F) (M m d (part a off' inb').view.ref)
  | 0, _, _ => by
    refine (slot_read (View.whole main_v1_0) (chip_lt d) h _).trans (Eq.trans (funext fun y => ?_) (slot_read (View.whole main_arg0) (chip_lt n) h' _).symm)
    rw [M0, M_ins m d main_arg0 (by decide)]
    exact at_dev m (home_at hc _ _) rfl
  | 1, _, _ => by
    refine (slot_read (View.whole main_v1_1) (chip_lt d) h _).trans (Eq.trans (funext fun y => ?_) (slot_read (View.whole main_arg1) (chip_lt n) h' _).symm)
    rw [M1, M_ins m d main_arg1 (by decide)]
    exact at_dev m (home_at hc _ _) rfl
  | 2, _, _ => by
    refine (slot_read (View.whole main_v1_2) (chip_lt d) h _).trans (Eq.trans (funext fun y => ?_) (slot_read (View.whole main_arg2) (chip_lt n) h' _).symm)
    rw [M2, M_ins m d main_arg2 (by decide)]
    exact at_dev m (home_at hc _ _) rfl
  | 3, _, _ => by
    refine (slot_read (View.whole main_v1_3) (chip_lt d) h _).trans (Eq.trans (funext fun y => ?_) (slot_read (View.whole main_arg3) (chip_lt n) h' _).symm)
    rw [M3, M_ins m d main_arg3 (by decide)]
    exact at_dev m (home_at hc _ _) rfl
  | 4, _, _ => by
    refine (slot_read (View.whole main_v1_4) (chip_lt d) h _).trans (Eq.trans (funext fun y => ?_) (slot_read (View.whole main_arg4) (chip_lt n) h' _).symm)
    rw [M4, M_ins m d main_arg4 (by decide)]
    exact at_dev m (home_at hc _ _) rfl
  | 5, _, _ => by
    refine (slot_read (View.whole main_v1_5) (chip_lt d) h _).trans (funext fun y => ?_)
    rw [M5, M_ins m d main_arg5 (by decide)]
    exact at_dev m (home_at hc _ _) (funext fun x => match x with | 0 => rfl | 1 => rfl)

/-! ## The copies -/

/-- The semaphores are the copies' and no others. -/
def dec : DmaSem sig ≃ (K ⊕ K) ⊕ H :=
  (Equiv.ofBijective (Sum.elim (Sum.elim semS semR) semL : (K ⊕ K) ⊕ H → DmaSem sig) (by decide +kernel)).symm

/-- No arrival is sent on. -/
def plan : Plan K H where
  fwd _ := none
  lev _ := 0

/-- What a copy counts for. -/
abbrev amt (a : H) : ℕ := (slot (outM a) (own a 0) (own_inb a 0)).view.dmaCredit
theorem amt_pos (a : H) : 0 < amt a := by revert a; decide +kernel

/-- It is the same for all parts of an array. -/
theorem out_credit : ∀ a {off inb}, (slot (outM a) off inb).view.dmaCredit = amt a
  | 0, _, _ => rfl | 1, _, _ => rfl | 2, _, _ => rfl | 3, _, _ => rfl | 4, _, _ => rfl | 5, _, _ => rfl
theorem part_credit : ∀ a {off inb}, (part a off inb).view.dmaCredit = amt a
  | 0, _, _ => rfl | 1, _, _ => rfl | 2, _, _ => rfl | 3, _, _ => rfl | 4, _, _ => rfl | 5, _, _ => rfl

def copies : Copies nD τ sig (Elt F) K H where
  plan := plan
  dec := dec
  peer k := peer k.2
  peer_peer k d := peer_peer k.2 d
  amt k := amt k.1
  amt_pos k := amt_pos k.1
  amtL := amt
  amtL_pos := amt_pos
  sh k := shA k.1
  el k := elA k.1
  src := src
  dst := dst
  shL := shA
  elL := elA
  srcL := srcL
  dstL := dstL
  M := M m

/-- Which other chip slot `s` belongs to, if to another. -/
def from' (d : Dev nD) (s : ℕ) : Fin 3 ⊕ Unit :=
  if d.val / 2 = s then .inr () else if (peer 0 d).val / 2 = s then .inl 0 else if (peer 1 d).val / 2 = s then .inl 1 else .inl 2

theorem from_own (d : Dev nD) (s : Fin 4) : s.val = d.val / 2 ↔ from' d s.val = .inr () := by revert d s; decide +kernel
theorem from_peer (j : Fin 3) (d : Dev nD) (s : Fin 4) : s.val = (peer j d).val / 2 ↔ from' d s.val = .inl j := by revert j d s; decide +kernel

/-- Which array a result is of, and which copy fills an element of it. -/
def arr (b : Ref sig .tc) : H :=
  if b = main_v1_0 then 0 else if b = main_v1_1 then 1 else if b = main_v1_2 then 2 else if b = main_v1_3 then 3 else if b = main_v1_4 then 4 else 5
def who (d : Dev nD) (b : Ref sig .tc) (i : b.ty.Idx) : K ⊕ H := (from' d (lead i)).map (fun j => (arr b, j)) fun _ => arr b

theorem map_inl {a : H} {x : Fin 3 ⊕ Unit} {j : Fin 3} : x.map (fun j => (a, j)) (fun _ => a) = (.inl (a, j) : K ⊕ H) ↔ x = .inl j := by
  cases x with
  | inl y => simp
  | inr y => simp
theorem map_inr {a : H} {x : Fin 3 ⊕ Unit} : x.map (fun j => (a, j)) (fun _ => a) = (.inr a : K ⊕ H) ↔ x = .inr () := by
  cases x with
  | inl y => simp
  | inr y => simp

/-- An element lies in slot `s` where it counts `s` first. -/
theorem mem_out {s : ℕ} : ∀ a {off : Fin 3 → ℕ} {inb} (h : off = ![s, 0, 0]) (i : (slot (outM a) off inb).view.ref.ty.Idx),
    (i ∈ (slot (outM a) off inb).view.set ↔ lead i = s) ∧ lead i < 4 ∧ arr (slot (outM a) off inb).view.ref = a
  | 0, _, _, h, i => ⟨(Iff.of_eq (congrArg (i ∈ ·) ((View.set_reshape _ _).trans (View.set_slice_whole main_v1_0 _)))).trans (mem_slot h i),
    (show (i 0).val < 4 from (i 0).isLt), (show arr main_v1_0 = 0 by decide)⟩
  | 1, _, _, h, i => ⟨(Iff.of_eq (congrArg (i ∈ ·) ((View.set_reshape _ _).trans (View.set_slice_whole main_v1_1 _)))).trans (mem_slot h i),
    (show (i 0).val < 4 from (i 0).isLt), (show arr main_v1_1 = 1 by decide)⟩
  | 2, _, _, h, i => ⟨(Iff.of_eq (congrArg (i ∈ ·) ((View.set_reshape _ _).trans (View.set_slice_whole main_v1_2 _)))).trans (mem_slot h i),
    (show (i 0).val < 4 from (i 0).isLt), (show arr main_v1_2 = 2 by decide)⟩
  | 3, _, _, h, i => ⟨(Iff.of_eq (congrArg (i ∈ ·) ((View.set_reshape _ _).trans (View.set_slice_whole main_v1_3 _)))).trans (mem_slot h i),
    (show (i 0).val < 4 from (i 0).isLt), (show arr main_v1_3 = 3 by decide)⟩
  | 4, _, _, h, i => ⟨(Iff.of_eq (congrArg (i ∈ ·) ((View.set_reshape _ _).trans (View.set_slice_whole main_v1_4 _)))).trans (mem_slot h i),
    (show (i 0).val < 4 from (i 0).isLt), (show arr main_v1_4 = 4 by decide)⟩
  | 5, _, _, h, i => ⟨(Iff.of_eq (congrArg (i ∈ ·) ((View.set_reshape _ _).trans (View.set_slice_whole main_v1_5 _)))).trans (mem_slot h i),
    (show (i 0).val < 4 from (i 0).isLt), (show arr main_v1_5 = 5 by decide)⟩

theorem part_ins : ∀ a {off inb}, (part a off inb).view.ref ∈ ins
  | 0, _, _ => (show main_arg0 ∈ ins by decide)
  | 1, _, _ => (show main_arg1 ∈ ins by decide)
  | 2, _, _ => (show main_arg2 ∈ ins by decide)
  | 3, _, _ => (show main_arg3 ∈ ins by decide)
  | 4, _, _ => (show main_arg4 ∈ ins by decide)
  | 5, _, _ => (show main_arg5 ∈ ins by decide)

theorem ok : (copies m).Ok m ins outs who where
  reads d k := moved m d (peer k.2 d) (peer_core k.2 d) (own_eq k.1 d) (offs_eq k.1 k.2 d) k.1
  readsL d a := moved m d d rfl (own_eq a d) (own_eq a d) a
  passes _ _ _ h := by cases h
  fills d x := match x with
    | .inl k => fun i => by
      obtain ⟨h1, h2, h3⟩ := mem_out k.1 (own_eq k.1 (peer k.2 d)) i
      refine h1.trans ((from_peer k.2 d ⟨_, h2⟩).trans ?_)
      unfold who
      rw [show arr ((copies m).ref d (.inl k)) = k.1 from h3]
      exact map_inl.symm
    | .inr a => fun i => by
      obtain ⟨h1, h2, h3⟩ := mem_out a (own_eq a d) i
      refine h1.trans ((from_own d ⟨_, h2⟩).trans ?_)
      unfold who
      rw [show arr ((copies m).ref d (.inr a)) = a from h3]
      exact map_inr.symm
  who_ref d b hb i := by
    have h : ∀ b ∈ outs, (outM (arr b)).view.ref = b := by decide
    have e : ∀ x : Fin 3 ⊕ Unit, (copies m).ref d (x.map (fun j => (arr b, j)) fun _ => arr b) = (outM (arr b)).view.ref := fun x => by
      cases x <;> rfl
    exact (e _).trans (h b hb)
  ref_outs d x := by
    have h : ∀ a, (outM a).view.ref ∈ outs := by decide
    exact match x with
      | .inl k => h k.1
      | .inr a => h a
  src_ins d k _ := part_ins k.1
  srcL_ins d a := part_ins a
  unscoped := by decide
  disj := by decide
  kept := M_ins m

/-- The operations do what the list says. -/
theorem op_triple (κ : Dev nD × DmaSem sig → ℕ) (d : Dev nD) (x : Act K H) : (copies m).net.Triple defs₀ Variants.none κ d (op d x) x :=
  match x with
  | .send k => (ok m).triple_send defs₀ Variants.none d k rfl rfl (out_credit k.1)
  | .sent k => Net.triple_sent _ _ _ κ d k rfl (got d k) (src d k) (hsrc := out_word k.1 (chip_lt _) (offs_eq k.1 k.2 d)) (hdst := part_word k.1 (chip_lt _) (offs_eq k.1 k.2 d))
      (part_credit k.1)
  | .arrived k => Net.triple_arrived _ _ _ κ d k rfl (src d k) (got d k) (hsrc := part_word k.1 (chip_lt _) (offs_eq k.1 k.2 d)) (hdst := out_word k.1 (chip_lt _) (offs_eq k.1 k.2 d))
      (out_credit k.1)
  | .copy a => (ok m).triple_copy defs₀ Variants.none d a rfl (out_credit a)
  | .copied a => Net.triple_copied _ _ _ κ d a rfl (srcL d a) (dstL d a) (hsrc := part_word a (chip_lt _) (own_eq a d)) (hdst := out_word a (chip_lt _) (own_eq a d)) (out_credit a)
theorem acts_complete : plan.completes acts = true := by decide +kernel

theorem all_scoped : ∀ sm : SemLoc sig, sm.isScoped .tc = true := by decide

/-- The call, from any memory: every argument as it was, every result what the chips sent. -/
theorem run (g : Dev nD → PrngReg) : θ_run (defs (F := F)) (onTc main) ⟨m, fun _ => 0, g⟩ fun r =>
    (∀ c : Dev nD, (∀ b ∈ ins, r.2.mem ((c.tc : Thread nD τ).loc b) = M m c b) ∧ ∀ b ∈ outs, r.2.mem ((c.tc : Thread nD τ).loc b) = M m c b) ∧ r.2.sem = fun _ => 0 :=
  (copies m).net.run pcfgs (fun p => (cfgs p).toPCfg_adm) defs₀ Variants.none 0 ((copies m).rest ins) cellOf_inj (by decide) m g main (fun _ => rfl)
    (fun c => N_0) (ok m).deal op acts (fun c t R => Entails.of_eq rfl) (op_triple m) acts_complete
    (fun c s => (∀ b ∈ ins, s.mem ((c.tc : Thread nD τ).loc b) = M m c b) ∧ ∀ b ∈ outs, s.mem ((c.tc : Thread nD τ).loc b) = M m c b)
    (ok m).final (fun s h hs => ⟨h, funext fun g => hs g (.inr (all_scoped g.2))⟩)

end Exchange.Chips

end
-- ==== Proof.ChipsValue.lean ====
/-
# What the chips exchange is the reference's exchange

Device `2p + c`'s slot `q` of a result is slot `p` of device `2q + c`'s argument, which is where the reference takes
that slot of the whole result from; of the sixth array it is that device's whole argument.
-/
module

public import proofs.«01_k».proof.Proof.Chips
public import proofs.«01_k».proof.Proof.Whole
public import proofs.«01_k».proof.Proof.Gen.ChipsRefIdeal.Run
public import Idealize.ShloMosaic.Lib.Layout

@[expose] public section

noncomputable section

namespace Exchange.Chips

open Idealize.ShloMosaic Idealize.ShloMosaic.TcCoe Idealize.SL.Sem
open Cert.ChipsIdeal Cert.ChipsIdeal.Gen

/-- A device's slots of the chips' stacks are its block of the stacks with chips and slots exchanged. -/
theorem bridge {α : Type} {R C : ℕ} {g w : (Stack 32 R C).Idx → α}
    (hw : ∀ i k : (Stack 32 R C).Idx, (k 0).val = 8 * ((i 0).val % 4) + 4 * ((i 0).val / 4 % 2) + (i 0).val / 8 →
      (k 1).val = (i 1).val → (k 2).val = (i 2).val → w i = g k)
    (t : Layout.Tiles (Stack 4 R C) (Stack 32 R C) 0 8)
    {f : Dev nD → (Stack 4 R C).Idx → α} (hf : ∀ c, f c = Layout.block (Stack 4 R C) (Stack 32 R C) 0 8 c g t) (d : Dev nD) :
    (fun i => f (home d i) (mine d i)) = Layout.block (Stack 4 R C) (Stack 32 R C) 0 8 d w t := by
  funext i
  rw [hf (home d i)]
  have hi : (i 0).val < 4 := (i 0).isLt
  refine (hw (t.idx d i) (t.idx (home d i) (mine d i)) ?_ rfl rfl).symm
  show (2 * (i 0).val + d.val % 2) * 4 + d.val / 2
    = 8 * ((d.val * 4 + (i 0).val) % 4) + 4 * ((d.val * 4 + (i 0).val) / 4 % 2) + (d.val * 4 + (i 0).val) / 8
  omega

/-- The chips' whole arrays are a device's block of the array of all four of its side, for every chip. -/
theorem bridge_rows {α : Type} {g : (⟨2, ![3008, 128]⟩ : Shape).Idx → α} {w : (Stack 32 376 128).Idx → α}
    (hw : ∀ (i : (Stack 32 376 128).Idx) (k : (⟨2, ![3008, 128]⟩ : Shape).Idx),
      (k 0).val = (2 * ((i 0).val % 4) + (i 0).val / 4 % 2) * 376 + (i 1).val → (k 1).val = (i 2).val → w i = g k)
    (t2 : Layout.Tiles ⟨2, ![376, 128]⟩ ⟨2, ![3008, 128]⟩ 0 8) (t : Layout.Tiles (Stack 4 376 128) (Stack 32 376 128) 0 8)
    {f : Dev nD → (⟨2, ![376, 128]⟩ : Shape).Idx → α} (hf : ∀ c, f c = Layout.block ⟨2, ![376, 128]⟩ ⟨2, ![3008, 128]⟩ 0 8 c g t2) (d : Dev nD) :
    (fun i => f (home d i) (flat i)) = Layout.block (Stack 4 376 128) (Stack 32 376 128) 0 8 d w t := by
  funext i
  rw [hf (home d i)]
  have hi : (i 0).val < 4 := (i 0).isLt
  obtain ⟨a0, a1⟩ := Layout.idx_rows_val t2 (home d i) (flat i)
  have e : (![376, 128] : Fin 2 → ℕ) 0 = 376 := rfl
  rw [e] at a0
  refine (hw (t.idx d i) (t2.idx (home d i) (flat i)) ?_ a1).symm
  rw [a0]
  show (2 * (i 0).val + d.val % 2) * 376 + (i 1).val
    = (2 * ((d.val * 4 + (i 0).val) % 4) + (d.val * 4 + (i 0).val) / 4 % 2) * 376 + (i 1).val
  have e1 : 2 * (i 0).val + d.val % 2 = 2 * ((d.val * 4 + (i 0).val) % 4) + (d.val * 4 + (i 0).val) / 4 % 2 := by omega
  rw [e1]

variable {F : FTy → Type} [FloatOps F]

/-- Every argument ends as it was, and every counter at zero. -/
theorem frame (m : (ℓ : Loc nD τ sig) → Buf (Elt F) ℓ) (g : Dev nD → PrngReg) :
    θ_run (defs (F := F)) (onTc main) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
        ∧ r.2.sem = fun _ => 0) := by
  refine (θ_run defs _ _).mono (fun r hr => ⟨fun c => ?_, hr.2⟩) (run m g)
  have hin := fun b hb => ((hr.1 c).1 b hb).trans (M_ins m c b hb)
  exact ⟨hin main_arg0 (by decide), hin main_arg1 (by decide), hin main_arg2 (by decide), hin main_arg3 (by decide), hin main_arg4 (by decide), hin main_arg5 (by decide)⟩

/-- Every device ends with its blocks of the reference's results. -/
theorem values (m : (ℓ : Loc nD τ sig) → Buf (Elt F) ℓ) (g : Dev nD → PrngReg)
    (m' : (ℓ : Loc Cert.ChipsRefIdeal.nD Cert.ChipsRefIdeal.τ Cert.ChipsRefIdeal.sig) → Buf (Elt F) ℓ) (g' : Dev Cert.ChipsRefIdeal.nD → PrngReg)
    (h : ∀ c : Dev nD,
      m ((c.tc : Thread nD τ).loc main_arg0) = Layout.block ⟨3, ![4, 2048, 448]⟩ ⟨3, ![32, 2048, 448]⟩ 0 8 c (m' (((0 : Dev Cert.ChipsRefIdeal.nD).tc : Thread Cert.ChipsRefIdeal.nD Cert.ChipsRefIdeal.τ).loc Cert.ChipsRefIdeal.main_arg0))
      ∧ m ((c.tc : Thread nD τ).loc main_arg1) = Layout.block ⟨3, ![4, 2048, 648]⟩ ⟨3, ![32, 2048, 648]⟩ 0 8 c (m' (((0 : Dev Cert.ChipsRefIdeal.nD).tc : Thread Cert.ChipsRefIdeal.nD Cert.ChipsRefIdeal.τ).loc Cert.ChipsRefIdeal.main_arg1))
      ∧ m ((c.tc : Thread nD τ).loc main_arg2) = Layout.block ⟨3, ![4, 4096, 704]⟩ ⟨3, ![32, 4096, 704]⟩ 0 8 c (m' (((0 : Dev Cert.ChipsRefIdeal.nD).tc : Thread Cert.ChipsRefIdeal.nD Cert.ChipsRefIdeal.τ).loc Cert.ChipsRefIdeal.main_arg2))
      ∧ m ((c.tc : Thread nD τ).loc main_arg3) = Layout.block ⟨3, ![4, 2176, 1024]⟩ ⟨3, ![32, 2176, 1024]⟩ 0 8 c (m' (((0 : Dev Cert.ChipsRefIdeal.nD).tc : Thread Cert.ChipsRefIdeal.nD Cert.ChipsRefIdeal.τ).loc Cert.ChipsRefIdeal.main_arg3))
      ∧ m ((c.tc : Thread nD τ).loc main_arg4) = Layout.block ⟨3, ![4, 112, 128]⟩ ⟨3, ![32, 112, 128]⟩ 0 8 c (m' (((0 : Dev Cert.ChipsRefIdeal.nD).tc : Thread Cert.ChipsRefIdeal.nD Cert.ChipsRefIdeal.τ).loc Cert.ChipsRefIdeal.main_arg4))
      ∧ m ((c.tc : Thread nD τ).loc main_arg5) = Layout.block ⟨2, ![376, 128]⟩ ⟨2, ![3008, 128]⟩ 0 8 c (m' (((0 : Dev Cert.ChipsRefIdeal.nD).tc : Thread Cert.ChipsRefIdeal.nD Cert.ChipsRefIdeal.τ).loc Cert.ChipsRefIdeal.main_arg5))) :
    ∃ v0 v1 v2 v3 v4 v5,
      θ_run (defs (F := F)) (onTc main) ⟨m, fun _ => 0, g⟩ (fun r => ∀ c : Dev nD,
          r.2.mem ((c.tc : Thread nD τ).loc main_v1_0) = Layout.block ⟨3, ![4, 2048, 448]⟩ ⟨3, ![32, 2048, 448]⟩ 0 8 c v0
          ∧ r.2.mem ((c.tc : Thread nD τ).loc main_v1_1) = Layout.block ⟨3, ![4, 2048, 648]⟩ ⟨3, ![32, 2048, 648]⟩ 0 8 c v1
          ∧ r.2.mem ((c.tc : Thread nD τ).loc main_v1_2) = Layout.block ⟨3, ![4, 4096, 704]⟩ ⟨3, ![32, 4096, 704]⟩ 0 8 c v2
          ∧ r.2.mem ((c.tc : Thread nD τ).loc main_v1_3) = Layout.block ⟨3, ![4, 2176, 1024]⟩ ⟨3, ![32, 2176, 1024]⟩ 0 8 c v3
          ∧ r.2.mem ((c.tc : Thread nD τ).loc main_v1_4) = Layout.block ⟨3, ![4, 112, 128]⟩ ⟨3, ![32, 112, 128]⟩ 0 8 c v4
          ∧ r.2.mem ((c.tc : Thread nD τ).loc main_v1_5) = Layout.block ⟨3, ![4, 376, 128]⟩ ⟨3, ![32, 376, 128]⟩ 0 8 c v5
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
      ∧ θ_run (Cert.ChipsRefIdeal.defs (F := F)) (onTc Cert.ChipsRefIdeal.main) ⟨m', fun _ => 0, g'⟩ (fun r =>
          r.2.mem (((0 : Dev Cert.ChipsRefIdeal.nD).tc : Thread Cert.ChipsRefIdeal.nD Cert.ChipsRefIdeal.τ).loc Cert.ChipsRefIdeal.main_v2) = v0
          ∧ r.2.mem (((0 : Dev Cert.ChipsRefIdeal.nD).tc : Thread Cert.ChipsRefIdeal.nD Cert.ChipsRefIdeal.τ).loc Cert.ChipsRefIdeal.main_v5) = v1
          ∧ r.2.mem (((0 : Dev Cert.ChipsRefIdeal.nD).tc : Thread Cert.ChipsRefIdeal.nD Cert.ChipsRefIdeal.τ).loc Cert.ChipsRefIdeal.main_v8) = v2
          ∧ r.2.mem (((0 : Dev Cert.ChipsRefIdeal.nD).tc : Thread Cert.ChipsRefIdeal.nD Cert.ChipsRefIdeal.τ).loc Cert.ChipsRefIdeal.main_v11) = v3
          ∧ r.2.mem (((0 : Dev Cert.ChipsRefIdeal.nD).tc : Thread Cert.ChipsRefIdeal.nD Cert.ChipsRefIdeal.τ).loc Cert.ChipsRefIdeal.main_v14) = v4
          ∧ r.2.mem (((0 : Dev Cert.ChipsRefIdeal.nD).tc : Thread Cert.ChipsRefIdeal.nD Cert.ChipsRefIdeal.τ).loc Cert.ChipsRefIdeal.main_v19) = v5
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1)
          ∧ r.2.mem (((0 : Dev Cert.ChipsRefIdeal.nD).tc : Thread Cert.ChipsRefIdeal.nD Cert.ChipsRefIdeal.τ).loc Cert.ChipsRefIdeal.main_arg2) = m' (((0 : Dev Cert.ChipsRefIdeal.nD).tc : Thread Cert.ChipsRefIdeal.nD Cert.ChipsRefIdeal.τ).loc Cert.ChipsRefIdeal.main_arg2)
          ∧ r.2.mem (((0 : Dev Cert.ChipsRefIdeal.nD).tc : Thread Cert.ChipsRefIdeal.nD Cert.ChipsRefIdeal.τ).loc Cert.ChipsRefIdeal.main_arg3) = m' (((0 : Dev Cert.ChipsRefIdeal.nD).tc : Thread Cert.ChipsRefIdeal.nD Cert.ChipsRefIdeal.τ).loc Cert.ChipsRefIdeal.main_arg3)
          ∧ r.2.mem (((0 : Dev Cert.ChipsRefIdeal.nD).tc : Thread Cert.ChipsRefIdeal.nD Cert.ChipsRefIdeal.τ).loc Cert.ChipsRefIdeal.main_arg4) = m' (((0 : Dev Cert.ChipsRefIdeal.nD).tc : Thread Cert.ChipsRefIdeal.nD Cert.ChipsRefIdeal.τ).loc Cert.ChipsRefIdeal.main_arg4)
          ∧ r.2.mem (((0 : Dev Cert.ChipsRefIdeal.nD).tc : Thread Cert.ChipsRefIdeal.nD Cert.ChipsRefIdeal.τ).loc Cert.ChipsRefIdeal.main_arg5) = m' (((0 : Dev Cert.ChipsRefIdeal.nD).tc : Thread Cert.ChipsRefIdeal.nD Cert.ChipsRefIdeal.τ).loc Cert.ChipsRefIdeal.main_arg5)) := by
  refine ⟨_, _, _, _, _, _, ?_, (θ_run Cert.ChipsRefIdeal.defs _ _).mono (fun r hr => hr 0) (Cert.ChipsRefIdeal.Value.run (F := F) m' g')⟩
  refine (θ_run defs _ _).mono (fun r hr c => ?_) (run m g)
  have ho := fun b hb => (hr.1 c).2 b hb
  have hin := fun b hb => ((hr.1 c).1 b hb).trans (M_ins m c b hb)
  refine ⟨((ho main_v1_0 (by decide)).trans (M0 m c)).trans (bridge (cross_apply _ _ _ _) _ (fun c => (h c).1) c),
    ((ho main_v1_1 (by decide)).trans (M1 m c)).trans (bridge (cross_apply _ _ _ _) _ (fun c => (h c).2.1) c),
    ((ho main_v1_2 (by decide)).trans (M2 m c)).trans (bridge (cross_apply _ _ _ _) _ (fun c => (h c).2.2.1) c),
    ((ho main_v1_3 (by decide)).trans (M3 m c)).trans (bridge (cross_apply _ _ _ _) _ (fun c => (h c).2.2.2.1) c),
    ((ho main_v1_4 (by decide)).trans (M4 m c)).trans (bridge (cross_apply _ _ _ _) _ (fun c => (h c).2.2.2.2.1) c),
    ((ho main_v1_5 (by decide)).trans (M5 m c)).trans (bridge_rows (spread_apply _ _ _ _ _ _) _ _ (fun c => (h c).2.2.2.2.2) c),
    hin main_arg0 (by decide), hin main_arg1 (by decide), hin main_arg2 (by decide), hin main_arg3 (by decide), hin main_arg4 (by decide), hin main_arg5 (by decide)⟩

end Exchange.Chips

end
-- ==== Proof.AdamwAb.lean ====
/-
# The AdamW step of the input projection of the attention blocks (`ab_w_in`)

The kernel takes the arrays in blocks of rows: at a grid point it adds the four chips' parts of the block's gradient and
takes the step on the block's weights and moments. The blocks cover the arrays, and each array's block lies at the same
rows, so that the arrays it leaves are the reference's, which adds and steps whole arrays.
-/
module

public import proofs.«01_k».proof.Defs
public import proofs.«01_k».proof.Proof.Gen.AdamwAbIdeal.Value
public import proofs.«01_k».proof.Proof.Gen.AdamwAbRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.AdamwAb

open Cert.AdamwAbIdeal Cert.AdamwAbIdeal.Gen

/-- At a grid point every array's block is that of the point's rows. -/
theorem idx : ∀ t : Fin grid0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] := by decide +kernel

/-- In exact arithmetic the gradient, the step and both moments are the reference's. -/
theorem values : Cert.algebraic_AdamwAbIdeal_AdamwAbRefIdeal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Value.run_blocks m g, (θ_run Cert.AdamwAbRefIdeal.defs _ _).mono ?_ (Cert.AdamwAbRefIdeal.Value.run m' g')⟩
  intro r h c
  obtain ⟨h0, h1, h2, h3⟩ := hagree c
  obtain ⟨h4, h5, h6, h7, hk⟩ := h c; clear h
  simp only [h0, h1, h2, h3] at h4 h5 h6 h7
  refine ⟨h4.trans ((dats m 0 c).arrAt_eq_of_covers 4 _ (by decide +kernel) fun t _ y => ?_).symm,
    h5.trans ((dats m 0 c).arrAt_eq_of_covers 5 _ (by decide +kernel) fun t _ y => ?_).symm,
    h6.trans ((dats m 0 c).arrAt_eq_of_covers 6 _ (by decide +kernel) fun t _ y => ?_).symm,
    h7.trans ((dats m 0 c).arrAt_eq_of_covers 7 _ (by decide +kernel) fun t _ y => ?_).symm, hk⟩ <;> clear h4 h5 h6 h7
  all_goals
    obtain ⟨i0, i1, i2, i3, i4, i5, i6, i7⟩ := idx t
    blk_simp
    simp only [after0_4, after0_5, after0_6, after0_7]
    frame_out
    simp only [Value.lay4_0_eq, Value.lay5_0_eq, Value.lay6_0_eq, Value.lay7_0_eq]
    pointwise
    blk_point [iblk, V, i0, i1, i2, i3, i4, i5, i6, i7]

end Exchange.AdamwAb
end
-- ==== Proof.AdamwC.lean ====
/-
# The AdamW step of the input projection of the convolution blocks (`c_w_in`)

The kernel takes the arrays in blocks of rows: at a grid point it adds the four chips' parts of the block's gradient and
takes the step on the block's weights and moments. The blocks cover the arrays, and each array's block lies at the same
rows, so that the arrays it leaves are the reference's, which adds and steps whole arrays.
-/
module

public import proofs.«01_k».proof.Defs
public import proofs.«01_k».proof.Proof.Gen.AdamwCIdeal.Value
public import proofs.«01_k».proof.Proof.Gen.AdamwCRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.AdamwC

open Cert.AdamwCIdeal Cert.AdamwCIdeal.Gen

/-- At a grid point every array's block is that of the point's rows. -/
theorem idx : ∀ t : Fin grid0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] := by decide +kernel

/-- In exact arithmetic the gradient, the step and both moments are the reference's. -/
theorem values : Cert.algebraic_AdamwCIdeal_AdamwCRefIdeal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Value.run_blocks m g, (θ_run Cert.AdamwCRefIdeal.defs _ _).mono ?_ (Cert.AdamwCRefIdeal.Value.run m' g')⟩
  intro r h c
  obtain ⟨h0, h1, h2, h3⟩ := hagree c
  obtain ⟨h4, h5, h6, h7, hk⟩ := h c; clear h
  simp only [h0, h1, h2, h3] at h4 h5 h6 h7
  refine ⟨h4.trans ((dats m 0 c).arrAt_eq_of_covers 4 _ (by decide +kernel) fun t _ y => ?_).symm,
    h5.trans ((dats m 0 c).arrAt_eq_of_covers 5 _ (by decide +kernel) fun t _ y => ?_).symm,
    h6.trans ((dats m 0 c).arrAt_eq_of_covers 6 _ (by decide +kernel) fun t _ y => ?_).symm,
    h7.trans ((dats m 0 c).arrAt_eq_of_covers 7 _ (by decide +kernel) fun t _ y => ?_).symm, hk⟩ <;> clear h4 h5 h6 h7
  all_goals
    obtain ⟨i0, i1, i2, i3, i4, i5, i6, i7⟩ := idx t
    blk_simp
    simp only [after0_4, after0_5, after0_6, after0_7]
    frame_out
    simp only [Value.lay4_0_eq, Value.lay5_0_eq, Value.lay6_0_eq, Value.lay7_0_eq]
    pointwise
    blk_point [iblk, V, i0, i1, i2, i3, i4, i5, i6, i7]

end Exchange.AdamwC
end
-- ==== Proof.AdamwUp.lean ====
/-
# The AdamW step of the rising projection (`ffn_w_up`)

The kernel takes the arrays in blocks of rows: at a grid point it adds the four chips' parts of the block's gradient and
takes the step on the block's weights and moments. The blocks cover the arrays, and each array's block lies at the same
rows, so that the arrays it leaves are the reference's, which adds and steps whole arrays.
-/
module

public import proofs.«01_k».proof.Defs
public import proofs.«01_k».proof.Proof.Gen.AdamwUpIdeal.Value
public import proofs.«01_k».proof.Proof.Gen.AdamwUpRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.AdamwUp

open Cert.AdamwUpIdeal Cert.AdamwUpIdeal.Gen

/-- At a grid point every array's block is that of the point's rows. -/
theorem idx : ∀ t : Fin grid0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] := by decide +kernel

/-- In exact arithmetic the gradient, the step and both moments are the reference's. -/
theorem values : Cert.algebraic_AdamwUpIdeal_AdamwUpRefIdeal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Value.run_blocks m g, (θ_run Cert.AdamwUpRefIdeal.defs _ _).mono ?_ (Cert.AdamwUpRefIdeal.Value.run m' g')⟩
  intro r h c
  obtain ⟨h0, h1, h2, h3⟩ := hagree c
  obtain ⟨h4, h5, h6, h7, hk⟩ := h c; clear h
  simp only [h0, h1, h2, h3] at h4 h5 h6 h7
  refine ⟨h4.trans ((dats m 0 c).arrAt_eq_of_covers 4 _ (by decide +kernel) fun t _ y => ?_).symm,
    h5.trans ((dats m 0 c).arrAt_eq_of_covers 5 _ (by decide +kernel) fun t _ y => ?_).symm,
    h6.trans ((dats m 0 c).arrAt_eq_of_covers 6 _ (by decide +kernel) fun t _ y => ?_).symm,
    h7.trans ((dats m 0 c).arrAt_eq_of_covers 7 _ (by decide +kernel) fun t _ y => ?_).symm, hk⟩ <;> clear h4 h5 h6 h7
  all_goals
    obtain ⟨i0, i1, i2, i3, i4, i5, i6, i7⟩ := idx t
    blk_simp
    simp only [after0_4, after0_5, after0_6, after0_7]
    frame_out
    simp only [Value.lay4_0_eq, Value.lay5_0_eq, Value.lay6_0_eq, Value.lay7_0_eq]
    pointwise
    blk_point [iblk, V, i0, i1, i2, i3, i4, i5, i6, i7]

end Exchange.AdamwUp
end
-- ==== Proof.AdamwRows.lean ====
/-
# The AdamW step of the three weights that are dealt out by rows

The kernel takes the arrays in blocks of rows: at a grid point it adds the four chips' parts of the block's gradient and
takes the step on the block's weights and moments. The blocks cover the arrays, and each array's block lies at the same
rows, so that the arrays it leaves are the reference's, which adds and steps whole arrays.
-/
module

public import proofs.«01_k».proof.Defs
public import proofs.«01_k».proof.Proof.Gen.AdamwRowsIdeal.Value
public import proofs.«01_k».proof.Proof.Gen.AdamwRowsRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.AdamwRows

open Cert.AdamwRowsIdeal Cert.AdamwRowsIdeal.Gen

/-- At a grid point every array's block is that of the point's rows. -/
theorem idx : ∀ t : Fin grid0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] := by decide +kernel

/-- In exact arithmetic the gradient, the step and both moments are the reference's. -/
theorem values : Cert.algebraic_AdamwRowsIdeal_AdamwRowsRefIdeal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Value.run_blocks m g, (θ_run Cert.AdamwRowsRefIdeal.defs _ _).mono ?_ (Cert.AdamwRowsRefIdeal.Value.run m' g')⟩
  intro r h c
  obtain ⟨h0, h1, h2, h3⟩ := hagree c
  obtain ⟨h4, h5, h6, h7, hk⟩ := h c; clear h
  simp only [h0, h1, h2, h3] at h4 h5 h6 h7
  refine ⟨h4.trans ((dats m 0 c).arrAt_eq_of_covers 4 _ (by decide +kernel) fun t _ y => ?_).symm,
    h5.trans ((dats m 0 c).arrAt_eq_of_covers 5 _ (by decide +kernel) fun t _ y => ?_).symm,
    h6.trans ((dats m 0 c).arrAt_eq_of_covers 6 _ (by decide +kernel) fun t _ y => ?_).symm,
    h7.trans ((dats m 0 c).arrAt_eq_of_covers 7 _ (by decide +kernel) fun t _ y => ?_).symm, hk⟩ <;> clear h4 h5 h6 h7
  all_goals
    obtain ⟨i0, i1, i2, i3, i4, i5, i6, i7⟩ := idx t
    blk_simp
    simp only [after0_4, after0_5, after0_6, after0_7]
    frame_out
    simp only [Value.lay4_0_eq, Value.lay5_0_eq, Value.lay6_0_eq, Value.lay7_0_eq]
    pointwise
    blk_point [iblk, V, i0, i1, i2, i3, i4, i5, i6, i7]

end Exchange.AdamwRows
end
-- ==== Proof.AdamwSmall.lean ====
/-
# The AdamW step of the dealt-out weights that are packed together

The kernel takes the arrays in blocks of rows: at a grid point it adds the four chips' parts of the block's gradient and
takes the step on the block's weights and moments. The blocks cover the arrays, and each array's block lies at the same
rows, so that the arrays it leaves are the reference's, which adds and steps whole arrays.
-/
module

public import proofs.«01_k».proof.Defs
public import proofs.«01_k».proof.Proof.Gen.AdamwSmallIdeal.Value
public import proofs.«01_k».proof.Proof.Gen.AdamwSmallRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.AdamwSmall

open Cert.AdamwSmallIdeal Cert.AdamwSmallIdeal.Gen

/-- At a grid point every array's block is that of the point's rows. -/
theorem idx : ∀ t : Fin grid0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] := by decide +kernel

/-- In exact arithmetic the gradient, the step and both moments are the reference's. -/
theorem values : Cert.algebraic_AdamwSmallIdeal_AdamwSmallRefIdeal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Value.run_blocks m g, (θ_run Cert.AdamwSmallRefIdeal.defs _ _).mono ?_ (Cert.AdamwSmallRefIdeal.Value.run m' g')⟩
  intro r h c
  obtain ⟨h0, h1, h2, h3⟩ := hagree c
  obtain ⟨h4, h5, h6, h7, hk⟩ := h c; clear h
  simp only [h0, h1, h2, h3] at h4 h5 h6 h7
  refine ⟨h4.trans ((dats m 0 c).arrAt_eq_of_covers 4 _ (by decide +kernel) fun t _ y => ?_).symm,
    h5.trans ((dats m 0 c).arrAt_eq_of_covers 5 _ (by decide +kernel) fun t _ y => ?_).symm,
    h6.trans ((dats m 0 c).arrAt_eq_of_covers 6 _ (by decide +kernel) fun t _ y => ?_).symm,
    h7.trans ((dats m 0 c).arrAt_eq_of_covers 7 _ (by decide +kernel) fun t _ y => ?_).symm, hk⟩ <;> clear h4 h5 h6 h7
  all_goals
    obtain ⟨i0, i1, i2, i3, i4, i5, i6, i7⟩ := idx t
    blk_simp
    simp only [after0_4, after0_5, after0_6, after0_7]
    frame_out
    simp only [Value.lay4_0_eq, Value.lay5_0_eq, Value.lay6_0_eq, Value.lay7_0_eq]
    pointwise
    blk_point [iblk, V, i0, i1, i2, i3, i4, i5, i6, i7]

end Exchange.AdamwSmall
end
-- ==== Proof.AdamwRep.lean ====
/-
# The AdamW step of the weights that every device holds whole

The kernel takes the arrays in blocks of rows: at a grid point it adds the four chips' parts of the block's gradient and
takes the step on the block's weights and moments. The blocks cover the arrays, and each array's block lies at the same
rows, so that the arrays it leaves are the reference's, which adds and steps whole arrays.
-/
module

public import proofs.«01_k».proof.Defs
public import proofs.«01_k».proof.Proof.Gen.AdamwRepIdeal.Value
public import proofs.«01_k».proof.Proof.Gen.AdamwRepRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.AdamwRep

open Cert.AdamwRepIdeal Cert.AdamwRepIdeal.Gen

/-- At a grid point every array's block is that of the point's rows. -/
theorem idx : ∀ t : Fin grid0.N, win0_0.index t = ![0, (grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0] := by decide +kernel

/-- In exact arithmetic the gradient, the step and both moments are the reference's. -/
theorem values : Cert.algebraic_AdamwRepIdeal_AdamwRepRefIdeal := by
  intro m g m' g' _ hagree
  refine ⟨fun c => (dats m 0 c).arrAt 4 cfg0.N, fun c => (dats m 0 c).arrAt 5 cfg0.N,
    fun c => (dats m 0 c).arrAt 6 cfg0.N, fun c => (dats m 0 c).arrAt 7 cfg0.N,
    Value.run_blocks m g, (θ_run Cert.AdamwRepRefIdeal.defs _ _).mono ?_ (Cert.AdamwRepRefIdeal.Value.run m' g')⟩
  intro r h c
  obtain ⟨h0, h1, h2, h3⟩ := hagree c
  obtain ⟨h4, h5, h6, h7, hk⟩ := h c; clear h
  simp only [h0, h1, h2, h3] at h4 h5 h6 h7
  refine ⟨h4.trans ((dats m 0 c).arrAt_eq_of_covers 4 _ (by decide +kernel) fun t _ y => ?_).symm,
    h5.trans ((dats m 0 c).arrAt_eq_of_covers 5 _ (by decide +kernel) fun t _ y => ?_).symm,
    h6.trans ((dats m 0 c).arrAt_eq_of_covers 6 _ (by decide +kernel) fun t _ y => ?_).symm,
    h7.trans ((dats m 0 c).arrAt_eq_of_covers 7 _ (by decide +kernel) fun t _ y => ?_).symm, hk⟩ <;> clear h4 h5 h6 h7
  all_goals
    obtain ⟨i0, i1, i2, i3, i4, i5, i6, i7⟩ := idx t
    blk_simp
    simp only [after0_4, after0_5, after0_6, after0_7]
    frame_out
    simp only [Value.lay4_0_eq, Value.lay5_0_eq, Value.lay6_0_eq, Value.lay7_0_eq]
    pointwise
    blk_point [iblk, V, i0, i1, i2, i3, i4, i5, i6, i7]

end Exchange.AdamwRep
end
-- ==== Proof.LossHead.lean ====
/-
# The loss at the end of the forward pass

The kernel takes the activations and the targets in 16 blocks of 512 rows. A block's part of the gradient is written at
once; its part of the loss, half the sum over its rows of the mean square of the row's error, is added to what the
blocks before it came to, in a tile that the first block starts. What the last block leaves is therefore the sum over
all rows, halved: in exact arithmetic a finite factor may be taken out of a sum, infinite terms or not.
-/
module

public import proofs.«01_k».proof.Defs
public import proofs.«01_k».proof.Proof.Gen.LossIdeal.Value
public import proofs.«01_k».proof.Proof.Gen.LossRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

open Cert.LossIdeal Cert.LossIdeal.Gen

namespace Exchange.LossHead

/-- The rows of a point's blocks. -/
theorem idx : ∀ t : Fin grid0.N, win0_0.index t = ![t.val, 0] ∧ win0_1.index t = ![t.val, 0] ∧ win0_2.index t = ![t.val, 0] := by
  decide +kernel

/-- The reciprocal that the kernel multiplies by, and the width that the reference divides by. -/
theorem ofBits_width : Ideal.ofBits .f32 0x44800000#32 = ((1024 : ℝ) : EReal) := by
  simp [Ideal.ofBits, Ideal.ieee, -EReal.coe_mul]; norm_num
theorem ofBits_width_inv : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- Half of a finite sum of extended reals is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  classical
  induction s using Finset.induction_on with
  | empty => simp
  | insert a s ha ih =>
    rw [Finset.sum_insert ha, Finset.sum_insert ha, ← ih, ofBits_half]
    exact EReal.left_distrib_of_nonneg_of_ne_top (by exact_mod_cast (by norm_num : (0 : ℝ) ≤ 1 / 2)) (EReal.coe_ne_top _) _ _

theorem dy_pay (a b : Vec Ideal S512x1024 .f32) (y) :
    k0_pay2 a b y = Ideal.div (a y - b y) (Ideal.ofBits .f32 0x44800000#32) := by
  unfold k0_pay2 k0_pay1
  pointwise
  rw [ofBits_width, ofBits_width_inv, Ideal.div_coe (by norm_num)]

/-- A block's part of the loss, in every cell of the tile. -/
theorem part_pay (a b : Vec Ideal S512x1024 .f32) (y) : k0_pay3 a b y = Ideal.ofBits .f32 0x3F000000#32 * ∑ x : Fin 512,
    Ideal.div (∑ z : Fin 1024, (a (ix2 x z) - b (ix2 x z)) * (a (ix2 x z) - b (ix2 x z))) (Ideal.ofBits .f32 0x44800000#32) := by
  unfold k0_pay3 k0_pay1
  pointwise
  simp only [Fin.sum_univ_one, Finset.univ_unique, Finset.sum_singleton]

theorem step_pay (a b : Vec Ideal S512x1024 .f32) (l : Vec Ideal S8x128 .f32) (y) :
    k0_pay4 a b l y = l y + k0_pay3 a b y := by
  unfold k0_pay4
  pointwise

/-- What the last block leaves in the tile. -/
theorem total (m : (ℓ : Loc nD τ sig) → Buf (Elt Ideal) ℓ) (c : Dev nD) (y) : (outsAt0 m c t0_15.val t0_15.isLt).2 y
    = ∑ p : Fin grid0.N, k0_pay3 (iblk m c 0 p) (iblk m c 1 p) y := by
  have hN : ∀ t : Fin grid0.N, t.val < 16 := fun t => lt_of_lt_of_eq t.isLt N_0
  rw [Pipeline.eq_sum_fin_of_reset_step_apply_last (fun n h => (outsAt0 m c n h).2) 16 (fun _ => 0)
    (fun p => k0_pay3 (iblk m c 0 p) (iblk m c 1 p))
    (fun t h j => by rw [outsAt0_A m c t h (by have := hN t; omega)]; frame_out; rw [zero_add])
    (fun t h j => by rw [outsAt0_B m c t h (by have := hN t; omega)]; frame_out; rw [step_pay])
    (le_of_eq N_0) t0_15 rfl y, zero_add]

theorem values : Cert.algebraic_LossIdeal_LossRefIdeal := by
  intro m g m' g' _ hagree
  refine ⟨fun c => (dats m 0 c).arrAt 2 cfg0.N, fun c => (dats m 0 c).arrAt 3 cfg0.N,
    Value.run_blocks m g, (θ_run Cert.LossRefIdeal.defs _ _).mono ?_ (Cert.LossRefIdeal.Value.run m' g')⟩
  intro r h c
  obtain ⟨h0, h1⟩ := hagree c
  obtain ⟨h2, h3, hk⟩ := h c; clear h
  simp only [h0, h1] at h2 h3
  refine ⟨h2.trans ((dats m 0 c).arrAt_eq_of_covers 2 _ (by decide +kernel) fun t _ y => ?_).symm,
    h3.trans ((dats m 0 c).arrAt_eq_of_after_last 3 t0_15 (by decide +kernel) _ fun y => ?_).symm, hk⟩ <;> clear h2 h3
  · obtain ⟨i0, i1, i2⟩ := idx t
    have hN : t.val < 16 := lt_of_lt_of_eq t.isLt N_0
    blk_simp
    rw [after0_2]
    have hd : ∀ y, (outsAt0 m c t.val t.isLt).1 y = k0_pay2 (iblk m c 0 t) (iblk m c 1 t) y := fun y => by
      by_cases h : t.val % 16 = 0
      · rw [outsAt0_A m c t h (by omega)]; frame_out
      · rw [outsAt0_B m c t h (by omega)]; frame_out
    rw [hd, dy_pay]
    pointwise
    blk_point [iblk, V, i0, i1, i2]
  · blk_simp
    rw [after0_3, total]
    simp only [part_pay]
    pointwise
    simp only [half_sum]
    refine Fin.sum_mul_add_congr fun t k hl => ?_
    obtain ⟨i0, i1, i2⟩ := idx t
    blk_point [iblk, V, i0, i1]

end Exchange.LossHead
end
-- ==== Proof.NormEnd.lean ====
/-
# The gradient of the input of the first block

The kernel takes `x` and the two cotangents — that of the residual and that of the normalised rows — in 16 blocks of
512 rows. A row of the gradient of `x` depends on that row only, and is the reference's. The gradient of the gain is a
sum over rows: a block's part is added to what the blocks before it came to, so that the last block leaves the sum over
all rows.
-/
module

public import proofs.«01_k».proof.Defs
public import proofs.«01_k».proof.Proof.Gen.NormFirstIdeal.Value
public import proofs.«01_k».proof.Proof.Gen.NormFirstRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

open Cert.NormFirstIdeal Cert.NormFirstIdeal.Gen

namespace Exchange.NormEnd

/-- The rows of a point's blocks. -/
theorem idx : ∀ t : Fin grid0.N, win0_0.index t = ![t.val, 0] ∧ win0_1.index t = ![0, 0] ∧ win0_2.index t = ![t.val, 0]
    ∧ win0_3.index t = ![t.val, 0] ∧ win0_4.index t = ![t.val, 0] := by
  decide +kernel

theorem step_pay (a b : Vec Ideal S1x1024 .f32) (y) : k0_pay1 a b y = b y + a y := by
  unfold k0_pay1
  pointwise

/-- What the last block leaves of the gain's gradient. -/
theorem total (m : (ℓ : Loc nD τ sig) → Buf (Elt Ideal) ℓ) (c : Dev nD) (y) : (outsAt0 m c t0_15.val t0_15.isLt).2 y
    = ∑ p : Fin grid0.N, k0_pay4 (iblk m c 0 p) (iblk m c 3 p) y := by
  have hN : ∀ t : Fin grid0.N, t.val < 16 := fun t => lt_of_lt_of_eq t.isLt N_0
  rw [Pipeline.eq_sum_fin_of_reset_step_apply_last (fun n h => (outsAt0 m c n h).2) 16 (fun _ => 0)
    (fun p => k0_pay4 (iblk m c 0 p) (iblk m c 3 p))
    (fun t h j => by rw [outsAt0_A m c t h (by have := hN t; omega)]; frame_out; rw [zero_add])
    (fun t h j => by rw [outsAt0_B m c t h (by have := hN t; omega)]; frame_out; rw [step_pay])
    (le_of_eq N_0) t0_15 rfl y, zero_add]

theorem values : Cert.algebraic_NormFirstIdeal_NormFirstRefIdeal := by
  intro m g m' g' _ hagree
  refine ⟨fun c => (dats m 0 c).arrAt 4 cfg0.N, fun c => (dats m 0 c).arrAt 5 cfg0.N,
    Value.run_blocks m g, (θ_run Cert.NormFirstRefIdeal.defs _ _).mono ?_ (Cert.NormFirstRefIdeal.Value.run m' g')⟩
  intro r h c
  obtain ⟨h0, h1, h2, h3⟩ := hagree c
  obtain ⟨h4, h5, hk⟩ := h c; clear h
  unfold Cert.NormFirstRefIdeal.Value.res_main_v37 at h4
  simp only [h0, h1, h2, h3] at h4 h5
  refine ⟨h4.trans ((dats m 0 c).arrAt_eq_of_covers 4 _ (by decide +kernel) fun t _ y => ?_).symm,
    h5.trans ((dats m 0 c).arrAt_eq_of_after_last 5 t0_15 (by decide +kernel) _ fun y => ?_).symm, hk⟩ <;> clear h4 h5
  · obtain ⟨i0, i1, i2, i3, i4⟩ := idx t
    have hN : t.val < 16 := lt_of_lt_of_eq t.isLt N_0
    blk_simp
    rw [after0_4]
    have hd : ∀ y, (outsAt0 m c t.val t.isLt).1 y = k0_pay5 (iblk m c 0 t) (iblk m c 1 t) (iblk m c 2 t) (iblk m c 3 t) y := fun y => by
      by_cases h : t.val % 16 = 0
      · rw [outsAt0_A m c t h (by omega)]; frame_out
      · rw [outsAt0_B m c t h (by omega)]; frame_out
    rw [hd]
    unfold k0_pay5 k0_pay3 k0_pay2
    pointwise
    blk_point [iblk, V, i0, i1, i2, i3, i4]
  · blk_simp
    rw [after0_5, total]
    unfold k0_pay4 k0_pay3 k0_pay2
    pointwise
    simp only [Finset.univ_unique, Finset.sum_singleton]
    refine Fin.sum_mul_add_congr fun t k hl => ?_
    obtain ⟨i0, i1, i2, i3, i4⟩ := idx t
    blk_point [iblk, V, i0, i3]

end Exchange.NormEnd
end
-- ==== Proof.Sums.lean ====
/-
# A device's own slots, in the whole arrays

A device holds eight slots, of every chip's two cores; the four of its own side lie at the places of that core. In the
arrays of all devices stacked these are the slots that the references keep.
-/
module

public import proofs.«01_k».proof.Proof.Whole
public import Idealize.ShloMosaic.Lib.Layout

@[expose] public section

noncomputable section

namespace Exchange

open Idealize.ShloMosaic Idealize.ShloMosaic.ValueIdx

/-- Where in a device's stack of eight the slot of its side for a chip lies. -/
def mine {R C : ℕ} (d : Fin 8) (i : (Stack 4 R C).Idx) : (Stack 8 R C).Idx :=
  ix3 ⟨2 * (i 0).val + d.val % 2, by have h : (i 0).val < 4 := (i 0).isLt; omega⟩ ⟨(i 1).val, (i 1).isLt⟩ ⟨(i 2).val, (i 2).isLt⟩

/-- What the reference keeps of the whole stack `g` is, in a device's block, the slots of its own side in the device's
block of `g`. -/
theorem own {α : Type} {R C : ℕ} (g : (Stack 64 R C).Idx → α)
    (h1 : (Stack 64 R C).ShapeCasts ⟨6, ![4, 2, 4, 2, R, C]⟩)
    (h2 : (⟨6, ![4, 2, 4, 2, R, C]⟩ : Shape).Slices ![0, 0, 0, 0, 0, 0] ⟨6, ![4, 1, 4, 1, R, C]⟩)
    (h2' : (⟨6, ![4, 2, 4, 2, R, C]⟩ : Shape).Slices ![0, 1, 0, 1, 0, 0] ⟨6, ![4, 1, 4, 1, R, C]⟩)
    (h3 : (⟨6, ![4, 1, 4, 1, R, C]⟩ : Shape).ShapeCasts ⟨4, ![4, 4, R, C]⟩)
    (h4 : (⟨4, ![4, 4, R, C]⟩ : Shape).BroadcastsInDim ⟨5, ![4, 1, 4, R, C]⟩ ![0, 2, 3, 4])
    (h5 : Shape.Concatenates [⟨5, ![4, 1, 4, R, C]⟩, ⟨5, ![4, 1, 4, R, C]⟩] ⟨5, ![4, 2, 4, R, C]⟩ 1)
    (h6 : (⟨5, ![4, 2, 4, R, C]⟩ : Shape).ShapeCasts (Stack 32 R C))
    (t8 : Layout.Tiles (Stack 8 R C) (Stack 64 R C) 0 8) (t4 : Layout.Tiles (Stack 4 R C) (Stack 32 R C) 0 8)
    (d : Fin 8) (i : (Stack 4 R C).Idx) :
    Layout.block (Stack 8 R C) (Stack 64 R C) 0 8 d g t8 (mine d i)
      = shapeCast (Stack 32 R C) (concatenate ⟨5, ![4, 2, 4, R, C]⟩ 1
        [⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, 0, 0, 0, 0, 0] (shapeCast ⟨6, ![4, 2, 4, 2, R, C]⟩ g h1) h2) h3)⟩,
         ⟨⟨5, ![4, 1, 4, R, C]⟩, broadcastInDim ⟨5, ![4, 1, 4, R, C]⟩ ![0, 2, 3, 4] h4
          (shapeCast ⟨4, ![4, 4, R, C]⟩ (extractStridedSlice ⟨6, ![4, 1, 4, 1, R, C]⟩ ![0, 1, 0, 1, 0, 0] (shapeCast ⟨6, ![4, 2, 4, 2, R, C]⟩ g h1) h2') h3)⟩] h5) h6
        (t4.idx d i) := by
  have hi : (i 0).val < 4 := (i 0).isLt
  have hd := d.isLt
  refine (keep_apply g h1 h2 h2' h3 h4 h5 h6 (t4.idx d i) (t8.idx d (mine d i)) ?_ rfl rfl).symm
  show d.val * 8 + (2 * (i 0).val + d.val % 2)
    = 8 * (2 * ((d.val * 4 + (i 0).val) / 8) + (d.val * 4 + (i 0).val) / 4 % 2) + 2 * ((d.val * 4 + (i 0).val) % 4) + (d.val * 4 + (i 0).val) / 4 % 2
  omega

end Exchange

end
-- ==== Proof.SumAb.lean ====
/-
# The sum of the two cores' parts of the gradient of `ab_w_in`

At a grid point the kernel takes a block of one chip's slots: of its own parts the two cores' slots, of which it reads
that of its side, and what its sibling sent. The blocks cover the array it leaves, which is a device's block of the
reference's sum, for any float values.
-/
module

public import proofs.«01_k».proof.Defs
public import proofs.«01_k».proof.Proof.Sums
public import proofs.«01_k».proof.Proof.Gen.SumAbIdeal.Value
public import proofs.«01_k».proof.Proof.Gen.SumAbRefIdeal.Run
public import Idealize.ShloMosaic.Lib.Pipeline.ValueKit
public import Idealize.ShloMosaic.Lib.Pipeline.ValueKit.Point
public import Idealize.ShloMosaic.Lib.Pointwise

@[expose] public section

noncomputable section

open Idealize.ShloMosaic Idealize.ShloMosaic.TcCoe Idealize.SL.Sem

namespace Exchange.SumAb

open Cert.SumAbIdeal Cert.SumAbIdeal.Gen

/-- A grid point's blocks. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0] := by decide +kernel

/-- The slot that a device reads of a pair is that of its side. -/
theorem side : ∀ c : Dev nD, k0_off1 c = ![c.val % 2, 0, 0] := by decide

variable {F : FTy → Type} [FloatOps F]

/-- What a device's array holds, element by element. -/
theorem cells (m : (ℓ : Loc nD τ sig) → Buf (Elt F) ℓ) (c : Dev nD) : (dats m 0 c).arrAt 2 cfg0.N = fun i =>
    FloatOps.truncf .bf16 bitsLt_bf16_f32 (FloatOps.addf (FloatOps.extf .f32 bitsLt_bf16_f32 (m (c.tc.loc main_arg0) (mine c i)))
      (FloatOps.extf .f32 bitsLt_bf16_f32 (m (c.tc.loc main_arg1) i))) := by
  refine (dats m 0 c).arrAt_eq_of_covers 2 _ (by decide +kernel) fun t _ y => ?_
  obtain ⟨i0, i1, i2⟩ := idx t
  blk_simp
  rw [after0_2]
  unfold outsAt0
  frame_out
  unfold k0_pay1 mine
  pointwise
  blk_point [iblk, V, i0, i1, i2, side]
  · show _ = (((win0_2.blk t).view.emb y 1 : Fin 2048) : ℕ)
    blk_simp [i2]
  · show _ = (((win0_2.blk t).view.emb y 2 : Fin 448) : ℕ)
    blk_simp [i2]

/-- Every device ends with its block of the reference's sum. -/
theorem values (m : (ℓ : Loc nD τ sig) → Buf (Elt F) ℓ) (g : Dev nD → PrngReg)
    (m' : (ℓ : Loc Cert.SumAbRefIdeal.nD Cert.SumAbRefIdeal.τ Cert.SumAbRefIdeal.sig) → Buf (Elt F) ℓ) (g' : Dev Cert.SumAbRefIdeal.nD → PrngReg)
    (h : ∀ c : Dev nD,
      m (c.tc.loc main_arg0) = Layout.block ⟨3, ![8, 2048, 448]⟩ ⟨3, ![64, 2048, 448]⟩ 0 8 c (m' ((0 : Dev Cert.SumAbRefIdeal.nD).tc.loc Cert.SumAbRefIdeal.main_arg0))
      ∧ m (c.tc.loc main_arg1) = Layout.block ⟨3, ![4, 2048, 448]⟩ ⟨3, ![32, 2048, 448]⟩ 0 8 c (m' ((0 : Dev Cert.SumAbRefIdeal.nD).tc.loc Cert.SumAbRefIdeal.main_arg1))) :
    ∃ v0, θ_run (defs (F := F)) (onTc main) ⟨m, fun _ => 0, g⟩ (fun r => ∀ c : Dev nD,
          r.2.mem (c.tc.loc main_v1) = Layout.block ⟨3, ![4, 2048, 448]⟩ ⟨3, ![32, 2048, 448]⟩ 0 8 c v0
          ∧ r.2.mem (c.tc.loc main_arg0) = m (c.tc.loc main_arg0) ∧ r.2.mem (c.tc.loc main_arg1) = m (c.tc.loc main_arg1))
      ∧ θ_run (Cert.SumAbRefIdeal.defs (F := F)) (onTc Cert.SumAbRefIdeal.main) ⟨m', fun _ => 0, g'⟩ (fun r =>
          r.2.mem ((0 : Dev Cert.SumAbRefIdeal.nD).tc.loc Cert.SumAbRefIdeal.main_v12) = v0
          ∧ r.2.mem ((0 : Dev Cert.SumAbRefIdeal.nD).tc.loc Cert.SumAbRefIdeal.main_arg0) = m' ((0 : Dev Cert.SumAbRefIdeal.nD).tc.loc Cert.SumAbRefIdeal.main_arg0)
          ∧ r.2.mem ((0 : Dev Cert.SumAbRefIdeal.nD).tc.loc Cert.SumAbRefIdeal.main_arg1) = m' ((0 : Dev Cert.SumAbRefIdeal.nD).tc.loc Cert.SumAbRefIdeal.main_arg1)) := by
  refine ⟨_, ?_, (θ_run Cert.SumAbRefIdeal.defs _ _).mono (fun r hr => hr 0) (Cert.SumAbRefIdeal.Value.run (F := F) m' g')⟩
  refine (θ_run defs _ _).mono (fun r hr c => ⟨(hr c).1.trans ((cells m c).trans (funext fun i => ?_)), (hr c).2⟩) (Value.run_blocks m g)
  rw [(h c).1, (h c).2, Layout.block_apply (v := truncf _ _ _), truncf_apply, addf_apply, extf_apply, extf_apply]
  exact congrArg (fun a => FloatOps.truncf .bf16 bitsLt_bf16_f32 (FloatOps.addf (FloatOps.extf .f32 bitsLt_bf16_f32 a) _)) (own _ _ _ _ _ _ _ _ _ _ _ _)

end Exchange.SumAb
end
-- ==== Proof.SumC.lean ====
/-
# The sum of the two cores' parts of the gradient of `c_w_in`

At a grid point the kernel takes a block of one chip's slots: of its own parts the two cores' slots, of which it reads
that of its side, and what its sibling sent. The blocks cover the array it leaves, which is a device's block of the
reference's sum, for any float values.
-/
module

public import proofs.«01_k».proof.Defs
public import proofs.«01_k».proof.Proof.Sums
public import proofs.«01_k».proof.Proof.Gen.SumCIdeal.Value
public import proofs.«01_k».proof.Proof.Gen.SumCRefIdeal.Run
public import Idealize.ShloMosaic.Lib.Pipeline.ValueKit
public import Idealize.ShloMosaic.Lib.Pipeline.ValueKit.Point
public import Idealize.ShloMosaic.Lib.Pointwise

@[expose] public section

noncomputable section

open Idealize.ShloMosaic Idealize.ShloMosaic.TcCoe Idealize.SL.Sem

namespace Exchange.SumC

open Cert.SumCIdeal Cert.SumCIdeal.Gen

/-- A grid point's blocks. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0] := by decide +kernel

/-- The slot that a device reads of a pair is that of its side. -/
theorem side : ∀ c : Dev nD, k0_off1 c = ![c.val % 2, 0, 0] := by decide

variable {F : FTy → Type} [FloatOps F]

/-- What a device's array holds, element by element. -/
theorem cells (m : (ℓ : Loc nD τ sig) → Buf (Elt F) ℓ) (c : Dev nD) : (dats m 0 c).arrAt 2 cfg0.N = fun i =>
    FloatOps.truncf .bf16 bitsLt_bf16_f32 (FloatOps.addf (FloatOps.extf .f32 bitsLt_bf16_f32 (m (c.tc.loc main_arg0) (mine c i)))
      (FloatOps.extf .f32 bitsLt_bf16_f32 (m (c.tc.loc main_arg1) i))) := by
  refine (dats m 0 c).arrAt_eq_of_covers 2 _ (by decide +kernel) fun t _ y => ?_
  obtain ⟨i0, i1, i2⟩ := idx t
  blk_simp
  rw [after0_2]
  unfold outsAt0
  frame_out
  unfold k0_pay1 mine
  pointwise
  blk_point [iblk, V, i0, i1, i2, side]
  · show _ = (((win0_2.blk t).view.emb y 1 : Fin 2048) : ℕ)
    blk_simp [i2]
  · show _ = (((win0_2.blk t).view.emb y 2 : Fin 648) : ℕ)
    blk_simp [i2]

/-- Every device ends with its block of the reference's sum. -/
theorem values (m : (ℓ : Loc nD τ sig) → Buf (Elt F) ℓ) (g : Dev nD → PrngReg)
    (m' : (ℓ : Loc Cert.SumCRefIdeal.nD Cert.SumCRefIdeal.τ Cert.SumCRefIdeal.sig) → Buf (Elt F) ℓ) (g' : Dev Cert.SumCRefIdeal.nD → PrngReg)
    (h : ∀ c : Dev nD,
      m (c.tc.loc main_arg0) = Layout.block ⟨3, ![8, 2048, 648]⟩ ⟨3, ![64, 2048, 648]⟩ 0 8 c (m' ((0 : Dev Cert.SumCRefIdeal.nD).tc.loc Cert.SumCRefIdeal.main_arg0))
      ∧ m (c.tc.loc main_arg1) = Layout.block ⟨3, ![4, 2048, 648]⟩ ⟨3, ![32, 2048, 648]⟩ 0 8 c (m' ((0 : Dev Cert.SumCRefIdeal.nD).tc.loc Cert.SumCRefIdeal.main_arg1))) :
    ∃ v0, θ_run (defs (F := F)) (onTc main) ⟨m, fun _ => 0, g⟩ (fun r => ∀ c : Dev nD,
          r.2.mem (c.tc.loc main_v1) = Layout.block ⟨3, ![4, 2048, 648]⟩ ⟨3, ![32, 2048, 648]⟩ 0 8 c v0
          ∧ r.2.mem (c.tc.loc main_arg0) = m (c.tc.loc main_arg0) ∧ r.2.mem (c.tc.loc main_arg1) = m (c.tc.loc main_arg1))
      ∧ θ_run (Cert.SumCRefIdeal.defs (F := F)) (onTc Cert.SumCRefIdeal.main) ⟨m', fun _ => 0, g'⟩ (fun r =>
          r.2.mem ((0 : Dev Cert.SumCRefIdeal.nD).tc.loc Cert.SumCRefIdeal.main_v12) = v0
          ∧ r.2.mem ((0 : Dev Cert.SumCRefIdeal.nD).tc.loc Cert.SumCRefIdeal.main_arg0) = m' ((0 : Dev Cert.SumCRefIdeal.nD).tc.loc Cert.SumCRefIdeal.main_arg0)
          ∧ r.2.mem ((0 : Dev Cert.SumCRefIdeal.nD).tc.loc Cert.SumCRefIdeal.main_arg1) = m' ((0 : Dev Cert.SumCRefIdeal.nD).tc.loc Cert.SumCRefIdeal.main_arg1)) := by
  refine ⟨_, ?_, (θ_run Cert.SumCRefIdeal.defs _ _).mono (fun r hr => hr 0) (Cert.SumCRefIdeal.Value.run (F := F) m' g')⟩
  refine (θ_run defs _ _).mono (fun r hr c => ⟨(hr c).1.trans ((cells m c).trans (funext fun i => ?_)), (hr c).2⟩) (Value.run_blocks m g)
  rw [(h c).1, (h c).2, Layout.block_apply (v := truncf _ _ _), truncf_apply, addf_apply, extf_apply, extf_apply]
  exact congrArg (fun a => FloatOps.truncf .bf16 bitsLt_bf16_f32 (FloatOps.addf (FloatOps.extf .f32 bitsLt_bf16_f32 a) _)) (own _ _ _ _ _ _ _ _ _ _ _ _)

end Exchange.SumC
end
-- ==== Proof.SumUp.lean ====
/-
# The sum of the two cores' parts of the gradient of `ffn_w_up`

At a grid point the kernel takes a block of one chip's slots: of its own parts the two cores' slots, of which it reads
that of its side, and what its sibling sent. The blocks cover the array it leaves, which is a device's block of the
reference's sum, for any float values.
-/
module

public import proofs.«01_k».proof.Defs
public import proofs.«01_k».proof.Proof.Sums
public import proofs.«01_k».proof.Proof.Gen.SumUpIdeal.Value
public import proofs.«01_k».proof.Proof.Gen.SumUpRefIdeal.Run
public import Idealize.ShloMosaic.Lib.Pipeline.ValueKit
public import Idealize.ShloMosaic.Lib.Pipeline.ValueKit.Point
public import Idealize.ShloMosaic.Lib.Pointwise

@[expose] public section

noncomputable section

open Idealize.ShloMosaic Idealize.ShloMosaic.TcCoe Idealize.SL.Sem

namespace Exchange.SumUp

open Cert.SumUpIdeal Cert.SumUpIdeal.Gen

/-- A grid point's blocks. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0] := by decide +kernel

/-- The slot that a device reads of a pair is that of its side. -/
theorem side : ∀ c : Dev nD, k0_off1 c = ![c.val % 2, 0, 0] := by decide

variable {F : FTy → Type} [FloatOps F]

/-- What a device's array holds, element by element. -/
theorem cells (m : (ℓ : Loc nD τ sig) → Buf (Elt F) ℓ) (c : Dev nD) : (dats m 0 c).arrAt 2 cfg0.N = fun i =>
    FloatOps.truncf .bf16 bitsLt_bf16_f32 (FloatOps.addf (FloatOps.extf .f32 bitsLt_bf16_f32 (m (c.tc.loc main_arg0) (mine c i)))
      (FloatOps.extf .f32 bitsLt_bf16_f32 (m (c.tc.loc main_arg1) i))) := by
  refine (dats m 0 c).arrAt_eq_of_covers 2 _ (by decide +kernel) fun t _ y => ?_
  obtain ⟨i0, i1, i2⟩ := idx t
  blk_simp
  rw [after0_2]
  unfold outsAt0
  frame_out
  unfold k0_pay1 mine
  pointwise
  blk_point [iblk, V, i0, i1, i2, side]
  · show _ = (((win0_2.blk t).view.emb y 1 : Fin 4096) : ℕ)
    blk_simp [i2]
  · show _ = (((win0_2.blk t).view.emb y 2 : Fin 704) : ℕ)
    blk_simp [i2]

/-- Every device ends with its block of the reference's sum. -/
theorem values (m : (ℓ : Loc nD τ sig) → Buf (Elt F) ℓ) (g : Dev nD → PrngReg)
    (m' : (ℓ : Loc Cert.SumUpRefIdeal.nD Cert.SumUpRefIdeal.τ Cert.SumUpRefIdeal.sig) → Buf (Elt F) ℓ) (g' : Dev Cert.SumUpRefIdeal.nD → PrngReg)
    (h : ∀ c : Dev nD,
      m (c.tc.loc main_arg0) = Layout.block ⟨3, ![8, 4096, 704]⟩ ⟨3, ![64, 4096, 704]⟩ 0 8 c (m' ((0 : Dev Cert.SumUpRefIdeal.nD).tc.loc Cert.SumUpRefIdeal.main_arg0))
      ∧ m (c.tc.loc main_arg1) = Layout.block ⟨3, ![4, 4096, 704]⟩ ⟨3, ![32, 4096, 704]⟩ 0 8 c (m' ((0 : Dev Cert.SumUpRefIdeal.nD).tc.loc Cert.SumUpRefIdeal.main_arg1))) :
    ∃ v0, θ_run (defs (F := F)) (onTc main) ⟨m, fun _ => 0, g⟩ (fun r => ∀ c : Dev nD,
          r.2.mem (c.tc.loc main_v1) = Layout.block ⟨3, ![4, 4096, 704]⟩ ⟨3, ![32, 4096, 704]⟩ 0 8 c v0
          ∧ r.2.mem (c.tc.loc main_arg0) = m (c.tc.loc main_arg0) ∧ r.2.mem (c.tc.loc main_arg1) = m (c.tc.loc main_arg1))
      ∧ θ_run (Cert.SumUpRefIdeal.defs (F := F)) (onTc Cert.SumUpRefIdeal.main) ⟨m', fun _ => 0, g'⟩ (fun r =>
          r.2.mem ((0 : Dev Cert.SumUpRefIdeal.nD).tc.loc Cert.SumUpRefIdeal.main_v12) = v0
          ∧ r.2.mem ((0 : Dev Cert.SumUpRefIdeal.nD).tc.loc Cert.SumUpRefIdeal.main_arg0) = m' ((0 : Dev Cert.SumUpRefIdeal.nD).tc.loc Cert.SumUpRefIdeal.main_arg0)
          ∧ r.2.mem ((0 : Dev Cert.SumUpRefIdeal.nD).tc.loc Cert.SumUpRefIdeal.main_arg1) = m' ((0 : Dev Cert.SumUpRefIdeal.nD).tc.loc Cert.SumUpRefIdeal.main_arg1)) := by
  refine ⟨_, ?_, (θ_run Cert.SumUpRefIdeal.defs _ _).mono (fun r hr => hr 0) (Cert.SumUpRefIdeal.Value.run (F := F) m' g')⟩
  refine (θ_run defs _ _).mono (fun r hr c => ⟨(hr c).1.trans ((cells m c).trans (funext fun i => ?_)), (hr c).2⟩) (Value.run_blocks m g)
  rw [(h c).1, (h c).2, Layout.block_apply (v := truncf _ _ _), truncf_apply, addf_apply, extf_apply, extf_apply]
  exact congrArg (fun a => FloatOps.truncf .bf16 bitsLt_bf16_f32 (FloatOps.addf (FloatOps.extf .f32 bitsLt_bf16_f32 a) _)) (own _ _ _ _ _ _ _ _ _ _ _ _)

end Exchange.SumUp
end
-- ==== Proof.SumRows.lean ====
/-
# The sum of the two cores' parts of the gradient of the weights dealt out by rows

At a grid point the kernel takes a block of one chip's slots: of its own parts the two cores' slots, of which it reads
that of its side, and what its sibling sent. The blocks cover the array it leaves, which is a device's block of the
reference's sum, for any float values.
-/
module

public import proofs.«01_k».proof.Defs
public import proofs.«01_k».proof.Proof.Sums
public import proofs.«01_k».proof.Proof.Gen.SumRowsIdeal.Value
public import proofs.«01_k».proof.Proof.Gen.SumRowsRefIdeal.Run
public import Idealize.ShloMosaic.Lib.Pipeline.ValueKit
public import Idealize.ShloMosaic.Lib.Pipeline.ValueKit.Point
public import Idealize.ShloMosaic.Lib.Pointwise

@[expose] public section

noncomputable section

open Idealize.ShloMosaic Idealize.ShloMosaic.TcCoe Idealize.SL.Sem

namespace Exchange.SumRows

open Cert.SumRowsIdeal Cert.SumRowsIdeal.Gen

/-- A grid point's blocks. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0] := by decide +kernel

/-- The slot that a device reads of a pair is that of its side. -/
theorem side : ∀ c : Dev nD, k0_off1 c = ![c.val % 2, 0, 0] := by decide

variable {F : FTy → Type} [FloatOps F]

/-- What a device's array holds, element by element. -/
theorem cells (m : (ℓ : Loc nD τ sig) → Buf (Elt F) ℓ) (c : Dev nD) : (dats m 0 c).arrAt 2 cfg0.N = fun i =>
    FloatOps.truncf .bf16 bitsLt_bf16_f32 (FloatOps.addf (FloatOps.extf .f32 bitsLt_bf16_f32 (m (c.tc.loc main_arg0) (mine c i)))
      (FloatOps.extf .f32 bitsLt_bf16_f32 (m (c.tc.loc main_arg1) i))) := by
  refine (dats m 0 c).arrAt_eq_of_covers 2 _ (by decide +kernel) fun t _ y => ?_
  obtain ⟨i0, i1, i2⟩ := idx t
  blk_simp
  rw [after0_2]
  unfold outsAt0
  frame_out
  unfold k0_pay1 mine
  pointwise
  blk_point [iblk, V, i0, i1, i2, side]
  · show _ = (((win0_2.blk t).view.emb y 1 : Fin 2176) : ℕ)
    blk_simp [i2]
  · show _ = (((win0_2.blk t).view.emb y 2 : Fin 1024) : ℕ)
    blk_simp [i2]

/-- Every device ends with its block of the reference's sum. -/
theorem values (m : (ℓ : Loc nD τ sig) → Buf (Elt F) ℓ) (g : Dev nD → PrngReg)
    (m' : (ℓ : Loc Cert.SumRowsRefIdeal.nD Cert.SumRowsRefIdeal.τ Cert.SumRowsRefIdeal.sig) → Buf (Elt F) ℓ) (g' : Dev Cert.SumRowsRefIdeal.nD → PrngReg)
    (h : ∀ c : Dev nD,
      m (c.tc.loc main_arg0) = Layout.block ⟨3, ![8, 2176, 1024]⟩ ⟨3, ![64, 2176, 1024]⟩ 0 8 c (m' ((0 : Dev Cert.SumRowsRefIdeal.nD).tc.loc Cert.SumRowsRefIdeal.main_arg0))
      ∧ m (c.tc.loc main_arg1) = Layout.block ⟨3, ![4, 2176, 1024]⟩ ⟨3, ![32, 2176, 1024]⟩ 0 8 c (m' ((0 : Dev Cert.SumRowsRefIdeal.nD).tc.loc Cert.SumRowsRefIdeal.main_arg1))) :
    ∃ v0, θ_run (defs (F := F)) (onTc main) ⟨m, fun _ => 0, g⟩ (fun r => ∀ c : Dev nD,
          r.2.mem (c.tc.loc main_v1) = Layout.block ⟨3, ![4, 2176, 1024]⟩ ⟨3, ![32, 2176, 1024]⟩ 0 8 c v0
          ∧ r.2.mem (c.tc.loc main_arg0) = m (c.tc.loc main_arg0) ∧ r.2.mem (c.tc.loc main_arg1) = m (c.tc.loc main_arg1))
      ∧ θ_run (Cert.SumRowsRefIdeal.defs (F := F)) (onTc Cert.SumRowsRefIdeal.main) ⟨m', fun _ => 0, g'⟩ (fun r =>
          r.2.mem ((0 : Dev Cert.SumRowsRefIdeal.nD).tc.loc Cert.SumRowsRefIdeal.main_v12) = v0
          ∧ r.2.mem ((0 : Dev Cert.SumRowsRefIdeal.nD).tc.loc Cert.SumRowsRefIdeal.main_arg0) = m' ((0 : Dev Cert.SumRowsRefIdeal.nD).tc.loc Cert.SumRowsRefIdeal.main_arg0)
          ∧ r.2.mem ((0 : Dev Cert.SumRowsRefIdeal.nD).tc.loc Cert.SumRowsRefIdeal.main_arg1) = m' ((0 : Dev Cert.SumRowsRefIdeal.nD).tc.loc Cert.SumRowsRefIdeal.main_arg1)) := by
  refine ⟨_, ?_, (θ_run Cert.SumRowsRefIdeal.defs _ _).mono (fun r hr => hr 0) (Cert.SumRowsRefIdeal.Value.run (F := F) m' g')⟩
  refine (θ_run defs _ _).mono (fun r hr c => ⟨(hr c).1.trans ((cells m c).trans (funext fun i => ?_)), (hr c).2⟩) (Value.run_blocks m g)
  rw [(h c).1, (h c).2, Layout.block_apply (v := truncf _ _ _), truncf_apply, addf_apply, extf_apply, extf_apply]
  exact congrArg (fun a => FloatOps.truncf .bf16 bitsLt_bf16_f32 (FloatOps.addf (FloatOps.extf .f32 bitsLt_bf16_f32 a) _)) (own _ _ _ _ _ _ _ _ _ _ _ _)

end Exchange.SumRows
end
-- ==== Proof.SumSmall.lean ====
/-
# The sum of the two cores' parts of the gradient of the smaller weights

At a grid point the kernel takes a block of one chip's slots: of its own parts the two cores' slots, of which it reads
that of its side, and what its sibling sent. The blocks cover the array it leaves, which is a device's block of the
reference's sum, for any float values.
-/
module

public import proofs.«01_k».proof.Defs
public import proofs.«01_k».proof.Proof.Sums
public import proofs.«01_k».proof.Proof.Gen.SumSmallIdeal.Value
public import proofs.«01_k».proof.Proof.Gen.SumSmallRefIdeal.Run
public import Idealize.ShloMosaic.Lib.Pipeline.ValueKit
public import Idealize.ShloMosaic.Lib.Pipeline.ValueKit.Point
public import Idealize.ShloMosaic.Lib.Pointwise

@[expose] public section

noncomputable section

open Idealize.ShloMosaic Idealize.ShloMosaic.TcCoe Idealize.SL.Sem

namespace Exchange.SumSmall

open Cert.SumSmallIdeal Cert.SumSmallIdeal.Gen

/-- A grid point's blocks. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0] := by decide +kernel

/-- The slot that a device reads of a pair is that of its side. -/
theorem side : ∀ c : Dev nD, k0_off1 c = ![c.val % 2, 0, 0] := by decide

variable {F : FTy → Type} [FloatOps F]

/-- What a device's array holds, element by element. -/
theorem cells (m : (ℓ : Loc nD τ sig) → Buf (Elt F) ℓ) (c : Dev nD) : (dats m 0 c).arrAt 2 cfg0.N = fun i =>
    FloatOps.addf (m (c.tc.loc main_arg0) (mine c i)) (m (c.tc.loc main_arg1) i) := by
  refine (dats m 0 c).arrAt_eq_of_covers 2 _ (by decide +kernel) fun t _ y => ?_
  obtain ⟨i0, i1, i2⟩ := idx t
  blk_simp
  rw [after0_2]
  unfold outsAt0
  frame_out
  unfold k0_pay1 mine
  pointwise
  blk_point [iblk, V, i0, i1, i2, side]
  · show _ = (((win0_2.blk t).view.emb y 1 : Fin 112) : ℕ)
    blk_simp [i2]
  · show _ = (((win0_2.blk t).view.emb y 2 : Fin 128) : ℕ)
    blk_simp [i2]

/-- Every device ends with its block of the reference's sum. -/
theorem values (m : (ℓ : Loc nD τ sig) → Buf (Elt F) ℓ) (g : Dev nD → PrngReg)
    (m' : (ℓ : Loc Cert.SumSmallRefIdeal.nD Cert.SumSmallRefIdeal.τ Cert.SumSmallRefIdeal.sig) → Buf (Elt F) ℓ) (g' : Dev Cert.SumSmallRefIdeal.nD → PrngReg)
    (h : ∀ c : Dev nD,
      m (c.tc.loc main_arg0) = Layout.block ⟨3, ![8, 112, 128]⟩ ⟨3, ![64, 112, 128]⟩ 0 8 c (m' ((0 : Dev Cert.SumSmallRefIdeal.nD).tc.loc Cert.SumSmallRefIdeal.main_arg0))
      ∧ m (c.tc.loc main_arg1) = Layout.block ⟨3, ![4, 112, 128]⟩ ⟨3, ![32, 112, 128]⟩ 0 8 c (m' ((0 : Dev Cert.SumSmallRefIdeal.nD).tc.loc Cert.SumSmallRefIdeal.main_arg1))) :
    ∃ v0, θ_run (defs (F := F)) (onTc main) ⟨m, fun _ => 0, g⟩ (fun r => ∀ c : Dev nD,
          r.2.mem (c.tc.loc main_v1) = Layout.block ⟨3, ![4, 112, 128]⟩ ⟨3, ![32, 112, 128]⟩ 0 8 c v0
          ∧ r.2.mem (c.tc.loc main_arg0) = m (c.tc.loc main_arg0) ∧ r.2.mem (c.tc.loc main_arg1) = m (c.tc.loc main_arg1))
      ∧ θ_run (Cert.SumSmallRefIdeal.defs (F := F)) (onTc Cert.SumSmallRefIdeal.main) ⟨m', fun _ => 0, g'⟩ (fun r =>
          r.2.mem ((0 : Dev Cert.SumSmallRefIdeal.nD).tc.loc Cert.SumSmallRefIdeal.main_v9) = v0
          ∧ r.2.mem ((0 : Dev Cert.SumSmallRefIdeal.nD).tc.loc Cert.SumSmallRefIdeal.main_arg0) = m' ((0 : Dev Cert.SumSmallRefIdeal.nD).tc.loc Cert.SumSmallRefIdeal.main_arg0)
          ∧ r.2.mem ((0 : Dev Cert.SumSmallRefIdeal.nD).tc.loc Cert.SumSmallRefIdeal.main_arg1) = m' ((0 : Dev Cert.SumSmallRefIdeal.nD).tc.loc Cert.SumSmallRefIdeal.main_arg1)) := by
  refine ⟨_, ?_, (θ_run Cert.SumSmallRefIdeal.defs _ _).mono (fun r hr => hr 0) (Cert.SumSmallRefIdeal.Value.run (F := F) m' g')⟩
  refine (θ_run defs _ _).mono (fun r hr c => ⟨(hr c).1.trans ((cells m c).trans (funext fun i => ?_)), (hr c).2⟩) (Value.run_blocks m g)
  rw [(h c).1, (h c).2, Layout.block_apply (v := addf _ _), addf_apply]
  exact congrArg (fun a => FloatOps.addf a _) (own _ _ _ _ _ _ _ _ _ _ _ _)

end Exchange.SumSmall
end
-- ==== Proof.SumRep.lean ====
/-
# The sum of the two cores' parts of the gradient of the replicated weights

The kernel adds what its sibling sent to the whole of its own array: the sum is a device's block of the reference's, for any
float values.
-/
module

public import proofs.«01_k».proof.Defs
public import proofs.«01_k».proof.Proof.Gen.SumRepIdeal.Value
public import proofs.«01_k».proof.Proof.Gen.SumRepRefIdeal.Run
public import Idealize.ShloMosaic.Lib.Pipeline.ValueKit
public import Idealize.ShloMosaic.Lib.Pipeline.ValueKit.Point
public import Idealize.ShloMosaic.Lib.Pointwise
public import Idealize.ShloMosaic.Lib.Layout

@[expose] public section

noncomputable section

open Idealize.ShloMosaic Idealize.ShloMosaic.TcCoe Idealize.SL.Sem

namespace Exchange.SumRep

open Cert.SumRepIdeal Cert.SumRepIdeal.Gen

/-- A grid point's blocks. -/
theorem idx : ∀ t : Fin grid0.N, win0_0.index t = ![(grid0.coords t 1).val, 0]
    ∧ win0_1.index t = ![(grid0.coords t 1).val, 0]
    ∧ win0_2.index t = ![(grid0.coords t 1).val, 0] := by decide +kernel

variable {F : FTy → Type} [FloatOps F]

/-- What a device's array holds, element by element. -/
theorem cells (m : (ℓ : Loc nD τ sig) → Buf (Elt F) ℓ) (c : Dev nD) : (dats m 0 c).arrAt 2 cfg0.N = fun i =>
    FloatOps.addf (m (c.tc.loc main_arg0) i) (m (c.tc.loc main_arg1) i) := by
  refine (dats m 0 c).arrAt_eq_of_covers 2 _ (by decide +kernel) fun t _ y => ?_
  obtain ⟨i0, i1, i2⟩ := idx t
  blk_simp
  rw [after0_2]
  frame_out
  unfold k0_pay1
  pointwise
  blk_point [iblk, V, i0, i1, i2]

/-- Every device ends with its block of the reference's sum. -/
theorem values (m : (ℓ : Loc nD τ sig) → Buf (Elt F) ℓ) (g : Dev nD → PrngReg)
    (m' : (ℓ : Loc Cert.SumRepRefIdeal.nD Cert.SumRepRefIdeal.τ Cert.SumRepRefIdeal.sig) → Buf (Elt F) ℓ) (g' : Dev Cert.SumRepRefIdeal.nD → PrngReg)
    (h : ∀ c : Dev nD,
      m (c.tc.loc main_arg0) = Layout.block ⟨2, ![376, 128]⟩ ⟨2, ![3008, 128]⟩ 0 8 c (m' ((0 : Dev Cert.SumRepRefIdeal.nD).tc.loc Cert.SumRepRefIdeal.main_arg0))
      ∧ m (c.tc.loc main_arg1) = Layout.block ⟨2, ![376, 128]⟩ ⟨2, ![3008, 128]⟩ 0 8 c (m' ((0 : Dev Cert.SumRepRefIdeal.nD).tc.loc Cert.SumRepRefIdeal.main_arg1))) :
    ∃ v0, θ_run (defs (F := F)) (onTc main) ⟨m, fun _ => 0, g⟩ (fun r => ∀ c : Dev nD,
          r.2.mem (c.tc.loc main_v1) = Layout.block ⟨2, ![376, 128]⟩ ⟨2, ![3008, 128]⟩ 0 8 c v0
          ∧ r.2.mem (c.tc.loc main_arg0) = m (c.tc.loc main_arg0) ∧ r.2.mem (c.tc.loc main_arg1) = m (c.tc.loc main_arg1))
      ∧ θ_run (Cert.SumRepRefIdeal.defs (F := F)) (onTc Cert.SumRepRefIdeal.main) ⟨m', fun _ => 0, g'⟩ (fun r =>
          r.2.mem ((0 : Dev Cert.SumRepRefIdeal.nD).tc.loc Cert.SumRepRefIdeal.main_v0) = v0
          ∧ r.2.mem ((0 : Dev Cert.SumRepRefIdeal.nD).tc.loc Cert.SumRepRefIdeal.main_arg0) = m' ((0 : Dev Cert.SumRepRefIdeal.nD).tc.loc Cert.SumRepRefIdeal.main_arg0)
          ∧ r.2.mem ((0 : Dev Cert.SumRepRefIdeal.nD).tc.loc Cert.SumRepRefIdeal.main_arg1) = m' ((0 : Dev Cert.SumRepRefIdeal.nD).tc.loc Cert.SumRepRefIdeal.main_arg1)) := by
  refine ⟨_, ?_, (θ_run Cert.SumRepRefIdeal.defs _ _).mono (fun r hr => hr 0) (Cert.SumRepRefIdeal.Value.run (F := F) m' g')⟩
  refine (θ_run defs _ _).mono (fun r hr c => ⟨(hr c).1.trans ((cells m c).trans (funext fun i => ?_)), (hr c).2⟩) (Value.run_blocks m g)
  rw [(h c).1, (h c).2, Layout.block_apply (v := addf _ _), addf_apply]
  rfl

end Exchange.SumRep
end
-- ==== Proof.NormStart.lean ====
/-
# The rows of `x`, normalised into the first mixer

Sixteen blocks of 512 rows. A row depends on that row of `x` and on the gain only.
-/
module

public import proofs.«01_k».proof.Defs
public import proofs.«01_k».proof.Proof.Gen.FirstIdeal.Value
public import proofs.«01_k».proof.Proof.Gen.FirstRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

open Cert.FirstIdeal Cert.FirstIdeal.Gen

namespace Exchange.NormStart

/-- The rows of a point's blocks. -/
theorem idx : ∀ t : Fin grid0.N, win0_0.index t = ![t.val, 0] ∧ win0_1.index t = ![0, 0] ∧ win0_2.index t = ![t.val, 0] := by
  decide +kernel

theorem values : Cert.algebraic_FirstIdeal_FirstRefIdeal := by
  intro m g m' g' _ hagree
  refine ⟨fun c => (dats m 0 c).arrAt 2 cfg0.N,
    Value.run_blocks m g, (θ_run Cert.FirstRefIdeal.defs _ _).mono ?_ (Cert.FirstRefIdeal.Value.run m' g')⟩
  intro r h c
  obtain ⟨h0, h1⟩ := hagree c
  obtain ⟨h2, hk⟩ := h c; clear h
  simp only [h0, h1] at h2
  refine ⟨h2.trans ((dats m 0 c).arrAt_eq_of_covers 2 _ (by decide +kernel) fun t _ y => ?_).symm, hk⟩
  clear h2
  obtain ⟨i0, i1, i2⟩ := idx t
  have hN : t.val < 16 := lt_of_lt_of_eq t.isLt N_0
  blk_simp
  simp only [after0_2]
  frame_out
  simp only [Value.lay2_0_eq]
  pointwise
  blk_point [iblk, V, i0, i1, i2]

end Exchange.NormStart
end
-- ==== Proof.NormLast.lean ====
/-
# What the last block adds to the residual

A row is that of the residual plus that of what the block left, normalised; the kernel takes the rows in 16 blocks.
-/
module

public import proofs.«01_k».proof.Defs
public import proofs.«01_k».proof.Proof.Gen.LastIdeal.Value
public import proofs.«01_k».proof.Proof.Gen.LastRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

open Cert.LastIdeal Cert.LastIdeal.Gen

namespace Exchange.NormLast

/-- The rows of a point's blocks. -/
theorem idx : ∀ t : Fin grid0.N, win0_0.index t = ![t.val, 0] ∧ win0_1.index t = ![t.val, 0] ∧ win0_2.index t = ![0, 0]
    ∧ win0_3.index t = ![t.val, 0] := by
  decide +kernel

theorem values : Cert.algebraic_LastIdeal_LastRefIdeal := by
  intro m g m' g' _ hagree
  refine ⟨fun c => (dats m 0 c).arrAt 3 cfg0.N,
    Value.run_blocks m g, (θ_run Cert.LastRefIdeal.defs _ _).mono ?_ (Cert.LastRefIdeal.Value.run m' g')⟩
  intro r h c
  obtain ⟨h0, h1, h2⟩ := hagree c
  obtain ⟨h3, hk⟩ := h c; clear h
  simp only [h0, h1, h2] at h3
  refine ⟨h3.trans ((dats m 0 c).arrAt_eq_of_covers 3 _ (by decide +kernel) fun t _ y => ?_).symm, hk⟩
  clear h3
  obtain ⟨i0, i1, i2, i3⟩ := idx t
  have hN : t.val < 16 := lt_of_lt_of_eq t.isLt N_0
  blk_simp
  simp only [after0_3]
  frame_out
  simp only [Value.lay3_0_eq]
  pointwise
  blk_point [iblk, V, i0, i1, i2, i3]

end Exchange.NormLast
end
-- ==== Proof.Blocks.lean ====
/-
# Blocks of rows

A call that works row by row takes an array of 8192 rows in 16 blocks of 512. What holds a block of an array goes, through
each operation that keeps rows apart, to what holds the same block of the operation on the whole array: sums and products
of rows, a column's value spread over its row, a gain spread over the rows, the sum of a row. A sum over the rows of each
block, added up over the blocks, is that over all rows.
-/
module

public import Idealize.ShloMosaic.Lib.Pipeline.ValueKit
public import Idealize.ShloMosaic.Lib.Pipeline.ValueKit.Point
public import Idealize.ShloMosaic.Lib.Pointwise
public import Idealize.ShloMosaic.Lib.IdealHost

@[expose] public section

noncomputable section

namespace Exchange.Blocks

open Idealize.ShloMosaic

/-- An array of `R` rows of `n` numbers. -/
abbrev Mat (R n : ℕ) : Shape := ⟨2, ![R, n]⟩

/-- Where a place of block `t` lies in the whole array. -/
def place (t : Fin 16) {n : ℕ} (y : (Mat 512 n).Idx) : (Mat 8192 n).Idx :=
  ix2 ⟨512 * t.val + (y 0).val, by have h : (y 0).val < 512 := (y 0).isLt; omega⟩ ⟨(y 1).val, (y 1).isLt⟩

/-- `A` is block `t` of `B`. -/
def Rows (t : Fin 16) {n : ℕ} {φ : FTy} (A : FVec Ideal (Mat 512 n) φ) (B : FVec Ideal (Mat 8192 n) φ) : Prop :=
  ∀ y, A y = B (place t y)

variable {t : Fin 16} {n : ℕ} {A A' : FVec Ideal (Mat 512 n) .f32} {B B' : FVec Ideal (Mat 8192 n) .f32}

theorem add (h : Rows t A B) (h' : Rows t A' B') : Rows t (addf A A') (addf B B') := fun y => by
  rw [addf_apply, addf_apply, h y, h' y]

theorem mul (h : Rows t A B) (h' : Rows t A' B') : Rows t (mulf A A') (mulf B B') := fun y => by
  rw [mulf_apply, mulf_apply, h y, h' y]

theorem div (h : Rows t A B) (h' : Rows t A' B') : Rows t (divf A A') (Host.divf B B') := fun y => by
  pointwise
  rw [h y, h' y]

theorem root (h : Rows t A B) : Rows t (Idealize.ShloMosaic.rsqrt A) (Host.rsqrt B) := fun y => by
  pointwise
  rw [h y]

theorem cut (h : Rows t A B) {b} : Rows t (truncf .bf16 A b) (truncf .bf16 B b) := fun y => by
  rw [truncf_apply, truncf_apply, h y]

theorem same (h : Rows t A B) {s s'} : Rows t (shapeCast (Mat 512 n) A s) (shapeCast (Mat 8192 n) B s') := fun y => by
  pointwise
  exact h y

/-- A constant. -/
theorem const {b : BitVec 32} {h} : Rows (n := n) t (broadcast (Mat 512 n) (Scalar.ofBits .f32 b)) (broadcastInDim (Mat 8192 n) ![] h (constant ⟨0, ![]⟩ .f32 b)) :=
  fun y => by pointwise

section
variable {C : FVec Ideal (Mat 512 1) .f32} {D : FVec Ideal (Mat 8192 1) .f32}

/-- A column's values, each spread over its row. -/
theorem spread (h : Rows t C D) {s s'} : Rows t (broadcastTo (Mat 512 1024) C s) (broadcastInDim (Mat 8192 1024) ![0, 1] s' D) := fun y => by
  pointwise
  rw [h]
  unfold place
  blk_point []

/-- The sums of the rows, as a column. -/
theorem sums {A : FVec Ideal (Mat 512 1024) .f32} {B : FVec Ideal (Mat 8192 1024) .f32} (h : Rows t A B)
    {r : (Mat 512 1024).Reduces [1] ⟨1, ![512]⟩} {p} {p'} {s : (⟨1, ![512]⟩ : Shape).ShapeCasts (Mat 512 1)}
    {r' : (Mat 8192 1024).ReducesTo [1] ⟨1, ![8192]⟩} {u} {s' : (⟨1, ![8192]⟩ : Shape).BroadcastsInDim (Mat 8192 1) ![0]} :
    Rows t (shapeCast (Mat 512 1) (multiReduction .add [1] ⟨1, ![512]⟩ A 0x00000000#32 r p p') s)
      (broadcastInDim (Mat 8192 1) ![0] s' (Host.reduceAdd B (constant ⟨0, ![]⟩ .f32 0x00000000#32) r' u)) := fun y => by
  pointwise
  refine Finset.sum_congr rfl fun k _ => ?_
  rw [h]
  unfold place
  blk_point []

/-- The same, the column a reshape. -/
theorem sums' {A : FVec Ideal (Mat 512 1024) .f32} {B : FVec Ideal (Mat 8192 1024) .f32} (h : Rows t A B)
    {r : (Mat 512 1024).Reduces [1] ⟨1, ![512]⟩} {p} {p'} {s : (⟨1, ![512]⟩ : Shape).ShapeCasts (Mat 512 1)}
    {r' : (Mat 8192 1024).ReducesTo [1] ⟨1, ![8192]⟩} {u} {s' : (⟨1, ![8192]⟩ : Shape).ShapeCasts (Mat 8192 1)} :
    Rows t (shapeCast (Mat 512 1) (multiReduction .add [1] ⟨1, ![512]⟩ A 0x00000000#32 r p p') s)
      (shapeCast (Mat 8192 1) (Host.reduceAdd B (constant ⟨0, ![]⟩ .f32 0x00000000#32) r' u) s') := fun y => by
  pointwise
  refine Finset.sum_congr rfl fun k _ => ?_
  rw [h]
  unfold place
  blk_point []

/-- A column's values, each spread over its row, as the derivative of a row's mean writes it: by a sum over the column. -/
theorem spread_sum (h : Rows t C D)
    {r : (Mat 512 1).Reduces [1] ⟨1, ![512]⟩} {p} {p'} {s : (⟨1, ![512]⟩ : Shape).ShapeCasts (Mat 512 1)} {b}
    {r' : (Mat 8192 1).ReducesTo [1] ⟨1, ![8192]⟩} {u} {s' : (⟨1, ![8192]⟩ : Shape).BroadcastsInDim (Mat 8192 1024) ![0]} :
    Rows t (broadcastTo (Mat 512 1024) (shapeCast (Mat 512 1) (multiReduction .add [1] ⟨1, ![512]⟩ C 0x00000000#32 r p p') s) b)
      (broadcastInDim (Mat 8192 1024) ![0] s' (Host.reduceAdd D (constant ⟨0, ![]⟩ .f32 0x00000000#32) r' u)) := fun y => by
  pointwise
  refine Finset.sum_congr rfl fun k _ => ?_
  rw [h]
  unfold place
  blk_point []

end

/-- A gain, spread over the rows. -/
theorem gain {g g' : FVec Ideal (Mat 1 1024) .f32} (h : g = g') {s} {s1} {s2 : (⟨1, ![1024]⟩ : Shape).BroadcastsInDim (Mat 1 1024) ![1]}
    {s3 : (Mat 1 1024).BroadcastsInDim (Mat 8192 1024) ![0, 1]} :
    Rows t (broadcastTo (Mat 512 1024) g s)
      (broadcastInDim (Mat 8192 1024) ![0, 1] s3 (broadcastInDim (Mat 1 1024) ![1] s2 (shapeCast ⟨1, ![1024]⟩ g' s1))) := fun y => by
  subst h
  pointwise
  unfold place
  blk_point []

/-! Rows normalised by the root of their mean square, and what the derivative of that takes. -/

section
variable {A G W : FVec Ideal (Mat 512 1024) .f32} {B H V : FVec Ideal (Mat 8192 1024) .f32} {I : FVec Ideal (Mat 512 1) .f32} {J : FVec Ideal (Mat 8192 1) .f32}
  {g g' : FVec Ideal (Mat 1 1024) .f32}
  {r : (Mat 512 1024).Reduces [1] ⟨1, ![512]⟩} {p} {p'} {s : (⟨1, ![512]⟩ : Shape).ShapeCasts (Mat 512 1)}
  {r' : (Mat 8192 1024).ReducesTo [1] ⟨1, ![8192]⟩} {u} {s' : (⟨1, ![8192]⟩ : Shape).BroadcastsInDim (Mat 8192 1) ![0]} {c}
  {b : (Mat 512 1).Broadcasts (Mat 512 1024)} {b' : (Mat 8192 1).BroadcastsInDim (Mat 8192 1024) ![0, 1]}

/-- The mean square of a row, and a little. -/
theorem meanSq (h : Rows t A B) : Rows t
    (addf (divf (shapeCast (Mat 512 1) (multiReduction .add [1] ⟨1, ![512]⟩ (mulf A A) 0x00000000#32 r p p') s)
      (broadcast (Mat 512 1) (Scalar.ofBits .f32 0x44800000#32))) (broadcast (Mat 512 1) (Scalar.ofBits .f32 0x358637BD#32)))
    (addf (Host.divf (broadcastInDim (Mat 8192 1) ![0] s' (Host.reduceAdd (mulf B B) (constant ⟨0, ![]⟩ .f32 0x00000000#32) r' u))
      (broadcastInDim (Mat 8192 1) ![] c (constant ⟨0, ![]⟩ .f32 0x44800000#32))) (broadcastInDim (Mat 8192 1) ![] c (constant ⟨0, ![]⟩ .f32 0x358637BD#32))) :=
  add (div (sums (mul h h)) const) const

/-- The rows over the root of their mean square. -/
theorem scaled (h : Rows t A B) : Rows t
    (mulf A (broadcastTo (Mat 512 1024) (rsqrt (addf (divf (shapeCast (Mat 512 1) (multiReduction .add [1] ⟨1, ![512]⟩ (mulf A A) 0x00000000#32 r p p') s)
      (broadcast (Mat 512 1) (Scalar.ofBits .f32 0x44800000#32))) (broadcast (Mat 512 1) (Scalar.ofBits .f32 0x358637BD#32)))) b))
    (mulf B (broadcastInDim (Mat 8192 1024) ![0, 1] b' (Host.rsqrt
      (addf (Host.divf (broadcastInDim (Mat 8192 1) ![0] s' (Host.reduceAdd (mulf B B) (constant ⟨0, ![]⟩ .f32 0x00000000#32) r' u))
      (broadcastInDim (Mat 8192 1) ![] c (constant ⟨0, ![]⟩ .f32 0x44800000#32))) (broadcastInDim (Mat 8192 1) ![] c (constant ⟨0, ![]⟩ .f32 0x358637BD#32)))))) :=
  mul h (spread (root (meanSq h)))

/-- The cotangent of the mean, spread over the row: `M` the mean square, `I` one over its root. -/
theorem slope {M : FVec Ideal (Mat 512 1) .f32} {M' : FVec Ideal (Mat 8192 1) .f32} {q : (Mat 512 1).Reduces [1] ⟨1, ![512]⟩}
    {q' : (Mat 8192 1).ReducesTo [1] ⟨1, ![8192]⟩} {k : (⟨1, ![8192]⟩ : Shape).BroadcastsInDim (Mat 8192 1024) ![0]}
    {s' : (⟨1, ![8192]⟩ : Shape).ShapeCasts (Mat 8192 1)} (h : Rows t A B) (hG : Rows t G H) (hM : Rows t M M') (hI : Rows t I J) : Rows t
    (broadcastTo (Mat 512 1024) (shapeCast (Mat 512 1) (multiReduction .add [1] ⟨1, ![512]⟩ (divf
      (mulf (shapeCast (Mat 512 1) (multiReduction .add [1] ⟨1, ![512]⟩ (mulf A G) 0x00000000#32 r p p') s)
        (mulf (broadcast (Mat 512 1) (Scalar.ofBits .f32 0xBF000000#32)) (divf I M)))
      (broadcast (Mat 512 1) (Scalar.ofBits .f32 0x44800000#32))) 0x00000000#32 q p p') s) b)
    (broadcastInDim (Mat 8192 1024) ![0] k (Host.reduceAdd (Host.divf
      (mulf (shapeCast (Mat 8192 1) (Host.reduceAdd (mulf B H) (constant ⟨0, ![]⟩ .f32 0x00000000#32) r' u) s')
        (mulf (broadcastInDim (Mat 8192 1) ![] c (constant ⟨0, ![]⟩ .f32 0xBF000000#32)) (Host.divf J M')))
      (broadcastInDim (Mat 8192 1) ![] c (constant ⟨0, ![]⟩ .f32 0x44800000#32))) (constant ⟨0, ![]⟩ .f32 0x00000000#32) q' u)) :=
  spread_sum (div (mul (sums' (mul h hG)) (mul const (div hI hM))) const)

/-- The cotangent `G` of the normalised rows drawn back through the normalisation, `W` the mean's. -/
theorem pull (h : Rows t A B) (hG : Rows t G H) (hI : Rows t I J) (hW : Rows t W V) : Rows t
    (addf (addf (mulf G (broadcastTo (Mat 512 1024) I b)) (mulf A W)) (mulf W A))
    (addf (addf (mulf H (broadcastInDim (Mat 8192 1024) ![0, 1] b' J)) (mulf B V)) (mulf V B)) :=
  add (add (mul hG (spread hI)) (mul h hW)) (mul hW h)

/-- The same, added to the cotangent `D` that comes along the residual. -/
theorem pull_add {D : FVec Ideal (Mat 512 1024) .f32} {E : FVec Ideal (Mat 8192 1024) .f32} (hD : Rows t D E)
    (h : Rows t A B) (hG : Rows t G H) (hI : Rows t I J) (hW : Rows t W V) : Rows t
    (addf (addf (addf D (mulf G (broadcastTo (Mat 512 1024) I b))) (mulf A W)) (mulf W A))
    (addf (addf (addf E (mulf H (broadcastInDim (Mat 8192 1024) ![0, 1] b' J))) (mulf B V)) (mulf V B)) :=
  add (add (add hD (mul hG (spread hI))) (mul h hW)) (mul hW h)

end

/-- The sums over the rows of the blocks, added up, are those over all rows. -/
theorem total {A : Fin 16 → FVec Ideal (Mat 512 1024) .f32} {B : FVec Ideal (Mat 8192 1024) .f32} (h : ∀ t, Rows t (A t) B)
    {r : (Mat 512 1024).Reduces [0] ⟨1, ![1024]⟩} {p} {p'} {s : (⟨1, ![1024]⟩ : Shape).ShapeCasts (Mat 1 1024)}
    {r' : (Mat 8192 1024).ReducesTo [0] ⟨1, ![1024]⟩} {u} {s' : (⟨1, ![1024]⟩ : Shape).ShapeCasts (Mat 1 1024)}
    {r'' : (Mat 1 1024).ReducesTo [0] ⟨1, ![1024]⟩} {u'} {s'' : (⟨1, ![1024]⟩ : Shape).BroadcastsInDim (Mat 1 1024) ![1]} (y : (Mat 1 1024).Idx) :
    ∑ t, shapeCast (Mat 1 1024) (multiReduction .add [0] ⟨1, ![1024]⟩ (A t) 0x00000000#32 r p p') s y
      = broadcastInDim (Mat 1 1024) ![1] s'' (Host.reduceAdd (shapeCast (Mat 1 1024)
        (Host.reduceAdd B (constant ⟨0, ![]⟩ .f32 0x00000000#32) r' u) s') (constant ⟨0, ![]⟩ .f32 0x00000000#32) r'' u') y := by
  pointwise
  simp only [Finset.univ_unique, Finset.sum_singleton]
  refine Fin.sum_mul_add_congr fun t k hl => ?_
  rw [h]
  unfold place
  blk_point []

end Exchange.Blocks

end
-- ==== Proof.NormJoin.lean ====
/-
# What a block adds to the residual, and the rows normalised for what comes next

The kernel takes the rows in 16 blocks; both of a row's results depend on that row and on the two gains only. The two
calls that do this — after a mixer, and after a channel mixer — are one program.
-/
module

public import proofs.«01_k».proof.Defs
public import proofs.«01_k».proof.Proof.Blocks
public import proofs.«01_k».proof.Proof.Gen.MidIdeal.Value
public import proofs.«01_k».proof.Proof.Gen.MidRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

open Cert.MidIdeal Cert.MidIdeal.Gen

namespace Exchange.NormJoin

open Blocks (Rows place)

/-- The rows of a point's blocks. -/
theorem idx : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] := by
  decide +kernel

section
variable (m : (ℓ : Loc nD τ sig) → Buf (Elt Ideal) ℓ) (c : Dev nD) (t : Fin 16)

theorem rows0 : Rows (n := 1024) (φ := .f32) t (iblk m c 0 t) (m (c.tc.loc main_arg0)) := fun y => by
  obtain ⟨i0, _⟩ := idx t
  unfold place
  blk_point [iblk, V, i0]

theorem rows1 : Rows (n := 1024) (φ := .f32) t (iblk m c 1 t) (m (c.tc.loc main_arg1)) := fun y => by
  obtain ⟨_, i1, _⟩ := idx t
  unfold place
  blk_point [iblk, V, i1]

theorem gain2 : iblk m c 2 t = m (c.tc.loc main_arg2) := by
  obtain ⟨_, _, i2, _⟩ := idx t
  blk_point [iblk, V, i2]

theorem gain3 : iblk m c 3 t = m (c.tc.loc main_arg3) := by
  obtain ⟨_, _, _, i3, _⟩ := idx t
  blk_point [iblk, V, i3]

theorem at4 (y) : place (n := 1024) t y = (win0_4.blk t).view.emb y := by
  obtain ⟨_, _, _, _, i4, _⟩ := idx t
  unfold place
  blk_point [i4]

theorem at5 (y) : place (n := 1024) t y = (win0_5.blk t).view.emb y := by
  obtain ⟨_, _, _, _, _, i5⟩ := idx t
  unfold place
  blk_point [i5]

end

theorem values : Cert.algebraic_MidIdeal_MidRefIdeal := by
  intro m g m' g' _ hagree
  refine ⟨fun c => (dats m 0 c).arrAt 4 cfg0.N, fun c => (dats m 0 c).arrAt 5 cfg0.N,
    Value.run_blocks m g, (θ_run Cert.MidRefIdeal.defs _ _).mono ?_ (Cert.MidRefIdeal.Value.run m' g')⟩
  intro r h c
  obtain ⟨h0, h1, h2, h3⟩ := hagree c
  obtain ⟨h4, h5, hk⟩ := h c; clear h
  simp only [h0, h1, h2, h3] at h4 h5
  refine ⟨h4.trans ((dats m 0 c).arrAt_eq_of_covers 4 _ (by decide +kernel) fun t _ y => ?_).symm,
    h5.trans ((dats m 0 c).arrAt_eq_of_covers 5 _ (by decide +kernel) fun t _ y => ?_).symm, hk⟩ <;> clear h4 h5
  · blk_simp
    rw [after0_4]
    frame_out
    exact (Blocks.add (rows0 m c t) (Blocks.mul (Blocks.scaled (rows1 m c t)) (Blocks.gain (gain2 m c t))) y).trans (congrArg _ (at4 t y))
  · blk_simp
    rw [after0_5]
    frame_out
    exact (Blocks.cut (Blocks.mul (Blocks.scaled (Blocks.add (rows0 m c t) (Blocks.mul (Blocks.scaled (rows1 m c t)) (Blocks.gain (gain2 m c t)))))
      (Blocks.gain (gain3 m c t))) y).trans (congrArg _ (at5 t y))

end Exchange.NormJoin
end
-- ==== Proof.NormLastBwd.lean ====
/-
# The last block's normalisation, differentiated

The cotangent of the residual goes on as it is, and through the normalisation to what the block left: a row of either
depends on that row only. The gradient of the gain is a sum over rows: a block's part is added to what the blocks before
it came to, so that the last block leaves the sum over all rows.
-/
module

public import proofs.«01_k».proof.Defs
public import proofs.«01_k».proof.Proof.Blocks
public import proofs.«01_k».proof.Proof.Gen.LastBwdIdeal.Value
public import proofs.«01_k».proof.Proof.Gen.LastBwdRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

open Cert.LastBwdIdeal Cert.LastBwdIdeal.Gen

namespace Exchange.NormLastBwd

open Blocks (Rows place)

/-- The rows of a point's blocks. -/
theorem idx : ∀ t : Fin grid0.N, win0_1.index t = ![t.val, 0] ∧ win0_2.index t = ![0, 0] ∧ win0_3.index t = ![t.val, 0]
    ∧ win0_4.index t = ![t.val, 0] ∧ win0_5.index t = ![t.val, 0] := by
  decide +kernel

section
variable (m : (ℓ : Loc nD τ sig) → Buf (Elt Ideal) ℓ) (c : Dev nD) (t : Fin 16)

theorem rows1 : Rows (n := 1024) (φ := .f32) t (iblk m c 1 t) (m (c.tc.loc main_arg1)) := fun y => by
  obtain ⟨i1, _⟩ := idx t
  unfold place
  blk_point [iblk, V, i1]

theorem gain2 : iblk m c 2 t = m (c.tc.loc main_arg2) := by
  obtain ⟨_, i2, _⟩ := idx t
  blk_point [iblk, V, i2]

theorem rows3 : Rows (n := 1024) (φ := .f32) t (iblk m c 3 t) (m (c.tc.loc main_arg3)) := fun y => by
  obtain ⟨_, _, i3, _⟩ := idx t
  unfold place
  blk_point [iblk, V, i3]

theorem at4 (y) : place (n := 1024) t y = (win0_4.blk t).view.emb y := by
  obtain ⟨_, _, _, i4, _⟩ := idx t
  unfold place
  blk_point [i4]

theorem at5 (y) : place (n := 1024) t y = (win0_5.blk t).view.emb y := by
  obtain ⟨_, _, _, _, i5⟩ := idx t
  unfold place
  blk_point [i5]

end

theorem step_pay (a b : Vec Ideal S1x1024 .f32) (y) : k0_pay1 a b y = b y + a y := by
  unfold k0_pay1
  pointwise

/-- What a point leaves of the two cotangents. -/
theorem rows_out (m : (ℓ : Loc nD τ sig) → Buf (Elt Ideal) ℓ) (c : Dev nD) (t : Fin cfg0.N) : (∀ y, (outsAt0 m c t.val t.isLt).1 y = iblk m c 3 t y)
    ∧ ∀ y, (outsAt0 m c t.val t.isLt).2.1 y = k0_pay6 (iblk m c 1 t) (iblk m c 2 t) (iblk m c 3 t) y := by
  have hN : t.val < 16 := lt_of_lt_of_eq t.isLt N_0
  constructor <;> intro y <;> by_cases h : t.val % 16 = 0
  · rw [outsAt0_A m c t h (by omega)]; frame_out
  · rw [outsAt0_B m c t h (by omega)]; frame_out
  · rw [outsAt0_A m c t h (by omega)]; frame_out
  · rw [outsAt0_B m c t h (by omega)]; frame_out

/-- What the last block leaves of the gain's gradient. -/
theorem total (m : (ℓ : Loc nD τ sig) → Buf (Elt Ideal) ℓ) (c : Dev nD) (y) : (outsAt0 m c t0_15.val t0_15.isLt).2.2 y
    = ∑ p : Fin grid0.N, k0_pay5 (iblk m c 1 p) (iblk m c 3 p) y := by
  have hN : ∀ t : Fin grid0.N, t.val < 16 := fun t => lt_of_lt_of_eq t.isLt N_0
  rw [Pipeline.eq_sum_fin_of_reset_step_apply_last (fun n h => (outsAt0 m c n h).2.2) 16 (fun _ => 0)
    (fun p => k0_pay5 (iblk m c 1 p) (iblk m c 3 p))
    (fun t h j => by rw [outsAt0_A m c t h (by have := hN t; omega)]; frame_out; rw [zero_add])
    (fun t h j => by rw [outsAt0_B m c t h (by have := hN t; omega)]; frame_out; rw [step_pay])
    (le_of_eq N_0) t0_15 rfl y, zero_add]

theorem values : Cert.algebraic_LastBwdIdeal_LastBwdRefIdeal := by
  intro m g m' g' _ hagree
  refine ⟨fun c => (dats m 0 c).arrAt 4 cfg0.N, fun c => (dats m 0 c).arrAt 5 cfg0.N, fun c => (dats m 0 c).arrAt 6 cfg0.N,
    Value.run_blocks m g, (θ_run Cert.LastBwdRefIdeal.defs _ _).mono ?_ (Cert.LastBwdRefIdeal.Value.run m' g')⟩
  intro r h c
  obtain ⟨h0, h1, h2, h3⟩ := hagree c
  obtain ⟨h4, h5, h6, hk⟩ := h c; clear h
  unfold Cert.LastBwdRefIdeal.Value.res_main_v39 at h5
  rw [h3] at h4
  simp only [h0, h1, h2, h3] at h5 h6
  refine ⟨h4.trans ((dats m 0 c).arrAt_eq_of_covers 4 _ (by decide +kernel) fun t _ y => ?_).symm,
    h5.trans ((dats m 0 c).arrAt_eq_of_covers 5 _ (by decide +kernel) fun t _ y => ?_).symm,
    h6.trans ((dats m 0 c).arrAt_eq_of_after_last 6 t0_15 (by decide +kernel) _ fun y => ?_).symm, hk⟩ <;> clear h4 h5 h6
  · blk_simp
    rw [after0_4, (rows_out m c t).1]
    exact (rows3 m c t y).trans (congrArg _ (at4 t y))
  · blk_simp
    rw [after0_5, (rows_out m c t).2]
    exact (Blocks.cut (Blocks.pull (rows1 m c t) (Blocks.mul (Blocks.same (rows3 m c t)) (Blocks.gain (gain2 m c t)))
      (Blocks.root (Blocks.meanSq (rows1 m c t)))
      (Blocks.slope (rows1 m c t) (Blocks.mul (Blocks.same (rows3 m c t)) (Blocks.gain (gain2 m c t)))
        (Blocks.meanSq (rows1 m c t)) (Blocks.root (Blocks.meanSq (rows1 m c t))))) y).trans (congrArg _ (at5 t y))
  · blk_simp
    rw [after0_6, total]
    exact Blocks.total (fun t => Blocks.mul (Blocks.scaled (rows1 m c t)) (Blocks.same (rows3 m c t))) y

end Exchange.NormLastBwd
end
-- ==== Proof.NormJoinBwd.lean ====
/-
# A block's two normalisations, differentiated

`x1` is the residual with what the block left, normalised, added to it; the second normalisation is of `x1`. The cotangent
of the second's rows is drawn back through it and added to the residual's: the cotangent of `x1`. That one goes on along
the residual, and is drawn back through the first normalisation to what the block left. A row of either depends on that
row only. The gradient of a gain is a sum over rows: a block's part is added to what the blocks before it came to, so that
the last block leaves the sum over all rows. The two calls that do this are one program.
-/
module

public import proofs.«01_k».proof.Defs
public import proofs.«01_k».proof.Proof.Blocks
public import proofs.«01_k».proof.Proof.Gen.MidBwdIdeal.Value
public import proofs.«01_k».proof.Proof.Gen.MidBwdRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

open Cert.MidBwdIdeal Cert.MidBwdIdeal.Gen

namespace Exchange.NormJoinBwd

open Blocks (Rows place)

/-- The rows of a point's blocks. -/
theorem idx : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] := by
  decide +kernel

section
variable (m : (ℓ : Loc nD τ sig) → Buf (Elt Ideal) ℓ) (c : Dev nD) (t : Fin 16)

theorem rows0 : Rows (n := 1024) (φ := .f32) t (iblk m c 0 t) (m (c.tc.loc main_arg0)) := fun y => by
  obtain ⟨i, _⟩ := idx t
  unfold place
  blk_point [iblk, V, i]

theorem rows1 : Rows (n := 1024) (φ := .f32) t (iblk m c 1 t) (m (c.tc.loc main_arg1)) := fun y => by
  obtain ⟨_, i, _⟩ := idx t
  unfold place
  blk_point [iblk, V, i]

theorem gain2 : iblk m c 2 t = m (c.tc.loc main_arg2) := by
  obtain ⟨_, _, i, _⟩ := idx t
  blk_point [iblk, V, i]

theorem gain3 : iblk m c 3 t = m (c.tc.loc main_arg3) := by
  obtain ⟨_, _, _, i, _⟩ := idx t
  blk_point [iblk, V, i]

theorem rows4 : Rows (n := 1024) (φ := .f32) t (iblk m c 4 t) (m (c.tc.loc main_arg4)) := fun y => by
  obtain ⟨_, _, _, _, i, _⟩ := idx t
  unfold place
  blk_point [iblk, V, i]

theorem rows5 : Rows (n := 1024) (φ := .f32) t (iblk m c 5 t) (m (c.tc.loc main_arg5)) := fun y => by
  obtain ⟨_, _, _, _, _, i, _⟩ := idx t
  unfold place
  blk_point [iblk, V, i]

theorem at6 (y) : place (n := 1024) t y = (win0_6.blk t).view.emb y := by
  obtain ⟨_, _, _, _, _, _, i, _⟩ := idx t
  unfold place
  blk_point [i]

theorem at7 (y) : place (n := 1024) t y = (win0_7.blk t).view.emb y := by
  obtain ⟨_, _, _, _, _, _, _, i⟩ := idx t
  unfold place
  blk_point [i]

end

theorem step_pay1 (a b : Vec Ideal S1x1024 .f32) (y) : k0_pay1 a b y = b y + a y := by
  unfold k0_pay1
  pointwise

theorem step_pay2 (a b : Vec Ideal S1x1024 .f32) (y) : k0_pay2 a b y = b y + a y := by
  unfold k0_pay2
  pointwise

section
variable (m : (ℓ : Loc nD τ sig) → Buf (Elt Ideal) ℓ) (c : Dev nD)

/-! What a point works out: `x1`, one over the root of its mean square and that by the mean square; the cotangent of `x1`,
that of what the block left, and the parts of the two gains' gradients. -/

def x1 (t : Fin grid0.N) := k0_pay7 (iblk m c 0 t) (iblk m c 1 t) (iblk m c 2 t)
def inv (t : Fin grid0.N) := k0_pay9 (iblk m c 0 t) (iblk m c 1 t) (iblk m c 2 t)
def quot (t : Fin grid0.N) := k0_pay10 (iblk m c 0 t) (iblk m c 1 t) (iblk m c 2 t)
def dx1 (t : Fin grid0.N) := k0_pay13 (iblk m c 3 t) (iblk m c 4 t) (iblk m c 5 t) (x1 m c t) (inv m c t) (quot m c t)
def dh (t : Fin grid0.N) := k0_pay16 (iblk m c 1 t) (iblk m c 2 t) (iblk m c 3 t) (iblk m c 4 t) (iblk m c 5 t)
  (k0_pay4 (iblk m c 1 t)) (k0_pay5 (iblk m c 1 t)) (x1 m c t) (inv m c t) (quot m c t)
def part2 (t : Fin grid0.N) := k0_pay15 (iblk m c 3 t) (iblk m c 4 t) (iblk m c 5 t) (k0_pay6 (iblk m c 1 t)) (x1 m c t) (inv m c t) (quot m c t)
def part3 (t : Fin grid0.N) := k0_pay12 (k0_pay11 (iblk m c 0 t) (iblk m c 1 t) (iblk m c 2 t) (iblk m c 5 t))

/-- What a point leaves of the two cotangents. -/
theorem rows_out (t : Fin cfg0.N) : (∀ y, (outsAt0 m c t.val t.isLt).1 y = dx1 m c t y) ∧ ∀ y, (outsAt0 m c t.val t.isLt).2.1 y = dh m c t y := by
  have hN : t.val < 16 := lt_of_lt_of_eq t.isLt N_0
  constructor <;> intro y <;> by_cases h : t.val % 16 = 0
  · rw [outsAt0_A m c t h (by omega)]; frame_out; rfl; all_goals omega
  · rw [outsAt0_B m c t h (by omega)]; frame_out; rfl; all_goals omega
  · rw [outsAt0_A m c t h (by omega)]; frame_out; rfl; all_goals omega
  · rw [outsAt0_B m c t h (by omega)]; frame_out; rfl; all_goals omega

/-- What the last block leaves of the first gain's gradient. -/
theorem total2 (y) : (outsAt0 m c t0_15.val t0_15.isLt).2.2.1 y = ∑ p : Fin grid0.N, part2 m c p y := by
  have hN : ∀ t : Fin grid0.N, t.val < 16 := fun t => lt_of_lt_of_eq t.isLt N_0
  rw [Pipeline.eq_sum_fin_of_reset_step_apply_last (fun n h => (outsAt0 m c n h).2.2.1) 16 (fun _ => 0) (part2 m c)
    (fun t h j => by have := hN t; rw [outsAt0_A m c t h (by omega)]; frame_out; rw [zero_add]; rfl; all_goals omega)
    (fun t h j => by have := hN t; rw [outsAt0_B m c t h (by omega)]; frame_out; rw [step_pay1]; rfl; all_goals omega)
    (le_of_eq N_0) t0_15 rfl y, zero_add]

/-- And of the second's. -/
theorem total3 (y) : (outsAt0 m c t0_15.val t0_15.isLt).2.2.2 y = ∑ p : Fin grid0.N, part3 m c p y := by
  have hN : ∀ t : Fin grid0.N, t.val < 16 := fun t => lt_of_lt_of_eq t.isLt N_0
  rw [Pipeline.eq_sum_fin_of_reset_step_apply_last (fun n h => (outsAt0 m c n h).2.2.2) 16 (fun _ => 0) (part3 m c)
    (fun t h j => by have := hN t; rw [outsAt0_A m c t h (by omega)]; frame_out; rw [zero_add]; rfl; all_goals omega)
    (fun t h j => by have := hN t; rw [outsAt0_B m c t h (by omega)]; frame_out; rw [step_pay2]; rfl; all_goals omega)
    (le_of_eq N_0) t0_15 rfl y, zero_add]

end

theorem values : Cert.algebraic_MidBwdIdeal_MidBwdRefIdeal := by
  intro m g m' g' _ hagree
  refine ⟨fun c => (dats m 0 c).arrAt 6 cfg0.N, fun c => (dats m 0 c).arrAt 7 cfg0.N, fun c => (dats m 0 c).arrAt 8 cfg0.N,
    fun c => (dats m 0 c).arrAt 9 cfg0.N,
    Value.run_blocks m g, (θ_run Cert.MidBwdRefIdeal.defs _ _).mono ?_ (Cert.MidBwdRefIdeal.Value.run m' g')⟩
  intro r h c
  obtain ⟨h0, h1, h2, h3, h4, h5⟩ := hagree c
  obtain ⟨o6, o7, o8, o9, hk⟩ := h c; clear h
  have r0 : ∀ t, Rows (n := 1024) (φ := .f32) t (iblk m c 0 t) _ := fun t => h0 ▸ rows0 m c t
  have r1 : ∀ t, Rows (n := 1024) (φ := .f32) t (iblk m c 1 t) _ := fun t => h1 ▸ rows1 m c t
  have g2 : ∀ t : Fin 16, iblk m c 2 t = _ := fun t => (gain2 m c t).trans h2.symm
  have g3 : ∀ t : Fin 16, iblk m c 3 t = _ := fun t => (gain3 m c t).trans h3.symm
  have r4 : ∀ t, Rows (n := 1024) (φ := .f32) t (iblk m c 4 t) _ := fun t => h4 ▸ rows4 m c t
  have r5 : ∀ t, Rows (n := 1024) (φ := .f32) t (iblk m c 5 t) _ := fun t => h5 ▸ rows5 m c t
  have dx : ∀ t, Rows (n := 1024) (φ := .f32) t (dx1 m c t) (Cert.MidBwdRefIdeal.Value.res_main_v55 m' c) := fun t =>
    (Blocks.pull_add (r4 t) (Blocks.add (r0 t) (Blocks.mul (Blocks.scaled (r1 t)) (Blocks.gain (g2 t)))) (Blocks.mul (r5 t) (Blocks.gain (g3 t)))
        (Blocks.root (Blocks.meanSq (Blocks.add (r0 t) (Blocks.mul (Blocks.scaled (r1 t)) (Blocks.gain (g2 t))))))
        (Blocks.slope (Blocks.add (r0 t) (Blocks.mul (Blocks.scaled (r1 t)) (Blocks.gain (g2 t)))) (Blocks.mul (r5 t) (Blocks.gain (g3 t)))
          (Blocks.meanSq (Blocks.add (r0 t) (Blocks.mul (Blocks.scaled (r1 t)) (Blocks.gain (g2 t))))) (Blocks.root (Blocks.meanSq (Blocks.add (r0 t) (Blocks.mul (Blocks.scaled (r1 t)) (Blocks.gain (g2 t))))))))
  refine ⟨o6.trans ((dats m 0 c).arrAt_eq_of_covers 6 _ (by decide +kernel) fun t _ y => ?_).symm,
    o7.trans ((dats m 0 c).arrAt_eq_of_covers 7 _ (by decide +kernel) fun t _ y => ?_).symm,
    o8.trans ((dats m 0 c).arrAt_eq_of_after_last 8 t0_15 (by decide +kernel) _ fun y => ?_).symm,
    o9.trans ((dats m 0 c).arrAt_eq_of_after_last 9 t0_15 (by decide +kernel) _ fun y => ?_).symm, hk⟩ <;> clear o6 o7 o8 o9
  · blk_simp
    rw [after0_6, (rows_out m c t).1]
    exact (dx t y).trans (congrArg _ (at6 t y))
  · blk_simp
    rw [after0_7, (rows_out m c t).2]
    exact (Blocks.cut (Blocks.pull (r1 t) (Blocks.mul (Blocks.same (dx t)) (Blocks.gain (g2 t)))
        (Blocks.root (Blocks.meanSq (r1 t)))
        (Blocks.slope (r1 t) (Blocks.mul (Blocks.same (dx t)) (Blocks.gain (g2 t)))
          (Blocks.meanSq (r1 t)) (Blocks.root (Blocks.meanSq (r1 t))))) y).trans (congrArg _ (at7 t y))
  · blk_simp
    rw [after0_8, total2]
    unfold part2 k0_pay15
    exact Blocks.total (fun t => Blocks.mul (Blocks.scaled (r1 t)) (Blocks.same (dx t))) y
  · blk_simp
    rw [after0_9, total3]
    unfold part3 k0_pay12 k0_pay11
    exact Blocks.total (fun t => Blocks.mul (Blocks.scaled (Blocks.add (r0 t) (Blocks.mul (Blocks.scaled (r1 t)) (Blocks.gain (g2 t))))) (r5 t)) y

end Exchange.NormJoinBwd
end
-- ==== Proof.Products.lean ====
/-
# The products of the rows by the weights

A point's block is 1024 rows by up to 512 columns, each entry the whole sum over the contracted axis: the entry of the whole
product at its place.
-/
module

public import proofs.«01_k».proof.Defs
public import proofs.«01_k».proof.Proof.Gen.InAbIdeal.Value
public import proofs.«01_k».proof.Proof.Gen.InAbRefIdeal.Run
public import proofs.«01_k».proof.Proof.Gen.OutAbIdeal.Value
public import proofs.«01_k».proof.Proof.Gen.OutAbRefIdeal.Run
public import proofs.«01_k».proof.Proof.Gen.InCIdeal.Value
public import proofs.«01_k».proof.Proof.Gen.InCRefIdeal.Run
public import proofs.«01_k».proof.Proof.Gen.InDtIdeal.Value
public import proofs.«01_k».proof.Proof.Gen.InDtRefIdeal.Run
public import proofs.«01_k».proof.Proof.Gen.OutCIdeal.Value
public import proofs.«01_k».proof.Proof.Gen.OutCRefIdeal.Run
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.Products

/-! ### Into the attention and retention mixers -/

namespace InAb
open Cert.InAbIdeal Cert.InAbIdeal.Gen

theorem idx : ∀ t : Fin grid0.N, win0_0.index t = ![t.val / 7, 0] ∧ win0_1.index t = ![0, t.val % 7] ∧ win0_2.index t = ![t.val / 7, t.val % 7] := by
  decide +kernel

theorem values : Cert.algebraic_InAbIdeal_InAbRefIdeal := by
  intro m g m' g' _ hagree
  refine ⟨fun c => (dats m 0 c).arrAt 2 cfg0.N,
    Value.run_blocks m g, (θ_run Cert.InAbRefIdeal.defs _ _).mono ?_ (Cert.InAbRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 56 := lt_of_lt_of_eq t.isLt N_0
  blk_simp
  simp only [after0_2]
  frame_out
  pointwise
  blk_point [iblk, V, i0, i1, i2]

end InAb

/-! ### Out of them -/

namespace OutAb
open Cert.OutAbIdeal Cert.OutAbIdeal.Gen

theorem idx : ∀ t : Fin grid0.N, win0_0.index t = ![t.val / 2, 0] ∧ win0_1.index t = ![0, t.val % 2] ∧ win0_2.index t = ![t.val / 2, t.val % 2] := by
  decide +kernel

theorem values : Cert.algebraic_OutAbIdeal_OutAbRefIdeal := by
  intro m g m' g' _ hagree
  refine ⟨fun c => (dats m 0 c).arrAt 2 cfg0.N,
    Value.run_blocks m g, (θ_run Cert.OutAbRefIdeal.defs _ _).mono ?_ (Cert.OutAbRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 16 := lt_of_lt_of_eq t.isLt N_0
  blk_simp
  simp only [after0_2]
  frame_out
  pointwise
  blk_point [iblk, V, i0, i1, i2]

end OutAb

/-! ### Into the state-space mixer -/

namespace InC
open Cert.InCIdeal Cert.InCIdeal.Gen

theorem idx : ∀ t : Fin grid0.N, win0_0.index t = ![t.val / 10, 0] ∧ win0_1.index t = ![0, t.val % 10] ∧ win0_2.index t = ![t.val / 10, t.val % 10] := by
  decide +kernel

theorem values : Cert.algebraic_InCIdeal_InCRefIdeal := by
  intro m g m' g' _ hagree
  refine ⟨fun c => (dats m 0 c).arrAt 2 cfg0.N,
    Value.run_blocks m g, (θ_run Cert.InCRefIdeal.defs _ _).mono ?_ (Cert.InCRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 80 := lt_of_lt_of_eq t.isLt N_0
  blk_simp
  simp only [after0_2]
  frame_out
  pointwise
  blk_point [iblk, V, i0, i1, i2]

end InC

/-! ### Into its time steps -/

namespace InDt
open Cert.InDtIdeal Cert.InDtIdeal.Gen

theorem idx : ∀ t : Fin grid0.N, win0_0.index t = ![t.val / 1, 0] ∧ win0_1.index t = ![0, t.val % 1] ∧ win0_2.index t = ![t.val / 1, t.val % 1] := by
  decide +kernel

theorem values : Cert.algebraic_InDtIdeal_InDtRefIdeal := by
  intro m g m' g' _ hagree
  refine ⟨fun c => (dats m 0 c).arrAt 2 cfg0.N,
    Value.run_blocks m g, (θ_run Cert.InDtRefIdeal.defs _ _).mono ?_ (Cert.InDtRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 8 := lt_of_lt_of_eq t.isLt N_0
  blk_simp
  simp only [after0_2]
  frame_out
  pointwise
  blk_point [iblk, V, i0, i1, i2]

end InDt

/-! ### Out of it -/

namespace OutC
open Cert.OutCIdeal Cert.OutCIdeal.Gen

theorem idx : ∀ t : Fin grid0.N, win0_0.index t = ![t.val / 2, 0] ∧ win0_1.index t = ![0, t.val % 2] ∧ win0_2.index t = ![t.val / 2, t.val % 2] := by
  decide +kernel

theorem values : Cert.algebraic_OutCIdeal_OutCRefIdeal := by
  intro m g m' g' _ hagree
  refine ⟨fun c => (dats m 0 c).arrAt 2 cfg0.N,
    Value.run_blocks m g, (θ_run Cert.OutCRefIdeal.defs _ _).mono ?_ (Cert.OutCRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 16 := lt_of_lt_of_eq t.isLt N_0
  blk_simp
  simp only [after0_2]
  frame_out
  pointwise
  blk_point [iblk, V, i0, i1, i2]

end OutC

/-! ### Into the channel mixer -/

namespace Up
open Cert.UpIdeal Cert.UpIdeal.Gen

theorem idx : ∀ t : Fin grid0.N, win0_0.index t = ![t.val / 11, 0] ∧ win0_1.index t = ![0, t.val % 11] ∧ win0_2.index t = ![t.val / 11, t.val % 11] := by
  decide +kernel

theorem values : Cert.algebraic_UpIdeal_UpRefIdeal := by
  intro m g m' g' _ hagree
  refine ⟨fun c => (dats m 0 c).arrAt 2 cfg0.N,
    Value.run_blocks m g, (θ_run Cert.UpRefIdeal.defs _ _).mono ?_ (Cert.UpRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 88 := lt_of_lt_of_eq t.isLt N_0
  blk_simp
  simp only [after0_2]
  frame_out
  pointwise
  blk_point [iblk, V, i0, i1, i2]

end Up

/-! ### Out of it -/

namespace Down
open Cert.DownIdeal Cert.DownIdeal.Gen

theorem idx : ∀ t : Fin grid0.N, win0_0.index t = ![t.val / 2, 0] ∧ win0_1.index t = ![0, t.val % 2] ∧ win0_2.index t = ![t.val / 2, t.val % 2] := by
  decide +kernel

theorem values : Cert.algebraic_DownIdeal_DownRefIdeal := by
  intro m g m' g' _ hagree
  refine ⟨fun c => (dats m 0 c).arrAt 2 cfg0.N,
    Value.run_blocks m g, (θ_run Cert.DownRefIdeal.defs _ _).mono ?_ (Cert.DownRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 16 := lt_of_lt_of_eq t.isLt N_0
  blk_simp
  simp only [after0_2]
  frame_out
  pointwise
  blk_point [iblk, V, i0, i1, i2]

end Down

end Exchange.Products
end
-- ==== Proof.ProductsDx.lean ====
/-
# The products' derivatives in the rows

The same with the weights transposed: a point's entries are whole sums over the weights' columns.
-/
module

public import proofs.«01_k».proof.Defs
public import proofs.«01_k».proof.Proof.Gen.InAbDxIdeal.Value
public import proofs.«01_k».proof.Proof.Gen.InAbDxRefIdeal.Run
public import proofs.«01_k».proof.Proof.Gen.OutAbDxIdeal.Value
public import proofs.«01_k».proof.Proof.Gen.OutAbDxRefIdeal.Run
public import proofs.«01_k».proof.Proof.Gen.InCDxIdeal.Value
public import proofs.«01_k».proof.Proof.Gen.InCDxRefIdeal.Run
public import proofs.«01_k».proof.Proof.Gen.InDtDxIdeal.Value
public import proofs.«01_k».proof.Proof.Gen.InDtDxRefIdeal.Run
public import proofs.«01_k».proof.Proof.Gen.OutCDxIdeal.Value
public import proofs.«01_k».proof.Proof.Gen.OutCDxRefIdeal.Run
public import proofs.«01_k».proof.Proof.Gen.UpDxIdeal.Value
public import proofs.«01_k».proof.Proof.Gen.UpDxRefIdeal.Run
public import proofs.«01_k».proof.Proof.Gen.DownDxIdeal.Value
public import proofs.«01_k».proof.Proof.Gen.DownDxRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.ProductsDx

/-! ### Into the attention and retention mixers -/

namespace InAbDx
open Cert.InAbDxIdeal Cert.InAbDxIdeal.Gen

theorem idx : ∀ t : Fin grid0.N, win0_0.index t = ![t.val / 2, 0] ∧ win0_1.index t = ![t.val % 2, 0] ∧ win0_2.index t = ![t.val / 2, t.val % 2] := by
  decide +kernel

theorem values : Cert.algebraic_InAbDxIdeal_InAbDxRefIdeal := by
  intro m g m' g' _ hagree
  refine ⟨fun c => (dats m 0 c).arrAt 2 cfg0.N,
    Value.run_blocks m g, (θ_run Cert.InAbDxRefIdeal.defs _ _).mono ?_ (Cert.InAbDxRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 16 := lt_of_lt_of_eq t.isLt N_0
  blk_simp
  simp only [after0_2]
  frame_out
  pointwise
  blk_point [iblk, V, i0, i1, i2]

end InAbDx

/-! ### Out of them -/

namespace OutAbDx
open Cert.OutAbDxIdeal Cert.OutAbDxIdeal.Gen

theorem idx : ∀ t : Fin grid0.N, win0_0.index t = ![t.val / 1, 0] ∧ win0_1.index t = ![t.val % 1, 0] ∧ win0_2.index t = ![t.val / 1, t.val % 1] := by
  decide +kernel

theorem values : Cert.algebraic_OutAbDxIdeal_OutAbDxRefIdeal := by
  intro m g m' g' _ hagree
  refine ⟨fun c => (dats m 0 c).arrAt 2 cfg0.N,
    Value.run_blocks m g, (θ_run Cert.OutAbDxRefIdeal.defs _ _).mono ?_ (Cert.OutAbDxRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 8 := lt_of_lt_of_eq t.isLt N_0
  blk_simp
  simp only [after0_2]
  frame_out
  pointwise
  blk_point [iblk, V, i0, i1, i2]

end OutAbDx

/-! ### Into the state-space mixer, with the cotangent from the time steps added -/

namespace InCDx
open Cert.InCDxIdeal Cert.InCDxIdeal.Gen

theorem idx : ∀ t : Fin grid0.N, win0_0.index t = ![t.val / 2, 0] ∧ win0_1.index t = ![t.val % 2, 0] ∧ win0_2.index t = ![t.val / 2, t.val % 2] ∧ win0_3.index t = ![t.val / 2, t.val % 2] := by
  decide +kernel

theorem values : Cert.algebraic_InCDxIdeal_InCDxRefIdeal := by
  intro m g m' g' _ hagree
  refine ⟨fun c => (dats m 0 c).arrAt 3 cfg0.N,
    Value.run_blocks m g, (θ_run Cert.InCDxRefIdeal.defs _ _).mono ?_ (Cert.InCDxRefIdeal.Value.run m' g')⟩
  intro r h c
  obtain ⟨h0, h1, h2⟩ := hagree c
  obtain ⟨h, hk⟩ := h c
  simp only [h0, h1, h2] at h
  refine ⟨h.trans ((dats m 0 c).arrAt_eq_of_covers 3 _ (by decide +kernel) fun t _ y => ?_).symm, hk⟩
  obtain ⟨i0, i1, i2, i3⟩ := idx t
  have hN : t.val < 16 := lt_of_lt_of_eq t.isLt N_0
  blk_simp
  simp only [after0_3]
  frame_out
  pointwise
  blk_point [iblk, V, i0, i1, i2, i3]

end InCDx

/-! ### Into its time steps -/

namespace InDtDx
open Cert.InDtDxIdeal Cert.InDtDxIdeal.Gen

theorem idx : ∀ t : Fin grid0.N, win0_0.index t = ![t.val / 1, 0] ∧ win0_1.index t = ![t.val % 1, 0] ∧ win0_2.index t = ![t.val / 1, t.val % 1] := by
  decide +kernel

theorem values : Cert.algebraic_InDtDxIdeal_InDtDxRefIdeal := by
  intro m g m' g' _ hagree
  refine ⟨fun c => (dats m 0 c).arrAt 2 cfg0.N,
    Value.run_blocks m g, (θ_run Cert.InDtDxRefIdeal.defs _ _).mono ?_ (Cert.InDtDxRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 8 := lt_of_lt_of_eq t.isLt N_0
  blk_simp
  simp only [after0_2]
  frame_out
  pointwise
  blk_point [iblk, V, i0, i1, i2]

end InDtDx

/-! ### Out of it -/

namespace OutCDx
open Cert.OutCDxIdeal Cert.OutCDxIdeal.Gen

theorem idx : ∀ t : Fin grid0.N, win0_0.index t = ![t.val / 2, 0] ∧ win0_1.index t = ![t.val % 2, 0] ∧ win0_2.index t = ![t.val / 2, t.val % 2] := by
  decide +kernel

theorem values : Cert.algebraic_OutCDxIdeal_OutCDxRefIdeal := by
  intro m g m' g' _ hagree
  refine ⟨fun c => (dats m 0 c).arrAt 2 cfg0.N,
    Value.run_blocks m g, (θ_run Cert.OutCDxRefIdeal.defs _ _).mono ?_ (Cert.OutCDxRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 16 := lt_of_lt_of_eq t.isLt N_0
  blk_simp
  simp only [after0_2]
  frame_out
  pointwise
  blk_point [iblk, V, i0, i1, i2]

end OutCDx

/-! ### Into the channel mixer -/

namespace UpDx
open Cert.UpDxIdeal Cert.UpDxIdeal.Gen

theorem idx : ∀ t : Fin grid0.N, win0_0.index t = ![t.val / 2, 0] ∧ win0_1.index t = ![t.val % 2, 0] ∧ win0_2.index t = ![t.val / 2, t.val % 2] := by
  decide +kernel

theorem values : Cert.algebraic_UpDxIdeal_UpDxRefIdeal := by
  intro m g m' g' _ hagree
  refine ⟨fun c => (dats m 0 c).arrAt 2 cfg0.N,
    Value.run_blocks m g, (θ_run Cert.UpDxRefIdeal.defs _ _).mono ?_ (Cert.UpDxRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 16 := lt_of_lt_of_eq t.isLt N_0
  blk_simp
  simp only [after0_2]
  frame_out
  pointwise
  blk_point [iblk, V, i0, i1, i2]

end UpDx

/-! ### Out of it -/

namespace DownDx
open Cert.DownDxIdeal Cert.DownDxIdeal.Gen

theorem idx : ∀ t : Fin grid0.N, win0_0.index t = ![t.val / 2, 0] ∧ win0_1.index t = ![t.val % 2, 0] ∧ win0_2.index t = ![t.val / 2, t.val % 2] := by
  decide +kernel

theorem values : Cert.algebraic_DownDxIdeal_DownDxRefIdeal := by
  intro m g m' g' _ hagree
  refine ⟨fun c => (dats m 0 c).arrAt 2 cfg0.N,
    Value.run_blocks m g, (θ_run Cert.DownDxRefIdeal.defs _ _).mono ?_ (Cert.DownDxRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t _ y => ?_).symm, hk⟩
  obtain ⟨i0, i1, i2⟩ := idx t
  have hN : t.val < 16 := lt_of_lt_of_eq t.isLt N_0
  blk_simp
  simp only [after0_2]
  frame_out
  pointwise
  blk_point [iblk, V, i0, i1, i2]

end DownDx

end Exchange.ProductsDx
end
-- ==== Proof.ProductsDw.lean ====
/-
# The products' derivatives in the weights

The rows are walked in four blocks and their products added up into the same block of the output: at the last of the
four its entries are the sums over all the rows.
-/
module

public import proofs.«01_k».proof.Defs
public import proofs.«01_k».proof.Proof.Gen.InAbDwIdeal.Value
public import proofs.«01_k».proof.Proof.Gen.InAbDwRefIdeal.Run
public import proofs.«01_k».proof.Proof.Gen.OutAbDwIdeal.Value
public import proofs.«01_k».proof.Proof.Gen.OutAbDwRefIdeal.Run
public import proofs.«01_k».proof.Proof.Gen.InCDwIdeal.Value
public import proofs.«01_k».proof.Proof.Gen.InCDwRefIdeal.Run
public import proofs.«01_k».proof.Proof.Gen.InDtDwIdeal.Value
public import proofs.«01_k».proof.Proof.Gen.InDtDwRefIdeal.Run
public import proofs.«01_k».proof.Proof.Gen.OutCDwIdeal.Value
public import proofs.«01_k».proof.Proof.Gen.OutCDwRefIdeal.Run
public import proofs.«01_k».proof.Proof.Gen.UpDwIdeal.Value
public import proofs.«01_k».proof.Proof.Gen.UpDwRefIdeal.Run
public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.ProductsDw

/-! ### Into the attention and retention mixers -/

namespace InAbDw
open Cert.InAbDwIdeal Cert.InAbDwIdeal.Gen

theorem idx : ∀ t : Fin grid0.N, win0_0.index t = ![t.val % 4, t.val / 28] ∧ win0_1.index t = ![t.val % 4, t.val / 4 % 7] ∧ win0_2.index t = ![t.val / 28, t.val / 4 % 7] := by
  decide +kernel

theorem step (a b v j) : k0_pay2 (F := Ideal) a b v j = v j + k0_pay1 (F := Ideal) a b j := by
  unfold k0_pay2
  pointwise

theorem values : Cert.algebraic_InAbDwIdeal_InAbDwRefIdeal := by
  intro m g m' g' _ hagree
  refine ⟨fun c => (dats m 0 c).arrAt 2 cfg0.N,
    Value.run_blocks m g, (θ_run Cert.InAbDwRefIdeal.defs _ _).mono ?_ (Cert.InAbDwRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t hf y => ?_).symm, hk⟩
  have hN : t.val < 28 := lt_of_lt_of_eq t.isLt N_0
  obtain ⟨-, -, i2⟩ := idx t
  rw [after0_2, Pipeline.eq_sum_fin_of_reset_step_apply_of_flush (fun n h => outsAt0 m c n h) 4 (fun _ => 0)
    (fun t => k0_pay1 (iblk m c 0 t) (iblk m c 1 t))
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step])
    t ((flush0_2 t).mp hf) y, zero_add]
  have h3 := (flush0_2 t).mp hf
  unfold k0_pay1
  blk_simp
  pointwise
  refine Fin.sum_mul_add_congr fun s k hl => ?_
  obtain ⟨i0, i1, -⟩ := idx ⟨4 * (t.val / 4) + s.val, Pipeline.run_point_lt_of_flush t h3 s⟩
  blk_point [iblk, V, i0, i1, i2]

end InAbDw

/-! ### Out of them -/

namespace OutAbDw
open Cert.OutAbDwIdeal Cert.OutAbDwIdeal.Gen

theorem idx : ∀ t : Fin grid0.N, win0_0.index t = ![t.val % 4, t.val / 8] ∧ win0_1.index t = ![t.val % 4, t.val / 4 % 2] ∧ win0_2.index t = ![t.val / 8, t.val / 4 % 2] := by
  decide +kernel

theorem step (a b v j) : k0_pay2 (F := Ideal) a b v j = v j + k0_pay1 (F := Ideal) a b j := by
  unfold k0_pay2
  pointwise

theorem values : Cert.algebraic_OutAbDwIdeal_OutAbDwRefIdeal := by
  intro m g m' g' _ hagree
  refine ⟨fun c => (dats m 0 c).arrAt 2 cfg0.N,
    Value.run_blocks m g, (θ_run Cert.OutAbDwRefIdeal.defs _ _).mono ?_ (Cert.OutAbDwRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t hf y => ?_).symm, hk⟩
  have hN : t.val < 8 := lt_of_lt_of_eq t.isLt N_0
  obtain ⟨-, -, i2⟩ := idx t
  rw [after0_2, Pipeline.eq_sum_fin_of_reset_step_apply_of_flush (fun n h => outsAt0 m c n h) 4 (fun _ => 0)
    (fun t => k0_pay1 (iblk m c 0 t) (iblk m c 1 t))
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step])
    t ((flush0_2 t).mp hf) y, zero_add]
  have h3 := (flush0_2 t).mp hf
  unfold k0_pay1
  blk_simp
  pointwise
  refine Fin.sum_mul_add_congr fun s k hl => ?_
  obtain ⟨i0, i1, -⟩ := idx ⟨4 * (t.val / 4) + s.val, Pipeline.run_point_lt_of_flush t h3 s⟩
  blk_point [iblk, V, i0, i1, i2]

end OutAbDw

/-! ### Into the state-space mixer -/

namespace InCDw
open Cert.InCDwIdeal Cert.InCDwIdeal.Gen

theorem idx : ∀ t : Fin grid0.N, win0_0.index t = ![t.val % 4, t.val / 40] ∧ win0_1.index t = ![t.val % 4, t.val / 4 % 10] ∧ win0_2.index t = ![t.val / 40, t.val / 4 % 10] := by
  decide +kernel

theorem step (a b v j) : k0_pay2 (F := Ideal) a b v j = v j + k0_pay1 (F := Ideal) a b j := by
  unfold k0_pay2
  pointwise

theorem values : Cert.algebraic_InCDwIdeal_InCDwRefIdeal := by
  intro m g m' g' _ hagree
  refine ⟨fun c => (dats m 0 c).arrAt 2 cfg0.N,
    Value.run_blocks m g, (θ_run Cert.InCDwRefIdeal.defs _ _).mono ?_ (Cert.InCDwRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t hf y => ?_).symm, hk⟩
  have hN : t.val < 40 := lt_of_lt_of_eq t.isLt N_0
  obtain ⟨-, -, i2⟩ := idx t
  rw [after0_2, Pipeline.eq_sum_fin_of_reset_step_apply_of_flush (fun n h => outsAt0 m c n h) 4 (fun _ => 0)
    (fun t => k0_pay1 (iblk m c 0 t) (iblk m c 1 t))
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step])
    t ((flush0_2 t).mp hf) y, zero_add]
  have h3 := (flush0_2 t).mp hf
  unfold k0_pay1
  blk_simp
  pointwise
  refine Fin.sum_mul_add_congr fun s k hl => ?_
  obtain ⟨i0, i1, -⟩ := idx ⟨4 * (t.val / 4) + s.val, Pipeline.run_point_lt_of_flush t h3 s⟩
  blk_point [iblk, V, i0, i1, i2]

end InCDw

/-! ### Into its time steps -/

namespace InDtDw
open Cert.InDtDwIdeal Cert.InDtDwIdeal.Gen

theorem idx : ∀ t : Fin grid0.N, win0_0.index t = ![t.val % 4, t.val / 4] ∧ win0_1.index t = ![t.val % 4, t.val / 4 % 1] ∧ win0_2.index t = ![t.val / 4, t.val / 4 % 1] := by
  decide +kernel

theorem step (a b v j) : k0_pay2 (F := Ideal) a b v j = v j + k0_pay1 (F := Ideal) a b j := by
  unfold k0_pay2
  pointwise

theorem values : Cert.algebraic_InDtDwIdeal_InDtDwRefIdeal := by
  intro m g m' g' _ hagree
  refine ⟨fun c => (dats m 0 c).arrAt 2 cfg0.N,
    Value.run_blocks m g, (θ_run Cert.InDtDwRefIdeal.defs _ _).mono ?_ (Cert.InDtDwRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t hf y => ?_).symm, hk⟩
  have hN : t.val < 4 := lt_of_lt_of_eq t.isLt N_0
  obtain ⟨-, -, i2⟩ := idx t
  rw [after0_2, Pipeline.eq_sum_fin_of_reset_step_apply_of_flush (fun n h => outsAt0 m c n h) 4 (fun _ => 0)
    (fun t => k0_pay1 (iblk m c 0 t) (iblk m c 1 t))
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step])
    t ((flush0_2 t).mp hf) y, zero_add]
  have h3 := (flush0_2 t).mp hf
  unfold k0_pay1
  blk_simp
  pointwise
  refine Fin.sum_mul_add_congr fun s k hl => ?_
  obtain ⟨i0, i1, -⟩ := idx ⟨4 * (t.val / 4) + s.val, Pipeline.run_point_lt_of_flush t h3 s⟩
  blk_point [iblk, V, i0, i1, i2]

end InDtDw

/-! ### Out of it -/

namespace OutCDw
open Cert.OutCDwIdeal Cert.OutCDwIdeal.Gen

theorem idx : ∀ t : Fin grid0.N, win0_0.index t = ![t.val % 4, t.val / 8] ∧ win0_1.index t = ![t.val % 4, t.val / 4 % 2] ∧ win0_2.index t = ![t.val / 8, t.val / 4 % 2] := by
  decide +kernel

theorem step (a b v j) : k0_pay2 (F := Ideal) a b v j = v j + k0_pay1 (F := Ideal) a b j := by
  unfold k0_pay2
  pointwise

theorem values : Cert.algebraic_OutCDwIdeal_OutCDwRefIdeal := by
  intro m g m' g' _ hagree
  refine ⟨fun c => (dats m 0 c).arrAt 2 cfg0.N,
    Value.run_blocks m g, (θ_run Cert.OutCDwRefIdeal.defs _ _).mono ?_ (Cert.OutCDwRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t hf y => ?_).symm, hk⟩
  have hN : t.val < 16 := lt_of_lt_of_eq t.isLt N_0
  obtain ⟨-, -, i2⟩ := idx t
  rw [after0_2, Pipeline.eq_sum_fin_of_reset_step_apply_of_flush (fun n h => outsAt0 m c n h) 4 (fun _ => 0)
    (fun t => k0_pay1 (iblk m c 0 t) (iblk m c 1 t))
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step])
    t ((flush0_2 t).mp hf) y, zero_add]
  have h3 := (flush0_2 t).mp hf
  unfold k0_pay1
  blk_simp
  pointwise
  refine Fin.sum_mul_add_congr fun s k hl => ?_
  obtain ⟨i0, i1, -⟩ := idx ⟨4 * (t.val / 4) + s.val, Pipeline.run_point_lt_of_flush t h3 s⟩
  blk_point [iblk, V, i0, i1, i2]

end OutCDw

/-! ### Into the channel mixer -/

namespace UpDw
open Cert.UpDwIdeal Cert.UpDwIdeal.Gen

theorem idx : ∀ t : Fin grid0.N, win0_0.index t = ![t.val % 4, t.val / 44] ∧ win0_1.index t = ![t.val % 4, t.val / 4 % 11] ∧ win0_2.index t = ![t.val / 44, t.val / 4 % 11] := by
  decide +kernel

theorem step (a b v j) : k0_pay2 (F := Ideal) a b v j = v j + k0_pay1 (F := Ideal) a b j := by
  unfold k0_pay2
  pointwise

theorem values : Cert.algebraic_UpDwIdeal_UpDwRefIdeal := by
  intro m g m' g' _ hagree
  refine ⟨fun c => (dats m 0 c).arrAt 2 cfg0.N,
    Value.run_blocks m g, (θ_run Cert.UpDwRefIdeal.defs _ _).mono ?_ (Cert.UpDwRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t hf y => ?_).symm, hk⟩
  have hN : t.val < 44 := lt_of_lt_of_eq t.isLt N_0
  obtain ⟨-, -, i2⟩ := idx t
  rw [after0_2, Pipeline.eq_sum_fin_of_reset_step_apply_of_flush (fun n h => outsAt0 m c n h) 4 (fun _ => 0)
    (fun t => k0_pay1 (iblk m c 0 t) (iblk m c 1 t))
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step])
    t ((flush0_2 t).mp hf) y, zero_add]
  have h3 := (flush0_2 t).mp hf
  unfold k0_pay1
  blk_simp
  pointwise
  refine Fin.sum_mul_add_congr fun s k hl => ?_
  obtain ⟨i0, i1, -⟩ := idx ⟨4 * (t.val / 4) + s.val, Pipeline.run_point_lt_of_flush t h3 s⟩
  blk_point [iblk, V, i0, i1, i2]

end UpDw

/-! ### Out of it -/

namespace DownDw
open Cert.DownDwIdeal Cert.DownDwIdeal.Gen

theorem idx : ∀ t : Fin grid0.N, win0_0.index t = ![t.val % 4, t.val / 8] ∧ win0_1.index t = ![t.val % 4, t.val / 4 % 2] ∧ win0_2.index t = ![t.val / 8, t.val / 4 % 2] := by
  decide +kernel

theorem step (a b v j) : k0_pay2 (F := Ideal) a b v j = v j + k0_pay1 (F := Ideal) a b j := by
  unfold k0_pay2
  pointwise

theorem values : Cert.algebraic_DownDwIdeal_DownDwRefIdeal := by
  intro m g m' g' _ hagree
  refine ⟨fun c => (dats m 0 c).arrAt 2 cfg0.N,
    Value.run_blocks m g, (θ_run Cert.DownDwRefIdeal.defs _ _).mono ?_ (Cert.DownDwRefIdeal.Value.run m' g')⟩
  intro r h c
  obtain ⟨h0, h1⟩ := hagree c
  obtain ⟨h, hk⟩ := h c
  simp only [h0, h1] at h
  refine ⟨h.trans ((dats m 0 c).arrAt_eq_of_covers 2 _ (by decide +kernel) fun t hf y => ?_).symm, hk⟩
  have hN : t.val < 16 := lt_of_lt_of_eq t.isLt N_0
  obtain ⟨-, -, i2⟩ := idx t
  rw [after0_2, Pipeline.eq_sum_fin_of_reset_step_apply_of_flush (fun n h => outsAt0 m c n h) 4 (fun _ => 0)
    (fun t => k0_pay1 (iblk m c 0 t) (iblk m c 1 t))
    (fun t h j => by have := lt_of_lt_of_eq t.isLt N_0; rw [outsAt0_A m c t h (by omega)]; frame_out; rw [zero_add])
    (fun t h j => by have := lt_of_lt_of_eq t.isLt N_0; rw [outsAt0_B m c t h (by omega)]; frame_out; rw [step])
    t ((flush0_2 t).mp hf) y, zero_add]
  have h3 := (flush0_2 t).mp hf
  unfold k0_pay1
  blk_simp
  pointwise
  refine Fin.sum_mul_add_congr fun s k hl => ?_
  obtain ⟨i0, i1, -⟩ := idx ⟨4 * (t.val / 4) + s.val, Pipeline.run_point_lt_of_flush t h3 s⟩
  blk_point [iblk, V, i0, i1, i2]

end DownDw

end Exchange.ProductsDw
end
-- ==== Proof.ColumnsIn.lean ====
/-
# The gathered weights' columns, laid out for the products

A point takes some rows of all eight slots and stores each run of columns at its place in the matrix. The runs cover the
point's block, and each holds the entries that the reference's reshapes and transposes put there. Values are only moved: the
proofs are over any floats.
-/
module

public import proofs.«01_k».proof.Defs
public import proofs.«01_k».proof.Proof.Gen.ColsAbIdeal.Value
public import proofs.«01_k».proof.Proof.Gen.ColsAbRefIdeal.Run
public import proofs.«01_k».proof.Proof.Gen.ColsCIdeal.Value
public import proofs.«01_k».proof.Proof.Gen.ColsCRefIdeal.Run
public import proofs.«01_k».proof.Proof.Gen.ColsUpIdeal.Value
public import proofs.«01_k».proof.Proof.Gen.ColsUpRefIdeal.Run
public import Idealize.ShloMosaic.Lib.Pipeline.ValueKit
public import Idealize.ShloMosaic.Lib.Pipeline.ValueKit.Point
public import Idealize.ShloMosaic.Lib.Pipeline.ValueKit.Tiles
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.ColumnsIn

variable {F : FTy → Type} [FloatOps F]

/-! ### The weights into the attention and retention mixers -/

namespace ColsAb
open Cert.ColsAbIdeal Cert.ColsAbIdeal.Gen

/-- A point's blocks. -/
theorem idx : ∀ t : Fin grid0.N, win0_0.index t = ![0, t.val, 0] ∧ win0_1.index t = ![t.val, 0] := by
  decide +kernel

/-- Both programs end with the same array. -/
theorem values (m : (ℓ : Loc nD τ sig) → Buf (Elt F) ℓ) (g : Dev nD → PrngReg)
    (m' : (ℓ : Loc Cert.ColsAbRefIdeal.nD Cert.ColsAbRefIdeal.τ Cert.ColsAbRefIdeal.sig) → Buf (Elt F) ℓ) (g' : Dev Cert.ColsAbRefIdeal.nD → PrngReg)
    (h : ∀ c : Dev nD, m' (c.tc.loc Cert.ColsAbRefIdeal.main_arg0) = m (c.tc.loc main_arg0)) :
    ∃ (v0 : (c : Dev nD) → Buf (Elt F) (c.tc.loc main_v0)),
      θ_run (defs (F := F)) (onTc main) ⟨m, fun _ => 0, g⟩ (fun r => ∀ c : Dev nD,
        r.2.mem (c.tc.loc main_v0) = v0 c ∧ r.2.mem (c.tc.loc main_arg0) = m (c.tc.loc main_arg0))
      ∧ θ_run (Cert.ColsAbRefIdeal.defs (F := F)) (onTc Cert.ColsAbRefIdeal.main) ⟨m', fun _ => 0, g'⟩ (fun r => ∀ c : Dev Cert.ColsAbRefIdeal.nD,
        r.2.mem (c.tc.loc Cert.ColsAbRefIdeal.main_v1) = v0 c ∧ r.2.mem (c.tc.loc Cert.ColsAbRefIdeal.main_arg0) = m' (c.tc.loc Cert.ColsAbRefIdeal.main_arg0)) := by
  refine ⟨fun c => (dats m 0 c).arrAt 1 cfg0.N,
    Value.run_blocks m g, (θ_run Cert.ColsAbRefIdeal.defs _ _).mono ?_ (Cert.ColsAbRefIdeal.Value.run m' g')⟩
  intro r hr c
  obtain h0 := h c
  obtain ⟨e0, hk⟩ := hr c
  simp only [h0] at e0
  refine ⟨e0.trans ((dats m 0 c).arrAt_eq_of_covers 1 _ (by decide +kernel) fun t _ y => ?_).symm, hk⟩
  obtain ⟨i0, i1⟩ := idx t
  have hN : t.val < 8 := lt_of_lt_of_eq t.isLt N_0
  blk_simp
  simp only [after0_1]
  pointwise
  canon_tiles x e
  all_goals
    open_payloads
    pointwise
    blk_point [iblk, V, i0, i1]

end ColsAb

/-! ### Those into the state-space mixer, and into its time steps -/

namespace ColsC
open Cert.ColsCIdeal Cert.ColsCIdeal.Gen

/-- A point's blocks. -/
theorem idx : ∀ t : Fin grid0.N, win0_0.index t = ![0, t.val, 0] ∧ win0_1.index t = ![t.val, 0] ∧ win0_2.index t = ![t.val, 0] := by
  decide +kernel

/-- Both programs end with the same arrays. -/
theorem values (m : (ℓ : Loc nD τ sig) → Buf (Elt F) ℓ) (g : Dev nD → PrngReg)
    (m' : (ℓ : Loc Cert.ColsCRefIdeal.nD Cert.ColsCRefIdeal.τ Cert.ColsCRefIdeal.sig) → Buf (Elt F) ℓ) (g' : Dev Cert.ColsCRefIdeal.nD → PrngReg)
    (h : ∀ c : Dev nD, m' (c.tc.loc Cert.ColsCRefIdeal.main_arg0) = m (c.tc.loc main_arg0)) :
    ∃ (v0 : (c : Dev nD) → Buf (Elt F) (c.tc.loc main_v0_0)) (v1 : (c : Dev nD) → Buf (Elt F) (c.tc.loc main_v0_1)),
      θ_run (defs (F := F)) (onTc main) ⟨m, fun _ => 0, g⟩ (fun r => ∀ c : Dev nD,
        r.2.mem (c.tc.loc main_v0_0) = v0 c ∧ r.2.mem (c.tc.loc main_v0_1) = v1 c ∧ r.2.mem (c.tc.loc main_arg0) = m (c.tc.loc main_arg0))
      ∧ θ_run (Cert.ColsCRefIdeal.defs (F := F)) (onTc Cert.ColsCRefIdeal.main) ⟨m', fun _ => 0, g'⟩ (fun r => ∀ c : Dev Cert.ColsCRefIdeal.nD,
        r.2.mem (c.tc.loc Cert.ColsCRefIdeal.main_v2) = v0 c ∧ r.2.mem (c.tc.loc Cert.ColsCRefIdeal.main_v3) = v1 c ∧ r.2.mem (c.tc.loc Cert.ColsCRefIdeal.main_arg0) = m' (c.tc.loc Cert.ColsCRefIdeal.main_arg0)) := by
  refine ⟨fun c => (dats m 0 c).arrAt 1 cfg0.N, fun c => (dats m 0 c).arrAt 2 cfg0.N,
    Value.run_blocks m g, (θ_run Cert.ColsCRefIdeal.defs _ _).mono ?_ (Cert.ColsCRefIdeal.Value.run m' g')⟩
  intro r hr c
  obtain h0 := h c
  obtain ⟨e0, e1, hk⟩ := hr c
  simp only [h0] at e0  e1
  refine ⟨e0.trans ((dats m 0 c).arrAt_eq_of_covers 1 _ (by decide +kernel) fun t _ y => ?_).symm, e1.trans ((dats m 0 c).arrAt_eq_of_covers 2 _ (by decide +kernel) fun t _ y => ?_).symm, hk⟩
  · obtain ⟨i0, i1, i2⟩ := idx t
    have hN : t.val < 8 := lt_of_lt_of_eq t.isLt N_0
    blk_simp
    simp only [after0_1]
    unfold outsAt0
    frame_out
    pointwise
    canon_tiles x e using View.cover_of_tiledBy _ ![256, 8] (by sl_kernel_rfl) y
    all_goals
      open_payloads
      pointwise
      blk_point [iblk, V, i0, i1, i2]
  · obtain ⟨i0, i1, i2⟩ := idx t
    have hN : t.val < 8 := lt_of_lt_of_eq t.isLt N_0
    blk_simp
    simp only [after0_2]
    unfold outsAt0
    frame_out
    pointwise
    open_payloads
    pointwise
    blk_point [iblk, V, i0, i1, i2]

end ColsC

/-! ### Those into the channel mixer -/

namespace ColsUp
open Cert.ColsUpIdeal Cert.ColsUpIdeal.Gen

/-- A point's blocks. -/
theorem idx : ∀ t : Fin grid0.N, win0_0.index t = ![0, t.val, 0] ∧ win0_1.index t = ![t.val, 0] := by
  decide +kernel

/-- Both programs end with the same array. -/
theorem values (m : (ℓ : Loc nD τ sig) → Buf (Elt F) ℓ) (g : Dev nD → PrngReg)
    (m' : (ℓ : Loc Cert.ColsUpRefIdeal.nD Cert.ColsUpRefIdeal.τ Cert.ColsUpRefIdeal.sig) → Buf (Elt F) ℓ) (g' : Dev Cert.ColsUpRefIdeal.nD → PrngReg)
    (h : ∀ c : Dev nD, m' (c.tc.loc Cert.ColsUpRefIdeal.main_arg0) = m (c.tc.loc main_arg0)) :
    ∃ (v0 : (c : Dev nD) → Buf (Elt F) (c.tc.loc main_v0)),
      θ_run (defs (F := F)) (onTc main) ⟨m, fun _ => 0, g⟩ (fun r => ∀ c : Dev nD,
        r.2.mem (c.tc.loc main_v0) = v0 c ∧ r.2.mem (c.tc.loc main_arg0) = m (c.tc.loc main_arg0))
      ∧ θ_run (Cert.ColsUpRefIdeal.defs (F := F)) (onTc Cert.ColsUpRefIdeal.main) ⟨m', fun _ => 0, g'⟩ (fun r => ∀ c : Dev Cert.ColsUpRefIdeal.nD,
        r.2.mem (c.tc.loc Cert.ColsUpRefIdeal.main_v4) = v0 c ∧ r.2.mem (c.tc.loc Cert.ColsUpRefIdeal.main_arg0) = m' (c.tc.loc Cert.ColsUpRefIdeal.main_arg0)) := by
  refine ⟨fun c => (dats m 0 c).arrAt 1 cfg0.N,
    Value.run_blocks m g, (θ_run Cert.ColsUpRefIdeal.defs _ _).mono ?_ (Cert.ColsUpRefIdeal.Value.run m' g')⟩
  intro r hr c
  obtain h0 := h c
  obtain ⟨e0, hk⟩ := hr c
  simp only [h0] at e0
  refine ⟨e0.trans ((dats m 0 c).arrAt_eq_of_covers 1 _ (by decide +kernel) fun t _ y => ?_).symm, hk⟩
  obtain ⟨i0, i1⟩ := idx t
  have hN : t.val < 16 := lt_of_lt_of_eq t.isLt N_0
  blk_simp
  simp only [after0_1]
  unfold outsAt0
  frame_out
  pointwise
  canon_tiles x e using View.cover_of_tiledBy _ ![256, 64] (by sl_kernel_rfl) y
  all_goals
    open_payloads
    pointwise
    blk_point [iblk, V, i0, i1]

end ColsUp

end Exchange.ColumnsIn
end
-- ==== Proof.ColumnsOut.lean ====
/-
# The weights' gradients, dealt to the devices' slots

The moves the other way: a point takes some rows of a matrix and stores each run of columns in its slot, rounded to bf16. The
reference rounds and moves the whole matrix. Both round the same entries, so the proofs are over any floats.
-/
module

public import proofs.«01_k».proof.Defs
public import proofs.«01_k».proof.Proof.Gen.SlotsAbIdeal.Value
public import proofs.«01_k».proof.Proof.Gen.SlotsAbRefIdeal.Run
public import proofs.«01_k».proof.Proof.Gen.SlotsCIdeal.Value
public import proofs.«01_k».proof.Proof.Gen.SlotsCRefIdeal.Run
public import proofs.«01_k».proof.Proof.Gen.SlotsUpIdeal.Value
public import proofs.«01_k».proof.Proof.Gen.SlotsUpRefIdeal.Run
public import Idealize.ShloMosaic.Lib.Pipeline.ValueKit
public import Idealize.ShloMosaic.Lib.Pipeline.ValueKit.Point
public import Idealize.ShloMosaic.Lib.Pipeline.ValueKit.Tiles
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.ColumnsOut

variable {F : FTy → Type} [FloatOps F]

/-! ### Into the attention and retention mixers -/

namespace SlotsAb
open Cert.SlotsAbIdeal Cert.SlotsAbIdeal.Gen

/-- A point's blocks. -/
theorem idx : ∀ t : Fin grid0.N, win0_0.index t = ![t.val, 0] ∧ win0_1.index t = ![0, t.val, 0] := by
  decide +kernel

/-- Both programs end with the same array. -/
theorem values (m : (ℓ : Loc nD τ sig) → Buf (Elt F) ℓ) (g : Dev nD → PrngReg)
    (m' : (ℓ : Loc Cert.SlotsAbRefIdeal.nD Cert.SlotsAbRefIdeal.τ Cert.SlotsAbRefIdeal.sig) → Buf (Elt F) ℓ) (g' : Dev Cert.SlotsAbRefIdeal.nD → PrngReg)
    (h : ∀ c : Dev nD, m' (c.tc.loc Cert.SlotsAbRefIdeal.main_arg0) = m (c.tc.loc main_arg0)) :
    ∃ (v0 : (c : Dev nD) → Buf (Elt F) (c.tc.loc main_v0)),
      θ_run (defs (F := F)) (onTc main) ⟨m, fun _ => 0, g⟩ (fun r => ∀ c : Dev nD,
        r.2.mem (c.tc.loc main_v0) = v0 c ∧ r.2.mem (c.tc.loc main_arg0) = m (c.tc.loc main_arg0))
      ∧ θ_run (Cert.SlotsAbRefIdeal.defs (F := F)) (onTc Cert.SlotsAbRefIdeal.main) ⟨m', fun _ => 0, g'⟩ (fun r => ∀ c : Dev Cert.SlotsAbRefIdeal.nD,
        r.2.mem (c.tc.loc Cert.SlotsAbRefIdeal.main_v2) = v0 c ∧ r.2.mem (c.tc.loc Cert.SlotsAbRefIdeal.main_arg0) = m' (c.tc.loc Cert.SlotsAbRefIdeal.main_arg0)) := by
  refine ⟨fun c => (dats m 0 c).arrAt 1 cfg0.N,
    Value.run_blocks m g, (θ_run Cert.SlotsAbRefIdeal.defs _ _).mono ?_ (Cert.SlotsAbRefIdeal.Value.run m' g')⟩
  intro r hr c
  obtain h0 := h c
  obtain ⟨e0, hk⟩ := hr c
  simp only [h0] at e0
  refine ⟨e0.trans ((dats m 0 c).arrAt_eq_of_covers 1 _ (by decide +kernel) fun t _ y => ?_).symm, hk⟩
  obtain ⟨i0, i1⟩ := idx t
  have hN : t.val < 4 := lt_of_lt_of_eq t.isLt N_0
  blk_simp
  simp only [after0_1]
  pointwise
  canon_tiles x e
  all_goals
    open_payloads
    pointwise
    blk_point [iblk, V, i0, i1]

end SlotsAb

/-! ### Into the state-space mixer, with its time steps -/

namespace SlotsC
open Cert.SlotsCIdeal Cert.SlotsCIdeal.Gen

/-- A point's blocks. -/
theorem idx : ∀ t : Fin grid0.N, win0_0.index t = ![t.val, 0] ∧ win0_1.index t = ![t.val, 0] ∧ win0_2.index t = ![0, t.val, 0] := by
  decide +kernel

/-- Both programs end with the same array. -/
theorem values (m : (ℓ : Loc nD τ sig) → Buf (Elt F) ℓ) (g : Dev nD → PrngReg)
    (m' : (ℓ : Loc Cert.SlotsCRefIdeal.nD Cert.SlotsCRefIdeal.τ Cert.SlotsCRefIdeal.sig) → Buf (Elt F) ℓ) (g' : Dev Cert.SlotsCRefIdeal.nD → PrngReg)
    (h : ∀ c : Dev nD, m' (c.tc.loc Cert.SlotsCRefIdeal.main_arg0) = m (c.tc.loc main_arg0) ∧ m' (c.tc.loc Cert.SlotsCRefIdeal.main_arg1) = m (c.tc.loc main_arg1)) :
    ∃ (v0 : (c : Dev nD) → Buf (Elt F) (c.tc.loc main_v0)),
      θ_run (defs (F := F)) (onTc main) ⟨m, fun _ => 0, g⟩ (fun r => ∀ c : Dev nD,
        r.2.mem (c.tc.loc main_v0) = v0 c ∧ r.2.mem (c.tc.loc main_arg0) = m (c.tc.loc main_arg0) ∧ r.2.mem (c.tc.loc main_arg1) = m (c.tc.loc main_arg1))
      ∧ θ_run (Cert.SlotsCRefIdeal.defs (F := F)) (onTc Cert.SlotsCRefIdeal.main) ⟨m', fun _ => 0, g'⟩ (fun r => ∀ c : Dev Cert.SlotsCRefIdeal.nD,
        r.2.mem (c.tc.loc Cert.SlotsCRefIdeal.main_v3) = v0 c ∧ r.2.mem (c.tc.loc Cert.SlotsCRefIdeal.main_arg0) = m' (c.tc.loc Cert.SlotsCRefIdeal.main_arg0) ∧ r.2.mem (c.tc.loc Cert.SlotsCRefIdeal.main_arg1) = m' (c.tc.loc Cert.SlotsCRefIdeal.main_arg1)) := by
  refine ⟨fun c => (dats m 0 c).arrAt 2 cfg0.N,
    Value.run_blocks m g, (θ_run Cert.SlotsCRefIdeal.defs _ _).mono ?_ (Cert.SlotsCRefIdeal.Value.run m' g')⟩
  intro r hr c
  obtain ⟨h0, h1⟩ := h c
  obtain ⟨e0, hk⟩ := hr c
  simp only [h0, h1] at e0
  refine ⟨e0.trans ((dats m 0 c).arrAt_eq_of_covers 2 _ (by decide +kernel) fun t _ y => ?_).symm, hk⟩
  obtain ⟨i0, i1, i2⟩ := idx t
  have hN : t.val < 4 := lt_of_lt_of_eq t.isLt N_0
  blk_simp
  simp only [after0_2]
  unfold outsAt0
  frame_out
  pointwise
  simp only [h0, h1]
  have v0 : ((((View.whole main_v0).slice (win0_2.rect t)).emb y 0 : Fin _) : Nat) = (y 0).val := by blk_simp [i2]; try omega
  have v2 : ((((View.whole main_v0).slice (win0_2.rect t)).emb y 2 : Fin _) : Nat) = (y 2).val := by blk_simp [i2]; try omega
  canon_tiles x e using View.cover_of_tiledBy _ ![1, 256, 8] (by sl_kernel_rfl) y
  all_goals
    open_payloads
    pointwise
    blk_point [iblk, V, i0, i1, i2]
  all_goals (exfalso; omega)

end SlotsC

/-! ### Into the channel mixer -/

namespace SlotsUp
open Cert.SlotsUpIdeal Cert.SlotsUpIdeal.Gen

/-- A point's blocks. -/
theorem idx : ∀ t : Fin grid0.N, win0_0.index t = ![t.val, 0] ∧ win0_1.index t = ![0, t.val, 0] := by
  decide +kernel

/-- Both programs end with the same array. -/
theorem values (m : (ℓ : Loc nD τ sig) → Buf (Elt F) ℓ) (g : Dev nD → PrngReg)
    (m' : (ℓ : Loc Cert.SlotsUpRefIdeal.nD Cert.SlotsUpRefIdeal.τ Cert.SlotsUpRefIdeal.sig) → Buf (Elt F) ℓ) (g' : Dev Cert.SlotsUpRefIdeal.nD → PrngReg)
    (h : ∀ c : Dev nD, m' (c.tc.loc Cert.SlotsUpRefIdeal.main_arg0) = m (c.tc.loc main_arg0)) :
    ∃ (v0 : (c : Dev nD) → Buf (Elt F) (c.tc.loc main_v0)),
      θ_run (defs (F := F)) (onTc main) ⟨m, fun _ => 0, g⟩ (fun r => ∀ c : Dev nD,
        r.2.mem (c.tc.loc main_v0) = v0 c ∧ r.2.mem (c.tc.loc main_arg0) = m (c.tc.loc main_arg0))
      ∧ θ_run (Cert.SlotsUpRefIdeal.defs (F := F)) (onTc Cert.SlotsUpRefIdeal.main) ⟨m', fun _ => 0, g'⟩ (fun r => ∀ c : Dev Cert.SlotsUpRefIdeal.nD,
        r.2.mem (c.tc.loc Cert.SlotsUpRefIdeal.main_v5) = v0 c ∧ r.2.mem (c.tc.loc Cert.SlotsUpRefIdeal.main_arg0) = m' (c.tc.loc Cert.SlotsUpRefIdeal.main_arg0)) := by
  refine ⟨fun c => (dats m 0 c).arrAt 1 cfg0.N,
    Value.run_blocks m g, (θ_run Cert.SlotsUpRefIdeal.defs _ _).mono ?_ (Cert.SlotsUpRefIdeal.Value.run m' g')⟩
  intro r hr c
  obtain h0 := h c
  obtain ⟨e0, hk⟩ := hr c
  simp only [h0] at e0
  refine ⟨e0.trans ((dats m 0 c).arrAt_eq_of_covers 1 _ (by decide +kernel) fun t _ y => ?_).symm, hk⟩
  obtain ⟨i0, i1⟩ := idx t
  have hN : t.val < 4 := lt_of_lt_of_eq t.isLt N_0
  blk_simp
  simp only [after0_1]
  unfold outsAt0
  frame_out
  pointwise
  canon_tiles x e using View.cover_of_tiledBy _ ![1, 256, 64] (by sl_kernel_rfl) y
  all_goals
    open_payloads
    pointwise
    blk_point [iblk, V, i0, i1]

end SlotsUp

end Exchange.ColumnsOut
end
-- ==== Proof.DecaySum.lean ====
/-
# The sum over the rows of the parts of the retention's decay gradient

A point adds the sum of its 512 rows to what the points before it left. After the last point that is the sum of all rows.
-/
module

public import proofs.«01_k».proof.Defs
public import proofs.«01_k».proof.Proof.Gen.DecaySumIdeal.Value
public import proofs.«01_k».proof.Proof.Gen.DecaySumRefIdeal.Run
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.Claim

@[expose] public section

noncomputable section

open Idealize.ShloMosaic Idealize.ShloMosaic.TcCoe Idealize.SL.Sem

namespace Exchange.DecaySum

open Cert.DecaySumIdeal Cert.DecaySumIdeal.Gen

/-- A point's block of the rows. -/
theorem idx : ∀ t : Fin grid0.N, win0_0.index t = ![t.val, 0] := by decide +kernel

/-- A later point adds its rows' sum to what the buffer holds. -/
theorem step (x : Vec Ideal S512x16 .f32) (a : Vec Ideal S1x16 .f32) (y) : k0_pay2 x a y = a y + k0_pay1 x y := by
  unfold k0_pay2
  pointwise

section
variable (m : (ℓ : Loc nD τ sig) → Buf (Elt Ideal) ℓ) (c : Dev nD)

/-- What the last point leaves. -/
theorem total (y) : outsAt0 m c t0_15.val t0_15.isLt y = ∑ p : Fin grid0.N, k0_pay1 (iblk m c 0 p) y := by
  have hN : ∀ t : Fin grid0.N, t.val < 16 := fun t => lt_of_lt_of_eq t.isLt N_0
  rw [Pipeline.eq_sum_fin_of_reset_step_apply_last (fun n h => outsAt0 m c n h) 16 (fun _ => 0) (fun p => k0_pay1 (iblk m c 0 p))
    (fun t h j => by have := hN t; rw [outsAt0_A m c t h (by omega)]; frame_out; rw [zero_add])
    (fun t h j => by have := hN t; rw [outsAt0_B m c t h (by omega)]; frame_out; rw [step])
    (le_of_eq N_0) t0_15 rfl y, zero_add]

end

/-- Both programs end with the same sums. -/
theorem values : Cert.algebraic_DecaySumIdeal_DecaySumRefIdeal := by
  intro m g m' g' _ hagree
  refine ⟨fun c => (dats m 0 c).arrAt 1 cfg0.N,
    Value.run_blocks m g, (θ_run Cert.DecaySumRefIdeal.defs _ _).mono ?_ (Cert.DecaySumRefIdeal.Value.run m' g')⟩
  intro r h c
  obtain h0 := hagree c
  obtain ⟨o, hk⟩ := h c
  simp only [h0] at o
  refine ⟨o.trans ((dats m 0 c).arrAt_eq_of_after_last 1 t0_15 (by decide +kernel) _ fun y => ?_).symm, hk⟩
  blk_simp
  rw [after0_1, total]
  unfold k0_pay1
  pointwise
  refine Fin.sum_mul_add_congr fun t k hl => ?_
  blk_point [iblk, V, idx t]

end Exchange.DecaySum
end
-- ==== Proof.lean ====
/-
# The claims

The three exchanges of version v12: the gather of the weights, the transfer of partial gradients between the two cores of a
chip, and the transfer between the chips. Each is the run of its module, read at the arguments for the frames and, by its
value module, at the results for the two value claims. The modules are over any float values, and a printed program and its
idealized form are the same text: each serves both. The other calls are pipelines over blocks: the six AdamW updates, the
loss, the sums of a chip's two cores and the row-wise normalisations, each by its value module.
-/
module

public import proofs.«01_k».proof.Defs
public import proofs.«01_k».proof.Proof.Gen.Gather
public import proofs.«01_k».proof.Proof.Gen.GatherIdeal
public import proofs.«01_k».proof.Proof.Gen.GatherIdeal.Frame
public import proofs.«01_k».proof.Proof.Gen.GatherRefIdeal
public import proofs.«01_k».proof.Proof.Gen.GatherRefIdeal.Run
public import proofs.«01_k».proof.Proof.Gen.GatherRef
public import proofs.«01_k».proof.Proof.Gen.GatherRef.Run
public import proofs.«01_k».proof.Proof.Gen.Sibling
public import proofs.«01_k».proof.Proof.Gen.SiblingIdeal
public import proofs.«01_k».proof.Proof.Gen.SiblingIdeal.Frame
public import proofs.«01_k».proof.Proof.Gen.SiblingRefIdeal
public import proofs.«01_k».proof.Proof.Gen.SiblingRefIdeal.Run
public import proofs.«01_k».proof.Proof.Gen.SiblingRef
public import proofs.«01_k».proof.Proof.Gen.SiblingRef.Run
public import proofs.«01_k».proof.Proof.Gen.Chips
public import proofs.«01_k».proof.Proof.Gen.ChipsIdeal
public import proofs.«01_k».proof.Proof.Gen.ChipsIdeal.Frame
public import proofs.«01_k».proof.Proof.Gen.ChipsRefIdeal
public import proofs.«01_k».proof.Proof.Gen.ChipsRefIdeal.Run
public import proofs.«01_k».proof.Proof.Gen.ChipsRef
public import proofs.«01_k».proof.Proof.Gen.ChipsRef.Run
public import proofs.«01_k».proof.Proof.GatherValue
public import proofs.«01_k».proof.Proof.SiblingValue
public import proofs.«01_k».proof.Proof.ChipsValue
public import proofs.«01_k».proof.Proof.AdamwAb
public import proofs.«01_k».proof.Proof.AdamwC
public import proofs.«01_k».proof.Proof.AdamwUp
public import proofs.«01_k».proof.Proof.AdamwRows
public import proofs.«01_k».proof.Proof.AdamwSmall
public import proofs.«01_k».proof.Proof.AdamwRep
public import proofs.«01_k».proof.Proof.LossHead
public import proofs.«01_k».proof.Proof.NormEnd
public import proofs.«01_k».proof.Proof.SumAb
public import proofs.«01_k».proof.Proof.SumC
public import proofs.«01_k».proof.Proof.SumUp
public import proofs.«01_k».proof.Proof.SumRows
public import proofs.«01_k».proof.Proof.SumSmall
public import proofs.«01_k».proof.Proof.SumRep
public import proofs.«01_k».proof.Proof.NormStart
public import proofs.«01_k».proof.Proof.NormLast
public import proofs.«01_k».proof.Proof.NormJoin
public import proofs.«01_k».proof.Proof.NormLastBwd
public import proofs.«01_k».proof.Proof.NormJoinBwd
public import proofs.«01_k».proof.Proof.Products
public import proofs.«01_k».proof.Proof.ProductsDx
public import proofs.«01_k».proof.Proof.ProductsDw
public import proofs.«01_k».proof.Proof.ColumnsIn
public import proofs.«01_k».proof.Proof.ColumnsOut
public import proofs.«01_k».proof.Proof.DecaySum
public import proofs.«01_k».proof.Proof.Gen.SumAbIdeal.Value
public import proofs.«01_k».proof.Proof.Gen.SumAb.Frame
public import proofs.«01_k».proof.Proof.Gen.SumAbRefIdeal.Run
public import proofs.«01_k».proof.Proof.Gen.SumAbRef.Run
public import proofs.«01_k».proof.Proof.Gen.SumRepIdeal.Value
public import proofs.«01_k».proof.Proof.Gen.SumRep.Frame
public import proofs.«01_k».proof.Proof.Gen.SumRepRefIdeal.Run
public import proofs.«01_k».proof.Proof.Gen.SumRepRef.Run
public import proofs.«01_k».proof.Proof.Gen.SumCIdeal.Value
public import proofs.«01_k».proof.Proof.Gen.SumC.Frame
public import proofs.«01_k».proof.Proof.Gen.SumCRefIdeal.Run
public import proofs.«01_k».proof.Proof.Gen.SumCRef.Run
public import proofs.«01_k».proof.Proof.Gen.SumUpIdeal.Value
public import proofs.«01_k».proof.Proof.Gen.SumUp.Frame
public import proofs.«01_k».proof.Proof.Gen.SumUpRefIdeal.Run
public import proofs.«01_k».proof.Proof.Gen.SumUpRef.Run
public import proofs.«01_k».proof.Proof.Gen.SumRowsIdeal.Value
public import proofs.«01_k».proof.Proof.Gen.SumRows.Frame
public import proofs.«01_k».proof.Proof.Gen.SumRowsRefIdeal.Run
public import proofs.«01_k».proof.Proof.Gen.SumRowsRef.Run
public import proofs.«01_k».proof.Proof.Gen.SumSmallIdeal.Value
public import proofs.«01_k».proof.Proof.Gen.SumSmall.Frame
public import proofs.«01_k».proof.Proof.Gen.SumSmallRefIdeal.Run
public import proofs.«01_k».proof.Proof.Gen.SumSmallRef.Run
public import proofs.«01_k».proof.Proof.Gen.FirstIdeal.Value
public import proofs.«01_k».proof.Proof.Gen.First.Frame
public import proofs.«01_k».proof.Proof.Gen.FirstRefIdeal.Run
public import proofs.«01_k».proof.Proof.Gen.MidIdeal.Value
public import proofs.«01_k».proof.Proof.Gen.Mid.Frame
public import proofs.«01_k».proof.Proof.Gen.MidRefIdeal.Run
public import proofs.«01_k».proof.Proof.Gen.EndIdeal.Value
public import proofs.«01_k».proof.Proof.Gen.End.Frame
public import proofs.«01_k».proof.Proof.Gen.EndRefIdeal.Run
public import proofs.«01_k».proof.Proof.Gen.LastIdeal.Value
public import proofs.«01_k».proof.Proof.Gen.Last.Frame
public import proofs.«01_k».proof.Proof.Gen.LastRefIdeal.Run
public import proofs.«01_k».proof.Proof.Gen.LastBwdIdeal.Value
public import proofs.«01_k».proof.Proof.Gen.LastBwd.Frame
public import proofs.«01_k».proof.Proof.Gen.LastBwdRefIdeal.Run
public import proofs.«01_k».proof.Proof.Gen.EndBwdIdeal.Value
public import proofs.«01_k».proof.Proof.Gen.EndBwd.Frame
public import proofs.«01_k».proof.Proof.Gen.EndBwdRefIdeal.Run
public import proofs.«01_k».proof.Proof.Gen.MidBwdIdeal.Value
public import proofs.«01_k».proof.Proof.Gen.MidBwd.Frame
public import proofs.«01_k».proof.Proof.Gen.MidBwdRefIdeal.Run
public import proofs.«01_k».proof.Proof.Gen.InAbIdeal.Value
public import proofs.«01_k».proof.Proof.Gen.InAb.Frame
public import proofs.«01_k».proof.Proof.Gen.InAbRefIdeal.Run
public import proofs.«01_k».proof.Proof.Gen.InAbDxIdeal.Value
public import proofs.«01_k».proof.Proof.Gen.InAbDx.Frame
public import proofs.«01_k».proof.Proof.Gen.InAbDxRefIdeal.Run
public import proofs.«01_k».proof.Proof.Gen.InAbDwIdeal.Value
public import proofs.«01_k».proof.Proof.Gen.InAbDw.Frame
public import proofs.«01_k».proof.Proof.Gen.InAbDwRefIdeal.Run
public import proofs.«01_k».proof.Proof.Gen.OutAbIdeal.Value
public import proofs.«01_k».proof.Proof.Gen.OutAb.Frame
public import proofs.«01_k».proof.Proof.Gen.OutAbRefIdeal.Run
public import proofs.«01_k».proof.Proof.Gen.OutAbDxIdeal.Value
public import proofs.«01_k».proof.Proof.Gen.OutAbDx.Frame
public import proofs.«01_k».proof.Proof.Gen.OutAbDxRefIdeal.Run
public import proofs.«01_k».proof.Proof.Gen.OutAbDwIdeal.Value
public import proofs.«01_k».proof.Proof.Gen.OutAbDw.Frame
public import proofs.«01_k».proof.Proof.Gen.OutAbDwRefIdeal.Run
public import proofs.«01_k».proof.Proof.Gen.InCIdeal.Value
public import proofs.«01_k».proof.Proof.Gen.InC.Frame
public import proofs.«01_k».proof.Proof.Gen.InCRefIdeal.Run
public import proofs.«01_k».proof.Proof.Gen.InCDwIdeal.Value
public import proofs.«01_k».proof.Proof.Gen.InCDw.Frame
public import proofs.«01_k».proof.Proof.Gen.InCDwRefIdeal.Run
public import proofs.«01_k».proof.Proof.Gen.InDtIdeal.Value
public import proofs.«01_k».proof.Proof.Gen.InDt.Frame
public import proofs.«01_k».proof.Proof.Gen.InDtRefIdeal.Run
public import proofs.«01_k».proof.Proof.Gen.InDtDxIdeal.Value
public import proofs.«01_k».proof.Proof.Gen.InDtDx.Frame
public import proofs.«01_k».proof.Proof.Gen.InDtDxRefIdeal.Run
public import proofs.«01_k».proof.Proof.Gen.InDtDwIdeal.Value
public import proofs.«01_k».proof.Proof.Gen.InDtDw.Frame
public import proofs.«01_k».proof.Proof.Gen.InDtDwRefIdeal.Run
public import proofs.«01_k».proof.Proof.Gen.OutCIdeal.Value
public import proofs.«01_k».proof.Proof.Gen.OutC.Frame
public import proofs.«01_k».proof.Proof.Gen.OutCRefIdeal.Run
public import proofs.«01_k».proof.Proof.Gen.OutCDxIdeal.Value
public import proofs.«01_k».proof.Proof.Gen.OutCDx.Frame
public import proofs.«01_k».proof.Proof.Gen.OutCDxRefIdeal.Run
public import proofs.«01_k».proof.Proof.Gen.OutCDwIdeal.Value
public import proofs.«01_k».proof.Proof.Gen.OutCDw.Frame
public import proofs.«01_k».proof.Proof.Gen.OutCDwRefIdeal.Run
public import proofs.«01_k».proof.Proof.Gen.UpIdeal.Value
public import proofs.«01_k».proof.Proof.Gen.Up.Frame
public import proofs.«01_k».proof.Proof.Gen.UpRefIdeal.Run
public import proofs.«01_k».proof.Proof.Gen.UpDxIdeal.Value
public import proofs.«01_k».proof.Proof.Gen.UpDx.Frame
public import proofs.«01_k».proof.Proof.Gen.UpDxRefIdeal.Run
public import proofs.«01_k».proof.Proof.Gen.UpDwIdeal.Value
public import proofs.«01_k».proof.Proof.Gen.UpDw.Frame
public import proofs.«01_k».proof.Proof.Gen.UpDwRefIdeal.Run
public import proofs.«01_k».proof.Proof.Gen.DownIdeal.Value
public import proofs.«01_k».proof.Proof.Gen.Down.Frame
public import proofs.«01_k».proof.Proof.Gen.DownRefIdeal.Run
public import proofs.«01_k».proof.Proof.Gen.DownDxIdeal.Value
public import proofs.«01_k».proof.Proof.Gen.DownDx.Frame
public import proofs.«01_k».proof.Proof.Gen.DownDxRefIdeal.Run
public import proofs.«01_k».proof.Proof.Gen.DownDwIdeal.Value
public import proofs.«01_k».proof.Proof.Gen.DownDw.Frame
public import proofs.«01_k».proof.Proof.Gen.DownDwRefIdeal.Run
public import proofs.«01_k».proof.Proof.Gen.InCDxIdeal.Value
public import proofs.«01_k».proof.Proof.Gen.InCDx.Frame
public import proofs.«01_k».proof.Proof.Gen.InCDxRefIdeal.Run
public import proofs.«01_k».proof.Proof.Gen.ColsAbIdeal.Value
public import proofs.«01_k».proof.Proof.Gen.ColsAb.Frame
public import proofs.«01_k».proof.Proof.Gen.ColsAbRefIdeal.Run
public import proofs.«01_k».proof.Proof.Gen.ColsAbRef.Run
public import proofs.«01_k».proof.Proof.Gen.ColsCIdeal.Value
public import proofs.«01_k».proof.Proof.Gen.ColsC.Frame
public import proofs.«01_k».proof.Proof.Gen.ColsCRefIdeal.Run
public import proofs.«01_k».proof.Proof.Gen.ColsCRef.Run
public import proofs.«01_k».proof.Proof.Gen.ColsUpIdeal.Value
public import proofs.«01_k».proof.Proof.Gen.ColsUp.Frame
public import proofs.«01_k».proof.Proof.Gen.ColsUpRefIdeal.Run
public import proofs.«01_k».proof.Proof.Gen.ColsUpRef.Run
public import proofs.«01_k».proof.Proof.Gen.SlotsAbIdeal.Value
public import proofs.«01_k».proof.Proof.Gen.SlotsAb.Frame
public import proofs.«01_k».proof.Proof.Gen.SlotsAbRefIdeal.Run
public import proofs.«01_k».proof.Proof.Gen.SlotsAbRef.Run
public import proofs.«01_k».proof.Proof.Gen.SlotsCIdeal.Value
public import proofs.«01_k».proof.Proof.Gen.SlotsC.Frame
public import proofs.«01_k».proof.Proof.Gen.SlotsCRefIdeal.Run
public import proofs.«01_k».proof.Proof.Gen.SlotsCRef.Run
public import proofs.«01_k».proof.Proof.Gen.SlotsUpIdeal.Value
public import proofs.«01_k».proof.Proof.Gen.SlotsUp.Frame
public import proofs.«01_k».proof.Proof.Gen.SlotsUpRefIdeal.Run
public import proofs.«01_k».proof.Proof.Gen.SlotsUpRef.Run
public import proofs.«01_k».proof.Proof.Gen.DecaySumIdeal.Value
public import proofs.«01_k».proof.Proof.Gen.DecaySum.Frame
public import proofs.«01_k».proof.Proof.Gen.DecaySumRefIdeal.Run
public import proofs.«01_k».proof.Proof.Gen.AdamwAbIdeal.Value
public import proofs.«01_k».proof.Proof.Gen.AdamwAb.Frame
public import proofs.«01_k».proof.Proof.Gen.AdamwAbRefIdeal.Run
public import proofs.«01_k».proof.Proof.Gen.AdamwCIdeal.Value
public import proofs.«01_k».proof.Proof.Gen.AdamwC.Frame
public import proofs.«01_k».proof.Proof.Gen.AdamwCRefIdeal.Run
public import proofs.«01_k».proof.Proof.Gen.AdamwUpIdeal.Value
public import proofs.«01_k».proof.Proof.Gen.AdamwUp.Frame
public import proofs.«01_k».proof.Proof.Gen.AdamwUpRefIdeal.Run
public import proofs.«01_k».proof.Proof.Gen.AdamwRowsIdeal.Value
public import proofs.«01_k».proof.Proof.Gen.AdamwRows.Frame
public import proofs.«01_k».proof.Proof.Gen.AdamwRowsRefIdeal.Run
public import proofs.«01_k».proof.Proof.Gen.AdamwSmallIdeal.Value
public import proofs.«01_k».proof.Proof.Gen.AdamwSmall.Frame
public import proofs.«01_k».proof.Proof.Gen.AdamwSmallRefIdeal.Run
public import proofs.«01_k».proof.Proof.Gen.AdamwRepIdeal.Value
public import proofs.«01_k».proof.Proof.Gen.AdamwRep.Frame
public import proofs.«01_k».proof.Proof.Gen.AdamwRepRefIdeal.Run
public import proofs.«01_k».proof.Proof.Gen.LossIdeal.Value
public import proofs.«01_k».proof.Proof.Gen.Loss.Frame
public import proofs.«01_k».proof.Proof.Gen.LossRefIdeal.Run
public import proofs.«01_k».proof.Proof.Gen.NormFirstIdeal.Value
public import proofs.«01_k».proof.Proof.Gen.NormFirst.Frame
public import proofs.«01_k».proof.Proof.Gen.NormFirstRefIdeal.Run
public import Idealize.ShloMosaic.Adequacy
public import Idealize.ShloMosaic.Init

@[expose] public section

noncomputable section

namespace Cert.Proof

open Idealize.ShloMosaic Idealize.SL.Sem

/-! ## The gather -/

theorem frame_gather : Cert.quiescent_Gather := fun m g _ => Exchange.Gather.frame (F := Bits) m g
theorem frame_gatherIdeal : Cert.quiescent_GatherIdeal := fun m g _ => Exchange.Gather.frame (F := Ideal) m g
theorem frame_gatherRefIdeal : Cert.quiescent_GatherRefIdeal := fun m g _ =>
  (θ_run Cert.GatherRefIdeal.defs _ _).mono (fun r h => ⟨fun c => (h c).2.2.2.2.2, sem_eq_zero_of_no_sems (by decide) r.2⟩)
    (Cert.GatherRefIdeal.Value.run (F := Ideal) m g)
theorem frame_gatherRef : Cert.quiescent_GatherRef := fun m g _ =>
  (θ_run Cert.GatherRef.defs _ _).mono (fun r h => ⟨fun c => (h c).2.2.2.2.2, sem_eq_zero_of_no_sems (by decide) r.2⟩)
    (Cert.GatherRef.Value.run (F := Bits) m g)

/-- Bit for bit, and in exact arithmetic, the devices end with the reference's results. -/
theorem bitexact_gather : Cert.bitexact_Gather_GatherRef := fun m g m' g' _ h => Exchange.Gather.values (F := Bits) m g m' g' h
theorem algebraic_gather : Cert.algebraic_GatherIdeal_GatherRefIdeal := fun m g m' g' _ h => Exchange.Gather.values (F := Ideal) m g m' g' h

/-! ## Between the cores of a chip -/

theorem frame_sibling : Cert.quiescent_Sibling := fun m g _ => Exchange.Sibling.frame (F := Bits) m g
theorem frame_siblingIdeal : Cert.quiescent_SiblingIdeal := fun m g _ => Exchange.Sibling.frame (F := Ideal) m g
theorem frame_siblingRefIdeal : Cert.quiescent_SiblingRefIdeal := fun m g _ =>
  (θ_run Cert.SiblingRefIdeal.defs _ _).mono (fun r h => ⟨fun c => (h c).2.2.2.2.2.2, sem_eq_zero_of_no_sems (by decide) r.2⟩)
    (Cert.SiblingRefIdeal.Value.run (F := Ideal) m g)
theorem frame_siblingRef : Cert.quiescent_SiblingRef := fun m g _ =>
  (θ_run Cert.SiblingRef.defs _ _).mono (fun r h => ⟨fun c => (h c).2.2.2.2.2.2, sem_eq_zero_of_no_sems (by decide) r.2⟩)
    (Cert.SiblingRef.Value.run (F := Bits) m g)

/-- Bit for bit, and in exact arithmetic, the devices end with the reference's results. -/
theorem bitexact_sibling : Cert.bitexact_Sibling_SiblingRef := fun m g m' g' _ h => Exchange.Sibling.values (F := Bits) m g m' g' h
theorem algebraic_sibling : Cert.algebraic_SiblingIdeal_SiblingRefIdeal := fun m g m' g' _ h => Exchange.Sibling.values (F := Ideal) m g m' g' h

/-! ## Between the chips -/

theorem frame_chips : Cert.quiescent_Chips := fun m g _ => Exchange.Chips.frame (F := Bits) m g
theorem frame_chipsIdeal : Cert.quiescent_ChipsIdeal := fun m g _ => Exchange.Chips.frame (F := Ideal) m g
theorem frame_chipsRefIdeal : Cert.quiescent_ChipsRefIdeal := fun m g _ =>
  (θ_run Cert.ChipsRefIdeal.defs _ _).mono (fun r h => ⟨fun c => (h c).2.2.2.2.2.2, sem_eq_zero_of_no_sems (by decide) r.2⟩)
    (Cert.ChipsRefIdeal.Value.run (F := Ideal) m g)
theorem frame_chipsRef : Cert.quiescent_ChipsRef := fun m g _ =>
  (θ_run Cert.ChipsRef.defs _ _).mono (fun r h => ⟨fun c => (h c).2.2.2.2.2.2, sem_eq_zero_of_no_sems (by decide) r.2⟩)
    (Cert.ChipsRef.Value.run (F := Bits) m g)

/-- Bit for bit, and in exact arithmetic, the devices end with the reference's results. -/
theorem bitexact_chips : Cert.bitexact_Chips_ChipsRef := fun m g m' g' _ h => Exchange.Chips.values (F := Bits) m g m' g' h
theorem algebraic_chips : Cert.algebraic_ChipsIdeal_ChipsRefIdeal := fun m g m' g' _ h => Exchange.Chips.values (F := Ideal) m g m' g' h

/-! ## AdamW

The kernels' frames are the generated ones; each reference has no counters, and its arguments end as they began. -/

theorem frame_adamwAbRefIdeal : Cert.quiescent_AdamwAbRefIdeal := fun m g _ =>
  (θ_run Cert.AdamwAbRefIdeal.defs _ _).mono (fun r h => ⟨fun c => (h c).2.2.2.2, sem_eq_zero_of_no_sems (by decide) r.2⟩)
    (Cert.AdamwAbRefIdeal.Value.run (F := Ideal) m g)
theorem frame_adamwCRefIdeal : Cert.quiescent_AdamwCRefIdeal := fun m g _ =>
  (θ_run Cert.AdamwCRefIdeal.defs _ _).mono (fun r h => ⟨fun c => (h c).2.2.2.2, sem_eq_zero_of_no_sems (by decide) r.2⟩)
    (Cert.AdamwCRefIdeal.Value.run (F := Ideal) m g)
theorem frame_adamwUpRefIdeal : Cert.quiescent_AdamwUpRefIdeal := fun m g _ =>
  (θ_run Cert.AdamwUpRefIdeal.defs _ _).mono (fun r h => ⟨fun c => (h c).2.2.2.2, sem_eq_zero_of_no_sems (by decide) r.2⟩)
    (Cert.AdamwUpRefIdeal.Value.run (F := Ideal) m g)
theorem frame_adamwRowsRefIdeal : Cert.quiescent_AdamwRowsRefIdeal := fun m g _ =>
  (θ_run Cert.AdamwRowsRefIdeal.defs _ _).mono (fun r h => ⟨fun c => (h c).2.2.2.2, sem_eq_zero_of_no_sems (by decide) r.2⟩)
    (Cert.AdamwRowsRefIdeal.Value.run (F := Ideal) m g)
theorem frame_adamwSmallRefIdeal : Cert.quiescent_AdamwSmallRefIdeal := fun m g _ =>
  (θ_run Cert.AdamwSmallRefIdeal.defs _ _).mono (fun r h => ⟨fun c => (h c).2.2.2.2, sem_eq_zero_of_no_sems (by decide) r.2⟩)
    (Cert.AdamwSmallRefIdeal.Value.run (F := Ideal) m g)
theorem frame_adamwRepRefIdeal : Cert.quiescent_AdamwRepRefIdeal := fun m g _ =>
  (θ_run Cert.AdamwRepRefIdeal.defs _ _).mono (fun r h => ⟨fun c => (h c).2.2.2.2, sem_eq_zero_of_no_sems (by decide) r.2⟩)
    (Cert.AdamwRepRefIdeal.Value.run (F := Ideal) m g)
theorem frame_lossRefIdeal : Cert.quiescent_LossRefIdeal := fun m g _ =>
  (θ_run Cert.LossRefIdeal.defs _ _).mono (fun r h => ⟨fun c => (h c).2.2, sem_eq_zero_of_no_sems (by decide) r.2⟩)
    (Cert.LossRefIdeal.Value.run (F := Ideal) m g)
theorem frame_normFirstRefIdeal : Cert.quiescent_NormFirstRefIdeal := fun m g _ =>
  (θ_run Cert.NormFirstRefIdeal.defs _ _).mono (fun r h => ⟨fun c => (h c).2.2, sem_eq_zero_of_no_sems (by decide) r.2⟩)
    (Cert.NormFirstRefIdeal.Value.run (F := Ideal) m g)

/-! ## The sums of a chip's two cores

Each module is over any float values, and serves both value claims. -/

theorem frame_sumAbRefIdeal : Cert.quiescent_SumAbRefIdeal := fun m g _ =>
  (θ_run Cert.SumAbRefIdeal.defs _ _).mono (fun r h => ⟨fun c => (h c).2, sem_eq_zero_of_no_sems (by decide) r.2⟩)
    (Cert.SumAbRefIdeal.Value.run (F := Ideal) m g)
theorem frame_sumAbRef : Cert.quiescent_SumAbRef := fun m g _ =>
  (θ_run Cert.SumAbRef.defs _ _).mono (fun r h => ⟨fun c => (h c).2, sem_eq_zero_of_no_sems (by decide) r.2⟩)
    (Cert.SumAbRef.Value.run (F := Bits) m g)
theorem body_sumAb : Cert.SumAb.defs₀ (F := Bits) = Cert.SumAbIdeal.defs₀ := congrArg Defs.onTc (by
  funext l a
  match l, a with
  | 0, (t, s) => rfl)
theorem defs_sumAb : Cert.SumAb.defs (F := Bits) = Cert.SumAbIdeal.defs := congrArg (Pipeline.defs (Cert.SumAbIdeal.pcfgs (F := Bits))) body_sumAb
theorem bitexact_sumAb : Cert.bitexact_SumAb_SumAbRef := by
  unfold Cert.bitexact_SumAb_SumAbRef
  rw [defs_sumAb]
  exact fun m g m' g' _ h => Exchange.SumAb.values (F := Bits) m g m' g' h
theorem algebraic_sumAb : Cert.algebraic_SumAbIdeal_SumAbRefIdeal := fun m g m' g' _ h => Exchange.SumAb.values (F := Ideal) m g m' g' h
theorem frame_sumCRefIdeal : Cert.quiescent_SumCRefIdeal := fun m g _ =>
  (θ_run Cert.SumCRefIdeal.defs _ _).mono (fun r h => ⟨fun c => (h c).2, sem_eq_zero_of_no_sems (by decide) r.2⟩)
    (Cert.SumCRefIdeal.Value.run (F := Ideal) m g)
theorem frame_sumCRef : Cert.quiescent_SumCRef := fun m g _ =>
  (θ_run Cert.SumCRef.defs _ _).mono (fun r h => ⟨fun c => (h c).2, sem_eq_zero_of_no_sems (by decide) r.2⟩)
    (Cert.SumCRef.Value.run (F := Bits) m g)
theorem body_sumC : Cert.SumC.defs₀ (F := Bits) = Cert.SumCIdeal.defs₀ := congrArg Defs.onTc (by
  funext l a
  match l, a with
  | 0, (t, s) => rfl)
theorem defs_sumC : Cert.SumC.defs (F := Bits) = Cert.SumCIdeal.defs := congrArg (Pipeline.defs (Cert.SumCIdeal.pcfgs (F := Bits))) body_sumC
theorem bitexact_sumC : Cert.bitexact_SumC_SumCRef := by
  unfold Cert.bitexact_SumC_SumCRef
  rw [defs_sumC]
  exact fun m g m' g' _ h => Exchange.SumC.values (F := Bits) m g m' g' h
theorem algebraic_sumC : Cert.algebraic_SumCIdeal_SumCRefIdeal := fun m g m' g' _ h => Exchange.SumC.values (F := Ideal) m g m' g' h
theorem frame_sumUpRefIdeal : Cert.quiescent_SumUpRefIdeal := fun m g _ =>
  (θ_run Cert.SumUpRefIdeal.defs _ _).mono (fun r h => ⟨fun c => (h c).2, sem_eq_zero_of_no_sems (by decide) r.2⟩)
    (Cert.SumUpRefIdeal.Value.run (F := Ideal) m g)
theorem frame_sumUpRef : Cert.quiescent_SumUpRef := fun m g _ =>
  (θ_run Cert.SumUpRef.defs _ _).mono (fun r h => ⟨fun c => (h c).2, sem_eq_zero_of_no_sems (by decide) r.2⟩)
    (Cert.SumUpRef.Value.run (F := Bits) m g)
theorem body_sumUp : Cert.SumUp.defs₀ (F := Bits) = Cert.SumUpIdeal.defs₀ := congrArg Defs.onTc (by
  funext l a
  match l, a with
  | 0, (t, s) => rfl)
theorem defs_sumUp : Cert.SumUp.defs (F := Bits) = Cert.SumUpIdeal.defs := congrArg (Pipeline.defs (Cert.SumUpIdeal.pcfgs (F := Bits))) body_sumUp
theorem bitexact_sumUp : Cert.bitexact_SumUp_SumUpRef := by
  unfold Cert.bitexact_SumUp_SumUpRef
  rw [defs_sumUp]
  exact fun m g m' g' _ h => Exchange.SumUp.values (F := Bits) m g m' g' h
theorem algebraic_sumUp : Cert.algebraic_SumUpIdeal_SumUpRefIdeal := fun m g m' g' _ h => Exchange.SumUp.values (F := Ideal) m g m' g' h
theorem frame_sumRowsRefIdeal : Cert.quiescent_SumRowsRefIdeal := fun m g _ =>
  (θ_run Cert.SumRowsRefIdeal.defs _ _).mono (fun r h => ⟨fun c => (h c).2, sem_eq_zero_of_no_sems (by decide) r.2⟩)
    (Cert.SumRowsRefIdeal.Value.run (F := Ideal) m g)
theorem frame_sumRowsRef : Cert.quiescent_SumRowsRef := fun m g _ =>
  (θ_run Cert.SumRowsRef.defs _ _).mono (fun r h => ⟨fun c => (h c).2, sem_eq_zero_of_no_sems (by decide) r.2⟩)
    (Cert.SumRowsRef.Value.run (F := Bits) m g)
theorem body_sumRows : Cert.SumRows.defs₀ (F := Bits) = Cert.SumRowsIdeal.defs₀ := congrArg Defs.onTc (by
  funext l a
  match l, a with
  | 0, (t, s) => rfl)
theorem defs_sumRows : Cert.SumRows.defs (F := Bits) = Cert.SumRowsIdeal.defs := congrArg (Pipeline.defs (Cert.SumRowsIdeal.pcfgs (F := Bits))) body_sumRows
theorem bitexact_sumRows : Cert.bitexact_SumRows_SumRowsRef := by
  unfold Cert.bitexact_SumRows_SumRowsRef
  rw [defs_sumRows]
  exact fun m g m' g' _ h => Exchange.SumRows.values (F := Bits) m g m' g' h
theorem algebraic_sumRows : Cert.algebraic_SumRowsIdeal_SumRowsRefIdeal := fun m g m' g' _ h => Exchange.SumRows.values (F := Ideal) m g m' g' h
theorem frame_sumSmallRefIdeal : Cert.quiescent_SumSmallRefIdeal := fun m g _ =>
  (θ_run Cert.SumSmallRefIdeal.defs _ _).mono (fun r h => ⟨fun c => (h c).2, sem_eq_zero_of_no_sems (by decide) r.2⟩)
    (Cert.SumSmallRefIdeal.Value.run (F := Ideal) m g)
theorem frame_sumSmallRef : Cert.quiescent_SumSmallRef := fun m g _ =>
  (θ_run Cert.SumSmallRef.defs _ _).mono (fun r h => ⟨fun c => (h c).2, sem_eq_zero_of_no_sems (by decide) r.2⟩)
    (Cert.SumSmallRef.Value.run (F := Bits) m g)
theorem body_sumSmall : Cert.SumSmall.defs₀ (F := Bits) = Cert.SumSmallIdeal.defs₀ := congrArg Defs.onTc (by
  funext l a
  match l, a with
  | 0, (t, s) => rfl)
theorem defs_sumSmall : Cert.SumSmall.defs (F := Bits) = Cert.SumSmallIdeal.defs := congrArg (Pipeline.defs (Cert.SumSmallIdeal.pcfgs (F := Bits))) body_sumSmall
theorem bitexact_sumSmall : Cert.bitexact_SumSmall_SumSmallRef := by
  unfold Cert.bitexact_SumSmall_SumSmallRef
  rw [defs_sumSmall]
  exact fun m g m' g' _ h => Exchange.SumSmall.values (F := Bits) m g m' g' h
theorem algebraic_sumSmall : Cert.algebraic_SumSmallIdeal_SumSmallRefIdeal := fun m g m' g' _ h => Exchange.SumSmall.values (F := Ideal) m g m' g' h
theorem frame_sumRepRefIdeal : Cert.quiescent_SumRepRefIdeal := fun m g _ =>
  (θ_run Cert.SumRepRefIdeal.defs _ _).mono (fun r h => ⟨fun c => (h c).2, sem_eq_zero_of_no_sems (by decide) r.2⟩)
    (Cert.SumRepRefIdeal.Value.run (F := Ideal) m g)
theorem frame_sumRepRef : Cert.quiescent_SumRepRef := fun m g _ =>
  (θ_run Cert.SumRepRef.defs _ _).mono (fun r h => ⟨fun c => (h c).2, sem_eq_zero_of_no_sems (by decide) r.2⟩)
    (Cert.SumRepRef.Value.run (F := Bits) m g)
theorem body_sumRep : Cert.SumRep.defs₀ (F := Bits) = Cert.SumRepIdeal.defs₀ := congrArg Defs.onTc (by
  funext l a
  match l, a with
  | 0, (t, s) => rfl)
theorem defs_sumRep : Cert.SumRep.defs (F := Bits) = Cert.SumRepIdeal.defs := congrArg (Pipeline.defs (Cert.SumRepIdeal.pcfgs (F := Bits))) body_sumRep
theorem bitexact_sumRep : Cert.bitexact_SumRep_SumRepRef := by
  unfold Cert.bitexact_SumRep_SumRepRef
  rw [defs_sumRep]
  exact fun m g m' g' _ h => Exchange.SumRep.values (F := Bits) m g m' g' h
theorem algebraic_sumRep : Cert.algebraic_SumRepIdeal_SumRepRefIdeal := fun m g m' g' _ h => Exchange.SumRep.values (F := Ideal) m g m' g' h

/-! ## The row-wise normalisations

The two joins of a layer are one program under two names, and so are their derivatives: one module serves both. -/

theorem body_end : Cert.EndIdeal.defs₀ (F := Ideal) = Cert.MidIdeal.defs₀ := congrArg Defs.onTc (by
  funext l a
  match l, a with
  | 0, (t, s) => rfl)
theorem defs_end : Cert.EndIdeal.defs (F := Ideal) = Cert.MidIdeal.defs :=
  congrArg (Pipeline.defs (Cert.MidIdeal.pcfgs (F := Ideal))) body_end
theorem algebraic_end : Cert.algebraic_EndIdeal_EndRefIdeal := by
  unfold Cert.algebraic_EndIdeal_EndRefIdeal
  rw [defs_end]
  exact Exchange.NormJoin.values

theorem body_endBwd : Cert.EndBwdIdeal.defs₀ (F := Ideal) = Cert.MidBwdIdeal.defs₀ := congrArg Defs.onTc (by
  funext l a
  match l, a with
  | 0, (t, s) => rfl)
theorem defs_endBwd : Cert.EndBwdIdeal.defs (F := Ideal) = Cert.MidBwdIdeal.defs :=
  congrArg (Pipeline.defs (Cert.MidBwdIdeal.pcfgs (F := Ideal))) body_endBwd
set_option maxHeartbeats 2000000 in
theorem algebraic_endBwd : Cert.algebraic_EndBwdIdeal_EndBwdRefIdeal := by
  unfold Cert.algebraic_EndBwdIdeal_EndBwdRefIdeal
  rw [defs_endBwd]
  exact Exchange.NormJoinBwd.values

theorem frame_firstRefIdeal : Cert.quiescent_FirstRefIdeal := fun m g _ =>
  (θ_run Cert.FirstRefIdeal.defs _ _).mono (fun r h => ⟨fun c => (h c).2, sem_eq_zero_of_no_sems (by decide) r.2⟩)
    (Cert.FirstRefIdeal.Value.run (F := Ideal) m g)
theorem frame_midRefIdeal : Cert.quiescent_MidRefIdeal := fun m g _ =>
  (θ_run Cert.MidRefIdeal.defs _ _).mono (fun r h => ⟨fun c => (h c).2.2, sem_eq_zero_of_no_sems (by decide) r.2⟩)
    (Cert.MidRefIdeal.Value.run (F := Ideal) m g)
theorem frame_endRefIdeal : Cert.quiescent_EndRefIdeal := fun m g _ =>
  (θ_run Cert.EndRefIdeal.defs _ _).mono (fun r h => ⟨fun c => (h c).2.2, sem_eq_zero_of_no_sems (by decide) r.2⟩)
    (Cert.EndRefIdeal.Value.run (F := Ideal) m g)
theorem frame_lastRefIdeal : Cert.quiescent_LastRefIdeal := fun m g _ =>
  (θ_run Cert.LastRefIdeal.defs _ _).mono (fun r h => ⟨fun c => (h c).2, sem_eq_zero_of_no_sems (by decide) r.2⟩)
    (Cert.LastRefIdeal.Value.run (F := Ideal) m g)
theorem frame_lastBwdRefIdeal : Cert.quiescent_LastBwdRefIdeal := fun m g _ =>
  (θ_run Cert.LastBwdRefIdeal.defs _ _).mono (fun r h => ⟨fun c => (h c).2.2.2, sem_eq_zero_of_no_sems (by decide) r.2⟩)
    (Cert.LastBwdRefIdeal.Value.run (F := Ideal) m g)
theorem frame_endBwdRefIdeal : Cert.quiescent_EndBwdRefIdeal := fun m g _ =>
  (θ_run Cert.EndBwdRefIdeal.defs _ _).mono (fun r h => ⟨fun c => (h c).2.2.2.2, sem_eq_zero_of_no_sems (by decide) r.2⟩)
    (Cert.EndBwdRefIdeal.Value.run (F := Ideal) m g)
theorem frame_midBwdRefIdeal : Cert.quiescent_MidBwdRefIdeal := fun m g _ =>
  (θ_run Cert.MidBwdRefIdeal.defs _ _).mono (fun r h => ⟨fun c => (h c).2.2.2.2, sem_eq_zero_of_no_sems (by decide) r.2⟩)
    (Cert.MidBwdRefIdeal.Value.run (F := Ideal) m g)

/-! ## The matrix products -/

theorem frame_inAbRefIdeal : Cert.quiescent_InAbRefIdeal := fun m g _ =>
  (θ_run Cert.InAbRefIdeal.defs _ _).mono (fun r h => ⟨fun c => (h c).2, sem_eq_zero_of_no_sems (by decide) r.2⟩)
    (Cert.InAbRefIdeal.Value.run (F := Ideal) m g)
theorem frame_inAbDxRefIdeal : Cert.quiescent_InAbDxRefIdeal := fun m g _ =>
  (θ_run Cert.InAbDxRefIdeal.defs _ _).mono (fun r h => ⟨fun c => (h c).2, sem_eq_zero_of_no_sems (by decide) r.2⟩)
    (Cert.InAbDxRefIdeal.Value.run (F := Ideal) m g)
theorem frame_inAbDwRefIdeal : Cert.quiescent_InAbDwRefIdeal := fun m g _ =>
  (θ_run Cert.InAbDwRefIdeal.defs _ _).mono (fun r h => ⟨fun c => (h c).2, sem_eq_zero_of_no_sems (by decide) r.2⟩)
    (Cert.InAbDwRefIdeal.Value.run (F := Ideal) m g)
theorem frame_outAbRefIdeal : Cert.quiescent_OutAbRefIdeal := fun m g _ =>
  (θ_run Cert.OutAbRefIdeal.defs _ _).mono (fun r h => ⟨fun c => (h c).2, sem_eq_zero_of_no_sems (by decide) r.2⟩)
    (Cert.OutAbRefIdeal.Value.run (F := Ideal) m g)
theorem frame_outAbDxRefIdeal : Cert.quiescent_OutAbDxRefIdeal := fun m g _ =>
  (θ_run Cert.OutAbDxRefIdeal.defs _ _).mono (fun r h => ⟨fun c => (h c).2, sem_eq_zero_of_no_sems (by decide) r.2⟩)
    (Cert.OutAbDxRefIdeal.Value.run (F := Ideal) m g)
theorem frame_outAbDwRefIdeal : Cert.quiescent_OutAbDwRefIdeal := fun m g _ =>
  (θ_run Cert.OutAbDwRefIdeal.defs _ _).mono (fun r h => ⟨fun c => (h c).2, sem_eq_zero_of_no_sems (by decide) r.2⟩)
    (Cert.OutAbDwRefIdeal.Value.run (F := Ideal) m g)
theorem frame_inCRefIdeal : Cert.quiescent_InCRefIdeal := fun m g _ =>
  (θ_run Cert.InCRefIdeal.defs _ _).mono (fun r h => ⟨fun c => (h c).2, sem_eq_zero_of_no_sems (by decide) r.2⟩)
    (Cert.InCRefIdeal.Value.run (F := Ideal) m g)
theorem frame_inCDwRefIdeal : Cert.quiescent_InCDwRefIdeal := fun m g _ =>
  (θ_run Cert.InCDwRefIdeal.defs _ _).mono (fun r h => ⟨fun c => (h c).2, sem_eq_zero_of_no_sems (by decide) r.2⟩)
    (Cert.InCDwRefIdeal.Value.run (F := Ideal) m g)
theorem frame_inDtRefIdeal : Cert.quiescent_InDtRefIdeal := fun m g _ =>
  (θ_run Cert.InDtRefIdeal.defs _ _).mono (fun r h => ⟨fun c => (h c).2, sem_eq_zero_of_no_sems (by decide) r.2⟩)
    (Cert.InDtRefIdeal.Value.run (F := Ideal) m g)
theorem frame_inDtDxRefIdeal : Cert.quiescent_InDtDxRefIdeal := fun m g _ =>
  (θ_run Cert.InDtDxRefIdeal.defs _ _).mono (fun r h => ⟨fun c => (h c).2, sem_eq_zero_of_no_sems (by decide) r.2⟩)
    (Cert.InDtDxRefIdeal.Value.run (F := Ideal) m g)
theorem frame_inDtDwRefIdeal : Cert.quiescent_InDtDwRefIdeal := fun m g _ =>
  (θ_run Cert.InDtDwRefIdeal.defs _ _).mono (fun r h => ⟨fun c => (h c).2, sem_eq_zero_of_no_sems (by decide) r.2⟩)
    (Cert.InDtDwRefIdeal.Value.run (F := Ideal) m g)
theorem frame_outCRefIdeal : Cert.quiescent_OutCRefIdeal := fun m g _ =>
  (θ_run Cert.OutCRefIdeal.defs _ _).mono (fun r h => ⟨fun c => (h c).2, sem_eq_zero_of_no_sems (by decide) r.2⟩)
    (Cert.OutCRefIdeal.Value.run (F := Ideal) m g)
theorem frame_outCDxRefIdeal : Cert.quiescent_OutCDxRefIdeal := fun m g _ =>
  (θ_run Cert.OutCDxRefIdeal.defs _ _).mono (fun r h => ⟨fun c => (h c).2, sem_eq_zero_of_no_sems (by decide) r.2⟩)
    (Cert.OutCDxRefIdeal.Value.run (F := Ideal) m g)
theorem frame_outCDwRefIdeal : Cert.quiescent_OutCDwRefIdeal := fun m g _ =>
  (θ_run Cert.OutCDwRefIdeal.defs _ _).mono (fun r h => ⟨fun c => (h c).2, sem_eq_zero_of_no_sems (by decide) r.2⟩)
    (Cert.OutCDwRefIdeal.Value.run (F := Ideal) m g)
theorem frame_upRefIdeal : Cert.quiescent_UpRefIdeal := fun m g _ =>
  (θ_run Cert.UpRefIdeal.defs _ _).mono (fun r h => ⟨fun c => (h c).2, sem_eq_zero_of_no_sems (by decide) r.2⟩)
    (Cert.UpRefIdeal.Value.run (F := Ideal) m g)
theorem frame_upDxRefIdeal : Cert.quiescent_UpDxRefIdeal := fun m g _ =>
  (θ_run Cert.UpDxRefIdeal.defs _ _).mono (fun r h => ⟨fun c => (h c).2, sem_eq_zero_of_no_sems (by decide) r.2⟩)
    (Cert.UpDxRefIdeal.Value.run (F := Ideal) m g)
theorem frame_upDwRefIdeal : Cert.quiescent_UpDwRefIdeal := fun m g _ =>
  (θ_run Cert.UpDwRefIdeal.defs _ _).mono (fun r h => ⟨fun c => (h c).2, sem_eq_zero_of_no_sems (by decide) r.2⟩)
    (Cert.UpDwRefIdeal.Value.run (F := Ideal) m g)
theorem frame_downRefIdeal : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)
theorem frame_downDxRefIdeal : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run (F := Ideal) m g)
theorem frame_downDwRefIdeal : Cert.quiescent_DownDwRefIdeal := fun m g _ =>
  (θ_run Cert.DownDwRefIdeal.defs _ _).mono (fun r h => ⟨fun c => (h c).2, sem_eq_zero_of_no_sems (by decide) r.2⟩)
    (Cert.DownDwRefIdeal.Value.run (F := Ideal) m g)
theorem frame_inCDxRefIdeal : Cert.quiescent_InCDxRefIdeal := fun m g _ =>
  (θ_run Cert.InCDxRefIdeal.defs _ _).mono (fun r h => ⟨fun c => (h c).2, sem_eq_zero_of_no_sems (by decide) r.2⟩)
    (Cert.InCDxRefIdeal.Value.run (F := Ideal) m g)

/-! ## The moves of columns, and the sum of the decay gradient -/

theorem frame_colsAbRefIdeal : Cert.quiescent_ColsAbRefIdeal := fun m g _ =>
  (θ_run Cert.ColsAbRefIdeal.defs _ _).mono (fun r h => ⟨fun c => (h c).2, sem_eq_zero_of_no_sems (by decide) r.2⟩)
    (Cert.ColsAbRefIdeal.Value.run (F := Ideal) m g)
theorem frame_colsAbRef : Cert.quiescent_ColsAbRef := fun m g _ =>
  (θ_run Cert.ColsAbRef.defs _ _).mono (fun r h => ⟨fun c => (h c).2, sem_eq_zero_of_no_sems (by decide) r.2⟩)
    (Cert.ColsAbRef.Value.run (F := Bits) m g)
theorem body_colsAb : Cert.ColsAb.defs₀ (F := Bits) = Cert.ColsAbIdeal.defs₀ := congrArg Defs.onTc (by
  funext l a
  match l, a with
  | 0, (t, s) => rfl)
theorem defs_colsAb : Cert.ColsAb.defs (F := Bits) = Cert.ColsAbIdeal.defs := congrArg (Pipeline.defs (Cert.ColsAbIdeal.pcfgs (F := Bits))) body_colsAb
theorem bitexact_colsAb : Cert.bitexact_ColsAb_ColsAbRef := by
  unfold Cert.bitexact_ColsAb_ColsAbRef
  rw [defs_colsAb]
  exact fun m g m' g' _ h => Exchange.ColumnsIn.ColsAb.values (F := Bits) m g m' g' h
theorem algebraic_colsAb : Cert.algebraic_ColsAbIdeal_ColsAbRefIdeal := fun m g m' g' _ h => Exchange.ColumnsIn.ColsAb.values (F := Ideal) m g m' g' h
theorem frame_colsCRefIdeal : Cert.quiescent_ColsCRefIdeal := fun m g _ =>
  (θ_run Cert.ColsCRefIdeal.defs _ _).mono (fun r h => ⟨fun c => (h c).2.2, sem_eq_zero_of_no_sems (by decide) r.2⟩)
    (Cert.ColsCRefIdeal.Value.run (F := Ideal) m g)
theorem frame_colsCRef : Cert.quiescent_ColsCRef := fun m g _ =>
  (θ_run Cert.ColsCRef.defs _ _).mono (fun r h => ⟨fun c => (h c).2.2, sem_eq_zero_of_no_sems (by decide) r.2⟩)
    (Cert.ColsCRef.Value.run (F := Bits) m g)
theorem body_colsC : Cert.ColsC.defs₀ (F := Bits) = Cert.ColsCIdeal.defs₀ := congrArg Defs.onTc (by
  funext l a
  match l, a with
  | 0, (t, s) => rfl)
theorem defs_colsC : Cert.ColsC.defs (F := Bits) = Cert.ColsCIdeal.defs := congrArg (Pipeline.defs (Cert.ColsCIdeal.pcfgs (F := Bits))) body_colsC
theorem bitexact_colsC : Cert.bitexact_ColsC_ColsCRef := by
  unfold Cert.bitexact_ColsC_ColsCRef
  rw [defs_colsC]
  exact fun m g m' g' _ h => Exchange.ColumnsIn.ColsC.values (F := Bits) m g m' g' h
theorem algebraic_colsC : Cert.algebraic_ColsCIdeal_ColsCRefIdeal := fun m g m' g' _ h => Exchange.ColumnsIn.ColsC.values (F := Ideal) m g m' g' h
theorem frame_colsUpRefIdeal : Cert.quiescent_ColsUpRefIdeal := fun m g _ =>
  (θ_run Cert.ColsUpRefIdeal.defs _ _).mono (fun r h => ⟨fun c => (h c).2, sem_eq_zero_of_no_sems (by decide) r.2⟩)
    (Cert.ColsUpRefIdeal.Value.run (F := Ideal) m g)
theorem frame_colsUpRef : Cert.quiescent_ColsUpRef := fun m g _ =>
  (θ_run Cert.ColsUpRef.defs _ _).mono (fun r h => ⟨fun c => (h c).2, sem_eq_zero_of_no_sems (by decide) r.2⟩)
    (Cert.ColsUpRef.Value.run (F := Bits) m g)
theorem body_colsUp : Cert.ColsUp.defs₀ (F := Bits) = Cert.ColsUpIdeal.defs₀ := congrArg Defs.onTc (by
  funext l a
  match l, a with
  | 0, (t, s) => rfl)
theorem defs_colsUp : Cert.ColsUp.defs (F := Bits) = Cert.ColsUpIdeal.defs := congrArg (Pipeline.defs (Cert.ColsUpIdeal.pcfgs (F := Bits))) body_colsUp
theorem bitexact_colsUp : Cert.bitexact_ColsUp_ColsUpRef := by
  unfold Cert.bitexact_ColsUp_ColsUpRef
  rw [defs_colsUp]
  exact fun m g m' g' _ h => Exchange.ColumnsIn.ColsUp.values (F := Bits) m g m' g' h
theorem algebraic_colsUp : Cert.algebraic_ColsUpIdeal_ColsUpRefIdeal := fun m g m' g' _ h => Exchange.ColumnsIn.ColsUp.values (F := Ideal) m g m' g' h
theorem frame_slotsAbRefIdeal : Cert.quiescent_SlotsAbRefIdeal := fun m g _ =>
  (θ_run Cert.SlotsAbRefIdeal.defs _ _).mono (fun r h => ⟨fun c => (h c).2, sem_eq_zero_of_no_sems (by decide) r.2⟩)
    (Cert.SlotsAbRefIdeal.Value.run (F := Ideal) m g)
theorem frame_slotsAbRef : Cert.quiescent_SlotsAbRef := fun m g _ =>
  (θ_run Cert.SlotsAbRef.defs _ _).mono (fun r h => ⟨fun c => (h c).2, sem_eq_zero_of_no_sems (by decide) r.2⟩)
    (Cert.SlotsAbRef.Value.run (F := Bits) m g)
theorem body_slotsAb : Cert.SlotsAb.defs₀ (F := Bits) = Cert.SlotsAbIdeal.defs₀ := congrArg Defs.onTc (by
  funext l a
  match l, a with
  | 0, (t, s) => rfl)
theorem defs_slotsAb : Cert.SlotsAb.defs (F := Bits) = Cert.SlotsAbIdeal.defs := congrArg (Pipeline.defs (Cert.SlotsAbIdeal.pcfgs (F := Bits))) body_slotsAb
theorem bitexact_slotsAb : Cert.bitexact_SlotsAb_SlotsAbRef := by
  unfold Cert.bitexact_SlotsAb_SlotsAbRef
  rw [defs_slotsAb]
  exact fun m g m' g' _ h => Exchange.ColumnsOut.SlotsAb.values (F := Bits) m g m' g' h
theorem algebraic_slotsAb : Cert.algebraic_SlotsAbIdeal_SlotsAbRefIdeal := fun m g m' g' _ h => Exchange.ColumnsOut.SlotsAb.values (F := Ideal) m g m' g' h
theorem frame_slotsCRefIdeal : Cert.quiescent_SlotsCRefIdeal := fun m g _ =>
  (θ_run Cert.SlotsCRefIdeal.defs _ _).mono (fun r h => ⟨fun c => (h c).2, sem_eq_zero_of_no_sems (by decide) r.2⟩)
    (Cert.SlotsCRefIdeal.Value.run (F := Ideal) m g)
theorem frame_slotsCRef : Cert.quiescent_SlotsCRef := fun m g _ =>
  (θ_run Cert.SlotsCRef.defs _ _).mono (fun r h => ⟨fun c => (h c).2, sem_eq_zero_of_no_sems (by decide) r.2⟩)
    (Cert.SlotsCRef.Value.run (F := Bits) m g)
theorem body_slotsC : Cert.SlotsC.defs₀ (F := Bits) = Cert.SlotsCIdeal.defs₀ := congrArg Defs.onTc (by
  funext l a
  match l, a with
  | 0, (t, s) => rfl)
theorem defs_slotsC : Cert.SlotsC.defs (F := Bits) = Cert.SlotsCIdeal.defs := congrArg (Pipeline.defs (Cert.SlotsCIdeal.pcfgs (F := Bits))) body_slotsC
theorem bitexact_slotsC : Cert.bitexact_SlotsC_SlotsCRef := by
  unfold Cert.bitexact_SlotsC_SlotsCRef
  rw [defs_slotsC]
  exact fun m g m' g' _ h => Exchange.ColumnsOut.SlotsC.values (F := Bits) m g m' g' h
theorem algebraic_slotsC : Cert.algebraic_SlotsCIdeal_SlotsCRefIdeal := fun m g m' g' _ h => Exchange.ColumnsOut.SlotsC.values (F := Ideal) m g m' g' h
theorem frame_slotsUpRefIdeal : Cert.quiescent_SlotsUpRefIdeal := fun m g _ =>
  (θ_run Cert.SlotsUpRefIdeal.defs _ _).mono (fun r h => ⟨fun c => (h c).2, sem_eq_zero_of_no_sems (by decide) r.2⟩)
    (Cert.SlotsUpRefIdeal.Value.run (F := Ideal) m g)
theorem frame_slotsUpRef : Cert.quiescent_SlotsUpRef := fun m g _ =>
  (θ_run Cert.SlotsUpRef.defs _ _).mono (fun r h => ⟨fun c => (h c).2, sem_eq_zero_of_no_sems (by decide) r.2⟩)
    (Cert.SlotsUpRef.Value.run (F := Bits) m g)
theorem body_slotsUp : Cert.SlotsUp.defs₀ (F := Bits) = Cert.SlotsUpIdeal.defs₀ := congrArg Defs.onTc (by
  funext l a
  match l, a with
  | 0, (t, s) => rfl)
theorem defs_slotsUp : Cert.SlotsUp.defs (F := Bits) = Cert.SlotsUpIdeal.defs := congrArg (Pipeline.defs (Cert.SlotsUpIdeal.pcfgs (F := Bits))) body_slotsUp
theorem bitexact_slotsUp : Cert.bitexact_SlotsUp_SlotsUpRef := by
  unfold Cert.bitexact_SlotsUp_SlotsUpRef
  rw [defs_slotsUp]
  exact fun m g m' g' _ h => Exchange.ColumnsOut.SlotsUp.values (F := Bits) m g m' g' h
theorem algebraic_slotsUp : Cert.algebraic_SlotsUpIdeal_SlotsUpRefIdeal := fun m g m' g' _ h => Exchange.ColumnsOut.SlotsUp.values (F := Ideal) m g m' g' h
theorem frame_decaySumRefIdeal : Cert.quiescent_DecaySumRefIdeal := fun m g _ =>
  (θ_run Cert.DecaySumRefIdeal.defs _ _).mono (fun r h => ⟨fun c => (h c).2, sem_eq_zero_of_no_sems (by decide) r.2⟩)
    (Cert.DecaySumRefIdeal.Value.run (F := Ideal) m g)

theorem claim : Cert.Claim :=
  ⟨Cert.Gather.Gen.facts, Cert.GatherIdeal.Gen.facts, Cert.GatherRefIdeal.Gen.facts, Cert.GatherRef.Gen.facts,
    Cert.Sibling.Gen.facts, Cert.SiblingIdeal.Gen.facts, Cert.SiblingRefIdeal.Gen.facts, Cert.SiblingRef.Gen.facts,
    Cert.Chips.Gen.facts, Cert.ChipsIdeal.Gen.facts, Cert.ChipsRefIdeal.Gen.facts, Cert.ChipsRef.Gen.facts,
    Cert.AdamwAb.Gen.facts, Cert.AdamwAbIdeal.Gen.facts, Cert.AdamwAbRefIdeal.Gen.facts,
    Cert.AdamwC.Gen.facts, Cert.AdamwCIdeal.Gen.facts, Cert.AdamwCRefIdeal.Gen.facts,
    Cert.AdamwUp.Gen.facts, Cert.AdamwUpIdeal.Gen.facts, Cert.AdamwUpRefIdeal.Gen.facts,
    Cert.AdamwRows.Gen.facts, Cert.AdamwRowsIdeal.Gen.facts, Cert.AdamwRowsRefIdeal.Gen.facts,
    Cert.AdamwSmall.Gen.facts, Cert.AdamwSmallIdeal.Gen.facts, Cert.AdamwSmallRefIdeal.Gen.facts,
    Cert.AdamwRep.Gen.facts, Cert.AdamwRepIdeal.Gen.facts, Cert.AdamwRepRefIdeal.Gen.facts,
    Cert.Loss.Gen.facts, Cert.LossIdeal.Gen.facts, Cert.LossRefIdeal.Gen.facts,
    Cert.NormFirst.Gen.facts, Cert.NormFirstIdeal.Gen.facts, Cert.NormFirstRefIdeal.Gen.facts,
    Cert.SumAb.Gen.facts, Cert.SumAbIdeal.Gen.facts, Cert.SumAbRefIdeal.Gen.facts, Cert.SumAbRef.Gen.facts,
    Cert.SumC.Gen.facts, Cert.SumCIdeal.Gen.facts, Cert.SumCRefIdeal.Gen.facts, Cert.SumCRef.Gen.facts,
    Cert.SumUp.Gen.facts, Cert.SumUpIdeal.Gen.facts, Cert.SumUpRefIdeal.Gen.facts, Cert.SumUpRef.Gen.facts,
    Cert.SumRows.Gen.facts, Cert.SumRowsIdeal.Gen.facts, Cert.SumRowsRefIdeal.Gen.facts, Cert.SumRowsRef.Gen.facts,
    Cert.SumSmall.Gen.facts, Cert.SumSmallIdeal.Gen.facts, Cert.SumSmallRefIdeal.Gen.facts, Cert.SumSmallRef.Gen.facts,
    Cert.SumRep.Gen.facts, Cert.SumRepIdeal.Gen.facts, Cert.SumRepRefIdeal.Gen.facts, Cert.SumRepRef.Gen.facts,
    Cert.First.Gen.facts, Cert.FirstIdeal.Gen.facts, Cert.FirstRefIdeal.Gen.facts,
    Cert.Mid.Gen.facts, Cert.MidIdeal.Gen.facts, Cert.MidRefIdeal.Gen.facts,
    Cert.End.Gen.facts, Cert.EndIdeal.Gen.facts, Cert.EndRefIdeal.Gen.facts,
    Cert.Last.Gen.facts, Cert.LastIdeal.Gen.facts, Cert.LastRefIdeal.Gen.facts,
    Cert.LastBwd.Gen.facts, Cert.LastBwdIdeal.Gen.facts, Cert.LastBwdRefIdeal.Gen.facts,
    Cert.EndBwd.Gen.facts, Cert.EndBwdIdeal.Gen.facts, Cert.EndBwdRefIdeal.Gen.facts,
    Cert.MidBwd.Gen.facts, Cert.MidBwdIdeal.Gen.facts, Cert.MidBwdRefIdeal.Gen.facts,
    Cert.InAb.Gen.facts, Cert.InAbIdeal.Gen.facts, Cert.InAbRefIdeal.Gen.facts,
    Cert.InAbDx.Gen.facts, Cert.InAbDxIdeal.Gen.facts, Cert.InAbDxRefIdeal.Gen.facts,
    Cert.InAbDw.Gen.facts, Cert.InAbDwIdeal.Gen.facts, Cert.InAbDwRefIdeal.Gen.facts,
    Cert.OutAb.Gen.facts, Cert.OutAbIdeal.Gen.facts, Cert.OutAbRefIdeal.Gen.facts,
    Cert.OutAbDx.Gen.facts, Cert.OutAbDxIdeal.Gen.facts, Cert.OutAbDxRefIdeal.Gen.facts,
    Cert.OutAbDw.Gen.facts, Cert.OutAbDwIdeal.Gen.facts, Cert.OutAbDwRefIdeal.Gen.facts,
    Cert.InC.Gen.facts, Cert.InCIdeal.Gen.facts, Cert.InCRefIdeal.Gen.facts,
    Cert.InCDw.Gen.facts, Cert.InCDwIdeal.Gen.facts, Cert.InCDwRefIdeal.Gen.facts,
    Cert.InDt.Gen.facts, Cert.InDtIdeal.Gen.facts, Cert.InDtRefIdeal.Gen.facts,
    Cert.InDtDx.Gen.facts, Cert.InDtDxIdeal.Gen.facts, Cert.InDtDxRefIdeal.Gen.facts,
    Cert.InDtDw.Gen.facts, Cert.InDtDwIdeal.Gen.facts, Cert.InDtDwRefIdeal.Gen.facts,
    Cert.OutC.Gen.facts, Cert.OutCIdeal.Gen.facts, Cert.OutCRefIdeal.Gen.facts,
    Cert.OutCDx.Gen.facts, Cert.OutCDxIdeal.Gen.facts, Cert.OutCDxRefIdeal.Gen.facts,
    Cert.OutCDw.Gen.facts, Cert.OutCDwIdeal.Gen.facts, Cert.OutCDwRefIdeal.Gen.facts,
    Cert.Up.Gen.facts, Cert.UpIdeal.Gen.facts, Cert.UpRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.Down.Gen.facts, Cert.DownIdeal.Gen.facts, Cert.DownRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.InCDx.Gen.facts, Cert.InCDxIdeal.Gen.facts, Cert.InCDxRefIdeal.Gen.facts,
    Cert.ColsAb.Gen.facts, Cert.ColsAbIdeal.Gen.facts, Cert.ColsAbRefIdeal.Gen.facts, Cert.ColsAbRef.Gen.facts,
    Cert.ColsC.Gen.facts, Cert.ColsCIdeal.Gen.facts, Cert.ColsCRefIdeal.Gen.facts, Cert.ColsCRef.Gen.facts,
    Cert.ColsUp.Gen.facts, Cert.ColsUpIdeal.Gen.facts, Cert.ColsUpRefIdeal.Gen.facts, Cert.ColsUpRef.Gen.facts,
    Cert.SlotsAb.Gen.facts, Cert.SlotsAbIdeal.Gen.facts, Cert.SlotsAbRefIdeal.Gen.facts, Cert.SlotsAbRef.Gen.facts,
    Cert.SlotsC.Gen.facts, Cert.SlotsCIdeal.Gen.facts, Cert.SlotsCRefIdeal.Gen.facts, Cert.SlotsCRef.Gen.facts,
    Cert.SlotsUp.Gen.facts, Cert.SlotsUpIdeal.Gen.facts, Cert.SlotsUpRefIdeal.Gen.facts, Cert.SlotsUpRef.Gen.facts,
    Cert.DecaySum.Gen.facts, Cert.DecaySumIdeal.Gen.facts, Cert.DecaySumRefIdeal.Gen.facts,
    frame_gather, frame_gatherIdeal, frame_gatherRefIdeal, frame_gatherRef,
    frame_sibling, frame_siblingIdeal, frame_siblingRefIdeal, frame_siblingRef,
    frame_chips, frame_chipsIdeal, frame_chipsRefIdeal, frame_chipsRef,
    fun m g _ => Cert.AdamwAb.Gen.frame m g, fun m g _ => Cert.AdamwAbIdeal.Gen.frame m g, frame_adamwAbRefIdeal,
    fun m g _ => Cert.AdamwC.Gen.frame m g, fun m g _ => Cert.AdamwCIdeal.Gen.frame m g, frame_adamwCRefIdeal,
    fun m g _ => Cert.AdamwUp.Gen.frame m g, fun m g _ => Cert.AdamwUpIdeal.Gen.frame m g, frame_adamwUpRefIdeal,
    fun m g _ => Cert.AdamwRows.Gen.frame m g, fun m g _ => Cert.AdamwRowsIdeal.Gen.frame m g, frame_adamwRowsRefIdeal,
    fun m g _ => Cert.AdamwSmall.Gen.frame m g, fun m g _ => Cert.AdamwSmallIdeal.Gen.frame m g, frame_adamwSmallRefIdeal,
    fun m g _ => Cert.AdamwRep.Gen.frame m g, fun m g _ => Cert.AdamwRepIdeal.Gen.frame m g, frame_adamwRepRefIdeal,
    fun m g _ => Cert.Loss.Gen.frame m g, fun m g _ => Cert.LossIdeal.Gen.frame m g, frame_lossRefIdeal,
    fun m g _ => Cert.NormFirst.Gen.frame m g, fun m g _ => Cert.NormFirstIdeal.Gen.frame m g, frame_normFirstRefIdeal,
    fun m g _ => Cert.SumAb.Gen.frame m g, fun m g _ => Cert.SumAbIdeal.Gen.frame m g, frame_sumAbRefIdeal, frame_sumAbRef,
    fun m g _ => Cert.SumC.Gen.frame m g, fun m g _ => Cert.SumCIdeal.Gen.frame m g, frame_sumCRefIdeal, frame_sumCRef,
    fun m g _ => Cert.SumUp.Gen.frame m g, fun m g _ => Cert.SumUpIdeal.Gen.frame m g, frame_sumUpRefIdeal, frame_sumUpRef,
    fun m g _ => Cert.SumRows.Gen.frame m g, fun m g _ => Cert.SumRowsIdeal.Gen.frame m g, frame_sumRowsRefIdeal, frame_sumRowsRef,
    fun m g _ => Cert.SumSmall.Gen.frame m g, fun m g _ => Cert.SumSmallIdeal.Gen.frame m g, frame_sumSmallRefIdeal, frame_sumSmallRef,
    fun m g _ => Cert.SumRep.Gen.frame m g, fun m g _ => Cert.SumRepIdeal.Gen.frame m g, frame_sumRepRefIdeal, frame_sumRepRef,
    fun m g _ => Cert.First.Gen.frame m g, fun m g _ => Cert.FirstIdeal.Gen.frame m g, frame_firstRefIdeal,
    fun m g _ => Cert.Mid.Gen.frame m g, fun m g _ => Cert.MidIdeal.Gen.frame m g, frame_midRefIdeal,
    fun m g _ => Cert.End.Gen.frame m g, fun m g _ => Cert.EndIdeal.Gen.frame m g, frame_endRefIdeal,
    fun m g _ => Cert.Last.Gen.frame m g, fun m g _ => Cert.LastIdeal.Gen.frame m g, frame_lastRefIdeal,
    fun m g _ => Cert.LastBwd.Gen.frame m g, fun m g _ => Cert.LastBwdIdeal.Gen.frame m g, frame_lastBwdRefIdeal,
    fun m g _ => Cert.EndBwd.Gen.frame m g, fun m g _ => Cert.EndBwdIdeal.Gen.frame m g, frame_endBwdRefIdeal,
    fun m g _ => Cert.MidBwd.Gen.frame m g, fun m g _ => Cert.MidBwdIdeal.Gen.frame m g, frame_midBwdRefIdeal,
    fun m g _ => Cert.InAb.Gen.frame m g, fun m g _ => Cert.InAbIdeal.Gen.frame m g, frame_inAbRefIdeal,
    fun m g _ => Cert.InAbDx.Gen.frame m g, fun m g _ => Cert.InAbDxIdeal.Gen.frame m g, frame_inAbDxRefIdeal,
    fun m g _ => Cert.InAbDw.Gen.frame m g, fun m g _ => Cert.InAbDwIdeal.Gen.frame m g, frame_inAbDwRefIdeal,
    fun m g _ => Cert.OutAb.Gen.frame m g, fun m g _ => Cert.OutAbIdeal.Gen.frame m g, frame_outAbRefIdeal,
    fun m g _ => Cert.OutAbDx.Gen.frame m g, fun m g _ => Cert.OutAbDxIdeal.Gen.frame m g, frame_outAbDxRefIdeal,
    fun m g _ => Cert.OutAbDw.Gen.frame m g, fun m g _ => Cert.OutAbDwIdeal.Gen.frame m g, frame_outAbDwRefIdeal,
    fun m g _ => Cert.InC.Gen.frame m g, fun m g _ => Cert.InCIdeal.Gen.frame m g, frame_inCRefIdeal,
    fun m g _ => Cert.InCDw.Gen.frame m g, fun m g _ => Cert.InCDwIdeal.Gen.frame m g, frame_inCDwRefIdeal,
    fun m g _ => Cert.InDt.Gen.frame m g, fun m g _ => Cert.InDtIdeal.Gen.frame m g, frame_inDtRefIdeal,
    fun m g _ => Cert.InDtDx.Gen.frame m g, fun m g _ => Cert.InDtDxIdeal.Gen.frame m g, frame_inDtDxRefIdeal,
    fun m g _ => Cert.InDtDw.Gen.frame m g, fun m g _ => Cert.InDtDwIdeal.Gen.frame m g, frame_inDtDwRefIdeal,
    fun m g _ => Cert.OutC.Gen.frame m g, fun m g _ => Cert.OutCIdeal.Gen.frame m g, frame_outCRefIdeal,
    fun m g _ => Cert.OutCDx.Gen.frame m g, fun m g _ => Cert.OutCDxIdeal.Gen.frame m g, frame_outCDxRefIdeal,
    fun m g _ => Cert.OutCDw.Gen.frame m g, fun m g _ => Cert.OutCDwIdeal.Gen.frame m g, frame_outCDwRefIdeal,
    fun m g _ => Cert.Up.Gen.frame m g, fun m g _ => Cert.UpIdeal.Gen.frame m g, frame_upRefIdeal,
    fun m g _ => Cert.UpDx.Gen.frame m g, fun m g _ => Cert.UpDxIdeal.Gen.frame m g, frame_upDxRefIdeal,
    fun m g _ => Cert.UpDw.Gen.frame m g, fun m g _ => Cert.UpDwIdeal.Gen.frame m g, frame_upDwRefIdeal,
    fun m g _ => Cert.Down.Gen.frame m g, fun m g _ => Cert.DownIdeal.Gen.frame m g, frame_downRefIdeal,
    fun m g _ => Cert.DownDx.Gen.frame m g, fun m g _ => Cert.DownDxIdeal.Gen.frame m g, frame_downDxRefIdeal,
    fun m g _ => Cert.DownDw.Gen.frame m g, fun m g _ => Cert.DownDwIdeal.Gen.frame m g, frame_downDwRefIdeal,
    fun m g _ => Cert.InCDx.Gen.frame m g, fun m g _ => Cert.InCDxIdeal.Gen.frame m g, frame_inCDxRefIdeal,
    fun m g _ => Cert.ColsAb.Gen.frame m g, fun m g _ => Cert.ColsAbIdeal.Gen.frame m g, frame_colsAbRefIdeal, frame_colsAbRef,
    fun m g _ => Cert.ColsC.Gen.frame m g, fun m g _ => Cert.ColsCIdeal.Gen.frame m g, frame_colsCRefIdeal, frame_colsCRef,
    fun m g _ => Cert.ColsUp.Gen.frame m g, fun m g _ => Cert.ColsUpIdeal.Gen.frame m g, frame_colsUpRefIdeal, frame_colsUpRef,
    fun m g _ => Cert.SlotsAb.Gen.frame m g, fun m g _ => Cert.SlotsAbIdeal.Gen.frame m g, frame_slotsAbRefIdeal, frame_slotsAbRef,
    fun m g _ => Cert.SlotsC.Gen.frame m g, fun m g _ => Cert.SlotsCIdeal.Gen.frame m g, frame_slotsCRefIdeal, frame_slotsCRef,
    fun m g _ => Cert.SlotsUp.Gen.frame m g, fun m g _ => Cert.SlotsUpIdeal.Gen.frame m g, frame_slotsUpRefIdeal, frame_slotsUpRef,
    fun m g _ => Cert.DecaySum.Gen.frame m g, fun m g _ => Cert.DecaySumIdeal.Gen.frame m g, frame_decaySumRefIdeal,
    trivial, bitexact_gather, algebraic_gather,
    trivial, bitexact_sibling, algebraic_sibling,
    trivial, bitexact_chips, algebraic_chips,
    trivial, Exchange.AdamwAb.values,
    trivial, Exchange.AdamwC.values,
    trivial, Exchange.AdamwUp.values,
    trivial, Exchange.AdamwRows.values,
    trivial, Exchange.AdamwSmall.values,
    trivial, Exchange.AdamwRep.values,
    trivial, Exchange.LossHead.values,
    trivial, Exchange.NormEnd.values,
    trivial, bitexact_sumAb, algebraic_sumAb,
    trivial, bitexact_sumC, algebraic_sumC,
    trivial, bitexact_sumUp, algebraic_sumUp,
    trivial, bitexact_sumRows, algebraic_sumRows,
    trivial, bitexact_sumSmall, algebraic_sumSmall,
    trivial, bitexact_sumRep, algebraic_sumRep,
    trivial, Exchange.NormStart.values,
    trivial, Exchange.NormJoin.values,
    trivial, algebraic_end,
    trivial, Exchange.NormLast.values,
    trivial, Exchange.NormLastBwd.values,
    trivial, algebraic_endBwd,
    trivial, Exchange.NormJoinBwd.values,
    trivial, Exchange.Products.InAb.values,
    trivial, Exchange.ProductsDx.InAbDx.values,
    trivial, Exchange.ProductsDw.InAbDw.values,
    trivial, Exchange.Products.OutAb.values,
    trivial, Exchange.ProductsDx.OutAbDx.values,
    trivial, Exchange.ProductsDw.OutAbDw.values,
    trivial, Exchange.Products.InC.values,
    trivial, Exchange.ProductsDw.InCDw.values,
    trivial, Exchange.Products.InDt.values,
    trivial, Exchange.ProductsDx.InDtDx.values,
    trivial, Exchange.ProductsDw.InDtDw.values,
    trivial, Exchange.Products.OutC.values,
    trivial, Exchange.ProductsDx.OutCDx.values,
    trivial, Exchange.ProductsDw.OutCDw.values,
    trivial, Exchange.Products.Up.values,
    trivial, Exchange.ProductsDx.UpDx.values,
    trivial, Exchange.ProductsDw.UpDw.values,
    trivial, Exchange.Products.Down.values,
    trivial, Exchange.ProductsDx.DownDx.values,
    trivial, Exchange.ProductsDw.DownDw.values,
    trivial, Exchange.ProductsDx.InCDx.values,
    trivial, bitexact_colsAb, algebraic_colsAb,
    trivial, bitexact_colsC, algebraic_colsC,
    trivial, bitexact_colsUp, algebraic_colsUp,
    trivial, bitexact_slotsAb, algebraic_slotsAb,
    trivial, bitexact_slotsC, algebraic_slotsC,
    trivial, bitexact_slotsUp, algebraic_slotsUp,
    trivial, Exchange.DecaySum.values⟩

end Cert.Proof

end
